-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_SwigluFwdKernel (m : (ℓ : Loc Cert.SwigluFwdKernel.nD Cert.SwigluFwdKernel.τ Cert.SwigluFwdKernel.sig) → Buf (Elt Bits) ℓ) : Prop :=
  True

def Pre_SwigluFwdKernelIdeal (m : (ℓ : Loc Cert.SwigluFwdKernelIdeal.nD Cert.SwigluFwdKernelIdeal.τ Cert.SwigluFwdKernelIdeal.sig) → Buf (Elt Ideal) ℓ) : Prop :=
  True

def Pre_SwigluFwdReferenceIdeal (m : (ℓ : Loc Cert.SwigluFwdReferenceIdeal.nD Cert.SwigluFwdReferenceIdeal.τ Cert.SwigluFwdReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DownGradKernel (m : (ℓ : Loc Cert.DownGradKernel.nD Cert.DownGradKernel.τ Cert.DownGradKernel.sig) → Buf (Elt Bits) ℓ) : Prop :=
  True

def Pre_DownGradKernelIdeal (m : (ℓ : Loc Cert.DownGradKernelIdeal.nD Cert.DownGradKernelIdeal.τ Cert.DownGradKernelIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_SwigluBwdKernel (m : (ℓ : Loc Cert.SwigluBwdKernel.nD Cert.SwigluBwdKernel.τ Cert.SwigluBwdKernel.sig) → Buf (Elt Bits) ℓ) : Prop :=
  True

def Pre_SwigluBwdKernelIdeal (m : (ℓ : Loc Cert.SwigluBwdKernelIdeal.nD Cert.SwigluBwdKernelIdeal.τ Cert.SwigluBwdKernelIdeal.sig) → Buf (Elt Ideal) ℓ) : Prop :=
  True

def Pre_SwigluBwdKernelIdeal_swiglu_finite [hPre_swiglu_finite : Cert.Pre_swiglu_finite.Facts] (m : (ℓ : Loc Cert.SwigluBwdKernelIdeal.nD Cert.SwigluBwdKernelIdeal.τ Cert.SwigluBwdKernelIdeal.sig) → Buf (Elt Ideal) ℓ) : Prop :=
  ∀ c : Dev Cert.SwigluBwdKernelIdeal.nD,
    (Cert.Pre_swiglu_finite.fn (F := Ideal) (m ((c.tc : Thread Cert.SwigluBwdKernelIdeal.nD Cert.SwigluBwdKernelIdeal.τ).loc Cert.SwigluBwdKernelIdeal.main_arg0)) (m ((c.tc : Thread Cert.SwigluBwdKernelIdeal.nD Cert.SwigluBwdKernelIdeal.τ).loc Cert.SwigluBwdKernelIdeal.main_arg1)) (m ((c.tc : Thread Cert.SwigluBwdKernelIdeal.nD Cert.SwigluBwdKernelIdeal.τ).loc Cert.SwigluBwdKernelIdeal.main_arg2)) (m ((c.tc : Thread Cert.SwigluBwdKernelIdeal.nD Cert.SwigluBwdKernelIdeal.τ).loc Cert.SwigluBwdKernelIdeal.main_arg3))) = (fun _ => 1#1)

def Pre_SwigluBwdReferenceIdeal (m : (ℓ : Loc Cert.SwigluBwdReferenceIdeal.nD Cert.SwigluBwdReferenceIdeal.τ Cert.SwigluBwdReferenceIdeal.sig) → Buf (Elt Ideal) ℓ) : Prop :=
  True

def Pre_SwigluBwdReferenceIdeal_swiglu_finite [hPre_swiglu_finite : Cert.Pre_swiglu_finite.Facts] (m : (ℓ : Loc Cert.SwigluBwdReferenceIdeal.nD Cert.SwigluBwdReferenceIdeal.τ Cert.SwigluBwdReferenceIdeal.sig) → Buf (Elt Ideal) ℓ) : Prop :=
  ∀ c : Dev Cert.SwigluBwdReferenceIdeal.nD,
    (Cert.Pre_swiglu_finite.fn (F := Ideal) (m ((c.tc : Thread Cert.SwigluBwdReferenceIdeal.nD Cert.SwigluBwdReferenceIdeal.τ).loc Cert.SwigluBwdReferenceIdeal.main_arg0)) (m ((c.tc : Thread Cert.SwigluBwdReferenceIdeal.nD Cert.SwigluBwdReferenceIdeal.τ).loc Cert.SwigluBwdReferenceIdeal.main_arg1)) (m ((c.tc : Thread Cert.SwigluBwdReferenceIdeal.nD Cert.SwigluBwdReferenceIdeal.τ).loc Cert.SwigluBwdReferenceIdeal.main_arg2)) (m ((c.tc : Thread Cert.SwigluBwdReferenceIdeal.nD Cert.SwigluBwdReferenceIdeal.τ).loc Cert.SwigluBwdReferenceIdeal.main_arg3))) = (fun _ => 1#1)

def Pre_GateGradKernel (m : (ℓ : Loc Cert.GateGradKernel.nD Cert.GateGradKernel.τ Cert.GateGradKernel.sig) → Buf (Elt Bits) ℓ) : Prop :=
  True

def Pre_GateGradKernelIdeal (m : (ℓ : Loc Cert.GateGradKernelIdeal.nD Cert.GateGradKernelIdeal.τ Cert.GateGradKernelIdeal.sig) → Buf (Elt Ideal) ℓ) : Prop :=
  True

def Pre_GateGradReferenceIdeal (m : (ℓ : Loc Cert.GateGradReferenceIdeal.nD Cert.GateGradReferenceIdeal.τ Cert.GateGradReferenceIdeal.sig) → Buf (Elt Ideal) ℓ) : Prop :=
  True

def Pre_Norm2GradKernel (m : (ℓ : Loc Cert.Norm2GradKernel.nD Cert.Norm2GradKernel.τ Cert.Norm2GradKernel.sig) → Buf (Elt Bits) ℓ) : Prop :=
  True

def Pre_Norm2GradKernelIdeal (m : (ℓ : Loc Cert.Norm2GradKernelIdeal.nD Cert.Norm2GradKernelIdeal.τ Cert.Norm2GradKernelIdeal.sig) → Buf (Elt Ideal) ℓ) : Prop :=
  True

def Pre_Norm2GradReferenceIdeal (m : (ℓ : Loc Cert.Norm2GradReferenceIdeal.nD Cert.Norm2GradReferenceIdeal.τ Cert.Norm2GradReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_InGradKernel (m : (ℓ : Loc Cert.InGradKernel.nD Cert.InGradKernel.τ Cert.InGradKernel.sig) → Buf (Elt Bits) ℓ) : Prop :=
  True

def Pre_InGradKernelIdeal (m : (ℓ : Loc Cert.InGradKernelIdeal.nD Cert.InGradKernelIdeal.τ Cert.InGradKernelIdeal.sig) → Buf (Elt Ideal) ℓ) : Prop :=
  True

def Pre_InGradReferenceIdeal (m : (ℓ : Loc Cert.InGradReferenceIdeal.nD Cert.InGradReferenceIdeal.τ Cert.InGradReferenceIdeal.sig) → Buf (Elt Ideal) ℓ) : Prop :=
  True

def Pre_Norm1GradKernel (m : (ℓ : Loc Cert.Norm1GradKernel.nD Cert.Norm1GradKernel.τ Cert.Norm1GradKernel.sig) → Buf (Elt Bits) ℓ) : Prop :=
  True

def Pre_Norm1GradKernelIdeal (m : (ℓ : Loc Cert.Norm1GradKernelIdeal.nD Cert.Norm1GradKernelIdeal.τ Cert.Norm1GradKernelIdeal.sig) → Buf (Elt Ideal) ℓ) : Prop :=
  True

def Pre_Norm1GradReferenceIdeal (m : (ℓ : Loc Cert.Norm1GradReferenceIdeal.nD Cert.Norm1GradReferenceIdeal.τ Cert.Norm1GradReferenceIdeal.sig) → Buf (Elt Ideal) ℓ) : Prop :=
  True

def Pre_AdamMlpKernel (m : (ℓ : Loc Cert.AdamMlpKernel.nD Cert.AdamMlpKernel.τ Cert.AdamMlpKernel.sig) → Buf (Elt Bits) ℓ) : Prop :=
  True

def Pre_AdamMlpKernelIdeal (m : (ℓ : Loc Cert.AdamMlpKernelIdeal.nD Cert.AdamMlpKernelIdeal.τ Cert.AdamMlpKernelIdeal.sig) → Buf (Elt Ideal) ℓ) : Prop :=
  True

def Pre_AdamMlpReferenceIdeal (m : (ℓ : Loc Cert.AdamMlpReferenceIdeal.nD Cert.AdamMlpReferenceIdeal.τ Cert.AdamMlpReferenceIdeal.sig) → Buf (Elt Ideal) ℓ) : Prop :=
  True

def Pre_AdamOutKernel (m : (ℓ : Loc Cert.AdamOutKernel.nD Cert.AdamOutKernel.τ Cert.AdamOutKernel.sig) → Buf (Elt Bits) ℓ) : Prop :=
  True

def Pre_AdamOutKernelIdeal (m : (ℓ : Loc Cert.AdamOutKernelIdeal.nD Cert.AdamOutKernelIdeal.τ Cert.AdamOutKernelIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamInKernel (m : (ℓ : Loc Cert.AdamInKernel.nD Cert.AdamInKernel.τ Cert.AdamInKernel.sig) → Buf (Elt Bits) ℓ) : Prop :=
  True

def Pre_AdamInKernelIdeal (m : (ℓ : Loc Cert.AdamInKernelIdeal.nD Cert.AdamInKernelIdeal.τ Cert.AdamInKernelIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamPleKernel (m : (ℓ : Loc Cert.AdamPleKernel.nD Cert.AdamPleKernel.τ Cert.AdamPleKernel.sig) → Buf (Elt Bits) ℓ) : Prop :=
  True

def Pre_AdamPleKernelIdeal (m : (ℓ : Loc Cert.AdamPleKernelIdeal.nD Cert.AdamPleKernelIdeal.τ Cert.AdamPleKernelIdeal.sig) → Buf (Elt Ideal) ℓ) : Prop :=
  True

def Pre_AdamPleReferenceIdeal (m : (ℓ : Loc Cert.AdamPleReferenceIdeal.nD Cert.AdamPleReferenceIdeal.τ Cert.AdamPleReferenceIdeal.sig) → Buf (Elt Ideal) ℓ) : Prop :=
  True

def Pre_AdamConvKernel (m : (ℓ : Loc Cert.AdamConvKernel.nD Cert.AdamConvKernel.τ Cert.AdamConvKernel.sig) → Buf (Elt Bits) ℓ) : Prop :=
  True

def Pre_AdamConvKernelIdeal (m : (ℓ : Loc Cert.AdamConvKernelIdeal.nD Cert.AdamConvKernelIdeal.τ Cert.AdamConvKernelIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamSconvKernel (m : (ℓ : Loc Cert.AdamSconvKernel.nD Cert.AdamSconvKernel.τ Cert.AdamSconvKernel.sig) → Buf (Elt Bits) ℓ) : Prop :=
  True

def Pre_AdamSconvKernelIdeal (m : (ℓ : Loc Cert.AdamSconvKernelIdeal.nD Cert.AdamSconvKernelIdeal.τ Cert.AdamSconvKernelIdeal.sig) → Buf (Elt Ideal) ℓ) : Prop :=
  True

def Pre_AdamSconvReferenceIdeal (m : (ℓ : Loc Cert.AdamSconvReferenceIdeal.nD Cert.AdamSconvReferenceIdeal.τ Cert.AdamSconvReferenceIdeal.sig) → Buf (Elt Ideal) ℓ) : Prop :=
  True

def Pre_AdamSmallKernel (m : (ℓ : Loc Cert.AdamSmallKernel.nD Cert.AdamSmallKernel.τ Cert.AdamSmallKernel.sig) → Buf (Elt Bits) ℓ) : Prop :=
  True

def Pre_AdamSmallKernelIdeal (m : (ℓ : Loc Cert.AdamSmallKernelIdeal.nD Cert.AdamSmallKernelIdeal.τ Cert.AdamSmallKernelIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutGradKernel (m : (ℓ : Loc Cert.OutGradKernel.nD Cert.OutGradKernel.τ Cert.OutGradKernel.sig) → Buf (Elt Bits) ℓ) : Prop :=
  True

def Pre_OutGradKernelIdeal (m : (ℓ : Loc Cert.OutGradKernelIdeal.nD Cert.OutGradKernelIdeal.τ Cert.OutGradKernelIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_MixedGradKernel (m : (ℓ : Loc Cert.MixedGradKernel.nD Cert.MixedGradKernel.τ Cert.MixedGradKernel.sig) → Buf (Elt Bits) ℓ) : Prop :=
  True

def Pre_MixedGradKernelIdeal (m : (ℓ : Loc Cert.MixedGradKernelIdeal.nD Cert.MixedGradKernelIdeal.τ Cert.MixedGradKernelIdeal.sig) → Buf (Elt Ideal) ℓ) : Prop :=
  True

def Pre_MixedGradReferenceIdeal (m : (ℓ : Loc Cert.MixedGradReferenceIdeal.nD Cert.MixedGradReferenceIdeal.τ Cert.MixedGradReferenceIdeal.sig) → Buf (Elt Ideal) ℓ) : Prop :=
  True

def Pre_PleBwdKernel (m : (ℓ : Loc Cert.PleBwdKernel.nD Cert.PleBwdKernel.τ Cert.PleBwdKernel.sig) → Buf (Elt Bits) ℓ) : Prop :=
  True

def Pre_PleBwdKernelIdeal (m : (ℓ : Loc Cert.PleBwdKernelIdeal.nD Cert.PleBwdKernelIdeal.τ Cert.PleBwdKernelIdeal.sig) → Buf (Elt Ideal) ℓ) : Prop :=
  True

def Pre_PleBwdReferenceIdeal (m : (ℓ : Loc Cert.PleBwdReferenceIdeal.nD Cert.PleBwdReferenceIdeal.τ Cert.PleBwdReferenceIdeal.sig) → Buf (Elt Ideal) ℓ) : Prop :=
  True

def Pre_PleGateGradKernel (m : (ℓ : Loc Cert.PleGateGradKernel.nD Cert.PleGateGradKernel.τ Cert.PleGateGradKernel.sig) → Buf (Elt Bits) ℓ) : Prop :=
  True

def Pre_PleGateGradKernelIdeal (m : (ℓ : Loc Cert.PleGateGradKernelIdeal.nD Cert.PleGateGradKernelIdeal.τ Cert.PleGateGradKernelIdeal.sig) → Buf (Elt Ideal) ℓ) : Prop :=
  True

def Pre_PleGateGradReferenceIdeal (m : (ℓ : Loc Cert.PleGateGradReferenceIdeal.nD Cert.PleGateGradReferenceIdeal.τ Cert.PleGateGradReferenceIdeal.sig) → Buf (Elt Ideal) ℓ) : Prop :=
  True

def Pre_PleXGradKernel (m : (ℓ : Loc Cert.PleXGradKernel.nD Cert.PleXGradKernel.τ Cert.PleXGradKernel.sig) → Buf (Elt Bits) ℓ) : Prop :=
  True

def Pre_PleXGradKernelIdeal (m : (ℓ : Loc Cert.PleXGradKernelIdeal.nD Cert.PleXGradKernelIdeal.τ Cert.PleXGradKernelIdeal.sig) → Buf (Elt Ideal) ℓ) : Prop :=
  True

def Pre_PleXGradReferenceIdeal (m : (ℓ : Loc Cert.PleXGradReferenceIdeal.nD Cert.PleXGradReferenceIdeal.τ Cert.PleXGradReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_SwigluFwdKernel [hSwigluFwdKernel : Cert.SwigluFwdKernel.Facts] : Prop :=
  ∀ (m : (ℓ : Loc Cert.SwigluFwdKernel.nD Cert.SwigluFwdKernel.τ Cert.SwigluFwdKernel.sig) → Buf (Elt Bits) ℓ) (g : Dev Cert.SwigluFwdKernel.nD → PrngReg), Pre_SwigluFwdKernel m →
    θ_run (Cert.SwigluFwdKernel.defs (F := Bits)) (onTc (τ := Cert.SwigluFwdKernel.τ) (Cert.SwigluFwdKernel.main (F := Bits))) ⟨m, fun _ => 0, g⟩ (fun r => (∀ c : Dev Cert.SwigluFwdKernel.nD,
      r.2.mem ((c.tc : Thread Cert.SwigluFwdKernel.nD Cert.SwigluFwdKernel.τ).loc Cert.SwigluFwdKernel.main_arg0) = m ((c.tc : Thread Cert.SwigluFwdKernel.nD Cert.SwigluFwdKernel.τ).loc Cert.SwigluFwdKernel.main_arg0)
      ∧ r.2.mem ((c.tc : Thread Cert.SwigluFwdKernel.nD Cert.SwigluFwdKernel.τ).loc Cert.SwigluFwdKernel.main_arg1) = m ((c.tc : Thread Cert.SwigluFwdKernel.nD Cert.SwigluFwdKernel.τ).loc Cert.SwigluFwdKernel.main_arg1)
      ∧ r.2.mem ((c.tc : Thread Cert.SwigluFwdKernel.nD Cert.SwigluFwdKernel.τ).loc Cert.SwigluFwdKernel.main_arg2) = m ((c.tc : Thread Cert.SwigluFwdKernel.nD Cert.SwigluFwdKernel.τ).loc Cert.SwigluFwdKernel.main_arg2)
      ∧ r.2.mem ((c.tc : Thread Cert.SwigluFwdKernel.nD Cert.SwigluFwdKernel.τ).loc Cert.SwigluFwdKernel.main_arg3) = m ((c.tc : Thread Cert.SwigluFwdKernel.nD Cert.SwigluFwdKernel.τ).loc Cert.SwigluFwdKernel.main_arg3))
      ∧ r.2.sem = fun _ => 0)

def quiescent_SwigluFwdKernelIdeal [hSwigluFwdKernelIdeal : Cert.SwigluFwdKernelIdeal.Facts] : Prop :=
  ∀ (m : (ℓ : Loc Cert.SwigluFwdKernelIdeal.nD Cert.SwigluFwdKernelIdeal.τ Cert.SwigluFwdKernelIdeal.sig) → Buf (Elt Ideal) ℓ) (g : Dev Cert.SwigluFwdKernelIdeal.nD → PrngReg), Pre_SwigluFwdKernelIdeal m →
    θ_run (Cert.SwigluFwdKernelIdeal.defs (F := Ideal)) (onTc (τ := Cert.SwigluFwdKernelIdeal.τ) (Cert.SwigluFwdKernelIdeal.main (F := Ideal))) ⟨m, fun _ => 0, g⟩ (fun r => (∀ c : Dev Cert.SwigluFwdKernelIdeal.nD,
      r.2.mem ((c.tc : Thread Cert.SwigluFwdKernelIdeal.nD Cert.SwigluFwdKernelIdeal.τ).loc Cert.SwigluFwdKernelIdeal.main_arg0) = m ((c.tc : Thread Cert.SwigluFwdKernelIdeal.nD Cert.SwigluFwdKernelIdeal.τ).loc Cert.SwigluFwdKernelIdeal.main_arg0)
      ∧ r.2.mem ((c.tc : Thread Cert.SwigluFwdKernelIdeal.nD Cert.SwigluFwdKernelIdeal.τ).loc Cert.SwigluFwdKernelIdeal.main_arg1) = m ((c.tc : Thread Cert.SwigluFwdKernelIdeal.nD Cert.SwigluFwdKernelIdeal.τ).loc Cert.SwigluFwdKernelIdeal.main_arg1)
      ∧ r.2.mem ((c.tc : Thread Cert.SwigluFwdKernelIdeal.nD Cert.SwigluFwdKernelIdeal.τ).loc Cert.SwigluFwdKernelIdeal.main_arg2) = m ((c.tc : Thread Cert.SwigluFwdKernelIdeal.nD Cert.SwigluFwdKernelIdeal.τ).loc Cert.SwigluFwdKernelIdeal.main_arg2)
      ∧ r.2.mem ((c.tc : Thread Cert.SwigluFwdKernelIdeal.nD Cert.SwigluFwdKernelIdeal.τ).loc Cert.SwigluFwdKernelIdeal.main_arg3) = m ((c.tc : Thread Cert.SwigluFwdKernelIdeal.nD Cert.SwigluFwdKernelIdeal.τ).loc Cert.SwigluFwdKernelIdeal.main_arg3))
      ∧ r.2.sem = fun _ => 0)

def quiescent_SwigluFwdReferenceIdeal [hSwigluFwdReferenceIdeal : Cert.SwigluFwdReferenceIdeal.Facts] : Prop :=
  ∀ (m : (ℓ : Loc Cert.SwigluFwdReferenceIdeal.nD Cert.SwigluFwdReferenceIdeal.τ Cert.SwigluFwdReferenceIdeal.sig) → Buf (Elt Ideal) ℓ) (g : Dev Cert.SwigluFwdReferenceIdeal.nD → PrngReg), Pre_SwigluFwdReferenceIdeal m →
    θ_run (Cert.SwigluFwdReferenceIdeal.defs (F := Ideal)) (onTc (τ := Cert.SwigluFwdReferenceIdeal.τ) (Cert.SwigluFwdReferenceIdeal.main (F := Ideal))) ⟨m, fun _ => 0, g⟩ (fun r => (∀ c : Dev Cert.SwigluFwdReferenceIdeal.nD,
      r.2.mem ((c.tc : Thread Cert.SwigluFwdReferenceIdeal.nD Cert.SwigluFwdReferenceIdeal.τ).loc Cert.SwigluFwdReferenceIdeal.main_arg0) = m ((c.tc : Thread Cert.SwigluFwdReferenceIdeal.nD Cert.SwigluFwdReferenceIdeal.τ).loc Cert.SwigluFwdReferenceIdeal.main_arg0)
      ∧ r.2.mem ((c.tc : Thread Cert.SwigluFwdReferenceIdeal.nD Cert.SwigluFwdReferenceIdeal.τ).loc Cert.SwigluFwdReferenceIdeal.main_arg1) = m ((c.tc : Thread Cert.SwigluFwdReferenceIdeal.nD Cert.SwigluFwdReferenceIdeal.τ).loc Cert.SwigluFwdReferenceIdeal.main_arg1)
      ∧ r.2.mem ((c.tc : Thread Cert.SwigluFwdReferenceIdeal.nD Cert.SwigluFwdReferenceIdeal.τ).loc Cert.SwigluFwdReferenceIdeal.main_arg2) = m ((c.tc : Thread Cert.SwigluFwdReferenceIdeal.nD Cert.SwigluFwdReferenceIdeal.τ).loc Cert.SwigluFwdReferenceIdeal.main_arg2)
      ∧ r.2.mem ((c.tc : Thread Cert.SwigluFwdReferenceIdeal.nD Cert.SwigluFwdReferenceIdeal.τ).loc Cert.SwigluFwdReferenceIdeal.main_arg3) = m ((c.tc : Thread Cert.SwigluFwdReferenceIdeal.nD Cert.SwigluFwdReferenceIdeal.τ).loc Cert.SwigluFwdReferenceIdeal.main_arg3))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_DownGradKernel [hDownGradKernel : Cert.DownGradKernel.Facts] : Prop :=
  ∀ (m : (ℓ : Loc Cert.DownGradKernel.nD Cert.DownGradKernel.τ Cert.DownGradKernel.sig) → Buf (Elt Bits) ℓ) (g : Dev Cert.DownGradKernel.nD → PrngReg), Pre_DownGradKernel m →
    θ_run (Cert.DownGradKernel.defs (F := Bits)) (onTc (τ := Cert.DownGradKernel.τ) (Cert.DownGradKernel.main (F := Bits))) ⟨m, fun _ => 0, g⟩ (fun r => (∀ c : Dev Cert.DownGradKernel.nD,
      r.2.mem ((c.tc : Thread Cert.DownGradKernel.nD Cert.DownGradKernel.τ).loc Cert.DownGradKernel.main_arg0) = m ((c.tc : Thread Cert.DownGradKernel.nD Cert.DownGradKernel.τ).loc Cert.DownGradKernel.main_arg0)
      ∧ r.2.mem ((c.tc : Thread Cert.DownGradKernel.nD Cert.DownGradKernel.τ).loc Cert.DownGradKernel.main_arg1) = m ((c.tc : Thread Cert.DownGradKernel.nD Cert.DownGradKernel.τ).loc Cert.DownGradKernel.main_arg1))
      ∧ r.2.sem = fun _ => 0)

def quiescent_DownGradKernelIdeal [hDownGradKernelIdeal : Cert.DownGradKernelIdeal.Facts] : Prop :=
  ∀ (m : (ℓ : Loc Cert.DownGradKernelIdeal.nD Cert.DownGradKernelIdeal.τ Cert.DownGradKernelIdeal.sig) → Buf (Elt Ideal) ℓ) (g : Dev Cert.DownGradKernelIdeal.nD → PrngReg), Pre_DownGradKernelIdeal m →
    θ_run (Cert.DownGradKernelIdeal.defs (F := Ideal)) (onTc (τ := Cert.DownGradKernelIdeal.τ) (Cert.DownGradKernelIdeal.main (F := Ideal))) ⟨m, fun _ => 0, g⟩ (fun r => (∀ c : Dev Cert.DownGradKernelIdeal.nD,
      r.2.mem ((c.tc : Thread Cert.DownGradKernelIdeal.nD Cert.DownGradKernelIdeal.τ).loc Cert.DownGradKernelIdeal.main_arg0) = m ((c.tc : Thread Cert.DownGradKernelIdeal.nD Cert.DownGradKernelIdeal.τ).loc Cert.DownGradKernelIdeal.main_arg0)
      ∧ r.2.mem ((c.tc : Thread Cert.DownGradKernelIdeal.nD Cert.DownGradKernelIdeal.τ).loc Cert.DownGradKernelIdeal.main_arg1) = m ((c.tc : Thread Cert.DownGradKernelIdeal.nD Cert.DownGradKernelIdeal.τ).loc Cert.DownGradKernelIdeal.main_arg1))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1))
      ∧ r.2.sem = fun _ => 0)

def quiescent_SwigluBwdKernel [hSwigluBwdKernel : Cert.SwigluBwdKernel.Facts] : Prop :=
  ∀ (m : (ℓ : Loc Cert.SwigluBwdKernel.nD Cert.SwigluBwdKernel.τ Cert.SwigluBwdKernel.sig) → Buf (Elt Bits) ℓ) (g : Dev Cert.SwigluBwdKernel.nD → PrngReg), Pre_SwigluBwdKernel m →
    θ_run (Cert.SwigluBwdKernel.defs (F := Bits)) (onTc (τ := Cert.SwigluBwdKernel.τ) (Cert.SwigluBwdKernel.main (F := Bits))) ⟨m, fun _ => 0, g⟩ (fun r => (∀ c : Dev Cert.SwigluBwdKernel.nD,
      r.2.mem ((c.tc : Thread Cert.SwigluBwdKernel.nD Cert.SwigluBwdKernel.τ).loc Cert.SwigluBwdKernel.main_arg0) = m ((c.tc : Thread Cert.SwigluBwdKernel.nD Cert.SwigluBwdKernel.τ).loc Cert.SwigluBwdKernel.main_arg0)
      ∧ r.2.mem ((c.tc : Thread Cert.SwigluBwdKernel.nD Cert.SwigluBwdKernel.τ).loc Cert.SwigluBwdKernel.main_arg1) = m ((c.tc : Thread Cert.SwigluBwdKernel.nD Cert.SwigluBwdKernel.τ).loc Cert.SwigluBwdKernel.main_arg1)
      ∧ r.2.mem ((c.tc : Thread Cert.SwigluBwdKernel.nD Cert.SwigluBwdKernel.τ).loc Cert.SwigluBwdKernel.main_arg2) = m ((c.tc : Thread Cert.SwigluBwdKernel.nD Cert.SwigluBwdKernel.τ).loc Cert.SwigluBwdKernel.main_arg2)
      ∧ r.2.mem ((c.tc : Thread Cert.SwigluBwdKernel.nD Cert.SwigluBwdKernel.τ).loc Cert.SwigluBwdKernel.main_arg3) = m ((c.tc : Thread Cert.SwigluBwdKernel.nD Cert.SwigluBwdKernel.τ).loc Cert.SwigluBwdKernel.main_arg3))
      ∧ r.2.sem = fun _ => 0)

def quiescent_SwigluBwdKernelIdeal [hSwigluBwdKernelIdeal : Cert.SwigluBwdKernelIdeal.Facts] : Prop :=
  ∀ (m : (ℓ : Loc Cert.SwigluBwdKernelIdeal.nD Cert.SwigluBwdKernelIdeal.τ Cert.SwigluBwdKernelIdeal.sig) → Buf (Elt Ideal) ℓ) (g : Dev Cert.SwigluBwdKernelIdeal.nD → PrngReg), Pre_SwigluBwdKernelIdeal m →
    θ_run (Cert.SwigluBwdKernelIdeal.defs (F := Ideal)) (onTc (τ := Cert.SwigluBwdKernelIdeal.τ) (Cert.SwigluBwdKernelIdeal.main (F := Ideal))) ⟨m, fun _ => 0, g⟩ (fun r => (∀ c : Dev Cert.SwigluBwdKernelIdeal.nD,
      r.2.mem ((c.tc : Thread Cert.SwigluBwdKernelIdeal.nD Cert.SwigluBwdKernelIdeal.τ).loc Cert.SwigluBwdKernelIdeal.main_arg0) = m ((c.tc : Thread Cert.SwigluBwdKernelIdeal.nD Cert.SwigluBwdKernelIdeal.τ).loc Cert.SwigluBwdKernelIdeal.main_arg0)
      ∧ r.2.mem ((c.tc : Thread Cert.SwigluBwdKernelIdeal.nD Cert.SwigluBwdKernelIdeal.τ).loc Cert.SwigluBwdKernelIdeal.main_arg1) = m ((c.tc : Thread Cert.SwigluBwdKernelIdeal.nD Cert.SwigluBwdKernelIdeal.τ).loc Cert.SwigluBwdKernelIdeal.main_arg1)
      ∧ r.2.mem ((c.tc : Thread Cert.SwigluBwdKernelIdeal.nD Cert.SwigluBwdKernelIdeal.τ).loc Cert.SwigluBwdKernelIdeal.main_arg2) = m ((c.tc : Thread Cert.SwigluBwdKernelIdeal.nD Cert.SwigluBwdKernelIdeal.τ).loc Cert.SwigluBwdKernelIdeal.main_arg2)
      ∧ r.2.mem ((c.tc : Thread Cert.SwigluBwdKernelIdeal.nD Cert.SwigluBwdKernelIdeal.τ).loc Cert.SwigluBwdKernelIdeal.main_arg3) = m ((c.tc : Thread Cert.SwigluBwdKernelIdeal.nD Cert.SwigluBwdKernelIdeal.τ).loc Cert.SwigluBwdKernelIdeal.main_arg3))
      ∧ r.2.sem = fun _ => 0)

def quiescent_SwigluBwdKernelIdeal_pre_swiglu_finite [hSwigluBwdKernelIdeal : Cert.SwigluBwdKernelIdeal.Facts] [hPre_swiglu_finite : Cert.Pre_swiglu_finite.Facts] : Prop :=
  ∀ (m : (ℓ : Loc Cert.SwigluBwdKernelIdeal.nD Cert.SwigluBwdKernelIdeal.τ Cert.SwigluBwdKernelIdeal.sig) → Buf (Elt Ideal) ℓ) (g : Dev Cert.SwigluBwdKernelIdeal.nD → PrngReg), Pre_SwigluBwdKernelIdeal_swiglu_finite m →
    θ_run (Cert.SwigluBwdKernelIdeal.defs (F := Ideal)) (onTc (τ := Cert.SwigluBwdKernelIdeal.τ) (Cert.SwigluBwdKernelIdeal.main (F := Ideal))) ⟨m, fun _ => 0, g⟩ (fun r => (∀ c : Dev Cert.SwigluBwdKernelIdeal.nD,
      r.2.mem ((c.tc : Thread Cert.SwigluBwdKernelIdeal.nD Cert.SwigluBwdKernelIdeal.τ).loc Cert.SwigluBwdKernelIdeal.main_arg0) = m ((c.tc : Thread Cert.SwigluBwdKernelIdeal.nD Cert.SwigluBwdKernelIdeal.τ).loc Cert.SwigluBwdKernelIdeal.main_arg0)
      ∧ r.2.mem ((c.tc : Thread Cert.SwigluBwdKernelIdeal.nD Cert.SwigluBwdKernelIdeal.τ).loc Cert.SwigluBwdKernelIdeal.main_arg1) = m ((c.tc : Thread Cert.SwigluBwdKernelIdeal.nD Cert.SwigluBwdKernelIdeal.τ).loc Cert.SwigluBwdKernelIdeal.main_arg1)
      ∧ r.2.mem ((c.tc : Thread Cert.SwigluBwdKernelIdeal.nD Cert.SwigluBwdKernelIdeal.τ).loc Cert.SwigluBwdKernelIdeal.main_arg2) = m ((c.tc : Thread Cert.SwigluBwdKernelIdeal.nD Cert.SwigluBwdKernelIdeal.τ).loc Cert.SwigluBwdKernelIdeal.main_arg2)
      ∧ r.2.mem ((c.tc : Thread Cert.SwigluBwdKernelIdeal.nD Cert.SwigluBwdKernelIdeal.τ).loc Cert.SwigluBwdKernelIdeal.main_arg3) = m ((c.tc : Thread Cert.SwigluBwdKernelIdeal.nD Cert.SwigluBwdKernelIdeal.τ).loc Cert.SwigluBwdKernelIdeal.main_arg3))
      ∧ r.2.sem = fun _ => 0)

def quiescent_SwigluBwdReferenceIdeal [hSwigluBwdReferenceIdeal : Cert.SwigluBwdReferenceIdeal.Facts] : Prop :=
  ∀ (m : (ℓ : Loc Cert.SwigluBwdReferenceIdeal.nD Cert.SwigluBwdReferenceIdeal.τ Cert.SwigluBwdReferenceIdeal.sig) → Buf (Elt Ideal) ℓ) (g : Dev Cert.SwigluBwdReferenceIdeal.nD → PrngReg), Pre_SwigluBwdReferenceIdeal m →
    θ_run (Cert.SwigluBwdReferenceIdeal.defs (F := Ideal)) (onTc (τ := Cert.SwigluBwdReferenceIdeal.τ) (Cert.SwigluBwdReferenceIdeal.main (F := Ideal))) ⟨m, fun _ => 0, g⟩ (fun r => (∀ c : Dev Cert.SwigluBwdReferenceIdeal.nD,
      r.2.mem ((c.tc : Thread Cert.SwigluBwdReferenceIdeal.nD Cert.SwigluBwdReferenceIdeal.τ).loc Cert.SwigluBwdReferenceIdeal.main_arg0) = m ((c.tc : Thread Cert.SwigluBwdReferenceIdeal.nD Cert.SwigluBwdReferenceIdeal.τ).loc Cert.SwigluBwdReferenceIdeal.main_arg0)
      ∧ r.2.mem ((c.tc : Thread Cert.SwigluBwdReferenceIdeal.nD Cert.SwigluBwdReferenceIdeal.τ).loc Cert.SwigluBwdReferenceIdeal.main_arg1) = m ((c.tc : Thread Cert.SwigluBwdReferenceIdeal.nD Cert.SwigluBwdReferenceIdeal.τ).loc Cert.SwigluBwdReferenceIdeal.main_arg1)
      ∧ r.2.mem ((c.tc : Thread Cert.SwigluBwdReferenceIdeal.nD Cert.SwigluBwdReferenceIdeal.τ).loc Cert.SwigluBwdReferenceIdeal.main_arg2) = m ((c.tc : Thread Cert.SwigluBwdReferenceIdeal.nD Cert.SwigluBwdReferenceIdeal.τ).loc Cert.SwigluBwdReferenceIdeal.main_arg2)
      ∧ r.2.mem ((c.tc : Thread Cert.SwigluBwdReferenceIdeal.nD Cert.SwigluBwdReferenceIdeal.τ).loc Cert.SwigluBwdReferenceIdeal.main_arg3) = m ((c.tc : Thread Cert.SwigluBwdReferenceIdeal.nD Cert.SwigluBwdReferenceIdeal.τ).loc Cert.SwigluBwdReferenceIdeal.main_arg3))
      ∧ r.2.sem = fun _ => 0)

def quiescent_SwigluBwdReferenceIdeal_pre_swiglu_finite [hSwigluBwdReferenceIdeal : Cert.SwigluBwdReferenceIdeal.Facts] [hPre_swiglu_finite : Cert.Pre_swiglu_finite.Facts] : Prop :=
  ∀ (m : (ℓ : Loc Cert.SwigluBwdReferenceIdeal.nD Cert.SwigluBwdReferenceIdeal.τ Cert.SwigluBwdReferenceIdeal.sig) → Buf (Elt Ideal) ℓ) (g : Dev Cert.SwigluBwdReferenceIdeal.nD → PrngReg), Pre_SwigluBwdReferenceIdeal_swiglu_finite m →
    θ_run (Cert.SwigluBwdReferenceIdeal.defs (F := Ideal)) (onTc (τ := Cert.SwigluBwdReferenceIdeal.τ) (Cert.SwigluBwdReferenceIdeal.main (F := Ideal))) ⟨m, fun _ => 0, g⟩ (fun r => (∀ c : Dev Cert.SwigluBwdReferenceIdeal.nD,
      r.2.mem ((c.tc : Thread Cert.SwigluBwdReferenceIdeal.nD Cert.SwigluBwdReferenceIdeal.τ).loc Cert.SwigluBwdReferenceIdeal.main_arg0) = m ((c.tc : Thread Cert.SwigluBwdReferenceIdeal.nD Cert.SwigluBwdReferenceIdeal.τ).loc Cert.SwigluBwdReferenceIdeal.main_arg0)
      ∧ r.2.mem ((c.tc : Thread Cert.SwigluBwdReferenceIdeal.nD Cert.SwigluBwdReferenceIdeal.τ).loc Cert.SwigluBwdReferenceIdeal.main_arg1) = m ((c.tc : Thread Cert.SwigluBwdReferenceIdeal.nD Cert.SwigluBwdReferenceIdeal.τ).loc Cert.SwigluBwdReferenceIdeal.main_arg1)
      ∧ r.2.mem ((c.tc : Thread Cert.SwigluBwdReferenceIdeal.nD Cert.SwigluBwdReferenceIdeal.τ).loc Cert.SwigluBwdReferenceIdeal.main_arg2) = m ((c.tc : Thread Cert.SwigluBwdReferenceIdeal.nD Cert.SwigluBwdReferenceIdeal.τ).loc Cert.SwigluBwdReferenceIdeal.main_arg2)
      ∧ r.2.mem ((c.tc : Thread Cert.SwigluBwdReferenceIdeal.nD Cert.SwigluBwdReferenceIdeal.τ).loc Cert.SwigluBwdReferenceIdeal.main_arg3) = m ((c.tc : Thread Cert.SwigluBwdReferenceIdeal.nD Cert.SwigluBwdReferenceIdeal.τ).loc Cert.SwigluBwdReferenceIdeal.main_arg3))
      ∧ r.2.sem = fun _ => 0)

def quiescent_GateGradKernel [hGateGradKernel : Cert.GateGradKernel.Facts] : Prop :=
  ∀ (m : (ℓ : Loc Cert.GateGradKernel.nD Cert.GateGradKernel.τ Cert.GateGradKernel.sig) → Buf (Elt Bits) ℓ) (g : Dev Cert.GateGradKernel.nD → PrngReg), Pre_GateGradKernel m →
    θ_run (Cert.GateGradKernel.defs (F := Bits)) (onTc (τ := Cert.GateGradKernel.τ) (Cert.GateGradKernel.main (F := Bits))) ⟨m, fun _ => 0, g⟩ (fun r => (∀ c : Dev Cert.GateGradKernel.nD,
      r.2.mem ((c.tc : Thread Cert.GateGradKernel.nD Cert.GateGradKernel.τ).loc Cert.GateGradKernel.main_arg0) = m ((c.tc : Thread Cert.GateGradKernel.nD Cert.GateGradKernel.τ).loc Cert.GateGradKernel.main_arg0)
      ∧ r.2.mem ((c.tc : Thread Cert.GateGradKernel.nD Cert.GateGradKernel.τ).loc Cert.GateGradKernel.main_arg1) = m ((c.tc : Thread Cert.GateGradKernel.nD Cert.GateGradKernel.τ).loc Cert.GateGradKernel.main_arg1))
      ∧ r.2.sem = fun _ => 0)

def quiescent_GateGradKernelIdeal [hGateGradKernelIdeal : Cert.GateGradKernelIdeal.Facts] : Prop :=
  ∀ (m : (ℓ : Loc Cert.GateGradKernelIdeal.nD Cert.GateGradKernelIdeal.τ Cert.GateGradKernelIdeal.sig) → Buf (Elt Ideal) ℓ) (g : Dev Cert.GateGradKernelIdeal.nD → PrngReg), Pre_GateGradKernelIdeal m →
    θ_run (Cert.GateGradKernelIdeal.defs (F := Ideal)) (onTc (τ := Cert.GateGradKernelIdeal.τ) (Cert.GateGradKernelIdeal.main (F := Ideal))) ⟨m, fun _ => 0, g⟩ (fun r => (∀ c : Dev Cert.GateGradKernelIdeal.nD,
      r.2.mem ((c.tc : Thread Cert.GateGradKernelIdeal.nD Cert.GateGradKernelIdeal.τ).loc Cert.GateGradKernelIdeal.main_arg0) = m ((c.tc : Thread Cert.GateGradKernelIdeal.nD Cert.GateGradKernelIdeal.τ).loc Cert.GateGradKernelIdeal.main_arg0)
      ∧ r.2.mem ((c.tc : Thread Cert.GateGradKernelIdeal.nD Cert.GateGradKernelIdeal.τ).loc Cert.GateGradKernelIdeal.main_arg1) = m ((c.tc : Thread Cert.GateGradKernelIdeal.nD Cert.GateGradKernelIdeal.τ).loc Cert.GateGradKernelIdeal.main_arg1))
      ∧ r.2.sem = fun _ => 0)

def quiescent_GateGradReferenceIdeal [hGateGradReferenceIdeal : Cert.GateGradReferenceIdeal.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1))
      ∧ r.2.sem = fun _ => 0)

def quiescent_Norm2GradKernel [hNorm2GradKernel : Cert.Norm2GradKernel.Facts] : Prop :=
  ∀ (m : (ℓ : Loc Cert.Norm2GradKernel.nD Cert.Norm2GradKernel.τ Cert.Norm2GradKernel.sig) → Buf (Elt Bits) ℓ) (g : Dev Cert.Norm2GradKernel.nD → PrngReg), Pre_Norm2GradKernel m →
    θ_run (Cert.Norm2GradKernel.defs (F := Bits)) (onTc (τ := Cert.Norm2GradKernel.τ) (Cert.Norm2GradKernel.main (F := Bits))) ⟨m, fun _ => 0, g⟩ (fun r => (∀ c : Dev Cert.Norm2GradKernel.nD,
      r.2.mem ((c.tc : Thread Cert.Norm2GradKernel.nD Cert.Norm2GradKernel.τ).loc Cert.Norm2GradKernel.main_arg0) = m ((c.tc : Thread Cert.Norm2GradKernel.nD Cert.Norm2GradKernel.τ).loc Cert.Norm2GradKernel.main_arg0)
      ∧ r.2.mem ((c.tc : Thread Cert.Norm2GradKernel.nD Cert.Norm2GradKernel.τ).loc Cert.Norm2GradKernel.main_arg1) = m ((c.tc : Thread Cert.Norm2GradKernel.nD Cert.Norm2GradKernel.τ).loc Cert.Norm2GradKernel.main_arg1)
      ∧ r.2.mem ((c.tc : Thread Cert.Norm2GradKernel.nD Cert.Norm2GradKernel.τ).loc Cert.Norm2GradKernel.main_arg2) = m ((c.tc : Thread Cert.Norm2GradKernel.nD Cert.Norm2GradKernel.τ).loc Cert.Norm2GradKernel.main_arg2)
      ∧ r.2.mem ((c.tc : Thread Cert.Norm2GradKernel.nD Cert.Norm2GradKernel.τ).loc Cert.Norm2GradKernel.main_arg3) = m ((c.tc : Thread Cert.Norm2GradKernel.nD Cert.Norm2GradKernel.τ).loc Cert.Norm2GradKernel.main_arg3)
      ∧ r.2.mem ((c.tc : Thread Cert.Norm2GradKernel.nD Cert.Norm2GradKernel.τ).loc Cert.Norm2GradKernel.main_arg4) = m ((c.tc : Thread Cert.Norm2GradKernel.nD Cert.Norm2GradKernel.τ).loc Cert.Norm2GradKernel.main_arg4)
      ∧ r.2.mem ((c.tc : Thread Cert.Norm2GradKernel.nD Cert.Norm2GradKernel.τ).loc Cert.Norm2GradKernel.main_arg5) = m ((c.tc : Thread Cert.Norm2GradKernel.nD Cert.Norm2GradKernel.τ).loc Cert.Norm2GradKernel.main_arg5)
      ∧ r.2.mem ((c.tc : Thread Cert.Norm2GradKernel.nD Cert.Norm2GradKernel.τ).loc Cert.Norm2GradKernel.main_arg6) = m ((c.tc : Thread Cert.Norm2GradKernel.nD Cert.Norm2GradKernel.τ).loc Cert.Norm2GradKernel.main_arg6))
      ∧ r.2.sem = fun _ => 0)

def quiescent_Norm2GradKernelIdeal [hNorm2GradKernelIdeal : Cert.Norm2GradKernelIdeal.Facts] : Prop :=
  ∀ (m : (ℓ : Loc Cert.Norm2GradKernelIdeal.nD Cert.Norm2GradKernelIdeal.τ Cert.Norm2GradKernelIdeal.sig) → Buf (Elt Ideal) ℓ) (g : Dev Cert.Norm2GradKernelIdeal.nD → PrngReg), Pre_Norm2GradKernelIdeal m →
    θ_run (Cert.Norm2GradKernelIdeal.defs (F := Ideal)) (onTc (τ := Cert.Norm2GradKernelIdeal.τ) (Cert.Norm2GradKernelIdeal.main (F := Ideal))) ⟨m, fun _ => 0, g⟩ (fun r => (∀ c : Dev Cert.Norm2GradKernelIdeal.nD,
      r.2.mem ((c.tc : Thread Cert.Norm2GradKernelIdeal.nD Cert.Norm2GradKernelIdeal.τ).loc Cert.Norm2GradKernelIdeal.main_arg0) = m ((c.tc : Thread Cert.Norm2GradKernelIdeal.nD Cert.Norm2GradKernelIdeal.τ).loc Cert.Norm2GradKernelIdeal.main_arg0)
      ∧ r.2.mem ((c.tc : Thread Cert.Norm2GradKernelIdeal.nD Cert.Norm2GradKernelIdeal.τ).loc Cert.Norm2GradKernelIdeal.main_arg1) = m ((c.tc : Thread Cert.Norm2GradKernelIdeal.nD Cert.Norm2GradKernelIdeal.τ).loc Cert.Norm2GradKernelIdeal.main_arg1)
      ∧ r.2.mem ((c.tc : Thread Cert.Norm2GradKernelIdeal.nD Cert.Norm2GradKernelIdeal.τ).loc Cert.Norm2GradKernelIdeal.main_arg2) = m ((c.tc : Thread Cert.Norm2GradKernelIdeal.nD Cert.Norm2GradKernelIdeal.τ).loc Cert.Norm2GradKernelIdeal.main_arg2)
      ∧ r.2.mem ((c.tc : Thread Cert.Norm2GradKernelIdeal.nD Cert.Norm2GradKernelIdeal.τ).loc Cert.Norm2GradKernelIdeal.main_arg3) = m ((c.tc : Thread Cert.Norm2GradKernelIdeal.nD Cert.Norm2GradKernelIdeal.τ).loc Cert.Norm2GradKernelIdeal.main_arg3)
      ∧ r.2.mem ((c.tc : Thread Cert.Norm2GradKernelIdeal.nD Cert.Norm2GradKernelIdeal.τ).loc Cert.Norm2GradKernelIdeal.main_arg4) = m ((c.tc : Thread Cert.Norm2GradKernelIdeal.nD Cert.Norm2GradKernelIdeal.τ).loc Cert.Norm2GradKernelIdeal.main_arg4)
      ∧ r.2.mem ((c.tc : Thread Cert.Norm2GradKernelIdeal.nD Cert.Norm2GradKernelIdeal.τ).loc Cert.Norm2GradKernelIdeal.main_arg5) = m ((c.tc : Thread Cert.Norm2GradKernelIdeal.nD Cert.Norm2GradKernelIdeal.τ).loc Cert.Norm2GradKernelIdeal.main_arg5)
      ∧ r.2.mem ((c.tc : Thread Cert.Norm2GradKernelIdeal.nD Cert.Norm2GradKernelIdeal.τ).loc Cert.Norm2GradKernelIdeal.main_arg6) = m ((c.tc : Thread Cert.Norm2GradKernelIdeal.nD Cert.Norm2GradKernelIdeal.τ).loc Cert.Norm2GradKernelIdeal.main_arg6))
      ∧ r.2.sem = fun _ => 0)

def quiescent_Norm2GradReferenceIdeal [hNorm2GradReferenceIdeal : Cert.Norm2GradReferenceIdeal.Facts] : Prop :=
  ∀ (m : (ℓ : Loc Cert.Norm2GradReferenceIdeal.nD Cert.Norm2GradReferenceIdeal.τ Cert.Norm2GradReferenceIdeal.sig) → Buf (Elt Ideal) ℓ) (g : Dev Cert.Norm2GradReferenceIdeal.nD → PrngReg), Pre_Norm2GradReferenceIdeal m →
    θ_run (Cert.Norm2GradReferenceIdeal.defs (F := Ideal)) (onTc (τ := Cert.Norm2GradReferenceIdeal.τ) (Cert.Norm2GradReferenceIdeal.main (F := Ideal))) ⟨m, fun _ => 0, g⟩ (fun r => (∀ c : Dev Cert.Norm2GradReferenceIdeal.nD,
      r.2.mem ((c.tc : Thread Cert.Norm2GradReferenceIdeal.nD Cert.Norm2GradReferenceIdeal.τ).loc Cert.Norm2GradReferenceIdeal.main_arg0) = m ((c.tc : Thread Cert.Norm2GradReferenceIdeal.nD Cert.Norm2GradReferenceIdeal.τ).loc Cert.Norm2GradReferenceIdeal.main_arg0)
      ∧ r.2.mem ((c.tc : Thread Cert.Norm2GradReferenceIdeal.nD Cert.Norm2GradReferenceIdeal.τ).loc Cert.Norm2GradReferenceIdeal.main_arg1) = m ((c.tc : Thread Cert.Norm2GradReferenceIdeal.nD Cert.Norm2GradReferenceIdeal.τ).loc Cert.Norm2GradReferenceIdeal.main_arg1)
      ∧ r.2.mem ((c.tc : Thread Cert.Norm2GradReferenceIdeal.nD Cert.Norm2GradReferenceIdeal.τ).loc Cert.Norm2GradReferenceIdeal.main_arg2) = m ((c.tc : Thread Cert.Norm2GradReferenceIdeal.nD Cert.Norm2GradReferenceIdeal.τ).loc Cert.Norm2GradReferenceIdeal.main_arg2)
      ∧ r.2.mem ((c.tc : Thread Cert.Norm2GradReferenceIdeal.nD Cert.Norm2GradReferenceIdeal.τ).loc Cert.Norm2GradReferenceIdeal.main_arg3) = m ((c.tc : Thread Cert.Norm2GradReferenceIdeal.nD Cert.Norm2GradReferenceIdeal.τ).loc Cert.Norm2GradReferenceIdeal.main_arg3)
      ∧ r.2.mem ((c.tc : Thread Cert.Norm2GradReferenceIdeal.nD Cert.Norm2GradReferenceIdeal.τ).loc Cert.Norm2GradReferenceIdeal.main_arg4) = m ((c.tc : Thread Cert.Norm2GradReferenceIdeal.nD Cert.Norm2GradReferenceIdeal.τ).loc Cert.Norm2GradReferenceIdeal.main_arg4)
      ∧ r.2.mem ((c.tc : Thread Cert.Norm2GradReferenceIdeal.nD Cert.Norm2GradReferenceIdeal.τ).loc Cert.Norm2GradReferenceIdeal.main_arg5) = m ((c.tc : Thread Cert.Norm2GradReferenceIdeal.nD Cert.Norm2GradReferenceIdeal.τ).loc Cert.Norm2GradReferenceIdeal.main_arg5)
      ∧ r.2.mem ((c.tc : Thread Cert.Norm2GradReferenceIdeal.nD Cert.Norm2GradReferenceIdeal.τ).loc Cert.Norm2GradReferenceIdeal.main_arg6) = m ((c.tc : Thread Cert.Norm2GradReferenceIdeal.nD Cert.Norm2GradReferenceIdeal.τ).loc Cert.Norm2GradReferenceIdeal.main_arg6))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_InGradKernel [hInGradKernel : Cert.InGradKernel.Facts] : Prop :=
  ∀ (m : (ℓ : Loc Cert.InGradKernel.nD Cert.InGradKernel.τ Cert.InGradKernel.sig) → Buf (Elt Bits) ℓ) (g : Dev Cert.InGradKernel.nD → PrngReg), Pre_InGradKernel m →
    θ_run (Cert.InGradKernel.defs (F := Bits)) (onTc (τ := Cert.InGradKernel.τ) (Cert.InGradKernel.main (F := Bits))) ⟨m, fun _ => 0, g⟩ (fun r => (∀ c : Dev Cert.InGradKernel.nD,
      r.2.mem ((c.tc : Thread Cert.InGradKernel.nD Cert.InGradKernel.τ).loc Cert.InGradKernel.main_arg0) = m ((c.tc : Thread Cert.InGradKernel.nD Cert.InGradKernel.τ).loc Cert.InGradKernel.main_arg0)
      ∧ r.2.mem ((c.tc : Thread Cert.InGradKernel.nD Cert.InGradKernel.τ).loc Cert.InGradKernel.main_arg1) = m ((c.tc : Thread Cert.InGradKernel.nD Cert.InGradKernel.τ).loc Cert.InGradKernel.main_arg1))
      ∧ r.2.sem = fun _ => 0)

def quiescent_InGradKernelIdeal [hInGradKernelIdeal : Cert.InGradKernelIdeal.Facts] : Prop :=
  ∀ (m : (ℓ : Loc Cert.InGradKernelIdeal.nD Cert.InGradKernelIdeal.τ Cert.InGradKernelIdeal.sig) → Buf (Elt Ideal) ℓ) (g : Dev Cert.InGradKernelIdeal.nD → PrngReg), Pre_InGradKernelIdeal m →
    θ_run (Cert.InGradKernelIdeal.defs (F := Ideal)) (onTc (τ := Cert.InGradKernelIdeal.τ) (Cert.InGradKernelIdeal.main (F := Ideal))) ⟨m, fun _ => 0, g⟩ (fun r => (∀ c : Dev Cert.InGradKernelIdeal.nD,
      r.2.mem ((c.tc : Thread Cert.InGradKernelIdeal.nD Cert.InGradKernelIdeal.τ).loc Cert.InGradKernelIdeal.main_arg0) = m ((c.tc : Thread Cert.InGradKernelIdeal.nD Cert.InGradKernelIdeal.τ).loc Cert.InGradKernelIdeal.main_arg0)
      ∧ r.2.mem ((c.tc : Thread Cert.InGradKernelIdeal.nD Cert.InGradKernelIdeal.τ).loc Cert.InGradKernelIdeal.main_arg1) = m ((c.tc : Thread Cert.InGradKernelIdeal.nD Cert.InGradKernelIdeal.τ).loc Cert.InGradKernelIdeal.main_arg1))
      ∧ r.2.sem = fun _ => 0)

def quiescent_InGradReferenceIdeal [hInGradReferenceIdeal : Cert.InGradReferenceIdeal.Facts] : Prop :=
  ∀ (m : (ℓ : Loc Cert.InGradReferenceIdeal.nD Cert.InGradReferenceIdeal.τ Cert.InGradReferenceIdeal.sig) → Buf (Elt Ideal) ℓ) (g : Dev Cert.InGradReferenceIdeal.nD → PrngReg), Pre_InGradReferenceIdeal m →
    θ_run (Cert.InGradReferenceIdeal.defs (F := Ideal)) (onTc (τ := Cert.InGradReferenceIdeal.τ) (Cert.InGradReferenceIdeal.main (F := Ideal))) ⟨m, fun _ => 0, g⟩ (fun r => (∀ c : Dev Cert.InGradReferenceIdeal.nD,
      r.2.mem ((c.tc : Thread Cert.InGradReferenceIdeal.nD Cert.InGradReferenceIdeal.τ).loc Cert.InGradReferenceIdeal.main_arg0) = m ((c.tc : Thread Cert.InGradReferenceIdeal.nD Cert.InGradReferenceIdeal.τ).loc Cert.InGradReferenceIdeal.main_arg0)
      ∧ r.2.mem ((c.tc : Thread Cert.InGradReferenceIdeal.nD Cert.InGradReferenceIdeal.τ).loc Cert.InGradReferenceIdeal.main_arg1) = m ((c.tc : Thread Cert.InGradReferenceIdeal.nD Cert.InGradReferenceIdeal.τ).loc Cert.InGradReferenceIdeal.main_arg1))
      ∧ r.2.sem = fun _ => 0)

def quiescent_Norm1GradKernel [hNorm1GradKernel : Cert.Norm1GradKernel.Facts] : Prop :=
  ∀ (m : (ℓ : Loc Cert.Norm1GradKernel.nD Cert.Norm1GradKernel.τ Cert.Norm1GradKernel.sig) → Buf (Elt Bits) ℓ) (g : Dev Cert.Norm1GradKernel.nD → PrngReg), Pre_Norm1GradKernel m →
    θ_run (Cert.Norm1GradKernel.defs (F := Bits)) (onTc (τ := Cert.Norm1GradKernel.τ) (Cert.Norm1GradKernel.main (F := Bits))) ⟨m, fun _ => 0, g⟩ (fun r => (∀ c : Dev Cert.Norm1GradKernel.nD,
      r.2.mem ((c.tc : Thread Cert.Norm1GradKernel.nD Cert.Norm1GradKernel.τ).loc Cert.Norm1GradKernel.main_arg0) = m ((c.tc : Thread Cert.Norm1GradKernel.nD Cert.Norm1GradKernel.τ).loc Cert.Norm1GradKernel.main_arg0)
      ∧ r.2.mem ((c.tc : Thread Cert.Norm1GradKernel.nD Cert.Norm1GradKernel.τ).loc Cert.Norm1GradKernel.main_arg1) = m ((c.tc : Thread Cert.Norm1GradKernel.nD Cert.Norm1GradKernel.τ).loc Cert.Norm1GradKernel.main_arg1)
      ∧ r.2.mem ((c.tc : Thread Cert.Norm1GradKernel.nD Cert.Norm1GradKernel.τ).loc Cert.Norm1GradKernel.main_arg2) = m ((c.tc : Thread Cert.Norm1GradKernel.nD Cert.Norm1GradKernel.τ).loc Cert.Norm1GradKernel.main_arg2)
      ∧ r.2.mem ((c.tc : Thread Cert.Norm1GradKernel.nD Cert.Norm1GradKernel.τ).loc Cert.Norm1GradKernel.main_arg3) = m ((c.tc : Thread Cert.Norm1GradKernel.nD Cert.Norm1GradKernel.τ).loc Cert.Norm1GradKernel.main_arg3)
      ∧ r.2.mem ((c.tc : Thread Cert.Norm1GradKernel.nD Cert.Norm1GradKernel.τ).loc Cert.Norm1GradKernel.main_arg4) = m ((c.tc : Thread Cert.Norm1GradKernel.nD Cert.Norm1GradKernel.τ).loc Cert.Norm1GradKernel.main_arg4))
      ∧ r.2.sem = fun _ => 0)

def quiescent_Norm1GradKernelIdeal [hNorm1GradKernelIdeal : Cert.Norm1GradKernelIdeal.Facts] : Prop :=
  ∀ (m : (ℓ : Loc Cert.Norm1GradKernelIdeal.nD Cert.Norm1GradKernelIdeal.τ Cert.Norm1GradKernelIdeal.sig) → Buf (Elt Ideal) ℓ) (g : Dev Cert.Norm1GradKernelIdeal.nD → PrngReg), Pre_Norm1GradKernelIdeal m →
    θ_run (Cert.Norm1GradKernelIdeal.defs (F := Ideal)) (onTc (τ := Cert.Norm1GradKernelIdeal.τ) (Cert.Norm1GradKernelIdeal.main (F := Ideal))) ⟨m, fun _ => 0, g⟩ (fun r => (∀ c : Dev Cert.Norm1GradKernelIdeal.nD,
      r.2.mem ((c.tc : Thread Cert.Norm1GradKernelIdeal.nD Cert.Norm1GradKernelIdeal.τ).loc Cert.Norm1GradKernelIdeal.main_arg0) = m ((c.tc : Thread Cert.Norm1GradKernelIdeal.nD Cert.Norm1GradKernelIdeal.τ).loc Cert.Norm1GradKernelIdeal.main_arg0)
      ∧ r.2.mem ((c.tc : Thread Cert.Norm1GradKernelIdeal.nD Cert.Norm1GradKernelIdeal.τ).loc Cert.Norm1GradKernelIdeal.main_arg1) = m ((c.tc : Thread Cert.Norm1GradKernelIdeal.nD Cert.Norm1GradKernelIdeal.τ).loc Cert.Norm1GradKernelIdeal.main_arg1)
      ∧ r.2.mem ((c.tc : Thread Cert.Norm1GradKernelIdeal.nD Cert.Norm1GradKernelIdeal.τ).loc Cert.Norm1GradKernelIdeal.main_arg2) = m ((c.tc : Thread Cert.Norm1GradKernelIdeal.nD Cert.Norm1GradKernelIdeal.τ).loc Cert.Norm1GradKernelIdeal.main_arg2)
      ∧ r.2.mem ((c.tc : Thread Cert.Norm1GradKernelIdeal.nD Cert.Norm1GradKernelIdeal.τ).loc Cert.Norm1GradKernelIdeal.main_arg3) = m ((c.tc : Thread Cert.Norm1GradKernelIdeal.nD Cert.Norm1GradKernelIdeal.τ).loc Cert.Norm1GradKernelIdeal.main_arg3)
      ∧ r.2.mem ((c.tc : Thread Cert.Norm1GradKernelIdeal.nD Cert.Norm1GradKernelIdeal.τ).loc Cert.Norm1GradKernelIdeal.main_arg4) = m ((c.tc : Thread Cert.Norm1GradKernelIdeal.nD Cert.Norm1GradKernelIdeal.τ).loc Cert.Norm1GradKernelIdeal.main_arg4))
      ∧ r.2.sem = fun _ => 0)

def quiescent_Norm1GradReferenceIdeal [hNorm1GradReferenceIdeal : Cert.Norm1GradReferenceIdeal.Facts] : Prop :=
  ∀ (m : (ℓ : Loc Cert.Norm1GradReferenceIdeal.nD Cert.Norm1GradReferenceIdeal.τ Cert.Norm1GradReferenceIdeal.sig) → Buf (Elt Ideal) ℓ) (g : Dev Cert.Norm1GradReferenceIdeal.nD → PrngReg), Pre_Norm1GradReferenceIdeal m →
    θ_run (Cert.Norm1GradReferenceIdeal.defs (F := Ideal)) (onTc (τ := Cert.Norm1GradReferenceIdeal.τ) (Cert.Norm1GradReferenceIdeal.main (F := Ideal))) ⟨m, fun _ => 0, g⟩ (fun r => (∀ c : Dev Cert.Norm1GradReferenceIdeal.nD,
      r.2.mem ((c.tc : Thread Cert.Norm1GradReferenceIdeal.nD Cert.Norm1GradReferenceIdeal.τ).loc Cert.Norm1GradReferenceIdeal.main_arg0) = m ((c.tc : Thread Cert.Norm1GradReferenceIdeal.nD Cert.Norm1GradReferenceIdeal.τ).loc Cert.Norm1GradReferenceIdeal.main_arg0)
      ∧ r.2.mem ((c.tc : Thread Cert.Norm1GradReferenceIdeal.nD Cert.Norm1GradReferenceIdeal.τ).loc Cert.Norm1GradReferenceIdeal.main_arg1) = m ((c.tc : Thread Cert.Norm1GradReferenceIdeal.nD Cert.Norm1GradReferenceIdeal.τ).loc Cert.Norm1GradReferenceIdeal.main_arg1)
      ∧ r.2.mem ((c.tc : Thread Cert.Norm1GradReferenceIdeal.nD Cert.Norm1GradReferenceIdeal.τ).loc Cert.Norm1GradReferenceIdeal.main_arg2) = m ((c.tc : Thread Cert.Norm1GradReferenceIdeal.nD Cert.Norm1GradReferenceIdeal.τ).loc Cert.Norm1GradReferenceIdeal.main_arg2)
      ∧ r.2.mem ((c.tc : Thread Cert.Norm1GradReferenceIdeal.nD Cert.Norm1GradReferenceIdeal.τ).loc Cert.Norm1GradReferenceIdeal.main_arg3) = m ((c.tc : Thread Cert.Norm1GradReferenceIdeal.nD Cert.Norm1GradReferenceIdeal.τ).loc Cert.Norm1GradReferenceIdeal.main_arg3)
      ∧ r.2.mem ((c.tc : Thread Cert.Norm1GradReferenceIdeal.nD Cert.Norm1GradReferenceIdeal.τ).loc Cert.Norm1GradReferenceIdeal.main_arg4) = m ((c.tc : Thread Cert.Norm1GradReferenceIdeal.nD Cert.Norm1GradReferenceIdeal.τ).loc Cert.Norm1GradReferenceIdeal.main_arg4))
      ∧ r.2.sem = fun _ => 0)

def quiescent_AdamMlpKernel [hAdamMlpKernel : Cert.AdamMlpKernel.Facts] : Prop :=
  ∀ (m : (ℓ : Loc Cert.AdamMlpKernel.nD Cert.AdamMlpKernel.τ Cert.AdamMlpKernel.sig) → Buf (Elt Bits) ℓ) (g : Dev Cert.AdamMlpKernel.nD → PrngReg), Pre_AdamMlpKernel m →
    θ_run (Cert.AdamMlpKernel.defs (F := Bits)) (onTc (τ := Cert.AdamMlpKernel.τ) (Cert.AdamMlpKernel.main (F := Bits))) ⟨m, fun _ => 0, g⟩ (fun r => (∀ c : Dev Cert.AdamMlpKernel.nD,
      r.2.mem ((c.tc : Thread Cert.AdamMlpKernel.nD Cert.AdamMlpKernel.τ).loc Cert.AdamMlpKernel.main_arg0) = m ((c.tc : Thread Cert.AdamMlpKernel.nD Cert.AdamMlpKernel.τ).loc Cert.AdamMlpKernel.main_arg0)
      ∧ r.2.mem ((c.tc : Thread Cert.AdamMlpKernel.nD Cert.AdamMlpKernel.τ).loc Cert.AdamMlpKernel.main_arg1) = m ((c.tc : Thread Cert.AdamMlpKernel.nD Cert.AdamMlpKernel.τ).loc Cert.AdamMlpKernel.main_arg1)
      ∧ r.2.mem ((c.tc : Thread Cert.AdamMlpKernel.nD Cert.AdamMlpKernel.τ).loc Cert.AdamMlpKernel.main_arg2) = m ((c.tc : Thread Cert.AdamMlpKernel.nD Cert.AdamMlpKernel.τ).loc Cert.AdamMlpKernel.main_arg2)
      ∧ r.2.mem ((c.tc : Thread Cert.AdamMlpKernel.nD Cert.AdamMlpKernel.τ).loc Cert.AdamMlpKernel.main_arg3) = m ((c.tc : Thread Cert.AdamMlpKernel.nD Cert.AdamMlpKernel.τ).loc Cert.AdamMlpKernel.main_arg3)
      ∧ r.2.mem ((c.tc : Thread Cert.AdamMlpKernel.nD Cert.AdamMlpKernel.τ).loc Cert.AdamMlpKernel.main_arg4) = m ((c.tc : Thread Cert.AdamMlpKernel.nD Cert.AdamMlpKernel.τ).loc Cert.AdamMlpKernel.main_arg4))
      ∧ r.2.sem = fun _ => 0)

def quiescent_AdamMlpKernelIdeal [hAdamMlpKernelIdeal : Cert.AdamMlpKernelIdeal.Facts] : Prop :=
  ∀ (m : (ℓ : Loc Cert.AdamMlpKernelIdeal.nD Cert.AdamMlpKernelIdeal.τ Cert.AdamMlpKernelIdeal.sig) → Buf (Elt Ideal) ℓ) (g : Dev Cert.AdamMlpKernelIdeal.nD → PrngReg), Pre_AdamMlpKernelIdeal m →
    θ_run (Cert.AdamMlpKernelIdeal.defs (F := Ideal)) (onTc (τ := Cert.AdamMlpKernelIdeal.τ) (Cert.AdamMlpKernelIdeal.main (F := Ideal))) ⟨m, fun _ => 0, g⟩ (fun r => (∀ c : Dev Cert.AdamMlpKernelIdeal.nD,
      r.2.mem ((c.tc : Thread Cert.AdamMlpKernelIdeal.nD Cert.AdamMlpKernelIdeal.τ).loc Cert.AdamMlpKernelIdeal.main_arg0) = m ((c.tc : Thread Cert.AdamMlpKernelIdeal.nD Cert.AdamMlpKernelIdeal.τ).loc Cert.AdamMlpKernelIdeal.main_arg0)
      ∧ r.2.mem ((c.tc : Thread Cert.AdamMlpKernelIdeal.nD Cert.AdamMlpKernelIdeal.τ).loc Cert.AdamMlpKernelIdeal.main_arg1) = m ((c.tc : Thread Cert.AdamMlpKernelIdeal.nD Cert.AdamMlpKernelIdeal.τ).loc Cert.AdamMlpKernelIdeal.main_arg1)
      ∧ r.2.mem ((c.tc : Thread Cert.AdamMlpKernelIdeal.nD Cert.AdamMlpKernelIdeal.τ).loc Cert.AdamMlpKernelIdeal.main_arg2) = m ((c.tc : Thread Cert.AdamMlpKernelIdeal.nD Cert.AdamMlpKernelIdeal.τ).loc Cert.AdamMlpKernelIdeal.main_arg2)
      ∧ r.2.mem ((c.tc : Thread Cert.AdamMlpKernelIdeal.nD Cert.AdamMlpKernelIdeal.τ).loc Cert.AdamMlpKernelIdeal.main_arg3) = m ((c.tc : Thread Cert.AdamMlpKernelIdeal.nD Cert.AdamMlpKernelIdeal.τ).loc Cert.AdamMlpKernelIdeal.main_arg3)
      ∧ r.2.mem ((c.tc : Thread Cert.AdamMlpKernelIdeal.nD Cert.AdamMlpKernelIdeal.τ).loc Cert.AdamMlpKernelIdeal.main_arg4) = m ((c.tc : Thread Cert.AdamMlpKernelIdeal.nD Cert.AdamMlpKernelIdeal.τ).loc Cert.AdamMlpKernelIdeal.main_arg4))
      ∧ r.2.sem = fun _ => 0)

def quiescent_AdamMlpReferenceIdeal [hAdamMlpReferenceIdeal : Cert.AdamMlpReferenceIdeal.Facts] : Prop :=
  ∀ (m : (ℓ : Loc Cert.AdamMlpReferenceIdeal.nD Cert.AdamMlpReferenceIdeal.τ Cert.AdamMlpReferenceIdeal.sig) → Buf (Elt Ideal) ℓ) (g : Dev Cert.AdamMlpReferenceIdeal.nD → PrngReg), Pre_AdamMlpReferenceIdeal m →
    θ_run (Cert.AdamMlpReferenceIdeal.defs (F := Ideal)) (onTc (τ := Cert.AdamMlpReferenceIdeal.τ) (Cert.AdamMlpReferenceIdeal.main (F := Ideal))) ⟨m, fun _ => 0, g⟩ (fun r => (∀ c : Dev Cert.AdamMlpReferenceIdeal.nD,
      r.2.mem ((c.tc : Thread Cert.AdamMlpReferenceIdeal.nD Cert.AdamMlpReferenceIdeal.τ).loc Cert.AdamMlpReferenceIdeal.main_arg0) = m ((c.tc : Thread Cert.AdamMlpReferenceIdeal.nD Cert.AdamMlpReferenceIdeal.τ).loc Cert.AdamMlpReferenceIdeal.main_arg0)
      ∧ r.2.mem ((c.tc : Thread Cert.AdamMlpReferenceIdeal.nD Cert.AdamMlpReferenceIdeal.τ).loc Cert.AdamMlpReferenceIdeal.main_arg1) = m ((c.tc : Thread Cert.AdamMlpReferenceIdeal.nD Cert.AdamMlpReferenceIdeal.τ).loc Cert.AdamMlpReferenceIdeal.main_arg1)
      ∧ r.2.mem ((c.tc : Thread Cert.AdamMlpReferenceIdeal.nD Cert.AdamMlpReferenceIdeal.τ).loc Cert.AdamMlpReferenceIdeal.main_arg2) = m ((c.tc : Thread Cert.AdamMlpReferenceIdeal.nD Cert.AdamMlpReferenceIdeal.τ).loc Cert.AdamMlpReferenceIdeal.main_arg2)
      ∧ r.2.mem ((c.tc : Thread Cert.AdamMlpReferenceIdeal.nD Cert.AdamMlpReferenceIdeal.τ).loc Cert.AdamMlpReferenceIdeal.main_arg3) = m ((c.tc : Thread Cert.AdamMlpReferenceIdeal.nD Cert.AdamMlpReferenceIdeal.τ).loc Cert.AdamMlpReferenceIdeal.main_arg3)
      ∧ r.2.mem ((c.tc : Thread Cert.AdamMlpReferenceIdeal.nD Cert.AdamMlpReferenceIdeal.τ).loc Cert.AdamMlpReferenceIdeal.main_arg4) = m ((c.tc : Thread Cert.AdamMlpReferenceIdeal.nD Cert.AdamMlpReferenceIdeal.τ).loc Cert.AdamMlpReferenceIdeal.main_arg4))
      ∧ r.2.sem = fun _ => 0)

def quiescent_AdamOutKernel [hAdamOutKernel : Cert.AdamOutKernel.Facts] : Prop :=
  ∀ (m : (ℓ : Loc Cert.AdamOutKernel.nD Cert.AdamOutKernel.τ Cert.AdamOutKernel.sig) → Buf (Elt Bits) ℓ) (g : Dev Cert.AdamOutKernel.nD → PrngReg), Pre_AdamOutKernel m →
    θ_run (Cert.AdamOutKernel.defs (F := Bits)) (onTc (τ := Cert.AdamOutKernel.τ) (Cert.AdamOutKernel.main (F := Bits))) ⟨m, fun _ => 0, g⟩ (fun r => (∀ c : Dev Cert.AdamOutKernel.nD,
      r.2.mem ((c.tc : Thread Cert.AdamOutKernel.nD Cert.AdamOutKernel.τ).loc Cert.AdamOutKernel.main_arg0) = m ((c.tc : Thread Cert.AdamOutKernel.nD Cert.AdamOutKernel.τ).loc Cert.AdamOutKernel.main_arg0)
      ∧ r.2.mem ((c.tc : Thread Cert.AdamOutKernel.nD Cert.AdamOutKernel.τ).loc Cert.AdamOutKernel.main_arg1) = m ((c.tc : Thread Cert.AdamOutKernel.nD Cert.AdamOutKernel.τ).loc Cert.AdamOutKernel.main_arg1)
      ∧ r.2.mem ((c.tc : Thread Cert.AdamOutKernel.nD Cert.AdamOutKernel.τ).loc Cert.AdamOutKernel.main_arg2) = m ((c.tc : Thread Cert.AdamOutKernel.nD Cert.AdamOutKernel.τ).loc Cert.AdamOutKernel.main_arg2)
      ∧ r.2.mem ((c.tc : Thread Cert.AdamOutKernel.nD Cert.AdamOutKernel.τ).loc Cert.AdamOutKernel.main_arg3) = m ((c.tc : Thread Cert.AdamOutKernel.nD Cert.AdamOutKernel.τ).loc Cert.AdamOutKernel.main_arg3)
      ∧ r.2.mem ((c.tc : Thread Cert.AdamOutKernel.nD Cert.AdamOutKernel.τ).loc Cert.AdamOutKernel.main_arg4) = m ((c.tc : Thread Cert.AdamOutKernel.nD Cert.AdamOutKernel.τ).loc Cert.AdamOutKernel.main_arg4))
      ∧ r.2.sem = fun _ => 0)

def quiescent_AdamOutKernelIdeal [hAdamOutKernelIdeal : Cert.AdamOutKernelIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg), Pre_AdamOutKernelIdeal m →
    θ_run (Cert.AdamOutKernelIdeal.defs (F := Ideal)) (onTc (τ := Cert.AdamOutKernelIdeal.τ) (Cert.AdamOutKernelIdeal.main (F := Ideal))) ⟨m, fun _ => 0, g⟩ (fun r => (∀ c : Dev Cert.AdamOutKernelIdeal.nD,
      r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
      ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
      ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
      ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3)
      ∧ r.2.mem ((c.tc : Thread Cert.AdamOutKernelIdeal.nD Cert.AdamOutKernelIdeal.τ).loc Cert.AdamOutKernelIdeal.main_arg4) = m ((c.tc : Thread Cert.AdamOutKernelIdeal.nD Cert.AdamOutKernelIdeal.τ).loc Cert.AdamOutKernelIdeal.main_arg4))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4))
      ∧ r.2.sem = fun _ => 0)

def quiescent_AdamInKernel [hAdamInKernel : Cert.AdamInKernel.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3)
      ∧ r.2.mem ((c.tc : Thread Cert.AdamInKernel.nD Cert.AdamInKernel.τ).loc Cert.AdamInKernel.main_arg4) = m ((c.tc : Thread Cert.AdamInKernel.nD Cert.AdamInKernel.τ).loc Cert.AdamInKernel.main_arg4))
      ∧ r.2.sem = fun _ => 0)

def quiescent_AdamInKernelIdeal [hAdamInKernelIdeal : Cert.AdamInKernelIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3)
      ∧ r.2.mem ((c.tc : Thread Cert.AdamInKernelIdeal.nD Cert.AdamInKernelIdeal.τ).loc Cert.AdamInKernelIdeal.main_arg4) = m ((c.tc : Thread Cert.AdamInKernelIdeal.nD Cert.AdamInKernelIdeal.τ).loc Cert.AdamInKernelIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamPleKernel [hAdamPleKernel : Cert.AdamPleKernel.Facts] : Prop :=
  ∀ (m : (ℓ : Loc Cert.AdamPleKernel.nD Cert.AdamPleKernel.τ Cert.AdamPleKernel.sig) → Buf (Elt Bits) ℓ) (g : Dev Cert.AdamPleKernel.nD → PrngReg), Pre_AdamPleKernel m →
    θ_run (Cert.AdamPleKernel.defs (F := Bits)) (onTc (τ := Cert.AdamPleKernel.τ) (Cert.AdamPleKernel.main (F := Bits))) ⟨m, fun _ => 0, g⟩ (fun r => (∀ c : Dev Cert.AdamPleKernel.nD,
      r.2.mem ((c.tc : Thread Cert.AdamPleKernel.nD Cert.AdamPleKernel.τ).loc Cert.AdamPleKernel.main_arg0) = m ((c.tc : Thread Cert.AdamPleKernel.nD Cert.AdamPleKernel.τ).loc Cert.AdamPleKernel.main_arg0)
      ∧ r.2.mem ((c.tc : Thread Cert.AdamPleKernel.nD Cert.AdamPleKernel.τ).loc Cert.AdamPleKernel.main_arg1) = m ((c.tc : Thread Cert.AdamPleKernel.nD Cert.AdamPleKernel.τ).loc Cert.AdamPleKernel.main_arg1)
      ∧ r.2.mem ((c.tc : Thread Cert.AdamPleKernel.nD Cert.AdamPleKernel.τ).loc Cert.AdamPleKernel.main_arg2) = m ((c.tc : Thread Cert.AdamPleKernel.nD Cert.AdamPleKernel.τ).loc Cert.AdamPleKernel.main_arg2)
      ∧ r.2.mem ((c.tc : Thread Cert.AdamPleKernel.nD Cert.AdamPleKernel.τ).loc Cert.AdamPleKernel.main_arg3) = m ((c.tc : Thread Cert.AdamPleKernel.nD Cert.AdamPleKernel.τ).loc Cert.AdamPleKernel.main_arg3)
      ∧ r.2.mem ((c.tc : Thread Cert.AdamPleKernel.nD Cert.AdamPleKernel.τ).loc Cert.AdamPleKernel.main_arg4) = m ((c.tc : Thread Cert.AdamPleKernel.nD Cert.AdamPleKernel.τ).loc Cert.AdamPleKernel.main_arg4))
      ∧ r.2.sem = fun _ => 0)

def quiescent_AdamPleKernelIdeal [hAdamPleKernelIdeal : Cert.AdamPleKernelIdeal.Facts] : Prop :=
  ∀ (m : (ℓ : Loc Cert.AdamPleKernelIdeal.nD Cert.AdamPleKernelIdeal.τ Cert.AdamPleKernelIdeal.sig) → Buf (Elt Ideal) ℓ) (g : Dev Cert.AdamPleKernelIdeal.nD → PrngReg), Pre_AdamPleKernelIdeal m →
    θ_run (Cert.AdamPleKernelIdeal.defs (F := Ideal)) (onTc (τ := Cert.AdamPleKernelIdeal.τ) (Cert.AdamPleKernelIdeal.main (F := Ideal))) ⟨m, fun _ => 0, g⟩ (fun r => (∀ c : Dev Cert.AdamPleKernelIdeal.nD,
      r.2.mem ((c.tc : Thread Cert.AdamPleKernelIdeal.nD Cert.AdamPleKernelIdeal.τ).loc Cert.AdamPleKernelIdeal.main_arg0) = m ((c.tc : Thread Cert.AdamPleKernelIdeal.nD Cert.AdamPleKernelIdeal.τ).loc Cert.AdamPleKernelIdeal.main_arg0)
      ∧ r.2.mem ((c.tc : Thread Cert.AdamPleKernelIdeal.nD Cert.AdamPleKernelIdeal.τ).loc Cert.AdamPleKernelIdeal.main_arg1) = m ((c.tc : Thread Cert.AdamPleKernelIdeal.nD Cert.AdamPleKernelIdeal.τ).loc Cert.AdamPleKernelIdeal.main_arg1)
      ∧ r.2.mem ((c.tc : Thread Cert.AdamPleKernelIdeal.nD Cert.AdamPleKernelIdeal.τ).loc Cert.AdamPleKernelIdeal.main_arg2) = m ((c.tc : Thread Cert.AdamPleKernelIdeal.nD Cert.AdamPleKernelIdeal.τ).loc Cert.AdamPleKernelIdeal.main_arg2)
      ∧ r.2.mem ((c.tc : Thread Cert.AdamPleKernelIdeal.nD Cert.AdamPleKernelIdeal.τ).loc Cert.AdamPleKernelIdeal.main_arg3) = m ((c.tc : Thread Cert.AdamPleKernelIdeal.nD Cert.AdamPleKernelIdeal.τ).loc Cert.AdamPleKernelIdeal.main_arg3)
      ∧ r.2.mem ((c.tc : Thread Cert.AdamPleKernelIdeal.nD Cert.AdamPleKernelIdeal.τ).loc Cert.AdamPleKernelIdeal.main_arg4) = m ((c.tc : Thread Cert.AdamPleKernelIdeal.nD Cert.AdamPleKernelIdeal.τ).loc Cert.AdamPleKernelIdeal.main_arg4))
      ∧ r.2.sem = fun _ => 0)

def quiescent_AdamPleReferenceIdeal [hAdamPleReferenceIdeal : Cert.AdamPleReferenceIdeal.Facts] : Prop :=
  ∀ (m : (ℓ : Loc Cert.AdamPleReferenceIdeal.nD Cert.AdamPleReferenceIdeal.τ Cert.AdamPleReferenceIdeal.sig) → Buf (Elt Ideal) ℓ) (g : Dev Cert.AdamPleReferenceIdeal.nD → PrngReg), Pre_AdamPleReferenceIdeal m →
    θ_run (Cert.AdamPleReferenceIdeal.defs (F := Ideal)) (onTc (τ := Cert.AdamPleReferenceIdeal.τ) (Cert.AdamPleReferenceIdeal.main (F := Ideal))) ⟨m, fun _ => 0, g⟩ (fun r => (∀ c : Dev Cert.AdamPleReferenceIdeal.nD,
      r.2.mem ((c.tc : Thread Cert.AdamPleReferenceIdeal.nD Cert.AdamPleReferenceIdeal.τ).loc Cert.AdamPleReferenceIdeal.main_arg0) = m ((c.tc : Thread Cert.AdamPleReferenceIdeal.nD Cert.AdamPleReferenceIdeal.τ).loc Cert.AdamPleReferenceIdeal.main_arg0)
      ∧ r.2.mem ((c.tc : Thread Cert.AdamPleReferenceIdeal.nD Cert.AdamPleReferenceIdeal.τ).loc Cert.AdamPleReferenceIdeal.main_arg1) = m ((c.tc : Thread Cert.AdamPleReferenceIdeal.nD Cert.AdamPleReferenceIdeal.τ).loc Cert.AdamPleReferenceIdeal.main_arg1)
      ∧ r.2.mem ((c.tc : Thread Cert.AdamPleReferenceIdeal.nD Cert.AdamPleReferenceIdeal.τ).loc Cert.AdamPleReferenceIdeal.main_arg2) = m ((c.tc : Thread Cert.AdamPleReferenceIdeal.nD Cert.AdamPleReferenceIdeal.τ).loc Cert.AdamPleReferenceIdeal.main_arg2)
      ∧ r.2.mem ((c.tc : Thread Cert.AdamPleReferenceIdeal.nD Cert.AdamPleReferenceIdeal.τ).loc Cert.AdamPleReferenceIdeal.main_arg3) = m ((c.tc : Thread Cert.AdamPleReferenceIdeal.nD Cert.AdamPleReferenceIdeal.τ).loc Cert.AdamPleReferenceIdeal.main_arg3)
      ∧ r.2.mem ((c.tc : Thread Cert.AdamPleReferenceIdeal.nD Cert.AdamPleReferenceIdeal.τ).loc Cert.AdamPleReferenceIdeal.main_arg4) = m ((c.tc : Thread Cert.AdamPleReferenceIdeal.nD Cert.AdamPleReferenceIdeal.τ).loc Cert.AdamPleReferenceIdeal.main_arg4))
      ∧ r.2.sem = fun _ => 0)

def quiescent_AdamConvKernel [hAdamConvKernel : Cert.AdamConvKernel.Facts] : Prop :=
  ∀ (m : (ℓ : Loc Cert.AdamConvKernel.nD Cert.AdamConvKernel.τ Cert.AdamConvKernel.sig) → Buf (Elt Bits) ℓ) (g : Dev Cert.AdamConvKernel.nD → PrngReg), Pre_AdamConvKernel m →
    θ_run (Cert.AdamConvKernel.defs (F := Bits)) (onTc (τ := Cert.AdamConvKernel.τ) (Cert.AdamConvKernel.main (F := Bits))) ⟨m, fun _ => 0, g⟩ (fun r => (∀ c : Dev Cert.AdamConvKernel.nD,
      r.2.mem ((c.tc : Thread Cert.AdamConvKernel.nD Cert.AdamConvKernel.τ).loc Cert.AdamConvKernel.main_arg0) = m ((c.tc : Thread Cert.AdamConvKernel.nD Cert.AdamConvKernel.τ).loc Cert.AdamConvKernel.main_arg0)
      ∧ r.2.mem ((c.tc : Thread Cert.AdamConvKernel.nD Cert.AdamConvKernel.τ).loc Cert.AdamConvKernel.main_arg1) = m ((c.tc : Thread Cert.AdamConvKernel.nD Cert.AdamConvKernel.τ).loc Cert.AdamConvKernel.main_arg1)
      ∧ r.2.mem ((c.tc : Thread Cert.AdamConvKernel.nD Cert.AdamConvKernel.τ).loc Cert.AdamConvKernel.main_arg2) = m ((c.tc : Thread Cert.AdamConvKernel.nD Cert.AdamConvKernel.τ).loc Cert.AdamConvKernel.main_arg2)
      ∧ r.2.mem ((c.tc : Thread Cert.AdamConvKernel.nD Cert.AdamConvKernel.τ).loc Cert.AdamConvKernel.main_arg3) = m ((c.tc : Thread Cert.AdamConvKernel.nD Cert.AdamConvKernel.τ).loc Cert.AdamConvKernel.main_arg3)
      ∧ r.2.mem ((c.tc : Thread Cert.AdamConvKernel.nD Cert.AdamConvKernel.τ).loc Cert.AdamConvKernel.main_arg4) = m ((c.tc : Thread Cert.AdamConvKernel.nD Cert.AdamConvKernel.τ).loc Cert.AdamConvKernel.main_arg4))
      ∧ r.2.sem = fun _ => 0)

def quiescent_AdamConvKernelIdeal [hAdamConvKernelIdeal : Cert.AdamConvKernelIdeal.Facts] : Prop :=
  ∀ (m : (ℓ : Loc Cert.AdamConvKernelIdeal.nD Cert.AdamConvKernelIdeal.τ Cert.AdamConvKernelIdeal.sig) → Buf (Elt Ideal) ℓ) (g : Dev Cert.AdamConvKernelIdeal.nD → PrngReg), Pre_AdamConvKernelIdeal m →
    θ_run (Cert.AdamConvKernelIdeal.defs (F := Ideal)) (onTc (τ := Cert.AdamConvKernelIdeal.τ) (Cert.AdamConvKernelIdeal.main (F := Ideal))) ⟨m, fun _ => 0, g⟩ (fun r => (∀ c : Dev Cert.AdamConvKernelIdeal.nD,
      r.2.mem ((c.tc : Thread Cert.AdamConvKernelIdeal.nD Cert.AdamConvKernelIdeal.τ).loc Cert.AdamConvKernelIdeal.main_arg0) = m ((c.tc : Thread Cert.AdamConvKernelIdeal.nD Cert.AdamConvKernelIdeal.τ).loc Cert.AdamConvKernelIdeal.main_arg0)
      ∧ r.2.mem ((c.tc : Thread Cert.AdamConvKernelIdeal.nD Cert.AdamConvKernelIdeal.τ).loc Cert.AdamConvKernelIdeal.main_arg1) = m ((c.tc : Thread Cert.AdamConvKernelIdeal.nD Cert.AdamConvKernelIdeal.τ).loc Cert.AdamConvKernelIdeal.main_arg1)
      ∧ r.2.mem ((c.tc : Thread Cert.AdamConvKernelIdeal.nD Cert.AdamConvKernelIdeal.τ).loc Cert.AdamConvKernelIdeal.main_arg2) = m ((c.tc : Thread Cert.AdamConvKernelIdeal.nD Cert.AdamConvKernelIdeal.τ).loc Cert.AdamConvKernelIdeal.main_arg2)
      ∧ r.2.mem ((c.tc : Thread Cert.AdamConvKernelIdeal.nD Cert.AdamConvKernelIdeal.τ).loc Cert.AdamConvKernelIdeal.main_arg3) = m ((c.tc : Thread Cert.AdamConvKernelIdeal.nD Cert.AdamConvKernelIdeal.τ).loc Cert.AdamConvKernelIdeal.main_arg3)
      ∧ r.2.mem ((c.tc : Thread Cert.AdamConvKernelIdeal.nD Cert.AdamConvKernelIdeal.τ).loc Cert.AdamConvKernelIdeal.main_arg4) = m ((c.tc : Thread Cert.AdamConvKernelIdeal.nD Cert.AdamConvKernelIdeal.τ).loc Cert.AdamConvKernelIdeal.main_arg4))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3)
      ∧ r.2.mem ((c.tc : Thread Cert.AdamConvReferenceIdeal.nD Cert.AdamConvReferenceIdeal.τ).loc Cert.AdamConvReferenceIdeal.main_arg4) = m ((c.tc : Thread Cert.AdamConvReferenceIdeal.nD Cert.AdamConvReferenceIdeal.τ).loc Cert.AdamConvReferenceIdeal.main_arg4))
      ∧ r.2.sem = fun _ => 0)

def quiescent_AdamSconvKernel [hAdamSconvKernel : Cert.AdamSconvKernel.Facts] : Prop :=
  ∀ (m : (ℓ : Loc Cert.AdamSconvKernel.nD Cert.AdamSconvKernel.τ Cert.AdamSconvKernel.sig) → Buf (Elt Bits) ℓ) (g : Dev Cert.AdamSconvKernel.nD → PrngReg), Pre_AdamSconvKernel m →
    θ_run (Cert.AdamSconvKernel.defs (F := Bits)) (onTc (τ := Cert.AdamSconvKernel.τ) (Cert.AdamSconvKernel.main (F := Bits))) ⟨m, fun _ => 0, g⟩ (fun r => (∀ c : Dev Cert.AdamSconvKernel.nD,
      r.2.mem ((c.tc : Thread Cert.AdamSconvKernel.nD Cert.AdamSconvKernel.τ).loc Cert.AdamSconvKernel.main_arg0) = m ((c.tc : Thread Cert.AdamSconvKernel.nD Cert.AdamSconvKernel.τ).loc Cert.AdamSconvKernel.main_arg0)
      ∧ r.2.mem ((c.tc : Thread Cert.AdamSconvKernel.nD Cert.AdamSconvKernel.τ).loc Cert.AdamSconvKernel.main_arg1) = m ((c.tc : Thread Cert.AdamSconvKernel.nD Cert.AdamSconvKernel.τ).loc Cert.AdamSconvKernel.main_arg1)
      ∧ r.2.mem ((c.tc : Thread Cert.AdamSconvKernel.nD Cert.AdamSconvKernel.τ).loc Cert.AdamSconvKernel.main_arg2) = m ((c.tc : Thread Cert.AdamSconvKernel.nD Cert.AdamSconvKernel.τ).loc Cert.AdamSconvKernel.main_arg2)
      ∧ r.2.mem ((c.tc : Thread Cert.AdamSconvKernel.nD Cert.AdamSconvKernel.τ).loc Cert.AdamSconvKernel.main_arg3) = m ((c.tc : Thread Cert.AdamSconvKernel.nD Cert.AdamSconvKernel.τ).loc Cert.AdamSconvKernel.main_arg3)
      ∧ r.2.mem ((c.tc : Thread Cert.AdamSconvKernel.nD Cert.AdamSconvKernel.τ).loc Cert.AdamSconvKernel.main_arg4) = m ((c.tc : Thread Cert.AdamSconvKernel.nD Cert.AdamSconvKernel.τ).loc Cert.AdamSconvKernel.main_arg4))
      ∧ r.2.sem = fun _ => 0)

def quiescent_AdamSconvKernelIdeal [hAdamSconvKernelIdeal : Cert.AdamSconvKernelIdeal.Facts] : Prop :=
  ∀ (m : (ℓ : Loc Cert.AdamSconvKernelIdeal.nD Cert.AdamSconvKernelIdeal.τ Cert.AdamSconvKernelIdeal.sig) → Buf (Elt Ideal) ℓ) (g : Dev Cert.AdamSconvKernelIdeal.nD → PrngReg), Pre_AdamSconvKernelIdeal m →
    θ_run (Cert.AdamSconvKernelIdeal.defs (F := Ideal)) (onTc (τ := Cert.AdamSconvKernelIdeal.τ) (Cert.AdamSconvKernelIdeal.main (F := Ideal))) ⟨m, fun _ => 0, g⟩ (fun r => (∀ c : Dev Cert.AdamSconvKernelIdeal.nD,
      r.2.mem ((c.tc : Thread Cert.AdamSconvKernelIdeal.nD Cert.AdamSconvKernelIdeal.τ).loc Cert.AdamSconvKernelIdeal.main_arg0) = m ((c.tc : Thread Cert.AdamSconvKernelIdeal.nD Cert.AdamSconvKernelIdeal.τ).loc Cert.AdamSconvKernelIdeal.main_arg0)
      ∧ r.2.mem ((c.tc : Thread Cert.AdamSconvKernelIdeal.nD Cert.AdamSconvKernelIdeal.τ).loc Cert.AdamSconvKernelIdeal.main_arg1) = m ((c.tc : Thread Cert.AdamSconvKernelIdeal.nD Cert.AdamSconvKernelIdeal.τ).loc Cert.AdamSconvKernelIdeal.main_arg1)
      ∧ r.2.mem ((c.tc : Thread Cert.AdamSconvKernelIdeal.nD Cert.AdamSconvKernelIdeal.τ).loc Cert.AdamSconvKernelIdeal.main_arg2) = m ((c.tc : Thread Cert.AdamSconvKernelIdeal.nD Cert.AdamSconvKernelIdeal.τ).loc Cert.AdamSconvKernelIdeal.main_arg2)
      ∧ r.2.mem ((c.tc : Thread Cert.AdamSconvKernelIdeal.nD Cert.AdamSconvKernelIdeal.τ).loc Cert.AdamSconvKernelIdeal.main_arg3) = m ((c.tc : Thread Cert.AdamSconvKernelIdeal.nD Cert.AdamSconvKernelIdeal.τ).loc Cert.AdamSconvKernelIdeal.main_arg3)
      ∧ r.2.mem ((c.tc : Thread Cert.AdamSconvKernelIdeal.nD Cert.AdamSconvKernelIdeal.τ).loc Cert.AdamSconvKernelIdeal.main_arg4) = m ((c.tc : Thread Cert.AdamSconvKernelIdeal.nD Cert.AdamSconvKernelIdeal.τ).loc Cert.AdamSconvKernelIdeal.main_arg4))
      ∧ r.2.sem = fun _ => 0)

def quiescent_AdamSconvReferenceIdeal [hAdamSconvReferenceIdeal : Cert.AdamSconvReferenceIdeal.Facts] : Prop :=
  ∀ (m : (ℓ : Loc Cert.AdamSconvReferenceIdeal.nD Cert.AdamSconvReferenceIdeal.τ Cert.AdamSconvReferenceIdeal.sig) → Buf (Elt Ideal) ℓ) (g : Dev Cert.AdamSconvReferenceIdeal.nD → PrngReg), Pre_AdamSconvReferenceIdeal m →
    θ_run (Cert.AdamSconvReferenceIdeal.defs (F := Ideal)) (onTc (τ := Cert.AdamSconvReferenceIdeal.τ) (Cert.AdamSconvReferenceIdeal.main (F := Ideal))) ⟨m, fun _ => 0, g⟩ (fun r => (∀ c : Dev Cert.AdamSconvReferenceIdeal.nD,
      r.2.mem ((c.tc : Thread Cert.AdamSconvReferenceIdeal.nD Cert.AdamSconvReferenceIdeal.τ).loc Cert.AdamSconvReferenceIdeal.main_arg0) = m ((c.tc : Thread Cert.AdamSconvReferenceIdeal.nD Cert.AdamSconvReferenceIdeal.τ).loc Cert.AdamSconvReferenceIdeal.main_arg0)
      ∧ r.2.mem ((c.tc : Thread Cert.AdamSconvReferenceIdeal.nD Cert.AdamSconvReferenceIdeal.τ).loc Cert.AdamSconvReferenceIdeal.main_arg1) = m ((c.tc : Thread Cert.AdamSconvReferenceIdeal.nD Cert.AdamSconvReferenceIdeal.τ).loc Cert.AdamSconvReferenceIdeal.main_arg1)
      ∧ r.2.mem ((c.tc : Thread Cert.AdamSconvReferenceIdeal.nD Cert.AdamSconvReferenceIdeal.τ).loc Cert.AdamSconvReferenceIdeal.main_arg2) = m ((c.tc : Thread Cert.AdamSconvReferenceIdeal.nD Cert.AdamSconvReferenceIdeal.τ).loc Cert.AdamSconvReferenceIdeal.main_arg2)
      ∧ r.2.mem ((c.tc : Thread Cert.AdamSconvReferenceIdeal.nD Cert.AdamSconvReferenceIdeal.τ).loc Cert.AdamSconvReferenceIdeal.main_arg3) = m ((c.tc : Thread Cert.AdamSconvReferenceIdeal.nD Cert.AdamSconvReferenceIdeal.τ).loc Cert.AdamSconvReferenceIdeal.main_arg3)
      ∧ r.2.mem ((c.tc : Thread Cert.AdamSconvReferenceIdeal.nD Cert.AdamSconvReferenceIdeal.τ).loc Cert.AdamSconvReferenceIdeal.main_arg4) = m ((c.tc : Thread Cert.AdamSconvReferenceIdeal.nD Cert.AdamSconvReferenceIdeal.τ).loc Cert.AdamSconvReferenceIdeal.main_arg4))
      ∧ r.2.sem = fun _ => 0)

def quiescent_AdamSmallKernel [hAdamSmallKernel : Cert.AdamSmallKernel.Facts] : Prop :=
  ∀ (m : (ℓ : Loc Cert.AdamSmallKernel.nD Cert.AdamSmallKernel.τ Cert.AdamSmallKernel.sig) → Buf (Elt Bits) ℓ) (g : Dev Cert.AdamSmallKernel.nD → PrngReg), Pre_AdamSmallKernel m →
    θ_run (Cert.AdamSmallKernel.defs (F := Bits)) (onTc (τ := Cert.AdamSmallKernel.τ) (Cert.AdamSmallKernel.main (F := Bits))) ⟨m, fun _ => 0, g⟩ (fun r => (∀ c : Dev Cert.AdamSmallKernel.nD,
      r.2.mem ((c.tc : Thread Cert.AdamSmallKernel.nD Cert.AdamSmallKernel.τ).loc Cert.AdamSmallKernel.main_arg0) = m ((c.tc : Thread Cert.AdamSmallKernel.nD Cert.AdamSmallKernel.τ).loc Cert.AdamSmallKernel.main_arg0)
      ∧ r.2.mem ((c.tc : Thread Cert.AdamSmallKernel.nD Cert.AdamSmallKernel.τ).loc Cert.AdamSmallKernel.main_arg1) = m ((c.tc : Thread Cert.AdamSmallKernel.nD Cert.AdamSmallKernel.τ).loc Cert.AdamSmallKernel.main_arg1)
      ∧ r.2.mem ((c.tc : Thread Cert.AdamSmallKernel.nD Cert.AdamSmallKernel.τ).loc Cert.AdamSmallKernel.main_arg2) = m ((c.tc : Thread Cert.AdamSmallKernel.nD Cert.AdamSmallKernel.τ).loc Cert.AdamSmallKernel.main_arg2)
      ∧ r.2.mem ((c.tc : Thread Cert.AdamSmallKernel.nD Cert.AdamSmallKernel.τ).loc Cert.AdamSmallKernel.main_arg3) = m ((c.tc : Thread Cert.AdamSmallKernel.nD Cert.AdamSmallKernel.τ).loc Cert.AdamSmallKernel.main_arg3))
      ∧ r.2.sem = fun _ => 0)

def quiescent_AdamSmallKernelIdeal [hAdamSmallKernelIdeal : Cert.AdamSmallKernelIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg), Pre_AdamSmallKernelIdeal m →
    θ_run (Cert.AdamSmallKernelIdeal.defs (F := Ideal)) (onTc (τ := Cert.AdamSmallKernelIdeal.τ) (Cert.AdamSmallKernelIdeal.main (F := Ideal))) ⟨m, fun _ => 0, g⟩ (fun r => (∀ c : Dev Cert.AdamSmallKernelIdeal.nD,
      r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
      ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
      ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
      ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_OutGradKernel [hOutGradKernel : Cert.OutGradKernel.Facts] : Prop :=
  ∀ (m : (ℓ : Loc Cert.OutGradKernel.nD Cert.OutGradKernel.τ Cert.OutGradKernel.sig) → Buf (Elt Bits) ℓ) (g : Dev Cert.OutGradKernel.nD → PrngReg), Pre_OutGradKernel m →
    θ_run (Cert.OutGradKernel.defs (F := Bits)) (onTc (τ := Cert.OutGradKernel.τ) (Cert.OutGradKernel.main (F := Bits))) ⟨m, fun _ => 0, g⟩ (fun r => (∀ c : Dev Cert.OutGradKernel.nD,
      r.2.mem ((c.tc : Thread Cert.OutGradKernel.nD Cert.OutGradKernel.τ).loc Cert.OutGradKernel.main_arg0) = m ((c.tc : Thread Cert.OutGradKernel.nD Cert.OutGradKernel.τ).loc Cert.OutGradKernel.main_arg0)
      ∧ r.2.mem ((c.tc : Thread Cert.OutGradKernel.nD Cert.OutGradKernel.τ).loc Cert.OutGradKernel.main_arg1) = m ((c.tc : Thread Cert.OutGradKernel.nD Cert.OutGradKernel.τ).loc Cert.OutGradKernel.main_arg1))
      ∧ r.2.sem = fun _ => 0)

def quiescent_OutGradKernelIdeal [hOutGradKernelIdeal : Cert.OutGradKernelIdeal.Facts] : Prop :=
  ∀ (m : (ℓ : Loc Cert.OutGradKernelIdeal.nD Cert.OutGradKernelIdeal.τ Cert.OutGradKernelIdeal.sig) → Buf (Elt Ideal) ℓ) (g : Dev Cert.OutGradKernelIdeal.nD → PrngReg), Pre_OutGradKernelIdeal m →
    θ_run (Cert.OutGradKernelIdeal.defs (F := Ideal)) (onTc (τ := Cert.OutGradKernelIdeal.τ) (Cert.OutGradKernelIdeal.main (F := Ideal))) ⟨m, fun _ => 0, g⟩ (fun r => (∀ c : Dev Cert.OutGradKernelIdeal.nD,
      r.2.mem ((c.tc : Thread Cert.OutGradKernelIdeal.nD Cert.OutGradKernelIdeal.τ).loc Cert.OutGradKernelIdeal.main_arg0) = m ((c.tc : Thread Cert.OutGradKernelIdeal.nD Cert.OutGradKernelIdeal.τ).loc Cert.OutGradKernelIdeal.main_arg0)
      ∧ r.2.mem ((c.tc : Thread Cert.OutGradKernelIdeal.nD Cert.OutGradKernelIdeal.τ).loc Cert.OutGradKernelIdeal.main_arg1) = m ((c.tc : Thread Cert.OutGradKernelIdeal.nD Cert.OutGradKernelIdeal.τ).loc Cert.OutGradKernelIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_MixedGradKernel [hMixedGradKernel : Cert.MixedGradKernel.Facts] : Prop :=
  ∀ (m : (ℓ : Loc Cert.MixedGradKernel.nD Cert.MixedGradKernel.τ Cert.MixedGradKernel.sig) → Buf (Elt Bits) ℓ) (g : Dev Cert.MixedGradKernel.nD → PrngReg), Pre_MixedGradKernel m →
    θ_run (Cert.MixedGradKernel.defs (F := Bits)) (onTc (τ := Cert.MixedGradKernel.τ) (Cert.MixedGradKernel.main (F := Bits))) ⟨m, fun _ => 0, g⟩ (fun r => (∀ c : Dev Cert.MixedGradKernel.nD,
      r.2.mem ((c.tc : Thread Cert.MixedGradKernel.nD Cert.MixedGradKernel.τ).loc Cert.MixedGradKernel.main_arg0) = m ((c.tc : Thread Cert.MixedGradKernel.nD Cert.MixedGradKernel.τ).loc Cert.MixedGradKernel.main_arg0)
      ∧ r.2.mem ((c.tc : Thread Cert.MixedGradKernel.nD Cert.MixedGradKernel.τ).loc Cert.MixedGradKernel.main_arg1) = m ((c.tc : Thread Cert.MixedGradKernel.nD Cert.MixedGradKernel.τ).loc Cert.MixedGradKernel.main_arg1))
      ∧ r.2.sem = fun _ => 0)

def quiescent_MixedGradKernelIdeal [hMixedGradKernelIdeal : Cert.MixedGradKernelIdeal.Facts] : Prop :=
  ∀ (m : (ℓ : Loc Cert.MixedGradKernelIdeal.nD Cert.MixedGradKernelIdeal.τ Cert.MixedGradKernelIdeal.sig) → Buf (Elt Ideal) ℓ) (g : Dev Cert.MixedGradKernelIdeal.nD → PrngReg), Pre_MixedGradKernelIdeal m →
    θ_run (Cert.MixedGradKernelIdeal.defs (F := Ideal)) (onTc (τ := Cert.MixedGradKernelIdeal.τ) (Cert.MixedGradKernelIdeal.main (F := Ideal))) ⟨m, fun _ => 0, g⟩ (fun r => (∀ c : Dev Cert.MixedGradKernelIdeal.nD,
      r.2.mem ((c.tc : Thread Cert.MixedGradKernelIdeal.nD Cert.MixedGradKernelIdeal.τ).loc Cert.MixedGradKernelIdeal.main_arg0) = m ((c.tc : Thread Cert.MixedGradKernelIdeal.nD Cert.MixedGradKernelIdeal.τ).loc Cert.MixedGradKernelIdeal.main_arg0)
      ∧ r.2.mem ((c.tc : Thread Cert.MixedGradKernelIdeal.nD Cert.MixedGradKernelIdeal.τ).loc Cert.MixedGradKernelIdeal.main_arg1) = m ((c.tc : Thread Cert.MixedGradKernelIdeal.nD Cert.MixedGradKernelIdeal.τ).loc Cert.MixedGradKernelIdeal.main_arg1))
      ∧ r.2.sem = fun _ => 0)

def quiescent_MixedGradReferenceIdeal [hMixedGradReferenceIdeal : Cert.MixedGradReferenceIdeal.Facts] : Prop :=
  ∀ (m : (ℓ : Loc Cert.MixedGradReferenceIdeal.nD Cert.MixedGradReferenceIdeal.τ Cert.MixedGradReferenceIdeal.sig) → Buf (Elt Ideal) ℓ) (g : Dev Cert.MixedGradReferenceIdeal.nD → PrngReg), Pre_MixedGradReferenceIdeal m →
    θ_run (Cert.MixedGradReferenceIdeal.defs (F := Ideal)) (onTc (τ := Cert.MixedGradReferenceIdeal.τ) (Cert.MixedGradReferenceIdeal.main (F := Ideal))) ⟨m, fun _ => 0, g⟩ (fun r => (∀ c : Dev Cert.MixedGradReferenceIdeal.nD,
      r.2.mem ((c.tc : Thread Cert.MixedGradReferenceIdeal.nD Cert.MixedGradReferenceIdeal.τ).loc Cert.MixedGradReferenceIdeal.main_arg0) = m ((c.tc : Thread Cert.MixedGradReferenceIdeal.nD Cert.MixedGradReferenceIdeal.τ).loc Cert.MixedGradReferenceIdeal.main_arg0)
      ∧ r.2.mem ((c.tc : Thread Cert.MixedGradReferenceIdeal.nD Cert.MixedGradReferenceIdeal.τ).loc Cert.MixedGradReferenceIdeal.main_arg1) = m ((c.tc : Thread Cert.MixedGradReferenceIdeal.nD Cert.MixedGradReferenceIdeal.τ).loc Cert.MixedGradReferenceIdeal.main_arg1))
      ∧ r.2.sem = fun _ => 0)

def quiescent_PleBwdKernel [hPleBwdKernel : Cert.PleBwdKernel.Facts] : Prop :=
  ∀ (m : (ℓ : Loc Cert.PleBwdKernel.nD Cert.PleBwdKernel.τ Cert.PleBwdKernel.sig) → Buf (Elt Bits) ℓ) (g : Dev Cert.PleBwdKernel.nD → PrngReg), Pre_PleBwdKernel m →
    θ_run (Cert.PleBwdKernel.defs (F := Bits)) (onTc (τ := Cert.PleBwdKernel.τ) (Cert.PleBwdKernel.main (F := Bits))) ⟨m, fun _ => 0, g⟩ (fun r => (∀ c : Dev Cert.PleBwdKernel.nD,
      r.2.mem ((c.tc : Thread Cert.PleBwdKernel.nD Cert.PleBwdKernel.τ).loc Cert.PleBwdKernel.main_arg0) = m ((c.tc : Thread Cert.PleBwdKernel.nD Cert.PleBwdKernel.τ).loc Cert.PleBwdKernel.main_arg0)
      ∧ r.2.mem ((c.tc : Thread Cert.PleBwdKernel.nD Cert.PleBwdKernel.τ).loc Cert.PleBwdKernel.main_arg1) = m ((c.tc : Thread Cert.PleBwdKernel.nD Cert.PleBwdKernel.τ).loc Cert.PleBwdKernel.main_arg1)
      ∧ r.2.mem ((c.tc : Thread Cert.PleBwdKernel.nD Cert.PleBwdKernel.τ).loc Cert.PleBwdKernel.main_arg2) = m ((c.tc : Thread Cert.PleBwdKernel.nD Cert.PleBwdKernel.τ).loc Cert.PleBwdKernel.main_arg2))
      ∧ r.2.sem = fun _ => 0)

def quiescent_PleBwdKernelIdeal [hPleBwdKernelIdeal : Cert.PleBwdKernelIdeal.Facts] : Prop :=
  ∀ (m : (ℓ : Loc Cert.PleBwdKernelIdeal.nD Cert.PleBwdKernelIdeal.τ Cert.PleBwdKernelIdeal.sig) → Buf (Elt Ideal) ℓ) (g : Dev Cert.PleBwdKernelIdeal.nD → PrngReg), Pre_PleBwdKernelIdeal m →
    θ_run (Cert.PleBwdKernelIdeal.defs (F := Ideal)) (onTc (τ := Cert.PleBwdKernelIdeal.τ) (Cert.PleBwdKernelIdeal.main (F := Ideal))) ⟨m, fun _ => 0, g⟩ (fun r => (∀ c : Dev Cert.PleBwdKernelIdeal.nD,
      r.2.mem ((c.tc : Thread Cert.PleBwdKernelIdeal.nD Cert.PleBwdKernelIdeal.τ).loc Cert.PleBwdKernelIdeal.main_arg0) = m ((c.tc : Thread Cert.PleBwdKernelIdeal.nD Cert.PleBwdKernelIdeal.τ).loc Cert.PleBwdKernelIdeal.main_arg0)
      ∧ r.2.mem ((c.tc : Thread Cert.PleBwdKernelIdeal.nD Cert.PleBwdKernelIdeal.τ).loc Cert.PleBwdKernelIdeal.main_arg1) = m ((c.tc : Thread Cert.PleBwdKernelIdeal.nD Cert.PleBwdKernelIdeal.τ).loc Cert.PleBwdKernelIdeal.main_arg1)
      ∧ r.2.mem ((c.tc : Thread Cert.PleBwdKernelIdeal.nD Cert.PleBwdKernelIdeal.τ).loc Cert.PleBwdKernelIdeal.main_arg2) = m ((c.tc : Thread Cert.PleBwdKernelIdeal.nD Cert.PleBwdKernelIdeal.τ).loc Cert.PleBwdKernelIdeal.main_arg2))
      ∧ r.2.sem = fun _ => 0)

def quiescent_PleBwdReferenceIdeal [hPleBwdReferenceIdeal : Cert.PleBwdReferenceIdeal.Facts] : Prop :=
  ∀ (m : (ℓ : Loc Cert.PleBwdReferenceIdeal.nD Cert.PleBwdReferenceIdeal.τ Cert.PleBwdReferenceIdeal.sig) → Buf (Elt Ideal) ℓ) (g : Dev Cert.PleBwdReferenceIdeal.nD → PrngReg), Pre_PleBwdReferenceIdeal m →
    θ_run (Cert.PleBwdReferenceIdeal.defs (F := Ideal)) (onTc (τ := Cert.PleBwdReferenceIdeal.τ) (Cert.PleBwdReferenceIdeal.main (F := Ideal))) ⟨m, fun _ => 0, g⟩ (fun r => (∀ c : Dev Cert.PleBwdReferenceIdeal.nD,
      r.2.mem ((c.tc : Thread Cert.PleBwdReferenceIdeal.nD Cert.PleBwdReferenceIdeal.τ).loc Cert.PleBwdReferenceIdeal.main_arg0) = m ((c.tc : Thread Cert.PleBwdReferenceIdeal.nD Cert.PleBwdReferenceIdeal.τ).loc Cert.PleBwdReferenceIdeal.main_arg0)
      ∧ r.2.mem ((c.tc : Thread Cert.PleBwdReferenceIdeal.nD Cert.PleBwdReferenceIdeal.τ).loc Cert.PleBwdReferenceIdeal.main_arg1) = m ((c.tc : Thread Cert.PleBwdReferenceIdeal.nD Cert.PleBwdReferenceIdeal.τ).loc Cert.PleBwdReferenceIdeal.main_arg1)
      ∧ r.2.mem ((c.tc : Thread Cert.PleBwdReferenceIdeal.nD Cert.PleBwdReferenceIdeal.τ).loc Cert.PleBwdReferenceIdeal.main_arg2) = m ((c.tc : Thread Cert.PleBwdReferenceIdeal.nD Cert.PleBwdReferenceIdeal.τ).loc Cert.PleBwdReferenceIdeal.main_arg2))
      ∧ r.2.sem = fun _ => 0)

def quiescent_PleGateGradKernel [hPleGateGradKernel : Cert.PleGateGradKernel.Facts] : Prop :=
  ∀ (m : (ℓ : Loc Cert.PleGateGradKernel.nD Cert.PleGateGradKernel.τ Cert.PleGateGradKernel.sig) → Buf (Elt Bits) ℓ) (g : Dev Cert.PleGateGradKernel.nD → PrngReg), Pre_PleGateGradKernel m →
    θ_run (Cert.PleGateGradKernel.defs (F := Bits)) (onTc (τ := Cert.PleGateGradKernel.τ) (Cert.PleGateGradKernel.main (F := Bits))) ⟨m, fun _ => 0, g⟩ (fun r => (∀ c : Dev Cert.PleGateGradKernel.nD,
      r.2.mem ((c.tc : Thread Cert.PleGateGradKernel.nD Cert.PleGateGradKernel.τ).loc Cert.PleGateGradKernel.main_arg0) = m ((c.tc : Thread Cert.PleGateGradKernel.nD Cert.PleGateGradKernel.τ).loc Cert.PleGateGradKernel.main_arg0)
      ∧ r.2.mem ((c.tc : Thread Cert.PleGateGradKernel.nD Cert.PleGateGradKernel.τ).loc Cert.PleGateGradKernel.main_arg1) = m ((c.tc : Thread Cert.PleGateGradKernel.nD Cert.PleGateGradKernel.τ).loc Cert.PleGateGradKernel.main_arg1))
      ∧ r.2.sem = fun _ => 0)

def quiescent_PleGateGradKernelIdeal [hPleGateGradKernelIdeal : Cert.PleGateGradKernelIdeal.Facts] : Prop :=
  ∀ (m : (ℓ : Loc Cert.PleGateGradKernelIdeal.nD Cert.PleGateGradKernelIdeal.τ Cert.PleGateGradKernelIdeal.sig) → Buf (Elt Ideal) ℓ) (g : Dev Cert.PleGateGradKernelIdeal.nD → PrngReg), Pre_PleGateGradKernelIdeal m →
    θ_run (Cert.PleGateGradKernelIdeal.defs (F := Ideal)) (onTc (τ := Cert.PleGateGradKernelIdeal.τ) (Cert.PleGateGradKernelIdeal.main (F := Ideal))) ⟨m, fun _ => 0, g⟩ (fun r => (∀ c : Dev Cert.PleGateGradKernelIdeal.nD,
      r.2.mem ((c.tc : Thread Cert.PleGateGradKernelIdeal.nD Cert.PleGateGradKernelIdeal.τ).loc Cert.PleGateGradKernelIdeal.main_arg0) = m ((c.tc : Thread Cert.PleGateGradKernelIdeal.nD Cert.PleGateGradKernelIdeal.τ).loc Cert.PleGateGradKernelIdeal.main_arg0)
      ∧ r.2.mem ((c.tc : Thread Cert.PleGateGradKernelIdeal.nD Cert.PleGateGradKernelIdeal.τ).loc Cert.PleGateGradKernelIdeal.main_arg1) = m ((c.tc : Thread Cert.PleGateGradKernelIdeal.nD Cert.PleGateGradKernelIdeal.τ).loc Cert.PleGateGradKernelIdeal.main_arg1))
      ∧ r.2.sem = fun _ => 0)

def quiescent_PleGateGradReferenceIdeal [hPleGateGradReferenceIdeal : Cert.PleGateGradReferenceIdeal.Facts] : Prop :=
  ∀ (m : (ℓ : Loc Cert.PleGateGradReferenceIdeal.nD Cert.PleGateGradReferenceIdeal.τ Cert.PleGateGradReferenceIdeal.sig) → Buf (Elt Ideal) ℓ) (g : Dev Cert.PleGateGradReferenceIdeal.nD → PrngReg), Pre_PleGateGradReferenceIdeal m →
    θ_run (Cert.PleGateGradReferenceIdeal.defs (F := Ideal)) (onTc (τ := Cert.PleGateGradReferenceIdeal.τ) (Cert.PleGateGradReferenceIdeal.main (F := Ideal))) ⟨m, fun _ => 0, g⟩ (fun r => (∀ c : Dev Cert.PleGateGradReferenceIdeal.nD,
      r.2.mem ((c.tc : Thread Cert.PleGateGradReferenceIdeal.nD Cert.PleGateGradReferenceIdeal.τ).loc Cert.PleGateGradReferenceIdeal.main_arg0) = m ((c.tc : Thread Cert.PleGateGradReferenceIdeal.nD Cert.PleGateGradReferenceIdeal.τ).loc Cert.PleGateGradReferenceIdeal.main_arg0)
      ∧ r.2.mem ((c.tc : Thread Cert.PleGateGradReferenceIdeal.nD Cert.PleGateGradReferenceIdeal.τ).loc Cert.PleGateGradReferenceIdeal.main_arg1) = m ((c.tc : Thread Cert.PleGateGradReferenceIdeal.nD Cert.PleGateGradReferenceIdeal.τ).loc Cert.PleGateGradReferenceIdeal.main_arg1))
      ∧ r.2.sem = fun _ => 0)

def quiescent_PleXGradKernel [hPleXGradKernel : Cert.PleXGradKernel.Facts] : Prop :=
  ∀ (m : (ℓ : Loc Cert.PleXGradKernel.nD Cert.PleXGradKernel.τ Cert.PleXGradKernel.sig) → Buf (Elt Bits) ℓ) (g : Dev Cert.PleXGradKernel.nD → PrngReg), Pre_PleXGradKernel m →
    θ_run (Cert.PleXGradKernel.defs (F := Bits)) (onTc (τ := Cert.PleXGradKernel.τ) (Cert.PleXGradKernel.main (F := Bits))) ⟨m, fun _ => 0, g⟩ (fun r => (∀ c : Dev Cert.PleXGradKernel.nD,
      r.2.mem ((c.tc : Thread Cert.PleXGradKernel.nD Cert.PleXGradKernel.τ).loc Cert.PleXGradKernel.main_arg0) = m ((c.tc : Thread Cert.PleXGradKernel.nD Cert.PleXGradKernel.τ).loc Cert.PleXGradKernel.main_arg0)
      ∧ r.2.mem ((c.tc : Thread Cert.PleXGradKernel.nD Cert.PleXGradKernel.τ).loc Cert.PleXGradKernel.main_arg1) = m ((c.tc : Thread Cert.PleXGradKernel.nD Cert.PleXGradKernel.τ).loc Cert.PleXGradKernel.main_arg1)
      ∧ r.2.mem ((c.tc : Thread Cert.PleXGradKernel.nD Cert.PleXGradKernel.τ).loc Cert.PleXGradKernel.main_arg2) = m ((c.tc : Thread Cert.PleXGradKernel.nD Cert.PleXGradKernel.τ).loc Cert.PleXGradKernel.main_arg2))
      ∧ r.2.sem = fun _ => 0)

def quiescent_PleXGradKernelIdeal [hPleXGradKernelIdeal : Cert.PleXGradKernelIdeal.Facts] : Prop :=
  ∀ (m : (ℓ : Loc Cert.PleXGradKernelIdeal.nD Cert.PleXGradKernelIdeal.τ Cert.PleXGradKernelIdeal.sig) → Buf (Elt Ideal) ℓ) (g : Dev Cert.PleXGradKernelIdeal.nD → PrngReg), Pre_PleXGradKernelIdeal m →
    θ_run (Cert.PleXGradKernelIdeal.defs (F := Ideal)) (onTc (τ := Cert.PleXGradKernelIdeal.τ) (Cert.PleXGradKernelIdeal.main (F := Ideal))) ⟨m, fun _ => 0, g⟩ (fun r => (∀ c : Dev Cert.PleXGradKernelIdeal.nD,
      r.2.mem ((c.tc : Thread Cert.PleXGradKernelIdeal.nD Cert.PleXGradKernelIdeal.τ).loc Cert.PleXGradKernelIdeal.main_arg0) = m ((c.tc : Thread Cert.PleXGradKernelIdeal.nD Cert.PleXGradKernelIdeal.τ).loc Cert.PleXGradKernelIdeal.main_arg0)
      ∧ r.2.mem ((c.tc : Thread Cert.PleXGradKernelIdeal.nD Cert.PleXGradKernelIdeal.τ).loc Cert.PleXGradKernelIdeal.main_arg1) = m ((c.tc : Thread Cert.PleXGradKernelIdeal.nD Cert.PleXGradKernelIdeal.τ).loc Cert.PleXGradKernelIdeal.main_arg1)
      ∧ r.2.mem ((c.tc : Thread Cert.PleXGradKernelIdeal.nD Cert.PleXGradKernelIdeal.τ).loc Cert.PleXGradKernelIdeal.main_arg2) = m ((c.tc : Thread Cert.PleXGradKernelIdeal.nD Cert.PleXGradKernelIdeal.τ).loc Cert.PleXGradKernelIdeal.main_arg2))
      ∧ r.2.sem = fun _ => 0)

def quiescent_PleXGradReferenceIdeal [hPleXGradReferenceIdeal : Cert.PleXGradReferenceIdeal.Facts] : Prop :=
  ∀ (m : (ℓ : Loc Cert.PleXGradReferenceIdeal.nD Cert.PleXGradReferenceIdeal.τ Cert.PleXGradReferenceIdeal.sig) → Buf (Elt Ideal) ℓ) (g : Dev Cert.PleXGradReferenceIdeal.nD → PrngReg), Pre_PleXGradReferenceIdeal m →
    θ_run (Cert.PleXGradReferenceIdeal.defs (F := Ideal)) (onTc (τ := Cert.PleXGradReferenceIdeal.τ) (Cert.PleXGradReferenceIdeal.main (F := Ideal))) ⟨m, fun _ => 0, g⟩ (fun r => (∀ c : Dev Cert.PleXGradReferenceIdeal.nD,
      r.2.mem ((c.tc : Thread Cert.PleXGradReferenceIdeal.nD Cert.PleXGradReferenceIdeal.τ).loc Cert.PleXGradReferenceIdeal.main_arg0) = m ((c.tc : Thread Cert.PleXGradReferenceIdeal.nD Cert.PleXGradReferenceIdeal.τ).loc Cert.PleXGradReferenceIdeal.main_arg0)
      ∧ r.2.mem ((c.tc : Thread Cert.PleXGradReferenceIdeal.nD Cert.PleXGradReferenceIdeal.τ).loc Cert.PleXGradReferenceIdeal.main_arg1) = m ((c.tc : Thread Cert.PleXGradReferenceIdeal.nD Cert.PleXGradReferenceIdeal.τ).loc Cert.PleXGradReferenceIdeal.main_arg1)
      ∧ r.2.mem ((c.tc : Thread Cert.PleXGradReferenceIdeal.nD Cert.PleXGradReferenceIdeal.τ).loc Cert.PleXGradReferenceIdeal.main_arg2) = m ((c.tc : Thread Cert.PleXGradReferenceIdeal.nD Cert.PleXGradReferenceIdeal.τ).loc Cert.PleXGradReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_SwigluFwdKernel_SwigluFwdKernelIdeal : Prop :=
  True

def algebraic_SwigluFwdKernelIdeal_SwigluFwdReferenceIdeal [hSwigluFwdKernelIdeal : Cert.SwigluFwdKernelIdeal.Facts] [hSwigluFwdReferenceIdeal : Cert.SwigluFwdReferenceIdeal.Facts] : Prop :=
  ∀ (m : (ℓ : Loc Cert.SwigluFwdKernelIdeal.nD Cert.SwigluFwdKernelIdeal.τ Cert.SwigluFwdKernelIdeal.sig) → Buf (Elt Ideal) ℓ) (g : Dev Cert.SwigluFwdKernelIdeal.nD → PrngReg)
    (m' : (ℓ : Loc Cert.SwigluFwdReferenceIdeal.nD Cert.SwigluFwdReferenceIdeal.τ Cert.SwigluFwdReferenceIdeal.sig) → Buf (Elt Ideal) ℓ) (g' : Dev Cert.SwigluFwdReferenceIdeal.nD → PrngReg), Pre_SwigluFwdKernelIdeal m →
    (∀ c : Dev Cert.SwigluFwdKernelIdeal.nD,
      m' ((c.tc : Thread Cert.SwigluFwdReferenceIdeal.nD Cert.SwigluFwdReferenceIdeal.τ).loc Cert.SwigluFwdReferenceIdeal.main_arg0) = m ((c.tc : Thread Cert.SwigluFwdKernelIdeal.nD Cert.SwigluFwdKernelIdeal.τ).loc Cert.SwigluFwdKernelIdeal.main_arg0)
      ∧ m' ((c.tc : Thread Cert.SwigluFwdReferenceIdeal.nD Cert.SwigluFwdReferenceIdeal.τ).loc Cert.SwigluFwdReferenceIdeal.main_arg1) = m ((c.tc : Thread Cert.SwigluFwdKernelIdeal.nD Cert.SwigluFwdKernelIdeal.τ).loc Cert.SwigluFwdKernelIdeal.main_arg1)
      ∧ m' ((c.tc : Thread Cert.SwigluFwdReferenceIdeal.nD Cert.SwigluFwdReferenceIdeal.τ).loc Cert.SwigluFwdReferenceIdeal.main_arg2) = m ((c.tc : Thread Cert.SwigluFwdKernelIdeal.nD Cert.SwigluFwdKernelIdeal.τ).loc Cert.SwigluFwdKernelIdeal.main_arg2)
      ∧ m' ((c.tc : Thread Cert.SwigluFwdReferenceIdeal.nD Cert.SwigluFwdReferenceIdeal.τ).loc Cert.SwigluFwdReferenceIdeal.main_arg3) = m ((c.tc : Thread Cert.SwigluFwdKernelIdeal.nD Cert.SwigluFwdKernelIdeal.τ).loc Cert.SwigluFwdKernelIdeal.main_arg3)) →
    ∃ (v0 : (c : Dev Cert.SwigluFwdKernelIdeal.nD) → Buf (Elt Ideal) ((c.tc : Thread Cert.SwigluFwdKernelIdeal.nD Cert.SwigluFwdKernelIdeal.τ).loc Cert.SwigluFwdKernelIdeal.main_v0_0)) (v1 : (c : Dev Cert.SwigluFwdKernelIdeal.nD) → Buf (Elt Ideal) ((c.tc : Thread Cert.SwigluFwdKernelIdeal.nD Cert.SwigluFwdKernelIdeal.τ).loc Cert.SwigluFwdKernelIdeal.main_v0_1)) (v2 : (c : Dev Cert.SwigluFwdKernelIdeal.nD) → Buf (Elt Ideal) ((c.tc : Thread Cert.SwigluFwdKernelIdeal.nD Cert.SwigluFwdKernelIdeal.τ).loc Cert.SwigluFwdKernelIdeal.main_v0_2)) (v3 : (c : Dev Cert.SwigluFwdKernelIdeal.nD) → Buf (Elt Ideal) ((c.tc : Thread Cert.SwigluFwdKernelIdeal.nD Cert.SwigluFwdKernelIdeal.τ).loc Cert.SwigluFwdKernelIdeal.main_v0_3)),
      θ_run (Cert.SwigluFwdKernelIdeal.defs (F := Ideal)) (onTc (τ := Cert.SwigluFwdKernelIdeal.τ) (Cert.SwigluFwdKernelIdeal.main (F := Ideal))) ⟨m, fun _ => 0, g⟩ (fun r => ∀ c : Dev Cert.SwigluFwdKernelIdeal.nD,
          r.2.mem ((c.tc : Thread Cert.SwigluFwdKernelIdeal.nD Cert.SwigluFwdKernelIdeal.τ).loc Cert.SwigluFwdKernelIdeal.main_v0_0) = v0 c
          ∧ r.2.mem ((c.tc : Thread Cert.SwigluFwdKernelIdeal.nD Cert.SwigluFwdKernelIdeal.τ).loc Cert.SwigluFwdKernelIdeal.main_v0_1) = v1 c
          ∧ r.2.mem ((c.tc : Thread Cert.SwigluFwdKernelIdeal.nD Cert.SwigluFwdKernelIdeal.τ).loc Cert.SwigluFwdKernelIdeal.main_v0_2) = v2 c
          ∧ r.2.mem ((c.tc : Thread Cert.SwigluFwdKernelIdeal.nD Cert.SwigluFwdKernelIdeal.τ).loc Cert.SwigluFwdKernelIdeal.main_v0_3) = v3 c
          ∧ r.2.mem ((c.tc : Thread Cert.SwigluFwdKernelIdeal.nD Cert.SwigluFwdKernelIdeal.τ).loc Cert.SwigluFwdKernelIdeal.main_arg0) = m ((c.tc : Thread Cert.SwigluFwdKernelIdeal.nD Cert.SwigluFwdKernelIdeal.τ).loc Cert.SwigluFwdKernelIdeal.main_arg0)
          ∧ r.2.mem ((c.tc : Thread Cert.SwigluFwdKernelIdeal.nD Cert.SwigluFwdKernelIdeal.τ).loc Cert.SwigluFwdKernelIdeal.main_arg1) = m ((c.tc : Thread Cert.SwigluFwdKernelIdeal.nD Cert.SwigluFwdKernelIdeal.τ).loc Cert.SwigluFwdKernelIdeal.main_arg1)
          ∧ r.2.mem ((c.tc : Thread Cert.SwigluFwdKernelIdeal.nD Cert.SwigluFwdKernelIdeal.τ).loc Cert.SwigluFwdKernelIdeal.main_arg2) = m ((c.tc : Thread Cert.SwigluFwdKernelIdeal.nD Cert.SwigluFwdKernelIdeal.τ).loc Cert.SwigluFwdKernelIdeal.main_arg2)
          ∧ r.2.mem ((c.tc : Thread Cert.SwigluFwdKernelIdeal.nD Cert.SwigluFwdKernelIdeal.τ).loc Cert.SwigluFwdKernelIdeal.main_arg3) = m ((c.tc : Thread Cert.SwigluFwdKernelIdeal.nD Cert.SwigluFwdKernelIdeal.τ).loc Cert.SwigluFwdKernelIdeal.main_arg3))
      ∧ θ_run (Cert.SwigluFwdReferenceIdeal.defs (F := Ideal)) (onTc (τ := Cert.SwigluFwdReferenceIdeal.τ) (Cert.SwigluFwdReferenceIdeal.main (F := Ideal))) ⟨m', fun _ => 0, g'⟩ (fun r => ∀ c : Dev Cert.SwigluFwdReferenceIdeal.nD,
          r.2.mem ((c.tc : Thread Cert.SwigluFwdReferenceIdeal.nD Cert.SwigluFwdReferenceIdeal.τ).loc Cert.SwigluFwdReferenceIdeal.main_v18) = v0 c
          ∧ r.2.mem ((c.tc : Thread Cert.SwigluFwdReferenceIdeal.nD Cert.SwigluFwdReferenceIdeal.τ).loc Cert.SwigluFwdReferenceIdeal.main_v19) = v1 c
          ∧ r.2.mem ((c.tc : Thread Cert.SwigluFwdReferenceIdeal.nD Cert.SwigluFwdReferenceIdeal.τ).loc Cert.SwigluFwdReferenceIdeal.main_v20) = v2 c
          ∧ r.2.mem ((c.tc : Thread Cert.SwigluFwdReferenceIdeal.nD Cert.SwigluFwdReferenceIdeal.τ).loc Cert.SwigluFwdReferenceIdeal.main_v21) = v3 c
          ∧ r.2.mem ((c.tc : Thread Cert.SwigluFwdReferenceIdeal.nD Cert.SwigluFwdReferenceIdeal.τ).loc Cert.SwigluFwdReferenceIdeal.main_arg0) = m' ((c.tc : Thread Cert.SwigluFwdReferenceIdeal.nD Cert.SwigluFwdReferenceIdeal.τ).loc Cert.SwigluFwdReferenceIdeal.main_arg0)
          ∧ r.2.mem ((c.tc : Thread Cert.SwigluFwdReferenceIdeal.nD Cert.SwigluFwdReferenceIdeal.τ).loc Cert.SwigluFwdReferenceIdeal.main_arg1) = m' ((c.tc : Thread Cert.SwigluFwdReferenceIdeal.nD Cert.SwigluFwdReferenceIdeal.τ).loc Cert.SwigluFwdReferenceIdeal.main_arg1)
          ∧ r.2.mem ((c.tc : Thread Cert.SwigluFwdReferenceIdeal.nD Cert.SwigluFwdReferenceIdeal.τ).loc Cert.SwigluFwdReferenceIdeal.main_arg2) = m' ((c.tc : Thread Cert.SwigluFwdReferenceIdeal.nD Cert.SwigluFwdReferenceIdeal.τ).loc Cert.SwigluFwdReferenceIdeal.main_arg2)
          ∧ r.2.mem ((c.tc : Thread Cert.SwigluFwdReferenceIdeal.nD Cert.SwigluFwdReferenceIdeal.τ).loc Cert.SwigluFwdReferenceIdeal.main_arg3) = m' ((c.tc : Thread Cert.SwigluFwdReferenceIdeal.nD Cert.SwigluFwdReferenceIdeal.τ).loc Cert.SwigluFwdReferenceIdeal.main_arg3))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_DownGradKernel_DownGradKernelIdeal : Prop :=
  True

def algebraic_DownGradKernelIdeal_DownGradReferenceIdeal [hDownGradKernelIdeal : Cert.DownGradKernelIdeal.Facts] [hDownGradReferenceIdeal : Cert.DownGradReferenceIdeal.Facts] : Prop :=
  ∀ (m : (ℓ : Loc Cert.DownGradKernelIdeal.nD Cert.DownGradKernelIdeal.τ Cert.DownGradKernelIdeal.sig) → Buf (Elt Ideal) ℓ) (g : Dev Cert.DownGradKernelIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradKernelIdeal m →
    (∀ c : Dev Cert.DownGradKernelIdeal.nD,
      m' ((c.tc : Thread Cert.DownGradReferenceIdeal.nD Cert.DownGradReferenceIdeal.τ).loc Cert.DownGradReferenceIdeal.main_arg0) = m ((c.tc : Thread Cert.DownGradKernelIdeal.nD Cert.DownGradKernelIdeal.τ).loc Cert.DownGradKernelIdeal.main_arg0)
      ∧ m' ((c.tc : Thread Cert.DownGradReferenceIdeal.nD Cert.DownGradReferenceIdeal.τ).loc Cert.DownGradReferenceIdeal.main_arg1) = m ((c.tc : Thread Cert.DownGradKernelIdeal.nD Cert.DownGradKernelIdeal.τ).loc Cert.DownGradKernelIdeal.main_arg1)) →
    ∃ (v0 : (c : Dev Cert.DownGradKernelIdeal.nD) → Buf (Elt Ideal) ((c.tc : Thread Cert.DownGradKernelIdeal.nD Cert.DownGradKernelIdeal.τ).loc Cert.DownGradKernelIdeal.main_v0)),
      θ_run (Cert.DownGradKernelIdeal.defs (F := Ideal)) (onTc (τ := Cert.DownGradKernelIdeal.τ) (Cert.DownGradKernelIdeal.main (F := Ideal))) ⟨m, fun _ => 0, g⟩ (fun r => ∀ c : Dev Cert.DownGradKernelIdeal.nD,
          r.2.mem ((c.tc : Thread Cert.DownGradKernelIdeal.nD Cert.DownGradKernelIdeal.τ).loc Cert.DownGradKernelIdeal.main_v0) = v0 c
          ∧ r.2.mem ((c.tc : Thread Cert.DownGradKernelIdeal.nD Cert.DownGradKernelIdeal.τ).loc Cert.DownGradKernelIdeal.main_arg0) = m ((c.tc : Thread Cert.DownGradKernelIdeal.nD Cert.DownGradKernelIdeal.τ).loc Cert.DownGradKernelIdeal.main_arg0)
          ∧ r.2.mem ((c.tc : Thread Cert.DownGradKernelIdeal.nD Cert.DownGradKernelIdeal.τ).loc Cert.DownGradKernelIdeal.main_arg1) = m ((c.tc : Thread Cert.DownGradKernelIdeal.nD Cert.DownGradKernelIdeal.τ).loc Cert.DownGradKernelIdeal.main_arg1))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v5) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1))

def preserves_SwigluBwdKernel_SwigluBwdKernelIdeal : Prop :=
  True

def algebraic_SwigluBwdKernelIdeal_SwigluBwdReferenceIdeal_pre_swiglu_finite [hSwigluBwdKernelIdeal : Cert.SwigluBwdKernelIdeal.Facts] [hSwigluBwdReferenceIdeal : Cert.SwigluBwdReferenceIdeal.Facts] [hPre_swiglu_finite : Cert.Pre_swiglu_finite.Facts] : Prop :=
  ∀ (m : (ℓ : Loc Cert.SwigluBwdKernelIdeal.nD Cert.SwigluBwdKernelIdeal.τ Cert.SwigluBwdKernelIdeal.sig) → Buf (Elt Ideal) ℓ) (g : Dev Cert.SwigluBwdKernelIdeal.nD → PrngReg)
    (m' : (ℓ : Loc Cert.SwigluBwdReferenceIdeal.nD Cert.SwigluBwdReferenceIdeal.τ Cert.SwigluBwdReferenceIdeal.sig) → Buf (Elt Ideal) ℓ) (g' : Dev Cert.SwigluBwdReferenceIdeal.nD → PrngReg), Pre_SwigluBwdKernelIdeal_swiglu_finite m →
    (∀ c : Dev Cert.SwigluBwdKernelIdeal.nD,
      m' ((c.tc : Thread Cert.SwigluBwdReferenceIdeal.nD Cert.SwigluBwdReferenceIdeal.τ).loc Cert.SwigluBwdReferenceIdeal.main_arg0) = m ((c.tc : Thread Cert.SwigluBwdKernelIdeal.nD Cert.SwigluBwdKernelIdeal.τ).loc Cert.SwigluBwdKernelIdeal.main_arg0)
      ∧ m' ((c.tc : Thread Cert.SwigluBwdReferenceIdeal.nD Cert.SwigluBwdReferenceIdeal.τ).loc Cert.SwigluBwdReferenceIdeal.main_arg1) = m ((c.tc : Thread Cert.SwigluBwdKernelIdeal.nD Cert.SwigluBwdKernelIdeal.τ).loc Cert.SwigluBwdKernelIdeal.main_arg1)
      ∧ m' ((c.tc : Thread Cert.SwigluBwdReferenceIdeal.nD Cert.SwigluBwdReferenceIdeal.τ).loc Cert.SwigluBwdReferenceIdeal.main_arg2) = m ((c.tc : Thread Cert.SwigluBwdKernelIdeal.nD Cert.SwigluBwdKernelIdeal.τ).loc Cert.SwigluBwdKernelIdeal.main_arg2)
      ∧ m' ((c.tc : Thread Cert.SwigluBwdReferenceIdeal.nD Cert.SwigluBwdReferenceIdeal.τ).loc Cert.SwigluBwdReferenceIdeal.main_arg3) = m ((c.tc : Thread Cert.SwigluBwdKernelIdeal.nD Cert.SwigluBwdKernelIdeal.τ).loc Cert.SwigluBwdKernelIdeal.main_arg3)) →
    ∃ (v0 : (c : Dev Cert.SwigluBwdKernelIdeal.nD) → Buf (Elt Ideal) ((c.tc : Thread Cert.SwigluBwdKernelIdeal.nD Cert.SwigluBwdKernelIdeal.τ).loc Cert.SwigluBwdKernelIdeal.main_v0_0)) (v1 : (c : Dev Cert.SwigluBwdKernelIdeal.nD) → Buf (Elt Ideal) ((c.tc : Thread Cert.SwigluBwdKernelIdeal.nD Cert.SwigluBwdKernelIdeal.τ).loc Cert.SwigluBwdKernelIdeal.main_v0_1)),
      θ_run (Cert.SwigluBwdKernelIdeal.defs (F := Ideal)) (onTc (τ := Cert.SwigluBwdKernelIdeal.τ) (Cert.SwigluBwdKernelIdeal.main (F := Ideal))) ⟨m, fun _ => 0, g⟩ (fun r => ∀ c : Dev Cert.SwigluBwdKernelIdeal.nD,
          r.2.mem ((c.tc : Thread Cert.SwigluBwdKernelIdeal.nD Cert.SwigluBwdKernelIdeal.τ).loc Cert.SwigluBwdKernelIdeal.main_v0_0) = v0 c
          ∧ r.2.mem ((c.tc : Thread Cert.SwigluBwdKernelIdeal.nD Cert.SwigluBwdKernelIdeal.τ).loc Cert.SwigluBwdKernelIdeal.main_v0_1) = v1 c
          ∧ r.2.mem ((c.tc : Thread Cert.SwigluBwdKernelIdeal.nD Cert.SwigluBwdKernelIdeal.τ).loc Cert.SwigluBwdKernelIdeal.main_arg0) = m ((c.tc : Thread Cert.SwigluBwdKernelIdeal.nD Cert.SwigluBwdKernelIdeal.τ).loc Cert.SwigluBwdKernelIdeal.main_arg0)
          ∧ r.2.mem ((c.tc : Thread Cert.SwigluBwdKernelIdeal.nD Cert.SwigluBwdKernelIdeal.τ).loc Cert.SwigluBwdKernelIdeal.main_arg1) = m ((c.tc : Thread Cert.SwigluBwdKernelIdeal.nD Cert.SwigluBwdKernelIdeal.τ).loc Cert.SwigluBwdKernelIdeal.main_arg1)
          ∧ r.2.mem ((c.tc : Thread Cert.SwigluBwdKernelIdeal.nD Cert.SwigluBwdKernelIdeal.τ).loc Cert.SwigluBwdKernelIdeal.main_arg2) = m ((c.tc : Thread Cert.SwigluBwdKernelIdeal.nD Cert.SwigluBwdKernelIdeal.τ).loc Cert.SwigluBwdKernelIdeal.main_arg2)
          ∧ r.2.mem ((c.tc : Thread Cert.SwigluBwdKernelIdeal.nD Cert.SwigluBwdKernelIdeal.τ).loc Cert.SwigluBwdKernelIdeal.main_arg3) = m ((c.tc : Thread Cert.SwigluBwdKernelIdeal.nD Cert.SwigluBwdKernelIdeal.τ).loc Cert.SwigluBwdKernelIdeal.main_arg3))
      ∧ θ_run (Cert.SwigluBwdReferenceIdeal.defs (F := Ideal)) (onTc (τ := Cert.SwigluBwdReferenceIdeal.τ) (Cert.SwigluBwdReferenceIdeal.main (F := Ideal))) ⟨m', fun _ => 0, g'⟩ (fun r => ∀ c : Dev Cert.SwigluBwdReferenceIdeal.nD,
          r.2.mem ((c.tc : Thread Cert.SwigluBwdReferenceIdeal.nD Cert.SwigluBwdReferenceIdeal.τ).loc Cert.SwigluBwdReferenceIdeal.main_v10) = v0 c
          ∧ r.2.mem ((c.tc : Thread Cert.SwigluBwdReferenceIdeal.nD Cert.SwigluBwdReferenceIdeal.τ).loc Cert.SwigluBwdReferenceIdeal.main_v11) = v1 c
          ∧ r.2.mem ((c.tc : Thread Cert.SwigluBwdReferenceIdeal.nD Cert.SwigluBwdReferenceIdeal.τ).loc Cert.SwigluBwdReferenceIdeal.main_arg0) = m' ((c.tc : Thread Cert.SwigluBwdReferenceIdeal.nD Cert.SwigluBwdReferenceIdeal.τ).loc Cert.SwigluBwdReferenceIdeal.main_arg0)
          ∧ r.2.mem ((c.tc : Thread Cert.SwigluBwdReferenceIdeal.nD Cert.SwigluBwdReferenceIdeal.τ).loc Cert.SwigluBwdReferenceIdeal.main_arg1) = m' ((c.tc : Thread Cert.SwigluBwdReferenceIdeal.nD Cert.SwigluBwdReferenceIdeal.τ).loc Cert.SwigluBwdReferenceIdeal.main_arg1)
          ∧ r.2.mem ((c.tc : Thread Cert.SwigluBwdReferenceIdeal.nD Cert.SwigluBwdReferenceIdeal.τ).loc Cert.SwigluBwdReferenceIdeal.main_arg2) = m' ((c.tc : Thread Cert.SwigluBwdReferenceIdeal.nD Cert.SwigluBwdReferenceIdeal.τ).loc Cert.SwigluBwdReferenceIdeal.main_arg2)
          ∧ r.2.mem ((c.tc : Thread Cert.SwigluBwdReferenceIdeal.nD Cert.SwigluBwdReferenceIdeal.τ).loc Cert.SwigluBwdReferenceIdeal.main_arg3) = m' ((c.tc : Thread Cert.SwigluBwdReferenceIdeal.nD Cert.SwigluBwdReferenceIdeal.τ).loc Cert.SwigluBwdReferenceIdeal.main_arg3))

def preserves_GateGradKernel_GateGradKernelIdeal : Prop :=
  True

def algebraic_GateGradKernelIdeal_GateGradReferenceIdeal [hGateGradKernelIdeal : Cert.GateGradKernelIdeal.Facts] [hGateGradReferenceIdeal : Cert.GateGradReferenceIdeal.Facts] : Prop :=
  ∀ (m : (ℓ : Loc Cert.GateGradKernelIdeal.nD Cert.GateGradKernelIdeal.τ Cert.GateGradKernelIdeal.sig) → Buf (Elt Ideal) ℓ) (g : Dev Cert.GateGradKernelIdeal.nD → PrngReg)
    (m' : (ℓ : Loc Cert.GateGradReferenceIdeal.nD Cert.GateGradReferenceIdeal.τ Cert.GateGradReferenceIdeal.sig) → Buf (Elt Ideal) ℓ) (g' : Dev Cert.GateGradReferenceIdeal.nD → PrngReg), Pre_GateGradKernelIdeal m →
    (∀ c : Dev Cert.GateGradKernelIdeal.nD,
      m' ((c.tc : Thread Cert.GateGradReferenceIdeal.nD Cert.GateGradReferenceIdeal.τ).loc Cert.GateGradReferenceIdeal.main_arg0) = m ((c.tc : Thread Cert.GateGradKernelIdeal.nD Cert.GateGradKernelIdeal.τ).loc Cert.GateGradKernelIdeal.main_arg0)
      ∧ m' ((c.tc : Thread Cert.GateGradReferenceIdeal.nD Cert.GateGradReferenceIdeal.τ).loc Cert.GateGradReferenceIdeal.main_arg1) = m ((c.tc : Thread Cert.GateGradKernelIdeal.nD Cert.GateGradKernelIdeal.τ).loc Cert.GateGradKernelIdeal.main_arg1)) →
    ∃ (v0 : (c : Dev Cert.GateGradKernelIdeal.nD) → Buf (Elt Ideal) ((c.tc : Thread Cert.GateGradKernelIdeal.nD Cert.GateGradKernelIdeal.τ).loc Cert.GateGradKernelIdeal.main_v0)),
      θ_run (Cert.GateGradKernelIdeal.defs (F := Ideal)) (onTc (τ := Cert.GateGradKernelIdeal.τ) (Cert.GateGradKernelIdeal.main (F := Ideal))) ⟨m, fun _ => 0, g⟩ (fun r => ∀ c : Dev Cert.GateGradKernelIdeal.nD,
          r.2.mem ((c.tc : Thread Cert.GateGradKernelIdeal.nD Cert.GateGradKernelIdeal.τ).loc Cert.GateGradKernelIdeal.main_v0) = v0 c
          ∧ r.2.mem ((c.tc : Thread Cert.GateGradKernelIdeal.nD Cert.GateGradKernelIdeal.τ).loc Cert.GateGradKernelIdeal.main_arg0) = m ((c.tc : Thread Cert.GateGradKernelIdeal.nD Cert.GateGradKernelIdeal.τ).loc Cert.GateGradKernelIdeal.main_arg0)
          ∧ r.2.mem ((c.tc : Thread Cert.GateGradKernelIdeal.nD Cert.GateGradKernelIdeal.τ).loc Cert.GateGradKernelIdeal.main_arg1) = m ((c.tc : Thread Cert.GateGradKernelIdeal.nD Cert.GateGradKernelIdeal.τ).loc Cert.GateGradKernelIdeal.main_arg1))
      ∧ θ_run (Cert.GateGradReferenceIdeal.defs (F := Ideal)) (onTc (τ := Cert.GateGradReferenceIdeal.τ) (Cert.GateGradReferenceIdeal.main (F := Ideal))) ⟨m', fun _ => 0, g'⟩ (fun r => ∀ c : Dev Cert.GateGradReferenceIdeal.nD,
          r.2.mem ((c.tc : Thread Cert.GateGradReferenceIdeal.nD Cert.GateGradReferenceIdeal.τ).loc Cert.GateGradReferenceIdeal.main_v5) = v0 c
          ∧ r.2.mem ((c.tc : Thread Cert.GateGradReferenceIdeal.nD Cert.GateGradReferenceIdeal.τ).loc Cert.GateGradReferenceIdeal.main_arg0) = m' ((c.tc : Thread Cert.GateGradReferenceIdeal.nD Cert.GateGradReferenceIdeal.τ).loc Cert.GateGradReferenceIdeal.main_arg0)
          ∧ r.2.mem ((c.tc : Thread Cert.GateGradReferenceIdeal.nD Cert.GateGradReferenceIdeal.τ).loc Cert.GateGradReferenceIdeal.main_arg1) = m' ((c.tc : Thread Cert.GateGradReferenceIdeal.nD Cert.GateGradReferenceIdeal.τ).loc Cert.GateGradReferenceIdeal.main_arg1))

def preserves_Norm2GradKernel_Norm2GradKernelIdeal : Prop :=
  True

def algebraic_Norm2GradKernelIdeal_Norm2GradReferenceIdeal [hNorm2GradKernelIdeal : Cert.Norm2GradKernelIdeal.Facts] [hNorm2GradReferenceIdeal : Cert.Norm2GradReferenceIdeal.Facts] : Prop :=
  ∀ (m : (ℓ : Loc Cert.Norm2GradKernelIdeal.nD Cert.Norm2GradKernelIdeal.τ Cert.Norm2GradKernelIdeal.sig) → Buf (Elt Ideal) ℓ) (g : Dev Cert.Norm2GradKernelIdeal.nD → PrngReg)
    (m' : (ℓ : Loc Cert.Norm2GradReferenceIdeal.nD Cert.Norm2GradReferenceIdeal.τ Cert.Norm2GradReferenceIdeal.sig) → Buf (Elt Ideal) ℓ) (g' : Dev Cert.Norm2GradReferenceIdeal.nD → PrngReg), Pre_Norm2GradKernelIdeal m →
    (∀ c : Dev Cert.Norm2GradKernelIdeal.nD,
      m' ((c.tc : Thread Cert.Norm2GradReferenceIdeal.nD Cert.Norm2GradReferenceIdeal.τ).loc Cert.Norm2GradReferenceIdeal.main_arg0) = m ((c.tc : Thread Cert.Norm2GradKernelIdeal.nD Cert.Norm2GradKernelIdeal.τ).loc Cert.Norm2GradKernelIdeal.main_arg0)
      ∧ m' ((c.tc : Thread Cert.Norm2GradReferenceIdeal.nD Cert.Norm2GradReferenceIdeal.τ).loc Cert.Norm2GradReferenceIdeal.main_arg1) = m ((c.tc : Thread Cert.Norm2GradKernelIdeal.nD Cert.Norm2GradKernelIdeal.τ).loc Cert.Norm2GradKernelIdeal.main_arg1)
      ∧ m' ((c.tc : Thread Cert.Norm2GradReferenceIdeal.nD Cert.Norm2GradReferenceIdeal.τ).loc Cert.Norm2GradReferenceIdeal.main_arg2) = m ((c.tc : Thread Cert.Norm2GradKernelIdeal.nD Cert.Norm2GradKernelIdeal.τ).loc Cert.Norm2GradKernelIdeal.main_arg2)
      ∧ m' ((c.tc : Thread Cert.Norm2GradReferenceIdeal.nD Cert.Norm2GradReferenceIdeal.τ).loc Cert.Norm2GradReferenceIdeal.main_arg3) = m ((c.tc : Thread Cert.Norm2GradKernelIdeal.nD Cert.Norm2GradKernelIdeal.τ).loc Cert.Norm2GradKernelIdeal.main_arg3)
      ∧ m' ((c.tc : Thread Cert.Norm2GradReferenceIdeal.nD Cert.Norm2GradReferenceIdeal.τ).loc Cert.Norm2GradReferenceIdeal.main_arg4) = m ((c.tc : Thread Cert.Norm2GradKernelIdeal.nD Cert.Norm2GradKernelIdeal.τ).loc Cert.Norm2GradKernelIdeal.main_arg4)
      ∧ m' ((c.tc : Thread Cert.Norm2GradReferenceIdeal.nD Cert.Norm2GradReferenceIdeal.τ).loc Cert.Norm2GradReferenceIdeal.main_arg5) = m ((c.tc : Thread Cert.Norm2GradKernelIdeal.nD Cert.Norm2GradKernelIdeal.τ).loc Cert.Norm2GradKernelIdeal.main_arg5)
      ∧ m' ((c.tc : Thread Cert.Norm2GradReferenceIdeal.nD Cert.Norm2GradReferenceIdeal.τ).loc Cert.Norm2GradReferenceIdeal.main_arg6) = m ((c.tc : Thread Cert.Norm2GradKernelIdeal.nD Cert.Norm2GradKernelIdeal.τ).loc Cert.Norm2GradKernelIdeal.main_arg6)) →
    ∃ (v0 : (c : Dev Cert.Norm2GradKernelIdeal.nD) → Buf (Elt Ideal) ((c.tc : Thread Cert.Norm2GradKernelIdeal.nD Cert.Norm2GradKernelIdeal.τ).loc Cert.Norm2GradKernelIdeal.main_v0_0)) (v1 : (c : Dev Cert.Norm2GradKernelIdeal.nD) → Buf (Elt Ideal) ((c.tc : Thread Cert.Norm2GradKernelIdeal.nD Cert.Norm2GradKernelIdeal.τ).loc Cert.Norm2GradKernelIdeal.main_v0_1)),
      θ_run (Cert.Norm2GradKernelIdeal.defs (F := Ideal)) (onTc (τ := Cert.Norm2GradKernelIdeal.τ) (Cert.Norm2GradKernelIdeal.main (F := Ideal))) ⟨m, fun _ => 0, g⟩ (fun r => ∀ c : Dev Cert.Norm2GradKernelIdeal.nD,
          r.2.mem ((c.tc : Thread Cert.Norm2GradKernelIdeal.nD Cert.Norm2GradKernelIdeal.τ).loc Cert.Norm2GradKernelIdeal.main_v0_0) = v0 c
          ∧ r.2.mem ((c.tc : Thread Cert.Norm2GradKernelIdeal.nD Cert.Norm2GradKernelIdeal.τ).loc Cert.Norm2GradKernelIdeal.main_v0_1) = v1 c
          ∧ r.2.mem ((c.tc : Thread Cert.Norm2GradKernelIdeal.nD Cert.Norm2GradKernelIdeal.τ).loc Cert.Norm2GradKernelIdeal.main_arg0) = m ((c.tc : Thread Cert.Norm2GradKernelIdeal.nD Cert.Norm2GradKernelIdeal.τ).loc Cert.Norm2GradKernelIdeal.main_arg0)
          ∧ r.2.mem ((c.tc : Thread Cert.Norm2GradKernelIdeal.nD Cert.Norm2GradKernelIdeal.τ).loc Cert.Norm2GradKernelIdeal.main_arg1) = m ((c.tc : Thread Cert.Norm2GradKernelIdeal.nD Cert.Norm2GradKernelIdeal.τ).loc Cert.Norm2GradKernelIdeal.main_arg1)
          ∧ r.2.mem ((c.tc : Thread Cert.Norm2GradKernelIdeal.nD Cert.Norm2GradKernelIdeal.τ).loc Cert.Norm2GradKernelIdeal.main_arg2) = m ((c.tc : Thread Cert.Norm2GradKernelIdeal.nD Cert.Norm2GradKernelIdeal.τ).loc Cert.Norm2GradKernelIdeal.main_arg2)
          ∧ r.2.mem ((c.tc : Thread Cert.Norm2GradKernelIdeal.nD Cert.Norm2GradKernelIdeal.τ).loc Cert.Norm2GradKernelIdeal.main_arg3) = m ((c.tc : Thread Cert.Norm2GradKernelIdeal.nD Cert.Norm2GradKernelIdeal.τ).loc Cert.Norm2GradKernelIdeal.main_arg3)
          ∧ r.2.mem ((c.tc : Thread Cert.Norm2GradKernelIdeal.nD Cert.Norm2GradKernelIdeal.τ).loc Cert.Norm2GradKernelIdeal.main_arg4) = m ((c.tc : Thread Cert.Norm2GradKernelIdeal.nD Cert.Norm2GradKernelIdeal.τ).loc Cert.Norm2GradKernelIdeal.main_arg4)
          ∧ r.2.mem ((c.tc : Thread Cert.Norm2GradKernelIdeal.nD Cert.Norm2GradKernelIdeal.τ).loc Cert.Norm2GradKernelIdeal.main_arg5) = m ((c.tc : Thread Cert.Norm2GradKernelIdeal.nD Cert.Norm2GradKernelIdeal.τ).loc Cert.Norm2GradKernelIdeal.main_arg5)
          ∧ r.2.mem ((c.tc : Thread Cert.Norm2GradKernelIdeal.nD Cert.Norm2GradKernelIdeal.τ).loc Cert.Norm2GradKernelIdeal.main_arg6) = m ((c.tc : Thread Cert.Norm2GradKernelIdeal.nD Cert.Norm2GradKernelIdeal.τ).loc Cert.Norm2GradKernelIdeal.main_arg6))
      ∧ θ_run (Cert.Norm2GradReferenceIdeal.defs (F := Ideal)) (onTc (τ := Cert.Norm2GradReferenceIdeal.τ) (Cert.Norm2GradReferenceIdeal.main (F := Ideal))) ⟨m', fun _ => 0, g'⟩ (fun r => ∀ c : Dev Cert.Norm2GradReferenceIdeal.nD,
          r.2.mem ((c.tc : Thread Cert.Norm2GradReferenceIdeal.nD Cert.Norm2GradReferenceIdeal.τ).loc Cert.Norm2GradReferenceIdeal.main_v43) = v0 c
          ∧ r.2.mem ((c.tc : Thread Cert.Norm2GradReferenceIdeal.nD Cert.Norm2GradReferenceIdeal.τ).loc Cert.Norm2GradReferenceIdeal.main_v26) = v1 c
          ∧ r.2.mem ((c.tc : Thread Cert.Norm2GradReferenceIdeal.nD Cert.Norm2GradReferenceIdeal.τ).loc Cert.Norm2GradReferenceIdeal.main_arg0) = m' ((c.tc : Thread Cert.Norm2GradReferenceIdeal.nD Cert.Norm2GradReferenceIdeal.τ).loc Cert.Norm2GradReferenceIdeal.main_arg0)
          ∧ r.2.mem ((c.tc : Thread Cert.Norm2GradReferenceIdeal.nD Cert.Norm2GradReferenceIdeal.τ).loc Cert.Norm2GradReferenceIdeal.main_arg1) = m' ((c.tc : Thread Cert.Norm2GradReferenceIdeal.nD Cert.Norm2GradReferenceIdeal.τ).loc Cert.Norm2GradReferenceIdeal.main_arg1)
          ∧ r.2.mem ((c.tc : Thread Cert.Norm2GradReferenceIdeal.nD Cert.Norm2GradReferenceIdeal.τ).loc Cert.Norm2GradReferenceIdeal.main_arg2) = m' ((c.tc : Thread Cert.Norm2GradReferenceIdeal.nD Cert.Norm2GradReferenceIdeal.τ).loc Cert.Norm2GradReferenceIdeal.main_arg2)
          ∧ r.2.mem ((c.tc : Thread Cert.Norm2GradReferenceIdeal.nD Cert.Norm2GradReferenceIdeal.τ).loc Cert.Norm2GradReferenceIdeal.main_arg3) = m' ((c.tc : Thread Cert.Norm2GradReferenceIdeal.nD Cert.Norm2GradReferenceIdeal.τ).loc Cert.Norm2GradReferenceIdeal.main_arg3)
          ∧ r.2.mem ((c.tc : Thread Cert.Norm2GradReferenceIdeal.nD Cert.Norm2GradReferenceIdeal.τ).loc Cert.Norm2GradReferenceIdeal.main_arg4) = m' ((c.tc : Thread Cert.Norm2GradReferenceIdeal.nD Cert.Norm2GradReferenceIdeal.τ).loc Cert.Norm2GradReferenceIdeal.main_arg4)
          ∧ r.2.mem ((c.tc : Thread Cert.Norm2GradReferenceIdeal.nD Cert.Norm2GradReferenceIdeal.τ).loc Cert.Norm2GradReferenceIdeal.main_arg5) = m' ((c.tc : Thread Cert.Norm2GradReferenceIdeal.nD Cert.Norm2GradReferenceIdeal.τ).loc Cert.Norm2GradReferenceIdeal.main_arg5)
          ∧ r.2.mem ((c.tc : Thread Cert.Norm2GradReferenceIdeal.nD Cert.Norm2GradReferenceIdeal.τ).loc Cert.Norm2GradReferenceIdeal.main_arg6) = m' ((c.tc : Thread Cert.Norm2GradReferenceIdeal.nD Cert.Norm2GradReferenceIdeal.τ).loc Cert.Norm2GradReferenceIdeal.main_arg6))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v0_0)) (v1 : (c : Dev Cert.InKernelIdeal.nD) → Buf (Elt Ideal) ((c.tc : Thread Cert.InKernelIdeal.nD Cert.InKernelIdeal.τ).loc Cert.InKernelIdeal.main_v0_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0_0) = v0 c
          ∧ r.2.mem ((c.tc : Thread Cert.InKernelIdeal.nD Cert.InKernelIdeal.τ).loc Cert.InKernelIdeal.main_v0_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v13) = v0 c
          ∧ r.2.mem ((c.tc : Thread Cert.InReferenceIdeal.nD Cert.InReferenceIdeal.τ).loc Cert.InReferenceIdeal.main_v14) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_InGradKernel_InGradKernelIdeal : Prop :=
  True

def algebraic_InGradKernelIdeal_InGradReferenceIdeal [hInGradKernelIdeal : Cert.InGradKernelIdeal.Facts] [hInGradReferenceIdeal : Cert.InGradReferenceIdeal.Facts] : Prop :=
  ∀ (m : (ℓ : Loc Cert.InGradKernelIdeal.nD Cert.InGradKernelIdeal.τ Cert.InGradKernelIdeal.sig) → Buf (Elt Ideal) ℓ) (g : Dev Cert.InGradKernelIdeal.nD → PrngReg)
    (m' : (ℓ : Loc Cert.InGradReferenceIdeal.nD Cert.InGradReferenceIdeal.τ Cert.InGradReferenceIdeal.sig) → Buf (Elt Ideal) ℓ) (g' : Dev Cert.InGradReferenceIdeal.nD → PrngReg), Pre_InGradKernelIdeal m →
    (∀ c : Dev Cert.InGradKernelIdeal.nD,
      m' ((c.tc : Thread Cert.InGradReferenceIdeal.nD Cert.InGradReferenceIdeal.τ).loc Cert.InGradReferenceIdeal.main_arg0) = m ((c.tc : Thread Cert.InGradKernelIdeal.nD Cert.InGradKernelIdeal.τ).loc Cert.InGradKernelIdeal.main_arg0)
      ∧ m' ((c.tc : Thread Cert.InGradReferenceIdeal.nD Cert.InGradReferenceIdeal.τ).loc Cert.InGradReferenceIdeal.main_arg1) = m ((c.tc : Thread Cert.InGradKernelIdeal.nD Cert.InGradKernelIdeal.τ).loc Cert.InGradKernelIdeal.main_arg1)) →
    ∃ (v0 : (c : Dev Cert.InGradKernelIdeal.nD) → Buf (Elt Ideal) ((c.tc : Thread Cert.InGradKernelIdeal.nD Cert.InGradKernelIdeal.τ).loc Cert.InGradKernelIdeal.main_v0)),
      θ_run (Cert.InGradKernelIdeal.defs (F := Ideal)) (onTc (τ := Cert.InGradKernelIdeal.τ) (Cert.InGradKernelIdeal.main (F := Ideal))) ⟨m, fun _ => 0, g⟩ (fun r => ∀ c : Dev Cert.InGradKernelIdeal.nD,
          r.2.mem ((c.tc : Thread Cert.InGradKernelIdeal.nD Cert.InGradKernelIdeal.τ).loc Cert.InGradKernelIdeal.main_v0) = v0 c
          ∧ r.2.mem ((c.tc : Thread Cert.InGradKernelIdeal.nD Cert.InGradKernelIdeal.τ).loc Cert.InGradKernelIdeal.main_arg0) = m ((c.tc : Thread Cert.InGradKernelIdeal.nD Cert.InGradKernelIdeal.τ).loc Cert.InGradKernelIdeal.main_arg0)
          ∧ r.2.mem ((c.tc : Thread Cert.InGradKernelIdeal.nD Cert.InGradKernelIdeal.τ).loc Cert.InGradKernelIdeal.main_arg1) = m ((c.tc : Thread Cert.InGradKernelIdeal.nD Cert.InGradKernelIdeal.τ).loc Cert.InGradKernelIdeal.main_arg1))
      ∧ θ_run (Cert.InGradReferenceIdeal.defs (F := Ideal)) (onTc (τ := Cert.InGradReferenceIdeal.τ) (Cert.InGradReferenceIdeal.main (F := Ideal))) ⟨m', fun _ => 0, g'⟩ (fun r => ∀ c : Dev Cert.InGradReferenceIdeal.nD,
          r.2.mem ((c.tc : Thread Cert.InGradReferenceIdeal.nD Cert.InGradReferenceIdeal.τ).loc Cert.InGradReferenceIdeal.main_v4) = v0 c
          ∧ r.2.mem ((c.tc : Thread Cert.InGradReferenceIdeal.nD Cert.InGradReferenceIdeal.τ).loc Cert.InGradReferenceIdeal.main_arg0) = m' ((c.tc : Thread Cert.InGradReferenceIdeal.nD Cert.InGradReferenceIdeal.τ).loc Cert.InGradReferenceIdeal.main_arg0)
          ∧ r.2.mem ((c.tc : Thread Cert.InGradReferenceIdeal.nD Cert.InGradReferenceIdeal.τ).loc Cert.InGradReferenceIdeal.main_arg1) = m' ((c.tc : Thread Cert.InGradReferenceIdeal.nD Cert.InGradReferenceIdeal.τ).loc Cert.InGradReferenceIdeal.main_arg1))

def preserves_Norm1GradKernel_Norm1GradKernelIdeal : Prop :=
  True

def algebraic_Norm1GradKernelIdeal_Norm1GradReferenceIdeal [hNorm1GradKernelIdeal : Cert.Norm1GradKernelIdeal.Facts] [hNorm1GradReferenceIdeal : Cert.Norm1GradReferenceIdeal.Facts] : Prop :=
  ∀ (m : (ℓ : Loc Cert.Norm1GradKernelIdeal.nD Cert.Norm1GradKernelIdeal.τ Cert.Norm1GradKernelIdeal.sig) → Buf (Elt Ideal) ℓ) (g : Dev Cert.Norm1GradKernelIdeal.nD → PrngReg)
    (m' : (ℓ : Loc Cert.Norm1GradReferenceIdeal.nD Cert.Norm1GradReferenceIdeal.τ Cert.Norm1GradReferenceIdeal.sig) → Buf (Elt Ideal) ℓ) (g' : Dev Cert.Norm1GradReferenceIdeal.nD → PrngReg), Pre_Norm1GradKernelIdeal m →
    (∀ c : Dev Cert.Norm1GradKernelIdeal.nD,
      m' ((c.tc : Thread Cert.Norm1GradReferenceIdeal.nD Cert.Norm1GradReferenceIdeal.τ).loc Cert.Norm1GradReferenceIdeal.main_arg0) = m ((c.tc : Thread Cert.Norm1GradKernelIdeal.nD Cert.Norm1GradKernelIdeal.τ).loc Cert.Norm1GradKernelIdeal.main_arg0)
      ∧ m' ((c.tc : Thread Cert.Norm1GradReferenceIdeal.nD Cert.Norm1GradReferenceIdeal.τ).loc Cert.Norm1GradReferenceIdeal.main_arg1) = m ((c.tc : Thread Cert.Norm1GradKernelIdeal.nD Cert.Norm1GradKernelIdeal.τ).loc Cert.Norm1GradKernelIdeal.main_arg1)
      ∧ m' ((c.tc : Thread Cert.Norm1GradReferenceIdeal.nD Cert.Norm1GradReferenceIdeal.τ).loc Cert.Norm1GradReferenceIdeal.main_arg2) = m ((c.tc : Thread Cert.Norm1GradKernelIdeal.nD Cert.Norm1GradKernelIdeal.τ).loc Cert.Norm1GradKernelIdeal.main_arg2)
      ∧ m' ((c.tc : Thread Cert.Norm1GradReferenceIdeal.nD Cert.Norm1GradReferenceIdeal.τ).loc Cert.Norm1GradReferenceIdeal.main_arg3) = m ((c.tc : Thread Cert.Norm1GradKernelIdeal.nD Cert.Norm1GradKernelIdeal.τ).loc Cert.Norm1GradKernelIdeal.main_arg3)
      ∧ m' ((c.tc : Thread Cert.Norm1GradReferenceIdeal.nD Cert.Norm1GradReferenceIdeal.τ).loc Cert.Norm1GradReferenceIdeal.main_arg4) = m ((c.tc : Thread Cert.Norm1GradKernelIdeal.nD Cert.Norm1GradKernelIdeal.τ).loc Cert.Norm1GradKernelIdeal.main_arg4)) →
    ∃ (v0 : (c : Dev Cert.Norm1GradKernelIdeal.nD) → Buf (Elt Ideal) ((c.tc : Thread Cert.Norm1GradKernelIdeal.nD Cert.Norm1GradKernelIdeal.τ).loc Cert.Norm1GradKernelIdeal.main_v0_0)) (v1 : (c : Dev Cert.Norm1GradKernelIdeal.nD) → Buf (Elt Ideal) ((c.tc : Thread Cert.Norm1GradKernelIdeal.nD Cert.Norm1GradKernelIdeal.τ).loc Cert.Norm1GradKernelIdeal.main_v0_1)),
      θ_run (Cert.Norm1GradKernelIdeal.defs (F := Ideal)) (onTc (τ := Cert.Norm1GradKernelIdeal.τ) (Cert.Norm1GradKernelIdeal.main (F := Ideal))) ⟨m, fun _ => 0, g⟩ (fun r => ∀ c : Dev Cert.Norm1GradKernelIdeal.nD,
          r.2.mem ((c.tc : Thread Cert.Norm1GradKernelIdeal.nD Cert.Norm1GradKernelIdeal.τ).loc Cert.Norm1GradKernelIdeal.main_v0_0) = v0 c
          ∧ r.2.mem ((c.tc : Thread Cert.Norm1GradKernelIdeal.nD Cert.Norm1GradKernelIdeal.τ).loc Cert.Norm1GradKernelIdeal.main_v0_1) = v1 c
          ∧ r.2.mem ((c.tc : Thread Cert.Norm1GradKernelIdeal.nD Cert.Norm1GradKernelIdeal.τ).loc Cert.Norm1GradKernelIdeal.main_arg0) = m ((c.tc : Thread Cert.Norm1GradKernelIdeal.nD Cert.Norm1GradKernelIdeal.τ).loc Cert.Norm1GradKernelIdeal.main_arg0)
          ∧ r.2.mem ((c.tc : Thread Cert.Norm1GradKernelIdeal.nD Cert.Norm1GradKernelIdeal.τ).loc Cert.Norm1GradKernelIdeal.main_arg1) = m ((c.tc : Thread Cert.Norm1GradKernelIdeal.nD Cert.Norm1GradKernelIdeal.τ).loc Cert.Norm1GradKernelIdeal.main_arg1)
          ∧ r.2.mem ((c.tc : Thread Cert.Norm1GradKernelIdeal.nD Cert.Norm1GradKernelIdeal.τ).loc Cert.Norm1GradKernelIdeal.main_arg2) = m ((c.tc : Thread Cert.Norm1GradKernelIdeal.nD Cert.Norm1GradKernelIdeal.τ).loc Cert.Norm1GradKernelIdeal.main_arg2)
          ∧ r.2.mem ((c.tc : Thread Cert.Norm1GradKernelIdeal.nD Cert.Norm1GradKernelIdeal.τ).loc Cert.Norm1GradKernelIdeal.main_arg3) = m ((c.tc : Thread Cert.Norm1GradKernelIdeal.nD Cert.Norm1GradKernelIdeal.τ).loc Cert.Norm1GradKernelIdeal.main_arg3)
          ∧ r.2.mem ((c.tc : Thread Cert.Norm1GradKernelIdeal.nD Cert.Norm1GradKernelIdeal.τ).loc Cert.Norm1GradKernelIdeal.main_arg4) = m ((c.tc : Thread Cert.Norm1GradKernelIdeal.nD Cert.Norm1GradKernelIdeal.τ).loc Cert.Norm1GradKernelIdeal.main_arg4))
      ∧ θ_run (Cert.Norm1GradReferenceIdeal.defs (F := Ideal)) (onTc (τ := Cert.Norm1GradReferenceIdeal.τ) (Cert.Norm1GradReferenceIdeal.main (F := Ideal))) ⟨m', fun _ => 0, g'⟩ (fun r => ∀ c : Dev Cert.Norm1GradReferenceIdeal.nD,
          r.2.mem ((c.tc : Thread Cert.Norm1GradReferenceIdeal.nD Cert.Norm1GradReferenceIdeal.τ).loc Cert.Norm1GradReferenceIdeal.main_v37) = v0 c
          ∧ r.2.mem ((c.tc : Thread Cert.Norm1GradReferenceIdeal.nD Cert.Norm1GradReferenceIdeal.τ).loc Cert.Norm1GradReferenceIdeal.main_v20) = v1 c
          ∧ r.2.mem ((c.tc : Thread Cert.Norm1GradReferenceIdeal.nD Cert.Norm1GradReferenceIdeal.τ).loc Cert.Norm1GradReferenceIdeal.main_arg0) = m' ((c.tc : Thread Cert.Norm1GradReferenceIdeal.nD Cert.Norm1GradReferenceIdeal.τ).loc Cert.Norm1GradReferenceIdeal.main_arg0)
          ∧ r.2.mem ((c.tc : Thread Cert.Norm1GradReferenceIdeal.nD Cert.Norm1GradReferenceIdeal.τ).loc Cert.Norm1GradReferenceIdeal.main_arg1) = m' ((c.tc : Thread Cert.Norm1GradReferenceIdeal.nD Cert.Norm1GradReferenceIdeal.τ).loc Cert.Norm1GradReferenceIdeal.main_arg1)
          ∧ r.2.mem ((c.tc : Thread Cert.Norm1GradReferenceIdeal.nD Cert.Norm1GradReferenceIdeal.τ).loc Cert.Norm1GradReferenceIdeal.main_arg2) = m' ((c.tc : Thread Cert.Norm1GradReferenceIdeal.nD Cert.Norm1GradReferenceIdeal.τ).loc Cert.Norm1GradReferenceIdeal.main_arg2)
          ∧ r.2.mem ((c.tc : Thread Cert.Norm1GradReferenceIdeal.nD Cert.Norm1GradReferenceIdeal.τ).loc Cert.Norm1GradReferenceIdeal.main_arg3) = m' ((c.tc : Thread Cert.Norm1GradReferenceIdeal.nD Cert.Norm1GradReferenceIdeal.τ).loc Cert.Norm1GradReferenceIdeal.main_arg3)
          ∧ r.2.mem ((c.tc : Thread Cert.Norm1GradReferenceIdeal.nD Cert.Norm1GradReferenceIdeal.τ).loc Cert.Norm1GradReferenceIdeal.main_arg4) = m' ((c.tc : Thread Cert.Norm1GradReferenceIdeal.nD Cert.Norm1GradReferenceIdeal.τ).loc Cert.Norm1GradReferenceIdeal.main_arg4))

def preserves_AdamMlpKernel_AdamMlpKernelIdeal : Prop :=
  True

def algebraic_AdamMlpKernelIdeal_AdamMlpReferenceIdeal [hAdamMlpKernelIdeal : Cert.AdamMlpKernelIdeal.Facts] [hAdamMlpReferenceIdeal : Cert.AdamMlpReferenceIdeal.Facts] : Prop :=
  ∀ (m : (ℓ : Loc Cert.AdamMlpKernelIdeal.nD Cert.AdamMlpKernelIdeal.τ Cert.AdamMlpKernelIdeal.sig) → Buf (Elt Ideal) ℓ) (g : Dev Cert.AdamMlpKernelIdeal.nD → PrngReg)
    (m' : (ℓ : Loc Cert.AdamMlpReferenceIdeal.nD Cert.AdamMlpReferenceIdeal.τ Cert.AdamMlpReferenceIdeal.sig) → Buf (Elt Ideal) ℓ) (g' : Dev Cert.AdamMlpReferenceIdeal.nD → PrngReg), Pre_AdamMlpKernelIdeal m →
    (∀ c : Dev Cert.AdamMlpKernelIdeal.nD,
      m' ((c.tc : Thread Cert.AdamMlpReferenceIdeal.nD Cert.AdamMlpReferenceIdeal.τ).loc Cert.AdamMlpReferenceIdeal.main_arg0) = m ((c.tc : Thread Cert.AdamMlpKernelIdeal.nD Cert.AdamMlpKernelIdeal.τ).loc Cert.AdamMlpKernelIdeal.main_arg0)
      ∧ m' ((c.tc : Thread Cert.AdamMlpReferenceIdeal.nD Cert.AdamMlpReferenceIdeal.τ).loc Cert.AdamMlpReferenceIdeal.main_arg1) = m ((c.tc : Thread Cert.AdamMlpKernelIdeal.nD Cert.AdamMlpKernelIdeal.τ).loc Cert.AdamMlpKernelIdeal.main_arg1)
      ∧ m' ((c.tc : Thread Cert.AdamMlpReferenceIdeal.nD Cert.AdamMlpReferenceIdeal.τ).loc Cert.AdamMlpReferenceIdeal.main_arg2) = m ((c.tc : Thread Cert.AdamMlpKernelIdeal.nD Cert.AdamMlpKernelIdeal.τ).loc Cert.AdamMlpKernelIdeal.main_arg2)
      ∧ m' ((c.tc : Thread Cert.AdamMlpReferenceIdeal.nD Cert.AdamMlpReferenceIdeal.τ).loc Cert.AdamMlpReferenceIdeal.main_arg3) = m ((c.tc : Thread Cert.AdamMlpKernelIdeal.nD Cert.AdamMlpKernelIdeal.τ).loc Cert.AdamMlpKernelIdeal.main_arg3)
      ∧ m' ((c.tc : Thread Cert.AdamMlpReferenceIdeal.nD Cert.AdamMlpReferenceIdeal.τ).loc Cert.AdamMlpReferenceIdeal.main_arg4) = m ((c.tc : Thread Cert.AdamMlpKernelIdeal.nD Cert.AdamMlpKernelIdeal.τ).loc Cert.AdamMlpKernelIdeal.main_arg4)) →
    ∃ (v0 : (c : Dev Cert.AdamMlpKernelIdeal.nD) → Buf (Elt Ideal) ((c.tc : Thread Cert.AdamMlpKernelIdeal.nD Cert.AdamMlpKernelIdeal.τ).loc Cert.AdamMlpKernelIdeal.main_v0_0)) (v1 : (c : Dev Cert.AdamMlpKernelIdeal.nD) → Buf (Elt Ideal) ((c.tc : Thread Cert.AdamMlpKernelIdeal.nD Cert.AdamMlpKernelIdeal.τ).loc Cert.AdamMlpKernelIdeal.main_v0_1)) (v2 : (c : Dev Cert.AdamMlpKernelIdeal.nD) → Buf (Elt Ideal) ((c.tc : Thread Cert.AdamMlpKernelIdeal.nD Cert.AdamMlpKernelIdeal.τ).loc Cert.AdamMlpKernelIdeal.main_v0_2)) (v3 : (c : Dev Cert.AdamMlpKernelIdeal.nD) → Buf (Elt Ideal) ((c.tc : Thread Cert.AdamMlpKernelIdeal.nD Cert.AdamMlpKernelIdeal.τ).loc Cert.AdamMlpKernelIdeal.main_v0_3)),
      θ_run (Cert.AdamMlpKernelIdeal.defs (F := Ideal)) (onTc (τ := Cert.AdamMlpKernelIdeal.τ) (Cert.AdamMlpKernelIdeal.main (F := Ideal))) ⟨m, fun _ => 0, g⟩ (fun r => ∀ c : Dev Cert.AdamMlpKernelIdeal.nD,
          r.2.mem ((c.tc : Thread Cert.AdamMlpKernelIdeal.nD Cert.AdamMlpKernelIdeal.τ).loc Cert.AdamMlpKernelIdeal.main_v0_0) = v0 c
          ∧ r.2.mem ((c.tc : Thread Cert.AdamMlpKernelIdeal.nD Cert.AdamMlpKernelIdeal.τ).loc Cert.AdamMlpKernelIdeal.main_v0_1) = v1 c
          ∧ r.2.mem ((c.tc : Thread Cert.AdamMlpKernelIdeal.nD Cert.AdamMlpKernelIdeal.τ).loc Cert.AdamMlpKernelIdeal.main_v0_2) = v2 c
          ∧ r.2.mem ((c.tc : Thread Cert.AdamMlpKernelIdeal.nD Cert.AdamMlpKernelIdeal.τ).loc Cert.AdamMlpKernelIdeal.main_v0_3) = v3 c
          ∧ r.2.mem ((c.tc : Thread Cert.AdamMlpKernelIdeal.nD Cert.AdamMlpKernelIdeal.τ).loc Cert.AdamMlpKernelIdeal.main_arg0) = m ((c.tc : Thread Cert.AdamMlpKernelIdeal.nD Cert.AdamMlpKernelIdeal.τ).loc Cert.AdamMlpKernelIdeal.main_arg0)
          ∧ r.2.mem ((c.tc : Thread Cert.AdamMlpKernelIdeal.nD Cert.AdamMlpKernelIdeal.τ).loc Cert.AdamMlpKernelIdeal.main_arg1) = m ((c.tc : Thread Cert.AdamMlpKernelIdeal.nD Cert.AdamMlpKernelIdeal.τ).loc Cert.AdamMlpKernelIdeal.main_arg1)
          ∧ r.2.mem ((c.tc : Thread Cert.AdamMlpKernelIdeal.nD Cert.AdamMlpKernelIdeal.τ).loc Cert.AdamMlpKernelIdeal.main_arg2) = m ((c.tc : Thread Cert.AdamMlpKernelIdeal.nD Cert.AdamMlpKernelIdeal.τ).loc Cert.AdamMlpKernelIdeal.main_arg2)
          ∧ r.2.mem ((c.tc : Thread Cert.AdamMlpKernelIdeal.nD Cert.AdamMlpKernelIdeal.τ).loc Cert.AdamMlpKernelIdeal.main_arg3) = m ((c.tc : Thread Cert.AdamMlpKernelIdeal.nD Cert.AdamMlpKernelIdeal.τ).loc Cert.AdamMlpKernelIdeal.main_arg3)
          ∧ r.2.mem ((c.tc : Thread Cert.AdamMlpKernelIdeal.nD Cert.AdamMlpKernelIdeal.τ).loc Cert.AdamMlpKernelIdeal.main_arg4) = m ((c.tc : Thread Cert.AdamMlpKernelIdeal.nD Cert.AdamMlpKernelIdeal.τ).loc Cert.AdamMlpKernelIdeal.main_arg4))
      ∧ θ_run (Cert.AdamMlpReferenceIdeal.defs (F := Ideal)) (onTc (τ := Cert.AdamMlpReferenceIdeal.τ) (Cert.AdamMlpReferenceIdeal.main (F := Ideal))) ⟨m', fun _ => 0, g'⟩ (fun r => ∀ c : Dev Cert.AdamMlpReferenceIdeal.nD,
          r.2.mem ((c.tc : Thread Cert.AdamMlpReferenceIdeal.nD Cert.AdamMlpReferenceIdeal.τ).loc Cert.AdamMlpReferenceIdeal.main_v8) = v0 c
          ∧ r.2.mem ((c.tc : Thread Cert.AdamMlpReferenceIdeal.nD Cert.AdamMlpReferenceIdeal.τ).loc Cert.AdamMlpReferenceIdeal.main_v32) = v1 c
          ∧ r.2.mem ((c.tc : Thread Cert.AdamMlpReferenceIdeal.nD Cert.AdamMlpReferenceIdeal.τ).loc Cert.AdamMlpReferenceIdeal.main_v13) = v2 c
          ∧ r.2.mem ((c.tc : Thread Cert.AdamMlpReferenceIdeal.nD Cert.AdamMlpReferenceIdeal.τ).loc Cert.AdamMlpReferenceIdeal.main_v19) = v3 c
          ∧ r.2.mem ((c.tc : Thread Cert.AdamMlpReferenceIdeal.nD Cert.AdamMlpReferenceIdeal.τ).loc Cert.AdamMlpReferenceIdeal.main_arg0) = m' ((c.tc : Thread Cert.AdamMlpReferenceIdeal.nD Cert.AdamMlpReferenceIdeal.τ).loc Cert.AdamMlpReferenceIdeal.main_arg0)
          ∧ r.2.mem ((c.tc : Thread Cert.AdamMlpReferenceIdeal.nD Cert.AdamMlpReferenceIdeal.τ).loc Cert.AdamMlpReferenceIdeal.main_arg1) = m' ((c.tc : Thread Cert.AdamMlpReferenceIdeal.nD Cert.AdamMlpReferenceIdeal.τ).loc Cert.AdamMlpReferenceIdeal.main_arg1)
          ∧ r.2.mem ((c.tc : Thread Cert.AdamMlpReferenceIdeal.nD Cert.AdamMlpReferenceIdeal.τ).loc Cert.AdamMlpReferenceIdeal.main_arg2) = m' ((c.tc : Thread Cert.AdamMlpReferenceIdeal.nD Cert.AdamMlpReferenceIdeal.τ).loc Cert.AdamMlpReferenceIdeal.main_arg2)
          ∧ r.2.mem ((c.tc : Thread Cert.AdamMlpReferenceIdeal.nD Cert.AdamMlpReferenceIdeal.τ).loc Cert.AdamMlpReferenceIdeal.main_arg3) = m' ((c.tc : Thread Cert.AdamMlpReferenceIdeal.nD Cert.AdamMlpReferenceIdeal.τ).loc Cert.AdamMlpReferenceIdeal.main_arg3)
          ∧ r.2.mem ((c.tc : Thread Cert.AdamMlpReferenceIdeal.nD Cert.AdamMlpReferenceIdeal.τ).loc Cert.AdamMlpReferenceIdeal.main_arg4) = m' ((c.tc : Thread Cert.AdamMlpReferenceIdeal.nD Cert.AdamMlpReferenceIdeal.τ).loc Cert.AdamMlpReferenceIdeal.main_arg4))

def preserves_AdamOutKernel_AdamOutKernelIdeal : Prop :=
  True

def algebraic_AdamOutKernelIdeal_AdamOutReferenceIdeal [hAdamOutKernelIdeal : Cert.AdamOutKernelIdeal.Facts] [hAdamOutReferenceIdeal : Cert.AdamOutReferenceIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutKernelIdeal m →
    (∀ c : Dev Cert.AdamOutKernelIdeal.nD,
      m' ((c.tc : Thread Cert.AdamOutReferenceIdeal.nD Cert.AdamOutReferenceIdeal.τ).loc Cert.AdamOutReferenceIdeal.main_arg0) = m ((c.tc : Thread Cert.AdamOutKernelIdeal.nD Cert.AdamOutKernelIdeal.τ).loc Cert.AdamOutKernelIdeal.main_arg0)
      ∧ m' ((c.tc : Thread Cert.AdamOutReferenceIdeal.nD Cert.AdamOutReferenceIdeal.τ).loc Cert.AdamOutReferenceIdeal.main_arg1) = m ((c.tc : Thread Cert.AdamOutKernelIdeal.nD Cert.AdamOutKernelIdeal.τ).loc Cert.AdamOutKernelIdeal.main_arg1)
      ∧ m' ((c.tc : Thread Cert.AdamOutReferenceIdeal.nD Cert.AdamOutReferenceIdeal.τ).loc Cert.AdamOutReferenceIdeal.main_arg2) = m ((c.tc : Thread Cert.AdamOutKernelIdeal.nD Cert.AdamOutKernelIdeal.τ).loc Cert.AdamOutKernelIdeal.main_arg2)
      ∧ m' ((c.tc : Thread Cert.AdamOutReferenceIdeal.nD Cert.AdamOutReferenceIdeal.τ).loc Cert.AdamOutReferenceIdeal.main_arg3) = m ((c.tc : Thread Cert.AdamOutKernelIdeal.nD Cert.AdamOutKernelIdeal.τ).loc Cert.AdamOutKernelIdeal.main_arg3)
      ∧ m' ((c.tc : Thread Cert.AdamOutReferenceIdeal.nD Cert.AdamOutReferenceIdeal.τ).loc Cert.AdamOutReferenceIdeal.main_arg4) = m ((c.tc : Thread Cert.AdamOutKernelIdeal.nD Cert.AdamOutKernelIdeal.τ).loc Cert.AdamOutKernelIdeal.main_arg4)) →
    ∃ (v0 : (c : Dev Cert.AdamOutKernelIdeal.nD) → Buf (Elt Ideal) ((c.tc : Thread Cert.AdamOutKernelIdeal.nD Cert.AdamOutKernelIdeal.τ).loc Cert.AdamOutKernelIdeal.main_v0_0)) (v1 : (c : Dev Cert.AdamOutKernelIdeal.nD) → Buf (Elt Ideal) ((c.tc : Thread Cert.AdamOutKernelIdeal.nD Cert.AdamOutKernelIdeal.τ).loc Cert.AdamOutKernelIdeal.main_v0_1)) (v2 : (c : Dev Cert.AdamOutKernelIdeal.nD) → Buf (Elt Ideal) ((c.tc : Thread Cert.AdamOutKernelIdeal.nD Cert.AdamOutKernelIdeal.τ).loc Cert.AdamOutKernelIdeal.main_v0_2)) (v3 : (c : Dev Cert.AdamOutKernelIdeal.nD) → Buf (Elt Ideal) ((c.tc : Thread Cert.AdamOutKernelIdeal.nD Cert.AdamOutKernelIdeal.τ).loc Cert.AdamOutKernelIdeal.main_v0_3)),
      θ_run (Cert.AdamOutKernelIdeal.defs (F := Ideal)) (onTc (τ := Cert.AdamOutKernelIdeal.τ) (Cert.AdamOutKernelIdeal.main (F := Ideal))) ⟨m, fun _ => 0, g⟩ (fun r => ∀ c : Dev Cert.AdamOutKernelIdeal.nD,
          r.2.mem ((c.tc : Thread Cert.AdamOutKernelIdeal.nD Cert.AdamOutKernelIdeal.τ).loc Cert.AdamOutKernelIdeal.main_v0_0) = v0 c
          ∧ r.2.mem ((c.tc : Thread Cert.AdamOutKernelIdeal.nD Cert.AdamOutKernelIdeal.τ).loc Cert.AdamOutKernelIdeal.main_v0_1) = v1 c
          ∧ r.2.mem ((c.tc : Thread Cert.AdamOutKernelIdeal.nD Cert.AdamOutKernelIdeal.τ).loc Cert.AdamOutKernelIdeal.main_v0_2) = v2 c
          ∧ r.2.mem ((c.tc : Thread Cert.AdamOutKernelIdeal.nD Cert.AdamOutKernelIdeal.τ).loc Cert.AdamOutKernelIdeal.main_v0_3) = v3 c
          ∧ r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
          ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
          ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
          ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3)
          ∧ r.2.mem ((c.tc : Thread Cert.AdamOutKernelIdeal.nD Cert.AdamOutKernelIdeal.τ).loc Cert.AdamOutKernelIdeal.main_arg4) = m ((c.tc : Thread Cert.AdamOutKernelIdeal.nD Cert.AdamOutKernelIdeal.τ).loc Cert.AdamOutKernelIdeal.main_arg4))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v6) = v0 c
          ∧ r.2.mem ((c.tc : Thread Cert.AdamOutReferenceIdeal.nD Cert.AdamOutReferenceIdeal.τ).loc Cert.AdamOutReferenceIdeal.main_v30) = v1 c
          ∧ r.2.mem ((c.tc : Thread Cert.AdamOutReferenceIdeal.nD Cert.AdamOutReferenceIdeal.τ).loc Cert.AdamOutReferenceIdeal.main_v11) = v2 c
          ∧ r.2.mem ((c.tc : Thread Cert.AdamOutReferenceIdeal.nD Cert.AdamOutReferenceIdeal.τ).loc Cert.AdamOutReferenceIdeal.main_v17) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4))

def preserves_AdamInKernel_AdamInKernelIdeal : Prop :=
  True

def algebraic_AdamInKernelIdeal_AdamInReferenceIdeal [hAdamInKernelIdeal : Cert.AdamInKernelIdeal.Facts] [hAdamInReferenceIdeal : Cert.AdamInReferenceIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)
      ∧ m' ((c.tc : Thread Cert.AdamInReferenceIdeal.nD Cert.AdamInReferenceIdeal.τ).loc Cert.AdamInReferenceIdeal.main_arg4) = m ((c.tc : Thread Cert.AdamInKernelIdeal.nD Cert.AdamInKernelIdeal.τ).loc Cert.AdamInKernelIdeal.main_arg4)) →
    ∃ (v0 : (c : Dev Cert.AdamInKernelIdeal.nD) → Buf (Elt Ideal) ((c.tc : Thread Cert.AdamInKernelIdeal.nD Cert.AdamInKernelIdeal.τ).loc Cert.AdamInKernelIdeal.main_v0_0)) (v1 : (c : Dev Cert.AdamInKernelIdeal.nD) → Buf (Elt Ideal) ((c.tc : Thread Cert.AdamInKernelIdeal.nD Cert.AdamInKernelIdeal.τ).loc Cert.AdamInKernelIdeal.main_v0_1)) (v2 : (c : Dev Cert.AdamInKernelIdeal.nD) → Buf (Elt Ideal) ((c.tc : Thread Cert.AdamInKernelIdeal.nD Cert.AdamInKernelIdeal.τ).loc Cert.AdamInKernelIdeal.main_v0_2)) (v3 : (c : Dev Cert.AdamInKernelIdeal.nD) → Buf (Elt Ideal) ((c.tc : Thread Cert.AdamInKernelIdeal.nD Cert.AdamInKernelIdeal.τ).loc Cert.AdamInKernelIdeal.main_v0_3)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v0_0) = v0 c
          ∧ r.2.mem ((c.tc : Thread Cert.AdamInKernelIdeal.nD Cert.AdamInKernelIdeal.τ).loc Cert.AdamInKernelIdeal.main_v0_1) = v1 c
          ∧ r.2.mem ((c.tc : Thread Cert.AdamInKernelIdeal.nD Cert.AdamInKernelIdeal.τ).loc Cert.AdamInKernelIdeal.main_v0_2) = v2 c
          ∧ r.2.mem ((c.tc : Thread Cert.AdamInKernelIdeal.nD Cert.AdamInKernelIdeal.τ).loc Cert.AdamInKernelIdeal.main_v0_3) = v3 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3)
          ∧ r.2.mem ((c.tc : Thread Cert.AdamInKernelIdeal.nD Cert.AdamInKernelIdeal.τ).loc Cert.AdamInKernelIdeal.main_arg4) = m ((c.tc : Thread Cert.AdamInKernelIdeal.nD Cert.AdamInKernelIdeal.τ).loc Cert.AdamInKernelIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v6) = v0 c
          ∧ r.2.mem ((c.tc : Thread Cert.AdamInReferenceIdeal.nD Cert.AdamInReferenceIdeal.τ).loc Cert.AdamInReferenceIdeal.main_v30) = v1 c
          ∧ r.2.mem ((c.tc : Thread Cert.AdamInReferenceIdeal.nD Cert.AdamInReferenceIdeal.τ).loc Cert.AdamInReferenceIdeal.main_v11) = v2 c
          ∧ r.2.mem ((c.tc : Thread Cert.AdamInReferenceIdeal.nD Cert.AdamInReferenceIdeal.τ).loc Cert.AdamInReferenceIdeal.main_v17) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamPleKernel_AdamPleKernelIdeal : Prop :=
  True

def algebraic_AdamPleKernelIdeal_AdamPleReferenceIdeal [hAdamPleKernelIdeal : Cert.AdamPleKernelIdeal.Facts] [hAdamPleReferenceIdeal : Cert.AdamPleReferenceIdeal.Facts] : Prop :=
  ∀ (m : (ℓ : Loc Cert.AdamPleKernelIdeal.nD Cert.AdamPleKernelIdeal.τ Cert.AdamPleKernelIdeal.sig) → Buf (Elt Ideal) ℓ) (g : Dev Cert.AdamPleKernelIdeal.nD → PrngReg)
    (m' : (ℓ : Loc Cert.AdamPleReferenceIdeal.nD Cert.AdamPleReferenceIdeal.τ Cert.AdamPleReferenceIdeal.sig) → Buf (Elt Ideal) ℓ) (g' : Dev Cert.AdamPleReferenceIdeal.nD → PrngReg), Pre_AdamPleKernelIdeal m →
    (∀ c : Dev Cert.AdamPleKernelIdeal.nD,
      m' ((c.tc : Thread Cert.AdamPleReferenceIdeal.nD Cert.AdamPleReferenceIdeal.τ).loc Cert.AdamPleReferenceIdeal.main_arg0) = m ((c.tc : Thread Cert.AdamPleKernelIdeal.nD Cert.AdamPleKernelIdeal.τ).loc Cert.AdamPleKernelIdeal.main_arg0)
      ∧ m' ((c.tc : Thread Cert.AdamPleReferenceIdeal.nD Cert.AdamPleReferenceIdeal.τ).loc Cert.AdamPleReferenceIdeal.main_arg1) = m ((c.tc : Thread Cert.AdamPleKernelIdeal.nD Cert.AdamPleKernelIdeal.τ).loc Cert.AdamPleKernelIdeal.main_arg1)
      ∧ m' ((c.tc : Thread Cert.AdamPleReferenceIdeal.nD Cert.AdamPleReferenceIdeal.τ).loc Cert.AdamPleReferenceIdeal.main_arg2) = m ((c.tc : Thread Cert.AdamPleKernelIdeal.nD Cert.AdamPleKernelIdeal.τ).loc Cert.AdamPleKernelIdeal.main_arg2)
      ∧ m' ((c.tc : Thread Cert.AdamPleReferenceIdeal.nD Cert.AdamPleReferenceIdeal.τ).loc Cert.AdamPleReferenceIdeal.main_arg3) = m ((c.tc : Thread Cert.AdamPleKernelIdeal.nD Cert.AdamPleKernelIdeal.τ).loc Cert.AdamPleKernelIdeal.main_arg3)
      ∧ m' ((c.tc : Thread Cert.AdamPleReferenceIdeal.nD Cert.AdamPleReferenceIdeal.τ).loc Cert.AdamPleReferenceIdeal.main_arg4) = m ((c.tc : Thread Cert.AdamPleKernelIdeal.nD Cert.AdamPleKernelIdeal.τ).loc Cert.AdamPleKernelIdeal.main_arg4)) →
    ∃ (v0 : (c : Dev Cert.AdamPleKernelIdeal.nD) → Buf (Elt Ideal) ((c.tc : Thread Cert.AdamPleKernelIdeal.nD Cert.AdamPleKernelIdeal.τ).loc Cert.AdamPleKernelIdeal.main_v0_0)) (v1 : (c : Dev Cert.AdamPleKernelIdeal.nD) → Buf (Elt Ideal) ((c.tc : Thread Cert.AdamPleKernelIdeal.nD Cert.AdamPleKernelIdeal.τ).loc Cert.AdamPleKernelIdeal.main_v0_1)) (v2 : (c : Dev Cert.AdamPleKernelIdeal.nD) → Buf (Elt Ideal) ((c.tc : Thread Cert.AdamPleKernelIdeal.nD Cert.AdamPleKernelIdeal.τ).loc Cert.AdamPleKernelIdeal.main_v0_2)) (v3 : (c : Dev Cert.AdamPleKernelIdeal.nD) → Buf (Elt Ideal) ((c.tc : Thread Cert.AdamPleKernelIdeal.nD Cert.AdamPleKernelIdeal.τ).loc Cert.AdamPleKernelIdeal.main_v0_3)),
      θ_run (Cert.AdamPleKernelIdeal.defs (F := Ideal)) (onTc (τ := Cert.AdamPleKernelIdeal.τ) (Cert.AdamPleKernelIdeal.main (F := Ideal))) ⟨m, fun _ => 0, g⟩ (fun r => ∀ c : Dev Cert.AdamPleKernelIdeal.nD,
          r.2.mem ((c.tc : Thread Cert.AdamPleKernelIdeal.nD Cert.AdamPleKernelIdeal.τ).loc Cert.AdamPleKernelIdeal.main_v0_0) = v0 c
          ∧ r.2.mem ((c.tc : Thread Cert.AdamPleKernelIdeal.nD Cert.AdamPleKernelIdeal.τ).loc Cert.AdamPleKernelIdeal.main_v0_1) = v1 c
          ∧ r.2.mem ((c.tc : Thread Cert.AdamPleKernelIdeal.nD Cert.AdamPleKernelIdeal.τ).loc Cert.AdamPleKernelIdeal.main_v0_2) = v2 c
          ∧ r.2.mem ((c.tc : Thread Cert.AdamPleKernelIdeal.nD Cert.AdamPleKernelIdeal.τ).loc Cert.AdamPleKernelIdeal.main_v0_3) = v3 c
          ∧ r.2.mem ((c.tc : Thread Cert.AdamPleKernelIdeal.nD Cert.AdamPleKernelIdeal.τ).loc Cert.AdamPleKernelIdeal.main_arg0) = m ((c.tc : Thread Cert.AdamPleKernelIdeal.nD Cert.AdamPleKernelIdeal.τ).loc Cert.AdamPleKernelIdeal.main_arg0)
          ∧ r.2.mem ((c.tc : Thread Cert.AdamPleKernelIdeal.nD Cert.AdamPleKernelIdeal.τ).loc Cert.AdamPleKernelIdeal.main_arg1) = m ((c.tc : Thread Cert.AdamPleKernelIdeal.nD Cert.AdamPleKernelIdeal.τ).loc Cert.AdamPleKernelIdeal.main_arg1)
          ∧ r.2.mem ((c.tc : Thread Cert.AdamPleKernelIdeal.nD Cert.AdamPleKernelIdeal.τ).loc Cert.AdamPleKernelIdeal.main_arg2) = m ((c.tc : Thread Cert.AdamPleKernelIdeal.nD Cert.AdamPleKernelIdeal.τ).loc Cert.AdamPleKernelIdeal.main_arg2)
          ∧ r.2.mem ((c.tc : Thread Cert.AdamPleKernelIdeal.nD Cert.AdamPleKernelIdeal.τ).loc Cert.AdamPleKernelIdeal.main_arg3) = m ((c.tc : Thread Cert.AdamPleKernelIdeal.nD Cert.AdamPleKernelIdeal.τ).loc Cert.AdamPleKernelIdeal.main_arg3)
          ∧ r.2.mem ((c.tc : Thread Cert.AdamPleKernelIdeal.nD Cert.AdamPleKernelIdeal.τ).loc Cert.AdamPleKernelIdeal.main_arg4) = m ((c.tc : Thread Cert.AdamPleKernelIdeal.nD Cert.AdamPleKernelIdeal.τ).loc Cert.AdamPleKernelIdeal.main_arg4))
      ∧ θ_run (Cert.AdamPleReferenceIdeal.defs (F := Ideal)) (onTc (τ := Cert.AdamPleReferenceIdeal.τ) (Cert.AdamPleReferenceIdeal.main (F := Ideal))) ⟨m', fun _ => 0, g'⟩ (fun r => ∀ c : Dev Cert.AdamPleReferenceIdeal.nD,
          r.2.mem ((c.tc : Thread Cert.AdamPleReferenceIdeal.nD Cert.AdamPleReferenceIdeal.τ).loc Cert.AdamPleReferenceIdeal.main_v6) = v0 c
          ∧ r.2.mem ((c.tc : Thread Cert.AdamPleReferenceIdeal.nD Cert.AdamPleReferenceIdeal.τ).loc Cert.AdamPleReferenceIdeal.main_v30) = v1 c
          ∧ r.2.mem ((c.tc : Thread Cert.AdamPleReferenceIdeal.nD Cert.AdamPleReferenceIdeal.τ).loc Cert.AdamPleReferenceIdeal.main_v11) = v2 c
          ∧ r.2.mem ((c.tc : Thread Cert.AdamPleReferenceIdeal.nD Cert.AdamPleReferenceIdeal.τ).loc Cert.AdamPleReferenceIdeal.main_v17) = v3 c
          ∧ r.2.mem ((c.tc : Thread Cert.AdamPleReferenceIdeal.nD Cert.AdamPleReferenceIdeal.τ).loc Cert.AdamPleReferenceIdeal.main_arg0) = m' ((c.tc : Thread Cert.AdamPleReferenceIdeal.nD Cert.AdamPleReferenceIdeal.τ).loc Cert.AdamPleReferenceIdeal.main_arg0)
          ∧ r.2.mem ((c.tc : Thread Cert.AdamPleReferenceIdeal.nD Cert.AdamPleReferenceIdeal.τ).loc Cert.AdamPleReferenceIdeal.main_arg1) = m' ((c.tc : Thread Cert.AdamPleReferenceIdeal.nD Cert.AdamPleReferenceIdeal.τ).loc Cert.AdamPleReferenceIdeal.main_arg1)
          ∧ r.2.mem ((c.tc : Thread Cert.AdamPleReferenceIdeal.nD Cert.AdamPleReferenceIdeal.τ).loc Cert.AdamPleReferenceIdeal.main_arg2) = m' ((c.tc : Thread Cert.AdamPleReferenceIdeal.nD Cert.AdamPleReferenceIdeal.τ).loc Cert.AdamPleReferenceIdeal.main_arg2)
          ∧ r.2.mem ((c.tc : Thread Cert.AdamPleReferenceIdeal.nD Cert.AdamPleReferenceIdeal.τ).loc Cert.AdamPleReferenceIdeal.main_arg3) = m' ((c.tc : Thread Cert.AdamPleReferenceIdeal.nD Cert.AdamPleReferenceIdeal.τ).loc Cert.AdamPleReferenceIdeal.main_arg3)
          ∧ r.2.mem ((c.tc : Thread Cert.AdamPleReferenceIdeal.nD Cert.AdamPleReferenceIdeal.τ).loc Cert.AdamPleReferenceIdeal.main_arg4) = m' ((c.tc : Thread Cert.AdamPleReferenceIdeal.nD Cert.AdamPleReferenceIdeal.τ).loc Cert.AdamPleReferenceIdeal.main_arg4))

def preserves_AdamConvKernel_AdamConvKernelIdeal : Prop :=
  True

def algebraic_AdamConvKernelIdeal_AdamConvReferenceIdeal [hAdamConvKernelIdeal : Cert.AdamConvKernelIdeal.Facts] [hAdamConvReferenceIdeal : Cert.AdamConvReferenceIdeal.Facts] : Prop :=
  ∀ (m : (ℓ : Loc Cert.AdamConvKernelIdeal.nD Cert.AdamConvKernelIdeal.τ Cert.AdamConvKernelIdeal.sig) → Buf (Elt Ideal) ℓ) (g : Dev Cert.AdamConvKernelIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvKernelIdeal m →
    (∀ c : Dev Cert.AdamConvKernelIdeal.nD,
      m' ((c.tc : Thread Cert.AdamConvReferenceIdeal.nD Cert.AdamConvReferenceIdeal.τ).loc Cert.AdamConvReferenceIdeal.main_arg0) = m ((c.tc : Thread Cert.AdamConvKernelIdeal.nD Cert.AdamConvKernelIdeal.τ).loc Cert.AdamConvKernelIdeal.main_arg0)
      ∧ m' ((c.tc : Thread Cert.AdamConvReferenceIdeal.nD Cert.AdamConvReferenceIdeal.τ).loc Cert.AdamConvReferenceIdeal.main_arg1) = m ((c.tc : Thread Cert.AdamConvKernelIdeal.nD Cert.AdamConvKernelIdeal.τ).loc Cert.AdamConvKernelIdeal.main_arg1)
      ∧ m' ((c.tc : Thread Cert.AdamConvReferenceIdeal.nD Cert.AdamConvReferenceIdeal.τ).loc Cert.AdamConvReferenceIdeal.main_arg2) = m ((c.tc : Thread Cert.AdamConvKernelIdeal.nD Cert.AdamConvKernelIdeal.τ).loc Cert.AdamConvKernelIdeal.main_arg2)
      ∧ m' ((c.tc : Thread Cert.AdamConvReferenceIdeal.nD Cert.AdamConvReferenceIdeal.τ).loc Cert.AdamConvReferenceIdeal.main_arg3) = m ((c.tc : Thread Cert.AdamConvKernelIdeal.nD Cert.AdamConvKernelIdeal.τ).loc Cert.AdamConvKernelIdeal.main_arg3)
      ∧ m' ((c.tc : Thread Cert.AdamConvReferenceIdeal.nD Cert.AdamConvReferenceIdeal.τ).loc Cert.AdamConvReferenceIdeal.main_arg4) = m ((c.tc : Thread Cert.AdamConvKernelIdeal.nD Cert.AdamConvKernelIdeal.τ).loc Cert.AdamConvKernelIdeal.main_arg4)) →
    ∃ (v0 : (c : Dev Cert.AdamConvKernelIdeal.nD) → Buf (Elt Ideal) ((c.tc : Thread Cert.AdamConvKernelIdeal.nD Cert.AdamConvKernelIdeal.τ).loc Cert.AdamConvKernelIdeal.main_v0_0)) (v1 : (c : Dev Cert.AdamConvKernelIdeal.nD) → Buf (Elt Ideal) ((c.tc : Thread Cert.AdamConvKernelIdeal.nD Cert.AdamConvKernelIdeal.τ).loc Cert.AdamConvKernelIdeal.main_v0_1)) (v2 : (c : Dev Cert.AdamConvKernelIdeal.nD) → Buf (Elt Ideal) ((c.tc : Thread Cert.AdamConvKernelIdeal.nD Cert.AdamConvKernelIdeal.τ).loc Cert.AdamConvKernelIdeal.main_v0_2)) (v3 : (c : Dev Cert.AdamConvKernelIdeal.nD) → Buf (Elt Ideal) ((c.tc : Thread Cert.AdamConvKernelIdeal.nD Cert.AdamConvKernelIdeal.τ).loc Cert.AdamConvKernelIdeal.main_v0_3)),
      θ_run (Cert.AdamConvKernelIdeal.defs (F := Ideal)) (onTc (τ := Cert.AdamConvKernelIdeal.τ) (Cert.AdamConvKernelIdeal.main (F := Ideal))) ⟨m, fun _ => 0, g⟩ (fun r => ∀ c : Dev Cert.AdamConvKernelIdeal.nD,
          r.2.mem ((c.tc : Thread Cert.AdamConvKernelIdeal.nD Cert.AdamConvKernelIdeal.τ).loc Cert.AdamConvKernelIdeal.main_v0_0) = v0 c
          ∧ r.2.mem ((c.tc : Thread Cert.AdamConvKernelIdeal.nD Cert.AdamConvKernelIdeal.τ).loc Cert.AdamConvKernelIdeal.main_v0_1) = v1 c
          ∧ r.2.mem ((c.tc : Thread Cert.AdamConvKernelIdeal.nD Cert.AdamConvKernelIdeal.τ).loc Cert.AdamConvKernelIdeal.main_v0_2) = v2 c
          ∧ r.2.mem ((c.tc : Thread Cert.AdamConvKernelIdeal.nD Cert.AdamConvKernelIdeal.τ).loc Cert.AdamConvKernelIdeal.main_v0_3) = v3 c
          ∧ r.2.mem ((c.tc : Thread Cert.AdamConvKernelIdeal.nD Cert.AdamConvKernelIdeal.τ).loc Cert.AdamConvKernelIdeal.main_arg0) = m ((c.tc : Thread Cert.AdamConvKernelIdeal.nD Cert.AdamConvKernelIdeal.τ).loc Cert.AdamConvKernelIdeal.main_arg0)
          ∧ r.2.mem ((c.tc : Thread Cert.AdamConvKernelIdeal.nD Cert.AdamConvKernelIdeal.τ).loc Cert.AdamConvKernelIdeal.main_arg1) = m ((c.tc : Thread Cert.AdamConvKernelIdeal.nD Cert.AdamConvKernelIdeal.τ).loc Cert.AdamConvKernelIdeal.main_arg1)
          ∧ r.2.mem ((c.tc : Thread Cert.AdamConvKernelIdeal.nD Cert.AdamConvKernelIdeal.τ).loc Cert.AdamConvKernelIdeal.main_arg2) = m ((c.tc : Thread Cert.AdamConvKernelIdeal.nD Cert.AdamConvKernelIdeal.τ).loc Cert.AdamConvKernelIdeal.main_arg2)
          ∧ r.2.mem ((c.tc : Thread Cert.AdamConvKernelIdeal.nD Cert.AdamConvKernelIdeal.τ).loc Cert.AdamConvKernelIdeal.main_arg3) = m ((c.tc : Thread Cert.AdamConvKernelIdeal.nD Cert.AdamConvKernelIdeal.τ).loc Cert.AdamConvKernelIdeal.main_arg3)
          ∧ r.2.mem ((c.tc : Thread Cert.AdamConvKernelIdeal.nD Cert.AdamConvKernelIdeal.τ).loc Cert.AdamConvKernelIdeal.main_arg4) = m ((c.tc : Thread Cert.AdamConvKernelIdeal.nD Cert.AdamConvKernelIdeal.τ).loc Cert.AdamConvKernelIdeal.main_arg4))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v4) = v0 c
          ∧ r.2.mem ((c.tc : Thread Cert.AdamConvReferenceIdeal.nD Cert.AdamConvReferenceIdeal.τ).loc Cert.AdamConvReferenceIdeal.main_v28) = v1 c
          ∧ r.2.mem ((c.tc : Thread Cert.AdamConvReferenceIdeal.nD Cert.AdamConvReferenceIdeal.τ).loc Cert.AdamConvReferenceIdeal.main_v9) = v2 c
          ∧ r.2.mem ((c.tc : Thread Cert.AdamConvReferenceIdeal.nD Cert.AdamConvReferenceIdeal.τ).loc Cert.AdamConvReferenceIdeal.main_v15) = v3 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3)
          ∧ r.2.mem ((c.tc : Thread Cert.AdamConvReferenceIdeal.nD Cert.AdamConvReferenceIdeal.τ).loc Cert.AdamConvReferenceIdeal.main_arg4) = m' ((c.tc : Thread Cert.AdamConvReferenceIdeal.nD Cert.AdamConvReferenceIdeal.τ).loc Cert.AdamConvReferenceIdeal.main_arg4))

def preserves_AdamSconvKernel_AdamSconvKernelIdeal : Prop :=
  True

def algebraic_AdamSconvKernelIdeal_AdamSconvReferenceIdeal [hAdamSconvKernelIdeal : Cert.AdamSconvKernelIdeal.Facts] [hAdamSconvReferenceIdeal : Cert.AdamSconvReferenceIdeal.Facts] : Prop :=
  ∀ (m : (ℓ : Loc Cert.AdamSconvKernelIdeal.nD Cert.AdamSconvKernelIdeal.τ Cert.AdamSconvKernelIdeal.sig) → Buf (Elt Ideal) ℓ) (g : Dev Cert.AdamSconvKernelIdeal.nD → PrngReg)
    (m' : (ℓ : Loc Cert.AdamSconvReferenceIdeal.nD Cert.AdamSconvReferenceIdeal.τ Cert.AdamSconvReferenceIdeal.sig) → Buf (Elt Ideal) ℓ) (g' : Dev Cert.AdamSconvReferenceIdeal.nD → PrngReg), Pre_AdamSconvKernelIdeal m →
    (∀ c : Dev Cert.AdamSconvKernelIdeal.nD,
      m' ((c.tc : Thread Cert.AdamSconvReferenceIdeal.nD Cert.AdamSconvReferenceIdeal.τ).loc Cert.AdamSconvReferenceIdeal.main_arg0) = m ((c.tc : Thread Cert.AdamSconvKernelIdeal.nD Cert.AdamSconvKernelIdeal.τ).loc Cert.AdamSconvKernelIdeal.main_arg0)
      ∧ m' ((c.tc : Thread Cert.AdamSconvReferenceIdeal.nD Cert.AdamSconvReferenceIdeal.τ).loc Cert.AdamSconvReferenceIdeal.main_arg1) = m ((c.tc : Thread Cert.AdamSconvKernelIdeal.nD Cert.AdamSconvKernelIdeal.τ).loc Cert.AdamSconvKernelIdeal.main_arg1)
      ∧ m' ((c.tc : Thread Cert.AdamSconvReferenceIdeal.nD Cert.AdamSconvReferenceIdeal.τ).loc Cert.AdamSconvReferenceIdeal.main_arg2) = m ((c.tc : Thread Cert.AdamSconvKernelIdeal.nD Cert.AdamSconvKernelIdeal.τ).loc Cert.AdamSconvKernelIdeal.main_arg2)
      ∧ m' ((c.tc : Thread Cert.AdamSconvReferenceIdeal.nD Cert.AdamSconvReferenceIdeal.τ).loc Cert.AdamSconvReferenceIdeal.main_arg3) = m ((c.tc : Thread Cert.AdamSconvKernelIdeal.nD Cert.AdamSconvKernelIdeal.τ).loc Cert.AdamSconvKernelIdeal.main_arg3)
      ∧ m' ((c.tc : Thread Cert.AdamSconvReferenceIdeal.nD Cert.AdamSconvReferenceIdeal.τ).loc Cert.AdamSconvReferenceIdeal.main_arg4) = m ((c.tc : Thread Cert.AdamSconvKernelIdeal.nD Cert.AdamSconvKernelIdeal.τ).loc Cert.AdamSconvKernelIdeal.main_arg4)) →
    ∃ (v0 : (c : Dev Cert.AdamSconvKernelIdeal.nD) → Buf (Elt Ideal) ((c.tc : Thread Cert.AdamSconvKernelIdeal.nD Cert.AdamSconvKernelIdeal.τ).loc Cert.AdamSconvKernelIdeal.main_v0_0)) (v1 : (c : Dev Cert.AdamSconvKernelIdeal.nD) → Buf (Elt Ideal) ((c.tc : Thread Cert.AdamSconvKernelIdeal.nD Cert.AdamSconvKernelIdeal.τ).loc Cert.AdamSconvKernelIdeal.main_v0_1)) (v2 : (c : Dev Cert.AdamSconvKernelIdeal.nD) → Buf (Elt Ideal) ((c.tc : Thread Cert.AdamSconvKernelIdeal.nD Cert.AdamSconvKernelIdeal.τ).loc Cert.AdamSconvKernelIdeal.main_v0_2)) (v3 : (c : Dev Cert.AdamSconvKernelIdeal.nD) → Buf (Elt Ideal) ((c.tc : Thread Cert.AdamSconvKernelIdeal.nD Cert.AdamSconvKernelIdeal.τ).loc Cert.AdamSconvKernelIdeal.main_v0_3)),
      θ_run (Cert.AdamSconvKernelIdeal.defs (F := Ideal)) (onTc (τ := Cert.AdamSconvKernelIdeal.τ) (Cert.AdamSconvKernelIdeal.main (F := Ideal))) ⟨m, fun _ => 0, g⟩ (fun r => ∀ c : Dev Cert.AdamSconvKernelIdeal.nD,
          r.2.mem ((c.tc : Thread Cert.AdamSconvKernelIdeal.nD Cert.AdamSconvKernelIdeal.τ).loc Cert.AdamSconvKernelIdeal.main_v0_0) = v0 c
          ∧ r.2.mem ((c.tc : Thread Cert.AdamSconvKernelIdeal.nD Cert.AdamSconvKernelIdeal.τ).loc Cert.AdamSconvKernelIdeal.main_v0_1) = v1 c
          ∧ r.2.mem ((c.tc : Thread Cert.AdamSconvKernelIdeal.nD Cert.AdamSconvKernelIdeal.τ).loc Cert.AdamSconvKernelIdeal.main_v0_2) = v2 c
          ∧ r.2.mem ((c.tc : Thread Cert.AdamSconvKernelIdeal.nD Cert.AdamSconvKernelIdeal.τ).loc Cert.AdamSconvKernelIdeal.main_v0_3) = v3 c
          ∧ r.2.mem ((c.tc : Thread Cert.AdamSconvKernelIdeal.nD Cert.AdamSconvKernelIdeal.τ).loc Cert.AdamSconvKernelIdeal.main_arg0) = m ((c.tc : Thread Cert.AdamSconvKernelIdeal.nD Cert.AdamSconvKernelIdeal.τ).loc Cert.AdamSconvKernelIdeal.main_arg0)
          ∧ r.2.mem ((c.tc : Thread Cert.AdamSconvKernelIdeal.nD Cert.AdamSconvKernelIdeal.τ).loc Cert.AdamSconvKernelIdeal.main_arg1) = m ((c.tc : Thread Cert.AdamSconvKernelIdeal.nD Cert.AdamSconvKernelIdeal.τ).loc Cert.AdamSconvKernelIdeal.main_arg1)
          ∧ r.2.mem ((c.tc : Thread Cert.AdamSconvKernelIdeal.nD Cert.AdamSconvKernelIdeal.τ).loc Cert.AdamSconvKernelIdeal.main_arg2) = m ((c.tc : Thread Cert.AdamSconvKernelIdeal.nD Cert.AdamSconvKernelIdeal.τ).loc Cert.AdamSconvKernelIdeal.main_arg2)
          ∧ r.2.mem ((c.tc : Thread Cert.AdamSconvKernelIdeal.nD Cert.AdamSconvKernelIdeal.τ).loc Cert.AdamSconvKernelIdeal.main_arg3) = m ((c.tc : Thread Cert.AdamSconvKernelIdeal.nD Cert.AdamSconvKernelIdeal.τ).loc Cert.AdamSconvKernelIdeal.main_arg3)
          ∧ r.2.mem ((c.tc : Thread Cert.AdamSconvKernelIdeal.nD Cert.AdamSconvKernelIdeal.τ).loc Cert.AdamSconvKernelIdeal.main_arg4) = m ((c.tc : Thread Cert.AdamSconvKernelIdeal.nD Cert.AdamSconvKernelIdeal.τ).loc Cert.AdamSconvKernelIdeal.main_arg4))
      ∧ θ_run (Cert.AdamSconvReferenceIdeal.defs (F := Ideal)) (onTc (τ := Cert.AdamSconvReferenceIdeal.τ) (Cert.AdamSconvReferenceIdeal.main (F := Ideal))) ⟨m', fun _ => 0, g'⟩ (fun r => ∀ c : Dev Cert.AdamSconvReferenceIdeal.nD,
          r.2.mem ((c.tc : Thread Cert.AdamSconvReferenceIdeal.nD Cert.AdamSconvReferenceIdeal.τ).loc Cert.AdamSconvReferenceIdeal.main_v4) = v0 c
          ∧ r.2.mem ((c.tc : Thread Cert.AdamSconvReferenceIdeal.nD Cert.AdamSconvReferenceIdeal.τ).loc Cert.AdamSconvReferenceIdeal.main_v28) = v1 c
          ∧ r.2.mem ((c.tc : Thread Cert.AdamSconvReferenceIdeal.nD Cert.AdamSconvReferenceIdeal.τ).loc Cert.AdamSconvReferenceIdeal.main_v9) = v2 c
          ∧ r.2.mem ((c.tc : Thread Cert.AdamSconvReferenceIdeal.nD Cert.AdamSconvReferenceIdeal.τ).loc Cert.AdamSconvReferenceIdeal.main_v15) = v3 c
          ∧ r.2.mem ((c.tc : Thread Cert.AdamSconvReferenceIdeal.nD Cert.AdamSconvReferenceIdeal.τ).loc Cert.AdamSconvReferenceIdeal.main_arg0) = m' ((c.tc : Thread Cert.AdamSconvReferenceIdeal.nD Cert.AdamSconvReferenceIdeal.τ).loc Cert.AdamSconvReferenceIdeal.main_arg0)
          ∧ r.2.mem ((c.tc : Thread Cert.AdamSconvReferenceIdeal.nD Cert.AdamSconvReferenceIdeal.τ).loc Cert.AdamSconvReferenceIdeal.main_arg1) = m' ((c.tc : Thread Cert.AdamSconvReferenceIdeal.nD Cert.AdamSconvReferenceIdeal.τ).loc Cert.AdamSconvReferenceIdeal.main_arg1)
          ∧ r.2.mem ((c.tc : Thread Cert.AdamSconvReferenceIdeal.nD Cert.AdamSconvReferenceIdeal.τ).loc Cert.AdamSconvReferenceIdeal.main_arg2) = m' ((c.tc : Thread Cert.AdamSconvReferenceIdeal.nD Cert.AdamSconvReferenceIdeal.τ).loc Cert.AdamSconvReferenceIdeal.main_arg2)
          ∧ r.2.mem ((c.tc : Thread Cert.AdamSconvReferenceIdeal.nD Cert.AdamSconvReferenceIdeal.τ).loc Cert.AdamSconvReferenceIdeal.main_arg3) = m' ((c.tc : Thread Cert.AdamSconvReferenceIdeal.nD Cert.AdamSconvReferenceIdeal.τ).loc Cert.AdamSconvReferenceIdeal.main_arg3)
          ∧ r.2.mem ((c.tc : Thread Cert.AdamSconvReferenceIdeal.nD Cert.AdamSconvReferenceIdeal.τ).loc Cert.AdamSconvReferenceIdeal.main_arg4) = m' ((c.tc : Thread Cert.AdamSconvReferenceIdeal.nD Cert.AdamSconvReferenceIdeal.τ).loc Cert.AdamSconvReferenceIdeal.main_arg4))

def preserves_AdamSmallKernel_AdamSmallKernelIdeal : Prop :=
  True

def algebraic_AdamSmallKernelIdeal_AdamSmallReferenceIdeal [hAdamSmallKernelIdeal : Cert.AdamSmallKernelIdeal.Facts] [hAdamSmallReferenceIdeal : Cert.AdamSmallReferenceIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallKernelIdeal m →
    (∀ c : Dev Cert.AdamSmallKernelIdeal.nD,
      m' ((c.tc : Thread Cert.AdamSmallReferenceIdeal.nD Cert.AdamSmallReferenceIdeal.τ).loc Cert.AdamSmallReferenceIdeal.main_arg0) = m ((c.tc : Thread Cert.AdamSmallKernelIdeal.nD Cert.AdamSmallKernelIdeal.τ).loc Cert.AdamSmallKernelIdeal.main_arg0)
      ∧ m' ((c.tc : Thread Cert.AdamSmallReferenceIdeal.nD Cert.AdamSmallReferenceIdeal.τ).loc Cert.AdamSmallReferenceIdeal.main_arg1) = m ((c.tc : Thread Cert.AdamSmallKernelIdeal.nD Cert.AdamSmallKernelIdeal.τ).loc Cert.AdamSmallKernelIdeal.main_arg1)
      ∧ m' ((c.tc : Thread Cert.AdamSmallReferenceIdeal.nD Cert.AdamSmallReferenceIdeal.τ).loc Cert.AdamSmallReferenceIdeal.main_arg2) = m ((c.tc : Thread Cert.AdamSmallKernelIdeal.nD Cert.AdamSmallKernelIdeal.τ).loc Cert.AdamSmallKernelIdeal.main_arg2)
      ∧ m' ((c.tc : Thread Cert.AdamSmallReferenceIdeal.nD Cert.AdamSmallReferenceIdeal.τ).loc Cert.AdamSmallReferenceIdeal.main_arg3) = m ((c.tc : Thread Cert.AdamSmallKernelIdeal.nD Cert.AdamSmallKernelIdeal.τ).loc Cert.AdamSmallKernelIdeal.main_arg3)) →
    ∃ (v0 : (c : Dev Cert.AdamSmallKernelIdeal.nD) → Buf (Elt Ideal) ((c.tc : Thread Cert.AdamSmallKernelIdeal.nD Cert.AdamSmallKernelIdeal.τ).loc Cert.AdamSmallKernelIdeal.main_v0_0)) (v1 : (c : Dev Cert.AdamSmallKernelIdeal.nD) → Buf (Elt Ideal) ((c.tc : Thread Cert.AdamSmallKernelIdeal.nD Cert.AdamSmallKernelIdeal.τ).loc Cert.AdamSmallKernelIdeal.main_v0_1)) (v2 : (c : Dev Cert.AdamSmallKernelIdeal.nD) → Buf (Elt Ideal) ((c.tc : Thread Cert.AdamSmallKernelIdeal.nD Cert.AdamSmallKernelIdeal.τ).loc Cert.AdamSmallKernelIdeal.main_v0_2)) (v3 : (c : Dev Cert.AdamSmallKernelIdeal.nD) → Buf (Elt Ideal) ((c.tc : Thread Cert.AdamSmallKernelIdeal.nD Cert.AdamSmallKernelIdeal.τ).loc Cert.AdamSmallKernelIdeal.main_v0_3)),
      θ_run (Cert.AdamSmallKernelIdeal.defs (F := Ideal)) (onTc (τ := Cert.AdamSmallKernelIdeal.τ) (Cert.AdamSmallKernelIdeal.main (F := Ideal))) ⟨m, fun _ => 0, g⟩ (fun r => ∀ c : Dev Cert.AdamSmallKernelIdeal.nD,
          r.2.mem ((c.tc : Thread Cert.AdamSmallKernelIdeal.nD Cert.AdamSmallKernelIdeal.τ).loc Cert.AdamSmallKernelIdeal.main_v0_0) = v0 c
          ∧ r.2.mem ((c.tc : Thread Cert.AdamSmallKernelIdeal.nD Cert.AdamSmallKernelIdeal.τ).loc Cert.AdamSmallKernelIdeal.main_v0_1) = v1 c
          ∧ r.2.mem ((c.tc : Thread Cert.AdamSmallKernelIdeal.nD Cert.AdamSmallKernelIdeal.τ).loc Cert.AdamSmallKernelIdeal.main_v0_2) = v2 c
          ∧ r.2.mem ((c.tc : Thread Cert.AdamSmallKernelIdeal.nD Cert.AdamSmallKernelIdeal.τ).loc Cert.AdamSmallKernelIdeal.main_v0_3) = v3 c
          ∧ r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
          ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
          ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
          ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v1) = v0 c
          ∧ r.2.mem ((c.tc : Thread Cert.AdamSmallReferenceIdeal.nD Cert.AdamSmallReferenceIdeal.τ).loc Cert.AdamSmallReferenceIdeal.main_v25) = v1 c
          ∧ r.2.mem ((c.tc : Thread Cert.AdamSmallReferenceIdeal.nD Cert.AdamSmallReferenceIdeal.τ).loc Cert.AdamSmallReferenceIdeal.main_v6) = v2 c
          ∧ r.2.mem ((c.tc : Thread Cert.AdamSmallReferenceIdeal.nD Cert.AdamSmallReferenceIdeal.τ).loc Cert.AdamSmallReferenceIdeal.main_v12) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_OutGradKernel_OutGradKernelIdeal : Prop :=
  True

def algebraic_OutGradKernelIdeal_OutGradReferenceIdeal [hOutGradKernelIdeal : Cert.OutGradKernelIdeal.Facts] [hOutGradReferenceIdeal : Cert.OutGradReferenceIdeal.Facts] : Prop :=
  ∀ (m : (ℓ : Loc Cert.OutGradKernelIdeal.nD Cert.OutGradKernelIdeal.τ Cert.OutGradKernelIdeal.sig) → Buf (Elt Ideal) ℓ) (g : Dev Cert.OutGradKernelIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradKernelIdeal m →
    (∀ c : Dev Cert.OutGradKernelIdeal.nD,
      m' ((c.tc : Thread Cert.OutGradReferenceIdeal.nD Cert.OutGradReferenceIdeal.τ).loc Cert.OutGradReferenceIdeal.main_arg0) = m ((c.tc : Thread Cert.OutGradKernelIdeal.nD Cert.OutGradKernelIdeal.τ).loc Cert.OutGradKernelIdeal.main_arg0)
      ∧ m' ((c.tc : Thread Cert.OutGradReferenceIdeal.nD Cert.OutGradReferenceIdeal.τ).loc Cert.OutGradReferenceIdeal.main_arg1) = m ((c.tc : Thread Cert.OutGradKernelIdeal.nD Cert.OutGradKernelIdeal.τ).loc Cert.OutGradKernelIdeal.main_arg1)) →
    ∃ (v0 : (c : Dev Cert.OutGradKernelIdeal.nD) → Buf (Elt Ideal) ((c.tc : Thread Cert.OutGradKernelIdeal.nD Cert.OutGradKernelIdeal.τ).loc Cert.OutGradKernelIdeal.main_v0)),
      θ_run (Cert.OutGradKernelIdeal.defs (F := Ideal)) (onTc (τ := Cert.OutGradKernelIdeal.τ) (Cert.OutGradKernelIdeal.main (F := Ideal))) ⟨m, fun _ => 0, g⟩ (fun r => ∀ c : Dev Cert.OutGradKernelIdeal.nD,
          r.2.mem ((c.tc : Thread Cert.OutGradKernelIdeal.nD Cert.OutGradKernelIdeal.τ).loc Cert.OutGradKernelIdeal.main_v0) = v0 c
          ∧ r.2.mem ((c.tc : Thread Cert.OutGradKernelIdeal.nD Cert.OutGradKernelIdeal.τ).loc Cert.OutGradKernelIdeal.main_arg0) = m ((c.tc : Thread Cert.OutGradKernelIdeal.nD Cert.OutGradKernelIdeal.τ).loc Cert.OutGradKernelIdeal.main_arg0)
          ∧ r.2.mem ((c.tc : Thread Cert.OutGradKernelIdeal.nD Cert.OutGradKernelIdeal.τ).loc Cert.OutGradKernelIdeal.main_arg1) = m ((c.tc : Thread Cert.OutGradKernelIdeal.nD Cert.OutGradKernelIdeal.τ).loc Cert.OutGradKernelIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v5) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_MixedGradKernel_MixedGradKernelIdeal : Prop :=
  True

def algebraic_MixedGradKernelIdeal_MixedGradReferenceIdeal [hMixedGradKernelIdeal : Cert.MixedGradKernelIdeal.Facts] [hMixedGradReferenceIdeal : Cert.MixedGradReferenceIdeal.Facts] : Prop :=
  ∀ (m : (ℓ : Loc Cert.MixedGradKernelIdeal.nD Cert.MixedGradKernelIdeal.τ Cert.MixedGradKernelIdeal.sig) → Buf (Elt Ideal) ℓ) (g : Dev Cert.MixedGradKernelIdeal.nD → PrngReg)
    (m' : (ℓ : Loc Cert.MixedGradReferenceIdeal.nD Cert.MixedGradReferenceIdeal.τ Cert.MixedGradReferenceIdeal.sig) → Buf (Elt Ideal) ℓ) (g' : Dev Cert.MixedGradReferenceIdeal.nD → PrngReg), Pre_MixedGradKernelIdeal m →
    (∀ c : Dev Cert.MixedGradKernelIdeal.nD,
      m' ((c.tc : Thread Cert.MixedGradReferenceIdeal.nD Cert.MixedGradReferenceIdeal.τ).loc Cert.MixedGradReferenceIdeal.main_arg0) = m ((c.tc : Thread Cert.MixedGradKernelIdeal.nD Cert.MixedGradKernelIdeal.τ).loc Cert.MixedGradKernelIdeal.main_arg0)
      ∧ m' ((c.tc : Thread Cert.MixedGradReferenceIdeal.nD Cert.MixedGradReferenceIdeal.τ).loc Cert.MixedGradReferenceIdeal.main_arg1) = m ((c.tc : Thread Cert.MixedGradKernelIdeal.nD Cert.MixedGradKernelIdeal.τ).loc Cert.MixedGradKernelIdeal.main_arg1)) →
    ∃ (v0 : (c : Dev Cert.MixedGradKernelIdeal.nD) → Buf (Elt Ideal) ((c.tc : Thread Cert.MixedGradKernelIdeal.nD Cert.MixedGradKernelIdeal.τ).loc Cert.MixedGradKernelIdeal.main_v0)),
      θ_run (Cert.MixedGradKernelIdeal.defs (F := Ideal)) (onTc (τ := Cert.MixedGradKernelIdeal.τ) (Cert.MixedGradKernelIdeal.main (F := Ideal))) ⟨m, fun _ => 0, g⟩ (fun r => ∀ c : Dev Cert.MixedGradKernelIdeal.nD,
          r.2.mem ((c.tc : Thread Cert.MixedGradKernelIdeal.nD Cert.MixedGradKernelIdeal.τ).loc Cert.MixedGradKernelIdeal.main_v0) = v0 c
          ∧ r.2.mem ((c.tc : Thread Cert.MixedGradKernelIdeal.nD Cert.MixedGradKernelIdeal.τ).loc Cert.MixedGradKernelIdeal.main_arg0) = m ((c.tc : Thread Cert.MixedGradKernelIdeal.nD Cert.MixedGradKernelIdeal.τ).loc Cert.MixedGradKernelIdeal.main_arg0)
          ∧ r.2.mem ((c.tc : Thread Cert.MixedGradKernelIdeal.nD Cert.MixedGradKernelIdeal.τ).loc Cert.MixedGradKernelIdeal.main_arg1) = m ((c.tc : Thread Cert.MixedGradKernelIdeal.nD Cert.MixedGradKernelIdeal.τ).loc Cert.MixedGradKernelIdeal.main_arg1))
      ∧ θ_run (Cert.MixedGradReferenceIdeal.defs (F := Ideal)) (onTc (τ := Cert.MixedGradReferenceIdeal.τ) (Cert.MixedGradReferenceIdeal.main (F := Ideal))) ⟨m', fun _ => 0, g'⟩ (fun r => ∀ c : Dev Cert.MixedGradReferenceIdeal.nD,
          r.2.mem ((c.tc : Thread Cert.MixedGradReferenceIdeal.nD Cert.MixedGradReferenceIdeal.τ).loc Cert.MixedGradReferenceIdeal.main_v3) = v0 c
          ∧ r.2.mem ((c.tc : Thread Cert.MixedGradReferenceIdeal.nD Cert.MixedGradReferenceIdeal.τ).loc Cert.MixedGradReferenceIdeal.main_arg0) = m' ((c.tc : Thread Cert.MixedGradReferenceIdeal.nD Cert.MixedGradReferenceIdeal.τ).loc Cert.MixedGradReferenceIdeal.main_arg0)
          ∧ r.2.mem ((c.tc : Thread Cert.MixedGradReferenceIdeal.nD Cert.MixedGradReferenceIdeal.τ).loc Cert.MixedGradReferenceIdeal.main_arg1) = m' ((c.tc : Thread Cert.MixedGradReferenceIdeal.nD Cert.MixedGradReferenceIdeal.τ).loc Cert.MixedGradReferenceIdeal.main_arg1))

def preserves_PleBwdKernel_PleBwdKernelIdeal : Prop :=
  True

def algebraic_PleBwdKernelIdeal_PleBwdReferenceIdeal [hPleBwdKernelIdeal : Cert.PleBwdKernelIdeal.Facts] [hPleBwdReferenceIdeal : Cert.PleBwdReferenceIdeal.Facts] : Prop :=
  ∀ (m : (ℓ : Loc Cert.PleBwdKernelIdeal.nD Cert.PleBwdKernelIdeal.τ Cert.PleBwdKernelIdeal.sig) → Buf (Elt Ideal) ℓ) (g : Dev Cert.PleBwdKernelIdeal.nD → PrngReg)
    (m' : (ℓ : Loc Cert.PleBwdReferenceIdeal.nD Cert.PleBwdReferenceIdeal.τ Cert.PleBwdReferenceIdeal.sig) → Buf (Elt Ideal) ℓ) (g' : Dev Cert.PleBwdReferenceIdeal.nD → PrngReg), Pre_PleBwdKernelIdeal m →
    (∀ c : Dev Cert.PleBwdKernelIdeal.nD,
      m' ((c.tc : Thread Cert.PleBwdReferenceIdeal.nD Cert.PleBwdReferenceIdeal.τ).loc Cert.PleBwdReferenceIdeal.main_arg0) = m ((c.tc : Thread Cert.PleBwdKernelIdeal.nD Cert.PleBwdKernelIdeal.τ).loc Cert.PleBwdKernelIdeal.main_arg0)
      ∧ m' ((c.tc : Thread Cert.PleBwdReferenceIdeal.nD Cert.PleBwdReferenceIdeal.τ).loc Cert.PleBwdReferenceIdeal.main_arg1) = m ((c.tc : Thread Cert.PleBwdKernelIdeal.nD Cert.PleBwdKernelIdeal.τ).loc Cert.PleBwdKernelIdeal.main_arg1)
      ∧ m' ((c.tc : Thread Cert.PleBwdReferenceIdeal.nD Cert.PleBwdReferenceIdeal.τ).loc Cert.PleBwdReferenceIdeal.main_arg2) = m ((c.tc : Thread Cert.PleBwdKernelIdeal.nD Cert.PleBwdKernelIdeal.τ).loc Cert.PleBwdKernelIdeal.main_arg2)) →
    ∃ (v0 : (c : Dev Cert.PleBwdKernelIdeal.nD) → Buf (Elt Ideal) ((c.tc : Thread Cert.PleBwdKernelIdeal.nD Cert.PleBwdKernelIdeal.τ).loc Cert.PleBwdKernelIdeal.main_v0_0)) (v1 : (c : Dev Cert.PleBwdKernelIdeal.nD) → Buf (Elt Ideal) ((c.tc : Thread Cert.PleBwdKernelIdeal.nD Cert.PleBwdKernelIdeal.τ).loc Cert.PleBwdKernelIdeal.main_v0_1)),
      θ_run (Cert.PleBwdKernelIdeal.defs (F := Ideal)) (onTc (τ := Cert.PleBwdKernelIdeal.τ) (Cert.PleBwdKernelIdeal.main (F := Ideal))) ⟨m, fun _ => 0, g⟩ (fun r => ∀ c : Dev Cert.PleBwdKernelIdeal.nD,
          r.2.mem ((c.tc : Thread Cert.PleBwdKernelIdeal.nD Cert.PleBwdKernelIdeal.τ).loc Cert.PleBwdKernelIdeal.main_v0_0) = v0 c
          ∧ r.2.mem ((c.tc : Thread Cert.PleBwdKernelIdeal.nD Cert.PleBwdKernelIdeal.τ).loc Cert.PleBwdKernelIdeal.main_v0_1) = v1 c
          ∧ r.2.mem ((c.tc : Thread Cert.PleBwdKernelIdeal.nD Cert.PleBwdKernelIdeal.τ).loc Cert.PleBwdKernelIdeal.main_arg0) = m ((c.tc : Thread Cert.PleBwdKernelIdeal.nD Cert.PleBwdKernelIdeal.τ).loc Cert.PleBwdKernelIdeal.main_arg0)
          ∧ r.2.mem ((c.tc : Thread Cert.PleBwdKernelIdeal.nD Cert.PleBwdKernelIdeal.τ).loc Cert.PleBwdKernelIdeal.main_arg1) = m ((c.tc : Thread Cert.PleBwdKernelIdeal.nD Cert.PleBwdKernelIdeal.τ).loc Cert.PleBwdKernelIdeal.main_arg1)
          ∧ r.2.mem ((c.tc : Thread Cert.PleBwdKernelIdeal.nD Cert.PleBwdKernelIdeal.τ).loc Cert.PleBwdKernelIdeal.main_arg2) = m ((c.tc : Thread Cert.PleBwdKernelIdeal.nD Cert.PleBwdKernelIdeal.τ).loc Cert.PleBwdKernelIdeal.main_arg2))
      ∧ θ_run (Cert.PleBwdReferenceIdeal.defs (F := Ideal)) (onTc (τ := Cert.PleBwdReferenceIdeal.τ) (Cert.PleBwdReferenceIdeal.main (F := Ideal))) ⟨m', fun _ => 0, g'⟩ (fun r => ∀ c : Dev Cert.PleBwdReferenceIdeal.nD,
          r.2.mem ((c.tc : Thread Cert.PleBwdReferenceIdeal.nD Cert.PleBwdReferenceIdeal.τ).loc Cert.PleBwdReferenceIdeal.main_v13) = v0 c
          ∧ r.2.mem ((c.tc : Thread Cert.PleBwdReferenceIdeal.nD Cert.PleBwdReferenceIdeal.τ).loc Cert.PleBwdReferenceIdeal.main_v14) = v1 c
          ∧ r.2.mem ((c.tc : Thread Cert.PleBwdReferenceIdeal.nD Cert.PleBwdReferenceIdeal.τ).loc Cert.PleBwdReferenceIdeal.main_arg0) = m' ((c.tc : Thread Cert.PleBwdReferenceIdeal.nD Cert.PleBwdReferenceIdeal.τ).loc Cert.PleBwdReferenceIdeal.main_arg0)
          ∧ r.2.mem ((c.tc : Thread Cert.PleBwdReferenceIdeal.nD Cert.PleBwdReferenceIdeal.τ).loc Cert.PleBwdReferenceIdeal.main_arg1) = m' ((c.tc : Thread Cert.PleBwdReferenceIdeal.nD Cert.PleBwdReferenceIdeal.τ).loc Cert.PleBwdReferenceIdeal.main_arg1)
          ∧ r.2.mem ((c.tc : Thread Cert.PleBwdReferenceIdeal.nD Cert.PleBwdReferenceIdeal.τ).loc Cert.PleBwdReferenceIdeal.main_arg2) = m' ((c.tc : Thread Cert.PleBwdReferenceIdeal.nD Cert.PleBwdReferenceIdeal.τ).loc Cert.PleBwdReferenceIdeal.main_arg2))

def preserves_PleGateGradKernel_PleGateGradKernelIdeal : Prop :=
  True

def algebraic_PleGateGradKernelIdeal_PleGateGradReferenceIdeal [hPleGateGradKernelIdeal : Cert.PleGateGradKernelIdeal.Facts] [hPleGateGradReferenceIdeal : Cert.PleGateGradReferenceIdeal.Facts] : Prop :=
  ∀ (m : (ℓ : Loc Cert.PleGateGradKernelIdeal.nD Cert.PleGateGradKernelIdeal.τ Cert.PleGateGradKernelIdeal.sig) → Buf (Elt Ideal) ℓ) (g : Dev Cert.PleGateGradKernelIdeal.nD → PrngReg)
    (m' : (ℓ : Loc Cert.PleGateGradReferenceIdeal.nD Cert.PleGateGradReferenceIdeal.τ Cert.PleGateGradReferenceIdeal.sig) → Buf (Elt Ideal) ℓ) (g' : Dev Cert.PleGateGradReferenceIdeal.nD → PrngReg), Pre_PleGateGradKernelIdeal m →
    (∀ c : Dev Cert.PleGateGradKernelIdeal.nD,
      m' ((c.tc : Thread Cert.PleGateGradReferenceIdeal.nD Cert.PleGateGradReferenceIdeal.τ).loc Cert.PleGateGradReferenceIdeal.main_arg0) = m ((c.tc : Thread Cert.PleGateGradKernelIdeal.nD Cert.PleGateGradKernelIdeal.τ).loc Cert.PleGateGradKernelIdeal.main_arg0)
      ∧ m' ((c.tc : Thread Cert.PleGateGradReferenceIdeal.nD Cert.PleGateGradReferenceIdeal.τ).loc Cert.PleGateGradReferenceIdeal.main_arg1) = m ((c.tc : Thread Cert.PleGateGradKernelIdeal.nD Cert.PleGateGradKernelIdeal.τ).loc Cert.PleGateGradKernelIdeal.main_arg1)) →
    ∃ (v0 : (c : Dev Cert.PleGateGradKernelIdeal.nD) → Buf (Elt Ideal) ((c.tc : Thread Cert.PleGateGradKernelIdeal.nD Cert.PleGateGradKernelIdeal.τ).loc Cert.PleGateGradKernelIdeal.main_v0)),
      θ_run (Cert.PleGateGradKernelIdeal.defs (F := Ideal)) (onTc (τ := Cert.PleGateGradKernelIdeal.τ) (Cert.PleGateGradKernelIdeal.main (F := Ideal))) ⟨m, fun _ => 0, g⟩ (fun r => ∀ c : Dev Cert.PleGateGradKernelIdeal.nD,
          r.2.mem ((c.tc : Thread Cert.PleGateGradKernelIdeal.nD Cert.PleGateGradKernelIdeal.τ).loc Cert.PleGateGradKernelIdeal.main_v0) = v0 c
          ∧ r.2.mem ((c.tc : Thread Cert.PleGateGradKernelIdeal.nD Cert.PleGateGradKernelIdeal.τ).loc Cert.PleGateGradKernelIdeal.main_arg0) = m ((c.tc : Thread Cert.PleGateGradKernelIdeal.nD Cert.PleGateGradKernelIdeal.τ).loc Cert.PleGateGradKernelIdeal.main_arg0)
          ∧ r.2.mem ((c.tc : Thread Cert.PleGateGradKernelIdeal.nD Cert.PleGateGradKernelIdeal.τ).loc Cert.PleGateGradKernelIdeal.main_arg1) = m ((c.tc : Thread Cert.PleGateGradKernelIdeal.nD Cert.PleGateGradKernelIdeal.τ).loc Cert.PleGateGradKernelIdeal.main_arg1))
      ∧ θ_run (Cert.PleGateGradReferenceIdeal.defs (F := Ideal)) (onTc (τ := Cert.PleGateGradReferenceIdeal.τ) (Cert.PleGateGradReferenceIdeal.main (F := Ideal))) ⟨m', fun _ => 0, g'⟩ (fun r => ∀ c : Dev Cert.PleGateGradReferenceIdeal.nD,
          r.2.mem ((c.tc : Thread Cert.PleGateGradReferenceIdeal.nD Cert.PleGateGradReferenceIdeal.τ).loc Cert.PleGateGradReferenceIdeal.main_v5) = v0 c
          ∧ r.2.mem ((c.tc : Thread Cert.PleGateGradReferenceIdeal.nD Cert.PleGateGradReferenceIdeal.τ).loc Cert.PleGateGradReferenceIdeal.main_arg0) = m' ((c.tc : Thread Cert.PleGateGradReferenceIdeal.nD Cert.PleGateGradReferenceIdeal.τ).loc Cert.PleGateGradReferenceIdeal.main_arg0)
          ∧ r.2.mem ((c.tc : Thread Cert.PleGateGradReferenceIdeal.nD Cert.PleGateGradReferenceIdeal.τ).loc Cert.PleGateGradReferenceIdeal.main_arg1) = m' ((c.tc : Thread Cert.PleGateGradReferenceIdeal.nD Cert.PleGateGradReferenceIdeal.τ).loc Cert.PleGateGradReferenceIdeal.main_arg1))

def preserves_PleXGradKernel_PleXGradKernelIdeal : Prop :=
  True

def algebraic_PleXGradKernelIdeal_PleXGradReferenceIdeal [hPleXGradKernelIdeal : Cert.PleXGradKernelIdeal.Facts] [hPleXGradReferenceIdeal : Cert.PleXGradReferenceIdeal.Facts] : Prop :=
  ∀ (m : (ℓ : Loc Cert.PleXGradKernelIdeal.nD Cert.PleXGradKernelIdeal.τ Cert.PleXGradKernelIdeal.sig) → Buf (Elt Ideal) ℓ) (g : Dev Cert.PleXGradKernelIdeal.nD → PrngReg)
    (m' : (ℓ : Loc Cert.PleXGradReferenceIdeal.nD Cert.PleXGradReferenceIdeal.τ Cert.PleXGradReferenceIdeal.sig) → Buf (Elt Ideal) ℓ) (g' : Dev Cert.PleXGradReferenceIdeal.nD → PrngReg), Pre_PleXGradKernelIdeal m →
    (∀ c : Dev Cert.PleXGradKernelIdeal.nD,
      m' ((c.tc : Thread Cert.PleXGradReferenceIdeal.nD Cert.PleXGradReferenceIdeal.τ).loc Cert.PleXGradReferenceIdeal.main_arg0) = m ((c.tc : Thread Cert.PleXGradKernelIdeal.nD Cert.PleXGradKernelIdeal.τ).loc Cert.PleXGradKernelIdeal.main_arg0)
      ∧ m' ((c.tc : Thread Cert.PleXGradReferenceIdeal.nD Cert.PleXGradReferenceIdeal.τ).loc Cert.PleXGradReferenceIdeal.main_arg1) = m ((c.tc : Thread Cert.PleXGradKernelIdeal.nD Cert.PleXGradKernelIdeal.τ).loc Cert.PleXGradKernelIdeal.main_arg1)
      ∧ m' ((c.tc : Thread Cert.PleXGradReferenceIdeal.nD Cert.PleXGradReferenceIdeal.τ).loc Cert.PleXGradReferenceIdeal.main_arg2) = m ((c.tc : Thread Cert.PleXGradKernelIdeal.nD Cert.PleXGradKernelIdeal.τ).loc Cert.PleXGradKernelIdeal.main_arg2)) →
    ∃ (v0 : (c : Dev Cert.PleXGradKernelIdeal.nD) → Buf (Elt Ideal) ((c.tc : Thread Cert.PleXGradKernelIdeal.nD Cert.PleXGradKernelIdeal.τ).loc Cert.PleXGradKernelIdeal.main_v0)),
      θ_run (Cert.PleXGradKernelIdeal.defs (F := Ideal)) (onTc (τ := Cert.PleXGradKernelIdeal.τ) (Cert.PleXGradKernelIdeal.main (F := Ideal))) ⟨m, fun _ => 0, g⟩ (fun r => ∀ c : Dev Cert.PleXGradKernelIdeal.nD,
          r.2.mem ((c.tc : Thread Cert.PleXGradKernelIdeal.nD Cert.PleXGradKernelIdeal.τ).loc Cert.PleXGradKernelIdeal.main_v0) = v0 c
          ∧ r.2.mem ((c.tc : Thread Cert.PleXGradKernelIdeal.nD Cert.PleXGradKernelIdeal.τ).loc Cert.PleXGradKernelIdeal.main_arg0) = m ((c.tc : Thread Cert.PleXGradKernelIdeal.nD Cert.PleXGradKernelIdeal.τ).loc Cert.PleXGradKernelIdeal.main_arg0)
          ∧ r.2.mem ((c.tc : Thread Cert.PleXGradKernelIdeal.nD Cert.PleXGradKernelIdeal.τ).loc Cert.PleXGradKernelIdeal.main_arg1) = m ((c.tc : Thread Cert.PleXGradKernelIdeal.nD Cert.PleXGradKernelIdeal.τ).loc Cert.PleXGradKernelIdeal.main_arg1)
          ∧ r.2.mem ((c.tc : Thread Cert.PleXGradKernelIdeal.nD Cert.PleXGradKernelIdeal.τ).loc Cert.PleXGradKernelIdeal.main_arg2) = m ((c.tc : Thread Cert.PleXGradKernelIdeal.nD Cert.PleXGradKernelIdeal.τ).loc Cert.PleXGradKernelIdeal.main_arg2))
      ∧ θ_run (Cert.PleXGradReferenceIdeal.defs (F := Ideal)) (onTc (τ := Cert.PleXGradReferenceIdeal.τ) (Cert.PleXGradReferenceIdeal.main (F := Ideal))) ⟨m', fun _ => 0, g'⟩ (fun r => ∀ c : Dev Cert.PleXGradReferenceIdeal.nD,
          r.2.mem ((c.tc : Thread Cert.PleXGradReferenceIdeal.nD Cert.PleXGradReferenceIdeal.τ).loc Cert.PleXGradReferenceIdeal.main_v5) = v0 c
          ∧ r.2.mem ((c.tc : Thread Cert.PleXGradReferenceIdeal.nD Cert.PleXGradReferenceIdeal.τ).loc Cert.PleXGradReferenceIdeal.main_arg0) = m' ((c.tc : Thread Cert.PleXGradReferenceIdeal.nD Cert.PleXGradReferenceIdeal.τ).loc Cert.PleXGradReferenceIdeal.main_arg0)
          ∧ r.2.mem ((c.tc : Thread Cert.PleXGradReferenceIdeal.nD Cert.PleXGradReferenceIdeal.τ).loc Cert.PleXGradReferenceIdeal.main_arg1) = m' ((c.tc : Thread Cert.PleXGradReferenceIdeal.nD Cert.PleXGradReferenceIdeal.τ).loc Cert.PleXGradReferenceIdeal.main_arg1)
          ∧ r.2.mem ((c.tc : Thread Cert.PleXGradReferenceIdeal.nD Cert.PleXGradReferenceIdeal.τ).loc Cert.PleXGradReferenceIdeal.main_arg2) = m' ((c.tc : Thread Cert.PleXGradReferenceIdeal.nD Cert.PleXGradReferenceIdeal.τ).loc Cert.PleXGradReferenceIdeal.main_arg2))

def Claim : Prop :=
  ∃ (hKernel : Cert.Kernel.Facts) (hKernelIdeal : Cert.KernelIdeal.Facts) (hReferenceIdeal : Cert.ReferenceIdeal.Facts) (hSwigluFwdKernel : Cert.SwigluFwdKernel.Facts) (hSwigluFwdKernelIdeal : Cert.SwigluFwdKernelIdeal.Facts) (hSwigluFwdReferenceIdeal : Cert.SwigluFwdReferenceIdeal.Facts) (hDownKernel : Cert.DownKernel.Facts) (hDownKernelIdeal : Cert.DownKernelIdeal.Facts) (hDownReferenceIdeal : Cert.DownReferenceIdeal.Facts) (hDownGradKernel : Cert.DownGradKernel.Facts) (hDownGradKernelIdeal : Cert.DownGradKernelIdeal.Facts) (hDownGradReferenceIdeal : Cert.DownGradReferenceIdeal.Facts) (hSwigluBwdKernel : Cert.SwigluBwdKernel.Facts) (hSwigluBwdKernelIdeal : Cert.SwigluBwdKernelIdeal.Facts) (hSwigluBwdReferenceIdeal : Cert.SwigluBwdReferenceIdeal.Facts) (hGateGradKernel : Cert.GateGradKernel.Facts) (hGateGradKernelIdeal : Cert.GateGradKernelIdeal.Facts) (hGateGradReferenceIdeal : Cert.GateGradReferenceIdeal.Facts) (hNorm2GradKernel : Cert.Norm2GradKernel.Facts) (hNorm2GradKernelIdeal : Cert.Norm2GradKernelIdeal.Facts) (hNorm2GradReferenceIdeal : Cert.Norm2GradReferenceIdeal.Facts) (hInKernel : Cert.InKernel.Facts) (hInKernelIdeal : Cert.InKernelIdeal.Facts) (hInReferenceIdeal : Cert.InReferenceIdeal.Facts) (hInGradKernel : Cert.InGradKernel.Facts) (hInGradKernelIdeal : Cert.InGradKernelIdeal.Facts) (hInGradReferenceIdeal : Cert.InGradReferenceIdeal.Facts) (hNorm1GradKernel : Cert.Norm1GradKernel.Facts) (hNorm1GradKernelIdeal : Cert.Norm1GradKernelIdeal.Facts) (hNorm1GradReferenceIdeal : Cert.Norm1GradReferenceIdeal.Facts) (hAdamMlpKernel : Cert.AdamMlpKernel.Facts) (hAdamMlpKernelIdeal : Cert.AdamMlpKernelIdeal.Facts) (hAdamMlpReferenceIdeal : Cert.AdamMlpReferenceIdeal.Facts) (hAdamOutKernel : Cert.AdamOutKernel.Facts) (hAdamOutKernelIdeal : Cert.AdamOutKernelIdeal.Facts) (hAdamOutReferenceIdeal : Cert.AdamOutReferenceIdeal.Facts) (hAdamInKernel : Cert.AdamInKernel.Facts) (hAdamInKernelIdeal : Cert.AdamInKernelIdeal.Facts) (hAdamInReferenceIdeal : Cert.AdamInReferenceIdeal.Facts) (hAdamPleKernel : Cert.AdamPleKernel.Facts) (hAdamPleKernelIdeal : Cert.AdamPleKernelIdeal.Facts) (hAdamPleReferenceIdeal : Cert.AdamPleReferenceIdeal.Facts) (hAdamConvKernel : Cert.AdamConvKernel.Facts) (hAdamConvKernelIdeal : Cert.AdamConvKernelIdeal.Facts) (hAdamConvReferenceIdeal : Cert.AdamConvReferenceIdeal.Facts) (hAdamSconvKernel : Cert.AdamSconvKernel.Facts) (hAdamSconvKernelIdeal : Cert.AdamSconvKernelIdeal.Facts) (hAdamSconvReferenceIdeal : Cert.AdamSconvReferenceIdeal.Facts) (hAdamSmallKernel : Cert.AdamSmallKernel.Facts) (hAdamSmallKernelIdeal : Cert.AdamSmallKernelIdeal.Facts) (hAdamSmallReferenceIdeal : Cert.AdamSmallReferenceIdeal.Facts) (hOutKernel : Cert.OutKernel.Facts) (hOutKernelIdeal : Cert.OutKernelIdeal.Facts) (hOutReferenceIdeal : Cert.OutReferenceIdeal.Facts) (hOutGradKernel : Cert.OutGradKernel.Facts) (hOutGradKernelIdeal : Cert.OutGradKernelIdeal.Facts) (hOutGradReferenceIdeal : Cert.OutGradReferenceIdeal.Facts) (hMixedGradKernel : Cert.MixedGradKernel.Facts) (hMixedGradKernelIdeal : Cert.MixedGradKernelIdeal.Facts) (hMixedGradReferenceIdeal : Cert.MixedGradReferenceIdeal.Facts) (hPleBwdKernel : Cert.PleBwdKernel.Facts) (hPleBwdKernelIdeal : Cert.PleBwdKernelIdeal.Facts) (hPleBwdReferenceIdeal : Cert.PleBwdReferenceIdeal.Facts) (hPleGateGradKernel : Cert.PleGateGradKernel.Facts) (hPleGateGradKernelIdeal : Cert.PleGateGradKernelIdeal.Facts) (hPleGateGradReferenceIdeal : Cert.PleGateGradReferenceIdeal.Facts) (hPleXGradKernel : Cert.PleXGradKernel.Facts) (hPleXGradKernelIdeal : Cert.PleXGradKernelIdeal.Facts) (hPleXGradReferenceIdeal : Cert.PleXGradReferenceIdeal.Facts) (hPre_finite : Cert.Pre_finite.Facts) (hPre_swiglu_finite : Cert.Pre_swiglu_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_SwigluFwdKernel (hSwigluFwdKernel := hSwigluFwdKernel)
    ∧ quiescent_SwigluFwdKernelIdeal (hSwigluFwdKernelIdeal := hSwigluFwdKernelIdeal)
    ∧ quiescent_SwigluFwdReferenceIdeal (hSwigluFwdReferenceIdeal := hSwigluFwdReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_DownGradKernel (hDownGradKernel := hDownGradKernel)
    ∧ quiescent_DownGradKernelIdeal (hDownGradKernelIdeal := hDownGradKernelIdeal)
    ∧ quiescent_DownGradReferenceIdeal (hDownGradReferenceIdeal := hDownGradReferenceIdeal)
    ∧ quiescent_SwigluBwdKernel (hSwigluBwdKernel := hSwigluBwdKernel)
    ∧ quiescent_SwigluBwdKernelIdeal (hSwigluBwdKernelIdeal := hSwigluBwdKernelIdeal)
    ∧ quiescent_SwigluBwdKernelIdeal_pre_swiglu_finite (hSwigluBwdKernelIdeal := hSwigluBwdKernelIdeal) (hPre_swiglu_finite := hPre_swiglu_finite)
    ∧ quiescent_SwigluBwdReferenceIdeal (hSwigluBwdReferenceIdeal := hSwigluBwdReferenceIdeal)
    ∧ quiescent_SwigluBwdReferenceIdeal_pre_swiglu_finite (hSwigluBwdReferenceIdeal := hSwigluBwdReferenceIdeal) (hPre_swiglu_finite := hPre_swiglu_finite)
    ∧ quiescent_GateGradKernel (hGateGradKernel := hGateGradKernel)
    ∧ quiescent_GateGradKernelIdeal (hGateGradKernelIdeal := hGateGradKernelIdeal)
    ∧ quiescent_GateGradReferenceIdeal (hGateGradReferenceIdeal := hGateGradReferenceIdeal)
    ∧ quiescent_Norm2GradKernel (hNorm2GradKernel := hNorm2GradKernel)
    ∧ quiescent_Norm2GradKernelIdeal (hNorm2GradKernelIdeal := hNorm2GradKernelIdeal)
    ∧ quiescent_Norm2GradReferenceIdeal (hNorm2GradReferenceIdeal := hNorm2GradReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_InGradKernel (hInGradKernel := hInGradKernel)
    ∧ quiescent_InGradKernelIdeal (hInGradKernelIdeal := hInGradKernelIdeal)
    ∧ quiescent_InGradReferenceIdeal (hInGradReferenceIdeal := hInGradReferenceIdeal)
    ∧ quiescent_Norm1GradKernel (hNorm1GradKernel := hNorm1GradKernel)
    ∧ quiescent_Norm1GradKernelIdeal (hNorm1GradKernelIdeal := hNorm1GradKernelIdeal)
    ∧ quiescent_Norm1GradReferenceIdeal (hNorm1GradReferenceIdeal := hNorm1GradReferenceIdeal)
    ∧ quiescent_AdamMlpKernel (hAdamMlpKernel := hAdamMlpKernel)
    ∧ quiescent_AdamMlpKernelIdeal (hAdamMlpKernelIdeal := hAdamMlpKernelIdeal)
    ∧ quiescent_AdamMlpReferenceIdeal (hAdamMlpReferenceIdeal := hAdamMlpReferenceIdeal)
    ∧ quiescent_AdamOutKernel (hAdamOutKernel := hAdamOutKernel)
    ∧ quiescent_AdamOutKernelIdeal (hAdamOutKernelIdeal := hAdamOutKernelIdeal)
    ∧ quiescent_AdamOutReferenceIdeal (hAdamOutReferenceIdeal := hAdamOutReferenceIdeal)
    ∧ quiescent_AdamInKernel (hAdamInKernel := hAdamInKernel)
    ∧ quiescent_AdamInKernelIdeal (hAdamInKernelIdeal := hAdamInKernelIdeal)
    ∧ quiescent_AdamInReferenceIdeal (hAdamInReferenceIdeal := hAdamInReferenceIdeal)
    ∧ quiescent_AdamPleKernel (hAdamPleKernel := hAdamPleKernel)
    ∧ quiescent_AdamPleKernelIdeal (hAdamPleKernelIdeal := hAdamPleKernelIdeal)
    ∧ quiescent_AdamPleReferenceIdeal (hAdamPleReferenceIdeal := hAdamPleReferenceIdeal)
    ∧ quiescent_AdamConvKernel (hAdamConvKernel := hAdamConvKernel)
    ∧ quiescent_AdamConvKernelIdeal (hAdamConvKernelIdeal := hAdamConvKernelIdeal)
    ∧ quiescent_AdamConvReferenceIdeal (hAdamConvReferenceIdeal := hAdamConvReferenceIdeal)
    ∧ quiescent_AdamSconvKernel (hAdamSconvKernel := hAdamSconvKernel)
    ∧ quiescent_AdamSconvKernelIdeal (hAdamSconvKernelIdeal := hAdamSconvKernelIdeal)
    ∧ quiescent_AdamSconvReferenceIdeal (hAdamSconvReferenceIdeal := hAdamSconvReferenceIdeal)
    ∧ quiescent_AdamSmallKernel (hAdamSmallKernel := hAdamSmallKernel)
    ∧ quiescent_AdamSmallKernelIdeal (hAdamSmallKernelIdeal := hAdamSmallKernelIdeal)
    ∧ quiescent_AdamSmallReferenceIdeal (hAdamSmallReferenceIdeal := hAdamSmallReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_OutGradKernel (hOutGradKernel := hOutGradKernel)
    ∧ quiescent_OutGradKernelIdeal (hOutGradKernelIdeal := hOutGradKernelIdeal)
    ∧ quiescent_OutGradReferenceIdeal (hOutGradReferenceIdeal := hOutGradReferenceIdeal)
    ∧ quiescent_MixedGradKernel (hMixedGradKernel := hMixedGradKernel)
    ∧ quiescent_MixedGradKernelIdeal (hMixedGradKernelIdeal := hMixedGradKernelIdeal)
    ∧ quiescent_MixedGradReferenceIdeal (hMixedGradReferenceIdeal := hMixedGradReferenceIdeal)
    ∧ quiescent_PleBwdKernel (hPleBwdKernel := hPleBwdKernel)
    ∧ quiescent_PleBwdKernelIdeal (hPleBwdKernelIdeal := hPleBwdKernelIdeal)
    ∧ quiescent_PleBwdReferenceIdeal (hPleBwdReferenceIdeal := hPleBwdReferenceIdeal)
    ∧ quiescent_PleGateGradKernel (hPleGateGradKernel := hPleGateGradKernel)
    ∧ quiescent_PleGateGradKernelIdeal (hPleGateGradKernelIdeal := hPleGateGradKernelIdeal)
    ∧ quiescent_PleGateGradReferenceIdeal (hPleGateGradReferenceIdeal := hPleGateGradReferenceIdeal)
    ∧ quiescent_PleXGradKernel (hPleXGradKernel := hPleXGradKernel)
    ∧ quiescent_PleXGradKernelIdeal (hPleXGradKernelIdeal := hPleXGradKernelIdeal)
    ∧ quiescent_PleXGradReferenceIdeal (hPleXGradReferenceIdeal := hPleXGradReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_SwigluFwdKernel_SwigluFwdKernelIdeal
    ∧ algebraic_SwigluFwdKernelIdeal_SwigluFwdReferenceIdeal (hSwigluFwdKernelIdeal := hSwigluFwdKernelIdeal) (hSwigluFwdReferenceIdeal := hSwigluFwdReferenceIdeal)
    ∧ preserves_DownKernel_DownKernelIdeal
    ∧ algebraic_DownKernelIdeal_DownReferenceIdeal (hDownKernelIdeal := hDownKernelIdeal) (hDownReferenceIdeal := hDownReferenceIdeal)
    ∧ preserves_DownGradKernel_DownGradKernelIdeal
    ∧ algebraic_DownGradKernelIdeal_DownGradReferenceIdeal (hDownGradKernelIdeal := hDownGradKernelIdeal) (hDownGradReferenceIdeal := hDownGradReferenceIdeal)
    ∧ preserves_SwigluBwdKernel_SwigluBwdKernelIdeal
    ∧ algebraic_SwigluBwdKernelIdeal_SwigluBwdReferenceIdeal_pre_swiglu_finite (hSwigluBwdKernelIdeal := hSwigluBwdKernelIdeal) (hSwigluBwdReferenceIdeal := hSwigluBwdReferenceIdeal) (hPre_swiglu_finite := hPre_swiglu_finite)
    ∧ preserves_GateGradKernel_GateGradKernelIdeal
    ∧ algebraic_GateGradKernelIdeal_GateGradReferenceIdeal (hGateGradKernelIdeal := hGateGradKernelIdeal) (hGateGradReferenceIdeal := hGateGradReferenceIdeal)
    ∧ preserves_Norm2GradKernel_Norm2GradKernelIdeal
    ∧ algebraic_Norm2GradKernelIdeal_Norm2GradReferenceIdeal (hNorm2GradKernelIdeal := hNorm2GradKernelIdeal) (hNorm2GradReferenceIdeal := hNorm2GradReferenceIdeal)
    ∧ preserves_InKernel_InKernelIdeal
    ∧ algebraic_InKernelIdeal_InReferenceIdeal (hInKernelIdeal := hInKernelIdeal) (hInReferenceIdeal := hInReferenceIdeal)
    ∧ preserves_InGradKernel_InGradKernelIdeal
    ∧ algebraic_InGradKernelIdeal_InGradReferenceIdeal (hInGradKernelIdeal := hInGradKernelIdeal) (hInGradReferenceIdeal := hInGradReferenceIdeal)
    ∧ preserves_Norm1GradKernel_Norm1GradKernelIdeal
    ∧ algebraic_Norm1GradKernelIdeal_Norm1GradReferenceIdeal (hNorm1GradKernelIdeal := hNorm1GradKernelIdeal) (hNorm1GradReferenceIdeal := hNorm1GradReferenceIdeal)
    ∧ preserves_AdamMlpKernel_AdamMlpKernelIdeal
    ∧ algebraic_AdamMlpKernelIdeal_AdamMlpReferenceIdeal (hAdamMlpKernelIdeal := hAdamMlpKernelIdeal) (hAdamMlpReferenceIdeal := hAdamMlpReferenceIdeal)
    ∧ preserves_AdamOutKernel_AdamOutKernelIdeal
    ∧ algebraic_AdamOutKernelIdeal_AdamOutReferenceIdeal (hAdamOutKernelIdeal := hAdamOutKernelIdeal) (hAdamOutReferenceIdeal := hAdamOutReferenceIdeal)
    ∧ preserves_AdamInKernel_AdamInKernelIdeal
    ∧ algebraic_AdamInKernelIdeal_AdamInReferenceIdeal (hAdamInKernelIdeal := hAdamInKernelIdeal) (hAdamInReferenceIdeal := hAdamInReferenceIdeal)
    ∧ preserves_AdamPleKernel_AdamPleKernelIdeal
    ∧ algebraic_AdamPleKernelIdeal_AdamPleReferenceIdeal (hAdamPleKernelIdeal := hAdamPleKernelIdeal) (hAdamPleReferenceIdeal := hAdamPleReferenceIdeal)
    ∧ preserves_AdamConvKernel_AdamConvKernelIdeal
    ∧ algebraic_AdamConvKernelIdeal_AdamConvReferenceIdeal (hAdamConvKernelIdeal := hAdamConvKernelIdeal) (hAdamConvReferenceIdeal := hAdamConvReferenceIdeal)
    ∧ preserves_AdamSconvKernel_AdamSconvKernelIdeal
    ∧ algebraic_AdamSconvKernelIdeal_AdamSconvReferenceIdeal (hAdamSconvKernelIdeal := hAdamSconvKernelIdeal) (hAdamSconvReferenceIdeal := hAdamSconvReferenceIdeal)
    ∧ preserves_AdamSmallKernel_AdamSmallKernelIdeal
    ∧ algebraic_AdamSmallKernelIdeal_AdamSmallReferenceIdeal (hAdamSmallKernelIdeal := hAdamSmallKernelIdeal) (hAdamSmallReferenceIdeal := hAdamSmallReferenceIdeal)
    ∧ preserves_OutKernel_OutKernelIdeal
    ∧ algebraic_OutKernelIdeal_OutReferenceIdeal (hOutKernelIdeal := hOutKernelIdeal) (hOutReferenceIdeal := hOutReferenceIdeal)
    ∧ preserves_OutGradKernel_OutGradKernelIdeal
    ∧ algebraic_OutGradKernelIdeal_OutGradReferenceIdeal (hOutGradKernelIdeal := hOutGradKernelIdeal) (hOutGradReferenceIdeal := hOutGradReferenceIdeal)
    ∧ preserves_MixedGradKernel_MixedGradKernelIdeal
    ∧ algebraic_MixedGradKernelIdeal_MixedGradReferenceIdeal (hMixedGradKernelIdeal := hMixedGradKernelIdeal) (hMixedGradReferenceIdeal := hMixedGradReferenceIdeal)
    ∧ preserves_PleBwdKernel_PleBwdKernelIdeal
    ∧ algebraic_PleBwdKernelIdeal_PleBwdReferenceIdeal (hPleBwdKernelIdeal := hPleBwdKernelIdeal) (hPleBwdReferenceIdeal := hPleBwdReferenceIdeal)
    ∧ preserves_PleGateGradKernel_PleGateGradKernelIdeal
    ∧ algebraic_PleGateGradKernelIdeal_PleGateGradReferenceIdeal (hPleGateGradKernelIdeal := hPleGateGradKernelIdeal) (hPleGateGradReferenceIdeal := hPleGateGradReferenceIdeal)
    ∧ preserves_PleXGradKernel_PleXGradKernelIdeal
    ∧ algebraic_PleXGradKernelIdeal_PleXGradReferenceIdeal (hPleXGradKernelIdeal := hPleXGradKernelIdeal) (hPleXGradReferenceIdeal := hPleXGradReferenceIdeal)
-- ==== Pre_finite.lean ====
abbrev S1x4x32x64x128 : Shape := ⟨5, ![1, 4, 32, 64, 128]⟩
abbrev S1x4x32x64x64 : Shape := ⟨5, ![1, 4, 32, 64, 64]⟩
abbrev S1x4x32x64 : Shape := ⟨4, ![1, 4, 32, 64]⟩
abbrev S1x2048x4x128 : Shape := ⟨4, ![1, 2048, 4, 128]⟩
abbrev S_ : Shape := ⟨0, ![]⟩

class Facts : Prop where
  bcast_S_S1x4x32x64x128 : S_.BroadcastsInDim S1x4x32x64x128 (![] : Fin 0 → Fin S1x4x32x64x128.rank)
  reducesTo_S1x4x32x64x128_S_d0_1_2_3_4 : S1x4x32x64x128.ReducesTo [0, 1, 2, 3, 4] S_
  h_S_ : 0 < S_.numel
  bcast_S_S1x4x32x64x64 : S_.BroadcastsInDim S1x4x32x64x64 (![] : Fin 0 → Fin S1x4x32x64x64.rank)
  reducesTo_S1x4x32x64x64_S_d0_1_2_3_4 : S1x4x32x64x64.ReducesTo [0, 1, 2, 3, 4] S_
  bcast_S_S1x4x32x64 : S_.BroadcastsInDim S1x4x32x64 (![] : Fin 0 → Fin S1x4x32x64.rank)
  reducesTo_S1x4x32x64_S_d0_1_2_3 : S1x4x32x64.ReducesTo [0, 1, 2, 3] S_
  bcast_S_S1x2048x4x128 : S_.BroadcastsInDim S1x2048x4x128 (![] : Fin 0 → Fin S1x2048x4x128.rank)
  reducesTo_S1x2048x4x128_S_d0_1_2_3 : S1x2048x4x128.ReducesTo [0, 1, 2, 3] S_

variable [Facts]

def fn_part1 {F : FTy → Type} [FloatOps F] (main_arg4 : FVec F S1x4x32x64 .f32) (main_arg5 : FVec F S1x2048x4x128 .f32) (main_v13 : IVec S_ 1) (main_v16 : IVec S1x4x32x64x64 1) : IVec S_ 1 :=
  let main_c_5 : IVec S_ 1 := constantI S_ 1 1#1
  let main_v17 : IVec S_ 1 := (fun x v => Host.reduce IntOp.andi x v reducesTo_S1x4x32x64x64_S_d0_1_2_3_4 h_S_) main_v16 main_c_5
  let main_v18 : IVec S_ 1 := andi main_v13 main_v17
  let main_v19 : FVec F S1x4x32x64 .f32 := Host.absf main_arg4
  let main_cst_6 : FVec F S_ .f32 := constant S_ .f32 0x7F800000#32
  let main_v20 : FVec F S1x4x32x64 .f32 := broadcastInDim S1x4x32x64 ![] bcast_S_S1x4x32x64 main_cst_6
  let main_v21 : IVec S1x4x32x64 1 := cmpf .olt main_v19 main_v20
  let main_c_7 : IVec S_ 1 := constantI S_ 1 1#1
  let main_v22 : IVec S_ 1 := (fun x v => Host.reduce IntOp.andi x v reducesTo_S1x4x32x64_S_d0_1_2_3 h_S_) main_v21 main_c_7
  let main_v23 : IVec S_ 1 := andi main_v18 main_v22
  let main_v24 : FVec F S1x2048x4x128 .f32 := Host.absf main_arg5
  let main_cst_8 : FVec F S_ .f32 := constant S_ .f32 0x7F800000#32
  let main_v25 : FVec F S1x2048x4x128 .f32 := broadcastInDim S1x2048x4x128 ![] bcast_S_S1x2048x4x128 main_cst_8
  let main_v26 : IVec S1x2048x4x128 1 := cmpf .olt main_v24 main_v25
  let main_c_9 : IVec S_ 1 := constantI S_ 1 1#1
  let main_v27 : IVec S_ 1 := (fun x v => Host.reduce IntOp.andi x v reducesTo_S1x2048x4x128_S_d0_1_2_3 h_S_) main_v26 main_c_9
  let main_v28 : IVec S_ 1 := andi main_v23 main_v27
  main_v28

def fn {F : FTy → Type} [FloatOps F] (main_arg0 : FVec F S1x4x32x64x128 .f32) (main_arg1 : FVec F S1x4x32x64x128 .f32) (main_arg2 : FVec F S1x4x32x64x128 .f32) (main_arg3 : FVec F S1x4x32x64x64 .f32) (main_arg4 : FVec F S1x4x32x64 .f32) (main_arg5 : FVec F S1x2048x4x128 .f32) : IVec S_ 1 :=
  let main_v0 : FVec F S1x4x32x64x128 .f32 := Host.absf main_arg0
  let main_cst : FVec F S_ .f32 := constant S_ .f32 0x7F800000#32
  let main_v1 : FVec F S1x4x32x64x128 .f32 := broadcastInDim S1x4x32x64x128 ![] bcast_S_S1x4x32x64x128 main_cst
  let main_v2 : IVec S1x4x32x64x128 1 := cmpf .olt main_v0 main_v1
  let main_c : IVec S_ 1 := constantI S_ 1 1#1
  let main_v3 : IVec S_ 1 := (fun x v => Host.reduce IntOp.andi x v reducesTo_S1x4x32x64x128_S_d0_1_2_3_4 h_S_) main_v2 main_c
  let main_v4 : FVec F S1x4x32x64x128 .f32 := Host.absf main_arg1
  let main_cst_0 : FVec F S_ .f32 := constant S_ .f32 0x7F800000#32
  let main_v5 : FVec F S1x4x32x64x128 .f32 := broadcastInDim S1x4x32x64x128 ![] bcast_S_S1x4x32x64x128 main_cst_0
  let main_v6 : IVec S1x4x32x64x128 1 := cmpf .olt main_v4 main_v5
  let main_c_1 : IVec S_ 1 := constantI S_ 1 1#1
  let main_v7 : IVec S_ 1 := (fun x v => Host.reduce IntOp.andi x v reducesTo_S1x4x32x64x128_S_d0_1_2_3_4 h_S_) main_v6 main_c_1
  let main_v8 : IVec S_ 1 := andi main_v3 main_v7
  let main_v9 : FVec F S1x4x32x64x128 .f32 := Host.absf main_arg2
  let main_cst_2 : FVec F S_ .f32 := constant S_ .f32 0x7F800000#32
  let main_v10 : FVec F S1x4x32x64x128 .f32 := broadcastInDim S1x4x32x64x128 ![] bcast_S_S1x4x32x64x128 main_cst_2
  let main_v11 : IVec S1x4x32x64x128 1 := cmpf .olt main_v9 main_v10
  let main_c_3 : IVec S_ 1 := constantI S_ 1 1#1
  let main_v12 : IVec S_ 1 := (fun x v => Host.reduce IntOp.andi x v reducesTo_S1x4x32x64x128_S_d0_1_2_3_4 h_S_) main_v11 main_c_3
  let main_v13 : IVec S_ 1 := andi main_v8 main_v12
  let main_v14 : FVec F S1x4x32x64x64 .f32 := Host.absf main_arg3
  let main_cst_4 : FVec F S_ .f32 := constant S_ .f32 0x7F800000#32
  let main_v15 : FVec F S1x4x32x64x64 .f32 := broadcastInDim S1x4x32x64x64 ![] bcast_S_S1x4x32x64x64 main_cst_4
  let main_v16 : IVec S1x4x32x64x64 1 := cmpf .olt main_v14 main_v15
  fn_part1 (F := F) main_arg4 main_arg5 main_v13 main_v16
-- ==== Pre_swiglu_finite.lean ====
abbrev S2048x1024 : Shape := ⟨2, ![2048, 1024]⟩
abbrev S3072x1024 : Shape := ⟨2, ![3072, 1024]⟩
abbrev S2048x3072 : Shape := ⟨2, ![2048, 3072]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bitsLt_bf16_f32 : FTy.bits .bf16 < FTy.bits .f32
  bcast_S_S3072x1024 : S_.BroadcastsInDim S3072x1024 (![] : Fin 0 → Fin S3072x1024.rank)
  reducesTo_S3072x1024_S_d0_1 : S3072x1024.ReducesTo [0, 1] S_
  bcast_S_S2048x3072 : S_.BroadcastsInDim S2048x3072 (![] : Fin 0 → Fin S2048x3072.rank)
  reducesTo_S2048x3072_S_d0_1 : S2048x3072.ReducesTo [0, 1] S_

variable [Facts]

def fn {F : FTy → Type} [FloatOps F] (main_arg0 : FVec F S2048x1024 .f32) (main_arg1 : FVec F S3072x1024 .bf16) (main_arg2 : FVec F S2048x3072 .bf16) (main_arg3 : FVec F S2048x3072 .bf16) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S3072x1024 .f32 := (extf .f32 · bitsLt_bf16_f32) main_arg1
  let main_v5 : FVec F S3072x1024 .f32 := Host.absf main_v4
  let main_cst_0 : FVec F S_ .f32 := constant S_ .f32 0x7F800000#32
  let main_v6 : FVec F S3072x1024 .f32 := broadcastInDim S3072x1024 ![] bcast_S_S3072x1024 main_cst_0
  let main_v7 : IVec S3072x1024 1 := cmpf .olt main_v5 main_v6
  let main_c_1 : IVec S_ 1 := constantI S_ 1 1#1
  let main_v8 : IVec S_ 1 := (fun x v => Host.reduce IntOp.andi x v reducesTo_S3072x1024_S_d0_1 h_S_) main_v7 main_c_1
  let main_v9 : IVec S_ 1 := andi main_v3 main_v8
  let main_v10 : FVec F S2048x3072 .f32 := (extf .f32 · bitsLt_bf16_f32) main_arg3
  let main_v11 : FVec F S2048x3072 .f32 := Host.absf main_v10
  let main_cst_2 : FVec F S_ .f32 := constant S_ .f32 0x7F800000#32
  let main_v12 : FVec F S2048x3072 .f32 := broadcastInDim S2048x3072 ![] bcast_S_S2048x3072 main_cst_2
  let main_v13 : IVec S2048x3072 1 := cmpf .olt main_v11 main_v12
  let main_c_3 : IVec S_ 1 := constantI S_ 1 1#1
  let main_v14 : IVec S_ 1 := (fun x v => Host.reduce IntOp.andi x v reducesTo_S2048x3072_S_d0_1 h_S_) main_v13 main_c_3
  let main_v15 : IVec S_ 1 := andi main_v9 main_v14
  main_v15
-- ==== Kernel.lean ====
abbrev S1x4x32x64x128 : Shape := ⟨5, ![1, 4, 32, 64, 128]⟩
abbrev S1x4x32x64x64 : Shape := ⟨5, ![1, 4, 32, 64, 64]⟩
abbrev S1x4x32x64 : Shape := ⟨4, ![1, 4, 32, 64]⟩
abbrev S1x2048x4x128 : Shape := ⟨4, ![1, 2048, 4, 128]⟩
abbrev S_ : Shape := ⟨0, ![]⟩
abbrev S1x4x32x64x1 : Shape := ⟨5, ![1, 4, 32, 64, 1]⟩
abbrev S4x2048x128 : Shape := ⟨3, ![4, 2048, 128]⟩
abbrev S1x4x32x1 : Shape := ⟨4, ![1, 4, 32, 1]⟩
abbrev S4x32x64x64 : Shape := ⟨4, ![4, 32, 64, 64]⟩
abbrev S32x4x64x64 : Shape := ⟨4, ![32, 4, 64, 64]⟩
abbrev S4x2048x1 : Shape := ⟨3, ![4, 2048, 1]⟩
abbrev S2048x4x128 : Shape := ⟨3, ![2048, 4, 128]⟩
abbrev S32x4x128x128 : Shape := ⟨4, ![32, 4, 128, 128]⟩
abbrev S4x512x128 : Shape := ⟨3, ![4, 512, 128]⟩
abbrev S8x4x64x64 : Shape := ⟨4, ![8, 4, 64, 64]⟩
abbrev S8x4x128x128 : Shape := ⟨4, ![8, 4, 128, 128]⟩
abbrev S4x128x128 : Shape := ⟨3, ![4, 128, 128]⟩
abbrev S1x128x128 : Shape := ⟨3, ![1, 128, 128]⟩
abbrev S128x128 : Shape := ⟨2, ![128, 128]⟩
abbrev S1x64x128 : Shape := ⟨3, ![1, 64, 128]⟩
abbrev S64x128 : Shape := ⟨2, ![64, 128]⟩
abbrev S1x1x64x64 : Shape := ⟨4, ![1, 1, 64, 64]⟩
abbrev S64x64 : Shape := ⟨2, ![64, 64]⟩
abbrev S128 : Shape := ⟨1, ![128]⟩
abbrev S1x128 : Shape := ⟨2, ![1, 128]⟩
abbrev S1x1x128x128 : Shape := ⟨4, ![1, 1, 128, 128]⟩

abbrev nBuf : Space → Nat
  | .hbm => 35
  | .vmem => 17
  | .smem => 0
  | _ => 0

abbrev bufTy : (tb : Table) → Fin (tcTables nBuf tb) → BufTy
  | .hbm, ⟨0, _⟩ => ⟨S1x4x32x64x128, .f32⟩
  | .hbm, ⟨1, _⟩ => ⟨S1x4x32x64x128, .f32⟩
  | .hbm, ⟨2, _⟩ => ⟨S1x4x32x64x128, .f32⟩
  | .hbm, ⟨3, _⟩ => ⟨S1x4x32x64x64, .f32⟩
  | .hbm, ⟨4, _⟩ => ⟨S1x4x32x64, .f32⟩
  | .hbm, ⟨5, _⟩ => ⟨S1x2048x4x128, .f32⟩
  | .hbm, ⟨6, _⟩ => ⟨S_, .f32⟩
  | .hbm, ⟨7, _⟩ => ⟨S_, .f32⟩
  | .hbm, ⟨8, _⟩ => ⟨S1x4x32x64, .f32⟩
  | .hbm, ⟨9, _⟩ => ⟨S1x4x32x64, .f32⟩
  | .hbm, ⟨10, _⟩ => ⟨S1x4x32x64x1, .f32⟩
  | .hbm, ⟨11, _⟩ => ⟨S1x4x32x64x128, .f32⟩
  | .hbm, ⟨12, _⟩ => ⟨S1x4x32x64x128, .f32⟩
  | .hbm, ⟨13, _⟩ => ⟨S4x2048x128, .f32⟩
  | .hbm, ⟨14, _⟩ => ⟨S4x2048x128, .bf16⟩
  | .hbm, ⟨15, _⟩ => ⟨S1x4x32x1, .f32⟩
  | .hbm, ⟨16, _⟩ => ⟨S1x4x32x64, .f32⟩
  | .hbm, ⟨17, _⟩ => ⟨S1x4x32x64, .f32⟩
  | .hbm, ⟨18, _⟩ => ⟨S1x4x32x64, .f32⟩
  | .hbm, ⟨19, _⟩ => ⟨S1x4x32x64x1, .f32⟩
  | .hbm, ⟨20, _⟩ => ⟨S1x4x32x64x128, .f32⟩
  | .hbm, ⟨21, _⟩ => ⟨S1x4x32x64x128, .f32⟩
  | .hbm, ⟨22, _⟩ => ⟨S4x2048x128, .f32⟩
  | .hbm, ⟨23, _⟩ => ⟨S4x2048x128, .bf16⟩
  | .hbm, ⟨24, _⟩ => ⟨S4x32x64x64, .f32⟩
  | .hbm, ⟨25, _⟩ => ⟨S32x4x64x64, .f32⟩
  | .hbm, ⟨26, _⟩ => ⟨S32x4x64x64, .bf16⟩
  | .hbm, ⟨27, _⟩ => ⟨S4x2048x1, .f32⟩
  | .hbm, ⟨28, _⟩ => ⟨S4x2048x128, .f32⟩
  | .hbm, ⟨29, _⟩ => ⟨S4x2048x128, .f32⟩
  | .hbm, ⟨30, _⟩ => ⟨S4x2048x128, .bf16⟩
  | .hbm, ⟨31, _⟩ => ⟨S2048x4x128, .f32⟩
  | .hbm, ⟨32, _⟩ => ⟨S4x2048x128, .f32⟩
  | .hbm, ⟨33, _⟩ => ⟨S4x2048x128, .f32⟩
  | .hbm, ⟨34, _⟩ => ⟨S32x4x128x128, .f32⟩
  | .local _ .vmem, ⟨0, _⟩ => ⟨S4x512x128, .bf16⟩
  | .local _ .vmem, ⟨1, _⟩ => ⟨S4x512x128, .bf16⟩
  | .local _ .vmem, ⟨2, _⟩ => ⟨S4x512x128, .bf16⟩
  | .local _ .vmem, ⟨3, _⟩ => ⟨S4x512x128, .bf16⟩
  | .local _ .vmem, ⟨4, _⟩ => ⟨S4x512x128, .bf16⟩
  | .local _ .vmem, ⟨5, _⟩ => ⟨S4x512x128, .bf16⟩
  | .local _ .vmem, ⟨6, _⟩ => ⟨S8x4x64x64, .bf16⟩
  | .local _ .vmem, ⟨7, _⟩ => ⟨S8x4x64x64, .bf16⟩
  | .local _ .vmem, ⟨8, _⟩ => ⟨S4x512x128, .f32⟩
  | .local _ .vmem, ⟨9, _⟩ => ⟨S4x512x128, .f32⟩
  | .local _ .vmem, ⟨10, _⟩ => ⟨S4x512x128, .f32⟩
  | .local _ .vmem, ⟨11, _⟩ => ⟨S4x512x128, .f32⟩
  | .local _ .vmem, ⟨12, _⟩ => ⟨S4x512x128, .f32⟩
  | .local _ .vmem, ⟨13, _⟩ => ⟨S4x512x128, .f32⟩
  | .local _ .vmem, ⟨14, _⟩ => ⟨S8x4x128x128, .f32⟩
  | .local _ .vmem, ⟨15, _⟩ => ⟨S8x4x128x128, .f32⟩
  | .local _ .vmem, ⟨16, _⟩ => ⟨S4x128x128, .f32⟩
  | _, _ => ⟨S1x4x32x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_cst : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1x4x32x64x128 : Shape := ⟨5, ![1, 4, 32, 64, 128]⟩
abbrev S1x4x32x64x64 : Shape := ⟨5, ![1, 4, 32, 64, 64]⟩
abbrev S1x4x32x64 : Shape := ⟨4, ![1, 4, 32, 64]⟩
abbrev S1x2048x4x128 : Shape := ⟨4, ![1, 2048, 4, 128]⟩
abbrev S_ : Shape := ⟨0, ![]⟩
abbrev S1x4x32x128x128 : Shape := ⟨5, ![1, 4, 32, 128, 128]⟩
abbrev S32x1x4x64x128 : Shape := ⟨5, ![32, 1, 4, 64, 128]⟩
abbrev S32x1x4x64 : Shape := ⟨4, ![32, 1, 4, 64]⟩
abbrev S32x1x4x64x64 : Shape := ⟨5, ![32, 1, 4, 64, 64]⟩
abbrev S1x4x128x128 : Shape := ⟨4, ![1, 4, 128, 128]⟩
abbrev S1x32x64x4x128 : Shape := ⟨5, ![1, 32, 64, 4, 128]⟩
abbrev S32x1x4x128x128 : Shape := ⟨5, ![32, 1, 4, 128, 128]⟩
abbrev S1x1x4x64x128 : Shape := ⟨5, ![1, 1, 4, 64, 128]⟩
abbrev S1x4x64x128 : Shape := ⟨4, ![1, 4, 64, 128]⟩
abbrev S1x1x4x64 : Shape := ⟨4, ![1, 1, 4, 64]⟩
abbrev S1x4x64 : Shape := ⟨3, ![1, 4, 64]⟩
abbrev S1x1x4x64x64 : Shape := ⟨5, ![1, 1, 4, 64, 64]⟩
abbrev S1x4x64x64 : Shape := ⟨4, ![1, 4, 64, 64]⟩
abbrev S1x4x64x1 : Shape := ⟨4, ![1, 4, 64, 1]⟩
abbrev S1x4x1 : Shape := ⟨3, ![1, 4, 1]⟩
abbrev S1x4 : Shape := ⟨2, ![1, 4]⟩
abbrev S1x4x1x1 : Shape := ⟨4, ![1, 4, 1, 1]⟩
abbrev S1x4x128x64 : Shape := ⟨4, ![1, 4, 128, 64]⟩
abbrev S1x1x4x128x128 : Shape := ⟨5, ![1, 1, 4, 128, 128]⟩
abbrev S4x2048x128 : Shape := ⟨3, ![4, 2048, 128]⟩
abbrev S4x32x128x128 : Shape := ⟨4, ![4, 32, 128, 128]⟩
abbrev S32x4x128x128 : Shape := ⟨4, ![32, 4, 128, 128]⟩

abbrev nBuf : Space → Nat
  | .hbm => 128
  | .vmem => 0
  | .smem => 0
  | _ => 0

abbrev bufTy : (tb : Table) → Fin (tcTables nBuf tb) → BufTy
  | .hbm, ⟨0, _⟩ => ⟨S1x4x32x64x128, .f32⟩
  | .hbm, ⟨1, _⟩ => ⟨S1x4x32x64x128, .f32⟩
  | .hbm, ⟨2, _⟩ => ⟨S1x4x32x64x128, .f32⟩
  | .hbm, ⟨3, _⟩ => ⟨S1x4x32x64x64, .f32⟩
  | .hbm, ⟨4, _⟩ => ⟨S1x4x32x64, .f32⟩
  | .hbm, ⟨5, _⟩ => ⟨S1x2048x4x128, .f32⟩
  | .hbm, ⟨6, _⟩ => ⟨S_, .f32⟩
  | .hbm, ⟨7, _⟩ => ⟨S1x4x32x64x128, .f32⟩
  | .hbm, ⟨8, _⟩ => ⟨S_, .f32⟩
  | .hbm, ⟨9, _⟩ => ⟨S1x4x32x128x128, .f32⟩
  | .hbm, ⟨10, _⟩ => ⟨S_, .f32⟩
  | .hbm, ⟨11, _⟩ => ⟨S_, .f32⟩
  | .hbm, ⟨12, _⟩ => ⟨S1x4x32x64, .f32⟩
  | .hbm, ⟨13, _⟩ => ⟨S32x1x4x64x128, .f32⟩
  | .hbm, ⟨14, _⟩ => ⟨S32x1x4x64x128, .f32⟩
  | .hbm, ⟨15, _⟩ => ⟨S32x1x4x64x128, .f32⟩
  | .hbm, ⟨16, _⟩ => ⟨S32x1x4x64, .f32⟩
  | .hbm, ⟨17, _⟩ => ⟨S32x1x4x64x64, .f32⟩
  | .hbm, ⟨18, _⟩ => ⟨S_, .f32⟩
  | .hbm, ⟨19, _⟩ => ⟨S1x4x128x128, .f32⟩
  | .hbm, ⟨20, _⟩ => ⟨S1x32x64x4x128, .f32⟩
  | .hbm, ⟨21, _⟩ => ⟨S32x1x4x64x128, .f32⟩
  | .hbm, ⟨22, _⟩ => ⟨S_, .f32⟩
  | .hbm, ⟨23, _⟩ => ⟨S1x4x128x128, .f32⟩
  | .hbm, ⟨24, _⟩ => ⟨S_, .f32⟩
  | .hbm, ⟨25, _⟩ => ⟨S32x1x4x64x128, .f32⟩
  | .hbm, ⟨26, _⟩ => ⟨S_, .f32⟩
  | .hbm, ⟨27, _⟩ => ⟨S32x1x4x128x128, .f32⟩
  | .hbm, ⟨28, _⟩ => ⟨S_, .i32⟩
  | .hbm, ⟨29, _⟩ => ⟨S32x1x4x64x128, .f32⟩
  | .hbm, ⟨30, _⟩ => ⟨S32x1x4x64x128, .f32⟩
  | .hbm, ⟨31, _⟩ => ⟨S32x1x4x64x128, .f32⟩
  | .hbm, ⟨32, _⟩ => ⟨S32x1x4x64x128, .f32⟩
  | .hbm, ⟨33, _⟩ => ⟨S32x1x4x64, .f32⟩
  | .hbm, ⟨34, _⟩ => ⟨S32x1x4x64x64, .f32⟩
  | .hbm, ⟨35, _⟩ => ⟨S_, .i32⟩
  | .hbm, ⟨36, _⟩ => ⟨S1x4x128x128, .f32⟩
  | .hbm, ⟨37, _⟩ => ⟨S32x1x4x64x128, .f32⟩
  | .hbm, ⟨38, _⟩ => ⟨S32x1x4x128x128, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x1x4x64x128, .f32⟩
  | .hbm, ⟨50, _⟩ => ⟨S1x4x64x128, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x1x4x64x128, .f32⟩
  | .hbm, ⟨56, _⟩ => ⟨S1x4x64x128, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x1x4x64x128, .f32⟩
  | .hbm, ⟨62, _⟩ => ⟨S1x4x64x128, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x1x4x64x128, .f32⟩
  | .hbm, ⟨68, _⟩ => ⟨S1x4x64x128, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x1x4x64, .f32⟩
  | .hbm, ⟨73, _⟩ => ⟨S1x4x64, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S1x1x4x64x64, .f32⟩
  | .hbm, ⟨79, _⟩ => ⟨S1x4x64x64, .f32⟩
  | .hbm, ⟨80, _⟩ => ⟨S1x4x64, .f32⟩
  | .hbm, ⟨81, _⟩ => ⟨S1x4x64x1, .f32⟩
  | .hbm, ⟨82, _⟩ => ⟨S1x4x64x128, .f32⟩
  | .hbm, ⟨83, _⟩ => ⟨S1x4x64x128, .f32⟩
  | .hbm, ⟨84, _⟩ => ⟨S1x4x1, .f32⟩
  | .hbm, ⟨85, _⟩ => ⟨S1x4, .f32⟩
  | .hbm, ⟨86, _⟩ => ⟨S1x4, .f32⟩
  | .hbm, ⟨87, _⟩ => ⟨S1x4x1x1, .f32⟩
  | .hbm, ⟨88, _⟩ => ⟨S1x4x1, .f32⟩
  | .hbm, ⟨89, _⟩ => ⟨S1x4x64, .f32⟩
  | .hbm, ⟨90, _⟩ => ⟨S1x4x64, .f32⟩
  | .hbm, ⟨91, _⟩ => ⟨S1x4x64, .f32⟩
  | .hbm, ⟨92, _⟩ => ⟨S1x4x64x1, .f32⟩
  | .hbm, ⟨93, _⟩ => ⟨S1x4x64x128, .f32⟩
  | .hbm, ⟨94, _⟩ => ⟨S1x4x64x128, .f32⟩
  | .hbm, ⟨95, _⟩ => ⟨S1x4x128x64, .f32⟩
  | .hbm, ⟨96, _⟩ => ⟨S1x4x64x128, .f32⟩
  | .hbm, ⟨97, _⟩ => ⟨S1x4x128x128, .f32⟩
  | .hbm, ⟨98, _⟩ => ⟨S1x4x128x128, .f32⟩
  | .hbm, ⟨99, _⟩ => ⟨S1x4x128x64, .f32⟩
  | .hbm, ⟨100, _⟩ => ⟨S1x4x64x128, .f32⟩
  | .hbm, ⟨101, _⟩ => ⟨S1x4x64x128, .f32⟩
  | .hbm, ⟨102, _⟩ => ⟨S1x4x128x128, .f32⟩
  | .hbm, ⟨103, _⟩ => ⟨S1x4x128x128, .f32⟩
  | .hbm, ⟨104, _⟩ => ⟨S1x4x128x128, .f32⟩
  | .hbm, ⟨105, _⟩ => ⟨S1x4x64x128, .f32⟩
  | .hbm, ⟨106, _⟩ => ⟨S1x4x128x128, .f32⟩
  | .hbm, ⟨107, _⟩ => ⟨S1x4x128x128, .f32⟩
  | .hbm, ⟨108, _⟩ => ⟨S1x4x128x128, .f32⟩
  | .hbm, ⟨109, _⟩ => ⟨S1x1x4x64x128, .f32⟩
  | .hbm, ⟨110, _⟩ => ⟨S_, .i32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S32x1x4x64x128, .f32⟩
  | .hbm, ⟨115, _⟩ => ⟨S1x1x4x128x128, .f32⟩
  | .hbm, ⟨116, _⟩ => ⟨S_, .i32⟩
  | .hbm, ⟨117, _⟩ => ⟨S_, .i32⟩
  | .hbm, ⟨118, _⟩ => ⟨S_, .i32⟩
  | .hbm, ⟨119, _⟩ => ⟨S_, .i32⟩
  | .hbm, ⟨120, _⟩ => ⟨S32x1x4x128x128, .f32⟩
  | .hbm, ⟨121, _⟩ => ⟨S_, .i32⟩
  | .hbm, ⟨122, _⟩ => ⟨S_, .i32⟩
  | .hbm, ⟨123, _⟩ => ⟨S1x4x32x128x128, .f32⟩
  | .hbm, ⟨124, _⟩ => ⟨S1x4x32x64x128, .f32⟩
  | .hbm, ⟨125, _⟩ => ⟨S4x2048x128, .f32⟩
  | .hbm, ⟨126, _⟩ => ⟨S4x32x128x128, .f32⟩
  | .hbm, ⟨127, _⟩ => ⟨S32x4x128x128, .f32⟩
  | _, _ => ⟨S1x4x32x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_call0_call0_cst : Ref sig .tc := ⟨.hbm, 10, rfl⟩
abbrev main_call0_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_c : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev main_v14_4 : Ref sig .tc := ⟨.hbm, 33, rfl⟩
abbrev main_v14_5 : Ref sig .tc := ⟨.hbm, 34, rfl⟩
abbrev main_v14_6 : Ref sig .tc := ⟨.hbm, 35, rfl⟩
abbrev main_v14_7 : Ref sig .tc := ⟨.hbm, 36, rfl⟩
abbrev main_v14_8 : Ref sig .tc := ⟨.hbm, 37, rfl⟩
abbrev main_v14_9 : Ref sig .tc := ⟨.hbm, 38, rfl⟩
abbrev main_while0c_c_14 : Ref sig .tc := ⟨.hbm, 39, rfl⟩
abbrev main_while0c_v20 : Ref sig .tc := ⟨.hbm, 40, rfl⟩
abbrev main_while0b_c_14 : Ref sig .tc := ⟨.hbm, 41, rfl⟩
abbrev main_while0b_v20 : Ref sig .tc := ⟨.hbm, 42, rfl⟩
abbrev main_while0b_c_15 : Ref sig .tc := ⟨.hbm, 43, rfl⟩
abbrev main_while0b_v21 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_c_2 : Ref sig .tc := ⟨.hbm, 48, rfl⟩
abbrev main_while0b_call1_v0 : Ref sig .tc := ⟨.hbm, 49, rfl⟩
abbrev main_while0b_v22 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_call2_c_1 : Ref sig .tc := ⟨.hbm, 53, rfl⟩
abbrev main_while0b_call2_c_2 : Ref sig .tc := ⟨.hbm, 54, rfl⟩
abbrev main_while0b_call2_v0 : Ref sig .tc := ⟨.hbm, 55, rfl⟩
abbrev main_while0b_v23 : Ref sig .tc := ⟨.hbm, 56, rfl⟩
abbrev main_while0b_call3_c : Ref sig .tc := ⟨.hbm, 57, rfl⟩
abbrev main_while0b_call3_c_0 : Ref sig .tc := ⟨.hbm, 58, rfl⟩
abbrev main_while0b_call3_c_1 : Ref sig .tc := ⟨.hbm, 59, rfl⟩
abbrev main_while0b_call3_c_2 : Ref sig .tc := ⟨.hbm, 60, rfl⟩
abbrev main_while0b_call3_v0 : Ref sig .tc := ⟨.hbm, 61, rfl⟩
abbrev main_while0b_v24 : Ref sig .tc := ⟨.hbm, 62, rfl⟩
abbrev main_while0b_call4_c : Ref sig .tc := ⟨.hbm, 63, rfl⟩
abbrev main_while0b_call4_c_0 : Ref sig .tc := ⟨.hbm, 64, rfl⟩
abbrev main_while0b_call4_c_1 : Ref sig .tc := ⟨.hbm, 65, rfl⟩
abbrev main_while0b_call4_c_2 : Ref sig .tc := ⟨.hbm, 66, rfl⟩
abbrev main_while0b_call4_v0 : Ref sig .tc := ⟨.hbm, 67, rfl⟩
abbrev main_while0b_v25 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_call5_c_1 : Ref sig .tc := ⟨.hbm, 71, rfl⟩
abbrev main_while0b_call5_v0 : Ref sig .tc := ⟨.hbm, 72, rfl⟩
abbrev main_while0b_v26 : Ref sig .tc := ⟨.hbm, 73, rfl⟩
abbrev main_while0b_call6_c : Ref sig .tc := ⟨.hbm, 74, rfl⟩
abbrev main_while0b_call6_c_0 : Ref sig .tc := ⟨.hbm, 75, rfl⟩
abbrev main_while0b_call6_c_1 : Ref sig .tc := ⟨.hbm, 76, rfl⟩
abbrev main_while0b_call6_c_2 : Ref sig .tc := ⟨.hbm, 77, rfl⟩
abbrev main_while0b_call6_v0 : Ref sig .tc := ⟨.hbm, 78, rfl⟩
abbrev main_while0b_v27 : Ref sig .tc := ⟨.hbm, 79, rfl⟩
abbrev main_while0b_v28 : Ref sig .tc := ⟨.hbm, 80, rfl⟩
abbrev main_while0b_v29 : Ref sig .tc := ⟨.hbm, 81, rfl⟩
abbrev main_while0b_v30 : Ref sig .tc := ⟨.hbm, 82, rfl⟩
abbrev main_while0b_v31 : Ref sig .tc := ⟨.hbm, 83, rfl⟩
abbrev main_while0b_v32 : Ref sig .tc := ⟨.hbm, 84, rfl⟩
abbrev main_while0b_v33 : Ref sig .tc := ⟨.hbm, 85, rfl⟩
abbrev main_while0b_v34 : Ref sig .tc := ⟨.hbm, 86, rfl⟩
abbrev main_while0b_v35 : Ref sig .tc := ⟨.hbm, 87, rfl⟩
abbrev main_while0b_v36 : Ref sig .tc := ⟨.hbm, 88, rfl⟩
abbrev main_while0b_v37 : Ref sig .tc := ⟨.hbm, 89, rfl⟩
abbrev main_while0b_v38 : Ref sig .tc := ⟨.hbm, 90, rfl⟩
abbrev main_while0b_v39 : Ref sig .tc := ⟨.hbm, 91, rfl⟩
abbrev main_while0b_v40 : Ref sig .tc := ⟨.hbm, 92, rfl⟩
abbrev main_while0b_v41 : Ref sig .tc := ⟨.hbm, 93, rfl⟩
abbrev main_while0b_v42 : Ref sig .tc := ⟨.hbm, 94, rfl⟩
abbrev main_while0b_v43 : Ref sig .tc := ⟨.hbm, 95, rfl⟩
abbrev main_while0b_v44 : Ref sig .tc := ⟨.hbm, 96, rfl⟩
abbrev main_while0b_v45 : Ref sig .tc := ⟨.hbm, 97, rfl⟩
abbrev main_while0b_v46 : Ref sig .tc := ⟨.hbm, 98, rfl⟩
abbrev main_while0b_v47 : Ref sig .tc := ⟨.hbm, 99, rfl⟩
abbrev main_while0b_v48 : Ref sig .tc := ⟨.hbm, 100, rfl⟩
abbrev main_while0b_v49 : Ref sig .tc := ⟨.hbm, 101, rfl⟩
abbrev main_while0b_v50 : Ref sig .tc := ⟨.hbm, 102, rfl⟩
abbrev main_while0b_v51 : Ref sig .tc := ⟨.hbm, 103, rfl⟩
abbrev main_while0b_v52 : Ref sig .tc := ⟨.hbm, 104, rfl⟩
abbrev main_while0b_v53 : Ref sig .tc := ⟨.hbm, 105, rfl⟩
abbrev main_while0b_v54 : Ref sig .tc := ⟨.hbm, 106, rfl⟩
abbrev main_while0b_v55 : Ref sig .tc := ⟨.hbm, 107, rfl⟩
abbrev main_while0b_v56 : Ref sig .tc := ⟨.hbm, 108, rfl⟩
abbrev main_while0b_call7_v0 : Ref sig .tc := ⟨.hbm, 109, rfl⟩
abbrev main_while0b_call7_c : Ref sig .tc := ⟨.hbm, 110, rfl⟩
abbrev main_while0b_call7_c_0 : Ref sig .tc := ⟨.hbm, 111, rfl⟩
abbrev main_while0b_call7_c_1 : Ref sig .tc := ⟨.hbm, 112, rfl⟩
abbrev main_while0b_call7_c_2 : Ref sig .tc := ⟨.hbm, 113, rfl⟩
abbrev main_while0b_v57 : Ref sig .tc := ⟨.hbm, 114, rfl⟩
abbrev main_while0b_call8_v0 : Ref sig .tc := ⟨.hbm, 115, rfl⟩
abbrev main_while0b_call8_c : Ref sig .tc := ⟨.hbm, 116, rfl⟩
abbrev main_while0b_call8_c_0 : Ref sig .tc := ⟨.hbm, 117, rfl⟩
abbrev main_while0b_call8_c_1 : Ref sig .tc := ⟨.hbm, 118, rfl⟩
abbrev main_while0b_call8_c_2 : Ref sig .tc := ⟨.hbm, 119, rfl⟩
abbrev main_while0b_v58 : Ref sig .tc := ⟨.hbm, 120, rfl⟩
abbrev main_while0b_c_16 : Ref sig .tc := ⟨.hbm, 121, rfl⟩
abbrev main_while0b_v59 : Ref sig .tc := ⟨.hbm, 122, rfl⟩
abbrev main_v15 : Ref sig .tc := ⟨.hbm, 123, rfl⟩
abbrev main_v16 : Ref sig .tc := ⟨.hbm, 124, rfl⟩
abbrev main_v17 : Ref sig .tc := ⟨.hbm, 125, rfl⟩
abbrev main_v18 : Ref sig .tc := ⟨.hbm, 126, rfl⟩
abbrev main_v19 : Ref sig .tc := ⟨.hbm, 127, rfl⟩

abbrev nD : Nat := 1
abbrev τ : Topo := Topo.v7x

variable {F : FTy → Type} [FloatOps F]

abbrev main_while0_count : Scf.Loop 32 := ⟨0#32, 32#32, 1#32⟩
-- ==== SwigluFwdKernel.lean ====
abbrev S2048x1024 : Shape := ⟨2, ![2048, 1024]⟩
abbrev S1x1024 : Shape := ⟨2, ![1, 1024]⟩
abbrev S3072x1024 : Shape := ⟨2, ![3072, 1024]⟩
abbrev S2048x3072 : Shape := ⟨2, ![2048, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S3072x1024, .bf16⟩
  | .hbm, ⟨3, _⟩ => ⟨S3072x1024, .bf16⟩
  | .hbm, ⟨4, _⟩ => ⟨S2048x3072, .bf16⟩
  | .hbm, ⟨5, _⟩ => ⟨S2048x3072, .bf16⟩
  | .hbm, ⟨6, _⟩ => ⟨S2048x3072, .bf16⟩
  | .hbm, ⟨7, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3072x1024, .bf16⟩
  | .local _ .vmem, ⟨4, _⟩ => ⟨S3072x1024, .bf16⟩
  | .local _ .vmem, ⟨5, _⟩ => ⟨S512x3072, .bf16⟩
  | .local _ .vmem, ⟨6, _⟩ => ⟨S512x3072, .bf16⟩
  | .local _ .vmem, ⟨7, _⟩ => ⟨S512x3072, .bf16⟩
  | .local _ .vmem, ⟨8, _⟩ => ⟨S512x3072, .bf16⟩
  | .local _ .vmem, ⟨9, _⟩ => ⟨S512x3072, .bf16⟩
  | .local _ .vmem, ⟨10, _⟩ => ⟨S512x3072, .bf16⟩
  | .local _ .vmem, ⟨11, _⟩ => ⟨S512x1024, .bf16⟩
  | .local _ .vmem, ⟨12, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SwigluFwdReferenceIdeal.lean ====
abbrev S2048x1024 : Shape := ⟨2, ![2048, 1024]⟩
abbrev S1x1024 : Shape := ⟨2, ![1, 1024]⟩
abbrev S3072x1024 : Shape := ⟨2, ![3072, 1024]⟩
abbrev S_ : Shape := ⟨0, ![]⟩
abbrev S2048 : Shape := ⟨1, ![2048]⟩
abbrev S2048x1 : Shape := ⟨2, ![2048, 1]⟩
abbrev S2048x3072 : Shape := ⟨2, ![2048, 3072]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S3072x1024, .bf16⟩
  | .hbm, ⟨3, _⟩ => ⟨S3072x1024, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S3072x1024, .f32⟩
  | .hbm, ⟨20, _⟩ => ⟨S2048x3072, .f32⟩
  | .hbm, ⟨21, _⟩ => ⟨S3072x1024, .f32⟩
  | .hbm, ⟨22, _⟩ => ⟨S2048x3072, .f32⟩
  | .hbm, ⟨23, _⟩ => ⟨S2048x3072, .f32⟩
  | .hbm, ⟨24, _⟩ => ⟨S2048x3072, .f32⟩
  | .hbm, ⟨25, _⟩ => ⟨S_, .f32⟩
  | .hbm, ⟨26, _⟩ => ⟨S2048x3072, .f32⟩
  | .hbm, ⟨27, _⟩ => ⟨S2048x3072, .f32⟩
  | .hbm, ⟨28, _⟩ => ⟨S_, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S2048x3072, .f32⟩
  | .hbm, ⟨33, _⟩ => ⟨S2048x3072, .bf16⟩
  | .hbm, ⟨34, _⟩ => ⟨S2048x3072, .bf16⟩
  | .hbm, ⟨35, _⟩ => ⟨S2048x3072, .bf16⟩
  | .hbm, ⟨36, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== DownKernel.lean ====
abbrev S2048x3072 : Shape := ⟨2, ![2048, 3072]⟩
abbrev S3072x1024 : Shape := ⟨2, ![3072, 1024]⟩
abbrev S2048x1024 : Shape := ⟨2, ![2048, 1024]⟩
abbrev S1024x3072 : Shape := ⟨2, ![1024, 3072]⟩
abbrev S1024x1024 : Shape := ⟨2, ![1024, 1024]⟩
abbrev S3072x512 : Shape := ⟨2, ![3072, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x1024, .f32⟩
  | .hbm, ⟨3, _⟩ => ⟨S2048x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownReferenceIdeal.lean ====
abbrev S2048x3072 : Shape := ⟨2, ![2048, 3072]⟩
abbrev S3072x1024 : Shape := ⟨2, ![3072, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x1024, .f32⟩
  | .hbm, ⟨3, _⟩ => ⟨S2048x3072, .f32⟩
  | .hbm, ⟨4, _⟩ => ⟨S3072x1024, .f32⟩
  | .hbm, ⟨5, _⟩ => ⟨S2048x1024, .f32⟩
  | .hbm, ⟨6, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownGradKernel.lean ====
abbrev S2048x3072 : Shape := ⟨2, ![2048, 3072]⟩
abbrev S2048x1024 : Shape := ⟨2, ![2048, 1024]⟩
abbrev S3072x1024 : Shape := ⟨2, ![3072, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .f32⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S1024x1024, .bf16⟩
  | .local _ .vmem, ⟨4, _⟩ => ⟨S1024x1024, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownGradReferenceIdeal.lean ====
abbrev S2048x3072 : Shape := ⟨2, ![2048, 3072]⟩
abbrev S2048x1024 : Shape := ⟨2, ![2048, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .f32⟩
  | .hbm, ⟨2, _⟩ => ⟨S_, .f32⟩
  | .hbm, ⟨3, _⟩ => ⟨S3072x1024, .f32⟩
  | .hbm, ⟨4, _⟩ => ⟨S2048x3072, .f32⟩
  | .hbm, ⟨5, _⟩ => ⟨S2048x1024, .f32⟩
  | .hbm, ⟨6, _⟩ => ⟨S1024x3072, .f32⟩
  | .hbm, ⟨7, _⟩ => ⟨S3072x1024, .f32⟩
  | .hbm, ⟨8, _⟩ => ⟨S3072x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SwigluBwdKernel.lean ====
abbrev S2048x1024 : Shape := ⟨2, ![2048, 1024]⟩
abbrev S3072x1024 : Shape := ⟨2, ![3072, 1024]⟩
abbrev S2048x3072 : Shape := ⟨2, ![2048, 3072]⟩
abbrev S512x1024 : Shape := ⟨2, ![512, 1024]⟩
abbrev S512x3072 : Shape := ⟨2, ![512, 3072]⟩
abbrev S512x512 : Shape := ⟨2, ![512, 512]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S3072x1024, .bf16⟩
  | .hbm, ⟨2, _⟩ => ⟨S2048x3072, .bf16⟩
  | .hbm, ⟨3, _⟩ => ⟨S2048x3072, .bf16⟩
  | .hbm, ⟨4, _⟩ => ⟨S2048x3072, .bf16⟩
  | .hbm, ⟨5, _⟩ => ⟨S2048x3072, .bf16⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .bf16⟩
  | .local _ .vmem, ⟨7, _⟩ => ⟨S512x3072, .bf16⟩
  | .local _ .vmem, ⟨8, _⟩ => ⟨S512x3072, .bf16⟩
  | .local _ .vmem, ⟨9, _⟩ => ⟨S512x3072, .bf16⟩
  | .local _ .vmem, ⟨10, _⟩ => ⟨S512x3072, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SwigluBwdReferenceIdeal.lean ====
abbrev S2048x1024 : Shape := ⟨2, ![2048, 1024]⟩
abbrev S3072x1024 : Shape := ⟨2, ![3072, 1024]⟩
abbrev S2048x3072 : Shape := ⟨2, ![2048, 3072]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3072x1024, .bf16⟩
  | .hbm, ⟨2, _⟩ => ⟨S2048x3072, .bf16⟩
  | .hbm, ⟨3, _⟩ => ⟨S2048x3072, .bf16⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S_, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S_, .f32⟩
  | .hbm, ⟨15, _⟩ => ⟨S2048x3072, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S3072x1024, .f32⟩
  | .hbm, ⟨21, _⟩ => ⟨S2048x1024, .f32⟩
  | .hbm, ⟨22, _⟩ => ⟨S2048x3072, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S2048x3072, .f32⟩
  | .hbm, ⟨27, _⟩ => ⟨S2048x3072, .f32⟩
  | .hbm, ⟨28, _⟩ => ⟨S2048x3072, .f32⟩
  | .hbm, ⟨29, _⟩ => ⟨S2048x3072, .bf16⟩
  | .hbm, ⟨30, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== GateGradKernel.lean ====
abbrev S2048x3072 : Shape := ⟨2, ![2048, 3072]⟩
abbrev S2048x1024 : Shape := ⟨2, ![2048, 1024]⟩
abbrev S3072x1024 : Shape := ⟨2, ![3072, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateGradReferenceIdeal.lean ====
abbrev S2048x3072 : Shape := ⟨2, ![2048, 3072]⟩
abbrev S2048x1024 : Shape := ⟨2, ![2048, 1024]⟩
abbrev S_ : Shape := ⟨0, ![]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S_, .f32⟩
  | .hbm, ⟨3, _⟩ => ⟨S3072x1024, .f32⟩
  | .hbm, ⟨4, _⟩ => ⟨S2048x1024, .f32⟩
  | .hbm, ⟨5, _⟩ => ⟨S2048x3072, .f32⟩
  | .hbm, ⟨6, _⟩ => ⟨S2048x3072, .f32⟩
  | .hbm, ⟨7, _⟩ => ⟨S3072x1024, .f32⟩
  | .hbm, ⟨8, _⟩ => ⟨S3072x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Norm2GradKernel.lean ====
abbrev S2048x3072 : Shape := ⟨2, ![2048, 3072]⟩
abbrev S3072x1024 : Shape := ⟨2, ![3072, 1024]⟩
abbrev S2048x1024 : Shape := ⟨2, ![2048, 1024]⟩
abbrev S1x1024 : Shape := ⟨2, ![1, 1024]⟩
abbrev S512x3072 : Shape := ⟨2, ![512, 3072]⟩
abbrev S512x1024 : Shape := ⟨2, ![512, 1024]⟩
abbrev S3072x512 : Shape := ⟨2, ![3072, 512]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x3072, .bf16⟩
  | .hbm, ⟨6, _⟩ => ⟨S3072x1024, .bf16⟩
  | .hbm, ⟨7, _⟩ => ⟨S2048x1024, .f32⟩
  | .hbm, ⟨8, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x3072, .bf16⟩
  | .local _ .vmem, ⟨9, _⟩ => ⟨S512x3072, .bf16⟩
  | .local _ .vmem, ⟨10, _⟩ => ⟨S3072x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_35 : BitVec 32 := 0#32
  let v49 : BitVec 1 := Scalar.cmpi .ne v48 c0_i32_35
  v49

def k0_cond2 (i : grid0.Coords) : BitVec 1 :=
  let arg0 : BitVec 32 := BitVec.ofNat 32 (i 0).val
  let c0_i32_36 : BitVec 32 := 0#32
  let v50 : BitVec 1 := Scalar.cmpi .sgt arg0 c0_i32_36
  let v51 : BitVec 32 := Scalar.extui v50
  let c0_i32_37 : BitVec 32 := 0#32
  let v52 : BitVec 1 := Scalar.cmpi .ne v51 c0_i32_37
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Norm2GradReferenceIdeal.lean ====
abbrev S2048x3072 : Shape := ⟨2, ![2048, 3072]⟩
abbrev S3072x1024 : Shape := ⟨2, ![3072, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x3072, .bf16⟩
  | .hbm, ⟨6, _⟩ => ⟨S3072x1024, .bf16⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S3072x1024, .f32⟩
  | .hbm, ⟨27, _⟩ => ⟨S2048x3072, .f32⟩
  | .hbm, ⟨28, _⟩ => ⟨S3072x1024, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== InKernel.lean ====
abbrev S2048x1024 : Shape := ⟨2, ![2048, 1024]⟩
abbrev S1x1024 : Shape := ⟨2, ![1, 1024]⟩
abbrev S3200x1024 : Shape := ⟨2, ![3200, 1024]⟩
abbrev S2048x3200 : Shape := ⟨2, ![2048, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩
abbrev S640x1024 : Shape := ⟨2, ![640, 1024]⟩
abbrev S512x640 : Shape := ⟨2, ![512, 640]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S3200x1024, .bf16⟩
  | .hbm, ⟨3, _⟩ => ⟨S2048x3200, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S3200x1024, .bf16⟩
  | .local _ .vmem, ⟨3, _⟩ => ⟨S1x1024, .f32⟩
  | .local _ .vmem, ⟨4, _⟩ => ⟨S512x3200, .f32⟩
  | .local _ .vmem, ⟨5, _⟩ => ⟨S512x3200, .f32⟩
  | .local _ .vmem, ⟨6, _⟩ => ⟨S512x1024, .bf16⟩
  | .local _ .vmem, ⟨7, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InReferenceIdeal.lean ====
abbrev S2048x1024 : Shape := ⟨2, ![2048, 1024]⟩
abbrev S1x1024 : Shape := ⟨2, ![1, 1024]⟩
abbrev S3200x1024 : Shape := ⟨2, ![3200, 1024]⟩
abbrev S_ : Shape := ⟨0, ![]⟩
abbrev S2048 : Shape := ⟨1, ![2048]⟩
abbrev S2048x1 : Shape := ⟨2, ![2048, 1]⟩
abbrev S2048x3200 : Shape := ⟨2, ![2048, 3200]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S3200x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S3200x1024, .f32⟩
  | .hbm, ⟨19, _⟩ => ⟨S2048x3200, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InGradKernel.lean ====
abbrev S2048x3200 : Shape := ⟨2, ![2048, 3200]⟩
abbrev S2048x1024 : Shape := ⟨2, ![2048, 1024]⟩
abbrev S3200x1024 : Shape := ⟨2, ![3200, 1024]⟩
abbrev S2048x640 : Shape := ⟨2, ![2048, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x3200, .f32⟩
  | .hbm, ⟨1, _⟩ => ⟨S2048x1024, .bf16⟩
  | .hbm, ⟨2, _⟩ => ⟨S3200x1024, .bf16⟩
  | .local _ .vmem, ⟨0, _⟩ => ⟨S2048x640, .f32⟩
  | .local _ .vmem, ⟨1, _⟩ => ⟨S2048x640, .f32⟩
  | .local _ .vmem, ⟨2, _⟩ => ⟨S2048x1024, .bf16⟩
  | .local _ .vmem, ⟨3, _⟩ => ⟨S640x1024, .bf16⟩
  | .local _ .vmem, ⟨4, _⟩ => ⟨S640x1024, .bf16⟩
  | _, _ => ⟨S2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGradReferenceIdeal.lean ====
abbrev S2048x3200 : Shape := ⟨2, ![2048, 3200]⟩
abbrev S2048x1024 : Shape := ⟨2, ![2048, 1024]⟩
abbrev S_ : Shape := ⟨0, ![]⟩
abbrev S3200x1024 : Shape := ⟨2, ![3200, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x3200, .f32⟩
  | .hbm, ⟨1, _⟩ => ⟨S2048x1024, .bf16⟩
  | .hbm, ⟨2, _⟩ => ⟨S_, .f32⟩
  | .hbm, ⟨3, _⟩ => ⟨S3200x1024, .f32⟩
  | .hbm, ⟨4, _⟩ => ⟨S2048x1024, .f32⟩
  | .hbm, ⟨5, _⟩ => ⟨S2048x3200, .f32⟩
  | .hbm, ⟨6, _⟩ => ⟨S3200x1024, .f32⟩
  | .hbm, ⟨7, _⟩ => ⟨S3200x1024, .bf16⟩
  | _, _ => ⟨S2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Norm1GradKernel.lean ====
abbrev S2048x3200 : Shape := ⟨2, ![2048, 3200]⟩
abbrev S3200x1024 : Shape := ⟨2, ![3200, 1024]⟩
abbrev S2048x1024 : Shape := ⟨2, ![2048, 1024]⟩
abbrev S1x1024 : Shape := ⟨2, ![1, 1024]⟩
abbrev S512x3200 : Shape := ⟨2, ![512, 3200]⟩
abbrev S512x1024 : Shape := ⟨2, ![512, 1024]⟩
abbrev S3200x512 : Shape := ⟨2, ![3200, 512]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x3200, .f32⟩
  | .hbm, ⟨1, _⟩ => ⟨S3200x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S512x3200, .f32⟩
  | .local _ .vmem, ⟨1, _⟩ => ⟨S512x3200, .f32⟩
  | .local _ .vmem, ⟨2, _⟩ => ⟨S3200x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_25 : BitVec 32 := 0#32
  let v42 : BitVec 1 := Scalar.cmpi .ne v41 c0_i32_25
  v42

def k0_cond2 (i : grid0.Coords) : BitVec 1 :=
  let arg0 : BitVec 32 := BitVec.ofNat 32 (i 0).val
  let c0_i32_26 : BitVec 32 := 0#32
  let v43 : BitVec 1 := Scalar.cmpi .sgt arg0 c0_i32_26
  let v44 : BitVec 32 := Scalar.extui v43
  let c0_i32_27 : BitVec 32 := 0#32
  let v45 : BitVec 1 := Scalar.cmpi .ne v44 c0_i32_27
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Norm1GradReferenceIdeal.lean ====
abbrev S2048x3200 : Shape := ⟨2, ![2048, 3200]⟩
abbrev S3200x1024 : Shape := ⟨2, ![3200, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x3200, .f32⟩
  | .hbm, ⟨1, _⟩ => ⟨S3200x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S3200x1024, .f32⟩
  | .hbm, ⟨25, _⟩ => ⟨S2048x3200, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | _, _ => ⟨S2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== AdamMlpKernel.lean ====
abbrev S2x352x1024 : Shape := ⟨3, ![2, 352, 1024]⟩
abbrev S4x384x1024 : Shape := ⟨3, ![4, 384, 1024]⟩
abbrev S1x352x1024 : Shape := ⟨3, ![1, 352, 1024]⟩
abbrev S4x352x1024 : Shape := ⟨3, ![4, 352, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x352x1024, .f32⟩
  | .hbm, ⟨1, _⟩ => ⟨S4x384x1024, .bf16⟩
  | .hbm, ⟨2, _⟩ => ⟨S4x384x1024, .bf16⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S4x352x1024, .bf16⟩
  | .local _ .vmem, ⟨3, _⟩ => ⟨S4x352x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMlpKernelIdeal.lean ====
abbrev S2x352x1024 : Shape := ⟨3, ![2, 352, 1024]⟩
abbrev S4x384x1024 : Shape := ⟨3, ![4, 384, 1024]⟩
abbrev S1x352x1024 : Shape := ⟨3, ![1, 352, 1024]⟩
abbrev S4x352x1024 : Shape := ⟨3, ![4, 352, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x352x1024, .f32⟩
  | .hbm, ⟨1, _⟩ => ⟨S4x384x1024, .bf16⟩
  | .hbm, ⟨2, _⟩ => ⟨S4x384x1024, .bf16⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S4x352x1024, .bf16⟩
  | .local _ .vmem, ⟨3, _⟩ => ⟨S4x352x1024, .bf16⟩
  | .local _ .vmem, ⟨4, _⟩ => ⟨S4x352x1024, .bf16⟩
  | .local _ .vmem, ⟨5, _⟩ => ⟨S4x352x1024, .bf16⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMlpReferenceIdeal.lean ====
abbrev S2x352x1024 : Shape := ⟨3, ![2, 352, 1024]⟩
abbrev S4x384x1024 : Shape := ⟨3, ![4, 384, 1024]⟩
abbrev S4x352x1024 : Shape := ⟨3, ![4, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S4x384x1024, .bf16⟩
  | .hbm, ⟨2, _⟩ => ⟨S4x384x1024, .bf16⟩
  | .hbm, ⟨3, _⟩ => ⟨S2x352x1024, .f32⟩
  | .hbm, ⟨4, _⟩ => ⟨S2x352x1024, .f32⟩
  | .hbm, ⟨5, _⟩ => ⟨S4x352x1024, .bf16⟩
  | .hbm, ⟨6, _⟩ => ⟨S4x352x1024, .f32⟩
  | .hbm, ⟨7, _⟩ => ⟨S_, .f32⟩
  | .hbm, ⟨8, _⟩ => ⟨S352x1024, .f32⟩
  | .hbm, ⟨9, _⟩ => ⟨S4x352x1024, .bf16⟩
  | .hbm, ⟨10, _⟩ => ⟨S4x352x1024, .f32⟩
  | .hbm, ⟨11, _⟩ => ⟨S_, .f32⟩
  | .hbm, ⟨12, _⟩ => ⟨S352x1024, .f32⟩
  | .hbm, ⟨13, _⟩ => ⟨S1x352x1024, .f32⟩
  | .hbm, ⟨14, _⟩ => ⟨S1x352x1024, .f32⟩
  | .hbm, ⟨15, _⟩ => ⟨S2x352x1024, .f32⟩
  | .hbm, ⟨16, _⟩ => ⟨S_, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S2x352x1024, .f32⟩
  | .hbm, ⟨31, _⟩ => ⟨S_, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | .hbm, ⟨45, _⟩ => ⟨S2x352x1024, .f32⟩
  | .hbm, ⟨46, _⟩ => ⟨S_, .f32⟩
  | .hbm, ⟨47, _⟩ => ⟨S2x352x1024, .f32⟩
  | .hbm, ⟨48, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamOutKernel.lean ====
abbrev S2x128x1024 : Shape := ⟨3, ![2, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x128x1024, .f32⟩
  | .hbm, ⟨1, _⟩ => ⟨S4x128x1024, .bf16⟩
  | .hbm, ⟨2, _⟩ => ⟨S4x128x1024, .bf16⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S4x128x1024, .bf16⟩
  | .local _ .vmem, ⟨3, _⟩ => ⟨S4x128x1024, .bf16⟩
  | .local _ .vmem, ⟨4, _⟩ => ⟨S4x128x1024, .bf16⟩
  | .local _ .vmem, ⟨5, _⟩ => ⟨S4x128x1024, .bf16⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutKernelIdeal.lean ====
abbrev S2x128x1024 : Shape := ⟨3, ![2, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x128x1024, .f32⟩
  | .hbm, ⟨1, _⟩ => ⟨S4x128x1024, .bf16⟩
  | .hbm, ⟨2, _⟩ => ⟨S4x128x1024, .bf16⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S4x128x1024, .bf16⟩
  | .local _ .vmem, ⟨3, _⟩ => ⟨S4x128x1024, .bf16⟩
  | .local _ .vmem, ⟨4, _⟩ => ⟨S4x128x1024, .bf16⟩
  | .local _ .vmem, ⟨5, _⟩ => ⟨S4x128x1024, .bf16⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutReferenceIdeal.lean ====
abbrev S2x128x1024 : Shape := ⟨3, ![2, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S4x128x1024, .bf16⟩
  | .hbm, ⟨2, _⟩ => ⟨S4x128x1024, .bf16⟩
  | .hbm, ⟨3, _⟩ => ⟨S2x128x1024, .f32⟩
  | .hbm, ⟨4, _⟩ => ⟨S2x128x1024, .f32⟩
  | .hbm, ⟨5, _⟩ => ⟨S4x128x1024, .f32⟩
  | .hbm, ⟨6, _⟩ => ⟨S_, .f32⟩
  | .hbm, ⟨7, _⟩ => ⟨S128x1024, .f32⟩
  | .hbm, ⟨8, _⟩ => ⟨S4x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamInKernel.lean ====
abbrev S2x385x1024 : Shape := ⟨3, ![2, 385, 1024]⟩
abbrev S4x385x1024 : Shape := ⟨3, ![4, 385, 1024]⟩
abbrev S1x385x1024 : Shape := ⟨3, ![1, 385, 1024]⟩
abbrev S385x1024 : Shape := ⟨2, ![385, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x385x1024, .f32⟩
  | .hbm, ⟨1, _⟩ => ⟨S4x385x1024, .bf16⟩
  | .hbm, ⟨2, _⟩ => ⟨S4x385x1024, .bf16⟩
  | .hbm, ⟨3, _⟩ => ⟨S2x385x1024, .f32⟩
  | .hbm, ⟨4, _⟩ => ⟨S2x385x1024, .f32⟩
  | .hbm, ⟨5, _⟩ => ⟨S2x385x1024, .f32⟩
  | .hbm, ⟨6, _⟩ => ⟨S2x385x1024, .f32⟩
  | .hbm, ⟨7, _⟩ => ⟨S2x385x1024, .f32⟩
  | .hbm, ⟨8, _⟩ => ⟨S2x385x1024, .f32⟩
  | .local _ .vmem, ⟨0, _⟩ => ⟨S1x385x1024, .f32⟩
  | .local _ .vmem, ⟨1, _⟩ => ⟨S1x385x1024, .f32⟩
  | .local _ .vmem, ⟨2, _⟩ => ⟨S4x385x1024, .bf16⟩
  | .local _ .vmem, ⟨3, _⟩ => ⟨S4x385x1024, .bf16⟩
  | .local _ .vmem, ⟨4, _⟩ => ⟨S4x385x1024, .bf16⟩
  | .local _ .vmem, ⟨5, _⟩ => ⟨S4x385x1024, .bf16⟩
  | .local _ .vmem, ⟨6, _⟩ => ⟨S1x385x1024, .f32⟩
  | .local _ .vmem, ⟨7, _⟩ => ⟨S1x385x1024, .f32⟩
  | .local _ .vmem, ⟨8, _⟩ => ⟨S1x385x1024, .f32⟩
  | .local _ .vmem, ⟨9, _⟩ => ⟨S1x385x1024, .f32⟩
  | .local _ .vmem, ⟨10, _⟩ => ⟨S1x385x1024, .f32⟩
  | .local _ .vmem, ⟨11, _⟩ => ⟨S1x385x1024, .f32⟩
  | .local _ .vmem, ⟨12, _⟩ => ⟨S1x385x1024, .f32⟩
  | .local _ .vmem, ⟨13, _⟩ => ⟨S1x385x1024, .f32⟩
  | .local _ .vmem, ⟨14, _⟩ => ⟨S1x385x1024, .f32⟩
  | .local _ .vmem, ⟨15, _⟩ => ⟨S1x385x1024, .f32⟩
  | .local _ .vmem, ⟨16, _⟩ => ⟨S1x385x1024, .f32⟩
  | .local _ .vmem, ⟨17, _⟩ => ⟨S1x385x1024, .f32⟩
  | _, _ => ⟨S2x385x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x385x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x385x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x385x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x385x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x385x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x385x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x385x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x385x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x385x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInKernelIdeal.lean ====
abbrev S2x385x1024 : Shape := ⟨3, ![2, 385, 1024]⟩
abbrev S4x385x1024 : Shape := ⟨3, ![4, 385, 1024]⟩
abbrev S1x385x1024 : Shape := ⟨3, ![1, 385, 1024]⟩
abbrev S385x1024 : Shape := ⟨2, ![385, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x385x1024, .f32⟩
  | .hbm, ⟨1, _⟩ => ⟨S4x385x1024, .bf16⟩
  | .hbm, ⟨2, _⟩ => ⟨S4x385x1024, .bf16⟩
  | .hbm, ⟨3, _⟩ => ⟨S2x385x1024, .f32⟩
  | .hbm, ⟨4, _⟩ => ⟨S2x385x1024, .f32⟩
  | .hbm, ⟨5, _⟩ => ⟨S2x385x1024, .f32⟩
  | .hbm, ⟨6, _⟩ => ⟨S2x385x1024, .f32⟩
  | .hbm, ⟨7, _⟩ => ⟨S2x385x1024, .f32⟩
  | .hbm, ⟨8, _⟩ => ⟨S2x385x1024, .f32⟩
  | .local _ .vmem, ⟨0, _⟩ => ⟨S1x385x1024, .f32⟩
  | .local _ .vmem, ⟨1, _⟩ => ⟨S1x385x1024, .f32⟩
  | .local _ .vmem, ⟨2, _⟩ => ⟨S4x385x1024, .bf16⟩
  | .local _ .vmem, ⟨3, _⟩ => ⟨S4x385x1024, .bf16⟩
  | .local _ .vmem, ⟨4, _⟩ => ⟨S4x385x1024, .bf16⟩
  | .local _ .vmem, ⟨5, _⟩ => ⟨S4x385x1024, .bf16⟩
  | .local _ .vmem, ⟨6, _⟩ => ⟨S1x385x1024, .f32⟩
  | .local _ .vmem, ⟨7, _⟩ => ⟨S1x385x1024, .f32⟩
  | .local _ .vmem, ⟨8, _⟩ => ⟨S1x385x1024, .f32⟩
  | .local _ .vmem, ⟨9, _⟩ => ⟨S1x385x1024, .f32⟩
  | .local _ .vmem, ⟨10, _⟩ => ⟨S1x385x1024, .f32⟩
  | .local _ .vmem, ⟨11, _⟩ => ⟨S1x385x1024, .f32⟩
  | .local _ .vmem, ⟨12, _⟩ => ⟨S1x385x1024, .f32⟩
  | .local _ .vmem, ⟨13, _⟩ => ⟨S1x385x1024, .f32⟩
  | .local _ .vmem, ⟨14, _⟩ => ⟨S1x385x1024, .f32⟩
  | .local _ .vmem, ⟨15, _⟩ => ⟨S1x385x1024, .f32⟩
  | .local _ .vmem, ⟨16, _⟩ => ⟨S1x385x1024, .f32⟩
  | .local _ .vmem, ⟨17, _⟩ => ⟨S1x385x1024, .f32⟩
  | _, _ => ⟨S2x385x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x385x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x385x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x385x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x385x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x385x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x385x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x385x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x385x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x385x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInReferenceIdeal.lean ====
abbrev S2x385x1024 : Shape := ⟨3, ![2, 385, 1024]⟩
abbrev S4x385x1024 : Shape := ⟨3, ![4, 385, 1024]⟩
abbrev S_ : Shape := ⟨0, ![]⟩
abbrev S385x1024 : Shape := ⟨2, ![385, 1024]⟩
abbrev S1x385x1024 : Shape := ⟨3, ![1, 385, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x385x1024, .f32⟩
  | .hbm, ⟨1, _⟩ => ⟨S4x385x1024, .bf16⟩
  | .hbm, ⟨2, _⟩ => ⟨S4x385x1024, .bf16⟩
  | .hbm, ⟨3, _⟩ => ⟨S2x385x1024, .f32⟩
  | .hbm, ⟨4, _⟩ => ⟨S2x385x1024, .f32⟩
  | .hbm, ⟨5, _⟩ => ⟨S4x385x1024, .f32⟩
  | .hbm, ⟨6, _⟩ => ⟨S_, .f32⟩
  | .hbm, ⟨7, _⟩ => ⟨S385x1024, .f32⟩
  | .hbm, ⟨8, _⟩ => ⟨S4x385x1024, .f32⟩
  | .hbm, ⟨9, _⟩ => ⟨S_, .f32⟩
  | .hbm, ⟨10, _⟩ => ⟨S385x1024, .f32⟩
  | .hbm, ⟨11, _⟩ => ⟨S1x385x1024, .f32⟩
  | .hbm, ⟨12, _⟩ => ⟨S1x385x1024, .f32⟩
  | .hbm, ⟨13, _⟩ => ⟨S2x385x1024, .f32⟩
  | .hbm, ⟨14, _⟩ => ⟨S_, .f32⟩
  | .hbm, ⟨15, _⟩ => ⟨S2x385x1024, .f32⟩
  | .hbm, ⟨16, _⟩ => ⟨S2x385x1024, .f32⟩
  | .hbm, ⟨17, _⟩ => ⟨S_, .f32⟩
  | .hbm, ⟨18, _⟩ => ⟨S2x385x1024, .f32⟩
  | .hbm, ⟨19, _⟩ => ⟨S2x385x1024, .f32⟩
  | .hbm, ⟨20, _⟩ => ⟨S2x385x1024, .f32⟩
  | .hbm, ⟨21, _⟩ => ⟨S_, .f32⟩
  | .hbm, ⟨22, _⟩ => ⟨S2x385x1024, .f32⟩
  | .hbm, ⟨23, _⟩ => ⟨S2x385x1024, .f32⟩
  | .hbm, ⟨24, _⟩ => ⟨S2x385x1024, .f32⟩
  | .hbm, ⟨25, _⟩ => ⟨S_, .f32⟩
  | .hbm, ⟨26, _⟩ => ⟨S2x385x1024, .f32⟩
  | .hbm, ⟨27, _⟩ => ⟨S2x385x1024, .f32⟩
  | .hbm, ⟨28, _⟩ => ⟨S2x385x1024, .f32⟩
  | .hbm, ⟨29, _⟩ => ⟨S_, .f32⟩
  | .hbm, ⟨30, _⟩ => ⟨S2x385x1024, .f32⟩
  | .hbm, ⟨31, _⟩ => ⟨S2x385x1024, .f32⟩
  | .hbm, ⟨32, _⟩ => ⟨S_, .f32⟩
  | .hbm, ⟨33, _⟩ => ⟨S2x385x1024, .f32⟩
  | .hbm, ⟨34, _⟩ => ⟨S2x385x1024, .f32⟩
  | .hbm, ⟨35, _⟩ => ⟨S2x385x1024, .f32⟩
  | .hbm, ⟨36, _⟩ => ⟨S_, .f32⟩
  | .hbm, ⟨37, _⟩ => ⟨S2x385x1024, .f32⟩
  | .hbm, ⟨38, _⟩ => ⟨S2x385x1024, .f32⟩
  | .hbm, ⟨39, _⟩ => ⟨S2x385x1024, .f32⟩
  | .hbm, ⟨40, _⟩ => ⟨S_, .f32⟩
  | .hbm, ⟨41, _⟩ => ⟨S2x385x1024, .f32⟩
  | .hbm, ⟨42, _⟩ => ⟨S2x385x1024, .f32⟩
  | .hbm, ⟨43, _⟩ => ⟨S2x385x1024, .f32⟩
  | .hbm, ⟨44, _⟩ => ⟨S_, .f32⟩
  | .hbm, ⟨45, _⟩ => ⟨S2x385x1024, .f32⟩
  | .hbm, ⟨46, _⟩ => ⟨S2x385x1024, .f32⟩
  | _, _ => ⟨S2x385x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamPleKernel.lean ====
abbrev S2x256x128 : Shape := ⟨3, ![2, 256, 128]⟩
abbrev S4x256x128 : Shape := ⟨3, ![4, 256, 128]⟩
abbrev S1x256x128 : Shape := ⟨3, ![1, 256, 128]⟩
abbrev S256x128 : Shape := ⟨2, ![256, 128]⟩

abbrev nBuf : Space → Nat
  | .hbm => 9
  | .vmem => 18
  | .smem => 0
  | _ => 0

abbrev bufTy : (tb : Table) → Fin (tcTables nBuf tb) → BufTy
  | .hbm, ⟨0, _⟩ => ⟨S2x256x128, .f32⟩
  | .hbm, ⟨1, _⟩ => ⟨S4x256x128, .bf16⟩
  | .hbm, ⟨2, _⟩ => ⟨S4x256x128, .bf16⟩
  | .hbm, ⟨3, _⟩ => ⟨S2x256x128, .f32⟩
  | .hbm, ⟨4, _⟩ => ⟨S2x256x128, .f32⟩
  | .hbm, ⟨5, _⟩ => ⟨S2x256x128, .f32⟩
  | .hbm, ⟨6, _⟩ => ⟨S2x256x128, .f32⟩
  | .hbm, ⟨7, _⟩ => ⟨S2x256x128, .f32⟩
  | .hbm, ⟨8, _⟩ => ⟨S2x256x128, .f32⟩
  | .local _ .vmem, ⟨0, _⟩ => ⟨S1x256x128, .f32⟩
  | .local _ .vmem, ⟨1, _⟩ => ⟨S1x256x128, .f32⟩
  | .local _ .vmem, ⟨2, _⟩ => ⟨S4x256x128, .bf16⟩
  | .local _ .vmem, ⟨3, _⟩ => ⟨S4x256x128, .bf16⟩
  | .local _ .vmem, ⟨4, _⟩ => ⟨S4x256x128, .bf16⟩
  | .local _ .vmem, ⟨5, _⟩ => ⟨S4x256x128, .bf16⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S2x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamPleKernelIdeal.lean ====
abbrev S2x256x128 : Shape := ⟨3, ![2, 256, 128]⟩
abbrev S4x256x128 : Shape := ⟨3, ![4, 256, 128]⟩
abbrev S1x256x128 : Shape := ⟨3, ![1, 256, 128]⟩
abbrev S256x128 : Shape := ⟨2, ![256, 128]⟩

abbrev nBuf : Space → Nat
  | .hbm => 9
  | .vmem => 18
  | .smem => 0
  | _ => 0

abbrev bufTy : (tb : Table) → Fin (tcTables nBuf tb) → BufTy
  | .hbm, ⟨0, _⟩ => ⟨S2x256x128, .f32⟩
  | .hbm, ⟨1, _⟩ => ⟨S4x256x128, .bf16⟩
  | .hbm, ⟨2, _⟩ => ⟨S4x256x128, .bf16⟩
  | .hbm, ⟨3, _⟩ => ⟨S2x256x128, .f32⟩
  | .hbm, ⟨4, _⟩ => ⟨S2x256x128, .f32⟩
  | .hbm, ⟨5, _⟩ => ⟨S2x256x128, .f32⟩
  | .hbm, ⟨6, _⟩ => ⟨S2x256x128, .f32⟩
  | .hbm, ⟨7, _⟩ => ⟨S2x256x128, .f32⟩
  | .hbm, ⟨8, _⟩ => ⟨S2x256x128, .f32⟩
  | .local _ .vmem, ⟨0, _⟩ => ⟨S1x256x128, .f32⟩
  | .local _ .vmem, ⟨1, _⟩ => ⟨S1x256x128, .f32⟩
  | .local _ .vmem, ⟨2, _⟩ => ⟨S4x256x128, .bf16⟩
  | .local _ .vmem, ⟨3, _⟩ => ⟨S4x256x128, .bf16⟩
  | .local _ .vmem, ⟨4, _⟩ => ⟨S4x256x128, .bf16⟩
  | .local _ .vmem, ⟨5, _⟩ => ⟨S4x256x128, .bf16⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S2x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamPleReferenceIdeal.lean ====
abbrev S2x256x128 : Shape := ⟨3, ![2, 256, 128]⟩
abbrev S4x256x128 : Shape := ⟨3, ![4, 256, 128]⟩
abbrev S_ : Shape := ⟨0, ![]⟩
abbrev S256x128 : Shape := ⟨2, ![256, 128]⟩
abbrev S1x256x128 : Shape := ⟨3, ![1, 256, 128]⟩

abbrev nBuf : Space → Nat
  | .hbm => 47
  | .vmem => 0
  | .smem => 0
  | _ => 0

abbrev bufTy : (tb : Table) → Fin (tcTables nBuf tb) → BufTy
  | .hbm, ⟨0, _⟩ => ⟨S2x256x128, .f32⟩
  | .hbm, ⟨1, _⟩ => ⟨S4x256x128, .bf16⟩
  | .hbm, ⟨2, _⟩ => ⟨S4x256x128, .bf16⟩
  | .hbm, ⟨3, _⟩ => ⟨S2x256x128, .f32⟩
  | .hbm, ⟨4, _⟩ => ⟨S2x256x128, .f32⟩
  | .hbm, ⟨5, _⟩ => ⟨S4x256x128, .f32⟩
  | .hbm, ⟨6, _⟩ => ⟨S_, .f32⟩
  | .hbm, ⟨7, _⟩ => ⟨S256x128, .f32⟩
  | .hbm, ⟨8, _⟩ => ⟨S4x256x128, .f32⟩
  | .hbm, ⟨9, _⟩ => ⟨S_, .f32⟩
  | .hbm, ⟨10, _⟩ => ⟨S256x128, .f32⟩
  | .hbm, ⟨11, _⟩ => ⟨S1x256x128, .f32⟩
  | .hbm, ⟨12, _⟩ => ⟨S1x256x128, .f32⟩
  | .hbm, ⟨13, _⟩ => ⟨S2x256x128, .f32⟩
  | .hbm, ⟨14, _⟩ => ⟨S_, .f32⟩
  | .hbm, ⟨15, _⟩ => ⟨S2x256x128, .f32⟩
  | .hbm, ⟨16, _⟩ => ⟨S2x256x128, .f32⟩
  | .hbm, ⟨17, _⟩ => ⟨S_, .f32⟩
  | .hbm, ⟨18, _⟩ => ⟨S2x256x128, .f32⟩
  | .hbm, ⟨19, _⟩ => ⟨S2x256x128, .f32⟩
  | .hbm, ⟨20, _⟩ => ⟨S2x256x128, .f32⟩
  | .hbm, ⟨21, _⟩ => ⟨S_, .f32⟩
  | .hbm, ⟨22, _⟩ => ⟨S2x256x128, .f32⟩
  | .hbm, ⟨23, _⟩ => ⟨S2x256x128, .f32⟩
  | .hbm, ⟨24, _⟩ => ⟨S2x256x128, .f32⟩
  | .hbm, ⟨25, _⟩ => ⟨S_, .f32⟩
  | .hbm, ⟨26, _⟩ => ⟨S2x256x128, .f32⟩
  | .hbm, ⟨27, _⟩ => ⟨S2x256x128, .f32⟩
  | .hbm, ⟨28, _⟩ => ⟨S2x256x128, .f32⟩
  | .hbm, ⟨29, _⟩ => ⟨S_, .f32⟩
  | .hbm, ⟨30, _⟩ => ⟨S2x256x128, .f32⟩
  | .hbm, ⟨31, _⟩ => ⟨S2x256x128, .f32⟩
  | .hbm, ⟨32, _⟩ => ⟨S_, .f32⟩
  | .hbm, ⟨33, _⟩ => ⟨S2x256x128, .f32⟩
  | .hbm, ⟨34, _⟩ => ⟨S2x256x128, .f32⟩
  | .hbm, ⟨35, _⟩ => ⟨S2x256x128, .f32⟩
  | .hbm, ⟨36, _⟩ => ⟨S_, .f32⟩
  | .hbm, ⟨37, _⟩ => ⟨S2x256x128, .f32⟩
  | .hbm, ⟨38, _⟩ => ⟨S2x256x128, .f32⟩
  | .hbm, ⟨39, _⟩ => ⟨S2x256x128, .f32⟩
  | .hbm, ⟨40, _⟩ => ⟨S_, .f32⟩
  | .hbm, ⟨41, _⟩ => ⟨S2x256x128, .f32⟩
  | .hbm, ⟨42, _⟩ => ⟨S2x256x128, .f32⟩
  | .hbm, ⟨43, _⟩ => ⟨S2x256x128, .f32⟩
  | .hbm, ⟨44, _⟩ => ⟨S_, .f32⟩
  | .hbm, ⟨45, _⟩ => ⟨S2x256x128, .f32⟩
  | .hbm, ⟨46, _⟩ => ⟨S2x256x128, .f32⟩
  | _, _ => ⟨S2x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamConvKernel.lean ====
abbrev S2x4x192 : Shape := ⟨3, ![2, 4, 192]⟩
abbrev S4x4x192 : Shape := ⟨3, ![4, 4, 192]⟩
abbrev S1x4x192 : Shape := ⟨3, ![1, 4, 192]⟩
abbrev S4x192 : Shape := ⟨2, ![4, 192]⟩

abbrev nBuf : Space → Nat
  | .hbm => 9
  | .vmem => 18
  | .smem => 0
  | _ => 0

abbrev bufTy : (tb : Table) → Fin (tcTables nBuf tb) → BufTy
  | .hbm, ⟨0, _⟩ => ⟨S2x4x192, .f32⟩
  | .hbm, ⟨1, _⟩ => ⟨S4x4x192, .f32⟩
  | .hbm, ⟨2, _⟩ => ⟨S4x4x192, .f32⟩
  | .hbm, ⟨3, _⟩ => ⟨S2x4x192, .f32⟩
  | .hbm, ⟨4, _⟩ => ⟨S2x4x192, .f32⟩
  | .hbm, ⟨5, _⟩ => ⟨S2x4x192, .f32⟩
  | .hbm, ⟨6, _⟩ => ⟨S2x4x192, .f32⟩
  | .hbm, ⟨7, _⟩ => ⟨S2x4x192, .f32⟩
  | .hbm, ⟨8, _⟩ => ⟨S2x4x192, .f32⟩
  | .local _ .vmem, ⟨0, _⟩ => ⟨S1x4x192, .f32⟩
  | .local _ .vmem, ⟨1, _⟩ => ⟨S1x4x192, .f32⟩
  | .local _ .vmem, ⟨2, _⟩ => ⟨S4x4x192, .f32⟩
  | .local _ .vmem, ⟨3, _⟩ => ⟨S4x4x192, .f32⟩
  | .local _ .vmem, ⟨4, _⟩ => ⟨S4x4x192, .f32⟩
  | .local _ .vmem, ⟨5, _⟩ => ⟨S4x4x192, .f32⟩
  | .local _ .vmem, ⟨6, _⟩ => ⟨S1x4x192, .f32⟩
  | .local _ .vmem, ⟨7, _⟩ => ⟨S1x4x192, .f32⟩
  | .local _ .vmem, ⟨8, _⟩ => ⟨S1x4x192, .f32⟩
  | .local _ .vmem, ⟨9, _⟩ => ⟨S1x4x192, .f32⟩
  | .local _ .vmem, ⟨10, _⟩ => ⟨S1x4x192, .f32⟩
  | .local _ .vmem, ⟨11, _⟩ => ⟨S1x4x192, .f32⟩
  | .local _ .vmem, ⟨12, _⟩ => ⟨S1x4x192, .f32⟩
  | .local _ .vmem, ⟨13, _⟩ => ⟨S1x4x192, .f32⟩
  | .local _ .vmem, ⟨14, _⟩ => ⟨S1x4x192, .f32⟩
  | .local _ .vmem, ⟨15, _⟩ => ⟨S1x4x192, .f32⟩
  | .local _ .vmem, ⟨16, _⟩ => ⟨S1x4x192, .f32⟩
  | .local _ .vmem, ⟨17, _⟩ => ⟨S1x4x192, .f32⟩
  | _, _ => ⟨S2x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x4x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x4x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamConvKernelIdeal.lean ====
abbrev S2x4x192 : Shape := ⟨3, ![2, 4, 192]⟩
abbrev S4x4x192 : Shape := ⟨3, ![4, 4, 192]⟩
abbrev S1x4x192 : Shape := ⟨3, ![1, 4, 192]⟩
abbrev S4x192 : Shape := ⟨2, ![4, 192]⟩

abbrev nBuf : Space → Nat
  | .hbm => 9
  | .vmem => 18
  | .smem => 0
  | _ => 0

abbrev bufTy : (tb : Table) → Fin (tcTables nBuf tb) → BufTy
  | .hbm, ⟨0, _⟩ => ⟨S2x4x192, .f32⟩
  | .hbm, ⟨1, _⟩ => ⟨S4x4x192, .f32⟩
  | .hbm, ⟨2, _⟩ => ⟨S4x4x192, .f32⟩
  | .hbm, ⟨3, _⟩ => ⟨S2x4x192, .f32⟩
  | .hbm, ⟨4, _⟩ => ⟨S2x4x192, .f32⟩
  | .hbm, ⟨5, _⟩ => ⟨S2x4x192, .f32⟩
  | .hbm, ⟨6, _⟩ => ⟨S2x4x192, .f32⟩
  | .hbm, ⟨7, _⟩ => ⟨S2x4x192, .f32⟩
  | .hbm, ⟨8, _⟩ => ⟨S2x4x192, .f32⟩
  | .local _ .vmem, ⟨0, _⟩ => ⟨S1x4x192, .f32⟩
  | .local _ .vmem, ⟨1, _⟩ => ⟨S1x4x192, .f32⟩
  | .local _ .vmem, ⟨2, _⟩ => ⟨S4x4x192, .f32⟩
  | .local _ .vmem, ⟨3, _⟩ => ⟨S4x4x192, .f32⟩
  | .local _ .vmem, ⟨4, _⟩ => ⟨S4x4x192, .f32⟩
  | .local _ .vmem, ⟨5, _⟩ => ⟨S4x4x192, .f32⟩
  | .local _ .vmem, ⟨6, _⟩ => ⟨S1x4x192, .f32⟩
  | .local _ .vmem, ⟨7, _⟩ => ⟨S1x4x192, .f32⟩
  | .local _ .vmem, ⟨8, _⟩ => ⟨S1x4x192, .f32⟩
  | .local _ .vmem, ⟨9, _⟩ => ⟨S1x4x192, .f32⟩
  | .local _ .vmem, ⟨10, _⟩ => ⟨S1x4x192, .f32⟩
  | .local _ .vmem, ⟨11, _⟩ => ⟨S1x4x192, .f32⟩
  | .local _ .vmem, ⟨12, _⟩ => ⟨S1x4x192, .f32⟩
  | .local _ .vmem, ⟨13, _⟩ => ⟨S1x4x192, .f32⟩
  | .local _ .vmem, ⟨14, _⟩ => ⟨S1x4x192, .f32⟩
  | .local _ .vmem, ⟨15, _⟩ => ⟨S1x4x192, .f32⟩
  | .local _ .vmem, ⟨16, _⟩ => ⟨S1x4x192, .f32⟩
  | .local _ .vmem, ⟨17, _⟩ => ⟨S1x4x192, .f32⟩
  | _, _ => ⟨S2x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x4x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x4x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamConvReferenceIdeal.lean ====
abbrev S2x4x192 : Shape := ⟨3, ![2, 4, 192]⟩
abbrev S4x4x192 : Shape := ⟨3, ![4, 4, 192]⟩
abbrev S_ : Shape := ⟨0, ![]⟩
abbrev S4x192 : Shape := ⟨2, ![4, 192]⟩
abbrev S1x4x192 : Shape := ⟨3, ![1, 4, 192]⟩

abbrev nBuf : Space → Nat
  | .hbm => 45
  | .vmem => 0
  | .smem => 0
  | _ => 0

abbrev bufTy : (tb : Table) → Fin (tcTables nBuf tb) → BufTy
  | .hbm, ⟨0, _⟩ => ⟨S2x4x192, .f32⟩
  | .hbm, ⟨1, _⟩ => ⟨S4x4x192, .f32⟩
  | .hbm, ⟨2, _⟩ => ⟨S4x4x192, .f32⟩
  | .hbm, ⟨3, _⟩ => ⟨S2x4x192, .f32⟩
  | .hbm, ⟨4, _⟩ => ⟨S2x4x192, .f32⟩
  | .hbm, ⟨5, _⟩ => ⟨S_, .f32⟩
  | .hbm, ⟨6, _⟩ => ⟨S4x192, .f32⟩
  | .hbm, ⟨7, _⟩ => ⟨S_, .f32⟩
  | .hbm, ⟨8, _⟩ => ⟨S4x192, .f32⟩
  | .hbm, ⟨9, _⟩ => ⟨S1x4x192, .f32⟩
  | .hbm, ⟨10, _⟩ => ⟨S1x4x192, .f32⟩
  | .hbm, ⟨11, _⟩ => ⟨S2x4x192, .f32⟩
  | .hbm, ⟨12, _⟩ => ⟨S_, .f32⟩
  | .hbm, ⟨13, _⟩ => ⟨S2x4x192, .f32⟩
  | .hbm, ⟨14, _⟩ => ⟨S2x4x192, .f32⟩
  | .hbm, ⟨15, _⟩ => ⟨S_, .f32⟩
  | .hbm, ⟨16, _⟩ => ⟨S2x4x192, .f32⟩
  | .hbm, ⟨17, _⟩ => ⟨S2x4x192, .f32⟩
  | .hbm, ⟨18, _⟩ => ⟨S2x4x192, .f32⟩
  | .hbm, ⟨19, _⟩ => ⟨S_, .f32⟩
  | .hbm, ⟨20, _⟩ => ⟨S2x4x192, .f32⟩
  | .hbm, ⟨21, _⟩ => ⟨S2x4x192, .f32⟩
  | .hbm, ⟨22, _⟩ => ⟨S2x4x192, .f32⟩
  | .hbm, ⟨23, _⟩ => ⟨S_, .f32⟩
  | .hbm, ⟨24, _⟩ => ⟨S2x4x192, .f32⟩
  | .hbm, ⟨25, _⟩ => ⟨S2x4x192, .f32⟩
  | .hbm, ⟨26, _⟩ => ⟨S2x4x192, .f32⟩
  | .hbm, ⟨27, _⟩ => ⟨S_, .f32⟩
  | .hbm, ⟨28, _⟩ => ⟨S2x4x192, .f32⟩
  | .hbm, ⟨29, _⟩ => ⟨S2x4x192, .f32⟩
  | .hbm, ⟨30, _⟩ => ⟨S_, .f32⟩
  | .hbm, ⟨31, _⟩ => ⟨S2x4x192, .f32⟩
  | .hbm, ⟨32, _⟩ => ⟨S2x4x192, .f32⟩
  | .hbm, ⟨33, _⟩ => ⟨S2x4x192, .f32⟩
  | .hbm, ⟨34, _⟩ => ⟨S_, .f32⟩
  | .hbm, ⟨35, _⟩ => ⟨S2x4x192, .f32⟩
  | .hbm, ⟨36, _⟩ => ⟨S2x4x192, .f32⟩
  | .hbm, ⟨37, _⟩ => ⟨S2x4x192, .f32⟩
  | .hbm, ⟨38, _⟩ => ⟨S_, .f32⟩
  | .hbm, ⟨39, _⟩ => ⟨S2x4x192, .f32⟩
  | .hbm, ⟨40, _⟩ => ⟨S2x4x192, .f32⟩
  | .hbm, ⟨41, _⟩ => ⟨S2x4x192, .f32⟩
  | .hbm, ⟨42, _⟩ => ⟨S_, .f32⟩
  | .hbm, ⟨43, _⟩ => ⟨S2x4x192, .f32⟩
  | .hbm, ⟨44, _⟩ => ⟨S2x4x192, .f32⟩
  | _, _ => ⟨S2x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamSconvKernel.lean ====
abbrev S2x3x32 : Shape := ⟨3, ![2, 3, 32]⟩
abbrev S4x3x32 : Shape := ⟨3, ![4, 3, 32]⟩
abbrev S1x3x32 : Shape := ⟨3, ![1, 3, 32]⟩
abbrev S3x32 : Shape := ⟨2, ![3, 32]⟩

abbrev nBuf : Space → Nat
  | .hbm => 9
  | .vmem => 18
  | .smem => 0
  | _ => 0

abbrev bufTy : (tb : Table) → Fin (tcTables nBuf tb) → BufTy
  | .hbm, ⟨0, _⟩ => ⟨S2x3x32, .f32⟩
  | .hbm, ⟨1, _⟩ => ⟨S4x3x32, .f32⟩
  | .hbm, ⟨2, _⟩ => ⟨S4x3x32, .f32⟩
  | .hbm, ⟨3, _⟩ => ⟨S2x3x32, .f32⟩
  | .hbm, ⟨4, _⟩ => ⟨S2x3x32, .f32⟩
  | .hbm, ⟨5, _⟩ => ⟨S2x3x32, .f32⟩
  | .hbm, ⟨6, _⟩ => ⟨S2x3x32, .f32⟩
  | .hbm, ⟨7, _⟩ => ⟨S2x3x32, .f32⟩
  | .hbm, ⟨8, _⟩ => ⟨S2x3x32, .f32⟩
  | .local _ .vmem, ⟨0, _⟩ => ⟨S1x3x32, .f32⟩
  | .local _ .vmem, ⟨1, _⟩ => ⟨S1x3x32, .f32⟩
  | .local _ .vmem, ⟨2, _⟩ => ⟨S4x3x32, .f32⟩
  | .local _ .vmem, ⟨3, _⟩ => ⟨S4x3x32, .f32⟩
  | .local _ .vmem, ⟨4, _⟩ => ⟨S4x3x32, .f32⟩
  | .local _ .vmem, ⟨5, _⟩ => ⟨S4x3x32, .f32⟩
  | .local _ .vmem, ⟨6, _⟩ => ⟨S1x3x32, .f32⟩
  | .local _ .vmem, ⟨7, _⟩ => ⟨S1x3x32, .f32⟩
  | .local _ .vmem, ⟨8, _⟩ => ⟨S1x3x32, .f32⟩
  | .local _ .vmem, ⟨9, _⟩ => ⟨S1x3x32, .f32⟩
  | .local _ .vmem, ⟨10, _⟩ => ⟨S1x3x32, .f32⟩
  | .local _ .vmem, ⟨11, _⟩ => ⟨S1x3x32, .f32⟩
  | .local _ .vmem, ⟨12, _⟩ => ⟨S1x3x32, .f32⟩
  | .local _ .vmem, ⟨13, _⟩ => ⟨S1x3x32, .f32⟩
  | .local _ .vmem, ⟨14, _⟩ => ⟨S1x3x32, .f32⟩
  | .local _ .vmem, ⟨15, _⟩ => ⟨S1x3x32, .f32⟩
  | .local _ .vmem, ⟨16, _⟩ => ⟨S1x3x32, .f32⟩
  | .local _ .vmem, ⟨17, _⟩ => ⟨S1x3x32, .f32⟩
  | _, _ => ⟨S2x3x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x3x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x3x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamSconvReferenceIdeal.lean ====
abbrev S2x3x32 : Shape := ⟨3, ![2, 3, 32]⟩
abbrev S4x3x32 : Shape := ⟨3, ![4, 3, 32]⟩
abbrev S_ : Shape := ⟨0, ![]⟩
abbrev S3x32 : Shape := ⟨2, ![3, 32]⟩
abbrev S1x3x32 : Shape := ⟨3, ![1, 3, 32]⟩

abbrev nBuf : Space → Nat
  | .hbm => 45
  | .vmem => 0
  | .smem => 0
  | _ => 0

abbrev bufTy : (tb : Table) → Fin (tcTables nBuf tb) → BufTy
  | .hbm, ⟨0, _⟩ => ⟨S2x3x32, .f32⟩
  | .hbm, ⟨1, _⟩ => ⟨S4x3x32, .f32⟩
  | .hbm, ⟨2, _⟩ => ⟨S4x3x32, .f32⟩
  | .hbm, ⟨3, _⟩ => ⟨S2x3x32, .f32⟩
  | .hbm, ⟨4, _⟩ => ⟨S2x3x32, .f32⟩
  | .hbm, ⟨5, _⟩ => ⟨S_, .f32⟩
  | .hbm, ⟨6, _⟩ => ⟨S3x32, .f32⟩
  | .hbm, ⟨7, _⟩ => ⟨S_, .f32⟩
  | .hbm, ⟨8, _⟩ => ⟨S3x32, .f32⟩
  | .hbm, ⟨9, _⟩ => ⟨S1x3x32, .f32⟩
  | .hbm, ⟨10, _⟩ => ⟨S1x3x32, .f32⟩
  | .hbm, ⟨11, _⟩ => ⟨S2x3x32, .f32⟩
  | .hbm, ⟨12, _⟩ => ⟨S_, .f32⟩
  | .hbm, ⟨13, _⟩ => ⟨S2x3x32, .f32⟩
  | .hbm, ⟨14, _⟩ => ⟨S2x3x32, .f32⟩
  | .hbm, ⟨15, _⟩ => ⟨S_, .f32⟩
  | .hbm, ⟨16, _⟩ => ⟨S2x3x32, .f32⟩
  | .hbm, ⟨17, _⟩ => ⟨S2x3x32, .f32⟩
  | .hbm, ⟨18, _⟩ => ⟨S2x3x32, .f32⟩
  | .hbm, ⟨19, _⟩ => ⟨S_, .f32⟩
  | .hbm, ⟨20, _⟩ => ⟨S2x3x32, .f32⟩
  | .hbm, ⟨21, _⟩ => ⟨S2x3x32, .f32⟩
  | .hbm, ⟨22, _⟩ => ⟨S2x3x32, .f32⟩
  | .hbm, ⟨23, _⟩ => ⟨S_, .f32⟩
  | .hbm, ⟨24, _⟩ => ⟨S2x3x32, .f32⟩
  | .hbm, ⟨25, _⟩ => ⟨S2x3x32, .f32⟩
  | .hbm, ⟨26, _⟩ => ⟨S2x3x32, .f32⟩
  | .hbm, ⟨27, _⟩ => ⟨S_, .f32⟩
  | .hbm, ⟨28, _⟩ => ⟨S2x3x32, .f32⟩
  | .hbm, ⟨29, _⟩ => ⟨S2x3x32, .f32⟩
  | .hbm, ⟨30, _⟩ => ⟨S_, .f32⟩
  | .hbm, ⟨31, _⟩ => ⟨S2x3x32, .f32⟩
  | .hbm, ⟨32, _⟩ => ⟨S2x3x32, .f32⟩
  | .hbm, ⟨33, _⟩ => ⟨S2x3x32, .f32⟩
  | .hbm, ⟨34, _⟩ => ⟨S_, .f32⟩
  | .hbm, ⟨35, _⟩ => ⟨S2x3x32, .f32⟩
  | .hbm, ⟨36, _⟩ => ⟨S2x3x32, .f32⟩
  | .hbm, ⟨37, _⟩ => ⟨S2x3x32, .f32⟩
  | .hbm, ⟨38, _⟩ => ⟨S_, .f32⟩
  | .hbm, ⟨39, _⟩ => ⟨S2x3x32, .f32⟩
  | .hbm, ⟨40, _⟩ => ⟨S2x3x32, .f32⟩
  | .hbm, ⟨41, _⟩ => ⟨S2x3x32, .f32⟩
  | .hbm, ⟨42, _⟩ => ⟨S_, .f32⟩
  | .hbm, ⟨43, _⟩ => ⟨S2x3x32, .f32⟩
  | .hbm, ⟨44, _⟩ => ⟨S2x3x32, .f32⟩
  | _, _ => ⟨S2x3x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamSmallKernel.lean ====
abbrev S1x96x1024 : Shape := ⟨3, ![1, 96, 1024]⟩
abbrev S8x96x1024 : Shape := ⟨3, ![8, 96, 1024]⟩
abbrev S96x1024 : Shape := ⟨2, ![96, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x96x1024, .f32⟩
  | .hbm, ⟨1, _⟩ => ⟨S8x96x1024, .f32⟩
  | .hbm, ⟨2, _⟩ => ⟨S1x96x1024, .f32⟩
  | .hbm, ⟨3, _⟩ => ⟨S1x96x1024, .f32⟩
  | .hbm, ⟨4, _⟩ => ⟨S1x96x1024, .f32⟩
  | .hbm, ⟨5, _⟩ => ⟨S1x96x1024, .f32⟩
  | .hbm, ⟨6, _⟩ => ⟨S1x96x1024, .f32⟩
  | .hbm, ⟨7, _⟩ => ⟨S1x96x1024, .f32⟩
  | .local _ .vmem, ⟨0, _⟩ => ⟨S1x96x1024, .f32⟩
  | .local _ .vmem, ⟨1, _⟩ => ⟨S8x96x1024, .f32⟩
  | .local _ .vmem, ⟨2, _⟩ => ⟨S1x96x1024, .f32⟩
  | .local _ .vmem, ⟨3, _⟩ => ⟨S1x96x1024, .f32⟩
  | .local _ .vmem, ⟨4, _⟩ => ⟨S1x96x1024, .f32⟩
  | .local _ .vmem, ⟨5, _⟩ => ⟨S1x96x1024, .f32⟩
  | .local _ .vmem, ⟨6, _⟩ => ⟨S1x96x1024, .f32⟩
  | .local _ .vmem, ⟨7, _⟩ => ⟨S1x96x1024, .f32⟩
  | _, _ => ⟨S1x96x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x96x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x96x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x96x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x96x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x96x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x96x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x96x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x96x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSmallReferenceIdeal.lean ====
abbrev S1x96x1024 : Shape := ⟨3, ![1, 96, 1024]⟩
abbrev S8x96x1024 : Shape := ⟨3, ![8, 96, 1024]⟩
abbrev S_ : Shape := ⟨0, ![]⟩
abbrev S96x1024 : Shape := ⟨2, ![96, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x96x1024, .f32⟩
  | .hbm, ⟨1, _⟩ => ⟨S8x96x1024, .f32⟩
  | .hbm, ⟨2, _⟩ => ⟨S1x96x1024, .f32⟩
  | .hbm, ⟨3, _⟩ => ⟨S1x96x1024, .f32⟩
  | .hbm, ⟨4, _⟩ => ⟨S_, .f32⟩
  | .hbm, ⟨5, _⟩ => ⟨S96x1024, .f32⟩
  | .hbm, ⟨6, _⟩ => ⟨S1x96x1024, .f32⟩
  | .hbm, ⟨7, _⟩ => ⟨S_, .f32⟩
  | .hbm, ⟨8, _⟩ => ⟨S1x96x1024, .f32⟩
  | .hbm, ⟨9, _⟩ => ⟨S1x96x1024, .f32⟩
  | .hbm, ⟨10, _⟩ => ⟨S_, .f32⟩
  | .hbm, ⟨11, _⟩ => ⟨S1x96x1024, .f32⟩
  | .hbm, ⟨12, _⟩ => ⟨S1x96x1024, .f32⟩
  | .hbm, ⟨13, _⟩ => ⟨S1x96x1024, .f32⟩
  | .hbm, ⟨14, _⟩ => ⟨S_, .f32⟩
  | .hbm, ⟨15, _⟩ => ⟨S1x96x1024, .f32⟩
  | .hbm, ⟨16, _⟩ => ⟨S1x96x1024, .f32⟩
  | .hbm, ⟨17, _⟩ => ⟨S1x96x1024, .f32⟩
  | .hbm, ⟨18, _⟩ => ⟨S_, .f32⟩
  | .hbm, ⟨19, _⟩ => ⟨S1x96x1024, .f32⟩
  | .hbm, ⟨20, _⟩ => ⟨S1x96x1024, .f32⟩
  | .hbm, ⟨21, _⟩ => ⟨S1x96x1024, .f32⟩
  | .hbm, ⟨22, _⟩ => ⟨S_, .f32⟩
  | .hbm, ⟨23, _⟩ => ⟨S1x96x1024, .f32⟩
  | .hbm, ⟨24, _⟩ => ⟨S1x96x1024, .f32⟩
  | .hbm, ⟨25, _⟩ => ⟨S_, .f32⟩
  | .hbm, ⟨26, _⟩ => ⟨S1x96x1024, .f32⟩
  | .hbm, ⟨27, _⟩ => ⟨S1x96x1024, .f32⟩
  | .hbm, ⟨28, _⟩ => ⟨S1x96x1024, .f32⟩
  | .hbm, ⟨29, _⟩ => ⟨S_, .f32⟩
  | .hbm, ⟨30, _⟩ => ⟨S1x96x1024, .f32⟩
  | .hbm, ⟨31, _⟩ => ⟨S1x96x1024, .f32⟩
  | .hbm, ⟨32, _⟩ => ⟨S1x96x1024, .f32⟩
  | .hbm, ⟨33, _⟩ => ⟨S_, .f32⟩
  | .hbm, ⟨34, _⟩ => ⟨S1x96x1024, .f32⟩
  | .hbm, ⟨35, _⟩ => ⟨S1x96x1024, .f32⟩
  | .hbm, ⟨36, _⟩ => ⟨S1x96x1024, .f32⟩
  | .hbm, ⟨37, _⟩ => ⟨S_, .f32⟩
  | .hbm, ⟨38, _⟩ => ⟨S1x96x1024, .f32⟩
  | .hbm, ⟨39, _⟩ => ⟨S1x96x1024, .f32⟩
  | _, _ => ⟨S1x96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== OutKernel.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutReferenceIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutGradKernel.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .f32⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== OutGradReferenceIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixedGradKernel.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixedGradReferenceIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PleBwdKernel.lean ====
abbrev S2048x1024 : Shape := ⟨2, ![2048, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleBwdReferenceIdeal.lean ====
abbrev S2048x1024 : Shape := ⟨2, ![2048, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== PleGateGradKernel.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .local _ .vmem, ⟨0, _⟩ => ⟨S2048x1024, .f32⟩
  | .local _ .vmem, ⟨1, _⟩ => ⟨S2048x1024, .bf16⟩
  | .local _ .vmem, ⟨2, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== PleGateGradReferenceIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PleXGradKernel.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PleXGradReferenceIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Trip.lean ====
/- The reference's loop: a run of the reference leaves, at each result, what thirty-two applications of the step of
   Gen/ReferenceIdeal/Step.lean to its initial state hold. -/
module

public import proofs.«01_k».proof.Proof.Gen.ReferenceIdeal.Run
public import proofs.«01_k».proof.Proof.Gen.ReferenceIdeal.Step

@[expose] public section

noncomputable section

namespace Cert.Trip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The memory `V` between two trips carries the state `s`, with `j` trips done. -/
structure Carries (V : Valuation τ sig (Elt F)) (s : State F) (j : ℕ) : Prop where
  count : V (Proc.devRef .tc main_v14_6) = constantI S_ 32 (BitVec.ofNat 32 j)
  carry : V (Proc.devRef .tc main_v14_7) = s.main_v14_7
  du : V (Proc.devRef .tc main_v14_8) = s.main_v14_8
  de : V (Proc.devRef .tc main_v14_9) = s.main_v14_9
  dO : V (Proc.devRef .tc main_v14_0) = s.main_v14_0
  q : V (Proc.devRef .tc main_v14_1) = s.main_v14_1
  k : V (Proc.devRef .tc main_v14_2) = s.main_v14_2
  w : V (Proc.devRef .tc main_v14_3) = s.main_v14_3
  gc : V (Proc.devRef .tc main_v14_4) = s.main_v14_4
  attn : V (Proc.devRef .tc main_v14_5) = s.main_v14_5

variable {V : Valuation τ sig (Elt F)} {s : State F} {j : ℕ}

/-- The chunk a trip works on. -/
theorem at_v21 (h : Carries V s j) : res_main_while0b_v21 V = Step.b3 j s := by
  unfold res_main_while0b_v21
  rw [h.count]
  rfl

set_option maxRecDepth 8192 in
/-- The slice of the output's gradient a trip reads. -/
theorem at_v22 (h : Carries V s j) : res_main_while0b_v22 V = Step.b9 j s := by
  unfold res_main_while0b_v22
  rw [at_v21 h, h.dO]
  rfl

set_option maxRecDepth 8192 in
/-- The slice of the running sums of the gates. -/
theorem at_v26 (h : Carries V s j) : res_main_while0b_v26 V = Step.b32 j s := by
  unfold res_main_while0b_v26
  rw [at_v21 h, h.gc]
  rfl

set_option maxRecDepth 8192 in
/-- The last running sum of a chunk. -/
theorem at_v33 (h : Carries V s j) : res_main_while0b_v33 V = Step.b44 j s := by
  unfold res_main_while0b_v33
  rw [at_v26 h]
  rfl

set_option maxRecDepth 8192 in
/-- The gradient of a chunk's new values. -/
theorem at_v49 (h : Carries V s j) : res_main_while0b_v49 V = Step.b60 j s := by
  unfold res_main_while0b_v49
  rw [at_v21 h, at_v22 h, at_v26 h, at_v33 h, h.k, h.attn, h.carry]
  rfl

set_option maxRecDepth 8192 in
/-- A trip steps the carried gradient of the state. -/
theorem step_carry (h : Carries V s j) : step_main_v14_7 V = (step j s).main_v14_7 := by
  unfold step_main_v14_7
  simp only [at_v21 h, at_v22 h, at_v26 h, at_v33 h, at_v49 h, h.q, h.w, h.carry]
  rfl

set_option maxRecDepth 8192 in
/-- A trip writes its chunk's gradient of the new values. -/
theorem step_du (h : Carries V s j) : step_main_v14_8 V = (step j s).main_v14_8 := by
  unfold step_main_v14_8
  simp only [at_v21 h, at_v49 h, h.du]
  rfl

set_option maxRecDepth 8192 in
/-- A trip writes the gradient of the state it found. -/
theorem step_de (h : Carries V s j) : step_main_v14_9 V = (step j s).main_v14_9 := by
  unfold step_main_v14_9
  simp only [at_v21 h, h.carry, h.de]
  rfl

/-- A trip counts itself. -/
theorem step_count (h : Carries V s j) : step_main_v14_6 V = constantI S_ 32 (BitVec.ofNat 32 (j + 1)) := by
  unfold step_main_v14_6
  rw [h.count]
  funext i
  show BitVec.ofNat 32 j + 1#32 = BitVec.ofNat 32 (j + 1)
  simp only [BitVec.ofNat_add]

/-- One trip carries the next state. -/
theorem carries_step (h : Carries V s j) : Carries (STEP V) (step j s) (j + 1) where
  count := (STEP_main_v14_6 V).trans (step_count h)
  carry := (STEP_main_v14_7 V).trans (step_carry h)
  du := (STEP_main_v14_8 V).trans (step_du h)
  de := (STEP_main_v14_9 V).trans (step_de h)
  dO := (STEP_main_v14_0 V).trans h.dO
  q := (STEP_main_v14_1 V).trans h.q
  k := (STEP_main_v14_2 V).trans h.k
  w := (STEP_main_v14_3 V).trans h.w
  gc := (STEP_main_v14_4 V).trans h.gc
  attn := (STEP_main_v14_5 V).trans h.attn

variable (m : (ℓ : Loc nD τ sig) → Buf (Elt F) ℓ) (ρ : Dev nD → PrngReg) (c : Dev nD)

/-- The state the loop enters with, of the memory a run starts from. -/
abbrev enter : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

set_option maxRecDepth 65536 in
set_option maxHeartbeats 400000 in
/-- What runs before the loop leaves the state it enters with. -/
theorem carries_enter : Carries (entryContents preI m c) (enter m c) 0 := by
  constructor <;> (simp only [entryContents, afterL_cons, afterL_nil]; after_reads_simp) <;> rfl

/-- The state after `n` trips, from `s`. -/
def trips (s : State F) : ℕ → State F
  | 0 => s
  | n + 1 => step n (trips s n)

/-- After `n` trips the memory carries the `n`-th state. -/
theorem carries_trips : ∀ n, Carries (STEP^[n] (entryContents preI m c)) (trips (enter m c) n) n
  | 0 => carries_enter m c
  | n + 1 => by
    rw [Function.iterate_succ_apply']
    exact carries_step (carries_trips n)

set_option maxRecDepth 8192 in
/-- The first result, of the state after the loop. -/
theorem out_du (h : Carries V s j) : out_main_v17 V = Step.R_main_v17 s := by
  unfold out_main_v17 Step.R_main_v17
  rw [h.du]
  rfl

set_option maxRecDepth 8192 in
/-- The second result, of the state after the loop. -/
theorem out_de (h : Carries V s j) : out_main_v19 V = Step.R_main_v19 s := by
  unfold out_main_v19 Step.R_main_v19
  rw [h.de]

/-- A run of the reference ends with each result at its field of the state after thirty-two trips, and every argument as it was. -/
theorem run : θ_run (defs (F := F)) (onTc (τ := τ) (main (F := F))) ⟨m, fun _ => 0, ρ⟩ fun r => ∀ c : Dev nD,
      r.2.mem ((c.tc : Thread nD τ).loc main_v17) = Step.R_main_v17 (trips (enter m c) 32)
      ∧ r.2.mem ((c.tc : Thread nD τ).loc main_v19) = Step.R_main_v19 (trips (enter m c) 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).1.trans (out_du (carries_trips m c 32)), (h c).2.1.trans (out_de (carries_trips m c 32)), (h c).2.2⟩) (Value.run m ρ)

end Cert.Trip

end
-- ==== Proof.Block.lean ====
module

public import proofs.«01_k».proof.Proof.Gen.KernelIdeal.Value

/-! What one grid step of the kernel leaves in its two output blocks and in the carried state: the same chunk, eight
    times over, each from the state the chunk before it left. -/

@[expose] public section
open Idealize.ShloMosaic Idealize.ShloMosaic.TcCoe Idealize.SL.Sem

namespace Cert.Block
open Cert.KernelIdeal Cert.KernelIdeal.Gen

variable {F : FTy → Type} [FloatOps F]

/-- What the body loads of its six input blocks, by head and by chunk within the block. -/
structure Loads (F : FTy → Type) [FloatOps F] where
  w : Fin 4 → Fin 8 → Vec F S1x64x128 .bf16
  qg : Fin 4 → Fin 8 → Vec F S1x64x128 .bf16
  kg : Fin 4 → Fin 8 → Vec F S1x64x128 .bf16
  attn : Fin 8 → Fin 4 → Vec F S1x1x64x64 .bf16
  g : Fin 4 → Fin 8 → Vec F S1x64x128 .f32
  dO : Fin 4 → Fin 8 → Vec F S1x64x128 .f32

/-- The 64 rows of chunk `j` of head `h`, in a block of 512 rows a head. -/
def rowsRect (h : Fin 4) (j : Fin 8) : Rect S4x512x128 :=
  Rect.unit ![h.val, 64 * j.val, 0] S1x64x128.size (fun a => by
    have := h.isLt; have := j.isLt
    match a with
    | 0 => show h.val + 1 ≤ 4; omega
    | 1 => show 64 * j.val + 64 ≤ 512; omega
    | 2 => exact Nat.le_refl 128)

/-- The matrix of chunk `j` and head `h` in a block of eight chunks. -/
def attnRect (j : Fin 8) (h : Fin 4) : Rect S8x4x64x64 :=
  Rect.unit ![j.val, h.val, 0, 0] S1x1x64x64.size (fun a => by
    have := h.isLt; have := j.isLt
    match a with
    | 0 => show j.val + 1 ≤ 8; omega
    | 1 => show h.val + 1 ≤ 4; omega
    | 2 => exact Nat.le_refl 64
    | 3 => exact Nat.le_refl 64)

/-- The state matrix of chunk `j` and head `h` in the block the kernel saves them to. -/
def saveRect (j : Fin 8) (h : Fin 4) : Rect S8x4x128x128 :=
  Rect.unit ![j.val, h.val, 0, 0] S1x1x128x128.size (fun a => by
    have := h.isLt; have := j.isLt
    match a with
    | 0 => show j.val + 1 ≤ 8; omega
    | 1 => show h.val + 1 ≤ 4; omega
    | 2 => exact Nat.le_refl 128
    | 3 => exact Nat.le_refl 128)

/-- Head `h`'s matrix in the carried state. -/
def headRect (h : Fin 4) : Rect S4x128x128 :=
  Rect.unit ![h.val, 0, 0] S1x128x128.size (fun a => by
    have := h.isLt
    match a with
    | 0 => show h.val + 1 ≤ 4; omega
    | 1 => exact Nat.le_refl 128
    | 2 => exact Nat.le_refl 128)

/-- The loads of a body whose input buffers hold `x0 … x5`. -/
noncomputable def loads (arg1 : Memref sig .tc .vmem S4x512x128 .bf16) (harg1 : arg1.IsWhole)
    (arg2 : Memref sig .tc .vmem S4x512x128 .bf16) (harg2 : arg2.IsWhole)
    (arg3 : Memref sig .tc .vmem S4x512x128 .bf16) (harg3 : arg3.IsWhole)
    (arg4 : Memref sig .tc .vmem S8x4x64x64 .bf16) (harg4 : arg4.IsWhole)
    (arg5 : Memref sig .tc .vmem S4x512x128 .f32) (harg5 : arg5.IsWhole)
    (arg6 : Memref sig .tc .vmem S4x512x128 .f32) (harg6 : arg6.IsWhole)
    (x0 x1 x2 : Vec F S4x512x128 .bf16) (x3 : Vec F S8x4x64x64 .bf16) (x4 x5 : Vec F S4x512x128 .f32) : Loads F where
  w h j := View.readAt (Elt F) arg1.view (rowsRect h j).toLoadRect (harg1.unread x0)
  qg h j := View.readAt (Elt F) arg2.view (rowsRect h j).toLoadRect (harg2.unread x1)
  kg h j := View.readAt (Elt F) arg3.view (rowsRect h j).toLoadRect (harg3.unread x2)
  attn j h := View.readAt (Elt F) arg4.view (attnRect j h).toLoadRect (harg4.unread x3)
  g h j := View.readAt (Elt F) arg5.view (rowsRect h j).toLoadRect (harg5.unread x4)
  dO h j := View.readAt (Elt F) arg6.view (rowsRect h j).toLoadRect (harg6.unread x5)

/-- The cotangent of the rewritten values in one chunk of one head, from the state's cotangent `S`. -/
noncomputable def dvn (L : Loads F) (j : Fin 8) (h : Fin 4) (S : Vec F S1x128x128 .f32) : FVec F S64x128 .f32 :=
  k0_pay13 (k0_pay4 S) (k0_pay12 (L.dO h j) (L.attn j h)) (L.kg h j)

/-- The state's cotangent before that chunk. -/
noncomputable def next (L : Loads F) (j : Fin 8) (h : Fin 4) (S : Vec F S1x128x128 .f32) : FVec F S1x128x128 .f32 :=
  k0_pay24 (k0_pay21 (k0_pay4 S) (k0_pay8 (L.dO h j)) (L.g h j) (L.qg h j)) (k0_pay22 (L.w h j)) (k0_pay23 (dvn L j h S))

/-- The chunk the body takes up in its `n`-th place: it walks its eight chunks from the last to the first. -/
def chunkAt (n : Nat) : Fin 8 := ⟨7 - n, by omega⟩

/-- What one chunk stores to the carried state, the last store first. -/
noncomputable def stores (L : Loads F) (j : Fin 8) (S : Fin 4 → Vec F S1x128x128 .f32)
    (T : List (View.Piece (Elt F) S4x128x128 .f32)) : List (View.Piece (Elt F) S4x128x128 .f32) :=
  ⟨headRect 3, next L j 3 (S 3)⟩ :: ⟨headRect 2, next L j 2 (S 2)⟩ :: ⟨headRect 1, next L j 1 (S 1)⟩ ::
    ⟨headRect 0, next L j 0 (S 0)⟩ :: T

/-- What the state reads as, and what was stored to it, after `n` chunks. -/
noncomputable def walk (L : Loads F) (arg9 : Memref sig .tc .vmem S4x128x128 .f32) (S : Fin 4 → Vec F S1x128x128 .f32)
    (T : List (View.Piece (Elt F) S4x128x128 .f32)) :
    Nat → (Fin 4 → Vec F S1x128x128 .f32) × List (View.Piece (Elt F) S4x128x128 .f32)
  | 0 => (S, T)
  | n + 1 => (fun h => arg9.view.readCov (stores L (chunkAt n) (walk L arg9 S T n).1 (walk L arg9 S T n).2) (headRect h).toLoadRect,
      stores L (chunkAt n) (walk L arg9 S T n).1 (walk L arg9 S T n).2)

/-- What the chunk in the `n`-th place stores to the first output, before what the chunks before it stored. -/
noncomputable def out6 (L : Loads F) (S : Nat → Fin 4 → Vec F S1x128x128 .f32) : Nat → List (View.Piece (Elt F) S4x512x128 .f32)
  | 0 => []
  | n + 1 => ⟨rowsRect 3 (chunkAt n), k0_pay2 (dvn L (chunkAt n) 3 (S n 3))⟩ ::
      ⟨rowsRect 2 (chunkAt n), k0_pay2 (dvn L (chunkAt n) 2 (S n 2))⟩ ::
      ⟨rowsRect 1 (chunkAt n), k0_pay2 (dvn L (chunkAt n) 1 (S n 1))⟩ ::
      ⟨rowsRect 0 (chunkAt n), k0_pay2 (dvn L (chunkAt n) 0 (S n 0))⟩ :: out6 L S n

/-- Likewise to the second output. -/
noncomputable def out7 (S : Nat → Fin 4 → Vec F S1x128x128 .f32) : Nat → List (View.Piece (Elt F) S8x4x128x128 .f32)
  | 0 => []
  | n + 1 => ⟨saveRect (chunkAt n) 3, k0_pay20 (k0_pay4 (S n 3))⟩ :: ⟨saveRect (chunkAt n) 2, k0_pay20 (k0_pay4 (S n 2))⟩ ::
      ⟨saveRect (chunkAt n) 1, k0_pay20 (k0_pay4 (S n 1))⟩ :: ⟨saveRect (chunkAt n) 0, k0_pay20 (k0_pay4 (S n 0))⟩ :: out7 S n

end Cert.Block
-- ==== Proof.StepA.lean ====
module

public import proofs.«01_k».proof.Proof.Block

/-! The first step, which zeroes the state: the stores the run found are the stores of eight chunks, one after the other. -/

@[expose] public section
open Idealize.ShloMosaic Idealize.ShloMosaic.TcCoe Idealize.SL.Sem

namespace Cert.Block
open Cert.KernelIdeal Cert.KernelIdeal.Gen
variable {F : FTy → Type} [FloatOps F]

/-- The chunks of the step that zeroes the carried state first. -/
noncomputable abbrev walkA (arg9 : Memref sig .tc .vmem S4x128x128 .f32) (L : Loads F) (n : Nat) :
    (Fin 4 → Vec F S1x128x128 .f32) × List (View.Piece (Elt F) S4x128x128 .f32) :=
  walk L arg9 (fun h => arg9.view.readCov kernelRun0_A.sl.HS0_1 (headRect h).toLoadRect) kernelRun0_A.sl.HS0_1 n

/-- What 1 chunk of a first step stored to the carried state. -/
theorem storesA_1 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    kernelRun0_A.sl.HS0_5 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 1).2 := by
  rfl

/-- What the state then reads as, head by head. -/
theorem readsA_1 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    kernelRun0_A.sl.v159 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 1).1 0 ∧
    kernelRun0_A.sl.v161 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 1).1 1 ∧
    kernelRun0_A.sl.v163 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 1).1 2 ∧
    kernelRun0_A.sl.v165 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 1).1 3 := by
  have e := storesA_1 c arg1 harg1 arg2 harg2 arg3 harg3 arg4 harg4 arg5 harg5 arg6 harg6 arg9 x0 x1 x2 x3 x4 x5
  refine ⟨?_, ?_, ?_, ?_⟩
  · exact congrArg (fun T => arg9.view.readCov T (headRect 0).toLoadRect) e
  · exact congrArg (fun T => arg9.view.readCov T (headRect 1).toLoadRect) e
  · exact congrArg (fun T => arg9.view.readCov T (headRect 2).toLoadRect) e
  · exact congrArg (fun T => arg9.view.readCov T (headRect 3).toLoadRect) e

/-- What 2 chunks of a first step stored to the carried state. -/
theorem storesA_2 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    kernelRun0_A.sl.HS0_9 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 2).2 := by
  obtain ⟨s0, s1, s2, s3⟩ := readsA_1 c arg1 harg1 arg2 harg2 arg3 harg3 arg4 harg4 arg5 harg5 arg6 harg6 arg9 x0 x1 x2 x3 x4 x5
  have e := storesA_1 c arg1 harg1 arg2 harg2 arg3 harg3 arg4 harg4 arg5 harg5 arg6 harg6 arg9 x0 x1 x2 x3 x4 x5
  simp only [kernelRun0_A.sl.HS0_9, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, s0, s1, s2, s3, e]
  show _ = (stores (loads arg1 harg1 arg2 harg2 arg3 harg3 arg4 harg4 arg5 harg5 arg6 harg6 x0 x1 x2 x3 x4 x5) (chunkAt 1) (walkA arg9 (loads arg1 harg1 arg2 harg2 arg3 harg3 arg4 harg4 arg5 harg5 arg6 harg6 x0 x1 x2 x3 x4 x5) 1).1 (walkA arg9 (loads arg1 harg1 arg2 harg2 arg3 harg3 arg4 harg4 arg5 harg5 arg6 harg6 x0 x1 x2 x3 x4 x5) 1).2)
  generalize walkA arg9 (loads arg1 harg1 arg2 harg2 arg3 harg3 arg4 harg4 arg5 harg5 arg6 harg6 x0 x1 x2 x3 x4 x5) 1 = W
  rfl

/-- What the state then reads as, head by head. -/
theorem readsA_2 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    kernelRun0_A.sl.v315 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 2).1 0 ∧
    kernelRun0_A.sl.v317 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 2).1 1 ∧
    kernelRun0_A.sl.v319 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 2).1 2 ∧
    kernelRun0_A.sl.v321 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 2).1 3 := by
  have e := storesA_2 c arg1 harg1 arg2 harg2 arg3 harg3 arg4 harg4 arg5 harg5 arg6 harg6 arg9 x0 x1 x2 x3 x4 x5
  refine ⟨?_, ?_, ?_, ?_⟩
  · exact congrArg (fun T => arg9.view.readCov T (headRect 0).toLoadRect) e
  · exact congrArg (fun T => arg9.view.readCov T (headRect 1).toLoadRect) e
  · exact congrArg (fun T => arg9.view.readCov T (headRect 2).toLoadRect) e
  · exact congrArg (fun T => arg9.view.readCov T (headRect 3).toLoadRect) e

/-- What 3 chunks of a first step stored to the carried state. -/
theorem storesA_3 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    kernelRun0_A.sl.HS0_13 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 3).2 := by
  obtain ⟨s0, s1, s2, s3⟩ := readsA_2 c arg1 harg1 arg2 harg2 arg3 harg3 arg4 harg4 arg5 harg5 arg6 harg6 arg9 x0 x1 x2 x3 x4 x5
  have e := storesA_2 c arg1 harg1 arg2 harg2 arg3 harg3 arg4 harg4 arg5 harg5 arg6 harg6 arg9 x0 x1 x2 x3 x4 x5
  simp only [kernelRun0_A.sl.HS0_13, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, s0, s1, s2, s3, e]
  show _ = (stores (loads arg1 harg1 arg2 harg2 arg3 harg3 arg4 harg4 arg5 harg5 arg6 harg6 x0 x1 x2 x3 x4 x5) (chunkAt 2) (walkA arg9 (loads arg1 harg1 arg2 harg2 arg3 harg3 arg4 harg4 arg5 harg5 arg6 harg6 x0 x1 x2 x3 x4 x5) 2).1 (walkA arg9 (loads arg1 harg1 arg2 harg2 arg3 harg3 arg4 harg4 arg5 harg5 arg6 harg6 x0 x1 x2 x3 x4 x5) 2).2)
  generalize walkA arg9 (loads arg1 harg1 arg2 harg2 arg3 harg3 arg4 harg4 arg5 harg5 arg6 harg6 x0 x1 x2 x3 x4 x5) 2 = W
  rfl

/-- What the state then reads as, head by head. -/
theorem readsA_3 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    kernelRun0_A.sl.v471 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 3).1 0 ∧
    kernelRun0_A.sl.v473 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 3).1 1 ∧
    kernelRun0_A.sl.v475 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 3).1 2 ∧
    kernelRun0_A.sl.v477 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 3).1 3 := by
  have e := storesA_3 c arg1 harg1 arg2 harg2 arg3 harg3 arg4 harg4 arg5 harg5 arg6 harg6 arg9 x0 x1 x2 x3 x4 x5
  refine ⟨?_, ?_, ?_, ?_⟩
  · exact congrArg (fun T => arg9.view.readCov T (headRect 0).toLoadRect) e
  · exact congrArg (fun T => arg9.view.readCov T (headRect 1).toLoadRect) e
  · exact congrArg (fun T => arg9.view.readCov T (headRect 2).toLoadRect) e
  · exact congrArg (fun T => arg9.view.readCov T (headRect 3).toLoadRect) e

/-- What 4 chunks of a first step stored to the carried state. -/
theorem storesA_4 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    kernelRun0_A.sl.HS0_17 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 4).2 := by
  obtain ⟨s0, s1, s2, s3⟩ := readsA_3 c arg1 harg1 arg2 harg2 arg3 harg3 arg4 harg4 arg5 harg5 arg6 harg6 arg9 x0 x1 x2 x3 x4 x5
  have e := storesA_3 c arg1 harg1 arg2 harg2 arg3 harg3 arg4 harg4 arg5 harg5 arg6 harg6 arg9 x0 x1 x2 x3 x4 x5
  simp only [kernelRun0_A.sl.HS0_17, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, s0, s1, s2, s3, e]
  show _ = (stores (loads arg1 harg1 arg2 harg2 arg3 harg3 arg4 harg4 arg5 harg5 arg6 harg6 x0 x1 x2 x3 x4 x5) (chunkAt 3) (walkA arg9 (loads arg1 harg1 arg2 harg2 arg3 harg3 arg4 harg4 arg5 harg5 arg6 harg6 x0 x1 x2 x3 x4 x5) 3).1 (walkA arg9 (loads arg1 harg1 arg2 harg2 arg3 harg3 arg4 harg4 arg5 harg5 arg6 harg6 x0 x1 x2 x3 x4 x5) 3).2)
  generalize walkA arg9 (loads arg1 harg1 arg2 harg2 arg3 harg3 arg4 harg4 arg5 harg5 arg6 harg6 x0 x1 x2 x3 x4 x5) 3 = W
  rfl

/-- What the state then reads as, head by head. -/
theorem readsA_4 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    kernelRun0_A.sl.v627 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 4).1 0 ∧
    kernelRun0_A.sl.v629 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 4).1 1 ∧
    kernelRun0_A.sl.v631 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 4).1 2 ∧
    kernelRun0_A.sl.v633 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 4).1 3 := by
  have e := storesA_4 c arg1 harg1 arg2 harg2 arg3 harg3 arg4 harg4 arg5 harg5 arg6 harg6 arg9 x0 x1 x2 x3 x4 x5
  refine ⟨?_, ?_, ?_, ?_⟩
  · exact congrArg (fun T => arg9.view.readCov T (headRect 0).toLoadRect) e
  · exact congrArg (fun T => arg9.view.readCov T (headRect 1).toLoadRect) e
  · exact congrArg (fun T => arg9.view.readCov T (headRect 2).toLoadRect) e
  · exact congrArg (fun T => arg9.view.readCov T (headRect 3).toLoadRect) e

/-- What 5 chunks of a first step stored to the carried state. -/
theorem storesA_5 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    kernelRun0_A.sl.HS0_21 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 5).2 := by
  obtain ⟨s0, s1, s2, s3⟩ := readsA_4 c arg1 harg1 arg2 harg2 arg3 harg3 arg4 harg4 arg5 harg5 arg6 harg6 arg9 x0 x1 x2 x3 x4 x5
  have e := storesA_4 c arg1 harg1 arg2 harg2 arg3 harg3 arg4 harg4 arg5 harg5 arg6 harg6 arg9 x0 x1 x2 x3 x4 x5
  simp only [kernelRun0_A.sl.HS0_21, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, s0, s1, s2, s3, e]
  show _ = (stores (loads arg1 harg1 arg2 harg2 arg3 harg3 arg4 harg4 arg5 harg5 arg6 harg6 x0 x1 x2 x3 x4 x5) (chunkAt 4) (walkA arg9 (loads arg1 harg1 arg2 harg2 arg3 harg3 arg4 harg4 arg5 harg5 arg6 harg6 x0 x1 x2 x3 x4 x5) 4).1 (walkA arg9 (loads arg1 harg1 arg2 harg2 arg3 harg3 arg4 harg4 arg5 harg5 arg6 harg6 x0 x1 x2 x3 x4 x5) 4).2)
  generalize walkA arg9 (loads arg1 harg1 arg2 harg2 arg3 harg3 arg4 harg4 arg5 harg5 arg6 harg6 x0 x1 x2 x3 x4 x5) 4 = W
  rfl

/-- What the state then reads as, head by head. -/
theorem readsA_5 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    kernelRun0_A.sl.v783 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 5).1 0 ∧
    kernelRun0_A.sl.v785 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 5).1 1 ∧
    kernelRun0_A.sl.v787 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 5).1 2 ∧
    kernelRun0_A.sl.v789 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 5).1 3 := by
  have e := storesA_5 c arg1 harg1 arg2 harg2 arg3 harg3 arg4 harg4 arg5 harg5 arg6 harg6 arg9 x0 x1 x2 x3 x4 x5
  refine ⟨?_, ?_, ?_, ?_⟩
  · exact congrArg (fun T => arg9.view.readCov T (headRect 0).toLoadRect) e
  · exact congrArg (fun T => arg9.view.readCov T (headRect 1).toLoadRect) e
  · exact congrArg (fun T => arg9.view.readCov T (headRect 2).toLoadRect) e
  · exact congrArg (fun T => arg9.view.readCov T (headRect 3).toLoadRect) e

/-- What 6 chunks of a first step stored to the carried state. -/
theorem storesA_6 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    kernelRun0_A.sl.HS0_25 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 6).2 := by
  obtain ⟨s0, s1, s2, s3⟩ := readsA_5 c arg1 harg1 arg2 harg2 arg3 harg3 arg4 harg4 arg5 harg5 arg6 harg6 arg9 x0 x1 x2 x3 x4 x5
  have e := storesA_5 c arg1 harg1 arg2 harg2 arg3 harg3 arg4 harg4 arg5 harg5 arg6 harg6 arg9 x0 x1 x2 x3 x4 x5
  simp only [kernelRun0_A.sl.HS0_25, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, s0, s1, s2, s3, e]
  show _ = (stores (loads arg1 harg1 arg2 harg2 arg3 harg3 arg4 harg4 arg5 harg5 arg6 harg6 x0 x1 x2 x3 x4 x5) (chunkAt 5) (walkA arg9 (loads arg1 harg1 arg2 harg2 arg3 harg3 arg4 harg4 arg5 harg5 arg6 harg6 x0 x1 x2 x3 x4 x5) 5).1 (walkA arg9 (loads arg1 harg1 arg2 harg2 arg3 harg3 arg4 harg4 arg5 harg5 arg6 harg6 x0 x1 x2 x3 x4 x5) 5).2)
  generalize walkA arg9 (loads arg1 harg1 arg2 harg2 arg3 harg3 arg4 harg4 arg5 harg5 arg6 harg6 x0 x1 x2 x3 x4 x5) 5 = W
  rfl

/-- What the state then reads as, head by head. -/
theorem readsA_6 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    kernelRun0_A.sl.v939 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 6).1 0 ∧
    kernelRun0_A.sl.v941 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 6).1 1 ∧
    kernelRun0_A.sl.v943 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 6).1 2 ∧
    kernelRun0_A.sl.v945 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 6).1 3 := by
  have e := storesA_6 c arg1 harg1 arg2 harg2 arg3 harg3 arg4 harg4 arg5 harg5 arg6 harg6 arg9 x0 x1 x2 x3 x4 x5
  refine ⟨?_, ?_, ?_, ?_⟩
  · exact congrArg (fun T => arg9.view.readCov T (headRect 0).toLoadRect) e
  · exact congrArg (fun T => arg9.view.readCov T (headRect 1).toLoadRect) e
  · exact congrArg (fun T => arg9.view.readCov T (headRect 2).toLoadRect) e
  · exact congrArg (fun T => arg9.view.readCov T (headRect 3).toLoadRect) e

/-- What 7 chunks of a first step stored to the carried state. -/
theorem storesA_7 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    kernelRun0_A.sl.HS0_29 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 7).2 := by
  obtain ⟨s0, s1, s2, s3⟩ := readsA_6 c arg1 harg1 arg2 harg2 arg3 harg3 arg4 harg4 arg5 harg5 arg6 harg6 arg9 x0 x1 x2 x3 x4 x5
  have e := storesA_6 c arg1 harg1 arg2 harg2 arg3 harg3 arg4 harg4 arg5 harg5 arg6 harg6 arg9 x0 x1 x2 x3 x4 x5
  simp only [kernelRun0_A.sl.HS0_29, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, s0, s1, s2, s3, e]
  show _ = (stores (loads arg1 harg1 arg2 harg2 arg3 harg3 arg4 harg4 arg5 harg5 arg6 harg6 x0 x1 x2 x3 x4 x5) (chunkAt 6) (walkA arg9 (loads arg1 harg1 arg2 harg2 arg3 harg3 arg4 harg4 arg5 harg5 arg6 harg6 x0 x1 x2 x3 x4 x5) 6).1 (walkA arg9 (loads arg1 harg1 arg2 harg2 arg3 harg3 arg4 harg4 arg5 harg5 arg6 harg6 x0 x1 x2 x3 x4 x5) 6).2)
  generalize walkA arg9 (loads arg1 harg1 arg2 harg2 arg3 harg3 arg4 harg4 arg5 harg5 arg6 harg6 x0 x1 x2 x3 x4 x5) 6 = W
  rfl

/-- What the state then reads as, head by head. -/
theorem readsA_7 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    kernelRun0_A.sl.v1095 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 7).1 0 ∧
    kernelRun0_A.sl.v1097 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 7).1 1 ∧
    kernelRun0_A.sl.v1099 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 7).1 2 ∧
    kernelRun0_A.sl.v1101 c arg1 harg1 arg2 harg2 arg3 harg3 arg4 harg4 arg5 harg5 arg6 harg6 arg9 x0 x1 x2 x3 x4 x5 = (walkA arg9 (loads arg1 harg1 arg2 harg2 arg3 harg3 arg4 harg4 arg5 harg5 arg6 harg6 x0 x1 x2 x3 x4 x5) 7).1 3 := by
  have e := storesA_7 c arg1 harg1 arg2 harg2 arg3 harg3 arg4 harg4 arg5 harg5 arg6 harg6 arg9 x0 x1 x2 x3 x4 x5
  refine ⟨?_, ?_, ?_, ?_⟩
  · exact congrArg (fun T => arg9.view.readCov T (headRect 0).toLoadRect) e
  · exact congrArg (fun T => arg9.view.readCov T (headRect 1).toLoadRect) e
  · exact congrArg (fun T => arg9.view.readCov T (headRect 2).toLoadRect) e
  · exact congrArg (fun T => arg9.view.readCov T (headRect 3).toLoadRect) e

set_option maxHeartbeats 4000000 in
/-- What a first step stores to its first output. -/
theorem runA_6 (c : Dev nD) (i : grid0.Coords) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg7 : Memref sig .tc .vmem S4x512x128 .f32) (harg7 : arg7.IsWhole) (arg8 : Memref sig .tc .vmem S8x4x128x128 .f32) (harg8 : arg8.IsWhole) (arg9 : Memref sig .tc .vmem S4x128x128 .f32) (harg9 : arg9.IsWhole) (hc0 : cond0_0 i)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    (kernelRun0_A (F := F) c i arg1 harg1 arg2 harg2 arg3 harg3 arg4 harg4 arg5 harg5 arg6 harg6 arg7 harg7 arg8 harg8 arg9 harg9 hc0 x0 x1 x2 x3 x4 x5).1 = out6 (loads arg1 harg1 arg2 harg2 arg3 harg3 arg4 harg4 arg5 harg5 arg6 harg6 x0 x1 x2 x3 x4 x5) (fun n => (walkA arg9 (loads arg1 harg1 arg2 harg2 arg3 harg3 arg4 harg4 arg5 harg5 arg6 harg6 x0 x1 x2 x3 x4 x5) n).1) 8 := by
  obtain ⟨s10, s11, s12, s13⟩ := readsA_1 c arg1 harg1 arg2 harg2 arg3 harg3 arg4 harg4 arg5 harg5 arg6 harg6 arg9 x0 x1 x2 x3 x4 x5
  obtain ⟨s20, s21, s22, s23⟩ := readsA_2 c arg1 harg1 arg2 harg2 arg3 harg3 arg4 harg4 arg5 harg5 arg6 harg6 arg9 x0 x1 x2 x3 x4 x5
  obtain ⟨s30, s31, s32, s33⟩ := readsA_3 c arg1 harg1 arg2 harg2 arg3 harg3 arg4 harg4 arg5 harg5 arg6 harg6 arg9 x0 x1 x2 x3 x4 x5
  obtain ⟨s40, s41, s42, s43⟩ := readsA_4 c arg1 harg1 arg2 harg2 arg3 harg3 arg4 harg4 arg5 harg5 arg6 harg6 arg9 x0 x1 x2 x3 x4 x5
  obtain ⟨s50, s51, s52, s53⟩ := readsA_5 c arg1 harg1 arg2 harg2 arg3 harg3 arg4 harg4 arg5 harg5 arg6 harg6 arg9 x0 x1 x2 x3 x4 x5
  obtain ⟨s60, s61, s62, s63⟩ := readsA_6 c arg1 harg1 arg2 harg2 arg3 harg3 arg4 harg4 arg5 harg5 arg6 harg6 arg9 x0 x1 x2 x3 x4 x5
  obtain ⟨s70, s71, s72, s73⟩ := readsA_7 c arg1 harg1 arg2 harg2 arg3 harg3 arg4 harg4 arg5 harg5 arg6 harg6 arg9 x0 x1 x2 x3 x4 x5
  have s00 : kernelRun0_A.sl.v3 c arg9 = (walkA arg9 (loads arg1 harg1 arg2 harg2 arg3 harg3 arg4 harg4 arg5 harg5 arg6 harg6 x0 x1 x2 x3 x4 x5) 0).1 0 := rfl
  have s01 : kernelRun0_A.sl.v5 c arg9 = (walkA arg9 (loads arg1 harg1 arg2 harg2 arg3 harg3 arg4 harg4 arg5 harg5 arg6 harg6 x0 x1 x2 x3 x4 x5) 0).1 1 := rfl
  have s02 : kernelRun0_A.sl.v7 c arg9 = (walkA arg9 (loads arg1 harg1 arg2 harg2 arg3 harg3 arg4 harg4 arg5 harg5 arg6 harg6 x0 x1 x2 x3 x4 x5) 0).1 2 := rfl
  have s03 : kernelRun0_A.sl.v9 c arg9 = (walkA arg9 (loads arg1 harg1 arg2 harg2 arg3 harg3 arg4 harg4 arg5 harg5 arg6 harg6 x0 x1 x2 x3 x4 x5) 0).1 3 := rfl
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, s10, s11, s12, s13, s20, s21, s22, s23, s30, s31, s32, s33, s40, s41, s42, s43, s50, s51, s52, s53, s60, s61, s62, s63, s70, s71, s72, s73, s00, s01, s02, s03]
  simp only [out6]
  generalize (walkA arg9 (loads arg1 harg1 arg2 harg2 arg3 harg3 arg4 harg4 arg5 harg5 arg6 harg6 x0 x1 x2 x3 x4 x5) 0).1 = W0
  generalize (walkA arg9 (loads arg1 harg1 arg2 harg2 arg3 harg3 arg4 harg4 arg5 harg5 arg6 harg6 x0 x1 x2 x3 x4 x5) 1).1 = W1
  generalize (walkA arg9 (loads arg1 harg1 arg2 harg2 arg3 harg3 arg4 harg4 arg5 harg5 arg6 harg6 x0 x1 x2 x3 x4 x5) 2).1 = W2
  generalize (walkA arg9 (loads arg1 harg1 arg2 harg2 arg3 harg3 arg4 harg4 arg5 harg5 arg6 harg6 x0 x1 x2 x3 x4 x5) 3).1 = W3
  generalize (walkA arg9 (loads arg1 harg1 arg2 harg2 arg3 harg3 arg4 harg4 arg5 harg5 arg6 harg6 x0 x1 x2 x3 x4 x5) 4).1 = W4
  generalize (walkA arg9 (loads arg1 harg1 arg2 harg2 arg3 harg3 arg4 harg4 arg5 harg5 arg6 harg6 x0 x1 x2 x3 x4 x5) 5).1 = W5
  generalize (walkA arg9 (loads arg1 harg1 arg2 harg2 arg3 harg3 arg4 harg4 arg5 harg5 arg6 harg6 x0 x1 x2 x3 x4 x5) 6).1 = W6
  generalize (walkA arg9 (loads arg1 harg1 arg2 harg2 arg3 harg3 arg4 harg4 arg5 harg5 arg6 harg6 x0 x1 x2 x3 x4 x5) 7).1 = W7
  rfl

set_option maxHeartbeats 4000000 in
/-- What a first step stores to its second output. -/
theorem runA_7 (c : Dev nD) (i : grid0.Coords) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg7 : Memref sig .tc .vmem S4x512x128 .f32) (harg7 : arg7.IsWhole) (arg8 : Memref sig .tc .vmem S8x4x128x128 .f32) (harg8 : arg8.IsWhole) (arg9 : Memref sig .tc .vmem S4x128x128 .f32) (harg9 : arg9.IsWhole) (hc0 : cond0_0 i)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    (kernelRun0_A (F := F) c i arg1 harg1 arg2 harg2 arg3 harg3 arg4 harg4 arg5 harg5 arg6 harg6 arg7 harg7 arg8 harg8 arg9 harg9 hc0 x0 x1 x2 x3 x4 x5).2.1 = out7 (fun n => (walkA arg9 (loads arg1 harg1 arg2 harg2 arg3 harg3 arg4 harg4 arg5 harg5 arg6 harg6 x0 x1 x2 x3 x4 x5) n).1) 8 := by
  obtain ⟨s10, s11, s12, s13⟩ := readsA_1 c arg1 harg1 arg2 harg2 arg3 harg3 arg4 harg4 arg5 harg5 arg6 harg6 arg9 x0 x1 x2 x3 x4 x5
  obtain ⟨s20, s21, s22, s23⟩ := readsA_2 c arg1 harg1 arg2 harg2 arg3 harg3 arg4 harg4 arg5 harg5 arg6 harg6 arg9 x0 x1 x2 x3 x4 x5
  obtain ⟨s30, s31, s32, s33⟩ := readsA_3 c arg1 harg1 arg2 harg2 arg3 harg3 arg4 harg4 arg5 harg5 arg6 harg6 arg9 x0 x1 x2 x3 x4 x5
  obtain ⟨s40, s41, s42, s43⟩ := readsA_4 c arg1 harg1 arg2 harg2 arg3 harg3 arg4 harg4 arg5 harg5 arg6 harg6 arg9 x0 x1 x2 x3 x4 x5
  obtain ⟨s50, s51, s52, s53⟩ := readsA_5 c arg1 harg1 arg2 harg2 arg3 harg3 arg4 harg4 arg5 harg5 arg6 harg6 arg9 x0 x1 x2 x3 x4 x5
  obtain ⟨s60, s61, s62, s63⟩ := readsA_6 c arg1 harg1 arg2 harg2 arg3 harg3 arg4 harg4 arg5 harg5 arg6 harg6 arg9 x0 x1 x2 x3 x4 x5
  obtain ⟨s70, s71, s72, s73⟩ := readsA_7 c arg1 harg1 arg2 harg2 arg3 harg3 arg4 harg4 arg5 harg5 arg6 harg6 arg9 x0 x1 x2 x3 x4 x5
  have s00 : kernelRun0_A.sl.v3 c arg9 = (walkA arg9 (loads arg1 harg1 arg2 harg2 arg3 harg3 arg4 harg4 arg5 harg5 arg6 harg6 x0 x1 x2 x3 x4 x5) 0).1 0 := rfl
  have s01 : kernelRun0_A.sl.v5 c arg9 = (walkA arg9 (loads arg1 harg1 arg2 harg2 arg3 harg3 arg4 harg4 arg5 harg5 arg6 harg6 x0 x1 x2 x3 x4 x5) 0).1 1 := rfl
  have s02 : kernelRun0_A.sl.v7 c arg9 = (walkA arg9 (loads arg1 harg1 arg2 harg2 arg3 harg3 arg4 harg4 arg5 harg5 arg6 harg6 x0 x1 x2 x3 x4 x5) 0).1 2 := rfl
  have s03 : kernelRun0_A.sl.v9 c arg9 = (walkA arg9 (loads arg1 harg1 arg2 harg2 arg3 harg3 arg4 harg4 arg5 harg5 arg6 harg6 x0 x1 x2 x3 x4 x5) 0).1 3 := rfl
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, s10, s11, s12, s13, s20, s21, s22, s23, s30, s31, s32, s33, s40, s41, s42, s43, s50, s51, s52, s53, s60, s61, s62, s63, s70, s71, s72, s73, s00, s01, s02, s03]
  simp only [out7]
  generalize (walkA arg9 (loads arg1 harg1 arg2 harg2 arg3 harg3 arg4 harg4 arg5 harg5 arg6 harg6 x0 x1 x2 x3 x4 x5) 0).1 = W0
  generalize (walkA arg9 (loads arg1 harg1 arg2 harg2 arg3 harg3 arg4 harg4 arg5 harg5 arg6 harg6 x0 x1 x2 x3 x4 x5) 1).1 = W1
  generalize (walkA arg9 (loads arg1 harg1 arg2 harg2 arg3 harg3 arg4 harg4 arg5 harg5 arg6 harg6 x0 x1 x2 x3 x4 x5) 2).1 = W2
  generalize (walkA arg9 (loads arg1 harg1 arg2 harg2 arg3 harg3 arg4 harg4 arg5 harg5 arg6 harg6 x0 x1 x2 x3 x4 x5) 3).1 = W3
  generalize (walkA arg9 (loads arg1 harg1 arg2 harg2 arg3 harg3 arg4 harg4 arg5 harg5 arg6 harg6 x0 x1 x2 x3 x4 x5) 4).1 = W4
  generalize (walkA arg9 (loads arg1 harg1 arg2 harg2 arg3 harg3 arg4 harg4 arg5 harg5 arg6 harg6 x0 x1 x2 x3 x4 x5) 5).1 = W5
  generalize (walkA arg9 (loads arg1 harg1 arg2 harg2 arg3 harg3 arg4 harg4 arg5 harg5 arg6 harg6 x0 x1 x2 x3 x4 x5) 6).1 = W6
  generalize (walkA arg9 (loads arg1 harg1 arg2 harg2 arg3 harg3 arg4 harg4 arg5 harg5 arg6 harg6 x0 x1 x2 x3 x4 x5) 7).1 = W7
  rfl

set_option maxHeartbeats 4000000 in
/-- What a first step stores to the carried state. -/
theorem runA_s (c : Dev nD) (i : grid0.Coords) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg7 : Memref sig .tc .vmem S4x512x128 .f32) (harg7 : arg7.IsWhole) (arg8 : Memref sig .tc .vmem S8x4x128x128 .f32) (harg8 : arg8.IsWhole) (arg9 : Memref sig .tc .vmem S4x128x128 .f32) (harg9 : arg9.IsWhole) (hc0 : cond0_0 i)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    (kernelRun0_A (F := F) c i arg1 harg1 arg2 harg2 arg3 harg3 arg4 harg4 arg5 harg5 arg6 harg6 arg7 harg7 arg8 harg8 arg9 harg9 hc0 x0 x1 x2 x3 x4 x5).2.2.1 = (walkA arg9 (loads arg1 harg1 arg2 harg2 arg3 harg3 arg4 harg4 arg5 harg5 arg6 harg6 x0 x1 x2 x3 x4 x5) 8).2 := by
  obtain ⟨s10, s11, s12, s13⟩ := readsA_1 c arg1 harg1 arg2 harg2 arg3 harg3 arg4 harg4 arg5 harg5 arg6 harg6 arg9 x0 x1 x2 x3 x4 x5
  obtain ⟨s20, s21, s22, s23⟩ := readsA_2 c arg1 harg1 arg2 harg2 arg3 harg3 arg4 harg4 arg5 harg5 arg6 harg6 arg9 x0 x1 x2 x3 x4 x5
  obtain ⟨s30, s31, s32, s33⟩ := readsA_3 c arg1 harg1 arg2 harg2 arg3 harg3 arg4 harg4 arg5 harg5 arg6 harg6 arg9 x0 x1 x2 x3 x4 x5
  obtain ⟨s40, s41, s42, s43⟩ := readsA_4 c arg1 harg1 arg2 harg2 arg3 harg3 arg4 harg4 arg5 harg5 arg6 harg6 arg9 x0 x1 x2 x3 x4 x5
  obtain ⟨s50, s51, s52, s53⟩ := readsA_5 c arg1 harg1 arg2 harg2 arg3 harg3 arg4 harg4 arg5 harg5 arg6 harg6 arg9 x0 x1 x2 x3 x4 x5
  obtain ⟨s60, s61, s62, s63⟩ := readsA_6 c arg1 harg1 arg2 harg2 arg3 harg3 arg4 harg4 arg5 harg5 arg6 harg6 arg9 x0 x1 x2 x3 x4 x5
  obtain ⟨s70, s71, s72, s73⟩ := readsA_7 c arg1 harg1 arg2 harg2 arg3 harg3 arg4 harg4 arg5 harg5 arg6 harg6 arg9 x0 x1 x2 x3 x4 x5
  have s00 : kernelRun0_A.sl.v3 c arg9 = (walkA arg9 (loads arg1 harg1 arg2 harg2 arg3 harg3 arg4 harg4 arg5 harg5 arg6 harg6 x0 x1 x2 x3 x4 x5) 0).1 0 := rfl
  have s01 : kernelRun0_A.sl.v5 c arg9 = (walkA arg9 (loads arg1 harg1 arg2 harg2 arg3 harg3 arg4 harg4 arg5 harg5 arg6 harg6 x0 x1 x2 x3 x4 x5) 0).1 1 := rfl
  have s02 : kernelRun0_A.sl.v7 c arg9 = (walkA arg9 (loads arg1 harg1 arg2 harg2 arg3 harg3 arg4 harg4 arg5 harg5 arg6 harg6 x0 x1 x2 x3 x4 x5) 0).1 2 := rfl
  have s03 : kernelRun0_A.sl.v9 c arg9 = (walkA arg9 (loads arg1 harg1 arg2 harg2 arg3 harg3 arg4 harg4 arg5 harg5 arg6 harg6 x0 x1 x2 x3 x4 x5) 0).1 3 := rfl
  have e := storesA_7 c arg1 harg1 arg2 harg2 arg3 harg3 arg4 harg4 arg5 harg5 arg6 harg6 arg9 x0 x1 x2 x3 x4 x5
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, s10, s11, s12, s13, s20, s21, s22, s23, s30, s31, s32, s33, s40, s41, s42, s43, s50, s51, s52, s53, s60, s61, s62, s63, s70, s71, s72, s73, s00, s01, s02, s03, e]
  show _ = (stores (loads arg1 harg1 arg2 harg2 arg3 harg3 arg4 harg4 arg5 harg5 arg6 harg6 x0 x1 x2 x3 x4 x5) (chunkAt 7) (walkA arg9 (loads arg1 harg1 arg2 harg2 arg3 harg3 arg4 harg4 arg5 harg5 arg6 harg6 x0 x1 x2 x3 x4 x5) 7).1 (walkA arg9 (loads arg1 harg1 arg2 harg2 arg3 harg3 arg4 harg4 arg5 harg5 arg6 harg6 x0 x1 x2 x3 x4 x5) 7).2)
  generalize walkA arg9 (loads arg1 harg1 arg2 harg2 arg3 harg3 arg4 harg4 arg5 harg5 arg6 harg6 x0 x1 x2 x3 x4 x5) 7 = W
  rfl

end Cert.Block
-- ==== Proof.StepB.lean ====
module

public import proofs.«01_k».proof.Proof.Block

/-! A step that finds a state in the scratch: the stores the run found are the stores of eight chunks, one after the other. -/

@[expose] public section
open Idealize.ShloMosaic Idealize.ShloMosaic.TcCoe Idealize.SL.Sem

namespace Cert.Block
open Cert.KernelIdeal Cert.KernelIdeal.Gen
variable {F : FTy → Type} [FloatOps F]

/-- The chunks of a step that finds `xs0` in the carried state. -/
noncomputable abbrev walkB (arg9 : Memref sig .tc .vmem S4x128x128 .f32) (harg9 : arg9.IsWhole) (L : Loads F)
    (xs0 : Vec F S4x128x128 .f32) (n : Nat) : (Fin 4 → Vec F S1x128x128 .f32) × List (View.Piece (Elt F) S4x128x128 .f32) :=
  walk L arg9 (fun h => View.readAt (Elt F) arg9.view (headRect h).toLoadRect (harg9.unread xs0)) [] n

/-- What 1 chunk of a step stored to the carried state. -/
theorem storesB_1 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32) (harg9 : arg9.IsWhole)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    kernelRun0_B.sl.HS0_4 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 1).2 := by
  rfl

/-- What the state then reads as, head by head. -/
theorem readsB_1 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32) (harg9 : arg9.IsWhole)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    kernelRun0_B.sl.v159 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 1).1 0 ∧
    kernelRun0_B.sl.v161 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 1).1 1 ∧
    kernelRun0_B.sl.v163 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 1).1 2 ∧
    kernelRun0_B.sl.v165 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 1).1 3 := by
  have e := storesB_1 c arg1 harg1 arg2 harg2 arg3 harg3 arg4 harg4 arg5 harg5 arg6 harg6 arg9 harg9 x0 x1 x2 x3 x4 x5 xs0
  refine ⟨?_, ?_, ?_, ?_⟩
  · exact congrArg (fun T => arg9.view.readCov T (headRect 0).toLoadRect) e
  · exact congrArg (fun T => arg9.view.readCov T (headRect 1).toLoadRect) e
  · exact congrArg (fun T => arg9.view.readCov T (headRect 2).toLoadRect) e
  · exact congrArg (fun T => arg9.view.readCov T (headRect 3).toLoadRect) e

/-- What 2 chunks of a step stored to the carried state. -/
theorem storesB_2 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32) (harg9 : arg9.IsWhole)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    kernelRun0_B.sl.HS0_8 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 2).2 := by
  obtain ⟨s0, s1, s2, s3⟩ := readsB_1 c arg1 harg1 arg2 harg2 arg3 harg3 arg4 harg4 arg5 harg5 arg6 harg6 arg9 harg9 x0 x1 x2 x3 x4 x5 xs0
  have e := storesB_1 c arg1 harg1 arg2 harg2 arg3 harg3 arg4 harg4 arg5 harg5 arg6 harg6 arg9 harg9 x0 x1 x2 x3 x4 x5 xs0
  simp only [kernelRun0_B.sl.HS0_8, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, s0, s1, s2, s3, e]
  show _ = (stores (loads arg1 harg1 arg2 harg2 arg3 harg3 arg4 harg4 arg5 harg5 arg6 harg6 x0 x1 x2 x3 x4 x5) (chunkAt 1) (walkB arg9 harg9 (loads arg1 harg1 arg2 harg2 arg3 harg3 arg4 harg4 arg5 harg5 arg6 harg6 x0 x1 x2 x3 x4 x5) xs0 1).1 (walkB arg9 harg9 (loads arg1 harg1 arg2 harg2 arg3 harg3 arg4 harg4 arg5 harg5 arg6 harg6 x0 x1 x2 x3 x4 x5) xs0 1).2)
  generalize walkB arg9 harg9 (loads arg1 harg1 arg2 harg2 arg3 harg3 arg4 harg4 arg5 harg5 arg6 harg6 x0 x1 x2 x3 x4 x5) xs0 1 = W
  rfl

/-- What the state then reads as, head by head. -/
theorem readsB_2 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32) (harg9 : arg9.IsWhole)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    kernelRun0_B.sl.v315 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 2).1 0 ∧
    kernelRun0_B.sl.v317 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 2).1 1 ∧
    kernelRun0_B.sl.v319 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 2).1 2 ∧
    kernelRun0_B.sl.v321 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 2).1 3 := by
  have e := storesB_2 c arg1 harg1 arg2 harg2 arg3 harg3 arg4 harg4 arg5 harg5 arg6 harg6 arg9 harg9 x0 x1 x2 x3 x4 x5 xs0
  refine ⟨?_, ?_, ?_, ?_⟩
  · exact congrArg (fun T => arg9.view.readCov T (headRect 0).toLoadRect) e
  · exact congrArg (fun T => arg9.view.readCov T (headRect 1).toLoadRect) e
  · exact congrArg (fun T => arg9.view.readCov T (headRect 2).toLoadRect) e
  · exact congrArg (fun T => arg9.view.readCov T (headRect 3).toLoadRect) e

/-- What 3 chunks of a step stored to the carried state. -/
theorem storesB_3 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32) (harg9 : arg9.IsWhole)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    kernelRun0_B.sl.HS0_12 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 3).2 := by
  obtain ⟨s0, s1, s2, s3⟩ := readsB_2 c arg1 harg1 arg2 harg2 arg3 harg3 arg4 harg4 arg5 harg5 arg6 harg6 arg9 harg9 x0 x1 x2 x3 x4 x5 xs0
  have e := storesB_2 c arg1 harg1 arg2 harg2 arg3 harg3 arg4 harg4 arg5 harg5 arg6 harg6 arg9 harg9 x0 x1 x2 x3 x4 x5 xs0
  simp only [kernelRun0_B.sl.HS0_12, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, s0, s1, s2, s3, e]
  show _ = (stores (loads arg1 harg1 arg2 harg2 arg3 harg3 arg4 harg4 arg5 harg5 arg6 harg6 x0 x1 x2 x3 x4 x5) (chunkAt 2) (walkB arg9 harg9 (loads arg1 harg1 arg2 harg2 arg3 harg3 arg4 harg4 arg5 harg5 arg6 harg6 x0 x1 x2 x3 x4 x5) xs0 2).1 (walkB arg9 harg9 (loads arg1 harg1 arg2 harg2 arg3 harg3 arg4 harg4 arg5 harg5 arg6 harg6 x0 x1 x2 x3 x4 x5) xs0 2).2)
  generalize walkB arg9 harg9 (loads arg1 harg1 arg2 harg2 arg3 harg3 arg4 harg4 arg5 harg5 arg6 harg6 x0 x1 x2 x3 x4 x5) xs0 2 = W
  rfl

/-- What the state then reads as, head by head. -/
theorem readsB_3 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32) (harg9 : arg9.IsWhole)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    kernelRun0_B.sl.v471 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 3).1 0 ∧
    kernelRun0_B.sl.v473 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 3).1 1 ∧
    kernelRun0_B.sl.v475 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 3).1 2 ∧
    kernelRun0_B.sl.v477 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 3).1 3 := by
  have e := storesB_3 c arg1 harg1 arg2 harg2 arg3 harg3 arg4 harg4 arg5 harg5 arg6 harg6 arg9 harg9 x0 x1 x2 x3 x4 x5 xs0
  refine ⟨?_, ?_, ?_, ?_⟩
  · exact congrArg (fun T => arg9.view.readCov T (headRect 0).toLoadRect) e
  · exact congrArg (fun T => arg9.view.readCov T (headRect 1).toLoadRect) e
  · exact congrArg (fun T => arg9.view.readCov T (headRect 2).toLoadRect) e
  · exact congrArg (fun T => arg9.view.readCov T (headRect 3).toLoadRect) e

/-- What 4 chunks of a step stored to the carried state. -/
theorem storesB_4 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32) (harg9 : arg9.IsWhole)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    kernelRun0_B.sl.HS0_16 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 4).2 := by
  obtain ⟨s0, s1, s2, s3⟩ := readsB_3 c arg1 harg1 arg2 harg2 arg3 harg3 arg4 harg4 arg5 harg5 arg6 harg6 arg9 harg9 x0 x1 x2 x3 x4 x5 xs0
  have e := storesB_3 c arg1 harg1 arg2 harg2 arg3 harg3 arg4 harg4 arg5 harg5 arg6 harg6 arg9 harg9 x0 x1 x2 x3 x4 x5 xs0
  simp only [kernelRun0_B.sl.HS0_16, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, s0, s1, s2, s3, e]
  show _ = (stores (loads arg1 harg1 arg2 harg2 arg3 harg3 arg4 harg4 arg5 harg5 arg6 harg6 x0 x1 x2 x3 x4 x5) (chunkAt 3) (walkB arg9 harg9 (loads arg1 harg1 arg2 harg2 arg3 harg3 arg4 harg4 arg5 harg5 arg6 harg6 x0 x1 x2 x3 x4 x5) xs0 3).1 (walkB arg9 harg9 (loads arg1 harg1 arg2 harg2 arg3 harg3 arg4 harg4 arg5 harg5 arg6 harg6 x0 x1 x2 x3 x4 x5) xs0 3).2)
  generalize walkB arg9 harg9 (loads arg1 harg1 arg2 harg2 arg3 harg3 arg4 harg4 arg5 harg5 arg6 harg6 x0 x1 x2 x3 x4 x5) xs0 3 = W
  rfl

/-- What the state then reads as, head by head. -/
theorem readsB_4 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32) (harg9 : arg9.IsWhole)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    kernelRun0_B.sl.v627 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 4).1 0 ∧
    kernelRun0_B.sl.v629 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 4).1 1 ∧
    kernelRun0_B.sl.v631 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 4).1 2 ∧
    kernelRun0_B.sl.v633 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 4).1 3 := by
  have e := storesB_4 c arg1 harg1 arg2 harg2 arg3 harg3 arg4 harg4 arg5 harg5 arg6 harg6 arg9 harg9 x0 x1 x2 x3 x4 x5 xs0
  refine ⟨?_, ?_, ?_, ?_⟩
  · exact congrArg (fun T => arg9.view.readCov T (headRect 0).toLoadRect) e
  · exact congrArg (fun T => arg9.view.readCov T (headRect 1).toLoadRect) e
  · exact congrArg (fun T => arg9.view.readCov T (headRect 2).toLoadRect) e
  · exact congrArg (fun T => arg9.view.readCov T (headRect 3).toLoadRect) e

/-- What 5 chunks of a step stored to the carried state. -/
theorem storesB_5 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32) (harg9 : arg9.IsWhole)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    kernelRun0_B.sl.HS0_20 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 5).2 := by
  obtain ⟨s0, s1, s2, s3⟩ := readsB_4 c arg1 harg1 arg2 harg2 arg3 harg3 arg4 harg4 arg5 harg5 arg6 harg6 arg9 harg9 x0 x1 x2 x3 x4 x5 xs0
  have e := storesB_4 c arg1 harg1 arg2 harg2 arg3 harg3 arg4 harg4 arg5 harg5 arg6 harg6 arg9 harg9 x0 x1 x2 x3 x4 x5 xs0
  simp only [kernelRun0_B.sl.HS0_20, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, s0, s1, s2, s3, e]
  show _ = (stores (loads arg1 harg1 arg2 harg2 arg3 harg3 arg4 harg4 arg5 harg5 arg6 harg6 x0 x1 x2 x3 x4 x5) (chunkAt 4) (walkB arg9 harg9 (loads arg1 harg1 arg2 harg2 arg3 harg3 arg4 harg4 arg5 harg5 arg6 harg6 x0 x1 x2 x3 x4 x5) xs0 4).1 (walkB arg9 harg9 (loads arg1 harg1 arg2 harg2 arg3 harg3 arg4 harg4 arg5 harg5 arg6 harg6 x0 x1 x2 x3 x4 x5) xs0 4).2)
  generalize walkB arg9 harg9 (loads arg1 harg1 arg2 harg2 arg3 harg3 arg4 harg4 arg5 harg5 arg6 harg6 x0 x1 x2 x3 x4 x5) xs0 4 = W
  rfl

/-- What the state then reads as, head by head. -/
theorem readsB_5 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32) (harg9 : arg9.IsWhole)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    kernelRun0_B.sl.v783 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 5).1 0 ∧
    kernelRun0_B.sl.v785 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 5).1 1 ∧
    kernelRun0_B.sl.v787 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 5).1 2 ∧
    kernelRun0_B.sl.v789 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 5).1 3 := by
  have e := storesB_5 c arg1 harg1 arg2 harg2 arg3 harg3 arg4 harg4 arg5 harg5 arg6 harg6 arg9 harg9 x0 x1 x2 x3 x4 x5 xs0
  refine ⟨?_, ?_, ?_, ?_⟩
  · exact congrArg (fun T => arg9.view.readCov T (headRect 0).toLoadRect) e
  · exact congrArg (fun T => arg9.view.readCov T (headRect 1).toLoadRect) e
  · exact congrArg (fun T => arg9.view.readCov T (headRect 2).toLoadRect) e
  · exact congrArg (fun T => arg9.view.readCov T (headRect 3).toLoadRect) e

/-- What 6 chunks of a step stored to the carried state. -/
theorem storesB_6 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32) (harg9 : arg9.IsWhole)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    kernelRun0_B.sl.HS0_24 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 6).2 := by
  obtain ⟨s0, s1, s2, s3⟩ := readsB_5 c arg1 harg1 arg2 harg2 arg3 harg3 arg4 harg4 arg5 harg5 arg6 harg6 arg9 harg9 x0 x1 x2 x3 x4 x5 xs0
  have e := storesB_5 c arg1 harg1 arg2 harg2 arg3 harg3 arg4 harg4 arg5 harg5 arg6 harg6 arg9 harg9 x0 x1 x2 x3 x4 x5 xs0
  simp only [kernelRun0_B.sl.HS0_24, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122, s0, s1, s2, s3, e]
  show _ = (stores (loads arg1 harg1 arg2 harg2 arg3 harg3 arg4 harg4 arg5 harg5 arg6 harg6 x0 x1 x2 x3 x4 x5) (chunkAt 5) (walkB arg9 harg9 (loads arg1 harg1 arg2 harg2 arg3 harg3 arg4 harg4 arg5 harg5 arg6 harg6 x0 x1 x2 x3 x4 x5) xs0 5).1 (walkB arg9 harg9 (loads arg1 harg1 arg2 harg2 arg3 harg3 arg4 harg4 arg5 harg5 arg6 harg6 x0 x1 x2 x3 x4 x5) xs0 5).2)
  generalize walkB arg9 harg9 (loads arg1 harg1 arg2 harg2 arg3 harg3 arg4 harg4 arg5 harg5 arg6 harg6 x0 x1 x2 x3 x4 x5) xs0 5 = W
  rfl

/-- What the state then reads as, head by head. -/
theorem readsB_6 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32) (harg9 : arg9.IsWhole)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    kernelRun0_B.sl.v939 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 6).1 0 ∧
    kernelRun0_B.sl.v941 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 6).1 1 ∧
    kernelRun0_B.sl.v943 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 6).1 2 ∧
    kernelRun0_B.sl.v945 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 6).1 3 := by
  have e := storesB_6 c arg1 harg1 arg2 harg2 arg3 harg3 arg4 harg4 arg5 harg5 arg6 harg6 arg9 harg9 x0 x1 x2 x3 x4 x5 xs0
  refine ⟨?_, ?_, ?_, ?_⟩
  · exact congrArg (fun T => arg9.view.readCov T (headRect 0).toLoadRect) e
  · exact congrArg (fun T => arg9.view.readCov T (headRect 1).toLoadRect) e
  · exact congrArg (fun T => arg9.view.readCov T (headRect 2).toLoadRect) e
  · exact congrArg (fun T => arg9.view.readCov T (headRect 3).toLoadRect) e

/-- What 7 chunks of a step stored to the carried state. -/
theorem storesB_7 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32) (harg9 : arg9.IsWhole)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    kernelRun0_B.sl.HS0_28 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 7).2 := by
  obtain ⟨s0, s1, s2, s3⟩ := readsB_6 c arg1 harg1 arg2 harg2 arg3 harg3 arg4 harg4 arg5 harg5 arg6 harg6 arg9 harg9 x0 x1 x2 x3 x4 x5 xs0
  have e := storesB_6 c arg1 harg1 arg2 harg2 arg3 harg3 arg4 harg4 arg5 harg5 arg6 harg6 arg9 harg9 x0 x1 x2 x3 x4 x5 xs0
  simp only [kernelRun0_B.sl.HS0_28, kernelRun0_B.sl.r_119, kernelRun0_B.sl.r_120, kernelRun0_B.sl.r_121, kernelRun0_B.sl.r_122, kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, s0, s1, s2, s3, e]
  show _ = (stores (loads arg1 harg1 arg2 harg2 arg3 harg3 arg4 harg4 arg5 harg5 arg6 harg6 x0 x1 x2 x3 x4 x5) (chunkAt 6) (walkB arg9 harg9 (loads arg1 harg1 arg2 harg2 arg3 harg3 arg4 harg4 arg5 harg5 arg6 harg6 x0 x1 x2 x3 x4 x5) xs0 6).1 (walkB arg9 harg9 (loads arg1 harg1 arg2 harg2 arg3 harg3 arg4 harg4 arg5 harg5 arg6 harg6 x0 x1 x2 x3 x4 x5) xs0 6).2)
  generalize walkB arg9 harg9 (loads arg1 harg1 arg2 harg2 arg3 harg3 arg4 harg4 arg5 harg5 arg6 harg6 x0 x1 x2 x3 x4 x5) xs0 6 = W
  rfl

/-- What the state then reads as, head by head. -/
theorem readsB_7 (c : Dev nD) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg9 : Memref sig .tc .vmem S4x128x128 .f32) (harg9 : arg9.IsWhole)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    kernelRun0_B.sl.v1095 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 7).1 0 ∧
    kernelRun0_B.sl.v1097 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 7).1 1 ∧
    kernelRun0_B.sl.v1099 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 7).1 2 ∧
    kernelRun0_B.sl.v1101 c arg1 harg1 arg2 harg2 arg3 harg3 arg4 harg4 arg5 harg5 arg6 harg6 arg9 harg9 x0 x1 x2 x3 x4 x5 xs0 = (walkB arg9 harg9 (loads arg1 harg1 arg2 harg2 arg3 harg3 arg4 harg4 arg5 harg5 arg6 harg6 x0 x1 x2 x3 x4 x5) xs0 7).1 3 := by
  have e := storesB_7 c arg1 harg1 arg2 harg2 arg3 harg3 arg4 harg4 arg5 harg5 arg6 harg6 arg9 harg9 x0 x1 x2 x3 x4 x5 xs0
  refine ⟨?_, ?_, ?_, ?_⟩
  · exact congrArg (fun T => arg9.view.readCov T (headRect 0).toLoadRect) e
  · exact congrArg (fun T => arg9.view.readCov T (headRect 1).toLoadRect) e
  · exact congrArg (fun T => arg9.view.readCov T (headRect 2).toLoadRect) e
  · exact congrArg (fun T => arg9.view.readCov T (headRect 3).toLoadRect) e

set_option maxHeartbeats 4000000 in
/-- What a step stores to its first output. -/
theorem runB_6 (c : Dev nD) (i : grid0.Coords) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg7 : Memref sig .tc .vmem S4x512x128 .f32) (harg7 : arg7.IsWhole) (arg8 : Memref sig .tc .vmem S8x4x128x128 .f32) (harg8 : arg8.IsWhole) (arg9 : Memref sig .tc .vmem S4x128x128 .f32) (harg9 : arg9.IsWhole) (hc0 : ¬cond0_0 i)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    (kernelRun0_B (F := F) c i arg1 harg1 arg2 harg2 arg3 harg3 arg4 harg4 arg5 harg5 arg6 harg6 arg7 harg7 arg8 harg8 arg9 harg9 hc0 x0 x1 x2 x3 x4 x5 xs0).1 = out6 (loads arg1 harg1 arg2 harg2 arg3 harg3 arg4 harg4 arg5 harg5 arg6 harg6 x0 x1 x2 x3 x4 x5) (fun n => (walkB arg9 harg9 (loads arg1 harg1 arg2 harg2 arg3 harg3 arg4 harg4 arg5 harg5 arg6 harg6 x0 x1 x2 x3 x4 x5) xs0 n).1) 8 := by
  obtain ⟨s10, s11, s12, s13⟩ := readsB_1 c arg1 harg1 arg2 harg2 arg3 harg3 arg4 harg4 arg5 harg5 arg6 harg6 arg9 harg9 x0 x1 x2 x3 x4 x5 xs0
  obtain ⟨s20, s21, s22, s23⟩ := readsB_2 c arg1 harg1 arg2 harg2 arg3 harg3 arg4 harg4 arg5 harg5 arg6 harg6 arg9 harg9 x0 x1 x2 x3 x4 x5 xs0
  obtain ⟨s30, s31, s32, s33⟩ := readsB_3 c arg1 harg1 arg2 harg2 arg3 harg3 arg4 harg4 arg5 harg5 arg6 harg6 arg9 harg9 x0 x1 x2 x3 x4 x5 xs0
  obtain ⟨s40, s41, s42, s43⟩ := readsB_4 c arg1 harg1 arg2 harg2 arg3 harg3 arg4 harg4 arg5 harg5 arg6 harg6 arg9 harg9 x0 x1 x2 x3 x4 x5 xs0
  obtain ⟨s50, s51, s52, s53⟩ := readsB_5 c arg1 harg1 arg2 harg2 arg3 harg3 arg4 harg4 arg5 harg5 arg6 harg6 arg9 harg9 x0 x1 x2 x3 x4 x5 xs0
  obtain ⟨s60, s61, s62, s63⟩ := readsB_6 c arg1 harg1 arg2 harg2 arg3 harg3 arg4 harg4 arg5 harg5 arg6 harg6 arg9 harg9 x0 x1 x2 x3 x4 x5 xs0
  obtain ⟨s70, s71, s72, s73⟩ := readsB_7 c arg1 harg1 arg2 harg2 arg3 harg3 arg4 harg4 arg5 harg5 arg6 harg6 arg9 harg9 x0 x1 x2 x3 x4 x5 xs0
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122, kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, s10, s11, s12, s13, s20, s21, s22, s23, s30, s31, s32, s33, s40, s41, s42, s43, s50, s51, s52, s53, s60, s61, s62, s63, s70, s71, s72, s73]
  simp only [out6]
  generalize (walkB arg9 harg9 (loads arg1 harg1 arg2 harg2 arg3 harg3 arg4 harg4 arg5 harg5 arg6 harg6 x0 x1 x2 x3 x4 x5) xs0 1).1 = W1
  generalize (walkB arg9 harg9 (loads arg1 harg1 arg2 harg2 arg3 harg3 arg4 harg4 arg5 harg5 arg6 harg6 x0 x1 x2 x3 x4 x5) xs0 2).1 = W2
  generalize (walkB arg9 harg9 (loads arg1 harg1 arg2 harg2 arg3 harg3 arg4 harg4 arg5 harg5 arg6 harg6 x0 x1 x2 x3 x4 x5) xs0 3).1 = W3
  generalize (walkB arg9 harg9 (loads arg1 harg1 arg2 harg2 arg3 harg3 arg4 harg4 arg5 harg5 arg6 harg6 x0 x1 x2 x3 x4 x5) xs0 4).1 = W4
  generalize (walkB arg9 harg9 (loads arg1 harg1 arg2 harg2 arg3 harg3 arg4 harg4 arg5 harg5 arg6 harg6 x0 x1 x2 x3 x4 x5) xs0 5).1 = W5
  generalize (walkB arg9 harg9 (loads arg1 harg1 arg2 harg2 arg3 harg3 arg4 harg4 arg5 harg5 arg6 harg6 x0 x1 x2 x3 x4 x5) xs0 6).1 = W6
  generalize (walkB arg9 harg9 (loads arg1 harg1 arg2 harg2 arg3 harg3 arg4 harg4 arg5 harg5 arg6 harg6 x0 x1 x2 x3 x4 x5) xs0 7).1 = W7
  rfl

set_option maxHeartbeats 4000000 in
/-- What a step stores to its second output. -/
theorem runB_7 (c : Dev nD) (i : grid0.Coords) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg7 : Memref sig .tc .vmem S4x512x128 .f32) (harg7 : arg7.IsWhole) (arg8 : Memref sig .tc .vmem S8x4x128x128 .f32) (harg8 : arg8.IsWhole) (arg9 : Memref sig .tc .vmem S4x128x128 .f32) (harg9 : arg9.IsWhole) (hc0 : ¬cond0_0 i)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    (kernelRun0_B (F := F) c i arg1 harg1 arg2 harg2 arg3 harg3 arg4 harg4 arg5 harg5 arg6 harg6 arg7 harg7 arg8 harg8 arg9 harg9 hc0 x0 x1 x2 x3 x4 x5 xs0).2.1 = out7 (fun n => (walkB arg9 harg9 (loads arg1 harg1 arg2 harg2 arg3 harg3 arg4 harg4 arg5 harg5 arg6 harg6 x0 x1 x2 x3 x4 x5) xs0 n).1) 8 := by
  obtain ⟨s10, s11, s12, s13⟩ := readsB_1 c arg1 harg1 arg2 harg2 arg3 harg3 arg4 harg4 arg5 harg5 arg6 harg6 arg9 harg9 x0 x1 x2 x3 x4 x5 xs0
  obtain ⟨s20, s21, s22, s23⟩ := readsB_2 c arg1 harg1 arg2 harg2 arg3 harg3 arg4 harg4 arg5 harg5 arg6 harg6 arg9 harg9 x0 x1 x2 x3 x4 x5 xs0
  obtain ⟨s30, s31, s32, s33⟩ := readsB_3 c arg1 harg1 arg2 harg2 arg3 harg3 arg4 harg4 arg5 harg5 arg6 harg6 arg9 harg9 x0 x1 x2 x3 x4 x5 xs0
  obtain ⟨s40, s41, s42, s43⟩ := readsB_4 c arg1 harg1 arg2 harg2 arg3 harg3 arg4 harg4 arg5 harg5 arg6 harg6 arg9 harg9 x0 x1 x2 x3 x4 x5 xs0
  obtain ⟨s50, s51, s52, s53⟩ := readsB_5 c arg1 harg1 arg2 harg2 arg3 harg3 arg4 harg4 arg5 harg5 arg6 harg6 arg9 harg9 x0 x1 x2 x3 x4 x5 xs0
  obtain ⟨s60, s61, s62, s63⟩ := readsB_6 c arg1 harg1 arg2 harg2 arg3 harg3 arg4 harg4 arg5 harg5 arg6 harg6 arg9 harg9 x0 x1 x2 x3 x4 x5 xs0
  obtain ⟨s70, s71, s72, s73⟩ := readsB_7 c arg1 harg1 arg2 harg2 arg3 harg3 arg4 harg4 arg5 harg5 arg6 harg6 arg9 harg9 x0 x1 x2 x3 x4 x5 xs0
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122, kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, s10, s11, s12, s13, s20, s21, s22, s23, s30, s31, s32, s33, s40, s41, s42, s43, s50, s51, s52, s53, s60, s61, s62, s63, s70, s71, s72, s73]
  simp only [out7]
  generalize (walkB arg9 harg9 (loads arg1 harg1 arg2 harg2 arg3 harg3 arg4 harg4 arg5 harg5 arg6 harg6 x0 x1 x2 x3 x4 x5) xs0 1).1 = W1
  generalize (walkB arg9 harg9 (loads arg1 harg1 arg2 harg2 arg3 harg3 arg4 harg4 arg5 harg5 arg6 harg6 x0 x1 x2 x3 x4 x5) xs0 2).1 = W2
  generalize (walkB arg9 harg9 (loads arg1 harg1 arg2 harg2 arg3 harg3 arg4 harg4 arg5 harg5 arg6 harg6 x0 x1 x2 x3 x4 x5) xs0 3).1 = W3
  generalize (walkB arg9 harg9 (loads arg1 harg1 arg2 harg2 arg3 harg3 arg4 harg4 arg5 harg5 arg6 harg6 x0 x1 x2 x3 x4 x5) xs0 4).1 = W4
  generalize (walkB arg9 harg9 (loads arg1 harg1 arg2 harg2 arg3 harg3 arg4 harg4 arg5 harg5 arg6 harg6 x0 x1 x2 x3 x4 x5) xs0 5).1 = W5
  generalize (walkB arg9 harg9 (loads arg1 harg1 arg2 harg2 arg3 harg3 arg4 harg4 arg5 harg5 arg6 harg6 x0 x1 x2 x3 x4 x5) xs0 6).1 = W6
  generalize (walkB arg9 harg9 (loads arg1 harg1 arg2 harg2 arg3 harg3 arg4 harg4 arg5 harg5 arg6 harg6 x0 x1 x2 x3 x4 x5) xs0 7).1 = W7
  rfl

set_option maxHeartbeats 4000000 in
/-- What a step stores to the carried state. -/
theorem runB_s (c : Dev nD) (i : grid0.Coords) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg7 : Memref sig .tc .vmem S4x512x128 .f32) (harg7 : arg7.IsWhole) (arg8 : Memref sig .tc .vmem S8x4x128x128 .f32) (harg8 : arg8.IsWhole) (arg9 : Memref sig .tc .vmem S4x128x128 .f32) (harg9 : arg9.IsWhole) (hc0 : ¬cond0_0 i)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    (kernelRun0_B (F := F) c i arg1 harg1 arg2 harg2 arg3 harg3 arg4 harg4 arg5 harg5 arg6 harg6 arg7 harg7 arg8 harg8 arg9 harg9 hc0 x0 x1 x2 x3 x4 x5 xs0).2.2.1 = (walkB arg9 harg9 (loads arg1 harg1 arg2 harg2 arg3 harg3 arg4 harg4 arg5 harg5 arg6 harg6 x0 x1 x2 x3 x4 x5) xs0 8).2 := by
  obtain ⟨s10, s11, s12, s13⟩ := readsB_1 c arg1 harg1 arg2 harg2 arg3 harg3 arg4 harg4 arg5 harg5 arg6 harg6 arg9 harg9 x0 x1 x2 x3 x4 x5 xs0
  obtain ⟨s20, s21, s22, s23⟩ := readsB_2 c arg1 harg1 arg2 harg2 arg3 harg3 arg4 harg4 arg5 harg5 arg6 harg6 arg9 harg9 x0 x1 x2 x3 x4 x5 xs0
  obtain ⟨s30, s31, s32, s33⟩ := readsB_3 c arg1 harg1 arg2 harg2 arg3 harg3 arg4 harg4 arg5 harg5 arg6 harg6 arg9 harg9 x0 x1 x2 x3 x4 x5 xs0
  obtain ⟨s40, s41, s42, s43⟩ := readsB_4 c arg1 harg1 arg2 harg2 arg3 harg3 arg4 harg4 arg5 harg5 arg6 harg6 arg9 harg9 x0 x1 x2 x3 x4 x5 xs0
  obtain ⟨s50, s51, s52, s53⟩ := readsB_5 c arg1 harg1 arg2 harg2 arg3 harg3 arg4 harg4 arg5 harg5 arg6 harg6 arg9 harg9 x0 x1 x2 x3 x4 x5 xs0
  obtain ⟨s60, s61, s62, s63⟩ := readsB_6 c arg1 harg1 arg2 harg2 arg3 harg3 arg4 harg4 arg5 harg5 arg6 harg6 arg9 harg9 x0 x1 x2 x3 x4 x5 xs0
  obtain ⟨s70, s71, s72, s73⟩ := readsB_7 c arg1 harg1 arg2 harg2 arg3 harg3 arg4 harg4 arg5 harg5 arg6 harg6 arg9 harg9 x0 x1 x2 x3 x4 x5 xs0
  have e := storesB_7 c arg1 harg1 arg2 harg2 arg3 harg3 arg4 harg4 arg5 harg5 arg6 harg6 arg9 harg9 x0 x1 x2 x3 x4 x5 xs0
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122, kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, s10, s11, s12, s13, s20, s21, s22, s23, s30, s31, s32, s33, s40, s41, s42, s43, s50, s51, s52, s53, s60, s61, s62, s63, s70, s71, s72, s73, e]
  show _ = (stores (loads arg1 harg1 arg2 harg2 arg3 harg3 arg4 harg4 arg5 harg5 arg6 harg6 x0 x1 x2 x3 x4 x5) (chunkAt 7) (walkB arg9 harg9 (loads arg1 harg1 arg2 harg2 arg3 harg3 arg4 harg4 arg5 harg5 arg6 harg6 x0 x1 x2 x3 x4 x5) xs0 7).1 (walkB arg9 harg9 (loads arg1 harg1 arg2 harg2 arg3 harg3 arg4 harg4 arg5 harg5 arg6 harg6 x0 x1 x2 x3 x4 x5) xs0 7).2)
  generalize walkB arg9 harg9 (loads arg1 harg1 arg2 harg2 arg3 harg3 arg4 harg4 arg5 harg5 arg6 harg6 x0 x1 x2 x3 x4 x5) xs0 7 = W
  rfl

end Cert.Block
-- ==== Proof.Walk.lean ====
module

public import proofs.«01_k».proof.Proof.Block
public import Idealize.ShloMosaic.Lib.Pointwise
public import Idealize.ShloMosaic.Lib.Pipeline.CanonAppend

/-! What the stores of a step amount to: the state after each chunk is `next` of the state before it, and each output
    block holds, at every index, what the chunk of that index stored there. -/

@[expose] public section
open Idealize.ShloMosaic Idealize.ShloMosaic.TcCoe Idealize.SL.Sem

namespace Cert.Block
open Cert.KernelIdeal Cert.KernelIdeal.Gen

variable {F : FTy → Type} [FloatOps F]

/-- Two heads' matrices of the carried state do not meet. -/
theorem headRect_disjoint (h h' : Fin 4) (hne : h ≠ h') : Disjoint (headRect h).set (headRect h').toLoadRect.set := by
  refine Finset.disjoint_left.mpr fun i hi hi' => hne ?_
  obtain ⟨x, rfl⟩ := (headRect h).exists_idx_of_mem hi
  obtain ⟨x', e⟩ := (headRect h').exists_idx_of_mem hi'
  have e0 : h'.val + 1 * (x' 0).val = h.val + 1 * (x 0).val := congrArg (fun i : S4x128x128.Idx => (i 0).val) e
  have a : (x 0).val < 1 := (x 0).isLt
  have b : (x' 0).val < 1 := (x' 0).isLt
  exact Fin.ext (by omega)

/-- A load of a head's matrix after a store to that head reads the store's value; -/
theorem readCov_hit (v : View sig .tc .vmem S4x128x128 .f32) (h : Fin 4) (w : S1x128x128.Idx → Elt F .f32)
    (T : List (View.Piece (Elt F) S4x128x128 .f32)) :
    v.readCov ((⟨headRect h, w⟩ : View.Piece (Elt F) S4x128x128 .f32) :: T) (headRect h).toLoadRect = w :=
  View.readCov_cons_toLoadRect v (headRect h) w T

/-- after a store to another head it reads what was there before. -/
theorem readCov_miss (v : View sig .tc .vmem S4x128x128 .f32) (h h' : Fin 4) (hne : h' ≠ h) (w : S1x128x128.Idx → Elt F .f32)
    (T : List (View.Piece (Elt F) S4x128x128 .f32)) (u : S1x128x128.Idx → Elt F .f32)
    (e : v.readCov T (headRect h).toLoadRect = u) :
    v.readCov ((⟨headRect h', w⟩ : View.Piece (Elt F) S4x128x128 .f32) :: T) (headRect h).toLoadRect = u :=
  (View.readCov_cons_of_disjoint v ⟨headRect h', w⟩ T _ (headRect_disjoint h' h hne)).trans e

/-- A load of head `h`'s matrix after four stores, one a head. -/
theorem readCov_four (v : View sig .tc .vmem S4x128x128 .f32) (w : Fin 4 → S1x128x128.Idx → Elt F .f32)
    (T : List (View.Piece (Elt F) S4x128x128 .f32)) (h : Fin 4) :
    v.readCov ((⟨headRect 3, w 3⟩ : View.Piece (Elt F) S4x128x128 .f32) :: ⟨headRect 2, w 2⟩ :: ⟨headRect 1, w 1⟩ ::
      ⟨headRect 0, w 0⟩ :: T) (headRect h).toLoadRect = w h := by
  by_cases h3 : 3 = h
  · subst h3; exact readCov_hit v 3 (w 3) _
  refine readCov_miss v h 3 h3 (w 3) _ _ ?_
  by_cases h2 : 2 = h
  · subst h2; exact readCov_hit v 2 (w 2) _
  refine readCov_miss v h 2 h2 (w 2) _ _ ?_
  by_cases h1 : 1 = h
  · subst h1; exact readCov_hit v 1 (w 1) _
  refine readCov_miss v h 1 h1 (w 1) _ _ ?_
  have h0 : 0 = h := by apply Fin.ext; have := h.isLt; simp only [Fin.ext_iff] at h1 h2 h3; simp at h1 h2 h3 ⊢; omega
  subst h0; exact readCov_hit v 0 (w 0) _

/-- A load of head `h`'s matrix after a chunk's stores reads what the chunk stored there. -/
theorem readCov_stores (L : Loads F) (v : View sig .tc .vmem S4x128x128 .f32) (j : Fin 8)
    (S : Fin 4 → Vec F S1x128x128 .f32) (T : List (View.Piece (Elt F) S4x128x128 .f32)) (h : Fin 4) :
    v.readCov (stores L j S T) (headRect h).toLoadRect = next L j h (S h) :=
  readCov_four v (fun h => next L j h (S h)) T h

/-- The state after `n` chunks of a step, from the state `S` it begins with. -/
noncomputable def chain (L : Loads F) (S : Fin 4 → Vec F S1x128x128 .f32) : Nat → Fin 4 → Vec F S1x128x128 .f32
  | 0 => S
  | n + 1 => fun h => next L (chunkAt n) h (chain L S n h)

/-- The walk's state is the chain's. -/
theorem walk_fst (L : Loads F) (arg9 : Memref sig .tc .vmem S4x128x128 .f32) (S : Fin 4 → Vec F S1x128x128 .f32)
    (T : List (View.Piece (Elt F) S4x128x128 .f32)) : ∀ n, (walk L arg9 S T n).1 = chain L S n
  | 0 => rfl
  | n + 1 => funext fun h => (readCov_stores L arg9.view (chunkAt n) _ _ h).trans
      (congrArg (fun Z => next L (chunkAt n) h (Z h)) (walk_fst L arg9 S T n))

/-- The rows of chunk `j` of head `h` within a block, at an index. -/
theorem rowsRect_emb (h : Fin 4) (j : Fin 8) (r : Fin 64) (d : Fin 128) :
    (rowsRect h j).emb (ix3 0 r d) = ix3 h (⟨64 * j.val + r.val, by omega⟩ : Fin 512) d := by
  funext a; apply Fin.ext
  match a with
  | ⟨0, _⟩ => show h.val + 1 * 0 = h.val; omega
  | ⟨1, _⟩ => show 64 * j.val + 1 * r.val = 64 * j.val + r.val; omega
  | ⟨2, _⟩ => show 0 + 1 * d.val = d.val; omega

theorem attnRect_emb (j : Fin 8) (h : Fin 4) (r c : Fin 64) :
    (attnRect j h).emb (ix4 0 0 r c) = ix4 j h r c := by
  funext a; apply Fin.ext
  match a with
  | ⟨0, _⟩ => show j.val + 1 * 0 = j.val; omega
  | ⟨1, _⟩ => show h.val + 1 * 0 = h.val; omega
  | ⟨2, _⟩ => show 0 + 1 * r.val = r.val; omega
  | ⟨3, _⟩ => show 0 + 1 * c.val = c.val; omega

theorem saveRect_emb (j : Fin 8) (h : Fin 4) (r c : Fin 128) :
    (saveRect j h).emb (ix4 0 0 r c) = ix4 j h r c := by
  funext a; apply Fin.ext
  match a with
  | ⟨0, _⟩ => show j.val + 1 * 0 = j.val; omega
  | ⟨1, _⟩ => show h.val + 1 * 0 = h.val; omega
  | ⟨2, _⟩ => show 0 + 1 * r.val = r.val; omega
  | ⟨3, _⟩ => show 0 + 1 * c.val = c.val; omega

theorem headRect_emb (h : Fin 4) (r c : Fin 128) : (headRect h).emb (ix3 0 r c) = ix3 h r c := by
  funext a; apply Fin.ext
  match a with
  | ⟨0, _⟩ => show h.val + 1 * 0 = h.val; omega
  | ⟨1, _⟩ => show 0 + 1 * r.val = r.val; omega
  | ⟨2, _⟩ => show 0 + 1 * c.val = c.val; omega

/-- The first output's block at head `h`, row `r`, column `d`: what the chunk of the row stored there. -/
noncomputable def block6At (L : Loads F) (S : Nat → Fin 4 → Vec F S1x128x128 .f32) (h : Fin 4) (r : Fin 512) (d : Fin 128) : Elt F .f32 :=
  k0_pay2 (dvn L (⟨r.val / 64, by omega⟩ : Fin 8) h (S (7 - r.val / 64) h)) (ix3 0 (⟨r.val % 64, by omega⟩ : Fin 64) d)

/-- The first output's block. -/
noncomputable def block6 (L : Loads F) (S : Nat → Fin 4 → Vec F S1x128x128 .f32) (y : S4x512x128.Idx) : Elt F .f32 :=
  block6At L S (y 0) (y 1) (y 2)

/-- The second output's block: at each index, the state its chunk began with. -/
noncomputable def block7 (S : Nat → Fin 4 → Vec F S1x128x128 .f32) (y : S8x4x128x128.Idx) : Elt F .f32 :=
  k0_pay20 (k0_pay4 (S (7 - (y 0).val) (y 1))) (ix4 0 0 (y 2) (y 3))

theorem block6_emb (L : Loads F) (S : Nat → Fin 4 → Vec F S1x128x128 .f32) (n : Nat) (hn : n < 8) (h : Fin 4)
    (x : S1x64x128.Idx) :
    k0_pay2 (dvn L (chunkAt n) h (S n h)) x = block6 L S ((rowsRect h (chunkAt n)).emb x) := by
  obtain ⟨z, r, d, rfl⟩ : ∃ (z : Fin 1) (r : Fin 64) (d : Fin 128), x = ix3 z r d :=
    ⟨x 0, x 1, x 2, funext fun a => by match a with | ⟨0, _⟩ => rfl | ⟨1, _⟩ => rfl | ⟨2, _⟩ => rfl⟩
  obtain rfl : z = 0 := Subsingleton.elim _ _
  rw [rowsRect_emb]
  have hj : ∀ p, (⟨(64 * (chunkAt n).val + r.val) / 64, p⟩ : Fin 8) = chunkAt n := fun p => Fin.ext (by
    show (64 * (7 - n) + r.val) / 64 = 7 - n; omega)
  have hr : ∀ p, (⟨(64 * (chunkAt n).val + r.val) % 64, p⟩ : Fin 64) = r := fun p => Fin.ext (by
    show (64 * (7 - n) + r.val) % 64 = r.val; omega)
  have hs : 7 - (chunkAt n).val = n := by show 7 - (7 - n) = n; omega
  have hq : (64 * (chunkAt n).val + r.val) / 64 = (chunkAt n).val := by omega
  show _ = block6At L S h (⟨64 * (chunkAt n).val + r.val, _⟩ : Fin 512) d
  unfold block6At
  dsimp only
  rw [hj, hr, hq, hs]

theorem block7_emb (S : Nat → Fin 4 → Vec F S1x128x128 .f32) (n : Nat) (hn : n < 8) (h : Fin 4)
    (x : S1x1x128x128.Idx) :
    k0_pay20 (k0_pay4 (S n h)) x = block7 S ((saveRect (chunkAt n) h).emb x) := by
  obtain ⟨z, z', r, d, rfl⟩ : ∃ (z z' : Fin 1) (r : Fin 128) (d : Fin 128), x = ix4 z z' r d :=
    ⟨x 0, x 1, x 2, x 3, funext fun a => by
      match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [saveRect_emb]
  have hs : 7 - (chunkAt n).val = n := by show 7 - (7 - n) = n; omega
  show _ = k0_pay20 (k0_pay4 (S (7 - (chunkAt n).val) h)) (ix4 0 0 r d)
  rw [hs]

/-- Every store to the first output agrees with `block6`. -/
theorem out6_pieces (L : Loads F) (S : Nat → Fin 4 → Vec F S1x128x128 .f32) : ∀ n ≤ 8, ∀ p ∈ out6 L S n,
    ∀ x : p.1.shape.Idx, p.2 x = block6 L S (p.1.emb x)
  | 0, _ => fun p hp => absurd hp List.not_mem_nil
  | n + 1, hn => by
    intro p hp
    simp only [out6, List.mem_cons] at hp
    rcases hp with rfl | rfl | rfl | rfl | hp
    · exact block6_emb L S n (by omega) 3
    · exact block6_emb L S n (by omega) 2
    · exact block6_emb L S n (by omega) 1
    · exact block6_emb L S n (by omega) 0
    · exact out6_pieces L S n (by omega) p hp

theorem out7_pieces (S : Nat → Fin 4 → Vec F S1x128x128 .f32) : ∀ n ≤ 8, ∀ p ∈ out7 S n,
    ∀ x : p.1.shape.Idx, p.2 x = block7 S (p.1.emb x)
  | 0, _ => fun p hp => absurd hp List.not_mem_nil
  | n + 1, hn => by
    intro p hp
    simp only [out7, List.mem_cons] at hp
    rcases hp with rfl | rfl | rfl | rfl | hp
    · exact block7_emb S n (by omega) 3
    · exact block7_emb S n (by omega) 2
    · exact block7_emb S n (by omega) 1
    · exact block7_emb S n (by omega) 0
    · exact out7_pieces S n (by omega) p hp

/-- Each chunk's rows of each head are stored. -/
theorem out6_has (L : Loads F) (S : Nat → Fin 4 → Vec F S1x128x128 .f32) (h : Fin 4) (k : Nat) :
    ∀ n, k < n → ∃ p ∈ out6 L S n, p.1 = rowsRect h (chunkAt k)
  | n + 1, hk => by
    rcases Nat.lt_succ_iff_lt_or_eq.mp hk with hk | rfl
    · obtain ⟨p, hp, e⟩ := out6_has L S h k n hk
      exact ⟨p, by simp only [out6, List.mem_cons]; exact .inr (.inr (.inr (.inr hp))), e⟩
    · match h with
      | 0 => exact ⟨⟨rowsRect 0 (chunkAt k), _⟩, by simp only [out6, List.mem_cons]; exact .inr (.inr (.inr (.inl rfl))), rfl⟩
      | 1 => exact ⟨⟨rowsRect 1 (chunkAt k), _⟩, by simp only [out6, List.mem_cons]; exact .inr (.inr (.inl rfl)), rfl⟩
      | 2 => exact ⟨⟨rowsRect 2 (chunkAt k), _⟩, by simp only [out6, List.mem_cons]; exact .inr (.inl rfl), rfl⟩
      | 3 => exact ⟨⟨rowsRect 3 (chunkAt k), _⟩, by simp only [out6, List.mem_cons]; exact .inl rfl, rfl⟩

theorem out7_has (S : Nat → Fin 4 → Vec F S1x128x128 .f32) (h : Fin 4) (k : Nat) :
    ∀ n, k < n → ∃ p ∈ out7 S n, p.1 = saveRect (chunkAt k) h
  | n + 1, hk => by
    rcases Nat.lt_succ_iff_lt_or_eq.mp hk with hk | rfl
    · obtain ⟨p, hp, e⟩ := out7_has S h k n hk
      exact ⟨p, by simp only [out7, List.mem_cons]; exact .inr (.inr (.inr (.inr hp))), e⟩
    · match h with
      | 0 => exact ⟨⟨saveRect (chunkAt k) 0, _⟩, by simp only [out7, List.mem_cons]; exact .inr (.inr (.inr (.inl rfl))), rfl⟩
      | 1 => exact ⟨⟨saveRect (chunkAt k) 1, _⟩, by simp only [out7, List.mem_cons]; exact .inr (.inr (.inl rfl)), rfl⟩
      | 2 => exact ⟨⟨saveRect (chunkAt k) 2, _⟩, by simp only [out7, List.mem_cons]; exact .inr (.inl rfl), rfl⟩
      | 3 => exact ⟨⟨saveRect (chunkAt k) 3, _⟩, by simp only [out7, List.mem_cons]; exact .inl rfl, rfl⟩

/-- The first output's block after the eight chunks. -/
theorem canon_out6 (L : Loads F) (S : Nat → Fin 4 → Vec F S1x128x128 .f32) :
    View.canon (out6 L S 8) = block6 L S := by
  funext y
  have hy : (y 1).val < 512 := (y 1).isLt
  rw [← List.append_nil (out6 L S 8)]
  refine View.canon_append_of_pieces (block6 L S) [] (out6 L S 8) (out6_pieces L S 8 le_rfl) y ?_
  obtain ⟨p, hp, e⟩ := out6_has L S (y 0) (7 - (y 1).val / 64) 8 (by omega)
  refine ⟨p, hp, ?_⟩
  rw [e]
  have e2 : (rowsRect (y 0) (chunkAt (7 - (y 1).val / 64))).emb (ix3 0 (⟨(y 1).val % 64, by omega⟩ : Fin 64) (y 2)) = y := by
    refine (rowsRect_emb _ _ _ _).trans ?_
    funext a; apply Fin.ext
    match a with
    | ⟨0, _⟩ => rfl
    | ⟨1, _⟩ => show 64 * (7 - (7 - (y 1).val / 64)) + (y 1).val % 64 = (y 1).val; omega
    | ⟨2, _⟩ => rfl
  exact Eq.subst (motive := fun z => z ∈ (rowsRect (y 0) (chunkAt (7 - (y 1).val / 64))).set) e2 ((rowsRect (y 0) (chunkAt (7 - (y 1).val / 64))).idx_mem _)

/-- The second output's block after the eight chunks. -/
theorem canon_out7 (S : Nat → Fin 4 → Vec F S1x128x128 .f32) : View.canon (out7 S 8) = block7 S := by
  funext y
  have hy : (y 0).val < 8 := (y 0).isLt
  rw [← List.append_nil (out7 S 8)]
  refine View.canon_append_of_pieces (block7 S) [] (out7 S 8) (out7_pieces S 8 le_rfl) y ?_
  obtain ⟨p, hp, e⟩ := out7_has S (y 1) (7 - (y 0).val) 8 (by omega)
  refine ⟨p, hp, ?_⟩
  rw [e]
  have e2 : (saveRect (chunkAt (7 - (y 0).val)) (y 1)).emb (ix4 0 0 (y 2) (y 3)) = y := by
    refine (saveRect_emb _ _ _ _).trans ?_
    funext a; apply Fin.ext
    match a with
    | ⟨0, _⟩ => show 7 - (7 - (y 0).val) = (y 0).val; omega
    | ⟨1, _⟩ => rfl
    | ⟨2, _⟩ => rfl
    | ⟨3, _⟩ => rfl
  exact Eq.subst (motive := fun z => z ∈ (saveRect (chunkAt (7 - (y 0).val)) (y 1)).set) e2 ((saveRect (chunkAt (7 - (y 0).val)) (y 1)).idx_mem _)

/-- A whole state's matrix of head `h`. -/
def headOf (X : Vec F S4x128x128 .f32) (h : Fin 4) : Vec F S1x128x128 .f32 := fun i => X ((headRect h).emb i)

/-- The state the last chunk's stores leave, head by head. -/
theorem headOf_stores (L : Loads F) (j : Fin 8) (S : Fin 4 → Vec F S1x128x128 .f32)
    (T : List (View.Piece (Elt F) S4x128x128 .f32)) (v : View sig .tc .vmem S4x128x128 .f32) (h : Fin 4) :
    headOf (v.read (Elt F) (v.writes (Elt F) v.junk (stores L j S T))) h = next L j h (S h) := by
  rw [View.read_writes_junk_eq_canon]
  have e := readCov_stores L v j S T h
  rw [View.readCov_eq_canon'] at e
  exact e

end Cert.Block
-- ==== Proof.Cases.lean ====
module

public import proofs.«01_k».proof.Proof.StepA
public import proofs.«01_k».proof.Proof.StepB
public import proofs.«01_k».proof.Proof.Walk

/-! What the generated run leaves in the two output blocks and in the carried state, in the first step and in the later
    ones: the blocks of `Walk` over the chain of states. -/

@[expose] public section
open Idealize.ShloMosaic Idealize.ShloMosaic.TcCoe Idealize.SL.Sem

namespace Cert.Block
open Cert.KernelIdeal Cert.KernelIdeal.Gen
variable {F : FTy → Type} [FloatOps F]

/-- The loads of a body, as functions of what the blocks hold. -/
noncomputable def loadsOf (x0 x1 x2 : Vec F S4x512x128 .bf16) (x3 : Vec F S8x4x64x64 .bf16) (x4 x5 : Vec F S4x512x128 .f32) : Loads F where
  w h j i := x0 ((rowsRect h j).emb i)
  qg h j i := x1 ((rowsRect h j).emb i)
  kg h j i := x2 ((rowsRect h j).emb i)
  attn j h i := x3 ((attnRect j h).emb i)
  g h j i := x4 ((rowsRect h j).emb i)
  dO h j i := x5 ((rowsRect h j).emb i)

theorem loads_eq (arg1 : Memref sig .tc .vmem S4x512x128 .bf16) (harg1 : arg1.IsWhole)
    (arg2 : Memref sig .tc .vmem S4x512x128 .bf16) (harg2 : arg2.IsWhole)
    (arg3 : Memref sig .tc .vmem S4x512x128 .bf16) (harg3 : arg3.IsWhole)
    (arg4 : Memref sig .tc .vmem S8x4x64x64 .bf16) (harg4 : arg4.IsWhole)
    (arg5 : Memref sig .tc .vmem S4x512x128 .f32) (harg5 : arg5.IsWhole)
    (arg6 : Memref sig .tc .vmem S4x512x128 .f32) (harg6 : arg6.IsWhole)
    (x0 x1 x2 : Vec F S4x512x128 .bf16) (x3 : Vec F S8x4x64x64 .bf16) (x4 x5 : Vec F S4x512x128 .f32) :
    loads arg1 harg1 arg2 harg2 arg3 harg3 arg4 harg4 arg5 harg5 arg6 harg6 x0 x1 x2 x3 x4 x5 = loadsOf x0 x1 x2 x3 x4 x5 := by
  unfold loads loadsOf
  simp only [View.readAt_eq_ld, harg1.read_unread, harg2.read_unread, harg3.read_unread, harg4.read_unread,
    harg5.read_unread, harg6.read_unread]
  rfl

/-- The zeroed state reads as zeros, head by head. -/
theorem readCov_zero (v : View sig .tc .vmem S4x128x128 .f32) (h : Fin 4) :
    v.readCov (kernelRun0_A.sl.HS0_1 (F := F)) (headRect h).toLoadRect = headOf k0_pay3 h := by
  rw [View.readCov_eq_canon']
  unfold kernelRun0_A.sl.HS0_1
  rw [View.canon_unit_zero (funext fun a => by fin_cases a <;> rfl)]
  rfl

/-- The first output's block after the first step. -/
theorem outA_6 (c : Dev nD) (i : grid0.Coords) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg7 : Memref sig .tc .vmem S4x512x128 .f32) (harg7 : arg7.IsWhole) (arg8 : Memref sig .tc .vmem S8x4x128x128 .f32) (harg8 : arg8.IsWhole) (arg9 : Memref sig .tc .vmem S4x128x128 .f32) (harg9 : arg9.IsWhole) (hc0 : cond0_0 i)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    out0_A_6 c i arg1 harg1 arg2 harg2 arg3 harg3 arg4 harg4 arg5 harg5 arg6 harg6 arg7 harg7 arg8 harg8 arg9 harg9 hc0 x0 x1 x2 x3 x4 x5 = block6 (loadsOf x0 x1 x2 x3 x4 x5) (chain (loadsOf x0 x1 x2 x3 x4 x5) (headOf k0_pay3)) := by
  unfold out0_A_6
  rw [View.read_writes_junk_eq_canon, runA_6, canon_out6]
  have hS : (fun h => arg9.view.readCov (kernelRun0_A.sl.HS0_1 (F := F)) (headRect h).toLoadRect : Fin 4 → Vec F S1x128x128 .f32) = (headOf k0_pay3) := funext fun h => readCov_zero arg9.view h
  have e : (fun n => (walk (loadsOf x0 x1 x2 x3 x4 x5) arg9 (fun h => arg9.view.readCov (kernelRun0_A.sl.HS0_1 (F := F)) (headRect h).toLoadRect) (kernelRun0_A.sl.HS0_1 (F := F)) n).1) = chain (loadsOf x0 x1 x2 x3 x4 x5) (headOf k0_pay3) :=
    funext fun n => (walk_fst _ _ _ _ n).trans (congrArg (fun Z => chain (loadsOf x0 x1 x2 x3 x4 x5) Z n) hS)
  unfold walkA
  rw [loads_eq, e]

/-- The second output's block after the first step. -/
theorem outA_7 (c : Dev nD) (i : grid0.Coords) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg7 : Memref sig .tc .vmem S4x512x128 .f32) (harg7 : arg7.IsWhole) (arg8 : Memref sig .tc .vmem S8x4x128x128 .f32) (harg8 : arg8.IsWhole) (arg9 : Memref sig .tc .vmem S4x128x128 .f32) (harg9 : arg9.IsWhole) (hc0 : cond0_0 i)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) :
    out0_A_7 c i arg1 harg1 arg2 harg2 arg3 harg3 arg4 harg4 arg5 harg5 arg6 harg6 arg7 harg7 arg8 harg8 arg9 harg9 hc0 x0 x1 x2 x3 x4 x5 = block7 (chain (loadsOf x0 x1 x2 x3 x4 x5) (headOf k0_pay3)) := by
  unfold out0_A_7
  rw [View.read_writes_junk_eq_canon, runA_7, canon_out7]
  have hS : (fun h => arg9.view.readCov (kernelRun0_A.sl.HS0_1 (F := F)) (headRect h).toLoadRect : Fin 4 → Vec F S1x128x128 .f32) = (headOf k0_pay3) := funext fun h => readCov_zero arg9.view h
  have e : (fun n => (walk (loadsOf x0 x1 x2 x3 x4 x5) arg9 (fun h => arg9.view.readCov (kernelRun0_A.sl.HS0_1 (F := F)) (headRect h).toLoadRect) (kernelRun0_A.sl.HS0_1 (F := F)) n).1) = chain (loadsOf x0 x1 x2 x3 x4 x5) (headOf k0_pay3) :=
    funext fun n => (walk_fst _ _ _ _ n).trans (congrArg (fun Z => chain (loadsOf x0 x1 x2 x3 x4 x5) Z n) hS)
  unfold walkA
  rw [loads_eq, e]

/-- The state after the first step, head by head. -/
theorem soutA (c : Dev nD) (i : grid0.Coords) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg7 : Memref sig .tc .vmem S4x512x128 .f32) (harg7 : arg7.IsWhole) (arg8 : Memref sig .tc .vmem S8x4x128x128 .f32) (harg8 : arg8.IsWhole) (arg9 : Memref sig .tc .vmem S4x128x128 .f32) (harg9 : arg9.IsWhole) (hc0 : cond0_0 i)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (h : Fin 4) :
    headOf (sout0_A_0 c i arg1 harg1 arg2 harg2 arg3 harg3 arg4 harg4 arg5 harg5 arg6 harg6 arg7 harg7 arg8 harg8 arg9 harg9 hc0 x0 x1 x2 x3 x4 x5) h = chain (loadsOf x0 x1 x2 x3 x4 x5) (headOf k0_pay3) 8 h := by
  unfold sout0_A_0
  rw [runA_s]
  have hS : (fun h => arg9.view.readCov (kernelRun0_A.sl.HS0_1 (F := F)) (headRect h).toLoadRect : Fin 4 → Vec F S1x128x128 .f32) = (headOf k0_pay3) := funext fun h => readCov_zero arg9.view h
  refine (headOf_stores _ _ _ _ VS0_0 h).trans ?_
  rw [loads_eq]
  refine congrArg (next (loadsOf x0 x1 x2 x3 x4 x5) (chunkAt 7) h) (congrFun ?_ h)
  exact (walk_fst _ _ _ _ 7).trans (congrArg (fun Z => chain (loadsOf x0 x1 x2 x3 x4 x5) Z 7) hS)

/-- The first output's block after a later step. -/
theorem outB_6 (c : Dev nD) (i : grid0.Coords) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg7 : Memref sig .tc .vmem S4x512x128 .f32) (harg7 : arg7.IsWhole) (arg8 : Memref sig .tc .vmem S8x4x128x128 .f32) (harg8 : arg8.IsWhole) (arg9 : Memref sig .tc .vmem S4x128x128 .f32) (harg9 : arg9.IsWhole) (hc0 : ¬cond0_0 i)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    out0_B_6 c i arg1 harg1 arg2 harg2 arg3 harg3 arg4 harg4 arg5 harg5 arg6 harg6 arg7 harg7 arg8 harg8 arg9 harg9 hc0 x0 x1 x2 x3 x4 x5 xs0 = block6 (loadsOf x0 x1 x2 x3 x4 x5) (chain (loadsOf x0 x1 x2 x3 x4 x5) (headOf xs0)) := by
  unfold out0_B_6
  rw [View.read_writes_junk_eq_canon, runB_6, canon_out6]
  have hS : (fun h => View.readAt (Elt F) arg9.view (headRect h).toLoadRect (harg9.unread xs0) : Fin 4 → Vec F S1x128x128 .f32) = (headOf xs0) := funext fun h => by rw [View.readAt_eq_ld, harg9.read_unread]; rfl
  have e : (fun n => (walk (loadsOf x0 x1 x2 x3 x4 x5) arg9 (fun h => View.readAt (Elt F) arg9.view (headRect h).toLoadRect (harg9.unread xs0)) [] n).1) = chain (loadsOf x0 x1 x2 x3 x4 x5) (headOf xs0) :=
    funext fun n => (walk_fst _ _ _ _ n).trans (congrArg (fun Z => chain (loadsOf x0 x1 x2 x3 x4 x5) Z n) hS)
  unfold walkB
  rw [loads_eq, e]

/-- The second output's block after a later step. -/
theorem outB_7 (c : Dev nD) (i : grid0.Coords) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg7 : Memref sig .tc .vmem S4x512x128 .f32) (harg7 : arg7.IsWhole) (arg8 : Memref sig .tc .vmem S8x4x128x128 .f32) (harg8 : arg8.IsWhole) (arg9 : Memref sig .tc .vmem S4x128x128 .f32) (harg9 : arg9.IsWhole) (hc0 : ¬cond0_0 i)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) :
    out0_B_7 c i arg1 harg1 arg2 harg2 arg3 harg3 arg4 harg4 arg5 harg5 arg6 harg6 arg7 harg7 arg8 harg8 arg9 harg9 hc0 x0 x1 x2 x3 x4 x5 xs0 = block7 (chain (loadsOf x0 x1 x2 x3 x4 x5) (headOf xs0)) := by
  unfold out0_B_7
  rw [View.read_writes_junk_eq_canon, runB_7, canon_out7]
  have hS : (fun h => View.readAt (Elt F) arg9.view (headRect h).toLoadRect (harg9.unread xs0) : Fin 4 → Vec F S1x128x128 .f32) = (headOf xs0) := funext fun h => by rw [View.readAt_eq_ld, harg9.read_unread]; rfl
  have e : (fun n => (walk (loadsOf x0 x1 x2 x3 x4 x5) arg9 (fun h => View.readAt (Elt F) arg9.view (headRect h).toLoadRect (harg9.unread xs0)) [] n).1) = chain (loadsOf x0 x1 x2 x3 x4 x5) (headOf xs0) :=
    funext fun n => (walk_fst _ _ _ _ n).trans (congrArg (fun Z => chain (loadsOf x0 x1 x2 x3 x4 x5) Z n) hS)
  unfold walkB
  rw [loads_eq, e]

/-- The state after a later step, head by head. -/
theorem soutB (c : Dev nD) (i : grid0.Coords) (arg1 : Memref sig .tc .vmem S4x512x128 .bf16) (harg1 : arg1.IsWhole) (arg2 : Memref sig .tc .vmem S4x512x128 .bf16) (harg2 : arg2.IsWhole) (arg3 : Memref sig .tc .vmem S4x512x128 .bf16) (harg3 : arg3.IsWhole) (arg4 : Memref sig .tc .vmem S8x4x64x64 .bf16) (harg4 : arg4.IsWhole) (arg5 : Memref sig .tc .vmem S4x512x128 .f32) (harg5 : arg5.IsWhole) (arg6 : Memref sig .tc .vmem S4x512x128 .f32) (harg6 : arg6.IsWhole) (arg7 : Memref sig .tc .vmem S4x512x128 .f32) (harg7 : arg7.IsWhole) (arg8 : Memref sig .tc .vmem S8x4x128x128 .f32) (harg8 : arg8.IsWhole) (arg9 : Memref sig .tc .vmem S4x128x128 .f32) (harg9 : arg9.IsWhole) (hc0 : ¬cond0_0 i)
    (x0 : Vec F S4x512x128 .bf16) (x1 : Vec F S4x512x128 .bf16) (x2 : Vec F S4x512x128 .bf16) (x3 : Vec F S8x4x64x64 .bf16) (x4 : Vec F S4x512x128 .f32) (x5 : Vec F S4x512x128 .f32) (xs0 : Vec F S4x128x128 .f32) (h : Fin 4) :
    headOf (sout0_B_0 c i arg1 harg1 arg2 harg2 arg3 harg3 arg4 harg4 arg5 harg5 arg6 harg6 arg7 harg7 arg8 harg8 arg9 harg9 hc0 x0 x1 x2 x3 x4 x5 xs0) h = chain (loadsOf x0 x1 x2 x3 x4 x5) (headOf xs0) 8 h := by
  unfold sout0_B_0
  rw [runB_s]
  have hS : (fun h => View.readAt (Elt F) arg9.view (headRect h).toLoadRect (harg9.unread xs0) : Fin 4 → Vec F S1x128x128 .f32) = (headOf xs0) := funext fun h => by rw [View.readAt_eq_ld, harg9.read_unread]; rfl
  refine (headOf_stores _ _ _ _ VS0_0 h).trans ?_
  rw [loads_eq]
  refine congrArg (next (loadsOf x0 x1 x2 x3 x4 x5) (chunkAt 7) h) (congrFun ?_ h)
  exact (walk_fst _ _ _ _ 7).trans (congrArg (fun Z => chain (loadsOf x0 x1 x2 x3 x4 x5) Z 7) hS)

end Cert.Block
-- ==== Proof.Arrays.lean ====
module

public import proofs.«01_k».proof.Proof.Cases

/-! The two arrays the kernel leaves, as functions of the six arrays it is given: the state is carried through the 32
    chunks from the last to the first; the first array holds each chunk's `dvn`, the second each chunk's state. -/

@[expose] public section
open Idealize.ShloMosaic Idealize.ShloMosaic.TcCoe Idealize.SL.Sem

namespace Cert.Block
open Cert.KernelIdeal Cert.KernelIdeal.Gen Cert.KernelIdeal.Value

variable {F : FTy → Type} [FloatOps F]

/-- The six arrays the call is given. -/
structure Arrays (F : FTy → Type) [FloatOps F] where
  w : Vec F S4x2048x128 .bf16
  qg : Vec F S4x2048x128 .bf16
  kg : Vec F S4x2048x128 .bf16
  attn : Vec F S32x4x64x64 .bf16
  g : Vec F S4x2048x128 .f32
  dO : Vec F S4x2048x128 .f32

/-- Chunk `j` of the block `b` blocks from the front. -/
def chunkOf (b : Fin 4) (j : Fin 8) : Fin 32 := ⟨8 * b.val + j.val, by omega⟩

/-- The 64 rows of chunk `J` of head `h` of an array. -/
def part {e : EltTy} (a : Vec F S4x2048x128 e) (h : Fin 4) (J : Fin 32) : Vec F S1x64x128 e :=
  fun i => a (ix3 h (⟨64 * J.val + (i 1).val, by have : (i 1).val < 64 := (i 1).isLt; omega⟩ : Fin 2048) (i 2))

/-- The matrix of chunk `J` and head `h` of the attention's array. -/
def partA (a : Vec F S32x4x64x64 .bf16) (J : Fin 32) (h : Fin 4) : Vec F S1x1x64x64 .bf16 :=
  fun i => a (ix4 J h (i 2) (i 3))

/-- The loads of block `b`. -/
noncomputable def Arrays.block (X : Arrays F) (b : Fin 4) : Loads F where
  w h j := part X.w h (chunkOf b j)
  qg h j := part X.qg h (chunkOf b j)
  kg h j := part X.kg h (chunkOf b j)
  attn j h := partA X.attn (chunkOf b j) h
  g h j := part X.g h (chunkOf b j)
  dO h j := part X.dO h (chunkOf b j)

/-- The block a step takes up: it walks the four blocks from the last to the first. -/
def blockAt (t : Nat) : Fin 4 := ⟨3 - t, by omega⟩

/-- The state after `n` chunks, from the last chunk backwards. -/
noncomputable def state (X : Arrays F) : Nat → Fin 4 → Vec F S1x128x128 .f32
  | 0 => headOf k0_pay3
  | n + 1 => fun h => next (X.block (blockAt (n / 8))) (chunkAt (n % 8)) h (state X n h)

/-- Within a step the state is the chain's. -/
theorem chain_state (X : Arrays F) (t : Nat) : ∀ n ≤ 8, chain (X.block (blockAt t)) (state X (8 * t)) n = state X (8 * t + n)
  | 0, _ => rfl
  | n + 1, hn => by
    funext h
    show next (X.block (blockAt t)) (chunkAt n) h (chain (X.block (blockAt t)) (state X (8 * t)) n h)
      = next (X.block (blockAt ((8 * t + n) / 8))) (chunkAt ((8 * t + n) % 8)) h (state X (8 * t + n) h)
    rw [chain_state X t n (by omega), show (8 * t + n) / 8 = t by omega, show (8 * t + n) % 8 = n by omega]

/-- The first array at head `h`, row `r`, column `d`. -/
noncomputable def first (X : Arrays F) (h : Fin 4) (r : Fin 2048) (d : Fin 128) : Elt F .f32 :=
  k0_pay2 (dvn (X.block (⟨r.val / 512, by omega⟩ : Fin 4)) (⟨r.val % 512 / 64, by omega⟩ : Fin 8) h
    (state X (31 - r.val / 64) h)) (ix3 0 (⟨r.val % 64, by omega⟩ : Fin 64) d)

/-- The second array at chunk `j`, head `h`. -/
noncomputable def second (X : Arrays F) (j : Fin 32) (h : Fin 4) (k v : Fin 128) : Elt F .f32 :=
  k0_pay20 (k0_pay4 (state X (31 - j.val) h)) (ix4 0 0 k v)

noncomputable def array6 (X : Arrays F) (i : S4x2048x128.Idx) : Elt F .f32 := first X (i 0) (i 1) (i 2)
noncomputable def array7 (X : Arrays F) (i : S32x4x128x128.Idx) : Elt F .f32 := second X (i 0) (i 1) (i 2) (i 3)

/-- A step's first block is its rows of the first array. -/
theorem block6_first (X : Arrays F) (t : Nat) (ht : t < 4) (h : Fin 4) (r : Fin 512) (d : Fin 128) :
    block6At (X.block (blockAt t)) (chain (X.block (blockAt t)) (state X (8 * t))) h r d
      = first X h (⟨512 * (3 - t) + r.val, by omega⟩ : Fin 2048) d := by
  unfold block6At first
  dsimp only
  have h1 : (⟨(512 * (3 - t) + r.val) / 512, by omega⟩ : Fin 4) = blockAt t := Fin.ext (by
    show (512 * (3 - t) + r.val) / 512 = 3 - t; omega)
  have h2 : (⟨(512 * (3 - t) + r.val) % 512 / 64, by omega⟩ : Fin 8) = (⟨r.val / 64, by omega⟩ : Fin 8) := Fin.ext (by
    show (512 * (3 - t) + r.val) % 512 / 64 = r.val / 64; omega)
  have h3 : (⟨(512 * (3 - t) + r.val) % 64, by omega⟩ : Fin 64) = (⟨r.val % 64, by omega⟩ : Fin 64) := Fin.ext (by
    show (512 * (3 - t) + r.val) % 64 = r.val % 64; omega)
  rw [h1, h2, h3, chain_state X t _ (by omega), show 8 * t + (7 - r.val / 64) = 31 - (512 * (3 - t) + r.val) / 64 by omega]

/-- A step's second block is its chunks of the second array. -/
theorem block7_second (X : Arrays F) (t : Nat) (ht : t < 4) (j : Fin 8) (h : Fin 4) (k v : Fin 128) :
    block7 (chain (X.block (blockAt t)) (state X (8 * t))) (ix4 j h k v)
      = second X (⟨8 * (3 - t) + j.val, by omega⟩ : Fin 32) h k v := by
  show k0_pay20 (k0_pay4 (chain (X.block (blockAt t)) (state X (8 * t)) (7 - j.val) h)) (ix4 0 0 k v)
    = k0_pay20 (k0_pay4 (state X (31 - (8 * (3 - t) + j.val)) h)) (ix4 0 0 k v)
  rw [chain_state X t _ (by omega), show 8 * t + (7 - j.val) = 31 - (8 * (3 - t) + j.val) by omega]

variable (m : (ℓ : Loc nD τ sig) → Buf (Elt F) ℓ) (ρ : Dev nD → PrngReg)

/-- The six arrays as the call finds them. -/
noncomputable def entry (c : Dev nD) : Arrays F where
  w := V m c main_v22
  qg := V m c main_v6
  kg := V m c main_v15
  attn := V m c main_v18
  g := V m c main_v20
  dO := V m c main_v24

theorem idx0 : ∀ t : Fin cfg0.N, win0_0.index t (0 : Fin 3) = 0 ∧ win0_0.index t (1 : Fin 3) = 3 - t.val ∧ win0_0.index t (2 : Fin 3) = 0 :=
  (by decide +kernel : ∀ t : Fin grid0.N, _)
theorem idx1 : ∀ t : Fin cfg0.N, win0_1.index t (0 : Fin 3) = 0 ∧ win0_1.index t (1 : Fin 3) = 3 - t.val ∧ win0_1.index t (2 : Fin 3) = 0 :=
  (by decide +kernel : ∀ t : Fin grid0.N, _)
theorem idx2 : ∀ t : Fin cfg0.N, win0_2.index t (0 : Fin 3) = 0 ∧ win0_2.index t (1 : Fin 3) = 3 - t.val ∧ win0_2.index t (2 : Fin 3) = 0 :=
  (by decide +kernel : ∀ t : Fin grid0.N, _)
theorem idx4 : ∀ t : Fin cfg0.N, win0_4.index t (0 : Fin 3) = 0 ∧ win0_4.index t (1 : Fin 3) = 3 - t.val ∧ win0_4.index t (2 : Fin 3) = 0 :=
  (by decide +kernel : ∀ t : Fin grid0.N, _)
theorem idx5 : ∀ t : Fin cfg0.N, win0_5.index t (0 : Fin 3) = 0 ∧ win0_5.index t (1 : Fin 3) = 3 - t.val ∧ win0_5.index t (2 : Fin 3) = 0 :=
  (by decide +kernel : ∀ t : Fin grid0.N, _)
theorem idx6 : ∀ t : Fin cfg0.N, win0_6.index t (0 : Fin 3) = 0 ∧ win0_6.index t (1 : Fin 3) = 3 - t.val ∧ win0_6.index t (2 : Fin 3) = 0 :=
  (by decide +kernel : ∀ t : Fin grid0.N, _)
theorem idx3 : ∀ t : Fin cfg0.N, win0_3.index t (0 : Fin 4) = 3 - t.val ∧ win0_3.index t (1 : Fin 4) = 0 ∧ win0_3.index t (2 : Fin 4) = 0 ∧ win0_3.index t (3 : Fin 4) = 0 :=
  (by decide +kernel : ∀ t : Fin grid0.N, _)
theorem idx7 : ∀ t : Fin cfg0.N, win0_7.index t (0 : Fin 4) = 3 - t.val ∧ win0_7.index t (1 : Fin 4) = 0 ∧ win0_7.index t (2 : Fin 4) = 0 ∧ win0_7.index t (3 : Fin 4) = 0 :=
  (by decide +kernel : ∀ t : Fin grid0.N, _)

theorem emb0 (t : Fin cfg0.N) (h : Fin 4) (r : Fin 512) (d : Fin 128) : ((cfg0.win 0).blk t).view.emb (ix3 h r d) = ix3 h (⟨512 * (3 - t.val) + r.val, by omega⟩ : Fin 2048) d := by
  obtain ⟨e0, e1, e2⟩ := idx0 t
  funext a; apply Fin.ext
  match a with
  | ⟨0, _⟩ => show win0_0.index t (0 : Fin 3) * 4 + 1 * h.val = h.val; omega
  | ⟨1, _⟩ => show win0_0.index t (1 : Fin 3) * 512 + 1 * r.val = 512 * (3 - t.val) + r.val; omega
  | ⟨2, _⟩ => show win0_0.index t (2 : Fin 3) * 128 + 1 * d.val = d.val; omega

theorem emb1 (t : Fin cfg0.N) (h : Fin 4) (r : Fin 512) (d : Fin 128) : ((cfg0.win 1).blk t).view.emb (ix3 h r d) = ix3 h (⟨512 * (3 - t.val) + r.val, by omega⟩ : Fin 2048) d := by
  obtain ⟨e0, e1, e2⟩ := idx1 t
  funext a; apply Fin.ext
  match a with
  | ⟨0, _⟩ => show win0_1.index t (0 : Fin 3) * 4 + 1 * h.val = h.val; omega
  | ⟨1, _⟩ => show win0_1.index t (1 : Fin 3) * 512 + 1 * r.val = 512 * (3 - t.val) + r.val; omega
  | ⟨2, _⟩ => show win0_1.index t (2 : Fin 3) * 128 + 1 * d.val = d.val; omega

theorem emb2 (t : Fin cfg0.N) (h : Fin 4) (r : Fin 512) (d : Fin 128) : ((cfg0.win 2).blk t).view.emb (ix3 h r d) = ix3 h (⟨512 * (3 - t.val) + r.val, by omega⟩ : Fin 2048) d := by
  obtain ⟨e0, e1, e2⟩ := idx2 t
  funext a; apply Fin.ext
  match a with
  | ⟨0, _⟩ => show win0_2.index t (0 : Fin 3) * 4 + 1 * h.val = h.val; omega
  | ⟨1, _⟩ => show win0_2.index t (1 : Fin 3) * 512 + 1 * r.val = 512 * (3 - t.val) + r.val; omega
  | ⟨2, _⟩ => show win0_2.index t (2 : Fin 3) * 128 + 1 * d.val = d.val; omega

theorem emb4 (t : Fin cfg0.N) (h : Fin 4) (r : Fin 512) (d : Fin 128) : ((cfg0.win 4).blk t).view.emb (ix3 h r d) = ix3 h (⟨512 * (3 - t.val) + r.val, by omega⟩ : Fin 2048) d := by
  obtain ⟨e0, e1, e2⟩ := idx4 t
  funext a; apply Fin.ext
  match a with
  | ⟨0, _⟩ => show win0_4.index t (0 : Fin 3) * 4 + 1 * h.val = h.val; omega
  | ⟨1, _⟩ => show win0_4.index t (1 : Fin 3) * 512 + 1 * r.val = 512 * (3 - t.val) + r.val; omega
  | ⟨2, _⟩ => show win0_4.index t (2 : Fin 3) * 128 + 1 * d.val = d.val; omega

theorem emb5 (t : Fin cfg0.N) (h : Fin 4) (r : Fin 512) (d : Fin 128) : ((cfg0.win 5).blk t).view.emb (ix3 h r d) = ix3 h (⟨512 * (3 - t.val) + r.val, by omega⟩ : Fin 2048) d := by
  obtain ⟨e0, e1, e2⟩ := idx5 t
  funext a; apply Fin.ext
  match a with
  | ⟨0, _⟩ => show win0_5.index t (0 : Fin 3) * 4 + 1 * h.val = h.val; omega
  | ⟨1, _⟩ => show win0_5.index t (1 : Fin 3) * 512 + 1 * r.val = 512 * (3 - t.val) + r.val; omega
  | ⟨2, _⟩ => show win0_5.index t (2 : Fin 3) * 128 + 1 * d.val = d.val; omega

theorem emb6 (t : Fin cfg0.N) (h : Fin 4) (r : Fin 512) (d : Fin 128) : ((cfg0.win 6).blk t).view.emb (ix3 h r d) = ix3 h (⟨512 * (3 - t.val) + r.val, by omega⟩ : Fin 2048) d := by
  obtain ⟨e0, e1, e2⟩ := idx6 t
  funext a; apply Fin.ext
  match a with
  | ⟨0, _⟩ => show win0_6.index t (0 : Fin 3) * 4 + 1 * h.val = h.val; omega
  | ⟨1, _⟩ => show win0_6.index t (1 : Fin 3) * 512 + 1 * r.val = 512 * (3 - t.val) + r.val; omega
  | ⟨2, _⟩ => show win0_6.index t (2 : Fin 3) * 128 + 1 * d.val = d.val; omega

theorem emb3 (t : Fin cfg0.N) (j : Fin 8) (h : Fin 4) (r d : Fin 64) : ((cfg0.win 3).blk t).view.emb (ix4 j h r d) = ix4 (⟨8 * (3 - t.val) + j.val, by omega⟩ : Fin 32) h r d := by
  obtain ⟨e0, e1, e2, e3⟩ := idx3 t
  funext a; apply Fin.ext
  match a with
  | ⟨0, _⟩ => show win0_3.index t (0 : Fin 4) * 8 + 1 * j.val = 8 * (3 - t.val) + j.val; omega
  | ⟨1, _⟩ => show win0_3.index t (1 : Fin 4) * 4 + 1 * h.val = h.val; omega
  | ⟨2, _⟩ => show win0_3.index t (2 : Fin 4) * 64 + 1 * r.val = r.val; omega
  | ⟨3, _⟩ => show win0_3.index t (3 : Fin 4) * 64 + 1 * d.val = d.val; omega

theorem emb7 (t : Fin cfg0.N) (j : Fin 8) (h : Fin 4) (r d : Fin 128) : ((cfg0.win 7).blk t).view.emb (ix4 j h r d) = ix4 (⟨8 * (3 - t.val) + j.val, by omega⟩ : Fin 32) h r d := by
  obtain ⟨e0, e1, e2, e3⟩ := idx7 t
  funext a; apply Fin.ext
  match a with
  | ⟨0, _⟩ => show win0_7.index t (0 : Fin 4) * 8 + 1 * j.val = 8 * (3 - t.val) + j.val; omega
  | ⟨1, _⟩ => show win0_7.index t (1 : Fin 4) * 4 + 1 * h.val = h.val; omega
  | ⟨2, _⟩ => show win0_7.index t (2 : Fin 4) * 128 + 1 * r.val = r.val; omega
  | ⟨3, _⟩ => show win0_7.index t (3 : Fin 4) * 128 + 1 * d.val = d.val; omega

theorem load0 (c : Dev nD) (t : Fin cfg0.N) (h : Fin 4) (j : Fin 8) :
    (fun i => iblk m c 0 t ((rowsRect h j).emb i)) = part (entry m c).w h (chunkOf (blockAt t.val) j) := by
  funext i
  obtain ⟨z, r, d, rfl⟩ : ∃ (z : Fin 1) (r : Fin 64) (d : Fin 128), i = ix3 z r d :=
    ⟨i 0, i 1, i 2, funext fun a => by match a with | ⟨0, _⟩ => rfl | ⟨1, _⟩ => rfl | ⟨2, _⟩ => rfl⟩
  obtain rfl : z = 0 := Subsingleton.elim _ _
  show V m c main_v22 (((cfg0.win 0).blk t).view.emb ((rowsRect h j).emb (ix3 0 r d))) = V m c main_v22 (ix3 h (⟨64 * (8 * (3 - t.val) + j.val) + r.val, _⟩ : Fin 2048) d)
  refine congrArg (V m c main_v22) ?_
  rw [rowsRect_emb]
  refine (emb0 t h _ d).trans (congrArg (fun r => ix3 h r d) (Fin.ext ?_))
  show 512 * (3 - t.val) + (64 * j.val + r.val) = 64 * (8 * (3 - t.val) + j.val) + r.val
  omega

theorem load1 (c : Dev nD) (t : Fin cfg0.N) (h : Fin 4) (j : Fin 8) :
    (fun i => iblk m c 1 t ((rowsRect h j).emb i)) = part (entry m c).qg h (chunkOf (blockAt t.val) j) := by
  funext i
  obtain ⟨z, r, d, rfl⟩ : ∃ (z : Fin 1) (r : Fin 64) (d : Fin 128), i = ix3 z r d :=
    ⟨i 0, i 1, i 2, funext fun a => by match a with | ⟨0, _⟩ => rfl | ⟨1, _⟩ => rfl | ⟨2, _⟩ => rfl⟩
  obtain rfl : z = 0 := Subsingleton.elim _ _
  show V m c main_v6 (((cfg0.win 1).blk t).view.emb ((rowsRect h j).emb (ix3 0 r d))) = V m c main_v6 (ix3 h (⟨64 * (8 * (3 - t.val) + j.val) + r.val, _⟩ : Fin 2048) d)
  refine congrArg (V m c main_v6) ?_
  rw [rowsRect_emb]
  refine (emb1 t h _ d).trans (congrArg (fun r => ix3 h r d) (Fin.ext ?_))
  show 512 * (3 - t.val) + (64 * j.val + r.val) = 64 * (8 * (3 - t.val) + j.val) + r.val
  omega

theorem load2 (c : Dev nD) (t : Fin cfg0.N) (h : Fin 4) (j : Fin 8) :
    (fun i => iblk m c 2 t ((rowsRect h j).emb i)) = part (entry m c).kg h (chunkOf (blockAt t.val) j) := by
  funext i
  obtain ⟨z, r, d, rfl⟩ : ∃ (z : Fin 1) (r : Fin 64) (d : Fin 128), i = ix3 z r d :=
    ⟨i 0, i 1, i 2, funext fun a => by match a with | ⟨0, _⟩ => rfl | ⟨1, _⟩ => rfl | ⟨2, _⟩ => rfl⟩
  obtain rfl : z = 0 := Subsingleton.elim _ _
  show V m c main_v15 (((cfg0.win 2).blk t).view.emb ((rowsRect h j).emb (ix3 0 r d))) = V m c main_v15 (ix3 h (⟨64 * (8 * (3 - t.val) + j.val) + r.val, _⟩ : Fin 2048) d)
  refine congrArg (V m c main_v15) ?_
  rw [rowsRect_emb]
  refine (emb2 t h _ d).trans (congrArg (fun r => ix3 h r d) (Fin.ext ?_))
  show 512 * (3 - t.val) + (64 * j.val + r.val) = 64 * (8 * (3 - t.val) + j.val) + r.val
  omega

theorem load4 (c : Dev nD) (t : Fin cfg0.N) (h : Fin 4) (j : Fin 8) :
    (fun i => iblk m c 4 t ((rowsRect h j).emb i)) = part (entry m c).g h (chunkOf (blockAt t.val) j) := by
  funext i
  obtain ⟨z, r, d, rfl⟩ : ∃ (z : Fin 1) (r : Fin 64) (d : Fin 128), i = ix3 z r d :=
    ⟨i 0, i 1, i 2, funext fun a => by match a with | ⟨0, _⟩ => rfl | ⟨1, _⟩ => rfl | ⟨2, _⟩ => rfl⟩
  obtain rfl : z = 0 := Subsingleton.elim _ _
  show V m c main_v20 (((cfg0.win 4).blk t).view.emb ((rowsRect h j).emb (ix3 0 r d))) = V m c main_v20 (ix3 h (⟨64 * (8 * (3 - t.val) + j.val) + r.val, _⟩ : Fin 2048) d)
  refine congrArg (V m c main_v20) ?_
  rw [rowsRect_emb]
  refine (emb4 t h _ d).trans (congrArg (fun r => ix3 h r d) (Fin.ext ?_))
  show 512 * (3 - t.val) + (64 * j.val + r.val) = 64 * (8 * (3 - t.val) + j.val) + r.val
  omega

theorem load5 (c : Dev nD) (t : Fin cfg0.N) (h : Fin 4) (j : Fin 8) :
    (fun i => iblk m c 5 t ((rowsRect h j).emb i)) = part (entry m c).dO h (chunkOf (blockAt t.val) j) := by
  funext i
  obtain ⟨z, r, d, rfl⟩ : ∃ (z : Fin 1) (r : Fin 64) (d : Fin 128), i = ix3 z r d :=
    ⟨i 0, i 1, i 2, funext fun a => by match a with | ⟨0, _⟩ => rfl | ⟨1, _⟩ => rfl | ⟨2, _⟩ => rfl⟩
  obtain rfl : z = 0 := Subsingleton.elim _ _
  show V m c main_v24 (((cfg0.win 5).blk t).view.emb ((rowsRect h j).emb (ix3 0 r d))) = V m c main_v24 (ix3 h (⟨64 * (8 * (3 - t.val) + j.val) + r.val, _⟩ : Fin 2048) d)
  refine congrArg (V m c main_v24) ?_
  rw [rowsRect_emb]
  refine (emb5 t h _ d).trans (congrArg (fun r => ix3 h r d) (Fin.ext ?_))
  show 512 * (3 - t.val) + (64 * j.val + r.val) = 64 * (8 * (3 - t.val) + j.val) + r.val
  omega

theorem load3 (c : Dev nD) (t : Fin cfg0.N) (j : Fin 8) (h : Fin 4) :
    (fun i => iblk m c 3 t ((attnRect j h).emb i)) = partA (entry m c).attn (chunkOf (blockAt t.val) j) h := by
  funext i
  obtain ⟨z, z', r, d, rfl⟩ : ∃ (z z' : Fin 1) (r d : Fin 64), i = ix4 z z' r d :=
    ⟨i 0, i 1, i 2, i 3, funext fun a => by
      match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  show V m c main_v18 (((cfg0.win 3).blk t).view.emb ((attnRect j h).emb (ix4 0 0 r d))) = V m c main_v18 (ix4 (chunkOf (blockAt t.val) j) h r d)
  refine congrArg (V m c main_v18) ?_
  rw [attnRect_emb]
  exact emb3 t j h r d

/-- Loads that agree field by field are equal. -/
theorem Loads.congr {L L' : Loads F} (h0 : L.w = L'.w) (h1 : L.qg = L'.qg) (h2 : L.kg = L'.kg) (h3 : L.attn = L'.attn)
    (h4 : L.g = L'.g) (h5 : L.dO = L'.dO) : L = L' := by
  cases L; cases L'; dsimp only at h0 h1 h2 h3 h4 h5; subst h0 h1 h2 h3 h4 h5; rfl

/-- A step's loads are its block's of the arrays. -/
theorem loadsOf_block (c : Dev nD) (t : Fin cfg0.N) :
    loadsOf (iblk m c 0 t) (iblk m c 1 t) (iblk m c 2 t) (iblk m c 3 t) (iblk m c 4 t) (iblk m c 5 t) = (entry m c).block (blockAt t.val) := by
  have h0 := fun h j => load0 m c t h j
  have h1 := fun h j => load1 m c t h j
  have h2 := fun h j => load2 m c t h j
  have h3 := fun j h => load3 m c t j h
  have h4 := fun h j => load4 m c t h j
  have h5 := fun h j => load5 m c t h j
  generalize iblk m c 0 t = x0 at *
  generalize iblk m c 1 t = x1 at *
  generalize iblk m c 2 t = x2 at *
  generalize iblk m c 3 t = x3 at *
  generalize iblk m c 4 t = x4 at *
  generalize iblk m c 5 t = x5 at *
  generalize entry m c = X at *
  exact Loads.congr (L := loadsOf x0 x1 x2 x3 x4 x5) (L' := X.block (blockAt t.val))
    (funext fun h => funext fun j => h0 h j) (funext fun h => funext fun j => h1 h j)
    (funext fun h => funext fun j => h2 h j) (funext fun j => funext fun h => h3 j h)
    (funext fun h => funext fun j => h4 h j) (funext fun h => funext fun j => h5 h j)

/-- The state each step leaves. -/
theorem state_after (c : Dev nD) : ∀ (n : Nat) (hn : n < cfg0.N), headOf (outsAt0 m c n hn).2.2 = state (entry m c) (8 * n + 8)
  | 0, hn => by
    funext h
    rw [outsAt0_A m c ⟨0, hn⟩ rfl]
    dsimp only
    rw [soutA, loadsOf_block]
    exact congrFun (chain_state (entry m c) 0 8 le_rfl) h
  | n + 1, hn => by
    have h4 : n + 1 < 4 := lt_of_lt_of_eq hn N_0
    funext h
    rw [outsAt0_B m c ⟨n + 1, hn⟩ (by show ¬ (n + 1) % 4 = 0; omega)]
    dsimp only
    rw [soutB, loadsOf_block]
    have e := state_after c n (by omega)
    show chain _ (headOf (outsAt0 m c n _).2.2) 8 h = _
    rw [e]
    exact congrFun (chain_state (entry m c) (n + 1) 8 le_rfl) h

/-- What each step leaves in output 1's block. -/
theorem left6 (c : Dev nD) (t : Fin cfg0.N) :
    (outsAt0 m c t.val t.isLt).1 = block6 ((entry m c).block (blockAt t.val)) (chain ((entry m c).block (blockAt t.val)) (state (entry m c) (8 * t.val))) := by
  obtain ⟨n, hn⟩ := t
  match n, hn with
  | 0, hn =>
    rw [outsAt0_A m c ⟨0, hn⟩ rfl]
    dsimp only
    rw [outA_6, loadsOf_block]
    rfl
  | n + 1, hn =>
    have h4 : n + 1 < 4 := lt_of_lt_of_eq hn N_0
    rw [outsAt0_B m c ⟨n + 1, hn⟩ (by show ¬ (n + 1) % 4 = 0; omega)]
    dsimp only
    rw [outB_6, loadsOf_block]
    have e := state_after m c n (by omega)
    show block6 ((entry m c).block (blockAt (n + 1))) (chain _ (headOf (outsAt0 m c n _).2.2)) = _
    rw [e]
    rfl

/-- What each step leaves in output 2's block. -/
theorem left7 (c : Dev nD) (t : Fin cfg0.N) :
    (outsAt0 m c t.val t.isLt).2.1 = block7 (chain ((entry m c).block (blockAt t.val)) (state (entry m c) (8 * t.val))) := by
  obtain ⟨n, hn⟩ := t
  match n, hn with
  | 0, hn =>
    rw [outsAt0_A m c ⟨0, hn⟩ rfl]
    dsimp only
    rw [outA_7, loadsOf_block]
    rfl
  | n + 1, hn =>
    have h4 : n + 1 < 4 := lt_of_lt_of_eq hn N_0
    rw [outsAt0_B m c ⟨n + 1, hn⟩ (by show ¬ (n + 1) % 4 = 0; omega)]
    dsimp only
    rw [outB_7, loadsOf_block]
    have e := state_after m c n (by omega)
    show block7 (chain _ (headOf (outsAt0 m c n _).2.2)) = _
    rw [e]
    rfl

/-- What a step writes back to the first array is its block of `array6`. -/
theorem flushed6_eq (c : Dev nD) (t : Fin cfg0.N) :
    (dats m 0 c).flushed 6 t = ((cfg0.win 6).blk t).view.read (Elt F) (array6 (entry m c)) := by
  have h4 : t.val < 4 := lt_of_lt_of_eq t.isLt N_0
  rw [flushed6, left6]
  funext j
  obtain ⟨h, r, d, rfl⟩ : ∃ (h : Fin 4) (r : Fin 512) (d : Fin 128), j = ix3 h r d :=
    ⟨j 0, j 1, j 2, funext fun a => by match a with | ⟨0, _⟩ => rfl | ⟨1, _⟩ => rfl | ⟨2, _⟩ => rfl⟩
  show block6At _ _ h r d = array6 (entry m c) (((cfg0.win 6).blk t).view.emb (ix3 h r d))
  rw [emb6]
  exact block6_first (entry m c) t.val h4 h r d

/-- What a step writes back to the second array is its block of `array7`. -/
theorem flushed7_eq (c : Dev nD) (t : Fin cfg0.N) :
    (dats m 0 c).flushed 7 t = ((cfg0.win 7).blk t).view.read (Elt F) (array7 (entry m c)) := by
  have h4 : t.val < 4 := lt_of_lt_of_eq t.isLt N_0
  rw [flushed7, left7]
  funext j
  obtain ⟨a, h, r, d, rfl⟩ : ∃ (a : Fin 8) (h : Fin 4) (r : Fin 128) (d : Fin 128), j = ix4 a h r d :=
    ⟨j 0, j 1, j 2, j 3, funext fun a => by
      match a with | ⟨0, _⟩ => rfl | ⟨1, _⟩ => rfl | ⟨2, _⟩ => rfl | ⟨3, _⟩ => rfl⟩
  show block7 _ (ix4 a h r d) = array7 (entry m c) (((cfg0.win 7).blk t).view.emb (ix4 a h r d))
  rw [emb7]
  exact block7_second (entry m c) t.val h4 a h r d

/-- Every index of the first array is in some step's block. -/
theorem covered6 (i : S4x2048x128.Idx) : ∃ t : Fin cfg0.N, (cfg0.win 6).flush t = true ∧ i ∈ ((cfg0.win 6).blk t).view.set := by
  have hr : (i 1).val < 2048 := (i 1).isLt
  have ht : 3 - (i 1).val / 512 < cfg0.N := lt_of_lt_of_eq (by omega : _ < 4) N_0.symm
  refine ⟨⟨3 - (i 1).val / 512, ht⟩, flush0_6 _, ?_⟩
  have e := ((cfg0.win 6).blk ⟨3 - (i 1).val / 512, ht⟩).view.emb_mem_set (ix3 (i 0) (⟨(i 1).val % 512, by omega⟩ : Fin 512) (i 2))
  rw [show ((cfg0.win 6).blk ⟨3 - (i 1).val / 512, ht⟩).view.emb (ix3 (i 0) (⟨(i 1).val % 512, by omega⟩ : Fin 512) (i 2)) = i from
    (emb6 _ _ _ _).trans (funext fun a => Fin.ext (by
      match a with
      | ⟨0, _⟩ => rfl
      | ⟨1, _⟩ => show 512 * (3 - (3 - (i 1).val / 512)) + (i 1).val % 512 = (i 1).val; omega
      | ⟨2, _⟩ => rfl))] at e
  exact e

theorem covered7 (i : S32x4x128x128.Idx) : ∃ t : Fin cfg0.N, (cfg0.win 7).flush t = true ∧ i ∈ ((cfg0.win 7).blk t).view.set := by
  have hr : (i 0).val < 32 := (i 0).isLt
  have ht : 3 - (i 0).val / 8 < cfg0.N := lt_of_lt_of_eq (by omega : _ < 4) N_0.symm
  refine ⟨⟨3 - (i 0).val / 8, ht⟩, flush0_7 _, ?_⟩
  have e := ((cfg0.win 7).blk ⟨3 - (i 0).val / 8, ht⟩).view.emb_mem_set (ix4 (⟨(i 0).val % 8, by omega⟩ : Fin 8) (i 1) (i 2) (i 3))
  rw [show ((cfg0.win 7).blk ⟨3 - (i 0).val / 8, ht⟩).view.emb (ix4 (⟨(i 0).val % 8, by omega⟩ : Fin 8) (i 1) (i 2) (i 3)) = i from
    (emb7 _ _ _ _ _).trans (funext fun a => Fin.ext (by
      match a with
      | ⟨0, _⟩ => show 8 * (3 - (3 - (i 0).val / 8)) + (i 0).val % 8 = (i 0).val; omega
      | ⟨1, _⟩ => rfl
      | ⟨2, _⟩ => rfl
      | ⟨3, _⟩ => rfl))] at e
  exact e

/-- The run, with both result arrays as functions of the arrays the call is given. -/
theorem run : θ_run defs (onTc (τ := τ) (main (F := F))) ⟨m, fun _ => 0, ρ⟩ fun r => ∀ c : Dev nD,
      r.2.mem ((c : Thread nD τ).loc main_v25_0) = array6 (entry m c)
      ∧ r.2.mem ((c : Thread nD τ).loc main_v25_1) = array7 (entry m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨(h c).1.trans ((dats m 0 c).arrAt_eq_of_cover 6 (array6 (entry m c)) (fun t _ => flushed6_eq m c t) covered6),
      (h c).2.1.trans ((dats m 0 c).arrAt_eq_of_cover 7 (array7 (entry m c)) (fun t _ => flushed7_eq m c t) covered7),
      (h c).2.2⟩)
    (run_blocks m ρ)

end Cert.Block
-- ==== Proof.Meaning.lean ====
module

public import proofs.«01_k».proof.Proof.Arrays
public import Idealize.ShloMosaic.Lib.Pointwise

/-! The backward scan over extended reals: for one head, a matrix carried from the last chunk to the first; and the
    kernel's two arrays as its values. -/

@[expose] public section
open Idealize.ShloMosaic Idealize.ShloMosaic.TcCoe

namespace Cert.Scan

/-- What one chunk of one head gives the scan: the gradient of its outputs, its attention, its scaled queries and keys,
    its rewriting keys, and its decay (by column of the state). -/
structure Chunk where
  dO : Fin 64 → Fin 128 → EReal
  attn : Fin 64 → Fin 64 → EReal
  qg : Fin 64 → Fin 128 → EReal
  kg : Fin 64 → Fin 128 → EReal
  w : Fin 64 → Fin 128 → EReal
  gate : Fin 128 → EReal

/-- The gradient of the chunk's new values, from the gradient `S` of the state after it. -/
noncomputable def Chunk.dv (D : Chunk) (S : Fin 128 → Fin 128 → EReal) (c : Fin 64) (v : Fin 128) : EReal :=
  (∑ s : Fin 64, D.attn s c * D.dO s v) + ∑ k : Fin 128, D.kg c k * S k v

/-- The gradient of the state before the chunk. -/
noncomputable def Chunk.back (D : Chunk) (S : Fin 128 → Fin 128 → EReal) (k v : Fin 128) : EReal :=
  (∑ c : Fin 64, D.qg c k * D.dO c v) + D.gate v * S k v - ∑ c : Fin 64, D.w c k * D.dv S c v

/-- The gradient of the state after the chunk `n` from the end. -/
noncomputable def scan (D : Fin 32 → Chunk) : ℕ → Fin 128 → Fin 128 → EReal
  | 0 => fun _ _ => 0
  | n + 1 => (D (Fin.rev (Fin.ofNat 32 n))).back (scan D n)

end Cert.Scan

namespace Cert.Block
open Cert.KernelIdeal Cert.KernelIdeal.Gen Cert.Scan

/-- Row `r` of chunk `J`. -/
def rowOf (J : Fin 32) (r : Fin 64) : Fin 2048 := ⟨64 * J.val + r.val, by omega⟩

/-- What the kernel is given for chunk `J` of head `h`. -/
noncomputable def chunk (X : Arrays Ideal) (h : Fin 4) (J : Fin 32) : Chunk where
  dO s v := X.dO (ix3 h (rowOf J s) v)
  attn s c := X.attn (ix4 J h s c)
  qg c k := X.qg (ix3 h (rowOf J c) k)
  kg c k := X.kg (ix3 h (rowOf J c) k)
  w c k := X.w (ix3 h (rowOf J c) k)
  gate v := Ideal.exp (∑ r : Fin 64, X.g (ix3 h (rowOf J r) v))

theorem dvn_at (X : Arrays Ideal) (b : Fin 4) (j : Fin 8) (h : Fin 4) (S : Vec Ideal S1x128x128 .f32) (c : Fin 64) (v : Fin 128) :
    dvn (X.block b) j h S (ix2 c v) = (chunk X h (chunkOf b j)).dv (fun k v => S (ix3 0 k v)) c v := by
  unfold dvn
  pointwise [k0_pay13, k0_pay4, k0_pay12, k0_pay8]
  rfl

theorem next_at (X : Arrays Ideal) (b : Fin 4) (j : Fin 8) (h : Fin 4) (S : Vec Ideal S1x128x128 .f32) (k v : Fin 128) :
    next (X.block b) j h S (ix3 0 k v) = (chunk X h (chunkOf b j)).back (fun k v => S (ix3 0 k v)) k v := by
  unfold next
  pointwise [k0_pay24, k0_pay21, k0_pay4, k0_pay8, k0_pay22, k0_pay23]
  simp only [dvn_at]
  rfl

/-- The state the kernel carries after `n` chunks is the scan's. -/
theorem state_at (X : Arrays Ideal) (h : Fin 4) (k v : Fin 128) : ∀ n ≤ 32, state X n h (ix3 0 k v) = scan (chunk X h) n k v := by
  intro n
  induction n generalizing k v with
  | zero =>
    intro _
    show (k0_pay3 : FVec Ideal S4x128x128 .f32) ((headRect h).emb (ix3 0 k v)) = 0
    pointwise [k0_pay3]
  | succ n ih =>
    intro hn
    show next (X.block (blockAt (n / 8))) (chunkAt (n % 8)) h (state X n h) (ix3 0 k v) = (chunk X h (Fin.rev (Fin.ofNat 32 n))).back (scan (chunk X h) n) k v
    rw [next_at]
    have e : chunkOf (blockAt (n / 8)) (chunkAt (n % 8)) = Fin.rev (Fin.ofNat 32 n) := Fin.ext (by
      show 8 * (3 - n / 8) + (7 - n % 8) = 32 - (n % 32 + 1); omega)
    rw [e]
    exact congrArg (fun S => Chunk.back _ S k v) (funext fun k => funext fun v => ih k v (by omega))

/-- The kernel's first array holds the gradient of each chunk's new values. -/
theorem first_at (X : Arrays Ideal) (h : Fin 4) (J : Fin 32) (c : Fin 64) (v : Fin 128) :
    array6 X (ix3 h (rowOf J c) v) = (chunk X h J).dv (scan (chunk X h) (31 - J.val)) c v := by
  show first X h (rowOf J c) v = _
  unfold first
  pointwise [k0_pay2]
  rw [dvn_at]
  have e : chunkOf (⟨(rowOf J c).val / 512, by omega⟩ : Fin 4) (⟨(rowOf J c).val % 512 / 64, by omega⟩ : Fin 8) = J := Fin.ext (by
    show 8 * ((64 * J.val + c.val) / 512) + (64 * J.val + c.val) % 512 / 64 = J.val; omega)
  have e' : (⟨(rowOf J c).val % 64, by omega⟩ : Fin 64) = c := Fin.ext (by
    show (64 * J.val + c.val) % 64 = c.val; omega)
  have e'' : 31 - (rowOf J c).val / 64 = 31 - J.val := by
    show 31 - (64 * J.val + c.val) / 64 = 31 - J.val; omega
  rw [e, e', e'']
  exact congrArg (fun S => Chunk.dv _ S c v) (funext fun k => funext fun v => state_at X h k v _ (by omega))

/-- The kernel's second array holds the gradient of the state after each chunk. -/
theorem second_at (X : Arrays Ideal) (J : Fin 32) (h : Fin 4) (k v : Fin 128) :
    array7 X (ix4 J h k v) = scan (chunk X h) (31 - J.val) k v := by
  show second X J h k v = _
  unfold second
  pointwise [k0_pay20, k0_pay4]
  exact state_at X h k v _ (by omega)

end Cert.Block
-- ==== Proof.RefStep.lean ====
module

public import proofs.«01_k».proof.Proof.Trip
public import proofs.«01_k».proof.Proof.Meaning
public import Idealize.ShloMosaic.Lib.WordCmp

/-! One trip of the reference's loop over extended reals. -/

@[expose] public section
open Idealize.ShloMosaic Idealize.ShloMosaic.TcCoe

namespace Cert.Trip
open Cert.ReferenceIdeal Cert.ReferenceIdeal.Gen Cert.Scan
open Cert.ReferenceIdeal.Step (State step init)

/-- The chunk the trip `j` works on. -/
theorem chunk_of (s : State Ideal) (j : ℕ) (hj : j < 32) (i : S_.Idx) : (Step.b3 j s i).toInt = ((31 - j : ℕ) : Int) := by
  show (32#32 - BitVec.ofNat 32 j - 1#32).toInt = _
  interval_cases j <;> rfl

/-- A trip's slice of an array of rows by chunk. -/
theorem slice_rows (s : State Ideal) (j : ℕ) (hj : j < 32) (x : Vec Ideal S32x1x4x64x128 .f32) (h : Fin 4) (r : Fin 64) (v : Fin 128) :
    Host.dynamicSlice S1x1x4x64x128 x (fun k => (((![Step.b3 j s, constantI S_ 32 0#32, constantI S_ 32 0#32, constantI S_ 32 0#32, constantI S_ 32 0#32] : Fin 5 → (⟨S_, .i32⟩ : BufTy).Contents (Elt Ideal))) k (Shape.Idx.first h_S_)).toInt) sliceFits_S32x1x4x64x128_S1x1x4x64x128 (ix5 0 0 h r v)
      = x (ix5 (Fin.rev (Fin.ofNat 32 j)) 0 h r v) := by
  refine (congrFun (WordCmp.dynamicSlice_eq_extract S1x1x4x64x128 x _ _ ![31 - j, 0, 0, 0, 0] ⟨rfl, fun a => by
    match a with
    | 0 => show 31 - j + 1 ≤ 32; omega
    | 1 => exact Nat.le_refl 1
    | 2 => exact Nat.le_refl 4
    | 3 => exact Nat.le_refl 64
    | 4 => exact Nat.le_refl 128⟩ (fun a => by
    match a with
    | 0 => exact chunk_of s j hj _
    | 1 => rfl
    | 2 => rfl
    | 3 => rfl
    | 4 => rfl)) _).trans ?_
  pointwise
  exact congrArg (fun J => x (ix5 J 0 h r v)) (Fin.ext (by show 31 - j = 32 - (j % 32 + 1); omega))

/-- A trip's slice of the attention's matrices. -/
theorem slice_mat (s : State Ideal) (j : ℕ) (hj : j < 32) (x : Vec Ideal S32x1x4x64x64 .f32) (h : Fin 4) (r : Fin 64) (c : Fin 64) :
    Host.dynamicSlice S1x1x4x64x64 x (fun k => (((![Step.b3 j s, constantI S_ 32 0#32, constantI S_ 32 0#32, constantI S_ 32 0#32, constantI S_ 32 0#32] : Fin 5 → (⟨S_, .i32⟩ : BufTy).Contents (Elt Ideal))) k (Shape.Idx.first h_S_)).toInt) sliceFits_S32x1x4x64x64_S1x1x4x64x64 (ix5 0 0 h r c)
      = x (ix5 (Fin.rev (Fin.ofNat 32 j)) 0 h r c) := by
  refine (congrFun (WordCmp.dynamicSlice_eq_extract S1x1x4x64x64 x _ _ ![31 - j, 0, 0, 0, 0] ⟨rfl, fun a => by
    match a with
    | 0 => show 31 - j + 1 ≤ 32; omega
    | 1 => exact Nat.le_refl 1
    | 2 => exact Nat.le_refl 4
    | 3 => exact Nat.le_refl 64
    | 4 => exact Nat.le_refl 64⟩ (fun a => by
    match a with
    | 0 => exact chunk_of s j hj _
    | 1 => rfl
    | 2 => rfl
    | 3 => rfl
    | 4 => rfl)) _).trans ?_
  pointwise
  exact congrArg (fun J => x (ix5 J 0 h r c)) (Fin.ext (by show 31 - j = 32 - (j % 32 + 1); omega))

/-- A trip's slice of the gates' running sums. -/
theorem slice_gate (s : State Ideal) (j : ℕ) (hj : j < 32) (x : Vec Ideal S32x1x4x64 .f32) (h : Fin 4) (r : Fin 64) :
    Host.dynamicSlice S1x1x4x64 x (fun k => (((![Step.b3 j s, constantI S_ 32 0#32, constantI S_ 32 0#32, constantI S_ 32 0#32] : Fin 4 → (⟨S_, .i32⟩ : BufTy).Contents (Elt Ideal))) k (Shape.Idx.first h_S_)).toInt) sliceFits_S32x1x4x64_S1x1x4x64 (ix4 0 0 h r)
      = x (ix4 (Fin.rev (Fin.ofNat 32 j)) 0 h r) := by
  refine (congrFun (WordCmp.dynamicSlice_eq_extract S1x1x4x64 x _ _ ![31 - j, 0, 0, 0] ⟨rfl, fun a => by
    match a with
    | 0 => show 31 - j + 1 ≤ 32; omega
    | 1 => exact Nat.le_refl 1
    | 2 => exact Nat.le_refl 4
    | 3 => exact Nat.le_refl 64⟩ (fun a => by
    match a with
    | 0 => exact chunk_of s j hj _
    | 1 => rfl
    | 2 => rfl
    | 3 => rfl)) _).trans ?_
  pointwise
  exact congrArg (fun J => x (ix4 J 0 h r)) (Fin.ext (by show 31 - j = 32 - (j % 32 + 1); omega))

/-- An array of rows after a trip wrote its chunk. -/
theorem put_rows (s : State Ideal) (j : ℕ) (hj : j < 32) (x : Vec Ideal S32x1x4x64x128 .f32) (u : Vec Ideal S1x1x4x64x128 .f32) (J : Fin 32) (h : Fin 4) (r : Fin 64) (v : Fin 128) :
    Host.dynamicUpdateSlice x u (fun k => (((![Step.b3 j s, constantI S_ 32 0#32, constantI S_ 32 0#32, constantI S_ 32 0#32, constantI S_ 32 0#32] : Fin 5 → (⟨S_, .i32⟩ : BufTy).Contents (Elt Ideal))) k (Shape.Idx.first h_S_)).toInt) updateFits_S32x1x4x64x128_S1x1x4x64x128 (ix5 J 0 h r v)
      = if J.val = 31 - j then u (ix5 0 0 h r v) else x (ix5 J 0 h r v) := by
  refine (congrFun (WordCmp.dynamicUpdateSlice_eq_update x u _ _ ![31 - j, 0, 0, 0, 0] ⟨rfl, fun a => by
    match a with
    | 0 => show 31 - j + 1 ≤ 32; omega
    | 1 => exact Nat.le_refl 1
    | 2 => exact Nat.le_refl 4
    | 3 => exact Nat.le_refl 64
    | 4 => exact Nat.le_refl 128⟩ (fun a => by
    match a with
    | 0 => exact chunk_of s j hj _
    | 1 => rfl
    | 2 => rfl
    | 3 => rfl
    | 4 => rfl)) _).trans ?_
  unfold updateSlice
  by_cases e : J.val = 31 - j
  · rw [dif_pos (fun a => by
      match a with
      | 0 => show 31 - j ≤ J.val ∧ J.val < 31 - j + 1; omega
      | 1 => exact ⟨Nat.zero_le _, Nat.zero_lt_one⟩
      | 2 => show 0 ≤ h.val ∧ h.val < 0 + 4; omega
      | 3 => show 0 ≤ r.val ∧ r.val < 0 + 64; omega
      | 4 => show 0 ≤ v.val ∧ v.val < 0 + 128; omega), if_pos e]
    exact congrArg u (funext fun a => Fin.ext (by
      match a with
      | 0 => show J.val - (31 - j) = 0; omega
      | 1 => rfl
      | 2 => rfl
      | 3 => rfl
      | 4 => rfl))
  · rw [dif_neg (fun hin => e (by have h0 : 31 - j ≤ J.val ∧ J.val < 31 - j + 1 := hin 0; omega)), if_neg e]

/-- An array of states after a trip wrote its chunk. -/
theorem put_state (s : State Ideal) (j : ℕ) (hj : j < 32) (x : Vec Ideal S32x1x4x128x128 .f32) (u : Vec Ideal S1x1x4x128x128 .f32) (J : Fin 32) (h : Fin 4) (r : Fin 128) (v : Fin 128) :
    Host.dynamicUpdateSlice x u (fun k => (((![Step.b3 j s, constantI S_ 32 0#32, constantI S_ 32 0#32, constantI S_ 32 0#32, constantI S_ 32 0#32] : Fin 5 → (⟨S_, .i32⟩ : BufTy).Contents (Elt Ideal))) k (Shape.Idx.first h_S_)).toInt) updateFits_S32x1x4x128x128_S1x1x4x128x128 (ix5 J 0 h r v)
      = if J.val = 31 - j then u (ix5 0 0 h r v) else x (ix5 J 0 h r v) := by
  refine (congrFun (WordCmp.dynamicUpdateSlice_eq_update x u _ _ ![31 - j, 0, 0, 0, 0] ⟨rfl, fun a => by
    match a with
    | 0 => show 31 - j + 1 ≤ 32; omega
    | 1 => exact Nat.le_refl 1
    | 2 => exact Nat.le_refl 4
    | 3 => exact Nat.le_refl 128
    | 4 => exact Nat.le_refl 128⟩ (fun a => by
    match a with
    | 0 => exact chunk_of s j hj _
    | 1 => rfl
    | 2 => rfl
    | 3 => rfl
    | 4 => rfl)) _).trans ?_
  unfold updateSlice
  by_cases e : J.val = 31 - j
  · rw [dif_pos (fun a => by
      match a with
      | 0 => show 31 - j ≤ J.val ∧ J.val < 31 - j + 1; omega
      | 1 => exact ⟨Nat.zero_le _, Nat.zero_lt_one⟩
      | 2 => show 0 ≤ h.val ∧ h.val < 0 + 4; omega
      | 3 => show 0 ≤ r.val ∧ r.val < 0 + 128; omega
      | 4 => show 0 ≤ v.val ∧ v.val < 0 + 128; omega), if_pos e]
    exact congrArg u (funext fun a => Fin.ext (by
      match a with
      | 0 => show J.val - (31 - j) = 0; omega
      | 1 => rfl
      | 2 => rfl
      | 3 => rfl
      | 4 => rfl))
  · rw [dif_neg (fun hin => e (by have h0 : 31 - j ≤ J.val ∧ J.val < 31 - j + 1 := hin 0; omega)), if_neg e]

/-- What the loop is given for chunk `J` of head `h`. -/
noncomputable def datum (s : State Ideal) (h : Fin 4) (J : Fin 32) : Chunk where
  dO r v := s.main_v14_0 (ix5 J 0 h r v)
  attn r c := s.main_v14_5 (ix5 J 0 h r c)
  qg r k := s.main_v14_1 (ix5 J 0 h r k) * Ideal.exp (s.main_v14_4 (ix4 J 0 h r))
  kg r k := s.main_v14_2 (ix5 J 0 h r k) * Ideal.exp (s.main_v14_4 (ix4 J 0 h 63) - s.main_v14_4 (ix4 J 0 h r))
  w r k := s.main_v14_3 (ix5 J 0 h r k)
  gate _ := Ideal.exp (s.main_v14_4 (ix4 J 0 h 63))

/-- The carried gradient of head `h`. -/
def carried (s : State Ideal) (h : Fin 4) (k v : Fin 128) : EReal := s.main_v14_7 (ix4 0 h k v)

variable (s : State Ideal) (j : ℕ) (hj : j < 32) (h : Fin 4)
include hj

theorem b9_at (r : Fin 64) (v : Fin 128) : Step.b9 j s (ix4 0 h r v) = (datum s h (Fin.rev (Fin.ofNat 32 j))).dO r v := by
  pointwise [Step.b9]
  exact slice_rows s j hj _ h r v

theorem b15_at (r : Fin 64) (v : Fin 128) : Step.b15 j s (ix4 0 h r v) = s.main_v14_1 (ix5 (Fin.rev (Fin.ofNat 32 j)) 0 h r v) := by
  pointwise [Step.b15]
  exact slice_rows s j hj _ h r v

theorem b21_at (r : Fin 64) (v : Fin 128) : Step.b21 j s (ix4 0 h r v) = s.main_v14_2 (ix5 (Fin.rev (Fin.ofNat 32 j)) 0 h r v) := by
  pointwise [Step.b21]
  exact slice_rows s j hj _ h r v

theorem b27_at (r : Fin 64) (v : Fin 128) : Step.b27 j s (ix4 0 h r v) = (datum s h (Fin.rev (Fin.ofNat 32 j))).w r v := by
  pointwise [Step.b27]
  exact slice_rows s j hj _ h r v

theorem b32_at (r : Fin 64) : Step.b32 j s (ix3 0 h r) = s.main_v14_4 (ix4 (Fin.rev (Fin.ofNat 32 j)) 0 h r) := by
  pointwise [Step.b32]
  exact slice_gate s j hj _ h r

theorem b38_at (r c : Fin 64) : Step.b38 j s (ix4 0 h r c) = (datum s h (Fin.rev (Fin.ofNat 32 j))).attn r c := by
  pointwise [Step.b38]
  exact slice_mat s j hj _ h r c

theorem b42_at (r : Fin 64) (v : Fin 128) : Step.b42 j s (ix4 0 h r v) = (datum s h (Fin.rev (Fin.ofNat 32 j))).qg r v := by
  pointwise [Step.b42, Step.b41, Step.b40, Step.b39]
  rw [b15_at s j hj, b32_at s j hj]
  rfl

theorem b53_at (r : Fin 64) (v : Fin 128) : Step.b53 j s (ix4 0 h r v) = (datum s h (Fin.rev (Fin.ofNat 32 j))).kg r v := by
  pointwise [Step.b53, Step.b52, Step.b51, Step.b50, Step.b49, Step.b48, Step.b47, Step.b44, Step.b43]
  rw [b21_at s j hj, b32_at s j hj, b32_at s j hj]
  rfl

theorem b44_at (v : Fin 128) : Ideal.exp (Step.b44 j s (ix2 0 h)) = (datum s h (Fin.rev (Fin.ofNat 32 j))).gate v := by
  pointwise [Step.b44, Step.b43]
  rw [b32_at s j hj]
  rfl

/-- A trip's gradient of the new values. -/
theorem b60_at (r : Fin 64) (v : Fin 128) :
    Step.b60 j s (ix4 0 h r v) = (datum s h (Fin.rev (Fin.ofNat 32 j))).dv (carried s h) r v := by
  pointwise [Step.b60, Step.b55, Step.b59, Step.b54, Step.b58]
  refine (add_comm _ _).trans (congrArg₂ (· + ·) (Finset.sum_congr rfl fun x _ => ?_) (Finset.sum_congr rfl fun x _ => ?_))
  · rw [b9_at s j hj, b38_at s j hj]
    exact mul_comm _ _
  · rw [b53_at s j hj]
    exact mul_comm _ _

/-- A trip's gradient of the state before its chunk, where it subtracts by adding negatives. -/
theorem b67_at (k v : Fin 128) :
    Step.b67 j s (ix4 0 h k v)
      = ((∑ c : Fin 64, (datum s h (Fin.rev (Fin.ofNat 32 j))).qg c k * (datum s h (Fin.rev (Fin.ofNat 32 j))).dO c v)
        + (datum s h (Fin.rev (Fin.ofNat 32 j))).gate v * carried s h k v)
        + ∑ c : Fin 64, -((datum s h (Fin.rev (Fin.ofNat 32 j))).w c k * (datum s h (Fin.rev (Fin.ofNat 32 j))).dv (carried s h) c v) := by
  pointwise [Step.b67, Step.b63, Step.b57, Step.b62, Step.b61, Step.b66, Step.b65, Step.b64, Step.b56, Step.b46, Step.b45]
  refine congrArg₂ (· + ·) ((add_comm _ _).trans (congrArg₂ (· + ·) (Finset.sum_congr rfl fun x _ => ?_) ?_)) (Finset.sum_congr rfl fun x _ => ?_)
  · rw [b9_at s j hj, b42_at s j hj]
    exact mul_comm _ _
  · rw [b44_at s j hj h v]
    exact mul_comm _ _
  · rw [b60_at s j hj, b27_at s j hj, EReal.neg_mul, mul_comm]

end Cert.Trip
-- ==== Proof.RefScan.lean ====
module

public import proofs.«01_k».proof.Proof.RefStep

/-! The reference's loop over extended reals is the scan, where everything it is given is a real number. -/

@[expose] public section
open Idealize.ShloMosaic Idealize.ShloMosaic.TcCoe

namespace Cert.Scan

/-- An extended real that is a real number. -/
def IsNum (x : EReal) : Prop := ∃ r : ℝ, x = (r : EReal)

theorem IsNum.add {x y : EReal} : IsNum x → IsNum y → IsNum (x + y)
  | ⟨a, ha⟩, ⟨b, hb⟩ => ⟨a + b, by rw [ha, hb, EReal.coe_add]⟩
theorem IsNum.sub {x y : EReal} : IsNum x → IsNum y → IsNum (x - y)
  | ⟨a, ha⟩, ⟨b, hb⟩ => ⟨a - b, by rw [ha, hb, EReal.coe_sub]⟩
theorem IsNum.mul {x y : EReal} : IsNum x → IsNum y → IsNum (x * y)
  | ⟨a, ha⟩, ⟨b, hb⟩ => ⟨a * b, by rw [ha, hb, EReal.coe_mul]⟩
theorem IsNum.zero : IsNum 0 := ⟨0, EReal.coe_zero.symm⟩
theorem IsNum.sum {ι : Type} (t : Finset ι) {f : ι → EReal} (hf : ∀ i, IsNum (f i)) : IsNum (∑ i ∈ t, f i) := by
  classical
  induction t using Finset.induction_on with
  | empty => rw [Finset.sum_empty]; exact IsNum.zero
  | insert a t ha ih => rw [Finset.sum_insert ha]; exact (hf a).add ih

/-- Among numbers, the sum of the negatives is the negative of the sum. -/
theorem sum_neg_num {ι : Type} (t : Finset ι) {f : ι → EReal} (hf : ∀ i, IsNum (f i)) : (∑ i ∈ t, -f i) = -∑ i ∈ t, f i := by
  classical
  induction t using Finset.induction_on with
  | empty => rw [Finset.sum_empty, Finset.sum_empty, neg_zero]
  | insert a t ha ih =>
    rw [Finset.sum_insert ha, Finset.sum_insert ha, ih]
    obtain ⟨x, hx⟩ := hf a
    obtain ⟨y, hy⟩ := IsNum.sum t hf
    rw [hx, hy, ← EReal.coe_neg, ← EReal.coe_neg, ← EReal.coe_add, ← EReal.coe_add, ← EReal.coe_neg, neg_add]

/-- Everything a chunk is given is a number. -/
structure Chunk.Num (D : Chunk) : Prop where
  dO : ∀ s v, IsNum (D.dO s v)
  attn : ∀ s c, IsNum (D.attn s c)
  qg : ∀ c k, IsNum (D.qg c k)
  kg : ∀ c k, IsNum (D.kg c k)
  w : ∀ c k, IsNum (D.w c k)
  gate : ∀ v, IsNum (D.gate v)

theorem Chunk.Num.dv {D : Chunk} (hD : D.Num) {S : Fin 128 → Fin 128 → EReal} (hS : ∀ k v, IsNum (S k v)) (c : Fin 64) (v : Fin 128) :
    IsNum (D.dv S c v) :=
  (IsNum.sum _ fun s => (hD.attn s c).mul (hD.dO s v)).add (IsNum.sum _ fun k => (hD.kg c k).mul (hS k v))

theorem Chunk.Num.back {D : Chunk} (hD : D.Num) {S : Fin 128 → Fin 128 → EReal} (hS : ∀ k v, IsNum (S k v)) (k v : Fin 128) :
    IsNum (D.back S k v) :=
  ((IsNum.sum _ fun c => (hD.qg c k).mul (hD.dO c v)).add ((hD.gate v).mul (hS k v))).sub
    (IsNum.sum _ fun c => (hD.w c k).mul (hD.dv hS c v))

/-- Every state of the scan is a number. -/
theorem scan_num {D : Fin 32 → Chunk} (hD : ∀ J, (D J).Num) : ∀ n k v, IsNum (scan D n k v)
  | 0, _, _ => IsNum.zero
  | n + 1, k, v => (hD _).back (scan_num hD n) k v

end Cert.Scan

namespace Cert.Trip
open Cert.ReferenceIdeal Cert.ReferenceIdeal.Gen Cert.Scan
open Cert.ReferenceIdeal.Step (State step init)

/-- No trip changes what the loop is given. -/
theorem datum_trips (s : State Ideal) (h : Fin 4) (J : Fin 32) : ∀ n, datum (trips s n) h J = datum s h J
  | 0 => rfl
  | n + 1 => datum_trips s h J n

/-- The carried gradient after `n` trips is the scan's. -/
theorem carried_trips (s : State Ideal) (h : Fin 4) (h0 : ∀ k v, carried s h k v = 0) (hs : ∀ J, (datum s h J).Num) :
    ∀ n ≤ 32, carried (trips s n) h = scan (datum s h) n := by
  intro n
  induction n with
  | zero => exact fun _ => funext fun k => funext fun v => h0 k v
  | succ n ih =>
    intro hn
    funext k v
    refine (b67_at (trips s n) n (by omega) h k v).trans ?_
    rw [datum_trips, ih (by omega), sum_neg_num _ fun c => ((hs _).w c k).mul ((hs _).dv (scan_num hs n) c v)]
    rfl

/-- After `n` trips the last `n` chunks hold the gradients of their new values. -/
theorem rows_trips (s : State Ideal) (h : Fin 4) (h0 : ∀ k v, carried s h k v = 0) (hs : ∀ J, (datum s h J).Num) (J : Fin 32) (r : Fin 64) (v : Fin 128) :
    ∀ n ≤ 32, 31 - J.val < n → (trips s n).main_v14_8 (ix5 J 0 h r v) = (datum s h J).dv (scan (datum s h) (31 - J.val)) r v := by
  intro n
  induction n with
  | zero => intro _ hJ; omega
  | succ n ih =>
    intro hn hJ
    refine (put_rows (trips s n) n (by omega) _ _ J h r v).trans ?_
    by_cases e : J.val = 31 - n
    · rw [if_pos e]
      have eJ : Fin.rev (Fin.ofNat 32 n) = J := Fin.ext (by show 32 - (n % 32 + 1) = J.val; omega)
      pointwise [Step.b68]
      rw [b60_at (trips s n) n (by omega), datum_trips, carried_trips s h h0 hs n (by omega), eJ, show 31 - J.val = n by omega]
    · rw [if_neg e]
      exact ih (by omega) (by omega)

/-- After `n` trips the last `n` chunks hold the gradients of the states after them. -/
theorem states_trips (s : State Ideal) (h : Fin 4) (h0 : ∀ k v, carried s h k v = 0) (hs : ∀ J, (datum s h J).Num) (J : Fin 32) (k v : Fin 128) :
    ∀ n ≤ 32, 31 - J.val < n → (trips s n).main_v14_9 (ix5 J 0 h k v) = scan (datum s h) (31 - J.val) k v := by
  intro n
  induction n with
  | zero => intro _ hJ; omega
  | succ n ih =>
    intro hn hJ
    refine (put_state (trips s n) n (by omega) _ _ J h k v).trans ?_
    by_cases e : J.val = 31 - n
    · rw [if_pos e, show 31 - J.val = n by omega, ← carried_trips s h h0 hs n (by omega)]
      pointwise [Step.b74]
      rfl
    · rw [if_neg e]
      exact ih (by omega) (by omega)

/-- The reference's first result at row `r` of chunk `J`. -/
theorem result_rows (s : State Ideal) (h : Fin 4) (h0 : ∀ k v, carried s h k v = 0) (hs : ∀ J, (datum s h J).Num) (J : Fin 32) (r : Fin 64) (v : Fin 128) :
    Step.R_main_v17 (trips s 32) (ix3 h (Cert.Block.rowOf J r) v) = (datum s h J).dv (scan (datum s h) (31 - J.val)) r v := by
  refine Eq.trans ?_ (rows_trips s h h0 hs J r v 32 le_rfl (by omega))
  generalize trips s 32 = t
  pointwise [Step.R_main_v17]
  exact congrArg₂ (fun a b => t.main_v14_8 (ix5 a 0 h b v))
    (Fin.ext (show (64 * J.val + r.val) / 64 = J.val by omega) : (⟨(Cert.Block.rowOf J r).val / 64, _⟩ : Fin 32) = J)
    (Fin.ext (show (64 * J.val + r.val) % 64 = r.val by omega) : (⟨(Cert.Block.rowOf J r).val % 64, _⟩ : Fin 64) = r)

/-- The reference's second result at chunk `J`. -/
theorem result_states (s : State Ideal) (h : Fin 4) (h0 : ∀ k v, carried s h k v = 0) (hs : ∀ J, (datum s h J).Num) (J : Fin 32) (k v : Fin 128) :
    Step.R_main_v19 (trips s 32) (ix4 J h k v) = scan (datum s h) (31 - J.val) k v := by
  refine Eq.trans ?_ (states_trips s h h0 hs J k v 32 le_rfl (by omega))
  generalize trips s 32 = t
  pointwise [Step.R_main_v19]

end Cert.Trip
-- ==== Proof.Prefix.lean ====
module

public import proofs.«01_k».proof.Proof.RefScan

/-! What the two programs' host operations make of the arguments. -/

@[expose] public section
open Idealize.ShloMosaic Idealize.ShloMosaic.TcCoe Idealize.SL.Sem

namespace Cert.Prefix
open Cert.KernelIdeal Cert.KernelIdeal.Gen Cert.KernelIdeal.Value Cert.Scan Cert.Block

/-- The running sums of the gates within each chunk. -/
noncomputable def sums (g : Vec Ideal S1x4x32x64 .f32) : Vec Ideal S1x4x32x64 .f32 :=
  Host.reduceWindowAdd ![1, 1, 1, 64] ![1, 1, 1, 1] ![0, 0, 0, 63] ![0, 0, 0, 0] g
    (broadcastInDim S_ ![] bcast_S_S_ (constant S_ .f32 0x00000000#32) : FVec Ideal S_ .f32)
    reduceWindows_S1x4x32x64_S1x4x32x64_w1s1p0_0_w1s1p0_0_w1s1p0_0_w64s1p63_0 h_S_

theorem zero_at (i : S_.Idx) : (broadcastInDim S_ ![] bcast_S_S_ (constant S_ .f32 0x00000000#32) : FVec Ideal S_ .f32) i = 0 := by
  pointwise

theorem foldl_num {ι : Type} (f : ι → EReal) (hf : ∀ i, IsNum (f i)) : ∀ (l : List ι) (z : EReal), IsNum z → IsNum (l.foldl (fun r n => r + f n) z)
  | [], _, hz => hz
  | a :: l, z, hz => foldl_num f hf l (z + f a) (hz.add (hf a))

theorem foldl_sum {ι : Type} (f : ι → EReal) : ∀ (l : List ι) (z : EReal), l.foldl (fun r n => r + f n) z = z + (l.map f).sum
  | [], z => (add_zero z).symm
  | a :: l, z => by rw [List.foldl_cons, foldl_sum f l, List.map_cons, List.sum_cons, add_assoc]

/-- A running sum of numbers is a number. -/
theorem sums_num (g : Vec Ideal S1x4x32x64 .f32) (hg : ∀ i, IsNum (g i)) (i : S1x4x32x64.Idx) : IsNum (sums g i) := by
  unfold sums
  refine foldl_num _ (fun n => ?_) _ _ ?_
  · dsimp only
    split
    · exact hg _
    · rw [zero_at]; exact IsNum.zero
  · rw [zero_at]; exact IsNum.zero

/-- The position within a window. -/
theorem window_at : ∀ n : Fin 64, (((⟨4, ![1, 1, 1, 64]⟩ : Shape).rowMajor.symm n) 0).val = 0
    ∧ (((⟨4, ![1, 1, 1, 64]⟩ : Shape).rowMajor.symm n) 1).val = 0 ∧ (((⟨4, ![1, 1, 1, 64]⟩ : Shape).rowMajor.symm n) 2).val = 0
    ∧ (((⟨4, ![1, 1, 1, 64]⟩ : Shape).rowMajor.symm n) 3).val = n.val := by
  decide +kernel

/-- The last running sum of a chunk is the sum of its gates. -/
theorem sums_last (g : Vec Ideal S1x4x32x64 .f32) (h : Fin 4) (J : Fin 32) :
    sums g (ix4 0 h J 63) = ∑ r : Fin 64, g (ix4 0 h J r) := by
  unfold sums
  refine (foldl_sum _ _ _).trans ?_
  rw [zero_at, zero_add]
  refine Eq.trans ?_ (List.sum_ofFn (f := fun r : Fin 64 => g (ix4 0 h J r)))
  rw [List.ofFn_eq_map]
  refine congrArg List.sum (List.map_congr_left fun n _ => ?_)
  have hn := window_at n
  refine (dif_pos (fun a => ?_)).trans (congrArg g (funext fun a => Fin.ext ?_))
  · match a with
    | 0 => exact ⟨Nat.zero_le _, by show 0 * 1 + _ - 0 < 1; rw [hn.1]; decide⟩
    | 1 => exact ⟨Nat.zero_le _, by show h.val * 1 + _ - 0 < 4; rw [hn.2.1]; omega⟩
    | 2 => exact ⟨Nat.zero_le _, by show J.val * 1 + _ - 0 < 32; rw [hn.2.2.1]; omega⟩
    | 3 => exact ⟨by show 63 ≤ 63 * 1 + _; omega, by show 63 * 1 + _ - 63 < 64; rw [hn.2.2.2]; omega⟩
  · match a with
    | 0 => show 0 * 1 + _ - 0 = 0; rw [hn.1]
    | 1 => show h.val * 1 + _ - 0 = h.val; rw [hn.2.1]; omega
    | 2 => show J.val * 1 + _ - 0 = J.val; rw [hn.2.2.1]; omega
    | 3 => show 63 * 1 + _ - 63 = n.val; rw [hn.2.2.2]; omega

theorem row_div (J : Fin 32) (r : Fin 64) (p : (rowOf J r).val / 64 < 32) : (⟨(rowOf J r).val / 64, p⟩ : Fin 32) = J :=
  Fin.ext (by show (64 * J.val + r.val) / 64 = J.val; omega)

theorem row_mod (J : Fin 32) (r : Fin 64) (p : (rowOf J r).val % 64 < 64) : (⟨(rowOf J r).val % 64, p⟩ : Fin 64) = r :=
  Fin.ext (by show (64 * J.val + r.val) % 64 = r.val; omega)

/-- A query scaled by the exponential of its row's running sum. -/
noncomputable def scaledQ (q : Vec Ideal S1x4x32x64x128 .f32) (g : Vec Ideal S1x4x32x64 .f32) (h : Fin 4) (J : Fin 32) (r : Fin 64) (d : Fin 128) : EReal :=
  q (ix5 0 h J r d) * Ideal.exp (sums g (ix4 0 h J r))

/-- A key scaled by the exponential of what is left of its chunk's sum. -/
noncomputable def scaledK (k : Vec Ideal S1x4x32x64x128 .f32) (g : Vec Ideal S1x4x32x64 .f32) (h : Fin 4) (J : Fin 32) (r : Fin 64) (d : Fin 128) : EReal :=
  k (ix5 0 h J r d) * Ideal.exp (sums g (ix4 0 h J 63) - sums g (ix4 0 h J r))

section
variable (m : (ℓ : Loc nD τ sig) → Buf (Elt Ideal) ℓ) (c : Dev nD)

theorem w_at (h : Fin 4) (J : Fin 32) (r : Fin 64) (k : Fin 128) :
    (entry m c).w (ix3 h (rowOf J r) k) = m ((c.tc : Thread nD τ).loc main_arg2) (ix5 0 h J r k) := by
  show V m c main_v22 (ix3 h (rowOf J r) k) = _
  simp only [V, hostOps0, hostOps0_1, List.flatten_cons, List.flatten_nil, List.cons_append, List.nil_append, List.append_nil]
  entry_read
  pointwise
  rw [row_div, row_mod]

theorem dO_at (h : Fin 4) (J : Fin 32) (r : Fin 64) (k : Fin 128) :
    (entry m c).dO (ix3 h (rowOf J r) k) = m ((c.tc : Thread nD τ).loc main_arg5) (ix4 0 (rowOf J r) h k) := by
  show V m c main_v24 (ix3 h (rowOf J r) k) = _
  simp only [V, hostOps0, hostOps0_1, List.flatten_cons, List.flatten_nil, List.cons_append, List.nil_append, List.append_nil]
  entry_read
  pointwise

theorem attn_at (h : Fin 4) (J : Fin 32) (r k : Fin 64) :
    (entry m c).attn (ix4 J h r k) = m ((c.tc : Thread nD τ).loc main_arg3) (ix5 0 h J r k) := by
  show V m c main_v18 (ix4 J h r k) = _
  simp only [V, hostOps0, hostOps0_1, List.flatten_cons, List.flatten_nil, List.cons_append, List.nil_append, List.append_nil]
  entry_read
  pointwise

theorem g_at (h : Fin 4) (J : Fin 32) (r : Fin 64) (k : Fin 128) :
    (entry m c).g (ix3 h (rowOf J r) k) = m ((c.tc : Thread nD τ).loc main_arg4) (ix4 0 h J r) := by
  show V m c main_v20 (ix3 h (rowOf J r) k) = _
  simp only [V, hostOps0, hostOps0_1, List.flatten_cons, List.flatten_nil, List.cons_append, List.nil_append, List.append_nil]
  entry_read
  pointwise
  rw [row_div, row_mod]

theorem qg_at (h : Fin 4) (J : Fin 32) (r : Fin 64) (k : Fin 128) :
    (entry m c).qg (ix3 h (rowOf J r) k) = scaledQ (m ((c.tc : Thread nD τ).loc main_arg0)) (m ((c.tc : Thread nD τ).loc main_arg4)) h J r k := by
  show V m c main_v6 (ix3 h (rowOf J r) k) = _
  simp only [V, hostOps0, hostOps0_1, List.flatten_cons, List.flatten_nil, List.cons_append, List.nil_append, List.append_nil]
  entry_read
  pointwise
  rw [row_div, row_mod]
  rfl

theorem kg_at (h : Fin 4) (J : Fin 32) (r : Fin 64) (k : Fin 128) :
    (entry m c).kg (ix3 h (rowOf J r) k) = scaledK (m ((c.tc : Thread nD τ).loc main_arg1)) (m ((c.tc : Thread nD τ).loc main_arg4)) h J r k := by
  show V m c main_v15 (ix3 h (rowOf J r) k) = _
  simp only [V, hostOps0, hostOps0_1, List.flatten_cons, List.flatten_nil, List.cons_append, List.nil_append, List.append_nil]
  entry_read
  pointwise
  rw [row_div, row_mod]
  rfl

end

/-- What the six arguments give the scan for chunk `J` of head `h`. -/
noncomputable def given (q k w : Vec Ideal S1x4x32x64x128 .f32) (attn : Vec Ideal S1x4x32x64x64 .f32) (g : Vec Ideal S1x4x32x64 .f32)
    (dO : Vec Ideal S1x2048x4x128 .f32) (h : Fin 4) (J : Fin 32) : Chunk where
  dO s v := dO (ix4 0 (rowOf J s) h v)
  attn s c := attn (ix5 0 h J s c)
  qg c d := scaledQ q g h J c d
  kg c d := scaledK k g h J c d
  w c d := w (ix5 0 h J c d)
  gate _ := Ideal.exp (sums g (ix4 0 h J 63))

theorem exp_num {x : EReal} : IsNum x → IsNum (Ideal.exp x)
  | ⟨r, hr⟩ => ⟨Real.exp r, by rw [hr]; rfl⟩

/-- Numbers give the scan numbers. -/
theorem given_num {q k w : Vec Ideal S1x4x32x64x128 .f32} {attn : Vec Ideal S1x4x32x64x64 .f32} {g : Vec Ideal S1x4x32x64 .f32}
    {dO : Vec Ideal S1x2048x4x128 .f32} (hq : ∀ i, IsNum (q i)) (hk : ∀ i, IsNum (k i)) (hw : ∀ i, IsNum (w i)) (ha : ∀ i, IsNum (attn i))
    (hg : ∀ i, IsNum (g i)) (hd : ∀ i, IsNum (dO i)) (h : Fin 4) (J : Fin 32) : (given q k w attn g dO h J).Num where
  dO _ _ := hd _
  attn _ _ := ha _
  qg _ _ := (hq _).mul (exp_num (sums_num g hg _))
  kg _ _ := (hk _).mul (exp_num ((sums_num g hg _).sub (sums_num g hg _)))
  w _ _ := hw _
  gate _ := exp_num (sums_num g hg _)

/-- The kernel is given it. -/
theorem chunk_given (m : (ℓ : Loc nD τ sig) → Buf (Elt Ideal) ℓ) (c : Dev nD) (h : Fin 4) (J : Fin 32) :
    chunk (entry m c) h J = given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) h J := by
  unfold chunk given
  simp only [w_at, dO_at, attn_at, g_at, qg_at, kg_at, sums_last]

open Cert.ReferenceIdeal.Step in
/-- The reference's loop is given it. -/
theorem datum_given (q k w : Vec Ideal S1x4x32x64x128 .f32) (attn : Vec Ideal S1x4x32x64x64 .f32) (g : Vec Ideal S1x4x32x64 .f32)
    (dO : Vec Ideal S1x2048x4x128 .f32) (h : Fin 4) (J : Fin 32) :
    Cert.Trip.datum (init q k w attn g dO) h J = given q k w attn g dO h J := by
  have e2 : A_main_v2 q k w attn g dO = sums g := rfl
  unfold Cert.Trip.datum given init
  dsimp only
  congr 1
  · funext r v
    pointwise [A_main_v10, A_main_v9]
    exact congrArg (fun x : Fin 2048 => dO (ix4 0 x h v)) (Fin.ext (show J.val * 64 + r.val = 64 * J.val + r.val by omega))
  · funext r v
    pointwise [A_main_v7]
  · funext r v
    pointwise [A_main_v3, A_main_v6]
    rw [e2]
    rfl
  · funext r v
    pointwise [A_main_v4, A_main_v6]
    rw [e2]
    rfl
  · funext r v
    pointwise [A_main_v5]
  · funext v
    pointwise [A_main_v6]
    rw [e2]

open Cert.ReferenceIdeal.Step in
/-- The reference's loop starts from zero. -/
theorem carried_zero (q k w : Vec Ideal S1x4x32x64x128 .f32) (attn : Vec Ideal S1x4x32x64x64 .f32) (g : Vec Ideal S1x4x32x64 .f32)
    (dO : Vec Ideal S1x2048x4x128 .f32) (h : Fin 4) (x y : Fin 128) : Cert.Trip.carried (init q k w attn g dO) h x y = 0 := by
  unfold Cert.Trip.carried init
  dsimp only
  pointwise [K_main_v11, K_main_cst_2]

end Cert.Prefix
-- ==== Proof.Finite.lean ====
module

public import proofs.«01_k».proof.Defs
public import proofs.«01_k».proof.Proof.Prefix
public import Idealize.ShloMosaic.Lib.ReduceAll

/-! The precondition says that every entry of the arguments is a number. -/

@[expose] public section
open Idealize.ShloMosaic Idealize.ShloMosaic.TcCoe Idealize.SL.Sem

namespace Cert.Finite
open Cert.KernelIdeal Cert.Scan

/-- An entry whose magnitude is less than infinity is a number. -/
theorem num_of_lt {s : Shape} (x y : FVec Ideal s .f32) (i : s.Idx) (h : cmpf .olt (Host.absf x) y i = 1#1) : IsNum (x i) := by
  revert h
  pointwise
  intro h
  have hlt : max (x i) (-(x i)) < y i := by
    by_contra hn
    have h' : BitVec.ofBool (decide (max (x i) (-(x i)) < y i)) = 1#1 := h
    rw [decide_eq_false hn] at h'
    exact absurd h' (by decide)
  have htop : max (x i) (-(x i)) < ⊤ := lt_of_lt_of_le hlt le_top
  have h1 : x i ≠ ⊤ := fun e => by
    have := lt_of_le_of_lt (le_max_left (x i) (-(x i))) htop
    rw [e] at this; exact lt_irrefl _ this
  have h2 : x i ≠ ⊥ := fun e => by
    have := lt_of_le_of_lt (le_max_right (x i) (-(x i))) htop
    rw [e, EReal.neg_bot] at this; exact lt_irrefl _ this
  exact ⟨(x i).toReal, (EReal.coe_toReal h1 h2).symm⟩

/-- The shape relations of the precondition. -/
instance facts : Cert.Pre_finite.Facts where
  bcast_S_S1x4x32x64x128 := by decide
  reducesTo_S1x4x32x64x128_S_d0_1_2_3_4 := by decide
  h_S_ := by decide
  bcast_S_S1x4x32x64x64 := by decide
  reducesTo_S1x4x32x64x64_S_d0_1_2_3_4 := by decide
  bcast_S_S1x4x32x64 := by decide
  reducesTo_S1x4x32x64_S_d0_1_2_3 := by decide
  bcast_S_S1x2048x4x128 := by decide
  reducesTo_S1x2048x4x128_S_d0_1_2_3 := by decide

theorem and_one {a b : BitVec 1} : a &&& b = 1#1 → a = 1#1 ∧ b = 1#1 := by revert a b; decide

instance : Subsingleton Cert.Pre_finite.S_.Idx := ⟨fun a b => funext fun k => k.elim0⟩

/-- Under the precondition every entry of every argument is a number. -/
theorem nums [Cert.Pre_finite.Facts] (q k w : Vec Ideal S1x4x32x64x128 .f32) (attn : Vec Ideal S1x4x32x64x64 .f32) (g : Vec Ideal S1x4x32x64 .f32)
    (dO : Vec Ideal S1x2048x4x128 .f32) (i : Cert.Pre_finite.S_.Idx) (h : Cert.Pre_finite.fn (F := Ideal) q k w attn g dO i = 1#1) :
    (∀ i, IsNum (q i)) ∧ (∀ i, IsNum (k i)) ∧ (∀ i, IsNum (w i)) ∧ (∀ i, IsNum (attn i)) ∧ (∀ i, IsNum (g i)) ∧ (∀ i, IsNum (dO i)) := by
  unfold Cert.Pre_finite.fn Cert.Pre_finite.fn_part1 at h
  dsimp only at h
  obtain ⟨h, hd⟩ := and_one h
  obtain ⟨h, hg⟩ := and_one h
  obtain ⟨h, ha⟩ := and_one h
  obtain ⟨h, hw⟩ := and_one h
  obtain ⟨hq, hk⟩ := and_one h
  refine ⟨fun j => num_of_lt _ _ j (Host.reduce_andi_all _ _ _ _ i hq j), fun j => num_of_lt _ _ j (Host.reduce_andi_all _ _ _ _ i hk j),
    fun j => num_of_lt _ _ j (Host.reduce_andi_all _ _ _ _ i hw j), fun j => num_of_lt _ _ j (Host.reduce_andi_all _ _ _ _ i ha j),
    fun j => num_of_lt _ _ j (Host.reduce_andi_all _ _ _ _ i hg j), fun j => num_of_lt _ _ j (Host.reduce_andi_all _ _ _ _ i hd j)⟩

end Cert.Finite
-- ==== Proof.Equation.lean ====
module

public import proofs.«01_k».proof.Proof.Finite

/-! The kernel and the reference leave the same two arrays. -/

@[expose] public section
open Idealize.ShloMosaic Idealize.ShloMosaic.TcCoe Idealize.SL.Sem

namespace Cert.Equation
open Cert.KernelIdeal Cert.KernelIdeal.Gen Cert.Scan Cert.Block Cert.Prefix

theorem rowOf_split (r : Fin 2048) : r = rowOf ⟨r.val / 64, by omega⟩ ⟨r.val % 64, by omega⟩ :=
  Fin.ext (by show r.val = 64 * (r.val / 64) + r.val % 64; omega)

variable (m : (ℓ : Loc nD τ sig) → Buf (Elt Ideal) ℓ) (c : Dev nD)

/-- What the loop of the reference enters with, of the kernel's arguments. -/
noncomputable abbrev start : Cert.ReferenceIdeal.Step.State Ideal :=
  Cert.ReferenceIdeal.Step.init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The reference is given what the kernel is given. -/
theorem datum_eq (h : Fin 4) : Cert.Trip.datum (start m c) h = chunk (entry m c) h :=
  funext fun J => (datum_given _ _ _ _ _ _ h J).trans (chunk_given m c h J).symm

/-- Under the precondition everything the reference is given is a number. -/
theorem datum_num (hm : Cert.Pre_KernelIdeal_finite m) (h : Fin 4) (J : Fin 32) : (Cert.Trip.datum (start m c) h J).Num := by
  obtain ⟨hq, hk, hw, ha, hg, hd⟩ := Cert.Finite.nums _ _ _ _ _ _ (fun k => k.elim0) (congrFun (hm c) (fun k => k.elim0))
  exact (datum_given _ _ _ _ _ _ h J).symm ▸ given_num hq hk hw ha hg hd h J

/-- The first results agree at row `r` of head `h`. -/
theorem first_at_eq (hm : Cert.Pre_KernelIdeal_finite m) (h : Fin 4) (r : Fin 2048) (d : Fin 128) :
    Cert.ReferenceIdeal.Step.R_main_v17 (Cert.Trip.trips (start m c) 32) (ix3 h r d) = array6 (entry m c) (ix3 h r d) := by
  rw [rowOf_split r]
  refine (Cert.Trip.result_rows (start m c) h (carried_zero _ _ _ _ _ _ _) (datum_num m c hm _) _ _ _).trans ?_
  rw [datum_eq]
  exact (first_at (entry m c) h _ _ _).symm

/-- The second results agree at chunk `J` of head `h`. -/
theorem second_at_eq (hm : Cert.Pre_KernelIdeal_finite m) (J : Fin 32) (h : Fin 4) (k v : Fin 128) :
    Cert.ReferenceIdeal.Step.R_main_v19 (Cert.Trip.trips (start m c) 32) (ix4 J h k v) = array7 (entry m c) (ix4 J h k v) := by
  refine (Cert.Trip.result_states (start m c) h (carried_zero _ _ _ _ _ _ _) (datum_num m c hm _) _ _ _).trans ?_
  rw [datum_eq]
  exact (second_at (entry m c) J h _ _).symm

/-- The first results agree. -/
theorem first_eq (hm : Cert.Pre_KernelIdeal_finite m) : Cert.ReferenceIdeal.Step.R_main_v17 (Cert.Trip.trips (start m c) 32) = array6 (entry m c) :=
  funext fun i => by
    have hi : i = ix3 (i 0) (i 1) (i 2) := by
      funext a
      match a with
      | 0 => rfl
      | 1 => rfl
      | 2 => rfl
    rw [hi]
    exact first_at_eq m c hm (i 0) (i 1) (i 2)

/-- The second results agree. -/
theorem second_eq (hm : Cert.Pre_KernelIdeal_finite m) : Cert.ReferenceIdeal.Step.R_main_v19 (Cert.Trip.trips (start m c) 32) = array7 (entry m c) :=
  funext fun i => by
    have hi : i = ix4 (i 0) (i 1) (i 2) (i 3) := by
      funext a
      match a with
      | 0 => rfl
      | 1 => rfl
      | 2 => rfl
      | 3 => rfl
    rw [hi]
    exact second_at_eq m c hm (i 0) (i 1) (i 2) (i 3)

/-- The value claim: both programs end with the kernel's two arrays. -/
theorem algebraic : Cert.algebraic_KernelIdeal_ReferenceIdeal_pre_finite := by
  intro m g m' g' hm hargs
  refine ⟨fun c => array6 (entry m c), fun c => array7 (entry m c), ?_, ?_⟩
  · exact Cert.Block.run m g
  · refine (θ_run _ _ _).mono (fun r h c => ?_) (Cert.Trip.run m' g')
    obtain ⟨h0, h1, h2, h3, h4, h5⟩ := hargs c
    have e : Cert.Trip.enter m' c = start m c := by
      unfold Cert.Trip.enter start
      rw [h0, h1, h2, h3, h4, h5]
    have hc := h c
    rw [e] at hc
    exact ⟨hc.1.trans (first_eq m c hm), hc.2.1.trans (second_eq m c hm), hc.2.2⟩

end Cert.Equation
-- ==== Proof.Product.lean ====
module

public import Idealize.ShloMosaic.Lib.Pointwise

/-! Products of matrices over the extended reals, and indices of matrices. -/

@[expose] public section
open Idealize.ShloMosaic

namespace Cert.Product

variable {K M N : ℕ}

/-- An index of a matrix is the pair of its coordinates. -/
theorem pair (i : (⟨2, ![M, N]⟩ : Shape).Idx) : ∃ (r : Fin M) (d : Fin N), i = ix2 r d :=
  ⟨i 0, i 1, funext fun a => by match a with | ⟨0, _⟩ => rfl | ⟨1, _⟩ => rfl⟩

/-- Two indices of a matrix are the same when their coordinates are. -/
theorem pair_ext {i : (⟨2, ![M, N]⟩ : Shape).Idx} {r : Fin M} {d : Fin N} (h0 : (i 0).val = r.val) (h1 : (i 1).val = d.val) : i = ix2 r d :=
  funext fun a => Fin.ext (by match a with | ⟨0, _⟩ => exact h0 | ⟨1, _⟩ => exact h1)

/-- Row `r` of block `t` when `R` rows are cut into `n` blocks of `B`. -/
def rowAt {n B R : ℕ} (h : n * B = R) (t : Fin n) (r : Fin B) : Fin R :=
  ⟨B * t.val + r.val, h ▸ lt_of_lt_of_le (by rw [Nat.mul_succ]; exact Nat.add_lt_add_left r.isLt _) (Nat.mul_comm n B ▸ Nat.mul_le_mul_left B (Nat.succ_le_of_lt t.isLt))⟩

/-- Every row lies in a block. -/
theorem exists_rowAt {n B R : ℕ} (h : n * B = R) (i : Fin R) : ∃ (t : Fin n) (r : Fin B), rowAt h t r = i := by
  have hi : i.val < B * n := by rw [Nat.mul_comm, h]; exact i.isLt
  have hB : 0 < B := Nat.pos_of_ne_zero fun e => by rw [e, Nat.zero_mul] at hi; exact Nat.not_lt_zero _ hi
  exact ⟨⟨i.val / B, Nat.div_lt_of_lt_mul hi⟩, ⟨i.val % B, Nat.mod_lt _ hB⟩, Fin.ext (Nat.div_add_mod i.val B)⟩

/-- A block of whole rows lies at its rows, -/
theorem at_rows {n B R : ℕ} (h : n * B = R) {i : (⟨2, ![R, N]⟩ : Shape).Idx} {t : Fin n} {r : Fin B} {d : Fin N} {x y : ℕ} (e : x = t.val ∧ y = 0)
    (h0 : (i 0).val = x * B + 1 * r.val) (h1 : (i 1).val = y * N + 1 * d.val) : i = ix2 (rowAt h t r) d := by
  obtain ⟨rfl, rfl⟩ := e
  exact pair_ext (h0.trans (by rw [Nat.one_mul, Nat.mul_comm]; rfl)) (h1.trans (by omega))

/-- and one that is its whole matrix at its origin. -/
theorem at_whole {i : (⟨2, ![M, N]⟩ : Shape).Idx} {r : Fin M} {d : Fin N} {x y : ℕ} (e : x = 0 ∧ y = 0)
    (h0 : (i 0).val = x * M + 1 * r.val) (h1 : (i 1).val = y * N + 1 * d.val) : i = ix2 r d := by
  obtain ⟨rfl, rfl⟩ := e
  exact pair_ext (h0.trans (by omega)) (h1.trans (by omega))

/-- The origin of a whole load or store of a matrix. -/
theorem origin : (![0, 0] : Fin 2 → ℕ) = fun _ => 0 := funext fun a => by fin_cases a <;> rfl

/-- The product of `a`, transposed, with `b`: a sum over the rows. -/
noncomputable def tn (a : (⟨2, ![K, M]⟩ : Shape).Idx → EReal) (b : (⟨2, ![K, N]⟩ : Shape).Idx → EReal) : (⟨2, ![M, N]⟩ : Shape).Idx → EReal :=
  fun i => ∑ k : Fin K, a (ix2 k (i 0)) * b (ix2 k (i 1))

/-- The product of `a` with `b`. -/
noncomputable def nn (a : (⟨2, ![M, K]⟩ : Shape).Idx → EReal) (b : (⟨2, ![K, N]⟩ : Shape).Idx → EReal) : (⟨2, ![M, N]⟩ : Shape).Idx → EReal :=
  fun i => ∑ k : Fin K, a (ix2 (i 0) k) * b (ix2 k (i 1))

/-- The product of `a` with `b`, transposed. -/
noncomputable def nt (a : (⟨2, ![M, K]⟩ : Shape).Idx → EReal) (b : (⟨2, ![N, K]⟩ : Shape).Idx → EReal) : (⟨2, ![M, N]⟩ : Shape).Idx → EReal :=
  fun i => ∑ k : Fin K, a (ix2 (i 0) k) * b (ix2 (i 1) k)

/-- Two sums of products agree when their factors do. -/
theorem sum_mul_congr {a b c d : Fin K → EReal} (h : ∀ k, a k = c k) (h' : ∀ k, b k = d k) : ∑ k, a k * b k = ∑ k, c k * d k :=
  Finset.sum_congr rfl fun k _ => congrArg₂ (fun x y : EReal => x * y) (h k) (h' k)

end Cert.Product
-- ==== Proof.Norm.lean ====
module

public import proofs.«01_k».proof.Proof.Product

/-! The root mean square normalization of the rows of a matrix of 1024 columns. -/

@[expose] public section
open Idealize.ShloMosaic Cert.Product

namespace Cert.Norm

variable {R R' : ℕ}

/-- The factor that normalizes row `r`: one over the root of the mean square and a small constant. -/
noncomputable def scale (x : (⟨2, ![R, 1024]⟩ : Shape).Idx → EReal) (r : Fin R) : EReal :=
  Ideal.rsqrt (Ideal.div (∑ k : Fin 1024, x (ix2 r k) * x (ix2 r k)) (Ideal.ofBits .f32 0x44800000#32) + Ideal.ofBits .f32 0x358637BD#32)

/-- The normalized rows times the gain. -/
noncomputable def normed (x : (⟨2, ![R, 1024]⟩ : Shape).Idx → EReal) (g : (⟨2, ![1, 1024]⟩ : Shape).Idx → EReal) : (⟨2, ![R, 1024]⟩ : Shape).Idx → EReal :=
  fun i => x i * scale x (i 0) * g (ix2 0 (i 1))

/-- The factor depends on the row alone. -/
theorem scale_congr {x : (⟨2, ![R, 1024]⟩ : Shape).Idx → EReal} {x' : (⟨2, ![R', 1024]⟩ : Shape).Idx → EReal} {r : Fin R} {r' : Fin R'}
    (h : ∀ k, x (ix2 r k) = x' (ix2 r' k)) : scale x r = scale x' r' := by
  unfold scale
  rw [sum_mul_congr h h]

/-- A normalized row depends on the row and the gain alone. -/
theorem normed_congr {x : (⟨2, ![R, 1024]⟩ : Shape).Idx → EReal} {x' : (⟨2, ![R', 1024]⟩ : Shape).Idx → EReal} {g g' : (⟨2, ![1, 1024]⟩ : Shape).Idx → EReal} {r : Fin R} {r' : Fin R'}
    (h : ∀ k, x (ix2 r k) = x' (ix2 r' k)) (hg : ∀ k, g (ix2 0 k) = g' (ix2 0 k)) (d : Fin 1024) : normed x g (ix2 r d) = normed x' g' (ix2 r' d) := by
  show x (ix2 r d) * scale x r * g (ix2 0 d) = x' (ix2 r' d) * scale x' r' * g' (ix2 0 d)
  rw [scale_congr h, h, hg]

end Cert.Norm
-- ==== Proof.SwigluFwd.lean ====
module

public import proofs.«01_k».proof.Defs
public import proofs.«01_k».proof.Proof.Norm
public import proofs.«01_k».proof.Proof.Gen.SwigluFwdKernelIdeal.Value
public import proofs.«01_k».proof.Proof.Gen.SwigluFwdReferenceIdeal.Run

/-! The forward activation: the normalized rows, the gate, the up projection and the activation. -/

@[expose] public section
open Idealize.ShloMosaic Idealize.ShloMosaic.TcCoe Idealize.SL.Sem Cert.Product Cert.Norm

namespace Cert.SwigluFwd
open Cert.SwigluFwdKernelIdeal Cert.SwigluFwdKernelIdeal.Gen Cert.SwigluFwdKernelIdeal.Value

variable (m : (ℓ : Loc nD τ sig) → Buf (Elt Ideal) ℓ) (ρ : Dev nD → PrngReg)

/-- The logistic function: one over one plus the exponential of the negated argument. -/
noncomputable def logistic (x : EReal) : EReal := Ideal.div (Ideal.ofBits .f32 0x3F800000#32) (Ideal.ofBits .f32 0x3F800000#32 + Ideal.exp (0 - x))

/-- The activation: the gate times its logistic times the up projection. -/
noncomputable def act {S : Shape} (gate up : S.Idx → EReal) : S.Idx → EReal := fun i => gate i * logistic (gate i) * up i

/-- The normalized rows the arguments have. -/
noncomputable abbrev rowsOf (c : Dev nD) : Vec Ideal S2048x1024 .bf16 := normed (m ((c : Thread nD τ).loc main_arg0)) (m ((c : Thread nD τ).loc main_arg1))

/-- The gate the arguments have. -/
noncomputable abbrev gate (c : Dev nD) : Vec Ideal S2048x3072 .bf16 := nt (rowsOf m c) (m ((c : Thread nD τ).loc main_arg2))

/-- The up projection the arguments have. -/
noncomputable abbrev up (c : Dev nD) : Vec Ideal S2048x3072 .bf16 := nt (rowsOf m c) (m ((c : Thread nD τ).loc main_arg3))

/-- The activation the arguments have. -/
noncomputable abbrev ff (c : Dev nD) : Vec Ideal S2048x3072 .bf16 := act (gate m c) (up m c)

/-- The block indices at each point: the rows move, the gain and the weights stay. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- The rows are four blocks of 512. -/
theorem rows : cfg0.N * 512 = 2048 := by rw [show cfg0.N = 4 from N_0]

/-- Where an index of the rows' block lies in the rows. -/
theorem emb0 (t : Fin cfg0.N) (r : Fin 512) (k : Fin 1024) : ((cfg0.win 0).blk t).view.emb (ix2 r k) = ix2 (rowAt rows t r) k := by
  obtain ⟨e0, e1⟩ := (idx t).1
  exact pair_ext (show win0_0.index t (0 : Fin 2) * 512 + 1 * r.val = 512 * t.val + r.val from by omega) (show win0_0.index t (1 : Fin 2) * 1024 + 1 * k.val = k.val from by omega)

/-- Where an index of the gain's block lies in the gain. -/
theorem emb1 (t : Fin cfg0.N) (k : Fin 1024) : ((cfg0.win 1).blk t).view.emb (ix2 (0 : Fin 1) k) = ix2 (0 : Fin 1) k := by
  obtain ⟨e0, e1⟩ := (idx t).2.1
  exact pair_ext (show win0_1.index t (0 : Fin 2) * 1 + 1 * 0 = 0 from by omega) (show win0_1.index t (1 : Fin 2) * 1024 + 1 * k.val = k.val from by omega)

/-- Where an index of the gate's weights' block lies in the weights. -/
theorem emb2 (t : Fin cfg0.N) (d : Fin 3072) (k : Fin 1024) : ((cfg0.win 2).blk t).view.emb (ix2 d k) = ix2 d k := by
  obtain ⟨e0, e1⟩ := (idx t).2.2.1
  exact pair_ext (show win0_2.index t (0 : Fin 2) * 3072 + 1 * d.val = d.val from by omega) (show win0_2.index t (1 : Fin 2) * 1024 + 1 * k.val = k.val from by omega)

/-- Where an index of the up projection's weights' block lies in the weights. -/
theorem emb3 (t : Fin cfg0.N) (d : Fin 3072) (k : Fin 1024) : ((cfg0.win 3).blk t).view.emb (ix2 d k) = ix2 d k := by
  obtain ⟨e0, e1⟩ := (idx t).2.2.2.1
  exact pair_ext (show win0_3.index t (0 : Fin 2) * 3072 + 1 * d.val = d.val from by omega) (show win0_3.index t (1 : Fin 2) * 1024 + 1 * k.val = k.val from by omega)

/-- Where an index of the activation's block lies in the activation. -/
theorem emb4 (t : Fin cfg0.N) (r : Fin 512) (d : Fin 3072) : ((cfg0.win 4).blk t).view.emb (ix2 r d) = ix2 (rowAt rows t r) d := by
  obtain ⟨e0, e1⟩ := (idx t).2.2.2.2.1
  exact pair_ext (show win0_4.index t (0 : Fin 2) * 512 + 1 * r.val = 512 * t.val + r.val from by omega) (show win0_4.index t (1 : Fin 2) * 3072 + 1 * d.val = d.val from by omega)

/-- Where an index of the gate's block lies in the gate. -/
theorem emb5 (t : Fin cfg0.N) (r : Fin 512) (d : Fin 3072) : ((cfg0.win 5).blk t).view.emb (ix2 r d) = ix2 (rowAt rows t r) d := by
  obtain ⟨e0, e1⟩ := (idx t).2.2.2.2.2.1
  exact pair_ext (show win0_5.index t (0 : Fin 2) * 512 + 1 * r.val = 512 * t.val + r.val from by omega) (show win0_5.index t (1 : Fin 2) * 3072 + 1 * d.val = d.val from by omega)

/-- Where an index of the up projection's block lies in it. -/
theorem emb6 (t : Fin cfg0.N) (r : Fin 512) (d : Fin 3072) : ((cfg0.win 6).blk t).view.emb (ix2 r d) = ix2 (rowAt rows t r) d := by
  obtain ⟨e0, e1⟩ := (idx t).2.2.2.2.2.2.1
  exact pair_ext (show win0_6.index t (0 : Fin 2) * 512 + 1 * r.val = 512 * t.val + r.val from by omega) (show win0_6.index t (1 : Fin 2) * 3072 + 1 * d.val = d.val from by omega)

/-- Where an index of the normalized rows' block lies in them. -/
theorem emb7 (t : Fin cfg0.N) (r : Fin 512) (d : Fin 1024) : ((cfg0.win 7).blk t).view.emb (ix2 r d) = ix2 (rowAt rows t r) d := by
  obtain ⟨e0, e1⟩ := (idx t).2.2.2.2.2.2.2
  exact pair_ext (show win0_7.index t (0 : Fin 2) * 512 + 1 * r.val = 512 * t.val + r.val from by omega) (show win0_7.index t (1 : Fin 2) * 1024 + 1 * d.val = d.val from by omega)

section body
variable (x : Vec Ideal S512x1024 .f32) (g : Vec Ideal S1x1024 .f32) (wg wu : Vec Ideal S3072x1024 .bf16)

/-- The body's normalized rows. -/
theorem out7_eq : out0_7 x g wg wu = normed x g := by
  funext j
  obtain ⟨r, d, rfl⟩ := pair j
  unfold_out out0_7
  rw [View.canon_unit_zero (funext fun a => by fin_cases a <;> rfl), View.ld_unit_zero (funext fun a => by fin_cases a <;> rfl),
    View.ld_unit_zero (funext fun a => by fin_cases a <;> rfl)]
  pointwise [k0_pay2, normed, scale]

/-- The six stores of the gate together are the gate of the block's rows. -/
theorem out5_eq : out0_5 x g wg wu = nt (normed x g) wg := by
  funext j
  unfold_out out0_5
  refine View.canon_apply_of_pieces (Val := Elt Ideal) (nt (normed x g) wg) _ ?_ j (cover0_5 _ _ _ _ _ _ j)
  intro p hp i
  show p.2 i = nt (normed x g) wg (p.1.idx i)
  simp only [List.mem_cons, List.not_mem_nil, or_false] at hp
  obtain rfl | rfl | rfl | rfl | rfl | rfl := hp
  all_goals
    obtain ⟨r, d, rfl⟩ := pair i
    pointwise [k0_pay2, k0_pay3, k0_pay5, k0_pay8, k0_pay10, k0_pay13, k0_pay15, k0_pay18, k0_pay20, k0_pay23, k0_pay25, k0_pay28, k0_pay30, nt, normed, scale]

/-- The six stores of the up projection together are the up projection of the block's rows. -/
theorem out6_eq : out0_6 x g wg wu = nt (normed x g) wu := by
  funext j
  unfold_out out0_6
  refine View.canon_apply_of_pieces (Val := Elt Ideal) (nt (normed x g) wu) _ ?_ j (cover0_6 _ _ _ _ _ _ j)
  intro p hp i
  show p.2 i = nt (normed x g) wu (p.1.idx i)
  simp only [List.mem_cons, List.not_mem_nil, or_false] at hp
  obtain rfl | rfl | rfl | rfl | rfl | rfl := hp
  all_goals
    obtain ⟨r, d, rfl⟩ := pair i
    pointwise [k0_pay2, k0_pay4, k0_pay6, k0_pay9, k0_pay11, k0_pay14, k0_pay16, k0_pay19, k0_pay21, k0_pay24, k0_pay26, k0_pay29, k0_pay31, nt, normed, scale]

/-- The six stores of the activation together are the activation of the block's rows. -/
theorem out4_eq : out0_4 x g wg wu = act (nt (normed x g) wg) (nt (normed x g) wu) := by
  funext j
  unfold_out out0_4
  refine View.canon_apply_of_pieces (Val := Elt Ideal) (act (nt (normed x g) wg) (nt (normed x g) wu)) _ ?_ j (cover0_4 _ _ _ _ _ _ j)
  intro p hp i
  show p.2 i = act (nt (normed x g) wg) (nt (normed x g) wu) (p.1.idx i)
  simp only [List.mem_cons, List.not_mem_nil, or_false] at hp
  obtain rfl | rfl | rfl | rfl | rfl | rfl := hp
  all_goals
    obtain ⟨r, d, rfl⟩ := pair i
    pointwise [k0_pay1, k0_pay2, k0_pay3, k0_pay4, k0_pay7, k0_pay8, k0_pay9, k0_pay12, k0_pay13, k0_pay14, k0_pay17, k0_pay18, k0_pay19, k0_pay22, k0_pay23, k0_pay24, k0_pay27,
      k0_pay28, k0_pay29, k0_pay32, act, logistic, nt, normed, scale]

end body

/-- A block's normalized row is a row of the normalized rows. -/
theorem normed_at (c : Dev nD) (t : Fin cfg0.N) (r : Fin 512) (d : Fin 1024) :
    normed (iblk m c 0 t) (iblk m c 1 t) (ix2 r d) = rowsOf m c (ix2 (rowAt rows t r) d) := by
  refine normed_congr (x' := m ((c : Thread nD τ).loc main_arg0)) (g' := m ((c : Thread nD τ).loc main_arg1)) (fun k => ?_) (fun k => ?_) d
  · exact congrArg (m ((c : Thread nD τ).loc main_arg0)) (emb0 t r k)
  · exact congrArg (m ((c : Thread nD τ).loc main_arg1)) (emb1 t k)

/-- A block's gate is the gate at the block's rows. -/
theorem gate_at (c : Dev nD) (t : Fin cfg0.N) (r : Fin 512) (d : Fin 3072) :
    nt (normed (iblk m c 0 t) (iblk m c 1 t)) (iblk m c 2 t) (ix2 r d) = gate m c (ix2 (rowAt rows t r) d) :=
  sum_mul_congr (fun k => normed_at m c t r k) (fun k => congrArg (m ((c : Thread nD τ).loc main_arg2)) (emb2 t d k))

/-- A block's up projection is the up projection at the block's rows. -/
theorem up_at (c : Dev nD) (t : Fin cfg0.N) (r : Fin 512) (d : Fin 3072) :
    nt (normed (iblk m c 0 t) (iblk m c 1 t)) (iblk m c 3 t) (ix2 r d) = up m c (ix2 (rowAt rows t r) d) :=
  sum_mul_congr (fun k => normed_at m c t r k) (fun k => congrArg (m ((c : Thread nD τ).loc main_arg3)) (emb3 t d k))

/-- What a point writes back is its rows of the activation, -/
theorem flushed4_eq (c : Dev nD) (t : Fin cfg0.N) : (dats m 0 c).flushed 4 t = ((cfg0.win 4).blk t).view.read (Elt Ideal) (ff m c) := by
  rw [flushed4]
  funext j
  obtain ⟨r, d, rfl⟩ := pair j
  show out0_4 _ _ _ _ (ix2 r d) = ff m c (((cfg0.win 4).blk t).view.emb (ix2 r d))
  rw [out4_eq, emb4]
  exact congrArg₂ (fun a b : EReal => a * logistic a * b) (gate_at m c t r d) (up_at m c t r d)

/-- of the gate, -/
theorem flushed5_eq (c : Dev nD) (t : Fin cfg0.N) : (dats m 0 c).flushed 5 t = ((cfg0.win 5).blk t).view.read (Elt Ideal) (gate m c) := by
  rw [flushed5]
  funext j
  obtain ⟨r, d, rfl⟩ := pair j
  show out0_5 _ _ _ _ (ix2 r d) = gate m c (((cfg0.win 5).blk t).view.emb (ix2 r d))
  rw [out5_eq, emb5]
  exact gate_at m c t r d

/-- of the up projection -/
theorem flushed6_eq (c : Dev nD) (t : Fin cfg0.N) : (dats m 0 c).flushed 6 t = ((cfg0.win 6).blk t).view.read (Elt Ideal) (up m c) := by
  rw [flushed6]
  funext j
  obtain ⟨r, d, rfl⟩ := pair j
  show out0_6 _ _ _ _ (ix2 r d) = up m c (((cfg0.win 6).blk t).view.emb (ix2 r d))
  rw [out6_eq, emb6]
  exact up_at m c t r d

/-- and of the normalized rows. -/
theorem flushed7_eq (c : Dev nD) (t : Fin cfg0.N) : (dats m 0 c).flushed 7 t = ((cfg0.win 7).blk t).view.read (Elt Ideal) (rowsOf m c) := by
  rw [flushed7]
  funext j
  obtain ⟨r, d, rfl⟩ := pair j
  show out0_7 _ _ _ _ (ix2 r d) = rowsOf m c (((cfg0.win 7).blk t).view.emb (ix2 r d))
  rw [out7_eq, emb7]
  exact normed_at m c t r d

/-- Every index of the activation lies in some point's block, -/
theorem covered4 (i : S2048x3072.Idx) : ∃ t : Fin cfg0.N, (cfg0.win 4).flush t = true ∧ i ∈ ((cfg0.win 4).blk t).view.set := by
  obtain ⟨r, d, rfl⟩ := pair i
  obtain ⟨t, q, rfl⟩ := exists_rowAt rows r
  exact ⟨t, flush0_4 t, emb4 t q d ▸ ((cfg0.win 4).blk t).view.emb_mem_set (ix2 q d)⟩

/-- of the gate, -/
theorem covered5 (i : S2048x3072.Idx) : ∃ t : Fin cfg0.N, (cfg0.win 5).flush t = true ∧ i ∈ ((cfg0.win 5).blk t).view.set := by
  obtain ⟨r, d, rfl⟩ := pair i
  obtain ⟨t, q, rfl⟩ := exists_rowAt rows r
  exact ⟨t, flush0_5 t, emb5 t q d ▸ ((cfg0.win 5).blk t).view.emb_mem_set (ix2 q d)⟩

/-- of the up projection -/
theorem covered6 (i : S2048x3072.Idx) : ∃ t : Fin cfg0.N, (cfg0.win 6).flush t = true ∧ i ∈ ((cfg0.win 6).blk t).view.set := by
  obtain ⟨r, d, rfl⟩ := pair i
  obtain ⟨t, q, rfl⟩ := exists_rowAt rows r
  exact ⟨t, flush0_6 t, emb6 t q d ▸ ((cfg0.win 6).blk t).view.emb_mem_set (ix2 q d)⟩

/-- and of the normalized rows. -/
theorem covered7 (i : S2048x1024.Idx) : ∃ t : Fin cfg0.N, (cfg0.win 7).flush t = true ∧ i ∈ ((cfg0.win 7).blk t).view.set := by
  obtain ⟨r, d, rfl⟩ := pair i
  obtain ⟨t, q, rfl⟩ := exists_rowAt rows r
  exact ⟨t, flush0_7 t, emb7 t q d ▸ ((cfg0.win 7).blk t).view.emb_mem_set (ix2 q d)⟩

/-- The value claim: both programs end with the activation, the gate, the up projection and the normalized rows. -/
theorem algebraic : Cert.algebraic_SwigluFwdKernelIdeal_SwigluFwdReferenceIdeal := by
  intro m g m' g' _ hargs
  refine ⟨ff m, gate m, up m, rowsOf m, (θ_run _ _ _).mono (fun _ h c => ⟨(h c).1.trans ((dats m 0 c).arrAt_eq_of_cover 4 _ (fun t _ => flushed4_eq m c t) covered4),
    (h c).2.1.trans ((dats m 0 c).arrAt_eq_of_cover 5 _ (fun t _ => flushed5_eq m c t) covered5), (h c).2.2.1.trans ((dats m 0 c).arrAt_eq_of_cover 6 _ (fun t _ => flushed6_eq m c t) covered6),
    (h c).2.2.2.1.trans ((dats m 0 c).arrAt_eq_of_cover 7 _ (fun t _ => flushed7_eq m c t) covered7), (h c).2.2.2.2⟩) (run_blocks m g), ?_⟩
  refine (θ_run _ _ _).mono (fun r h c => ⟨(h c).1.trans ?_, (h c).2.1.trans ?_, (h c).2.2.1.trans ?_, (h c).2.2.2.1.trans ?_, (h c).2.2.2.2⟩) (Cert.SwigluFwdReferenceIdeal.Value.run m' g')
  all_goals
    obtain ⟨h0, h1, h2, h3⟩ := hargs c
    rw [h0, h1]
    try rw [h2]
    try rw [h3]
    try unfold ff
    try unfold gate
    try unfold up
    unfold rowsOf
    generalize m ((c : Thread nD τ).loc main_arg0) = x
    generalize m ((c : Thread nD τ).loc main_arg1) = g
    generalize m ((c : Thread nD τ).loc main_arg2) = wg
    generalize m ((c : Thread nD τ).loc main_arg3) = wu
    change Vec Ideal S2048x1024 .f32 at x
    change Vec Ideal S1x1024 .f32 at g
    change Vec Ideal S3072x1024 .bf16 at wg
    change Vec Ideal S3072x1024 .bf16 at wu
    funext i
    obtain ⟨r, d, rfl⟩ := pair i
    pointwise [act, logistic, zero_sub, nt, normed, scale]

/-- The reference leaves its arguments and its counters alone. -/
theorem frame_reference : Cert.quiescent_SwigluFwdReferenceIdeal := fun m ρ _ =>
  (θ_run _ _ _).mono (fun r h => ⟨fun c => (h c).2.2.2.2, sem_eq_zero_of_no_sems (by decide) r.2⟩) (Cert.SwigluFwdReferenceIdeal.Value.run m ρ)

end Cert.SwigluFwd
-- ==== Proof.Down.lean ====
module

public import proofs.«01_k».proof.Defs
public import proofs.«01_k».proof.Proof.Product
public import proofs.«01_k».proof.Proof.Gen.DownKernelIdeal.Value
public import proofs.«01_k».proof.Proof.Gen.DownReferenceIdeal.Run

/-! The down projection: the product of the activation with the weights, added to the residual. -/

@[expose] public section
open Idealize.ShloMosaic Idealize.ShloMosaic.TcCoe Idealize.SL.Sem Cert.Product

namespace Cert.Down
open Cert.DownKernelIdeal Cert.DownKernelIdeal.Gen Cert.DownKernelIdeal.Value

variable (m : (ℓ : Loc nD τ sig) → Buf (Elt Ideal) ℓ) (ρ : Dev nD → PrngReg)

/-- The projection of `a` by `b`, added to the residual `x`; `R` rows. -/
noncomputable def proj {R : ℕ} (a : (⟨2, ![R, 3072]⟩ : Shape).Idx → EReal) (b : Vec Ideal S3072x1024 .bf16) (x : (⟨2, ![R, 1024]⟩ : Shape).Idx → EReal) :
    (⟨2, ![R, 1024]⟩ : Shape).Idx → EReal :=
  fun i => nn a b i + x i

/-- The result the arguments have. -/
noncomputable abbrev res (c : Dev nD) : Vec Ideal S2048x1024 .f32 :=
  proj (m ((c : Thread nD τ).loc main_arg0)) (m ((c : Thread nD τ).loc main_arg1)) (m ((c : Thread nD τ).loc main_arg2))

/-- The block indices at each point: the rows move, the weights stay. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- The rows are two blocks of 1024. -/
theorem rows : cfg0.N * 1024 = 2048 := by rw [show cfg0.N = 2 from N_0]

/-- Where an index of the activation's block lies in the activation. -/
theorem emb0 (t : Fin cfg0.N) (r : Fin 1024) (k : Fin 3072) : ((cfg0.win 0).blk t).view.emb (ix2 r k) = ix2 (rowAt rows t r) k := by
  obtain ⟨e0, e1⟩ := (idx t).1
  exact pair_ext (show win0_0.index t (0 : Fin 2) * 1024 + 1 * r.val = 1024 * t.val + r.val from by omega) (show win0_0.index t (1 : Fin 2) * 3072 + 1 * k.val = k.val from by omega)

/-- Where an index of the weights' block lies in the weights. -/
theorem emb1 (t : Fin cfg0.N) (k : Fin 3072) (d : Fin 1024) : ((cfg0.win 1).blk t).view.emb (ix2 k d) = ix2 k d := by
  obtain ⟨e0, e1⟩ := (idx t).2.1
  exact pair_ext (show win0_1.index t (0 : Fin 2) * 3072 + 1 * k.val = k.val from by omega) (show win0_1.index t (1 : Fin 2) * 1024 + 1 * d.val = d.val from by omega)

/-- Where an index of the residual's block lies in the residual. -/
theorem emb2 (t : Fin cfg0.N) (r d : Fin 1024) : ((cfg0.win 2).blk t).view.emb (ix2 r d) = ix2 (rowAt rows t r) d := by
  obtain ⟨e0, e1⟩ := (idx t).2.2.1
  exact pair_ext (show win0_2.index t (0 : Fin 2) * 1024 + 1 * r.val = 1024 * t.val + r.val from by omega) (show win0_2.index t (1 : Fin 2) * 1024 + 1 * d.val = d.val from by omega)

/-- Where an index of the result's block lies in the result. -/
theorem emb3 (t : Fin cfg0.N) (r d : Fin 1024) : ((cfg0.win 3).blk t).view.emb (ix2 r d) = ix2 (rowAt rows t r) d := by
  obtain ⟨e0, e1⟩ := (idx t).2.2.2
  exact pair_ext (show win0_3.index t (0 : Fin 2) * 1024 + 1 * r.val = 1024 * t.val + r.val from by omega) (show win0_3.index t (1 : Fin 2) * 1024 + 1 * d.val = d.val from by omega)

/-- The body's two stores together are the projection of the block's rows. -/
theorem out_eq (x : Vec Ideal S1024x3072 .bf16) (w : Vec Ideal S3072x1024 .bf16) (y : Vec Ideal S1024x1024 .f32) : out0_3 x w y = proj x w y := by
  funext j
  unfold out0_3
  refine View.canon_apply_of_pieces (Val := Elt Ideal) (proj x w y) _ ?_ j (cover0_3 _ _ j)
  intro p hp i
  show p.2 i = proj x w y (p.1.idx i)
  simp only [List.mem_cons, List.not_mem_nil, or_false] at hp
  obtain rfl | rfl := hp
  all_goals
    obtain ⟨r, d, rfl⟩ := pair i
    pointwise [k0_pay1, k0_pay2, proj, nn]

/-- What a point writes back is its rows of the result. -/
theorem flushed_eq (c : Dev nD) (t : Fin cfg0.N) : (dats m 0 c).flushed 3 t = ((cfg0.win 3).blk t).view.read (Elt Ideal) (res m c) := by
  rw [flushed3]
  funext j
  obtain ⟨r, d, rfl⟩ := pair j
  show out0_3 _ _ _ (ix2 r d) = res m c (((cfg0.win 3).blk t).view.emb (ix2 r d))
  rw [out_eq, emb3]
  exact congrArg₂ (fun x y : EReal => x + y)
    (sum_mul_congr (fun k => congrArg (m ((c : Thread nD τ).loc main_arg0)) (emb0 t r k)) (fun k => congrArg (m ((c : Thread nD τ).loc main_arg1)) (emb1 t k d)))
    (congrArg (m ((c : Thread nD τ).loc main_arg2)) (emb2 t r d))

/-- Every index of the result lies in some point's block. -/
theorem covered (i : S2048x1024.Idx) : ∃ t : Fin cfg0.N, (cfg0.win 3).flush t = true ∧ i ∈ ((cfg0.win 3).blk t).view.set := by
  obtain ⟨r, d, rfl⟩ := pair i
  obtain ⟨t, q, rfl⟩ := exists_rowAt rows r
  exact ⟨t, flush0_3 t, emb3 t q d ▸ ((cfg0.win 3).blk t).view.emb_mem_set (ix2 q d)⟩

/-- The value claim: both programs end with the projection added to the residual. -/
theorem algebraic : Cert.algebraic_DownKernelIdeal_DownReferenceIdeal := by
  intro m g m' g' _ hargs
  refine ⟨res m, (θ_run _ _ _).mono (fun _ h c => ⟨(h c).1.trans ((dats m 0 c).arrAt_eq_of_cover 3 _ (fun t _ => flushed_eq m c t) covered), (h c).2⟩) (run_blocks m g), ?_⟩
  refine (θ_run _ _ _).mono (fun r h c => ⟨(h c).1.trans ?_, (h c).2⟩) (Cert.DownReferenceIdeal.Value.run m' g')
  obtain ⟨h0, h1, h2⟩ := hargs c
  rw [h0, h1, h2]
  unfold res
  generalize m ((c : Thread nD τ).loc main_arg0) = a
  generalize m ((c : Thread nD τ).loc main_arg1) = b
  generalize m ((c : Thread nD τ).loc main_arg2) = x
  change Vec Ideal S2048x3072 .bf16 at a
  change Vec Ideal S3072x1024 .bf16 at b
  change Vec Ideal S2048x1024 .f32 at x
  funext i
  obtain ⟨r, d, rfl⟩ := pair i
  refine Eq.trans ?_ (add_comm (x (ix2 r d) : EReal) (nn a b (ix2 r d)))
  pointwise [nn]

/-- The reference leaves its arguments and its counters alone. -/
theorem frame_reference : Cert.quiescent_DownReferenceIdeal := fun m ρ _ =>
  (θ_run _ _ _).mono (fun r h => ⟨fun c => (h c).2, sem_eq_zero_of_no_sems (by decide) r.2⟩) (Cert.DownReferenceIdeal.Value.run m ρ)

end Cert.Down
-- ==== Proof.DownGrad.lean ====
module

public import proofs.«01_k».proof.Defs
public import proofs.«01_k».proof.Proof.Product
public import proofs.«01_k».proof.Proof.Gen.DownGradKernelIdeal.Value
public import proofs.«01_k».proof.Proof.Gen.DownGradReferenceIdeal.Run

/-! The gradient of the down projection's weights: the product of the activation, transposed, with the output's gradient. -/

@[expose] public section
open Idealize.ShloMosaic Idealize.ShloMosaic.TcCoe Idealize.SL.Sem Cert.Product

namespace Cert.DownGrad
open Cert.DownGradKernelIdeal Cert.DownGradKernelIdeal.Gen Cert.DownGradKernelIdeal.Value

variable (m : (ℓ : Loc nD τ sig) → Buf (Elt Ideal) ℓ) (ρ : Dev nD → PrngReg)

/-- The gradient the arguments have. -/
noncomputable abbrev grad (c : Dev nD) : Vec Ideal S3072x1024 .bf16 := tn (m ((c : Thread nD τ).loc main_arg0)) (m ((c : Thread nD τ).loc main_arg1))

/-- The block indices at each point: the first operand's columns and the result's rows move, the second operand stays. -/
theorem idx : ∀ t : Fin cfg0.N, win0_0.index t (0 : Fin 2) = 0 ∧ win0_0.index t (1 : Fin 2) = t.val
    ∧ win0_1.index t (0 : Fin 2) = 0 ∧ win0_1.index t (1 : Fin 2) = 0 ∧ win0_2.index t (0 : Fin 2) = t.val ∧ win0_2.index t (1 : Fin 2) = 0 :=
  (by decide +kernel : ∀ t : Fin grid0.N, _)

/-- The result's rows are three blocks of 1024. -/
theorem rows : cfg0.N * 1024 = 3072 := by rw [show cfg0.N = 3 from N_0]

/-- Where an index of the first operand's block lies in the operand. -/
theorem emb0 (t : Fin cfg0.N) (k : Fin 2048) (r : Fin 1024) : ((cfg0.win 0).blk t).view.emb (ix2 k r) = ix2 k (rowAt rows t r) := by
  obtain ⟨e0, e1, -⟩ := idx t
  exact pair_ext (show win0_0.index t (0 : Fin 2) * 2048 + 1 * k.val = k.val from by omega) (show win0_0.index t (1 : Fin 2) * 1024 + 1 * r.val = 1024 * t.val + r.val from by omega)

/-- Where an index of the second operand's block lies in the operand. -/
theorem emb1 (t : Fin cfg0.N) (k : Fin 2048) (r : Fin 1024) : ((cfg0.win 1).blk t).view.emb (ix2 k r) = ix2 k r := by
  obtain ⟨-, -, e0, e1, -⟩ := idx t
  exact pair_ext (show win0_1.index t (0 : Fin 2) * 2048 + 1 * k.val = k.val from by omega) (show win0_1.index t (1 : Fin 2) * 1024 + 1 * r.val = r.val from by omega)

/-- Where an index of the result's block lies in the result. -/
theorem emb2 (t : Fin cfg0.N) (r d : Fin 1024) : ((cfg0.win 2).blk t).view.emb (ix2 r d) = ix2 (rowAt rows t r) d := by
  obtain ⟨-, -, -, -, e0, e1⟩ := idx t
  exact pair_ext (show win0_2.index t (0 : Fin 2) * 1024 + 1 * r.val = 1024 * t.val + r.val from by omega) (show win0_2.index t (1 : Fin 2) * 1024 + 1 * d.val = d.val from by omega)

/-- One block's product at an index. -/
theorem pay_at (x : Vec Ideal S2048x1024 .bf16) (y : Vec Ideal S2048x1024 .f32) (r d : Fin 1024) :
    k0_pay1 x y (ix2 r d) = (∑ k : Fin 2048, (x (ix2 k r) : EReal) * (y (ix2 k d) : EReal) : EReal) := by
  pointwise [k0_pay1]

/-- What a point writes back is its rows of the gradient. -/
theorem flushed_eq (c : Dev nD) (t : Fin cfg0.N) : (dats m 0 c).flushed 2 t = ((cfg0.win 2).blk t).view.read (Elt Ideal) (grad m c) := by
  rw [flushed2]
  funext j
  obtain ⟨r, d, rfl⟩ := pair j
  show out0_2 _ _ (ix2 r d) = grad m c (((cfg0.win 2).blk t).view.emb (ix2 r d))
  rw [emb2, out0_2, View.canon_unit_zero (funext fun a => by fin_cases a <;> rfl), View.ld_unit_zero (funext fun a => by fin_cases a <;> rfl),
    View.ld_unit_zero (funext fun a => by fin_cases a <;> rfl), pay_at]
  exact sum_mul_congr (fun k => congrArg (m ((c : Thread nD τ).loc main_arg0)) (emb0 t k r)) (fun k => congrArg (m ((c : Thread nD τ).loc main_arg1)) (emb1 t k d))

/-- Every index of the result lies in some point's block. -/
theorem covered (i : S3072x1024.Idx) : ∃ t : Fin cfg0.N, (cfg0.win 2).flush t = true ∧ i ∈ ((cfg0.win 2).blk t).view.set := by
  obtain ⟨r, d, rfl⟩ := pair i
  obtain ⟨t, q, rfl⟩ := exists_rowAt rows r
  exact ⟨t, flush0_2 t, emb2 t q d ▸ ((cfg0.win 2).blk t).view.emb_mem_set (ix2 q d)⟩

/-- The kernel ends with the gradient. -/
theorem run : θ_run (defs (F := Ideal)) (onTc (τ := τ) (main (F := Ideal))) ⟨m, fun _ => 0, ρ⟩ fun r => ∀ c : Dev nD,
    r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans ((dats m 0 c).arrAt_eq_of_cover 2 _ (fun t _ => flushed_eq m c t) covered), (h c).2⟩) (run_blocks m ρ)

/-- The value claim: both programs end with the gradient. -/
theorem algebraic : Cert.algebraic_DownGradKernelIdeal_DownGradReferenceIdeal := by
  intro m g m' g' _ hargs
  refine ⟨grad m, run m g, ?_⟩
  refine (θ_run _ _ _).mono (fun r h c => ⟨(h c).1.trans ?_, (h c).2⟩) (Cert.DownGradReferenceIdeal.Value.run m' g')
  obtain ⟨h0, h1⟩ := hargs c
  rw [h0, h1]
  unfold grad
  generalize m ((c : Thread nD τ).loc main_arg0) = a
  generalize m ((c : Thread nD τ).loc main_arg1) = b
  change Vec Ideal S2048x3072 .bf16 at a
  change Vec Ideal S2048x1024 .f32 at b
  funext i
  obtain ⟨r, d, rfl⟩ := pair i
  refine Eq.trans ?_ (Finset.sum_congr rfl fun k _ => mul_comm (b (ix2 k d) : EReal) (a (ix2 k r) : EReal))
  pointwise

/-- The reference leaves its arguments and its counters alone. -/
theorem frame_reference : Cert.quiescent_DownGradReferenceIdeal := fun m ρ _ =>
  (θ_run _ _ _).mono (fun r h => ⟨fun c => (h c).2, sem_eq_zero_of_no_sems (by decide) r.2⟩) (Cert.DownGradReferenceIdeal.Value.run m ρ)

end Cert.DownGrad
-- ==== Proof.GateGrad.lean ====
module

public import proofs.«01_k».proof.Defs
public import proofs.«01_k».proof.Proof.Product
public import proofs.«01_k».proof.Proof.Gen.GateGradKernelIdeal.Value
public import proofs.«01_k».proof.Proof.Gen.GateGradReferenceIdeal.Run

/-! The gradient of the gate's (and of the up projection's) weights: the product of `dgate`, transposed, with `h2`. -/

@[expose] public section
open Idealize.ShloMosaic Idealize.ShloMosaic.TcCoe Idealize.SL.Sem Cert.Product

namespace Cert.GateGrad
open Cert.GateGradKernelIdeal Cert.GateGradKernelIdeal.Gen Cert.GateGradKernelIdeal.Value

variable (m : (ℓ : Loc nD τ sig) → Buf (Elt Ideal) ℓ) (ρ : Dev nD → PrngReg)

/-- The gradient the arguments have. -/
noncomputable abbrev grad (c : Dev nD) : Vec Ideal S3072x1024 .bf16 := tn (m ((c : Thread nD τ).loc main_arg0)) (m ((c : Thread nD τ).loc main_arg1))

/-- The block indices at each point: the first operand's columns and the result's rows move, the second operand stays. -/
theorem idx : ∀ t : Fin cfg0.N, win0_0.index t (0 : Fin 2) = 0 ∧ win0_0.index t (1 : Fin 2) = t.val
    ∧ win0_1.index t (0 : Fin 2) = 0 ∧ win0_1.index t (1 : Fin 2) = 0 ∧ win0_2.index t (0 : Fin 2) = t.val ∧ win0_2.index t (1 : Fin 2) = 0 :=
  (by decide +kernel : ∀ t : Fin grid0.N, _)

/-- The result's rows are three blocks of 1024. -/
theorem rows : cfg0.N * 1024 = 3072 := by rw [show cfg0.N = 3 from N_0]

/-- Where an index of the first operand's block lies in the operand. -/
theorem emb0 (t : Fin cfg0.N) (k : Fin 2048) (r : Fin 1024) : ((cfg0.win 0).blk t).view.emb (ix2 k r) = ix2 k (rowAt rows t r) := by
  obtain ⟨e0, e1, -⟩ := idx t
  exact pair_ext (show win0_0.index t (0 : Fin 2) * 2048 + 1 * k.val = k.val from by omega) (show win0_0.index t (1 : Fin 2) * 1024 + 1 * r.val = 1024 * t.val + r.val from by omega)

/-- Where an index of the second operand's block lies in the operand. -/
theorem emb1 (t : Fin cfg0.N) (k : Fin 2048) (r : Fin 1024) : ((cfg0.win 1).blk t).view.emb (ix2 k r) = ix2 k r := by
  obtain ⟨-, -, e0, e1, -⟩ := idx t
  exact pair_ext (show win0_1.index t (0 : Fin 2) * 2048 + 1 * k.val = k.val from by omega) (show win0_1.index t (1 : Fin 2) * 1024 + 1 * r.val = r.val from by omega)

/-- Where an index of the result's block lies in the result. -/
theorem emb2 (t : Fin cfg0.N) (r d : Fin 1024) : ((cfg0.win 2).blk t).view.emb (ix2 r d) = ix2 (rowAt rows t r) d := by
  obtain ⟨-, -, -, -, e0, e1⟩ := idx t
  exact pair_ext (show win0_2.index t (0 : Fin 2) * 1024 + 1 * r.val = 1024 * t.val + r.val from by omega) (show win0_2.index t (1 : Fin 2) * 1024 + 1 * d.val = d.val from by omega)

/-- One block's product at an index. -/
theorem pay_at (x y : Vec Ideal S2048x1024 .bf16) (r d : Fin 1024) :
    k0_pay1 x y (ix2 r d) = (∑ k : Fin 2048, (x (ix2 k r) : EReal) * (y (ix2 k d) : EReal) : EReal) := by
  pointwise [k0_pay1]

/-- What a point writes back is its rows of the gradient. -/
theorem flushed_eq (c : Dev nD) (t : Fin cfg0.N) : (dats m 0 c).flushed 2 t = ((cfg0.win 2).blk t).view.read (Elt Ideal) (grad m c) := by
  rw [flushed2]
  funext j
  obtain ⟨r, d, rfl⟩ := pair j
  show out0_2 _ _ (ix2 r d) = grad m c (((cfg0.win 2).blk t).view.emb (ix2 r d))
  rw [emb2, out0_2, View.canon_unit_zero (funext fun a => by fin_cases a <;> rfl), View.ld_unit_zero (funext fun a => by fin_cases a <;> rfl),
    View.ld_unit_zero (funext fun a => by fin_cases a <;> rfl), pay_at]
  exact sum_mul_congr (fun k => congrArg (m ((c : Thread nD τ).loc main_arg0)) (emb0 t k r)) (fun k => congrArg (m ((c : Thread nD τ).loc main_arg1)) (emb1 t k d))

/-- Every index of the result lies in some point's block. -/
theorem covered (i : S3072x1024.Idx) : ∃ t : Fin cfg0.N, (cfg0.win 2).flush t = true ∧ i ∈ ((cfg0.win 2).blk t).view.set := by
  obtain ⟨r, d, rfl⟩ := pair i
  obtain ⟨t, q, rfl⟩ := exists_rowAt rows r
  exact ⟨t, flush0_2 t, emb2 t q d ▸ ((cfg0.win 2).blk t).view.emb_mem_set (ix2 q d)⟩

/-- The kernel ends with the gradient. -/
theorem run : θ_run (defs (F := Ideal)) (onTc (τ := τ) (main (F := Ideal))) ⟨m, fun _ => 0, ρ⟩ fun r => ∀ c : Dev nD,
    r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans ((dats m 0 c).arrAt_eq_of_cover 2 _ (fun t _ => flushed_eq m c t) covered), (h c).2⟩) (run_blocks m ρ)

/-- The value claim: both programs end with the gradient. -/
theorem algebraic : Cert.algebraic_GateGradKernelIdeal_GateGradReferenceIdeal := by
  intro m g m' g' _ hargs
  refine ⟨grad m, run m g, ?_⟩
  refine (θ_run _ _ _).mono (fun r h c => ⟨(h c).1.trans ?_, (h c).2⟩) (Cert.GateGradReferenceIdeal.Value.run m' g')
  obtain ⟨h0, h1⟩ := hargs c
  rw [h0, h1]
  unfold grad
  generalize m ((c : Thread nD τ).loc main_arg0) = a
  generalize m ((c : Thread nD τ).loc main_arg1) = b
  change Vec Ideal S2048x3072 .bf16 at a
  change Vec Ideal S2048x1024 .bf16 at b
  funext i
  obtain ⟨r, d, rfl⟩ := pair i
  pointwise [tn]

/-- The reference leaves its arguments and its counters alone. -/
theorem frame_reference : Cert.quiescent_GateGradReferenceIdeal := fun m ρ _ =>
  (θ_run _ _ _).mono (fun r h => ⟨fun c => (h c).2, sem_eq_zero_of_no_sems (by decide) r.2⟩) (Cert.GateGradReferenceIdeal.Value.run m ρ)

end Cert.GateGrad
-- ==== Proof.In.lean ====
module

public import proofs.«01_k».proof.Defs
public import proofs.«01_k».proof.Proof.Norm
public import proofs.«01_k».proof.Proof.Gen.InKernelIdeal.Value
public import proofs.«01_k».proof.Proof.Gen.InReferenceIdeal.Run

/-! The input projections: the normalized rows, and their product with the weights. -/

@[expose] public section
open Idealize.ShloMosaic Idealize.ShloMosaic.TcCoe Idealize.SL.Sem Cert.Product Cert.Norm

namespace Cert.In
open Cert.InKernelIdeal Cert.InKernelIdeal.Gen Cert.InKernelIdeal.Value

variable (m : (ℓ : Loc nD τ sig) → Buf (Elt Ideal) ℓ) (ρ : Dev nD → PrngReg)

/-- The normalized rows the arguments have. -/
noncomputable abbrev rowsOf (c : Dev nD) : Vec Ideal S2048x1024 .bf16 := normed (m ((c : Thread nD τ).loc main_arg0)) (m ((c : Thread nD τ).loc main_arg1))

/-- The projections the arguments have. -/
noncomputable abbrev proj (c : Dev nD) : Vec Ideal S2048x3200 .f32 := nt (rowsOf m c) (m ((c : Thread nD τ).loc main_arg2))

/-- The block indices at each point: the rows move, the weights and the gain stay. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0) :=
  (by decide +kernel : ∀ t : Fin grid0.N, _)

/-- The rows are four blocks of 512. -/
theorem rows : cfg0.N * 512 = 2048 := by rw [show cfg0.N = 4 from N_0]

/-- Where an index of the rows' block lies in the rows. -/
theorem emb0 (t : Fin cfg0.N) (r : Fin 512) (k : Fin 1024) : ((cfg0.win 0).blk t).view.emb (ix2 r k) = ix2 (rowAt rows t r) k := by
  obtain ⟨e0, e1⟩ := (idx t).1
  exact pair_ext (show win0_0.index t (0 : Fin 2) * 512 + 1 * r.val = 512 * t.val + r.val from by omega) (show win0_0.index t (1 : Fin 2) * 1024 + 1 * k.val = k.val from by omega)

/-- Where an index of the weights' block lies in the weights. -/
theorem emb1 (t : Fin cfg0.N) (d : Fin 3200) (k : Fin 1024) : ((cfg0.win 1).blk t).view.emb (ix2 d k) = ix2 d k := by
  obtain ⟨e0, e1⟩ := (idx t).2.1
  exact pair_ext (show win0_1.index t (0 : Fin 2) * 3200 + 1 * d.val = d.val from by omega) (show win0_1.index t (1 : Fin 2) * 1024 + 1 * k.val = k.val from by omega)

/-- Where an index of the gain's block lies in the gain. -/
theorem emb2 (t : Fin cfg0.N) (k : Fin 1024) : ((cfg0.win 2).blk t).view.emb (ix2 (0 : Fin 1) k) = ix2 (0 : Fin 1) k := by
  obtain ⟨e0, e1⟩ := (idx t).2.2.1
  exact pair_ext (show win0_2.index t (0 : Fin 2) * 1 + 1 * 0 = 0 from by omega) (show win0_2.index t (1 : Fin 2) * 1024 + 1 * k.val = k.val from by omega)

/-- Where an index of the projections' block lies in the projections. -/
theorem emb3 (t : Fin cfg0.N) (r : Fin 512) (d : Fin 3200) : ((cfg0.win 3).blk t).view.emb (ix2 r d) = ix2 (rowAt rows t r) d := by
  obtain ⟨e0, e1⟩ := (idx t).2.2.2.1
  exact pair_ext (show win0_3.index t (0 : Fin 2) * 512 + 1 * r.val = 512 * t.val + r.val from by omega) (show win0_3.index t (1 : Fin 2) * 3200 + 1 * d.val = d.val from by omega)

/-- Where an index of the normalized rows' block lies in them. -/
theorem emb4 (t : Fin cfg0.N) (r : Fin 512) (d : Fin 1024) : ((cfg0.win 4).blk t).view.emb (ix2 r d) = ix2 (rowAt rows t r) d := by
  obtain ⟨e0, e1⟩ := (idx t).2.2.2.2
  exact pair_ext (show win0_4.index t (0 : Fin 2) * 512 + 1 * r.val = 512 * t.val + r.val from by omega) (show win0_4.index t (1 : Fin 2) * 1024 + 1 * d.val = d.val from by omega)

/-- The body's normalized rows. -/
theorem out4_eq (x : Vec Ideal S512x1024 .f32) (w : Vec Ideal S3200x1024 .bf16) (g : Vec Ideal S1x1024 .f32) : out0_4 x w g = normed x g := by
  funext j
  obtain ⟨r, d, rfl⟩ := pair j
  rw [out0_4, View.canon_unit_zero (funext fun a => by fin_cases a <;> rfl), View.ld_unit_zero (funext fun a => by fin_cases a <;> rfl),
    View.ld_unit_zero (funext fun a => by fin_cases a <;> rfl)]
  pointwise [k0_pay2, normed, scale]

/-- The body's five stores together are the projections of the block's rows. -/
theorem out3_eq (x : Vec Ideal S512x1024 .f32) (w : Vec Ideal S3200x1024 .bf16) (g : Vec Ideal S1x1024 .f32) : out0_3 x w g = nt (normed x g) w := by
  funext j
  unfold out0_3
  refine View.canon_apply_of_pieces (Val := Elt Ideal) (nt (normed x g) w) _ ?_ j (cover0_3 _ _ _ _ _ j)
  intro p hp i
  show p.2 i = nt (normed x g) w (p.1.idx i)
  simp only [List.mem_cons, List.not_mem_nil, or_false] at hp
  obtain rfl | rfl | rfl | rfl | rfl := hp
  all_goals
    obtain ⟨r, d, rfl⟩ := pair i
    pointwise [k0_pay1, k0_pay2, k0_pay3, k0_pay4, k0_pay5, k0_pay6, nt, normed, scale]

/-- A block's normalized row is a row of the normalized rows. -/
theorem normed_at (c : Dev nD) (t : Fin cfg0.N) (r : Fin 512) (d : Fin 1024) :
    normed (iblk m c 0 t) (iblk m c 2 t) (ix2 r d) = rowsOf m c (ix2 (rowAt rows t r) d) := by
  refine normed_congr (x' := m ((c : Thread nD τ).loc main_arg0)) (g' := m ((c : Thread nD τ).loc main_arg1)) (fun k => ?_) (fun k => ?_) d
  · exact congrArg (m ((c : Thread nD τ).loc main_arg0)) (emb0 t r k)
  · exact congrArg (m ((c : Thread nD τ).loc main_arg1)) (emb2 t k)

/-- What a point writes back is its rows of the projections, -/
theorem flushed3_eq (c : Dev nD) (t : Fin cfg0.N) : (dats m 0 c).flushed 3 t = ((cfg0.win 3).blk t).view.read (Elt Ideal) (proj m c) := by
  rw [flushed3]
  funext j
  obtain ⟨r, d, rfl⟩ := pair j
  show out0_3 _ _ _ (ix2 r d) = proj m c (((cfg0.win 3).blk t).view.emb (ix2 r d))
  rw [out3_eq, emb3]
  exact sum_mul_congr (fun k => normed_at m c t r k) (fun k => congrArg (m ((c : Thread nD τ).loc main_arg2)) (emb1 t d k))

/-- and its normalized rows. -/
theorem flushed4_eq (c : Dev nD) (t : Fin cfg0.N) : (dats m 0 c).flushed 4 t = ((cfg0.win 4).blk t).view.read (Elt Ideal) (rowsOf m c) := by
  rw [flushed4]
  funext j
  obtain ⟨r, d, rfl⟩ := pair j
  show out0_4 _ _ _ (ix2 r d) = rowsOf m c (((cfg0.win 4).blk t).view.emb (ix2 r d))
  rw [out4_eq, emb4]
  exact normed_at m c t r d

/-- Every index of the projections lies in some point's block, -/
theorem covered3 (i : S2048x3200.Idx) : ∃ t : Fin cfg0.N, (cfg0.win 3).flush t = true ∧ i ∈ ((cfg0.win 3).blk t).view.set := by
  obtain ⟨r, d, rfl⟩ := pair i
  obtain ⟨t, q, rfl⟩ := exists_rowAt rows r
  exact ⟨t, flush0_3 t, emb3 t q d ▸ ((cfg0.win 3).blk t).view.emb_mem_set (ix2 q d)⟩

/-- and every index of the normalized rows. -/
theorem covered4 (i : S2048x1024.Idx) : ∃ t : Fin cfg0.N, (cfg0.win 4).flush t = true ∧ i ∈ ((cfg0.win 4).blk t).view.set := by
  obtain ⟨r, d, rfl⟩ := pair i
  obtain ⟨t, q, rfl⟩ := exists_rowAt rows r
  exact ⟨t, flush0_4 t, emb4 t q d ▸ ((cfg0.win 4).blk t).view.emb_mem_set (ix2 q d)⟩

/-- The value claim: both programs end with the projections and the normalized rows. -/
theorem algebraic : Cert.algebraic_InKernelIdeal_InReferenceIdeal := by
  intro m g m' g' _ hargs
  refine ⟨proj m, rowsOf m, (θ_run _ _ _).mono (fun _ h c => ⟨(h c).1.trans ((dats m 0 c).arrAt_eq_of_cover 3 _ (fun t _ => flushed3_eq m c t) covered3),
    (h c).2.1.trans ((dats m 0 c).arrAt_eq_of_cover 4 _ (fun t _ => flushed4_eq m c t) covered4), (h c).2.2⟩) (run_blocks m g), ?_⟩
  refine (θ_run _ _ _).mono (fun r h c => ⟨(h c).1.trans ?_, (h c).2.1.trans ?_, (h c).2.2⟩) (Cert.InReferenceIdeal.Value.run m' g')
  all_goals
    obtain ⟨h0, h1, h2⟩ := hargs c
    rw [h0, h1]
    try rw [h2]
    try unfold proj
    unfold rowsOf
    generalize m ((c : Thread nD τ).loc main_arg0) = x
    generalize m ((c : Thread nD τ).loc main_arg1) = g
    generalize m ((c : Thread nD τ).loc main_arg2) = w
    change Vec Ideal S2048x1024 .f32 at x
    change Vec Ideal S1x1024 .f32 at g
    change Vec Ideal S3200x1024 .bf16 at w
    funext i
    obtain ⟨r, d, rfl⟩ := pair i
    pointwise [nt, normed, scale]

/-- The reference leaves its arguments and its counters alone. -/
theorem frame_reference : Cert.quiescent_InReferenceIdeal := fun m ρ _ =>
  (θ_run _ _ _).mono (fun r h => ⟨fun c => (h c).2.2, sem_eq_zero_of_no_sems (by decide) r.2⟩) (Cert.InReferenceIdeal.Value.run m ρ)

end Cert.In
-- ==== Proof.InGrad.lean ====
module

public import proofs.«01_k».proof.Defs
public import proofs.«01_k».proof.Proof.Product
public import proofs.«01_k».proof.Proof.Gen.InGradKernelIdeal.Value
public import proofs.«01_k».proof.Proof.Gen.InGradReferenceIdeal.Run

/-! The gradient of the input projections' weights: the product of the projections' gradient, transposed, with `h1`. -/

@[expose] public section
open Idealize.ShloMosaic Idealize.ShloMosaic.TcCoe Idealize.SL.Sem Cert.Product

namespace Cert.InGrad
open Cert.InGradKernelIdeal Cert.InGradKernelIdeal.Gen Cert.InGradKernelIdeal.Value

variable (m : (ℓ : Loc nD τ sig) → Buf (Elt Ideal) ℓ) (ρ : Dev nD → PrngReg)

/-- The gradient the arguments have. -/
noncomputable abbrev grad (c : Dev nD) : Vec Ideal S3200x1024 .bf16 := tn (m ((c : Thread nD τ).loc main_arg0)) (m ((c : Thread nD τ).loc main_arg1))

/-- The block indices at each point: the first operand's columns and the result's rows move, the second operand stays. -/
theorem idx : ∀ t : Fin cfg0.N, win0_0.index t (0 : Fin 2) = 0 ∧ win0_0.index t (1 : Fin 2) = t.val
    ∧ win0_1.index t (0 : Fin 2) = 0 ∧ win0_1.index t (1 : Fin 2) = 0 ∧ win0_2.index t (0 : Fin 2) = t.val ∧ win0_2.index t (1 : Fin 2) = 0 :=
  (by decide +kernel : ∀ t : Fin grid0.N, _)

/-- The result's rows are five blocks of 640. -/
theorem rows : cfg0.N * 640 = 3200 := by rw [show cfg0.N = 5 from N_0]

/-- Where an index of the first operand's block lies in the operand. -/
theorem emb0 (t : Fin cfg0.N) (k : Fin 2048) (r : Fin 640) : ((cfg0.win 0).blk t).view.emb (ix2 k r) = ix2 k (rowAt rows t r) := by
  obtain ⟨e0, e1, -⟩ := idx t
  exact pair_ext (show win0_0.index t (0 : Fin 2) * 2048 + 1 * k.val = k.val from by omega) (show win0_0.index t (1 : Fin 2) * 640 + 1 * r.val = 640 * t.val + r.val from by omega)

/-- Where an index of the second operand's block lies in the operand. -/
theorem emb1 (t : Fin cfg0.N) (k : Fin 2048) (r : Fin 1024) : ((cfg0.win 1).blk t).view.emb (ix2 k r) = ix2 k r := by
  obtain ⟨-, -, e0, e1, -⟩ := idx t
  exact pair_ext (show win0_1.index t (0 : Fin 2) * 2048 + 1 * k.val = k.val from by omega) (show win0_1.index t (1 : Fin 2) * 1024 + 1 * r.val = r.val from by omega)

/-- Where an index of the result's block lies in the result. -/
theorem emb2 (t : Fin cfg0.N) (r : Fin 640) (d : Fin 1024) : ((cfg0.win 2).blk t).view.emb (ix2 r d) = ix2 (rowAt rows t r) d := by
  obtain ⟨-, -, -, -, e0, e1⟩ := idx t
  exact pair_ext (show win0_2.index t (0 : Fin 2) * 640 + 1 * r.val = 640 * t.val + r.val from by omega) (show win0_2.index t (1 : Fin 2) * 1024 + 1 * d.val = d.val from by omega)

/-- One block's product at an index. -/
theorem pay_at (x : Vec Ideal S2048x640 .f32) (y : Vec Ideal S2048x1024 .bf16) (r : Fin 640) (d : Fin 1024) :
    k0_pay1 x y (ix2 r d) = (∑ k : Fin 2048, (x (ix2 k r) : EReal) * (y (ix2 k d) : EReal) : EReal) := by
  pointwise [k0_pay1]

/-- What a point writes back is its rows of the gradient. -/
theorem flushed_eq (c : Dev nD) (t : Fin cfg0.N) : (dats m 0 c).flushed 2 t = ((cfg0.win 2).blk t).view.read (Elt Ideal) (grad m c) := by
  rw [flushed2]
  funext j
  obtain ⟨r, d, rfl⟩ := pair j
  show out0_2 _ _ (ix2 r d) = grad m c (((cfg0.win 2).blk t).view.emb (ix2 r d))
  rw [emb2, out0_2, View.canon_unit_zero (funext fun a => by fin_cases a <;> rfl), View.ld_unit_zero (funext fun a => by fin_cases a <;> rfl),
    View.ld_unit_zero (funext fun a => by fin_cases a <;> rfl), pay_at]
  exact sum_mul_congr (fun k => congrArg (m ((c : Thread nD τ).loc main_arg0)) (emb0 t k r)) (fun k => congrArg (m ((c : Thread nD τ).loc main_arg1)) (emb1 t k d))

/-- Every index of the result lies in some point's block. -/
theorem covered (i : S3200x1024.Idx) : ∃ t : Fin cfg0.N, (cfg0.win 2).flush t = true ∧ i ∈ ((cfg0.win 2).blk t).view.set := by
  obtain ⟨r, d, rfl⟩ := pair i
  obtain ⟨t, q, rfl⟩ := exists_rowAt rows r
  exact ⟨t, flush0_2 t, emb2 t q d ▸ ((cfg0.win 2).blk t).view.emb_mem_set (ix2 q d)⟩

/-- The kernel ends with the gradient. -/
theorem run : θ_run (defs (F := Ideal)) (onTc (τ := τ) (main (F := Ideal))) ⟨m, fun _ => 0, ρ⟩ fun r => ∀ c : Dev nD,
    r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans ((dats m 0 c).arrAt_eq_of_cover 2 _ (fun t _ => flushed_eq m c t) covered), (h c).2⟩) (run_blocks m ρ)

/-- The value claim: both programs end with the gradient. -/
theorem algebraic : Cert.algebraic_InGradKernelIdeal_InGradReferenceIdeal := by
  intro m g m' g' _ hargs
  refine ⟨grad m, run m g, ?_⟩
  refine (θ_run _ _ _).mono (fun r h c => ⟨(h c).1.trans ?_, (h c).2⟩) (Cert.InGradReferenceIdeal.Value.run m' g')
  obtain ⟨h0, h1⟩ := hargs c
  rw [h0, h1]
  unfold grad
  generalize m ((c : Thread nD τ).loc main_arg0) = a
  generalize m ((c : Thread nD τ).loc main_arg1) = b
  change Vec Ideal S2048x3200 .f32 at a
  change Vec Ideal S2048x1024 .bf16 at b
  funext i
  obtain ⟨r, d, rfl⟩ := pair i
  pointwise [tn]

/-- The reference leaves its arguments and its counters alone. -/
theorem frame_reference : Cert.quiescent_InGradReferenceIdeal := fun m ρ _ =>
  (θ_run _ _ _).mono (fun r h => ⟨fun c => (h c).2, sem_eq_zero_of_no_sems (by decide) r.2⟩) (Cert.InGradReferenceIdeal.Value.run m ρ)

end Cert.InGrad
-- ==== Proof.SwigluBwd.lean ====
module

public import proofs.«01_k».proof.Defs
public import proofs.«01_k».proof.Proof.Finite
public import proofs.«01_k».proof.Proof.SwigluFwd
public import proofs.«01_k».proof.Proof.Gen.SwigluBwdKernelIdeal.Value
public import proofs.«01_k».proof.Proof.Gen.SwigluBwdReferenceIdeal.Run

/-! The activation's gradient: from the gradient of the down projection's result to those of the gate and of the up projection. -/

@[expose] public section
open Idealize.ShloMosaic Idealize.ShloMosaic.TcCoe Idealize.SL.Sem Cert.Product

namespace Cert.SwigluBwd
open Cert.SwigluBwdKernelIdeal Cert.SwigluBwdKernelIdeal.Gen Cert.SwigluBwdKernelIdeal.Value
open Cert.Scan (IsNum)

/-- The float one. -/
noncomputable abbrev one : EReal := Ideal.ofBits .f32 0x3F800000#32

theorem one_eq : one = 1 := Ideal.ofBits_one_f32

/-- The logistic function's value is a number, at the infinities too. -/
theorem logistic_num (x : EReal) : IsNum (SwigluFwd.logistic x) := by
  unfold SwigluFwd.logistic
  rw [show Ideal.ofBits .f32 0x3F800000#32 = (1 : EReal) from one_eq]
  induction x with
  | bot => exact ⟨0, by rw [zero_sub, EReal.neg_bot]; show Ideal.div 1 (1 + ⊤) = _; rw [show (1 : EReal) + ⊤ = ⊤ from EReal.coe_add_top 1]; simp [Ideal.div]⟩
  | top => exact ⟨1, by rw [zero_sub, EReal.neg_top]; show Ideal.div 1 (1 + 0) = _; simp [Ideal.div]⟩
  | coe r =>
    refine ⟨1 / (1 + Real.exp (0 - r)), ?_⟩
    show Ideal.div 1 (1 + ((Real.exp (0 - r) : ℝ) : EReal)) = _
    have h : (1 + Real.exp (0 - r)) ≠ 0 := by positivity
    rw [← EReal.coe_one, ← EReal.coe_add, Ideal.div_coe h, ← EReal.coe_mul, one_mul]

/-- A number multiplies a sum with one term by term. -/
theorem num_mul_one_add (c : ℝ) (y : EReal) : (c : EReal) * (1 + y) = c + c * y := by
  induction y with
  | bot =>
    rw [EReal.add_bot]
    obtain h | h | h := lt_trichotomy c 0
    · rw [EReal.coe_mul_bot_of_neg h, EReal.coe_add_top]
    · rw [h]; simp
    · rw [EReal.coe_mul_bot_of_pos h, EReal.add_bot]
  | top =>
    rw [show (1 : EReal) + ⊤ = ⊤ from EReal.coe_add_top 1]
    obtain h | h | h := lt_trichotomy c 0
    · rw [EReal.coe_mul_top_of_neg h, EReal.add_bot]
    · rw [h]; simp
    · rw [EReal.coe_mul_top_of_pos h, EReal.coe_add_top]
  | coe r => norm_cast; ring

/-- The gradient of the gate at an entry, from that of the product, the gate and the up projection. -/
noncomputable def gateAt (a g u : EReal) : EReal := a * u * SwigluFwd.logistic g * (one + g * (one - SwigluFwd.logistic g))

/-- The gradient of the up projection at an entry. -/
noncomputable def upAt (a g : EReal) : EReal := a * g * SwigluFwd.logistic g

/-- The gate's gradient by the product rule, where the product's gradient and the up projection are numbers. -/
theorem gateAt_eq {a u : EReal} (g : EReal) (ha : IsNum a) (hu : IsNum u) :
    gateAt a g u = a * u * SwigluFwd.logistic g + g * (a * u) * (SwigluFwd.logistic g * (one - SwigluFwd.logistic g)) := by
  unfold gateAt
  rw [one_eq]
  obtain ⟨c, hc⟩ := (ha.mul hu).mul (logistic_num g)
  rw [hc, num_mul_one_add, ← hc]
  congr 1
  rw [mul_assoc (a * u), mul_left_comm (SwigluFwd.logistic g), ← mul_assoc (a * u), mul_comm (a * u) g]

variable (m : (ℓ : Loc nD τ sig) → Buf (Elt Ideal) ℓ) (ρ : Dev nD → PrngReg)

/-- The gradient of the product of gate and up projection that the arguments have. -/
noncomputable abbrev dff (c : Dev nD) : Vec Ideal S2048x3072 .f32 := nt (m ((c : Thread nD τ).loc main_arg0)) (m ((c : Thread nD τ).loc main_arg1))

/-- The gate's gradient. -/
noncomputable abbrev dgate (c : Dev nD) : Vec Ideal S2048x3072 .bf16 :=
  fun i => gateAt (dff m c i) (m ((c : Thread nD τ).loc main_arg2) i) (m ((c : Thread nD τ).loc main_arg3) i)

/-- The up projection's gradient. -/
noncomputable abbrev dup (c : Dev nD) : Vec Ideal S2048x3072 .bf16 := fun i => upAt (dff m c i) (m ((c : Thread nD τ).loc main_arg2) i)

/-- The block indices at each point: the rows move, the weights stay. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- The rows are four blocks of 512. -/
theorem rows : cfg0.N * 512 = 2048 := by rw [show cfg0.N = 4 from N_0]

/-- Where an index of the block of the result's gradient lies in it. -/
theorem emb0 (t : Fin cfg0.N) (r : Fin 512) (k : Fin 1024) : ((cfg0.win 0).blk t).view.emb (ix2 r k) = ix2 (rowAt rows t r) k := by
  obtain ⟨e0, e1⟩ := (idx t).1
  exact pair_ext (show win0_0.index t (0 : Fin 2) * 512 + 1 * r.val = 512 * t.val + r.val from by omega) (show win0_0.index t (1 : Fin 2) * 1024 + 1 * k.val = k.val from by omega)

/-- Where an index of the weights' block lies in the weights. -/
theorem emb1 (t : Fin cfg0.N) (d : Fin 3072) (k : Fin 1024) : ((cfg0.win 1).blk t).view.emb (ix2 d k) = ix2 d k := by
  obtain ⟨e0, e1⟩ := (idx t).2.1
  exact pair_ext (show win0_1.index t (0 : Fin 2) * 3072 + 1 * d.val = d.val from by omega) (show win0_1.index t (1 : Fin 2) * 1024 + 1 * k.val = k.val from by omega)

/-- Where an index of the gate's block lies in the gate. -/
theorem emb2 (t : Fin cfg0.N) (r : Fin 512) (d : Fin 3072) : ((cfg0.win 2).blk t).view.emb (ix2 r d) = ix2 (rowAt rows t r) d := by
  obtain ⟨e0, e1⟩ := (idx t).2.2.1
  exact pair_ext (show win0_2.index t (0 : Fin 2) * 512 + 1 * r.val = 512 * t.val + r.val from by omega) (show win0_2.index t (1 : Fin 2) * 3072 + 1 * d.val = d.val from by omega)

/-- Where an index of the up projection's block lies in it. -/
theorem emb3 (t : Fin cfg0.N) (r : Fin 512) (d : Fin 3072) : ((cfg0.win 3).blk t).view.emb (ix2 r d) = ix2 (rowAt rows t r) d := by
  obtain ⟨e0, e1⟩ := (idx t).2.2.2.1
  exact pair_ext (show win0_3.index t (0 : Fin 2) * 512 + 1 * r.val = 512 * t.val + r.val from by omega) (show win0_3.index t (1 : Fin 2) * 3072 + 1 * d.val = d.val from by omega)

/-- Where an index of the block of the gate's gradient lies in it. -/
theorem emb4 (t : Fin cfg0.N) (r : Fin 512) (d : Fin 3072) : ((cfg0.win 4).blk t).view.emb (ix2 r d) = ix2 (rowAt rows t r) d := by
  obtain ⟨e0, e1⟩ := (idx t).2.2.2.2.1
  exact pair_ext (show win0_4.index t (0 : Fin 2) * 512 + 1 * r.val = 512 * t.val + r.val from by omega) (show win0_4.index t (1 : Fin 2) * 3072 + 1 * d.val = d.val from by omega)

/-- Where an index of the block of the up projection's gradient lies in it. -/
theorem emb5 (t : Fin cfg0.N) (r : Fin 512) (d : Fin 3072) : ((cfg0.win 5).blk t).view.emb (ix2 r d) = ix2 (rowAt rows t r) d := by
  obtain ⟨e0, e1⟩ := (idx t).2.2.2.2.2
  exact pair_ext (show win0_5.index t (0 : Fin 2) * 512 + 1 * r.val = 512 * t.val + r.val from by omega) (show win0_5.index t (1 : Fin 2) * 3072 + 1 * d.val = d.val from by omega)

section body
variable (dx : Vec Ideal S512x1024 .f32) (w : Vec Ideal S3072x1024 .bf16) (ga up : Vec Ideal S512x3072 .bf16)

/-- What the six stores of the gate's gradient hold together. -/
noncomputable def gates : Vec Ideal S512x3072 .bf16 := fun i => gateAt (nt dx w i) (ga i) (up i)

/-- What the six stores of the up projection's gradient hold together. -/
noncomputable def ups : Vec Ideal S512x3072 .bf16 := fun i => upAt (nt dx w i) (ga i)

theorem out4_eq : out0_4 dx w ga up = gates dx w ga up := by
  funext j
  unfold_out out0_4
  refine View.canon_apply_of_pieces (Val := Elt Ideal) (gates dx w ga up) _ ?_ j (cover0_4 _ _ _ _ _ _ j)
  intro p hp i
  show p.2 i = gates dx w ga up (p.1.idx i)
  simp only [List.mem_cons, List.not_mem_nil, or_false] at hp
  obtain rfl | rfl | rfl | rfl | rfl | rfl := hp
  all_goals
    obtain ⟨r, d, rfl⟩ := pair i
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, gates, gateAt, SwigluFwd.logistic, nt]

theorem out5_eq : out0_5 dx w ga up = ups dx w ga := by
  funext j
  unfold_out out0_5
  refine View.canon_apply_of_pieces (Val := Elt Ideal) (ups dx w ga) _ ?_ j (cover0_5 _ _ _ _ _ _ j)
  intro p hp i
  show p.2 i = ups dx w ga (p.1.idx i)
  simp only [List.mem_cons, List.not_mem_nil, or_false] at hp
  obtain rfl | rfl | rfl | rfl | rfl | rfl := hp
  all_goals
    obtain ⟨r, d, rfl⟩ := pair i
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, ups, upAt, SwigluFwd.logistic, nt]

end body

/-- A block's product gradient is the product gradient at the block's rows. -/
theorem dff_at (c : Dev nD) (t : Fin cfg0.N) (r : Fin 512) (d : Fin 3072) : nt (iblk m c 0 t) (iblk m c 1 t) (ix2 r d) = dff m c (ix2 (rowAt rows t r) d) :=
  sum_mul_congr (fun k => congrArg (m ((c : Thread nD τ).loc main_arg0)) (emb0 t r k)) (fun k => congrArg (m ((c : Thread nD τ).loc main_arg1)) (emb1 t d k))

/-- What a point writes back is its rows of the gate's gradient -/
theorem flushed4_eq (c : Dev nD) (t : Fin cfg0.N) : (dats m 0 c).flushed 4 t = ((cfg0.win 4).blk t).view.read (Elt Ideal) (dgate m c) := by
  rw [flushed4]
  funext j
  obtain ⟨r, d, rfl⟩ := pair j
  show out0_4 _ _ _ _ (ix2 r d) = dgate m c (((cfg0.win 4).blk t).view.emb (ix2 r d))
  rw [out4_eq, emb4]
  exact (congrArg (fun a => gateAt a _ _) (dff_at m c t r d)).trans (congrArg₂ (gateAt (dff m c (ix2 (rowAt rows t r) d)))
    (congrArg (m ((c : Thread nD τ).loc main_arg2)) (emb2 t r d)) (congrArg (m ((c : Thread nD τ).loc main_arg3)) (emb3 t r d)))

/-- and of the up projection's. -/
theorem flushed5_eq (c : Dev nD) (t : Fin cfg0.N) : (dats m 0 c).flushed 5 t = ((cfg0.win 5).blk t).view.read (Elt Ideal) (dup m c) := by
  rw [flushed5]
  funext j
  obtain ⟨r, d, rfl⟩ := pair j
  show out0_5 _ _ _ _ (ix2 r d) = dup m c (((cfg0.win 5).blk t).view.emb (ix2 r d))
  rw [out5_eq, emb5]
  exact congrArg₂ upAt (dff_at m c t r d) (congrArg (m ((c : Thread nD τ).loc main_arg2)) (emb2 t r d))

/-- Every index of the gate's gradient lies in some point's block, -/
theorem covered4 (i : S2048x3072.Idx) : ∃ t : Fin cfg0.N, (cfg0.win 4).flush t = true ∧ i ∈ ((cfg0.win 4).blk t).view.set := by
  obtain ⟨r, d, rfl⟩ := pair i
  obtain ⟨t, q, rfl⟩ := exists_rowAt rows r
  exact ⟨t, flush0_4 t, emb4 t q d ▸ ((cfg0.win 4).blk t).view.emb_mem_set (ix2 q d)⟩

/-- and every index of the up projection's. -/
theorem covered5 (i : S2048x3072.Idx) : ∃ t : Fin cfg0.N, (cfg0.win 5).flush t = true ∧ i ∈ ((cfg0.win 5).blk t).view.set := by
  obtain ⟨r, d, rfl⟩ := pair i
  obtain ⟨t, q, rfl⟩ := exists_rowAt rows r
  exact ⟨t, flush0_5 t, emb5 t q d ▸ ((cfg0.win 5).blk t).view.emb_mem_set (ix2 q d)⟩

/-- The shape relations of the precondition. -/
instance facts : Cert.Pre_swiglu_finite.Facts where
  bcast_S_S2048x1024 := by decide
  reducesTo_S2048x1024_S_d0_1 := by decide
  h_S_ := by decide
  bitsLt_bf16_f32 := by decide
  bcast_S_S3072x1024 := by decide
  reducesTo_S3072x1024_S_d0_1 := by decide
  bcast_S_S2048x3072 := by decide
  reducesTo_S2048x3072_S_d0_1 := by decide

instance : Subsingleton Cert.Pre_swiglu_finite.S_.Idx := ⟨fun a b => funext fun k => k.elim0⟩

/-- Under the precondition every entry of the incoming gradient, of the weights and of the up projection is a number. -/
theorem nums [Cert.Pre_swiglu_finite.Facts] (dx : Vec Ideal S2048x1024 .f32) (w : Vec Ideal S3072x1024 .bf16) (ga up : Vec Ideal S2048x3072 .bf16)
    (i : Cert.Pre_swiglu_finite.S_.Idx) (h : Cert.Pre_swiglu_finite.fn (F := Ideal) dx w ga up i = 1#1) :
    (∀ i, IsNum (dx i)) ∧ (∀ i, IsNum (w i)) ∧ (∀ i, IsNum (up i)) := by
  unfold Cert.Pre_swiglu_finite.fn at h
  dsimp only at h
  obtain ⟨h, hu⟩ := Cert.Finite.and_one h
  obtain ⟨hx, hw⟩ := Cert.Finite.and_one h
  exact ⟨fun j => Cert.Finite.num_of_lt _ _ j (Host.reduce_andi_all _ _ _ _ i hx j), fun j => Cert.Finite.num_of_lt (extf .f32 w _) _ j (Host.reduce_andi_all _ _ _ _ i hw j),
    fun j => Cert.Finite.num_of_lt (extf .f32 up _) _ j (Host.reduce_andi_all _ _ _ _ i hu j)⟩

/-- The value claim: both programs end with the two gradients. -/
theorem algebraic : Cert.algebraic_SwigluBwdKernelIdeal_SwigluBwdReferenceIdeal_pre_swiglu_finite := by
  intro m g m' g' hpre hargs
  refine ⟨dgate m, dup m, (θ_run _ _ _).mono (fun _ h c => ⟨(h c).1.trans ((dats m 0 c).arrAt_eq_of_cover 4 _ (fun t _ => flushed4_eq m c t) covered4),
    (h c).2.1.trans ((dats m 0 c).arrAt_eq_of_cover 5 _ (fun t _ => flushed5_eq m c t) covered5), (h c).2.2⟩) (run_blocks m g), ?_⟩
  refine (θ_run _ _ _).mono (fun r h c => ⟨(h c).1.trans ?_, (h c).2.1.trans ?_, (h c).2.2⟩) (Cert.SwigluBwdReferenceIdeal.Value.run m' g')
  all_goals
    obtain ⟨h0, h1, h2, h3⟩ := hargs c
    obtain ⟨hx, hw, hu⟩ := nums _ _ _ _ (fun k => k.elim0) (congrFun (hpre c) _)
    rw [h0, h1, h2]
    try rw [h3]
    try unfold dgate
    try unfold dup
    unfold dff
    revert hx hw hu
    generalize m ((c : Thread nD τ).loc main_arg0) = x
    generalize m ((c : Thread nD τ).loc main_arg1) = w
    generalize m ((c : Thread nD τ).loc main_arg2) = ga
    generalize m ((c : Thread nD τ).loc main_arg3) = up
    change Vec Ideal S2048x1024 .f32 at x
    change Vec Ideal S3072x1024 .bf16 at w
    change Vec Ideal S2048x3072 .bf16 at ga
    change Vec Ideal S2048x3072 .bf16 at up
    intro hx hw hu
    funext i
    obtain ⟨r, d, rfl⟩ := pair i
  · refine Eq.trans ?_ (gateAt_eq (a := nt x w (ix2 r d)) (u := up (ix2 r d)) (ga (ix2 r d)) (IsNum.sum Finset.univ fun k => (hx _).mul (hw _)) (hu _)).symm
    pointwise [SwigluFwd.logistic, zero_sub, nt]
  · pointwise [upAt, SwigluFwd.logistic, zero_sub, nt]
    rw [mul_comm, ← mul_assoc]

/-- The reference leaves its arguments and its counters alone. -/
theorem frame_reference : Cert.quiescent_SwigluBwdReferenceIdeal := fun m ρ _ =>
  (θ_run _ _ _).mono (fun r h => ⟨fun c => (h c).2.2, sem_eq_zero_of_no_sems (by decide) r.2⟩) (Cert.SwigluBwdReferenceIdeal.Value.run m ρ)

/-- The same under the precondition. -/
theorem frame_reference_pre : Cert.quiescent_SwigluBwdReferenceIdeal_pre_swiglu_finite := fun m ρ _ => frame_reference m ρ trivial

end Cert.SwigluBwd
-- ==== Proof.NormGrad.lean ====
module

public import proofs.«01_k».proof.Proof.Norm
public import Idealize.ShloMosaic.Lib.IdealHost

/-! The gradients of the normalized rows: with respect to the rows, and to the gain. -/

@[expose] public section
open Idealize.ShloMosaic Cert.Product Cert.Norm

namespace Cert.NormGrad

variable {R R' : ℕ}

/-- The mean square of row `r` and a small constant. -/
noncomputable def spread (x : (⟨2, ![R, 1024]⟩ : Shape).Idx → EReal) (r : Fin R) : EReal :=
  Ideal.div (∑ k : Fin 1024, x (ix2 r k) * x (ix2 r k)) (Ideal.ofBits .f32 0x44800000#32) + Ideal.ofBits .f32 0x358637BD#32

/-- The gradient with respect to the rows, added to `dres`, from the gradient `dh` of the normalized rows times the gain: the factor times what
    is left of `dh` times the gain when the row's own direction is taken out. -/
noncomputable def drows (x : (⟨2, ![R, 1024]⟩ : Shape).Idx → EReal) (g : (⟨2, ![1, 1024]⟩ : Shape).Idx → EReal)
    (dh dres : (⟨2, ![R, 1024]⟩ : Shape).Idx → EReal) : (⟨2, ![R, 1024]⟩ : Shape).Idx → EReal :=
  fun i => dres i + scale x (i 0) * (dh i * g (ix2 0 (i 1)) - x i * scale x (i 0) *
    Ideal.div (∑ k : Fin 1024, dh (ix2 (i 0) k) * g (ix2 0 k) * (x (ix2 (i 0) k) * scale x (i 0))) (Ideal.ofBits .f32 0x44800000#32))

/-- The gradient with respect to the gain: a sum over the rows. -/
noncomputable def dgain (x dh : (⟨2, ![R, 1024]⟩ : Shape).Idx → EReal) : (⟨2, ![1, 1024]⟩ : Shape).Idx → EReal :=
  fun i => ∑ r : Fin R, dh (ix2 r (i 1)) * (x (ix2 r (i 1)) * scale x r)

/-- The gradient with respect to a row depends on the row alone. -/
theorem drows_congr {x : (⟨2, ![R, 1024]⟩ : Shape).Idx → EReal} {x' : (⟨2, ![R', 1024]⟩ : Shape).Idx → EReal} {g g' : (⟨2, ![1, 1024]⟩ : Shape).Idx → EReal}
    {dh dres : (⟨2, ![R, 1024]⟩ : Shape).Idx → EReal} {dh' dres' : (⟨2, ![R', 1024]⟩ : Shape).Idx → EReal} {r : Fin R} {r' : Fin R'}
    (h : ∀ k, x (ix2 r k) = x' (ix2 r' k)) (hg : ∀ k, g (ix2 0 k) = g' (ix2 0 k)) (hd : ∀ k, dh (ix2 r k) = dh' (ix2 r' k)) (d : Fin 1024)
    (he : dres (ix2 r d) = dres' (ix2 r' d)) : drows x g dh dres (ix2 r d) = drows x' g' dh' dres' (ix2 r' d) := by
  show dres (ix2 r d) + scale x r * (dh (ix2 r d) * g (ix2 0 d) - x (ix2 r d) * scale x r *
      Ideal.div (∑ k : Fin 1024, dh (ix2 r k) * g (ix2 0 k) * (x (ix2 r k) * scale x r)) (Ideal.ofBits .f32 0x44800000#32)) =
    dres' (ix2 r' d) + scale x' r' * (dh' (ix2 r' d) * g' (ix2 0 d) - x' (ix2 r' d) * scale x' r' *
      Ideal.div (∑ k : Fin 1024, dh' (ix2 r' k) * g' (ix2 0 k) * (x' (ix2 r' k) * scale x' r')) (Ideal.ofBits .f32 0x44800000#32))
  simp only [he, h, hg, hd, scale_congr h]

/-- A nonnegative number multiplies a sum term by term, whatever the terms. -/
theorem coe_mul_sum {ι : Type} (t : Finset ι) (f : ι → EReal) {c : ℝ} (hc : 0 ≤ c) : (c : EReal) * ∑ i ∈ t, f i = ∑ i ∈ t, (c : EReal) * f i := by
  classical
  induction t using Finset.induction_on with
  | empty => rw [Finset.sum_empty, Finset.sum_empty, mul_zero]
  | insert a s ha ih =>
    rw [Finset.sum_insert ha, Finset.sum_insert ha, EReal.left_distrib_of_nonneg_of_ne_top (EReal.coe_nonneg.mpr hc) (EReal.coe_ne_top c), ih]

/-- A sum of two equal terms is twice the term. -/
theorem add_self (y : EReal) : y + y = ((2 : ℝ) : EReal) * y := by
  induction y with
  | bot => rw [EReal.coe_mul_bot_of_pos (by norm_num)]; rfl
  | top => rw [EReal.coe_mul_top_of_pos (by norm_num)]; rfl
  | coe r => norm_cast; ring

/-- The product of an extended real with itself is not negative. -/
theorem mul_self_nonneg (y : EReal) : 0 ≤ y * y := by
  induction y with
  | bot => rw [EReal.bot_mul_bot]; exact le_top
  | top => rw [EReal.top_mul_top]; exact le_top
  | coe r => rw [← EReal.coe_mul]; exact EReal.coe_nonneg.mpr (_root_.mul_self_nonneg r)

theorem width : Ideal.ofBits .f32 0x44800000#32 = ((1024 : ℝ) : EReal) := by simp [Ideal.ofBits, Ideal.ieee, -EReal.coe_mul]; norm_num
theorem half : Ideal.ofBits .f32 0xBF000000#32 = ((-(1 / 2) : ℝ) : EReal) := by simp [Ideal.ofBits, Ideal.ieee, -EReal.coe_mul]; norm_num
theorem small : ∃ e : ℝ, 0 < e ∧ Ideal.ofBits .f32 0x358637BD#32 = (e : EReal) := by
  refine ⟨_, ?_, by simp [Ideal.ofBits, Ideal.ieee, -EReal.coe_mul]; rfl⟩
  norm_num

/-- The mean square and the constant: infinite, or a positive number. -/
theorem spread_cases (x : (⟨2, ![R, 1024]⟩ : Shape).Idx → EReal) (r : Fin R) : spread x r = ⊤ ∨ ∃ v : ℝ, 0 < v ∧ spread x r = (v : EReal) := by
  obtain ⟨e, he, hs⟩ := small
  unfold spread
  rw [width, hs, Ideal.div_coe (by norm_num)]
  have h0 : 0 ≤ (∑ k : Fin 1024, x (ix2 r k) * x (ix2 r k)) * ((1 / 1024 : ℝ) : EReal) :=
    EReal.mul_nonneg (Finset.sum_nonneg fun k _ => mul_self_nonneg _) (EReal.coe_nonneg.mpr (by norm_num))
  generalize (∑ k : Fin 1024, x (ix2 r k) * x (ix2 r k)) * ((1 / 1024 : ℝ) : EReal) = q at h0 ⊢
  induction q with
  | bot => exact absurd h0 (by simp)
  | top => exact Or.inl (EReal.top_add_coe e)
  | coe q => exact Or.inr ⟨q + e, by have := EReal.coe_nonneg.mp h0; linarith, (EReal.coe_add q e).symm⟩

/-- The gradient with respect to the rows as the chain rule gives it: through the row itself, and through the factor, whose derivative is
    minus a half of the factor over the mean square. -/
theorem drows_eq (x : (⟨2, ![R, 1024]⟩ : Shape).Idx → EReal) (g : (⟨2, ![1, 1024]⟩ : Shape).Idx → EReal)
    (dh dres : (⟨2, ![R, 1024]⟩ : Shape).Idx → EReal) (r : Fin R) (d : Fin 1024) (T : EReal)
    (hT : T = Ideal.div ((∑ k : Fin 1024, x (ix2 r k) * (dh (ix2 r k) * g (ix2 0 k))) * (Ideal.ofBits .f32 0xBF000000#32 * Ideal.div (scale x r) (spread x r)))
      (Ideal.ofBits .f32 0x44800000#32)) :
    drows x g dh dres (ix2 r d) = dres (ix2 r d) + dh (ix2 r d) * g (ix2 0 d) * scale x r + x (ix2 r d) * T + T * x (ix2 r d) := by
  show dres (ix2 r d) + scale x r * (dh (ix2 r d) * g (ix2 0 d) - x (ix2 r d) * scale x r *
      Ideal.div (∑ k : Fin 1024, dh (ix2 r k) * g (ix2 0 k) * (x (ix2 r k) * scale x r)) (Ideal.ofBits .f32 0x44800000#32)) = _
  have hs : scale x r = Ideal.rsqrt (spread x r) := rfl
  subst hT
  rw [width, half, hs, Ideal.div_coe (by norm_num), Ideal.div_coe (by norm_num)]
  obtain hv | ⟨v, hv, hv'⟩ := spread_cases x r
  · rw [hv, show Ideal.rsqrt ⊤ = 0 from rfl, show Ideal.div 0 ⊤ = 0 by simp [Ideal.div]]
    simp only [mul_zero, zero_mul, add_zero]
  · rw [hv', show Ideal.rsqrt ((v : ℝ) : EReal) = (((Real.sqrt v)⁻¹ : ℝ) : EReal) by
      show (if v < 0 then ⊥ else if v = 0 then ⊤ else (((Real.sqrt v)⁻¹ : ℝ) : EReal)) = _
      rw [if_neg (not_lt.mpr hv.le), if_neg hv.ne']]
    have hρ : 0 < (Real.sqrt v)⁻¹ := inv_pos.mpr (Real.sqrt_pos.mpr hv)
    have hρ2 : (Real.sqrt v)⁻¹ * (Real.sqrt v)⁻¹ = 1 / v := by rw [← mul_inv, Real.mul_self_sqrt hv.le, one_div]
    generalize (Real.sqrt v)⁻¹ = ρ at hρ hρ2 ⊢
    rw [Ideal.div_coe hv.ne', ← hρ2]
    have hsum : (∑ k : Fin 1024, dh (ix2 r k) * g (ix2 0 k) * (x (ix2 r k) * (ρ : EReal))) = (ρ : EReal) * ∑ k : Fin 1024, x (ix2 r k) * (dh (ix2 r k) * g (ix2 0 k)) := by
      rw [coe_mul_sum _ _ hρ.le]
      exact Finset.sum_congr rfl fun k _ => by ac_rfl
    rw [hsum]
    generalize (∑ k : Fin 1024, x (ix2 r k) * (dh (ix2 r k) * g (ix2 0 k))) = S
    generalize dh (ix2 r d) * g (ix2 0 d) = A
    generalize x (ix2 r d) = X
    rw [sub_eq_add_neg, EReal.left_distrib_of_nonneg_of_ne_top (EReal.coe_nonneg.mpr hρ.le) (EReal.coe_ne_top ρ), mul_neg, mul_comm _ X, add_assoc (_ + _), add_self,
      ← add_assoc, mul_comm (ρ : EReal) A]
    congr 1
    have e1 : (ρ : EReal) * (X * (ρ : EReal) * ((ρ : EReal) * S * ((1 / 1024 : ℝ) : EReal))) = X * S * ((ρ * ρ * ρ * (1 / 1024) : ℝ) : EReal) := by
      push_cast; ac_rfl
    have e2 : ((2 : ℝ) : EReal) * (X * (S * (((-(1 / 2) : ℝ) : EReal) * ((ρ : EReal) * ((ρ * ρ : ℝ) : EReal))) * ((1 / 1024 : ℝ) : EReal))) =
        X * S * ((2 * (-(1 / 2)) * (ρ * (ρ * ρ)) * (1 / 1024) : ℝ) : EReal) := by
      simp only [EReal.coe_mul]; ac_rfl
    rw [e1, e2, ← mul_neg, ← EReal.coe_neg]
    congr 2
    ring

/-- A sum over the rows is the sum over the blocks of the sums over a block's rows. -/
theorem sum_rowAt {n B : ℕ} (h : n * B = R) (f : Fin R → EReal) : ∑ t : Fin n, ∑ r : Fin B, f (rowAt h t r) = ∑ i : Fin R, f i := by
  rw [← Fintype.sum_prod_type']
  refine Fintype.sum_bijective (fun p : Fin n × Fin B => rowAt h p.1 p.2) ?_ _ _ fun _ => rfl
  refine (Fintype.bijective_iff_surjective_and_card _).mpr ⟨fun i => ?_, by simp [h]⟩
  obtain ⟨t, r, e⟩ := exists_rowAt h i
  exact ⟨(t, r), e⟩

/-- The gain's gradient is the sum of those of the blocks of rows. -/
theorem dgain_blocks {n B : ℕ} (h : n * B = R) {x dh : (⟨2, ![R, 1024]⟩ : Shape).Idx → EReal} {xb db : Fin n → (⟨2, ![B, 1024]⟩ : Shape).Idx → EReal}
    (hx : ∀ t r k, xb t (ix2 r k) = x (ix2 (rowAt h t r) k)) (hd : ∀ t r k, db t (ix2 r k) = dh (ix2 (rowAt h t r) k)) (d : Fin 1024) :
    ∑ t : Fin n, dgain (xb t) (db t) (ix2 0 d) = dgain x dh (ix2 0 d) := by
  refine Eq.trans ?_ (sum_rowAt h fun i => dh (ix2 i d) * (x (ix2 i d) * scale x i))
  refine Finset.sum_congr rfl fun t _ => Finset.sum_congr rfl fun r _ => ?_
  show db t (ix2 r d) * (xb t (ix2 r d) * scale (xb t) r) = _
  rw [hx, hd, scale_congr fun k => hx t r k]

end Cert.NormGrad
-- ==== Proof.Norm2Grad.lean ====
module

public import proofs.«01_k».proof.Defs
public import proofs.«01_k».proof.Proof.NormGrad
public import proofs.«01_k».proof.Proof.Gen.Norm2GradKernelIdeal.Value
public import proofs.«01_k».proof.Proof.Gen.Norm2GradReferenceIdeal.Run

/-! The gradient of the second norm: from the gradients of the gate and of the up projection to those of the rows and of the gain. -/

@[expose] public section
open Idealize.ShloMosaic Idealize.ShloMosaic.TcCoe Idealize.SL.Sem Cert.Product Cert.Norm Cert.NormGrad

namespace Cert.Norm2Grad
open Cert.Norm2GradKernelIdeal Cert.Norm2GradKernelIdeal.Gen Cert.Norm2GradKernelIdeal.Value

/-- The sum of two products. -/
noncomputable def two {R K : ℕ} (a : (⟨2, ![R, K]⟩ : Shape).Idx → EReal) (w : (⟨2, ![K, 1024]⟩ : Shape).Idx → EReal)
    (b : (⟨2, ![R, K]⟩ : Shape).Idx → EReal) (v : (⟨2, ![K, 1024]⟩ : Shape).Idx → EReal) : (⟨2, ![R, 1024]⟩ : Shape).Idx → EReal :=
  fun i => nn a w i + nn b v i

/-- Their order does not matter. -/
theorem two_comm {R K : ℕ} (a : (⟨2, ![R, K]⟩ : Shape).Idx → EReal) (w : (⟨2, ![K, 1024]⟩ : Shape).Idx → EReal)
    (b : (⟨2, ![R, K]⟩ : Shape).Idx → EReal) (v : (⟨2, ![K, 1024]⟩ : Shape).Idx → EReal) : two a w b v = two b v a w :=
  funext fun _ => add_comm _ _

section payloads
variable (x dh dres : Vec Ideal S512x1024 .f32) (g acc : Vec Ideal S1x1024 .f32)

/-- What the body stores of the rows' gradient, of the product it holds. -/
theorem rows_pay : k0_pay1 (k0_pay6 dh) (k0_pay7 x) (k0_pay8 x) g dres = drows x g dh dres := by
  funext j
  obtain ⟨r, d, rfl⟩ := pair j
  pointwise [k0_pay1, k0_pay6, k0_pay7, k0_pay8, drows, scale]

/-- What it stores of the gain's gradient at the first point -/
theorem gain_pay : k0_pay2 (k0_pay6 dh) (k0_pay8 x) = dgain x dh := by
  funext j
  obtain ⟨r, d, rfl⟩ := pair j
  pointwise [k0_pay2, k0_pay6, k0_pay7, k0_pay8, dgain, scale]

/-- and at a later one, over what it finds. -/
theorem gain_pay_add : k0_pay3 (k0_pay6 dh) (k0_pay8 x) acc = fun j => acc j + dgain x dh j := by
  funext j
  rw [← gain_pay]
  pointwise [k0_pay3]

end payloads

/-- The origin of a whole load or store. -/
theorem origin : (![0, 0] : Fin 2 → ℕ) = fun _ => 0 := funext fun a => by fin_cases a <;> rfl

section body
variable (c : Dev nD) (i : grid0.Coords) (arg1 : Memref sig .tc .vmem S512x3072 .bf16) (harg1 : arg1.IsWhole) (arg2 : Memref sig .tc .vmem S3072x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x3072 .bf16) (harg6 : arg6.IsWhole) (arg7 : Memref sig .tc .vmem S3072x1024 .bf16) (harg7 : arg7.IsWhole) (arg8 : Memref sig .tc .vmem S512x1024 .f32) (harg8 : arg8.IsWhole) (arg9 : Memref sig .tc .vmem S1x1024 .f32) (harg9 : arg9.IsWhole)
    (x0 : Vec Ideal S512x3072 .bf16) (x1 : Vec Ideal S3072x1024 .bf16) (x2 : Vec Ideal S512x1024 .f32) (x3 : Vec Ideal S1x1024 .f32) (x4 : Vec Ideal S512x1024 .f32) (x5 : Vec Ideal S512x3072 .bf16) (x6 : Vec Ideal S3072x1024 .bf16) (xo8 : Vec Ideal S1x1024 .f32)

/-- The two stores of the products together, at the first point, -/
theorem productA (v : View sig .tc .vmem S512x1024 .f32) :
    v.readCov (kernelRun0_A.sl.H7_2 c arg1 harg1 arg2 harg2 arg6 harg6 arg7 harg7 x0 x1 x5 x6) (Rect.unit ![0, 0] S512x1024.size inb_S512x1024_S512x1024_0_0).toLoadRect = two x0 x1 x5 x6 := by
  rw [View.readCov_eq_canon']
  refine (View.ld_unit_zero (X := View.canon (kernelRun0_A.sl.H7_2 c arg1 harg1 arg2 harg2 arg6 harg6 arg7 harg7 x0 x1 x5 x6)) (inb := inb_S512x1024_S512x1024_0_0) origin).trans ?_
  funext j
  have hc : ∃ pc ∈ kernelRun0_A.sl.H7_2 c arg1 harg1 arg2 harg2 arg6 harg6 arg7 harg7 x0 x1 x5 x6, j ∈ pc.1.set := View.cover_of_tiledL _ ![512, 512] (by sl_kernel_rfl) j
  unfold kernelRun0_A.sl.H7_2 at hc ⊢
  refine View.canon_apply_of_pieces (Val := Elt Ideal) (two x0 x1 x5 x6) _ ?_ j hc
  intro p hp i
  show p.2 i = two x0 x1 x5 x6 (p.1.idx i)
  simp only [List.mem_cons, List.not_mem_nil, or_false] at hp
  obtain rfl | rfl := hp
  all_goals
    obtain ⟨r, d, rfl⟩ := pair i
    simp only [View.readAt_eq_ld, harg1.read_unread, harg2.read_unread, harg6.read_unread, harg7.read_unread]
    pointwise [k0_pay4, k0_pay5, two, nn]

/-- and at a later one. -/
theorem productB (v : View sig .tc .vmem S512x1024 .f32) :
    v.readCov (kernelRun0_B.sl.H7_2 c arg1 harg1 arg2 harg2 arg6 harg6 arg7 harg7 x0 x1 x5 x6) (Rect.unit ![0, 0] S512x1024.size inb_S512x1024_S512x1024_0_0).toLoadRect = two x0 x1 x5 x6 :=
  productA c arg1 harg1 arg2 harg2 arg6 harg6 arg7 harg7 x0 x1 x5 x6 v

/-- The rows' gradient after the first point, -/
theorem outA_7 (hc0 : cond0_0 i) (hc1 : ¬cond0_1 i) :
    out0_A_7 c i arg1 harg1 arg2 harg2 arg3 harg3 arg4 harg4 arg5 harg5 arg6 harg6 arg7 harg7 arg8 harg8 arg9 harg9 hc0 hc1 x0 x1 x2 x3 x4 x5 x6 = drows x2 x3 (two x0 x1 x5 x6) x4 := by
  unfold out0_A_7
  rw [View.read_writes_junk_eq_canon]
  unfold kernelRun0_A
  dsimp only
  rw [View.canon_cons_unit_zero origin]
  unfold kernelRun0_A.sl.r kernelRun0_A.sl.r_1 kernelRun0_A.sl.r_2 kernelRun0_A.sl.v15
  rw [productA, View.readAt_eq_ld, View.readAt_eq_ld, View.readAt_eq_ld, harg3.read_unread, harg4.read_unread, harg5.read_unread, View.ld_unit_zero origin, View.ld_unit_zero origin, View.ld_unit_zero origin]
  exact rows_pay x2 (two x0 x1 x5 x6) x4 x3

/-- and after a later one. -/
theorem outB_7 (hc0 : ¬cond0_0 i) (hc1 : cond0_1 i) :
    out0_B_7 c i arg1 harg1 arg2 harg2 arg3 harg3 arg4 harg4 arg5 harg5 arg6 harg6 arg7 harg7 arg8 harg8 arg9 harg9 hc0 hc1 x0 x1 x2 x3 x4 x5 x6 xo8 = drows x2 x3 (two x0 x1 x5 x6) x4 := by
  unfold out0_B_7
  rw [View.read_writes_junk_eq_canon]
  unfold kernelRun0_B
  dsimp only
  rw [View.canon_cons_unit_zero origin]
  unfold kernelRun0_B.sl.r kernelRun0_B.sl.r_1 kernelRun0_B.sl.r_2 kernelRun0_B.sl.v15
  rw [productB, View.readAt_eq_ld, View.readAt_eq_ld, View.readAt_eq_ld, harg3.read_unread, harg4.read_unread, harg5.read_unread, View.ld_unit_zero origin, View.ld_unit_zero origin, View.ld_unit_zero origin]
  exact rows_pay x2 (two x0 x1 x5 x6) x4 x3

/-- The gain's gradient after the first point, -/
theorem outA_8 (hc0 : cond0_0 i) (hc1 : ¬cond0_1 i) :
    out0_A_8 c i arg1 harg1 arg2 harg2 arg3 harg3 arg4 harg4 arg5 harg5 arg6 harg6 arg7 harg7 arg8 harg8 arg9 harg9 hc0 hc1 x0 x1 x2 x3 x4 x5 x6 = dgain x2 (two x0 x1 x5 x6) := by
  unfold out0_A_8
  rw [View.read_writes_junk_eq_canon]
  unfold kernelRun0_A
  dsimp only
  rw [View.canon_unit_zero origin]
  unfold kernelRun0_A.sl.r kernelRun0_A.sl.r_2 kernelRun0_A.sl.v15
  rw [productA, View.readAt_eq_ld, harg3.read_unread, View.ld_unit_zero origin]
  exact gain_pay x2 (two x0 x1 x5 x6)

/-- and after a later one: what the point before left and the block's own. -/
theorem outB_8 (hc0 : ¬cond0_0 i) (hc1 : cond0_1 i) :
    out0_B_8 c i arg1 harg1 arg2 harg2 arg3 harg3 arg4 harg4 arg5 harg5 arg6 harg6 arg7 harg7 arg8 harg8 arg9 harg9 hc0 hc1 x0 x1 x2 x3 x4 x5 x6 xo8 = fun j => xo8 j + dgain x2 (two x0 x1 x5 x6) j := by
  unfold out0_B_8
  rw [View.read_writes_junk_eq_canon]
  unfold kernelRun0_B
  dsimp only
  rw [View.canon_unit_zero origin]
  unfold kernelRun0_B.sl.r kernelRun0_B.sl.r_2 kernelRun0_B.sl.v15
  rw [productB, View.readAt_eq_ld, View.readAt_eq_ld, harg3.read_unread, harg9.read_unread, View.ld_unit_zero origin, View.ld_unit_zero origin]
  exact gain_pay_add x2 (two x0 x1 x5 x6) xo8

end body

variable (m : (ℓ : Loc nD τ sig) → Buf (Elt Ideal) ℓ)

/-- The gradient of the normed rows. -/
noncomputable abbrev dh (c : Dev nD) : Vec Ideal S2048x1024 .f32 :=
  two (m ((c : Thread nD τ).loc main_arg0)) (m ((c : Thread nD τ).loc main_arg1)) (m ((c : Thread nD τ).loc main_arg5)) (m ((c : Thread nD τ).loc main_arg6))

/-- The gradient of the rows. -/
noncomputable abbrev dx (c : Dev nD) : Vec Ideal S2048x1024 .f32 :=
  drows (m ((c : Thread nD τ).loc main_arg2)) (m ((c : Thread nD τ).loc main_arg3)) (dh m c) (m ((c : Thread nD τ).loc main_arg4))

/-- The gradient of the gain. -/
noncomputable abbrev dg (c : Dev nD) : Vec Ideal S1x1024 .f32 := dgain (m ((c : Thread nD τ).loc main_arg2)) (dh m c)

/-- The block indices at each point: the rows move, the weights, the gain and its gradient stay. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0)
    ∧ (win0_3.index t (0 : Fin 2) = 0 ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) ∧ (win0_6.index t (0 : Fin 2) = 0 ∧ win0_6.index t (1 : Fin 2) = 0)
    ∧ (win0_7.index t (0 : Fin 2) = t.val ∧ win0_7.index t (1 : Fin 2) = 0) ∧ (win0_8.index t (0 : Fin 2) = 0 ∧ win0_8.index t (1 : Fin 2) = 0) :=
  (by decide +kernel : ∀ t : Fin grid0.N, _)

/-- The rows are four blocks of 512. -/
theorem rows : cfg0.N * 512 = 2048 := by rw [show cfg0.N = 4 from N_0]

/-- Where an index of the block of the gate's gradient lies in it. -/
theorem emb0 (t : Fin cfg0.N) (r : Fin 512) (k : Fin 3072) : ((cfg0.win 0).blk t).view.emb (ix2 r k) = ix2 (rowAt rows t r) k := by
  obtain ⟨e0, e1⟩ := (idx t).1
  exact pair_ext (show win0_0.index t (0 : Fin 2) * 512 + 1 * r.val = 512 * t.val + r.val from by omega) (show win0_0.index t (1 : Fin 2) * 3072 + 1 * k.val = k.val from by omega)

/-- Where an index of the gate weights' block lies in them. -/
theorem emb1 (t : Fin cfg0.N) (k : Fin 3072) (d : Fin 1024) : ((cfg0.win 1).blk t).view.emb (ix2 k d) = ix2 k d := by
  obtain ⟨e0, e1⟩ := (idx t).2.1
  exact pair_ext (show win0_1.index t (0 : Fin 2) * 3072 + 1 * k.val = k.val from by omega) (show win0_1.index t (1 : Fin 2) * 1024 + 1 * d.val = d.val from by omega)

/-- Where an index of the rows' block lies in the rows. -/
theorem emb2 (t : Fin cfg0.N) (r : Fin 512) (d : Fin 1024) : ((cfg0.win 2).blk t).view.emb (ix2 r d) = ix2 (rowAt rows t r) d := by
  obtain ⟨e0, e1⟩ := (idx t).2.2.1
  exact pair_ext (show win0_2.index t (0 : Fin 2) * 512 + 1 * r.val = 512 * t.val + r.val from by omega) (show win0_2.index t (1 : Fin 2) * 1024 + 1 * d.val = d.val from by omega)

/-- Where an index of the gain's block lies in the gain. -/
theorem emb3 (t : Fin cfg0.N) (d : Fin 1024) : ((cfg0.win 3).blk t).view.emb (ix2 (0 : Fin 1) d) = ix2 0 d := by
  obtain ⟨e0, e1⟩ := (idx t).2.2.2.1
  exact pair_ext (show win0_3.index t (0 : Fin 2) * 1 + 1 * (0 : Fin 1).val = 0 from by omega) (show win0_3.index t (1 : Fin 2) * 1024 + 1 * d.val = d.val from by omega)

/-- Where an index of the block of the gradient to add lies in it. -/
theorem emb4 (t : Fin cfg0.N) (r : Fin 512) (d : Fin 1024) : ((cfg0.win 4).blk t).view.emb (ix2 r d) = ix2 (rowAt rows t r) d := by
  obtain ⟨e0, e1⟩ := (idx t).2.2.2.2.1
  exact pair_ext (show win0_4.index t (0 : Fin 2) * 512 + 1 * r.val = 512 * t.val + r.val from by omega) (show win0_4.index t (1 : Fin 2) * 1024 + 1 * d.val = d.val from by omega)

/-- Where an index of the block of the up projection's gradient lies in it. -/
theorem emb5 (t : Fin cfg0.N) (r : Fin 512) (k : Fin 3072) : ((cfg0.win 5).blk t).view.emb (ix2 r k) = ix2 (rowAt rows t r) k := by
  obtain ⟨e0, e1⟩ := (idx t).2.2.2.2.2.1
  exact pair_ext (show win0_5.index t (0 : Fin 2) * 512 + 1 * r.val = 512 * t.val + r.val from by omega) (show win0_5.index t (1 : Fin 2) * 3072 + 1 * k.val = k.val from by omega)

/-- Where an index of the up weights' block lies in them. -/
theorem emb6 (t : Fin cfg0.N) (k : Fin 3072) (d : Fin 1024) : ((cfg0.win 6).blk t).view.emb (ix2 k d) = ix2 k d := by
  obtain ⟨e0, e1⟩ := (idx t).2.2.2.2.2.2.1
  exact pair_ext (show win0_6.index t (0 : Fin 2) * 3072 + 1 * k.val = k.val from by omega) (show win0_6.index t (1 : Fin 2) * 1024 + 1 * d.val = d.val from by omega)

/-- Where an index of the block of the rows' gradient lies in it. -/
theorem emb7 (t : Fin cfg0.N) (r : Fin 512) (d : Fin 1024) : ((cfg0.win 7).blk t).view.emb (ix2 r d) = ix2 (rowAt rows t r) d := by
  obtain ⟨e0, e1⟩ := (idx t).2.2.2.2.2.2.2.1
  exact pair_ext (show win0_7.index t (0 : Fin 2) * 512 + 1 * r.val = 512 * t.val + r.val from by omega) (show win0_7.index t (1 : Fin 2) * 1024 + 1 * d.val = d.val from by omega)

/-- Where an index of the block of the gain's gradient lies in it. -/
theorem emb8 (t : Fin cfg0.N) (d : Fin 1024) : ((cfg0.win 8).blk t).view.emb (ix2 (0 : Fin 1) d) = ix2 0 d := by
  obtain ⟨e0, e1⟩ := (idx t).2.2.2.2.2.2.2.2
  exact pair_ext (show win0_8.index t (0 : Fin 2) * 1 + 1 * (0 : Fin 1).val = 0 from by omega) (show win0_8.index t (1 : Fin 2) * 1024 + 1 * d.val = d.val from by omega)

/-- A block's rows are the rows at the block's place. -/
theorem x_at (c : Dev nD) (t : Fin cfg0.N) (r : Fin 512) (d : Fin 1024) : iblk m c 2 t (ix2 r d) = m ((c : Thread nD τ).loc main_arg2) (ix2 (rowAt rows t r) d) :=
  congrArg (m ((c : Thread nD τ).loc main_arg2)) (emb2 t r d)

/-- The gain's block is the gain. -/
theorem g_at (c : Dev nD) (t : Fin cfg0.N) (d : Fin 1024) : iblk m c 3 t (ix2 0 d) = m ((c : Thread nD τ).loc main_arg3) (ix2 0 d) :=
  congrArg (m ((c : Thread nD τ).loc main_arg3)) (emb3 t d)

/-- A block's products are the products at the block's rows. -/
theorem dh_at (c : Dev nD) (t : Fin cfg0.N) (r : Fin 512) (d : Fin 1024) : two (iblk m c 0 t) (iblk m c 1 t) (iblk m c 5 t) (iblk m c 6 t) (ix2 r d) = dh m c (ix2 (rowAt rows t r) d) :=
  congrArg₂ (· + ·) (sum_mul_congr (fun k => congrArg (m ((c : Thread nD τ).loc main_arg0)) (emb0 t r k)) (fun k => congrArg (m ((c : Thread nD τ).loc main_arg1)) (emb1 t k d)))
    (sum_mul_congr (fun k => congrArg (m ((c : Thread nD τ).loc main_arg5)) (emb5 t r k)) (fun k => congrArg (m ((c : Thread nD τ).loc main_arg6)) (emb6 t k d)))

/-- A point leaves the rows' gradient of its block. -/
theorem left7 (c : Dev nD) (t : Fin cfg0.N) :
    (outsAt0 m c t.val t.isLt).1 = drows (iblk m c 2 t) (iblk m c 3 t) (two (iblk m c 0 t) (iblk m c 1 t) (iblk m c 5 t) (iblk m c 6 t)) (iblk m c 4 t) := by
  have h4 : t.val < 4 := lt_of_lt_of_eq t.isLt N_0
  by_cases h : t.val = 0
  · rw [outsAt0_A m c t (by omega) (by omega)]
    dsimp only
    rw [outA_7]
  · rw [outsAt0_B m c t (by omega) (by omega)]
    dsimp only
    rw [outB_7]

/-- A block's part of the gain's gradient. -/
noncomputable def part (c : Dev nD) (t : Fin cfg0.N) : Vec Ideal S1x1024 .f32 := dgain (iblk m c 2 t) (two (iblk m c 0 t) (iblk m c 1 t) (iblk m c 5 t) (iblk m c 6 t))

/-- A point leaves the parts of the gain's gradient so far. -/
theorem left8 (c : Dev nD) (j : S1x1024.Idx) : ∀ (n : ℕ) (hn : n < cfg0.N), (outsAt0 m c n hn).2 j = ∑ t : Fin (n + 1), part m c ⟨t.val, by omega⟩ j
  | 0, hn => by
    rw [outsAt0_A m c ⟨0, hn⟩ rfl (by show ¬1 ≤ 0; decide)]
    dsimp only
    rw [outA_8, Fin.sum_univ_one]
    rfl
  | n + 1, hn => by
    have h4 : n + 1 < 4 := lt_of_lt_of_eq hn N_0
    rw [outsAt0_B m c ⟨n + 1, hn⟩ (by show ¬(n + 1) % 4 = 0; omega) (by show 1 ≤ n + 1; omega)]
    dsimp only
    rw [outB_8, Fin.sum_univ_castSucc]
    exact congrArg₂ (· + ·) (left8 c j n (by omega)) rfl

/-- What a point writes back is its rows of the rows' gradient, -/
theorem flushed7_eq (c : Dev nD) (t : Fin cfg0.N) : (dats m 0 c).flushed 7 t = ((cfg0.win 7).blk t).view.read (Elt Ideal) (dx m c) := by
  rw [flushed7, left7]
  funext j
  obtain ⟨r, d, rfl⟩ := pair j
  show drows _ _ _ _ (ix2 r d) = dx m c (((cfg0.win 7).blk t).view.emb (ix2 r d))
  rw [emb7]
  exact drows_congr (x_at m c t r) (g_at m c t) (dh_at m c t r) d (congrArg (m ((c : Thread nD τ).loc main_arg4)) (emb4 t r d))

/-- and what the last one writes back is the gain's gradient. -/
theorem flushed8_eq (c : Dev nD) (t : Fin cfg0.N) (h : t.val % 4 = 3) : (dats m 0 c).flushed 8 t = ((cfg0.win 8).blk t).view.read (Elt Ideal) (dg m c) := by
  have h4 : t.val < 4 := lt_of_lt_of_eq t.isLt N_0
  obtain ⟨n, hn⟩ := t
  obtain rfl : n = 3 := by dsimp only at h h4; omega
  rw [flushed8]
  funext j
  obtain ⟨r, d, rfl⟩ := pair j
  obtain rfl : r = 0 := Subsingleton.elim _ _
  show (outsAt0 m c 3 hn).2 (ix2 0 d) = dg m c (((cfg0.win 8).blk ⟨3, hn⟩).view.emb (ix2 0 d))
  rw [left8, emb8]
  exact dgain_blocks (n := 4) rfl (fun t r k => x_at m c ⟨t.val, by omega⟩ r k) (fun t r k => dh_at m c ⟨t.val, by omega⟩ r k) d

/-- Every index of the rows' gradient lies in some point's block, -/
theorem covered7 (i : S2048x1024.Idx) : ∃ t : Fin cfg0.N, (cfg0.win 7).flush t = true ∧ i ∈ ((cfg0.win 7).blk t).view.set := by
  obtain ⟨r, d, rfl⟩ := pair i
  obtain ⟨t, q, rfl⟩ := exists_rowAt rows r
  exact ⟨t, flush0_7 t, emb7 t q d ▸ ((cfg0.win 7).blk t).view.emb_mem_set (ix2 q d)⟩

/-- and every index of the gain's gradient in the last one's. -/
theorem covered8 (i : S1x1024.Idx) : ∃ t : Fin cfg0.N, (cfg0.win 8).flush t = true ∧ i ∈ ((cfg0.win 8).blk t).view.set := by
  obtain ⟨r, d, rfl⟩ := pair i
  obtain rfl : r = 0 := Subsingleton.elim _ _
  have hn : 3 < cfg0.N := lt_of_lt_of_eq (by decide : 3 < 4) N_0.symm
  exact ⟨⟨3, hn⟩, (flush0_8 ⟨3, hn⟩).mpr rfl, emb8 ⟨3, hn⟩ d ▸ ((cfg0.win 8).blk ⟨3, hn⟩).view.emb_mem_set (ix2 0 d)⟩

/-- The value claim: both programs end with the gradients of the rows and of the gain. -/
theorem algebraic : Cert.algebraic_Norm2GradKernelIdeal_Norm2GradReferenceIdeal := by
  intro m g m' g' _ hargs
  refine ⟨dx m, dg m, (θ_run _ _ _).mono (fun _ h c => ⟨(h c).1.trans ((dats m 0 c).arrAt_eq_of_cover 7 _ (fun t _ => flushed7_eq m c t) covered7),
    (h c).2.1.trans ((dats m 0 c).arrAt_eq_of_cover 8 _ (fun t hf => flushed8_eq m c t ((flush0_8 t).mp hf)) covered8), (h c).2.2⟩) (run_blocks m g), ?_⟩
  refine (θ_run _ _ _).mono (fun r h c => ⟨(h c).1.trans ?_, (h c).2.1.trans ?_, (h c).2.2⟩) (Cert.Norm2GradReferenceIdeal.Value.run m' g')
  · obtain ⟨h0, h1, h2, h3, h4, h5, h6⟩ := hargs c
    unfold Cert.Norm2GradReferenceIdeal.Value.res_main_v43
    rw [h0, h1, h2, h3, h4, h5, h6]
    unfold dx dh
    rw [two_comm]
    generalize m ((c : Thread nD τ).loc main_arg0) = p
    generalize m ((c : Thread nD τ).loc main_arg1) = w
    generalize m ((c : Thread nD τ).loc main_arg2) = x
    generalize m ((c : Thread nD τ).loc main_arg5) = q
    generalize m ((c : Thread nD τ).loc main_arg6) = v
    generalize m ((c : Thread nD τ).loc main_arg3) = ga
    generalize m ((c : Thread nD τ).loc main_arg4) = dr
    change Vec Ideal S2048x3072 .bf16 at p
    change Vec Ideal S3072x1024 .bf16 at w
    change Vec Ideal S2048x1024 .f32 at x
    change Vec Ideal S2048x3072 .bf16 at q
    change Vec Ideal S3072x1024 .bf16 at v
    change Vec Ideal S1x1024 .f32 at ga
    change Vec Ideal S2048x1024 .f32 at dr
    funext i
    obtain ⟨r, d, rfl⟩ := pair i
    refine Eq.trans ?_ (drows_eq x ga (two q v p w) dr r d _ rfl).symm
    pointwise [scale, spread, two, nn]
    simp only [Fin.sum_univ_one]
  · obtain ⟨h0, h1, h2, -, -, h5, h6⟩ := hargs c
    rw [h0, h1, h2, h5, h6]
    unfold dg dh
    rw [two_comm]
    generalize m ((c : Thread nD τ).loc main_arg0) = p
    generalize m ((c : Thread nD τ).loc main_arg1) = w
    generalize m ((c : Thread nD τ).loc main_arg2) = x
    generalize m ((c : Thread nD τ).loc main_arg5) = q
    generalize m ((c : Thread nD τ).loc main_arg6) = v
    change Vec Ideal S2048x3072 .bf16 at p
    change Vec Ideal S3072x1024 .bf16 at w
    change Vec Ideal S2048x1024 .f32 at x
    change Vec Ideal S2048x3072 .bf16 at q
    change Vec Ideal S3072x1024 .bf16 at v
    funext i
    obtain ⟨r, d, rfl⟩ := pair i
    refine Eq.trans ?_ (Finset.sum_congr rfl fun r _ => mul_comm (x (ix2 r d) * scale x r) (two q v p w (ix2 r d)))
    pointwise [scale, two, nn]

/-- The reference leaves its arguments and its counters alone. -/
theorem frame_reference : Cert.quiescent_Norm2GradReferenceIdeal := fun m ρ _ =>
  (θ_run _ _ _).mono (fun r h => ⟨fun c => (h c).2.2, sem_eq_zero_of_no_sems (by decide) r.2⟩) (Cert.Norm2GradReferenceIdeal.Value.run m ρ)

end Cert.Norm2Grad
-- ==== Proof.Norm1Grad.lean ====
module

public import proofs.«01_k».proof.Defs
public import proofs.«01_k».proof.Proof.NormGrad
public import proofs.«01_k».proof.Proof.Gen.Norm1GradKernelIdeal.Value
public import proofs.«01_k».proof.Proof.Gen.Norm1GradReferenceIdeal.Run

/-! The gradient of the first norm: from the gradient of the input projection to those of the rows and of the gain. -/

@[expose] public section
open Idealize.ShloMosaic Idealize.ShloMosaic.TcCoe Idealize.SL.Sem Cert.Product Cert.Norm Cert.NormGrad

namespace Cert.Norm1Grad
open Cert.Norm1GradKernelIdeal Cert.Norm1GradKernelIdeal.Gen Cert.Norm1GradKernelIdeal.Value

section payloads
variable (x dh dres : Vec Ideal S512x1024 .f32) (g acc : Vec Ideal S1x1024 .f32)

/-- What the body stores of the rows' gradient, of the product it holds. -/
theorem rows_pay : k0_pay1 (k0_pay8 x) (k0_pay10 dh g) dres (k0_pay11 dh x g) = drows x g dh dres := by
  funext j
  obtain ⟨r, d, rfl⟩ := pair j
  pointwise [k0_pay1, k0_pay7, k0_pay8, k0_pay9, k0_pay10, k0_pay11, drows, scale]

/-- What it stores of the gain's gradient at the first point -/
theorem gain_pay : k0_pay2 (k0_pay7 dh) (k0_pay9 x) = dgain x dh := by
  funext j
  obtain ⟨r, d, rfl⟩ := pair j
  pointwise [k0_pay2, k0_pay7, k0_pay8, k0_pay9, dgain, scale]

/-- and at a later one, over what it finds. -/
theorem gain_pay_add : k0_pay3 (k0_pay7 dh) (k0_pay9 x) acc = fun j => acc j + dgain x dh j := by
  funext j
  rw [← gain_pay]
  pointwise [k0_pay3]

end payloads

/-- The origin of a whole load or store. -/
theorem origin : (![0, 0] : Fin 2 → ℕ) = fun _ => 0 := funext fun a => by fin_cases a <;> rfl

section body
variable (c : Dev nD) (i : grid0.Coords) (arg1 : Memref sig .tc .vmem S512x3200 .f32) (harg1 : arg1.IsWhole) (arg2 : Memref sig .tc .vmem S3200x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole)
    (x0 : Vec Ideal S512x3200 .f32) (x1 : Vec Ideal S3200x1024 .bf16) (x2 : Vec Ideal S512x1024 .f32) (x3 : Vec Ideal S1x1024 .f32) (x4 : Vec Ideal S512x1024 .f32) (xo6 : Vec Ideal S1x1024 .f32)

/-- The two stores of the product together, at the first point, -/
theorem productA (v : View sig .tc .vmem S512x1024 .f32) :
    v.readCov (kernelRun0_A.sl.H5_2 c arg1 harg1 arg2 harg2 x0 x1) (Rect.unit ![0, 0] S512x1024.size inb_S512x1024_S512x1024_0_0).toLoadRect = nn x0 x1 := by
  rw [View.readCov_eq_canon']
  refine (View.ld_unit_zero (X := View.canon (kernelRun0_A.sl.H5_2 c arg1 harg1 arg2 harg2 x0 x1)) (inb := inb_S512x1024_S512x1024_0_0) origin).trans ?_
  funext j
  have hc : ∃ pc ∈ kernelRun0_A.sl.H5_2 c arg1 harg1 arg2 harg2 x0 x1, j ∈ pc.1.set := View.cover_of_tiledL _ ![512, 512] (by sl_kernel_rfl) j
  unfold kernelRun0_A.sl.H5_2 at hc ⊢
  refine View.canon_apply_of_pieces (Val := Elt Ideal) (nn x0 x1) _ ?_ j hc
  intro p hp i
  show p.2 i = nn x0 x1 (p.1.idx i)
  simp only [List.mem_cons, List.not_mem_nil, or_false] at hp
  obtain rfl | rfl := hp
  all_goals
    obtain ⟨r, d, rfl⟩ := pair i
    simp only [View.readAt_eq_ld, harg1.read_unread, harg2.read_unread]
    pointwise [k0_pay4, k0_pay5, k0_pay6, nn]

/-- and at a later one. -/
theorem productB (v : View sig .tc .vmem S512x1024 .f32) :
    v.readCov (kernelRun0_B.sl.H5_2 c arg1 harg1 arg2 harg2 x0 x1) (Rect.unit ![0, 0] S512x1024.size inb_S512x1024_S512x1024_0_0).toLoadRect = nn x0 x1 :=
  productA c arg1 harg1 arg2 harg2 x0 x1 v

/-- The rows' gradient after the first point, -/
theorem outA_5 (hc0 : cond0_0 i) (hc1 : ¬cond0_1 i) :
    out0_A_5 c i arg1 harg1 arg2 harg2 arg3 harg3 arg4 harg4 arg5 harg5 arg6 harg6 arg7 harg7 hc0 hc1 x0 x1 x2 x3 x4 = drows x2 x3 (nn x0 x1) x4 := by
  unfold out0_A_5
  rw [View.read_writes_junk_eq_canon]
  unfold kernelRun0_A
  dsimp only
  rw [View.canon_cons_unit_zero origin]
  unfold kernelRun0_A.sl.r_1 kernelRun0_A.sl.r_3 kernelRun0_A.sl.r_4 kernelRun0_A.sl.r_5 kernelRun0_A.sl.v8
  rw [productA, View.readAt_eq_ld, View.readAt_eq_ld, View.readAt_eq_ld, harg3.read_unread, harg4.read_unread, harg5.read_unread, View.ld_unit_zero origin, View.ld_unit_zero origin, View.ld_unit_zero origin]
  exact rows_pay x2 (nn x0 x1) x4 x3

/-- and after a later one. -/
theorem outB_5 (hc0 : ¬cond0_0 i) (hc1 : cond0_1 i) :
    out0_B_5 c i arg1 harg1 arg2 harg2 arg3 harg3 arg4 harg4 arg5 harg5 arg6 harg6 arg7 harg7 hc0 hc1 x0 x1 x2 x3 x4 xo6 = drows x2 x3 (nn x0 x1) x4 := by
  unfold out0_B_5
  rw [View.read_writes_junk_eq_canon]
  unfold kernelRun0_B
  dsimp only
  rw [View.canon_cons_unit_zero origin]
  unfold kernelRun0_B.sl.r_1 kernelRun0_B.sl.r_3 kernelRun0_B.sl.r_4 kernelRun0_B.sl.r_5 kernelRun0_B.sl.v8
  rw [productB, View.readAt_eq_ld, View.readAt_eq_ld, View.readAt_eq_ld, harg3.read_unread, harg4.read_unread, harg5.read_unread, View.ld_unit_zero origin, View.ld_unit_zero origin, View.ld_unit_zero origin]
  exact rows_pay x2 (nn x0 x1) x4 x3

/-- The gain's gradient after the first point, -/
theorem outA_6 (hc0 : cond0_0 i) (hc1 : ¬cond0_1 i) :
    out0_A_6 c i arg1 harg1 arg2 harg2 arg3 harg3 arg4 harg4 arg5 harg5 arg6 harg6 arg7 harg7 hc0 hc1 x0 x1 x2 x3 x4 = dgain x2 (nn x0 x1) := by
  unfold out0_A_6
  rw [View.read_writes_junk_eq_canon]
  unfold kernelRun0_A
  dsimp only
  rw [View.canon_unit_zero origin]
  unfold kernelRun0_A.sl.r kernelRun0_A.sl.r_2 kernelRun0_A.sl.v8
  rw [productA, View.readAt_eq_ld, harg3.read_unread, View.ld_unit_zero origin]
  exact gain_pay x2 (nn x0 x1)

/-- and after a later one: what the point before left and the block's own. -/
theorem outB_6 (hc0 : ¬cond0_0 i) (hc1 : cond0_1 i) :
    out0_B_6 c i arg1 harg1 arg2 harg2 arg3 harg3 arg4 harg4 arg5 harg5 arg6 harg6 arg7 harg7 hc0 hc1 x0 x1 x2 x3 x4 xo6 = fun j => xo6 j + dgain x2 (nn x0 x1) j := by
  unfold out0_B_6
  rw [View.read_writes_junk_eq_canon]
  unfold kernelRun0_B
  dsimp only
  rw [View.canon_unit_zero origin]
  unfold kernelRun0_B.sl.r kernelRun0_B.sl.r_2 kernelRun0_B.sl.v8
  rw [productB, View.readAt_eq_ld, View.readAt_eq_ld, harg3.read_unread, harg7.read_unread, View.ld_unit_zero origin, View.ld_unit_zero origin]
  exact gain_pay_add x2 (nn x0 x1) xo6

end body

variable (m : (ℓ : Loc nD τ sig) → Buf (Elt Ideal) ℓ)

/-- The gradient of the normed rows. -/
noncomputable abbrev dh (c : Dev nD) : Vec Ideal S2048x1024 .f32 := nn (m ((c : Thread nD τ).loc main_arg0)) (m ((c : Thread nD τ).loc main_arg1))

/-- The gradient of the rows. -/
noncomputable abbrev dx (c : Dev nD) : Vec Ideal S2048x1024 .f32 :=
  drows (m ((c : Thread nD τ).loc main_arg2)) (m ((c : Thread nD τ).loc main_arg3)) (dh m c) (m ((c : Thread nD τ).loc main_arg4))

/-- The gradient of the gain. -/
noncomputable abbrev dg (c : Dev nD) : Vec Ideal S1x1024 .f32 := dgain (m ((c : Thread nD τ).loc main_arg2)) (dh m c)

/-- The block indices at each point: the rows move, the weights, the gain and its gradient stay. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0)
    ∧ (win0_3.index t (0 : Fin 2) = 0 ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) ∧ (win0_6.index t (0 : Fin 2) = 0 ∧ win0_6.index t (1 : Fin 2) = 0) :=
  (by decide +kernel : ∀ t : Fin grid0.N, _)

/-- The rows are four blocks of 512. -/
theorem rows : cfg0.N * 512 = 2048 := by rw [show cfg0.N = 4 from N_0]

/-- Where an index of the block of the projection's gradient lies in it. -/
theorem emb0 (t : Fin cfg0.N) (r : Fin 512) (k : Fin 3200) : ((cfg0.win 0).blk t).view.emb (ix2 r k) = ix2 (rowAt rows t r) k := by
  obtain ⟨e0, e1⟩ := (idx t).1
  exact pair_ext (show win0_0.index t (0 : Fin 2) * 512 + 1 * r.val = 512 * t.val + r.val from by omega) (show win0_0.index t (1 : Fin 2) * 3200 + 1 * k.val = k.val from by omega)

/-- Where an index of the weights' block lies in the weights. -/
theorem emb1 (t : Fin cfg0.N) (k : Fin 3200) (d : Fin 1024) : ((cfg0.win 1).blk t).view.emb (ix2 k d) = ix2 k d := by
  obtain ⟨e0, e1⟩ := (idx t).2.1
  exact pair_ext (show win0_1.index t (0 : Fin 2) * 3200 + 1 * k.val = k.val from by omega) (show win0_1.index t (1 : Fin 2) * 1024 + 1 * d.val = d.val from by omega)

/-- Where an index of the rows' block lies in the rows. -/
theorem emb2 (t : Fin cfg0.N) (r : Fin 512) (d : Fin 1024) : ((cfg0.win 2).blk t).view.emb (ix2 r d) = ix2 (rowAt rows t r) d := by
  obtain ⟨e0, e1⟩ := (idx t).2.2.1
  exact pair_ext (show win0_2.index t (0 : Fin 2) * 512 + 1 * r.val = 512 * t.val + r.val from by omega) (show win0_2.index t (1 : Fin 2) * 1024 + 1 * d.val = d.val from by omega)

/-- Where an index of the gain's block lies in the gain. -/
theorem emb3 (t : Fin cfg0.N) (d : Fin 1024) : ((cfg0.win 3).blk t).view.emb (ix2 (0 : Fin 1) d) = ix2 0 d := by
  obtain ⟨e0, e1⟩ := (idx t).2.2.2.1
  exact pair_ext (show win0_3.index t (0 : Fin 2) * 1 + 1 * (0 : Fin 1).val = 0 from by omega) (show win0_3.index t (1 : Fin 2) * 1024 + 1 * d.val = d.val from by omega)

/-- Where an index of the block of the gradient to add lies in it. -/
theorem emb4 (t : Fin cfg0.N) (r : Fin 512) (d : Fin 1024) : ((cfg0.win 4).blk t).view.emb (ix2 r d) = ix2 (rowAt rows t r) d := by
  obtain ⟨e0, e1⟩ := (idx t).2.2.2.2.1
  exact pair_ext (show win0_4.index t (0 : Fin 2) * 512 + 1 * r.val = 512 * t.val + r.val from by omega) (show win0_4.index t (1 : Fin 2) * 1024 + 1 * d.val = d.val from by omega)

/-- Where an index of the block of the rows' gradient lies in it. -/
theorem emb5 (t : Fin cfg0.N) (r : Fin 512) (d : Fin 1024) : ((cfg0.win 5).blk t).view.emb (ix2 r d) = ix2 (rowAt rows t r) d := by
  obtain ⟨e0, e1⟩ := (idx t).2.2.2.2.2.1
  exact pair_ext (show win0_5.index t (0 : Fin 2) * 512 + 1 * r.val = 512 * t.val + r.val from by omega) (show win0_5.index t (1 : Fin 2) * 1024 + 1 * d.val = d.val from by omega)

/-- Where an index of the block of the gain's gradient lies in it. -/
theorem emb6 (t : Fin cfg0.N) (d : Fin 1024) : ((cfg0.win 6).blk t).view.emb (ix2 (0 : Fin 1) d) = ix2 0 d := by
  obtain ⟨e0, e1⟩ := (idx t).2.2.2.2.2.2
  exact pair_ext (show win0_6.index t (0 : Fin 2) * 1 + 1 * (0 : Fin 1).val = 0 from by omega) (show win0_6.index t (1 : Fin 2) * 1024 + 1 * d.val = d.val from by omega)

/-- A block's rows are the rows at the block's place. -/
theorem x_at (c : Dev nD) (t : Fin cfg0.N) (r : Fin 512) (d : Fin 1024) : iblk m c 2 t (ix2 r d) = m ((c : Thread nD τ).loc main_arg2) (ix2 (rowAt rows t r) d) :=
  congrArg (m ((c : Thread nD τ).loc main_arg2)) (emb2 t r d)

/-- The gain's block is the gain. -/
theorem g_at (c : Dev nD) (t : Fin cfg0.N) (d : Fin 1024) : iblk m c 3 t (ix2 0 d) = m ((c : Thread nD τ).loc main_arg3) (ix2 0 d) :=
  congrArg (m ((c : Thread nD τ).loc main_arg3)) (emb3 t d)

/-- A block's product is the product at the block's rows. -/
theorem dh_at (c : Dev nD) (t : Fin cfg0.N) (r : Fin 512) (d : Fin 1024) : nn (iblk m c 0 t) (iblk m c 1 t) (ix2 r d) = dh m c (ix2 (rowAt rows t r) d) :=
  sum_mul_congr (fun k => congrArg (m ((c : Thread nD τ).loc main_arg0)) (emb0 t r k)) (fun k => congrArg (m ((c : Thread nD τ).loc main_arg1)) (emb1 t k d))

/-- A point leaves the rows' gradient of its block. -/
theorem left5 (c : Dev nD) (t : Fin cfg0.N) :
    (outsAt0 m c t.val t.isLt).1 = drows (iblk m c 2 t) (iblk m c 3 t) (nn (iblk m c 0 t) (iblk m c 1 t)) (iblk m c 4 t) := by
  have h4 : t.val < 4 := lt_of_lt_of_eq t.isLt N_0
  by_cases h : t.val = 0
  · rw [outsAt0_A m c t (by omega) (by omega)]
    dsimp only
    rw [outA_5]
  · rw [outsAt0_B m c t (by omega) (by omega)]
    dsimp only
    rw [outB_5]

/-- A block's part of the gain's gradient. -/
noncomputable def part (c : Dev nD) (t : Fin cfg0.N) : Vec Ideal S1x1024 .f32 := dgain (iblk m c 2 t) (nn (iblk m c 0 t) (iblk m c 1 t))

/-- A point leaves the parts of the gain's gradient so far. -/
theorem left6 (c : Dev nD) (j : S1x1024.Idx) : ∀ (n : ℕ) (hn : n < cfg0.N), (outsAt0 m c n hn).2 j = ∑ t : Fin (n + 1), part m c ⟨t.val, by omega⟩ j
  | 0, hn => by
    rw [outsAt0_A m c ⟨0, hn⟩ rfl (by show ¬1 ≤ 0; decide)]
    dsimp only
    rw [outA_6, Fin.sum_univ_one]
    rfl
  | n + 1, hn => by
    have h4 : n + 1 < 4 := lt_of_lt_of_eq hn N_0
    rw [outsAt0_B m c ⟨n + 1, hn⟩ (by show ¬(n + 1) % 4 = 0; omega) (by show 1 ≤ n + 1; omega)]
    dsimp only
    rw [outB_6, Fin.sum_univ_castSucc]
    exact congrArg₂ (· + ·) (left6 c j n (by omega)) rfl

/-- What a point writes back is its rows of the rows' gradient, -/
theorem flushed5_eq (c : Dev nD) (t : Fin cfg0.N) : (dats m 0 c).flushed 5 t = ((cfg0.win 5).blk t).view.read (Elt Ideal) (dx m c) := by
  rw [flushed5, left5]
  funext j
  obtain ⟨r, d, rfl⟩ := pair j
  show drows _ _ _ _ (ix2 r d) = dx m c (((cfg0.win 5).blk t).view.emb (ix2 r d))
  rw [emb5]
  exact drows_congr (x_at m c t r) (g_at m c t) (dh_at m c t r) d (congrArg (m ((c : Thread nD τ).loc main_arg4)) (emb4 t r d))

/-- and what the last one writes back is the gain's gradient. -/
theorem flushed6_eq (c : Dev nD) (t : Fin cfg0.N) (h : t.val % 4 = 3) : (dats m 0 c).flushed 6 t = ((cfg0.win 6).blk t).view.read (Elt Ideal) (dg m c) := by
  have h4 : t.val < 4 := lt_of_lt_of_eq t.isLt N_0
  obtain ⟨n, hn⟩ := t
  obtain rfl : n = 3 := by dsimp only at h h4; omega
  rw [flushed6]
  funext j
  obtain ⟨r, d, rfl⟩ := pair j
  obtain rfl : r = 0 := Subsingleton.elim _ _
  show (outsAt0 m c 3 hn).2 (ix2 0 d) = dg m c (((cfg0.win 6).blk ⟨3, hn⟩).view.emb (ix2 0 d))
  rw [left6, emb6]
  exact dgain_blocks (n := 4) rfl (fun t r k => x_at m c ⟨t.val, by omega⟩ r k) (fun t r k => dh_at m c ⟨t.val, by omega⟩ r k) d

/-- Every index of the rows' gradient lies in some point's block, -/
theorem covered5 (i : S2048x1024.Idx) : ∃ t : Fin cfg0.N, (cfg0.win 5).flush t = true ∧ i ∈ ((cfg0.win 5).blk t).view.set := by
  obtain ⟨r, d, rfl⟩ := pair i
  obtain ⟨t, q, rfl⟩ := exists_rowAt rows r
  exact ⟨t, flush0_5 t, emb5 t q d ▸ ((cfg0.win 5).blk t).view.emb_mem_set (ix2 q d)⟩

/-- and every index of the gain's gradient in the last one's. -/
theorem covered6 (i : S1x1024.Idx) : ∃ t : Fin cfg0.N, (cfg0.win 6).flush t = true ∧ i ∈ ((cfg0.win 6).blk t).view.set := by
  obtain ⟨r, d, rfl⟩ := pair i
  obtain rfl : r = 0 := Subsingleton.elim _ _
  have hn : 3 < cfg0.N := lt_of_lt_of_eq (by decide : 3 < 4) N_0.symm
  exact ⟨⟨3, hn⟩, (flush0_6 ⟨3, hn⟩).mpr rfl, emb6 ⟨3, hn⟩ d ▸ ((cfg0.win 6).blk ⟨3, hn⟩).view.emb_mem_set (ix2 0 d)⟩

/-- The value claim: both programs end with the gradients of the rows and of the gain. -/
theorem algebraic : Cert.algebraic_Norm1GradKernelIdeal_Norm1GradReferenceIdeal := by
  intro m g m' g' _ hargs
  refine ⟨dx m, dg m, (θ_run _ _ _).mono (fun _ h c => ⟨(h c).1.trans ((dats m 0 c).arrAt_eq_of_cover 5 _ (fun t _ => flushed5_eq m c t) covered5),
    (h c).2.1.trans ((dats m 0 c).arrAt_eq_of_cover 6 _ (fun t hf => flushed6_eq m c t ((flush0_6 t).mp hf)) covered6), (h c).2.2⟩) (run_blocks m g), ?_⟩
  refine (θ_run _ _ _).mono (fun r h c => ⟨(h c).1.trans ?_, (h c).2.1.trans ?_, (h c).2.2⟩) (Cert.Norm1GradReferenceIdeal.Value.run m' g')
  · obtain ⟨h0, h1, h2, h3, h4⟩ := hargs c
    unfold Cert.Norm1GradReferenceIdeal.Value.res_main_v37
    rw [h0, h1, h2, h3, h4]
    unfold dx dh
    generalize m ((c : Thread nD τ).loc main_arg0) = p
    generalize m ((c : Thread nD τ).loc main_arg1) = w
    generalize m ((c : Thread nD τ).loc main_arg2) = x
    generalize m ((c : Thread nD τ).loc main_arg3) = ga
    generalize m ((c : Thread nD τ).loc main_arg4) = dr
    change Vec Ideal S2048x3200 .f32 at p
    change Vec Ideal S3200x1024 .bf16 at w
    change Vec Ideal S2048x1024 .f32 at x
    change Vec Ideal S1x1024 .f32 at ga
    change Vec Ideal S2048x1024 .f32 at dr
    funext i
    obtain ⟨r, d, rfl⟩ := pair i
    refine Eq.trans ?_ (drows_eq x ga (nn p w) dr r d _ rfl).symm
    pointwise [scale, spread, nn]
    simp only [Fin.sum_univ_one]
  · obtain ⟨h0, h1, h2, -⟩ := hargs c
    rw [h0, h1, h2]
    unfold dg dh
    generalize m ((c : Thread nD τ).loc main_arg0) = p
    generalize m ((c : Thread nD τ).loc main_arg1) = w
    generalize m ((c : Thread nD τ).loc main_arg2) = x
    change Vec Ideal S2048x3200 .f32 at p
    change Vec Ideal S3200x1024 .bf16 at w
    change Vec Ideal S2048x1024 .f32 at x
    funext i
    obtain ⟨r, d, rfl⟩ := pair i
    refine Eq.trans ?_ (Finset.sum_congr rfl fun r _ => mul_comm (x (ix2 r d) * scale x r) (nn p w (ix2 r d)))
    pointwise [scale, nn]

/-- The reference leaves its arguments and its counters alone. -/
theorem frame_reference : Cert.quiescent_Norm1GradReferenceIdeal := fun m ρ _ =>
  (θ_run _ _ _).mono (fun r h => ⟨fun c => (h c).2.2, sem_eq_zero_of_no_sems (by decide) r.2⟩) (Cert.Norm1GradReferenceIdeal.Value.run m ρ)

end Cert.Norm1Grad
-- ==== Proof.Adam.lean ====
module

public import Idealize.ShloMosaic.Lib.Pointwise

/-! AdamW over the extended reals, entry by entry, and indices of stacks of matrices. -/

@[expose] public section
open Idealize.ShloMosaic

namespace Cert.Adam

variable {L R C : ℕ}

/-- An index of a stack of matrices is the triple of its coordinates. -/
theorem triple (i : (⟨3, ![L, R, C]⟩ : Shape).Idx) : ∃ (l : Fin L) (r : Fin R) (d : Fin C), i = ix3 l r d :=
  ⟨i 0, i 1, i 2, funext fun a => by match a with | ⟨0, _⟩ => rfl | ⟨1, _⟩ => rfl | ⟨2, _⟩ => rfl⟩

/-- Two indices of a stack are the same when their coordinates are. -/
theorem triple_ext {i : (⟨3, ![L, R, C]⟩ : Shape).Idx} {l : Fin L} {r : Fin R} {d : Fin C} (h0 : (i 0).val = l.val) (h1 : (i 1).val = r.val)
    (h2 : (i 2).val = d.val) : i = ix3 l r d :=
  funext fun a => Fin.ext (by match a with | ⟨0, _⟩ => exact h0 | ⟨1, _⟩ => exact h1 | ⟨2, _⟩ => exact h2)

/-- Two stacks are the same when their entries are, -/
theorem ext_stack {α : Type} {f g : (⟨3, ![L, R, C]⟩ : Shape).Idx → α} (h : ∀ l r d, f (ix3 l r d) = g (ix3 l r d)) : f = g := by
  funext j
  obtain ⟨l, r, d, rfl⟩ := triple j
  exact h l r d

/-- and so are two layers. -/
theorem ext_layer {α : Type} {f g : (⟨3, ![1, R, C]⟩ : Shape).Idx → α} (h : ∀ r d, f (ix3 0 r d) = g (ix3 0 r d)) : f = g :=
  ext_stack fun l r d => Subsingleton.elim 0 l ▸ h r d

/-- The gradient: the sum of the senders' parts. -/
noncomputable def total (p : (⟨3, ![L, R, C]⟩ : Shape).Idx → EReal) (r : Fin R) (d : Fin C) : EReal := ∑ s : Fin L, p (ix3 s r d)

/-- The new first moment, of the old one and the gradient, -/
noncomputable def moment (m g : EReal) : EReal := Ideal.ofBits .f32 0x3F666666#32 * m + Ideal.ofBits .f32 0x3DCCCCCD#32 * g

/-- the new second moment, -/
noncomputable def square (v g : EReal) : EReal := Ideal.ofBits .f32 0x3F7FBE77#32 * v + Ideal.ofBits .f32 0x3A83126F#32 * (g * g)

/-- and the weight's step, of the weight and the new moments. -/
noncomputable def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

/-- The gradients of a stack's matrices, each of its own parts, -/
noncomputable def grads {K : ℕ} (p : Fin K → (⟨3, ![L, R, C]⟩ : Shape).Idx → EReal) (i : (⟨3, ![K, R, C]⟩ : Shape).Idx) : EReal := total (p (i 0)) (i 1) (i 2)

/-- the new first moments, -/
noncomputable def moments {K : ℕ} (p : Fin K → (⟨3, ![L, R, C]⟩ : Shape).Idx → EReal) (m : (⟨3, ![K, R, C]⟩ : Shape).Idx → EReal)
    (i : (⟨3, ![K, R, C]⟩ : Shape).Idx) : EReal := moment (m i) (grads p i)

/-- the new second moments -/
noncomputable def squares {K : ℕ} (p : Fin K → (⟨3, ![L, R, C]⟩ : Shape).Idx → EReal) (v : (⟨3, ![K, R, C]⟩ : Shape).Idx → EReal)
    (i : (⟨3, ![K, R, C]⟩ : Shape).Idx) : EReal := square (v i) (grads p i)

/-- and the weights' steps. -/
noncomputable def steps {K : ℕ} (p : Fin K → (⟨3, ![L, R, C]⟩ : Shape).Idx → EReal) (w m v : (⟨3, ![K, R, C]⟩ : Shape).Idx → EReal)
    (i : (⟨3, ![K, R, C]⟩ : Shape).Idx) : EReal := step (w i) (moments p m i) (squares p v i)

/-- The origin of a whole load or store of a stack. -/
theorem origin : (![0, 0, 0] : Fin 3 → ℕ) = fun _ => 0 := funext fun a => by fin_cases a <;> rfl

section layers
variable {K : ℕ} {p : Fin K → (⟨3, ![L, R, C]⟩ : Shape).Idx → EReal} {l : Fin K} {r : Fin R} {d : Fin C}
  {w m v : (⟨3, ![K, R, C]⟩ : Shape).Idx → EReal} {w' m' v' : (⟨3, ![1, R, C]⟩ : Shape).Idx → EReal}

/-- A layer's first moments are the stack's at the layer, -/
theorem moments_layer (hm : m' (ix3 0 r d) = m (ix3 l r d)) : moments (fun _ : Fin 1 => p l) m' (ix3 0 r d) = moments p m (ix3 l r d) :=
  congrArg (moment · (total (p l) r d)) hm

/-- its second moments are -/
theorem squares_layer (hv : v' (ix3 0 r d) = v (ix3 l r d)) : squares (fun _ : Fin 1 => p l) v' (ix3 0 r d) = squares p v (ix3 l r d) :=
  congrArg (square · (total (p l) r d)) hv

/-- and its steps are. -/
theorem steps_layer (hw : w' (ix3 0 r d) = w (ix3 l r d)) (hm : m' (ix3 0 r d) = m (ix3 l r d)) (hv : v' (ix3 0 r d) = v (ix3 l r d)) :
    steps (fun _ : Fin 1 => p l) w' m' v' (ix3 0 r d) = steps p w m v (ix3 l r d) := by
  unfold steps
  rw [hw, moments_layer hm, squares_layer hv]

end layers

/-- A block that is a layer of its array lies at the layer, -/
theorem at_layer {K : ℕ} {i : (⟨3, ![K, R, C]⟩ : Shape).Idx} {l : Fin K} {r : Fin R} {d : Fin C} {x y z : ℕ} (h : x = l.val ∧ y = 0 ∧ z = 0)
    (h0 : (i 0).val = x * 1 + 1 * (0 : Fin 1).val) (h1 : (i 1).val = y * R + 1 * r.val) (h2 : (i 2).val = z * C + 1 * d.val) : i = ix3 l r d := by
  obtain ⟨rfl, rfl, rfl⟩ := h
  exact triple_ext (h0.trans (by omega)) (h1.trans (by omega)) (h2.trans (by omega))

/-- and one that is its whole array at its origin. -/
theorem at_whole {i : (⟨3, ![L, R, C]⟩ : Shape).Idx} {s : Fin L} {r : Fin R} {d : Fin C} {x y z : ℕ} (h : x = 0 ∧ y = 0 ∧ z = 0)
    (h0 : (i 0).val = x * L + 1 * s.val) (h1 : (i 1).val = y * R + 1 * r.val) (h2 : (i 2).val = z * C + 1 * d.val) : i = ix3 s r d := by
  obtain ⟨rfl, rfl, rfl⟩ := h
  exact triple_ext (h0.trans (by omega)) (h1.trans (by omega)) (h2.trans (by omega))

/-- A block of an array with more rows than it, at the array's origin. -/
theorem at_padded {R' : ℕ} {hR : R ≤ R'} {i : (⟨3, ![L, R', C]⟩ : Shape).Idx} {s : Fin L} {r : Fin R} {d : Fin C} {x y z : ℕ} (h : x = 0 ∧ y = 0 ∧ z = 0)
    (h0 : (i 0).val = x * L + 1 * s.val) (h1 : (i 1).val = y * R + 1 * r.val) (h2 : (i 2).val = z * C + 1 * d.val) : i = ix3 s (r.castLE hR) d := by
  obtain ⟨rfl, rfl, rfl⟩ := h
  exact triple_ext (h0.trans (by omega)) (h1.trans (by rw [Fin.val_castLE]; omega)) (h2.trans (by omega))

end Cert.Adam
-- ==== Proof.AdamMlp.lean ====
module

public import proofs.«01_k».proof.Defs
public import proofs.«01_k».proof.Proof.Adam
public import proofs.«01_k».proof.Proof.Gen.AdamMlpKernelIdeal.Value
public import proofs.«01_k».proof.Proof.Gen.AdamMlpReferenceIdeal.Run

/-! AdamW of two layers of 352 rows, of parts padded to 384: the MLP's weights, of the gate and of the up projection transposed. -/

@[expose] public section
open Idealize.ShloMosaic Idealize.ShloMosaic.TcCoe Idealize.SL.Sem Cert.Adam

namespace Cert.AdamMlp
open Cert.AdamMlpKernelIdeal Cert.AdamMlpKernelIdeal.Gen Cert.AdamMlpKernelIdeal.Value

section body
variable (c : Dev nD) (i : grid0.Coords) (arg2 : Memref sig .tc .vmem S1x352x1024 .f32) (harg2 : arg2.IsWhole) (arg3 : Memref sig .tc .vmem S4x352x1024 .bf16) (harg3 : arg3.IsWhole) (arg4 : Memref sig .tc .vmem S4x352x1024 .bf16) (harg4 : arg4.IsWhole) (arg5 : Memref sig .tc .vmem S1x352x1024 .f32) (harg5 : arg5.IsWhole) (arg6 : Memref sig .tc .vmem S1x352x1024 .f32) (harg6 : arg6.IsWhole) (arg7 : Memref sig .tc .vmem S1x352x1024 .f32) (harg7 : arg7.IsWhole) (arg8 : Memref sig .tc .vmem S1x352x1024 .f32) (harg8 : arg8.IsWhole) (arg9 : Memref sig .tc .vmem S1x352x1024 .f32) (harg9 : arg9.IsWhole) (arg10 : Memref sig .tc .vmem S1x352x1024 .f32) (harg10 : arg10.IsWhole)
    (x0 : Vec Ideal S1x352x1024 .f32) (x1 x2 : Vec Ideal S4x352x1024 .bf16) (x3 x4 : Vec Ideal S1x352x1024 .f32)

/-- What the first point leaves: AdamW of the first layer's parts, -/
theorem outA (hc0 : cond0_0 i) (hc1 : ¬cond0_1 i) :
    (out0_A_5 c i arg2 harg2 arg3 harg3 arg4 harg4 arg5 harg5 arg6 harg6 arg7 harg7 arg8 harg8 arg9 harg9 arg10 harg10 hc0 hc1 x0 x1 x2 x3 x4,
      out0_A_6 c i arg2 harg2 arg3 harg3 arg4 harg4 arg5 harg5 arg6 harg6 arg7 harg7 arg8 harg8 arg9 harg9 arg10 harg10 hc0 hc1 x0 x1 x2 x3 x4,
      out0_A_7 c i arg2 harg2 arg3 harg3 arg4 harg4 arg5 harg5 arg6 harg6 arg7 harg7 arg8 harg8 arg9 harg9 arg10 harg10 hc0 hc1 x0 x1 x2 x3 x4,
      out0_A_8 c i arg2 harg2 arg3 harg3 arg4 harg4 arg5 harg5 arg6 harg6 arg7 harg7 arg8 harg8 arg9 harg9 arg10 harg10 hc0 hc1 x0 x1 x2 x3 x4)
    = (grads (K := 1) (fun _ => x1), steps (K := 1) (fun _ => x1) x0 x3 x4, moments (K := 1) (fun _ => x1) x3, squares (K := 1) (fun _ => x1) x4) := by
  unfold out0_A_5 out0_A_6 out0_A_7 out0_A_8
  simp only [View.read_writes_junk_eq_canon]
  unfold kernelRun0_A
  dsimp only
  rw [View.canon_unit_zero origin, View.canon_unit_zero origin, View.canon_unit_zero origin, View.canon_unit_zero origin]
  unfold kernelRun0_A.sl.r kernelRun0_A.sl.r_1
  simp only [View.readAt_eq_ld, harg2.read_unread, harg3.read_unread, harg5.read_unread, harg6.read_unread]
  refine congrArg₂ Prod.mk ?_ (congrArg₂ Prod.mk ?_ (congrArg₂ Prod.mk ?_ ?_))
  all_goals
    refine ext_layer fun r d => ?_
    pointwise [k0_pay1, k0_pay2, k0_pay3, k0_pay7, k0_pay8, k0_pay9, k0_pay10, grads, steps, moments, squares, step, moment, square, total]
    simp only [Fin.sum_univ_four]

/-- and what the second one leaves: that of the second layer's. -/
theorem outB (hc0 : ¬cond0_0 i) (hc1 : cond0_1 i) :
    (out0_B_5 c i arg2 harg2 arg3 harg3 arg4 harg4 arg5 harg5 arg6 harg6 arg7 harg7 arg8 harg8 arg9 harg9 arg10 harg10 hc0 hc1 x0 x1 x2 x3 x4,
      out0_B_6 c i arg2 harg2 arg3 harg3 arg4 harg4 arg5 harg5 arg6 harg6 arg7 harg7 arg8 harg8 arg9 harg9 arg10 harg10 hc0 hc1 x0 x1 x2 x3 x4,
      out0_B_7 c i arg2 harg2 arg3 harg3 arg4 harg4 arg5 harg5 arg6 harg6 arg7 harg7 arg8 harg8 arg9 harg9 arg10 harg10 hc0 hc1 x0 x1 x2 x3 x4,
      out0_B_8 c i arg2 harg2 arg3 harg3 arg4 harg4 arg5 harg5 arg6 harg6 arg7 harg7 arg8 harg8 arg9 harg9 arg10 harg10 hc0 hc1 x0 x1 x2 x3 x4)
    = (grads (K := 1) (fun _ => x2), steps (K := 1) (fun _ => x2) x0 x3 x4, moments (K := 1) (fun _ => x2) x3, squares (K := 1) (fun _ => x2) x4) := by
  unfold out0_B_5 out0_B_6 out0_B_7 out0_B_8
  simp only [View.read_writes_junk_eq_canon]
  unfold kernelRun0_B
  dsimp only
  rw [View.canon_unit_zero origin, View.canon_unit_zero origin, View.canon_unit_zero origin, View.canon_unit_zero origin]
  unfold kernelRun0_B.sl.r kernelRun0_B.sl.r_1
  simp only [View.readAt_eq_ld, harg2.read_unread, harg4.read_unread, harg5.read_unread, harg6.read_unread]
  refine congrArg₂ Prod.mk ?_ (congrArg₂ Prod.mk ?_ (congrArg₂ Prod.mk ?_ ?_))
  all_goals
    refine ext_layer fun r d => ?_
    pointwise [k0_pay4, k0_pay5, k0_pay6, k0_pay11, k0_pay12, k0_pay13, k0_pay14, grads, steps, moments, squares, step, moment, square, total]
    simp only [Fin.sum_univ_four]

end body

variable (m : (ℓ : Loc nD τ sig) → Buf (Elt Ideal) ℓ)

/-- Parts without the rows that pad them. -/
def unpad (p : Vec Ideal S4x384x1024 .bf16) : Vec Ideal S4x352x1024 .bf16 := fun j => p (ix3 (j 0) (⟨(j 1).val, Nat.lt_of_lt_of_le (j 1).isLt (by decide : 352 ≤ 384)⟩ : Fin 384) (j 2))

/-- The two layers' parts. -/
noncomputable abbrev parts (c : Dev nD) : Fin 2 → Vec Ideal S4x352x1024 .bf16 := ![unpad (m ((c : Thread nD τ).loc main_arg1)), unpad (m ((c : Thread nD τ).loc main_arg2))]

/-- The layers' gradients, -/
noncomputable abbrev gs (c : Dev nD) : Vec Ideal S2x352x1024 .f32 := grads (parts m c)

/-- the steps of their weights, -/
noncomputable abbrev ds (c : Dev nD) : Vec Ideal S2x352x1024 .f32 :=
  steps (parts m c) (m ((c : Thread nD τ).loc main_arg0)) (m ((c : Thread nD τ).loc main_arg3)) (m ((c : Thread nD τ).loc main_arg4))

/-- their new first moments -/
noncomputable abbrev ms (c : Dev nD) : Vec Ideal S2x352x1024 .f32 := moments (parts m c) (m ((c : Thread nD τ).loc main_arg3))

/-- and their new second ones. -/
noncomputable abbrev vs (c : Dev nD) : Vec Ideal S2x352x1024 .f32 := squares (parts m c) (m ((c : Thread nD τ).loc main_arg4))

/-- The block indices at each point: the layer moves, the parts stay. -/
theorem idx : ∀ t : Fin cfg0.N, (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- A point's layer. -/
def layer (t : Fin cfg0.N) : Fin 2 := ⟨t.val, lt_of_lt_of_eq t.isLt N_0⟩

variable (t : Fin cfg0.N) (r : Fin 352) (d : Fin 1024)

/-- Where an index of a block lies in its array: the parts are whole, the rest is the point's layer. -/
theorem emb0 : ((cfg0.win 0).blk t).view.emb (ix3 (0 : Fin 1) r d) = ix3 (layer t) r d := at_layer (idx t).1 rfl rfl rfl
theorem emb3 : ((cfg0.win 3).blk t).view.emb (ix3 (0 : Fin 1) r d) = ix3 (layer t) r d := at_layer (idx t).2.2.2.1 rfl rfl rfl
theorem emb4 : ((cfg0.win 4).blk t).view.emb (ix3 (0 : Fin 1) r d) = ix3 (layer t) r d := at_layer (idx t).2.2.2.2.1 rfl rfl rfl
theorem emb5 : ((cfg0.win 5).blk t).view.emb (ix3 (0 : Fin 1) r d) = ix3 (layer t) r d := at_layer (idx t).2.2.2.2.2.1 rfl rfl rfl
theorem emb6 : ((cfg0.win 6).blk t).view.emb (ix3 (0 : Fin 1) r d) = ix3 (layer t) r d := at_layer (idx t).2.2.2.2.2.2.1 rfl rfl rfl
theorem emb7 : ((cfg0.win 7).blk t).view.emb (ix3 (0 : Fin 1) r d) = ix3 (layer t) r d := at_layer (idx t).2.2.2.2.2.2.2.1 rfl rfl rfl
theorem emb8 : ((cfg0.win 8).blk t).view.emb (ix3 (0 : Fin 1) r d) = ix3 (layer t) r d := at_layer (idx t).2.2.2.2.2.2.2.2 rfl rfl rfl

/-- The weights' block, -/
theorem w_at (c : Dev nD) : iblk m c 0 t (ix3 0 r d) = m ((c : Thread nD τ).loc main_arg0) (ix3 (layer t) r d) := congrArg (m ((c : Thread nD τ).loc main_arg0)) (emb0 t r d)

/-- the first moments', -/
theorem m_at (c : Dev nD) : iblk m c 3 t (ix3 0 r d) = m ((c : Thread nD τ).loc main_arg3) (ix3 (layer t) r d) := congrArg (m ((c : Thread nD τ).loc main_arg3)) (emb3 t r d)

/-- the second moments' -/
theorem v_at (c : Dev nD) : iblk m c 4 t (ix3 0 r d) = m ((c : Thread nD τ).loc main_arg4) (ix3 (layer t) r d) := congrArg (m ((c : Thread nD τ).loc main_arg4)) (emb4 t r d)

/-- and the parts', which no transfer cuts. -/
theorem p_eq (c : Dev nD) : X0_1 m c t = unpad (m ((c : Thread nD τ).loc main_arg1)) ∧ X0_2 m c t = unpad (m ((c : Thread nD τ).loc main_arg2)) := by
  constructor
  · funext j
    obtain ⟨s, r, d, rfl⟩ := triple j
    unfold X0_1 Pipeline.Window.fill
    rw [dif_pos (moved0_1 t (ix3 s r d))]
    exact congrArg (m ((c : Thread nD τ).loc main_arg1)) (at_padded (hR := (by decide : 352 ≤ 384)) (idx t).2.1 rfl rfl rfl)
  · funext j
    obtain ⟨s, r, d, rfl⟩ := triple j
    unfold X0_2 Pipeline.Window.fill
    rw [dif_pos (moved0_2 t (ix3 s r d))]
    exact congrArg (m ((c : Thread nD τ).loc main_arg2)) (at_padded (hR := (by decide : 352 ≤ 384)) (idx t).2.2.1 rfl rfl rfl)

/-- A point leaves AdamW of its layer. -/
theorem left (c : Dev nD) : outsAt0 m c t.val t.isLt = (grads (K := 1) (fun _ => parts m c (layer t)), steps (K := 1) (fun _ => parts m c (layer t)) (iblk m c 0 t) (iblk m c 3 t) (iblk m c 4 t),
    moments (K := 1) (fun _ => parts m c (layer t)) (iblk m c 3 t), squares (K := 1) (fun _ => parts m c (layer t)) (iblk m c 4 t)) := by
  have h2 : t.val < 2 := lt_of_lt_of_eq t.isLt N_0
  obtain h | h : t.val = 0 ∨ t.val = 1 := by omega
  · rw [outsAt0_A m c t (by omega) (by omega), outA, (p_eq m t c).1, show layer t = 0 from Fin.ext h]
    rfl
  · rw [outsAt0_B m c t (by omega) (by omega), outB, (p_eq m t c).2, show layer t = 1 from Fin.ext h]
    rfl

/-- What a point writes back is its layer of each result. -/
theorem flushed5_eq (c : Dev nD) : (dats m 0 c).flushed 5 t = ((cfg0.win 5).blk t).view.read (Elt Ideal) (gs m c) := by
  rw [flushed5, left]
  exact ext_layer fun r d => (congrArg (gs m c) (emb5 t r d)).symm
theorem flushed6_eq (c : Dev nD) : (dats m 0 c).flushed 6 t = ((cfg0.win 6).blk t).view.read (Elt Ideal) (ds m c) := by
  rw [flushed6, left]
  exact ext_layer fun r d => (steps_layer (w_at m t r d c) (m_at m t r d c) (v_at m t r d c)).trans (congrArg (ds m c) (emb6 t r d)).symm
theorem flushed7_eq (c : Dev nD) : (dats m 0 c).flushed 7 t = ((cfg0.win 7).blk t).view.read (Elt Ideal) (ms m c) := by
  rw [flushed7, left]
  exact ext_layer fun r d => (moments_layer (m_at m t r d c)).trans (congrArg (ms m c) (emb7 t r d)).symm
theorem flushed8_eq (c : Dev nD) : (dats m 0 c).flushed 8 t = ((cfg0.win 8).blk t).view.read (Elt Ideal) (vs m c) := by
  rw [flushed8, left]
  exact ext_layer fun r d => (squares_layer (v_at m t r d c)).trans (congrArg (vs m c) (emb8 t r d)).symm

/-- Every index of the results lies in some point's block. -/
theorem covered (i : S2x352x1024.Idx) : ∃ t : Fin cfg0.N, ((cfg0.win 5).flush t = true ∧ i ∈ ((cfg0.win 5).blk t).view.set) ∧ ((cfg0.win 6).flush t = true ∧ i ∈ ((cfg0.win 6).blk t).view.set)
    ∧ ((cfg0.win 7).flush t = true ∧ i ∈ ((cfg0.win 7).blk t).view.set) ∧ ((cfg0.win 8).flush t = true ∧ i ∈ ((cfg0.win 8).blk t).view.set) := by
  obtain ⟨l, r, d, rfl⟩ := triple i
  obtain ⟨t, rfl⟩ : ∃ t : Fin cfg0.N, layer t = l := ⟨⟨l.val, lt_of_lt_of_eq l.isLt N_0.symm⟩, rfl⟩
  exact ⟨t, ⟨flush0_5 t, emb5 t r d ▸ ((cfg0.win 5).blk t).view.emb_mem_set (ix3 0 r d)⟩, ⟨flush0_6 t, emb6 t r d ▸ ((cfg0.win 6).blk t).view.emb_mem_set (ix3 0 r d)⟩,
    ⟨flush0_7 t, emb7 t r d ▸ ((cfg0.win 7).blk t).view.emb_mem_set (ix3 0 r d)⟩, ⟨flush0_8 t, emb8 t r d ▸ ((cfg0.win 8).blk t).view.emb_mem_set (ix3 0 r d)⟩⟩

/-- The value claim: both programs end with the gradients, the steps and the new moments. -/
theorem algebraic : Cert.algebraic_AdamMlpKernelIdeal_AdamMlpReferenceIdeal := by
  intro m g m' g' _ hargs
  refine ⟨gs m, ds m, ms m, vs m, (θ_run _ _ _).mono (fun _ h c => ⟨(h c).1.trans ((dats m 0 c).arrAt_eq_of_cover 5 _ (fun t _ => flushed5_eq m t c) fun i => (covered i).imp fun _ h => h.1),
    (h c).2.1.trans ((dats m 0 c).arrAt_eq_of_cover 6 _ (fun t _ => flushed6_eq m t c) fun i => (covered i).imp fun _ h => h.2.1),
    (h c).2.2.1.trans ((dats m 0 c).arrAt_eq_of_cover 7 _ (fun t _ => flushed7_eq m t c) fun i => (covered i).imp fun _ h => h.2.2.1),
    (h c).2.2.2.1.trans ((dats m 0 c).arrAt_eq_of_cover 8 _ (fun t _ => flushed8_eq m t c) fun i => (covered i).imp fun _ h => h.2.2.2), (h c).2.2.2.2⟩) (run_blocks m g), ?_⟩
  refine (θ_run _ _ _).mono (fun r h c => ⟨(h c).1.trans ?_, (h c).2.1.trans ?_, (h c).2.2.1.trans ?_, (h c).2.2.2.1.trans ?_, (h c).2.2.2.2⟩) (Cert.AdamMlpReferenceIdeal.Value.run m' g')
  all_goals
    obtain ⟨h0, h1, h2, h3, h4⟩ := hargs c
    rw [h1, h2]
    try simp only [h0, h3, h4]
    dsimp only [gs, ds, ms, vs, parts]
    generalize m ((c : Thread nD τ).loc main_arg0) = w
    generalize m ((c : Thread nD τ).loc main_arg1) = p0
    generalize m ((c : Thread nD τ).loc main_arg2) = p1
    generalize m ((c : Thread nD τ).loc main_arg3) = a
    generalize m ((c : Thread nD τ).loc main_arg4) = b
    change Vec Ideal S2x352x1024 .f32 at w
    change Vec Ideal S4x384x1024 .bf16 at p0
    change Vec Ideal S4x384x1024 .bf16 at p1
    change Vec Ideal S2x352x1024 .f32 at a
    change Vec Ideal S2x352x1024 .f32 at b
    funext i
    obtain ⟨l, r, d, rfl⟩ := triple i
    obtain rfl | rfl : l = 0 ∨ l = 1 := by omega
    all_goals pointwise [unpad, grads, steps, moments, squares, step, moment, square, total]

/-- The reference leaves its arguments and its counters alone. -/
theorem frame_reference : Cert.quiescent_AdamMlpReferenceIdeal := fun m ρ _ =>
  (θ_run _ _ _).mono (fun r h => ⟨fun c => (h c).2.2.2.2, sem_eq_zero_of_no_sems (by decide) r.2⟩) (Cert.AdamMlpReferenceIdeal.Value.run m ρ)

end Cert.AdamMlp
-- ==== Proof.AdamOut.lean ====
module

public import proofs.«01_k».proof.Defs
public import proofs.«01_k».proof.Proof.Adam
public import proofs.«01_k».proof.Proof.Gen.AdamOutKernelIdeal.Value
public import proofs.«01_k».proof.Proof.Gen.AdamOutReferenceIdeal.Run

/-! AdamW of two layers of 128 rows: the output projection's weights and the per-layer embedding's gate. -/

@[expose] public section
open Idealize.ShloMosaic Idealize.ShloMosaic.TcCoe Idealize.SL.Sem Cert.Adam

namespace Cert.AdamOut
open Cert.AdamOutKernelIdeal Cert.AdamOutKernelIdeal.Gen Cert.AdamOutKernelIdeal.Value

section body
variable (c : Dev nD) (i : grid0.Coords) (arg2 : Memref sig .tc .vmem S1x128x1024 .f32) (harg2 : arg2.IsWhole) (arg3 : Memref sig .tc .vmem S4x128x1024 .bf16) (harg3 : arg3.IsWhole) (arg4 : Memref sig .tc .vmem S4x128x1024 .bf16) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1x128x1024 .f32) (harg7 : arg7.IsWhole) (arg8 : Memref sig .tc .vmem S1x128x1024 .f32) (harg8 : arg8.IsWhole) (arg9 : Memref sig .tc .vmem S1x128x1024 .f32) (harg9 : arg9.IsWhole) (arg10 : Memref sig .tc .vmem S1x128x1024 .f32) (harg10 : arg10.IsWhole)
    (x0 : Vec Ideal S1x128x1024 .f32) (x1 x2 : Vec Ideal S4x128x1024 .bf16) (x3 x4 : Vec Ideal S1x128x1024 .f32)

/-- What the first point leaves: AdamW of the first layer's parts, -/
theorem outA (hc0 : cond0_0 i) (hc1 : ¬cond0_1 i) :
    (out0_A_5 c i arg2 harg2 arg3 harg3 arg4 harg4 arg5 harg5 arg6 harg6 arg7 harg7 arg8 harg8 arg9 harg9 arg10 harg10 hc0 hc1 x0 x1 x2 x3 x4,
      out0_A_6 c i arg2 harg2 arg3 harg3 arg4 harg4 arg5 harg5 arg6 harg6 arg7 harg7 arg8 harg8 arg9 harg9 arg10 harg10 hc0 hc1 x0 x1 x2 x3 x4,
      out0_A_7 c i arg2 harg2 arg3 harg3 arg4 harg4 arg5 harg5 arg6 harg6 arg7 harg7 arg8 harg8 arg9 harg9 arg10 harg10 hc0 hc1 x0 x1 x2 x3 x4,
      out0_A_8 c i arg2 harg2 arg3 harg3 arg4 harg4 arg5 harg5 arg6 harg6 arg7 harg7 arg8 harg8 arg9 harg9 arg10 harg10 hc0 hc1 x0 x1 x2 x3 x4)
    = (grads (K := 1) (fun _ => x1), steps (K := 1) (fun _ => x1) x0 x3 x4, moments (K := 1) (fun _ => x1) x3, squares (K := 1) (fun _ => x1) x4) := by
  unfold out0_A_5 out0_A_6 out0_A_7 out0_A_8
  simp only [View.read_writes_junk_eq_canon]
  unfold kernelRun0_A
  dsimp only
  rw [View.canon_unit_zero origin, View.canon_unit_zero origin, View.canon_unit_zero origin, View.canon_unit_zero origin]
  unfold kernelRun0_A.sl.r kernelRun0_A.sl.r_1
  simp only [View.readAt_eq_ld, harg2.read_unread, harg3.read_unread, harg5.read_unread, harg6.read_unread]
  refine congrArg₂ Prod.mk ?_ (congrArg₂ Prod.mk ?_ (congrArg₂ Prod.mk ?_ ?_))
  all_goals
    refine ext_layer fun r d => ?_
    pointwise [k0_pay1, k0_pay2, k0_pay3, k0_pay7, k0_pay8, k0_pay9, k0_pay10, grads, steps, moments, squares, step, moment, square, total]
    simp only [Fin.sum_univ_four]

/-- and what the second one leaves: that of the second layer's. -/
theorem outB (hc0 : ¬cond0_0 i) (hc1 : cond0_1 i) :
    (out0_B_5 c i arg2 harg2 arg3 harg3 arg4 harg4 arg5 harg5 arg6 harg6 arg7 harg7 arg8 harg8 arg9 harg9 arg10 harg10 hc0 hc1 x0 x1 x2 x3 x4,
      out0_B_6 c i arg2 harg2 arg3 harg3 arg4 harg4 arg5 harg5 arg6 harg6 arg7 harg7 arg8 harg8 arg9 harg9 arg10 harg10 hc0 hc1 x0 x1 x2 x3 x4,
      out0_B_7 c i arg2 harg2 arg3 harg3 arg4 harg4 arg5 harg5 arg6 harg6 arg7 harg7 arg8 harg8 arg9 harg9 arg10 harg10 hc0 hc1 x0 x1 x2 x3 x4,
      out0_B_8 c i arg2 harg2 arg3 harg3 arg4 harg4 arg5 harg5 arg6 harg6 arg7 harg7 arg8 harg8 arg9 harg9 arg10 harg10 hc0 hc1 x0 x1 x2 x3 x4)
    = (grads (K := 1) (fun _ => x2), steps (K := 1) (fun _ => x2) x0 x3 x4, moments (K := 1) (fun _ => x2) x3, squares (K := 1) (fun _ => x2) x4) := by
  unfold out0_B_5 out0_B_6 out0_B_7 out0_B_8
  simp only [View.read_writes_junk_eq_canon]
  unfold kernelRun0_B
  dsimp only
  rw [View.canon_unit_zero origin, View.canon_unit_zero origin, View.canon_unit_zero origin, View.canon_unit_zero origin]
  unfold kernelRun0_B.sl.r kernelRun0_B.sl.r_1
  simp only [View.readAt_eq_ld, harg2.read_unread, harg4.read_unread, harg5.read_unread, harg6.read_unread]
  refine congrArg₂ Prod.mk ?_ (congrArg₂ Prod.mk ?_ (congrArg₂ Prod.mk ?_ ?_))
  all_goals
    refine ext_layer fun r d => ?_
    pointwise [k0_pay4, k0_pay5, k0_pay6, k0_pay11, k0_pay12, k0_pay13, k0_pay14, grads, steps, moments, squares, step, moment, square, total]
    simp only [Fin.sum_univ_four]

end body

variable (m : (ℓ : Loc nD τ sig) → Buf (Elt Ideal) ℓ)

/-- The two layers' parts. -/
noncomputable abbrev parts (c : Dev nD) : Fin 2 → Vec Ideal S4x128x1024 .bf16 := ![m ((c : Thread nD τ).loc main_arg1), m ((c : Thread nD τ).loc main_arg2)]

/-- The layers' gradients, -/
noncomputable abbrev gs (c : Dev nD) : Vec Ideal S2x128x1024 .f32 := grads (parts m c)

/-- the steps of their weights, -/
noncomputable abbrev ds (c : Dev nD) : Vec Ideal S2x128x1024 .f32 :=
  steps (parts m c) (m ((c : Thread nD τ).loc main_arg0)) (m ((c : Thread nD τ).loc main_arg3)) (m ((c : Thread nD τ).loc main_arg4))

/-- their new first moments -/
noncomputable abbrev ms (c : Dev nD) : Vec Ideal S2x128x1024 .f32 := moments (parts m c) (m ((c : Thread nD τ).loc main_arg3))

/-- and their new second ones. -/
noncomputable abbrev vs (c : Dev nD) : Vec Ideal S2x128x1024 .f32 := squares (parts m c) (m ((c : Thread nD τ).loc main_arg4))

/-- The block indices at each point: the layer moves, the parts stay. -/
theorem idx : ∀ t : Fin cfg0.N, (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- A point's layer. -/
def layer (t : Fin cfg0.N) : Fin 2 := ⟨t.val, lt_of_lt_of_eq t.isLt N_0⟩

variable (t : Fin cfg0.N) (r : Fin 128) (d : Fin 1024)

/-- Where an index of a block lies in its array: the parts are whole, the rest is the point's layer. -/
theorem emb0 : ((cfg0.win 0).blk t).view.emb (ix3 (0 : Fin 1) r d) = ix3 (layer t) r d := at_layer (idx t).1 rfl rfl rfl
theorem emb1 (s : Fin 4) : ((cfg0.win 1).blk t).view.emb (ix3 s r d) = ix3 s r d := at_whole (idx t).2.1 rfl rfl rfl
theorem emb2 (s : Fin 4) : ((cfg0.win 2).blk t).view.emb (ix3 s r d) = ix3 s r d := at_whole (idx t).2.2.1 rfl rfl rfl
theorem emb3 : ((cfg0.win 3).blk t).view.emb (ix3 (0 : Fin 1) r d) = ix3 (layer t) r d := at_layer (idx t).2.2.2.1 rfl rfl rfl
theorem emb4 : ((cfg0.win 4).blk t).view.emb (ix3 (0 : Fin 1) r d) = ix3 (layer t) r d := at_layer (idx t).2.2.2.2.1 rfl rfl rfl
theorem emb5 : ((cfg0.win 5).blk t).view.emb (ix3 (0 : Fin 1) r d) = ix3 (layer t) r d := at_layer (idx t).2.2.2.2.2.1 rfl rfl rfl
theorem emb6 : ((cfg0.win 6).blk t).view.emb (ix3 (0 : Fin 1) r d) = ix3 (layer t) r d := at_layer (idx t).2.2.2.2.2.2.1 rfl rfl rfl
theorem emb7 : ((cfg0.win 7).blk t).view.emb (ix3 (0 : Fin 1) r d) = ix3 (layer t) r d := at_layer (idx t).2.2.2.2.2.2.2.1 rfl rfl rfl
theorem emb8 : ((cfg0.win 8).blk t).view.emb (ix3 (0 : Fin 1) r d) = ix3 (layer t) r d := at_layer (idx t).2.2.2.2.2.2.2.2 rfl rfl rfl

/-- The weights' block, -/
theorem w_at (c : Dev nD) : iblk m c 0 t (ix3 0 r d) = m ((c : Thread nD τ).loc main_arg0) (ix3 (layer t) r d) := congrArg (m ((c : Thread nD τ).loc main_arg0)) (emb0 t r d)

/-- the first moments', -/
theorem m_at (c : Dev nD) : iblk m c 3 t (ix3 0 r d) = m ((c : Thread nD τ).loc main_arg3) (ix3 (layer t) r d) := congrArg (m ((c : Thread nD τ).loc main_arg3)) (emb3 t r d)

/-- the second moments' -/
theorem v_at (c : Dev nD) : iblk m c 4 t (ix3 0 r d) = m ((c : Thread nD τ).loc main_arg4) (ix3 (layer t) r d) := congrArg (m ((c : Thread nD τ).loc main_arg4)) (emb4 t r d)

/-- and the parts'. -/
theorem p_eq (c : Dev nD) : iblk m c 1 t = m ((c : Thread nD τ).loc main_arg1) ∧ iblk m c 2 t = m ((c : Thread nD τ).loc main_arg2) :=
  ⟨ext_stack fun s r d => congrArg (m ((c : Thread nD τ).loc main_arg1)) (emb1 t r d s), ext_stack fun s r d => congrArg (m ((c : Thread nD τ).loc main_arg2)) (emb2 t r d s)⟩

/-- A point leaves AdamW of its layer. -/
theorem left (c : Dev nD) : outsAt0 m c t.val t.isLt = (grads (K := 1) (fun _ => parts m c (layer t)), steps (K := 1) (fun _ => parts m c (layer t)) (iblk m c 0 t) (iblk m c 3 t) (iblk m c 4 t),
    moments (K := 1) (fun _ => parts m c (layer t)) (iblk m c 3 t), squares (K := 1) (fun _ => parts m c (layer t)) (iblk m c 4 t)) := by
  have h2 : t.val < 2 := lt_of_lt_of_eq t.isLt N_0
  obtain h | h : t.val = 0 ∨ t.val = 1 := by omega
  · rw [outsAt0_A m c t (by omega) (by omega), outA, (p_eq m t c).1, show layer t = 0 from Fin.ext h]
    rfl
  · rw [outsAt0_B m c t (by omega) (by omega), outB, (p_eq m t c).2, show layer t = 1 from Fin.ext h]
    rfl

/-- What a point writes back is its layer of each result. -/
theorem flushed5_eq (c : Dev nD) : (dats m 0 c).flushed 5 t = ((cfg0.win 5).blk t).view.read (Elt Ideal) (gs m c) := by
  rw [flushed5, left]
  exact ext_layer fun r d => (congrArg (gs m c) (emb5 t r d)).symm
theorem flushed6_eq (c : Dev nD) : (dats m 0 c).flushed 6 t = ((cfg0.win 6).blk t).view.read (Elt Ideal) (ds m c) := by
  rw [flushed6, left]
  exact ext_layer fun r d => (steps_layer (w_at m t r d c) (m_at m t r d c) (v_at m t r d c)).trans (congrArg (ds m c) (emb6 t r d)).symm
theorem flushed7_eq (c : Dev nD) : (dats m 0 c).flushed 7 t = ((cfg0.win 7).blk t).view.read (Elt Ideal) (ms m c) := by
  rw [flushed7, left]
  exact ext_layer fun r d => (moments_layer (m_at m t r d c)).trans (congrArg (ms m c) (emb7 t r d)).symm
theorem flushed8_eq (c : Dev nD) : (dats m 0 c).flushed 8 t = ((cfg0.win 8).blk t).view.read (Elt Ideal) (vs m c) := by
  rw [flushed8, left]
  exact ext_layer fun r d => (squares_layer (v_at m t r d c)).trans (congrArg (vs m c) (emb8 t r d)).symm

/-- Every index of the results lies in some point's block. -/
theorem covered (i : S2x128x1024.Idx) : ∃ t : Fin cfg0.N, ((cfg0.win 5).flush t = true ∧ i ∈ ((cfg0.win 5).blk t).view.set) ∧ ((cfg0.win 6).flush t = true ∧ i ∈ ((cfg0.win 6).blk t).view.set)
    ∧ ((cfg0.win 7).flush t = true ∧ i ∈ ((cfg0.win 7).blk t).view.set) ∧ ((cfg0.win 8).flush t = true ∧ i ∈ ((cfg0.win 8).blk t).view.set) := by
  obtain ⟨l, r, d, rfl⟩ := triple i
  obtain ⟨t, rfl⟩ : ∃ t : Fin cfg0.N, layer t = l := ⟨⟨l.val, lt_of_lt_of_eq l.isLt N_0.symm⟩, rfl⟩
  exact ⟨t, ⟨flush0_5 t, emb5 t r d ▸ ((cfg0.win 5).blk t).view.emb_mem_set (ix3 0 r d)⟩, ⟨flush0_6 t, emb6 t r d ▸ ((cfg0.win 6).blk t).view.emb_mem_set (ix3 0 r d)⟩,
    ⟨flush0_7 t, emb7 t r d ▸ ((cfg0.win 7).blk t).view.emb_mem_set (ix3 0 r d)⟩, ⟨flush0_8 t, emb8 t r d ▸ ((cfg0.win 8).blk t).view.emb_mem_set (ix3 0 r d)⟩⟩

/-- The value claim: both programs end with the gradients, the steps and the new moments. -/
theorem algebraic : Cert.algebraic_AdamOutKernelIdeal_AdamOutReferenceIdeal := by
  intro m g m' g' _ hargs
  refine ⟨gs m, ds m, ms m, vs m, (θ_run _ _ _).mono (fun _ h c => ⟨(h c).1.trans ((dats m 0 c).arrAt_eq_of_cover 5 _ (fun t _ => flushed5_eq m t c) fun i => (covered i).imp fun _ h => h.1),
    (h c).2.1.trans ((dats m 0 c).arrAt_eq_of_cover 6 _ (fun t _ => flushed6_eq m t c) fun i => (covered i).imp fun _ h => h.2.1),
    (h c).2.2.1.trans ((dats m 0 c).arrAt_eq_of_cover 7 _ (fun t _ => flushed7_eq m t c) fun i => (covered i).imp fun _ h => h.2.2.1),
    (h c).2.2.2.1.trans ((dats m 0 c).arrAt_eq_of_cover 8 _ (fun t _ => flushed8_eq m t c) fun i => (covered i).imp fun _ h => h.2.2.2), (h c).2.2.2.2⟩) (run_blocks m g), ?_⟩
  refine (θ_run _ _ _).mono (fun r h c => ⟨(h c).1.trans ?_, (h c).2.1.trans ?_, (h c).2.2.1.trans ?_, (h c).2.2.2.1.trans ?_, (h c).2.2.2.2⟩) (Cert.AdamOutReferenceIdeal.Value.run m' g')
  all_goals
    obtain ⟨h0, h1, h2, h3, h4⟩ := hargs c
    rw [h1, h2]
    try simp only [h0, h3, h4]
    dsimp only [gs, ds, ms, vs, parts]
    generalize m ((c : Thread nD τ).loc main_arg0) = w
    generalize m ((c : Thread nD τ).loc main_arg1) = p0
    generalize m ((c : Thread nD τ).loc main_arg2) = p1
    generalize m ((c : Thread nD τ).loc main_arg3) = a
    generalize m ((c : Thread nD τ).loc main_arg4) = b
    change Vec Ideal S2x128x1024 .f32 at w
    change Vec Ideal S4x128x1024 .bf16 at p0
    change Vec Ideal S4x128x1024 .bf16 at p1
    change Vec Ideal S2x128x1024 .f32 at a
    change Vec Ideal S2x128x1024 .f32 at b
    funext i
    obtain ⟨l, r, d, rfl⟩ := triple i
    obtain rfl | rfl : l = 0 ∨ l = 1 := by omega
    all_goals pointwise [grads, steps, moments, squares, step, moment, square, total]

/-- The reference leaves its arguments and its counters alone. -/
theorem frame_reference : Cert.quiescent_AdamOutReferenceIdeal := fun m ρ _ =>
  (θ_run _ _ _).mono (fun r h => ⟨fun c => (h c).2.2.2.2, sem_eq_zero_of_no_sems (by decide) r.2⟩) (Cert.AdamOutReferenceIdeal.Value.run m ρ)

end Cert.AdamOut
-- ==== Proof.AdamIn.lean ====
module

public import proofs.«01_k».proof.Defs
public import proofs.«01_k».proof.Proof.Adam
public import proofs.«01_k».proof.Proof.Gen.AdamInKernelIdeal.Value
public import proofs.«01_k».proof.Proof.Gen.AdamInReferenceIdeal.Run

/-! AdamW of two layers of 385 rows: the input projection's weights, transposed. -/

@[expose] public section
open Idealize.ShloMosaic Idealize.ShloMosaic.TcCoe Idealize.SL.Sem Cert.Adam

namespace Cert.AdamIn
open Cert.AdamInKernelIdeal Cert.AdamInKernelIdeal.Gen Cert.AdamInKernelIdeal.Value

section body
variable (c : Dev nD) (i : grid0.Coords) (arg2 : Memref sig .tc .vmem S1x385x1024 .f32) (harg2 : arg2.IsWhole) (arg3 : Memref sig .tc .vmem S4x385x1024 .bf16) (harg3 : arg3.IsWhole) (arg4 : Memref sig .tc .vmem S4x385x1024 .bf16) (harg4 : arg4.IsWhole) (arg5 : Memref sig .tc .vmem S1x385x1024 .f32) (harg5 : arg5.IsWhole) (arg6 : Memref sig .tc .vmem S1x385x1024 .f32) (harg6 : arg6.IsWhole) (arg7 : Memref sig .tc .vmem S1x385x1024 .f32) (harg7 : arg7.IsWhole) (arg8 : Memref sig .tc .vmem S1x385x1024 .f32) (harg8 : arg8.IsWhole) (arg9 : Memref sig .tc .vmem S1x385x1024 .f32) (harg9 : arg9.IsWhole) (arg10 : Memref sig .tc .vmem S1x385x1024 .f32) (harg10 : arg10.IsWhole)
    (x0 : Vec Ideal S1x385x1024 .f32) (x1 x2 : Vec Ideal S4x385x1024 .bf16) (x3 x4 : Vec Ideal S1x385x1024 .f32)

/-- What the first point leaves: AdamW of the first layer's parts, -/
theorem outA (hc0 : cond0_0 i) (hc1 : ¬cond0_1 i) :
    (out0_A_5 c i arg2 harg2 arg3 harg3 arg4 harg4 arg5 harg5 arg6 harg6 arg7 harg7 arg8 harg8 arg9 harg9 arg10 harg10 hc0 hc1 x0 x1 x2 x3 x4,
      out0_A_6 c i arg2 harg2 arg3 harg3 arg4 harg4 arg5 harg5 arg6 harg6 arg7 harg7 arg8 harg8 arg9 harg9 arg10 harg10 hc0 hc1 x0 x1 x2 x3 x4,
      out0_A_7 c i arg2 harg2 arg3 harg3 arg4 harg4 arg5 harg5 arg6 harg6 arg7 harg7 arg8 harg8 arg9 harg9 arg10 harg10 hc0 hc1 x0 x1 x2 x3 x4,
      out0_A_8 c i arg2 harg2 arg3 harg3 arg4 harg4 arg5 harg5 arg6 harg6 arg7 harg7 arg8 harg8 arg9 harg9 arg10 harg10 hc0 hc1 x0 x1 x2 x3 x4)
    = (grads (K := 1) (fun _ => x1), steps (K := 1) (fun _ => x1) x0 x3 x4, moments (K := 1) (fun _ => x1) x3, squares (K := 1) (fun _ => x1) x4) := by
  unfold out0_A_5 out0_A_6 out0_A_7 out0_A_8
  simp only [View.read_writes_junk_eq_canon]
  unfold kernelRun0_A
  dsimp only
  rw [View.canon_unit_zero origin, View.canon_unit_zero origin, View.canon_unit_zero origin, View.canon_unit_zero origin]
  unfold kernelRun0_A.sl.r kernelRun0_A.sl.r_1
  simp only [View.readAt_eq_ld, harg2.read_unread, harg3.read_unread, harg5.read_unread, harg6.read_unread]
  refine congrArg₂ Prod.mk ?_ (congrArg₂ Prod.mk ?_ (congrArg₂ Prod.mk ?_ ?_))
  all_goals
    refine ext_layer fun r d => ?_
    pointwise [k0_pay1, k0_pay2, k0_pay3, k0_pay7, k0_pay8, k0_pay9, k0_pay10, grads, steps, moments, squares, step, moment, square, total]
    simp only [Fin.sum_univ_four]

/-- and what the second one leaves: that of the second layer's. -/
theorem outB (hc0 : ¬cond0_0 i) (hc1 : cond0_1 i) :
    (out0_B_5 c i arg2 harg2 arg3 harg3 arg4 harg4 arg5 harg5 arg6 harg6 arg7 harg7 arg8 harg8 arg9 harg9 arg10 harg10 hc0 hc1 x0 x1 x2 x3 x4,
      out0_B_6 c i arg2 harg2 arg3 harg3 arg4 harg4 arg5 harg5 arg6 harg6 arg7 harg7 arg8 harg8 arg9 harg9 arg10 harg10 hc0 hc1 x0 x1 x2 x3 x4,
      out0_B_7 c i arg2 harg2 arg3 harg3 arg4 harg4 arg5 harg5 arg6 harg6 arg7 harg7 arg8 harg8 arg9 harg9 arg10 harg10 hc0 hc1 x0 x1 x2 x3 x4,
      out0_B_8 c i arg2 harg2 arg3 harg3 arg4 harg4 arg5 harg5 arg6 harg6 arg7 harg7 arg8 harg8 arg9 harg9 arg10 harg10 hc0 hc1 x0 x1 x2 x3 x4)
    = (grads (K := 1) (fun _ => x2), steps (K := 1) (fun _ => x2) x0 x3 x4, moments (K := 1) (fun _ => x2) x3, squares (K := 1) (fun _ => x2) x4) := by
  unfold out0_B_5 out0_B_6 out0_B_7 out0_B_8
  simp only [View.read_writes_junk_eq_canon]
  unfold kernelRun0_B
  dsimp only
  rw [View.canon_unit_zero origin, View.canon_unit_zero origin, View.canon_unit_zero origin, View.canon_unit_zero origin]
  unfold kernelRun0_B.sl.r kernelRun0_B.sl.r_1
  simp only [View.readAt_eq_ld, harg2.read_unread, harg4.read_unread, harg5.read_unread, harg6.read_unread]
  refine congrArg₂ Prod.mk ?_ (congrArg₂ Prod.mk ?_ (congrArg₂ Prod.mk ?_ ?_))
  all_goals
    refine ext_layer fun r d => ?_
    pointwise [k0_pay4, k0_pay5, k0_pay6, k0_pay11, k0_pay12, k0_pay13, k0_pay14, grads, steps, moments, squares, step, moment, square, total]
    simp only [Fin.sum_univ_four]

end body

variable (m : (ℓ : Loc nD τ sig) → Buf (Elt Ideal) ℓ)

/-- The two layers' parts. -/
noncomputable abbrev parts (c : Dev nD) : Fin 2 → Vec Ideal S4x385x1024 .bf16 := ![m ((c : Thread nD τ).loc main_arg1), m ((c : Thread nD τ).loc main_arg2)]

/-- The layers' gradients, -/
noncomputable abbrev gs (c : Dev nD) : Vec Ideal S2x385x1024 .f32 := grads (parts m c)

/-- the steps of their weights, -/
noncomputable abbrev ds (c : Dev nD) : Vec Ideal S2x385x1024 .f32 :=
  steps (parts m c) (m ((c : Thread nD τ).loc main_arg0)) (m ((c : Thread nD τ).loc main_arg3)) (m ((c : Thread nD τ).loc main_arg4))

/-- their new first moments -/
noncomputable abbrev ms (c : Dev nD) : Vec Ideal S2x385x1024 .f32 := moments (parts m c) (m ((c : Thread nD τ).loc main_arg3))

/-- and their new second ones. -/
noncomputable abbrev vs (c : Dev nD) : Vec Ideal S2x385x1024 .f32 := squares (parts m c) (m ((c : Thread nD τ).loc main_arg4))

/-- The block indices at each point: the layer moves, the parts stay. -/
theorem idx : ∀ t : Fin cfg0.N, (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- A point's layer. -/
def layer (t : Fin cfg0.N) : Fin 2 := ⟨t.val, lt_of_lt_of_eq t.isLt N_0⟩

variable (t : Fin cfg0.N) (r : Fin 385) (d : Fin 1024)

/-- Where an index of a block lies in its array: the parts are whole, the rest is the point's layer. -/
theorem emb0 : ((cfg0.win 0).blk t).view.emb (ix3 (0 : Fin 1) r d) = ix3 (layer t) r d := at_layer (idx t).1 rfl rfl rfl
theorem emb1 (s : Fin 4) : ((cfg0.win 1).blk t).view.emb (ix3 s r d) = ix3 s r d := at_whole (idx t).2.1 rfl rfl rfl
theorem emb2 (s : Fin 4) : ((cfg0.win 2).blk t).view.emb (ix3 s r d) = ix3 s r d := at_whole (idx t).2.2.1 rfl rfl rfl
theorem emb3 : ((cfg0.win 3).blk t).view.emb (ix3 (0 : Fin 1) r d) = ix3 (layer t) r d := at_layer (idx t).2.2.2.1 rfl rfl rfl
theorem emb4 : ((cfg0.win 4).blk t).view.emb (ix3 (0 : Fin 1) r d) = ix3 (layer t) r d := at_layer (idx t).2.2.2.2.1 rfl rfl rfl
theorem emb5 : ((cfg0.win 5).blk t).view.emb (ix3 (0 : Fin 1) r d) = ix3 (layer t) r d := at_layer (idx t).2.2.2.2.2.1 rfl rfl rfl
theorem emb6 : ((cfg0.win 6).blk t).view.emb (ix3 (0 : Fin 1) r d) = ix3 (layer t) r d := at_layer (idx t).2.2.2.2.2.2.1 rfl rfl rfl
theorem emb7 : ((cfg0.win 7).blk t).view.emb (ix3 (0 : Fin 1) r d) = ix3 (layer t) r d := at_layer (idx t).2.2.2.2.2.2.2.1 rfl rfl rfl
theorem emb8 : ((cfg0.win 8).blk t).view.emb (ix3 (0 : Fin 1) r d) = ix3 (layer t) r d := at_layer (idx t).2.2.2.2.2.2.2.2 rfl rfl rfl

/-- The weights' block, -/
theorem w_at (c : Dev nD) : iblk m c 0 t (ix3 0 r d) = m ((c : Thread nD τ).loc main_arg0) (ix3 (layer t) r d) := congrArg (m ((c : Thread nD τ).loc main_arg0)) (emb0 t r d)

/-- the first moments', -/
theorem m_at (c : Dev nD) : iblk m c 3 t (ix3 0 r d) = m ((c : Thread nD τ).loc main_arg3) (ix3 (layer t) r d) := congrArg (m ((c : Thread nD τ).loc main_arg3)) (emb3 t r d)

/-- the second moments' -/
theorem v_at (c : Dev nD) : iblk m c 4 t (ix3 0 r d) = m ((c : Thread nD τ).loc main_arg4) (ix3 (layer t) r d) := congrArg (m ((c : Thread nD τ).loc main_arg4)) (emb4 t r d)

/-- and the parts'. -/
theorem p_eq (c : Dev nD) : iblk m c 1 t = m ((c : Thread nD τ).loc main_arg1) ∧ iblk m c 2 t = m ((c : Thread nD τ).loc main_arg2) :=
  ⟨ext_stack fun s r d => congrArg (m ((c : Thread nD τ).loc main_arg1)) (emb1 t r d s), ext_stack fun s r d => congrArg (m ((c : Thread nD τ).loc main_arg2)) (emb2 t r d s)⟩

/-- A point leaves AdamW of its layer. -/
theorem left (c : Dev nD) : outsAt0 m c t.val t.isLt = (grads (K := 1) (fun _ => parts m c (layer t)), steps (K := 1) (fun _ => parts m c (layer t)) (iblk m c 0 t) (iblk m c 3 t) (iblk m c 4 t),
    moments (K := 1) (fun _ => parts m c (layer t)) (iblk m c 3 t), squares (K := 1) (fun _ => parts m c (layer t)) (iblk m c 4 t)) := by
  have h2 : t.val < 2 := lt_of_lt_of_eq t.isLt N_0
  obtain h | h : t.val = 0 ∨ t.val = 1 := by omega
  · rw [outsAt0_A m c t (by omega) (by omega), outA, (p_eq m t c).1, show layer t = 0 from Fin.ext h]
    rfl
  · rw [outsAt0_B m c t (by omega) (by omega), outB, (p_eq m t c).2, show layer t = 1 from Fin.ext h]
    rfl

/-- What a point writes back is its layer of each result. -/
theorem flushed5_eq (c : Dev nD) : (dats m 0 c).flushed 5 t = ((cfg0.win 5).blk t).view.read (Elt Ideal) (gs m c) := by
  rw [flushed5, left]
  exact ext_layer fun r d => (congrArg (gs m c) (emb5 t r d)).symm
theorem flushed6_eq (c : Dev nD) : (dats m 0 c).flushed 6 t = ((cfg0.win 6).blk t).view.read (Elt Ideal) (ds m c) := by
  rw [flushed6, left]
  exact ext_layer fun r d => (steps_layer (w_at m t r d c) (m_at m t r d c) (v_at m t r d c)).trans (congrArg (ds m c) (emb6 t r d)).symm
theorem flushed7_eq (c : Dev nD) : (dats m 0 c).flushed 7 t = ((cfg0.win 7).blk t).view.read (Elt Ideal) (ms m c) := by
  rw [flushed7, left]
  exact ext_layer fun r d => (moments_layer (m_at m t r d c)).trans (congrArg (ms m c) (emb7 t r d)).symm
theorem flushed8_eq (c : Dev nD) : (dats m 0 c).flushed 8 t = ((cfg0.win 8).blk t).view.read (Elt Ideal) (vs m c) := by
  rw [flushed8, left]
  exact ext_layer fun r d => (squares_layer (v_at m t r d c)).trans (congrArg (vs m c) (emb8 t r d)).symm

/-- Every index of the results lies in some point's block. -/
theorem covered (i : S2x385x1024.Idx) : ∃ t : Fin cfg0.N, ((cfg0.win 5).flush t = true ∧ i ∈ ((cfg0.win 5).blk t).view.set) ∧ ((cfg0.win 6).flush t = true ∧ i ∈ ((cfg0.win 6).blk t).view.set)
    ∧ ((cfg0.win 7).flush t = true ∧ i ∈ ((cfg0.win 7).blk t).view.set) ∧ ((cfg0.win 8).flush t = true ∧ i ∈ ((cfg0.win 8).blk t).view.set) := by
  obtain ⟨l, r, d, rfl⟩ := triple i
  obtain ⟨t, rfl⟩ : ∃ t : Fin cfg0.N, layer t = l := ⟨⟨l.val, lt_of_lt_of_eq l.isLt N_0.symm⟩, rfl⟩
  exact ⟨t, ⟨flush0_5 t, emb5 t r d ▸ ((cfg0.win 5).blk t).view.emb_mem_set (ix3 0 r d)⟩, ⟨flush0_6 t, emb6 t r d ▸ ((cfg0.win 6).blk t).view.emb_mem_set (ix3 0 r d)⟩,
    ⟨flush0_7 t, emb7 t r d ▸ ((cfg0.win 7).blk t).view.emb_mem_set (ix3 0 r d)⟩, ⟨flush0_8 t, emb8 t r d ▸ ((cfg0.win 8).blk t).view.emb_mem_set (ix3 0 r d)⟩⟩

/-- The value claim: both programs end with the gradients, the steps and the new moments. -/
theorem algebraic : Cert.algebraic_AdamInKernelIdeal_AdamInReferenceIdeal := by
  intro m g m' g' _ hargs
  refine ⟨gs m, ds m, ms m, vs m, (θ_run _ _ _).mono (fun _ h c => ⟨(h c).1.trans ((dats m 0 c).arrAt_eq_of_cover 5 _ (fun t _ => flushed5_eq m t c) fun i => (covered i).imp fun _ h => h.1),
    (h c).2.1.trans ((dats m 0 c).arrAt_eq_of_cover 6 _ (fun t _ => flushed6_eq m t c) fun i => (covered i).imp fun _ h => h.2.1),
    (h c).2.2.1.trans ((dats m 0 c).arrAt_eq_of_cover 7 _ (fun t _ => flushed7_eq m t c) fun i => (covered i).imp fun _ h => h.2.2.1),
    (h c).2.2.2.1.trans ((dats m 0 c).arrAt_eq_of_cover 8 _ (fun t _ => flushed8_eq m t c) fun i => (covered i).imp fun _ h => h.2.2.2), (h c).2.2.2.2⟩) (run_blocks m g), ?_⟩
  refine (θ_run _ _ _).mono (fun r h c => ⟨(h c).1.trans ?_, (h c).2.1.trans ?_, (h c).2.2.1.trans ?_, (h c).2.2.2.1.trans ?_, (h c).2.2.2.2⟩) (Cert.AdamInReferenceIdeal.Value.run m' g')
  all_goals
    obtain ⟨h0, h1, h2, h3, h4⟩ := hargs c
    rw [h1, h2]
    try simp only [h0, h3, h4]
    dsimp only [gs, ds, ms, vs, parts]
    generalize m ((c : Thread nD τ).loc main_arg0) = w
    generalize m ((c : Thread nD τ).loc main_arg1) = p0
    generalize m ((c : Thread nD τ).loc main_arg2) = p1
    generalize m ((c : Thread nD τ).loc main_arg3) = a
    generalize m ((c : Thread nD τ).loc main_arg4) = b
    change Vec Ideal S2x385x1024 .f32 at w
    change Vec Ideal S4x385x1024 .bf16 at p0
    change Vec Ideal S4x385x1024 .bf16 at p1
    change Vec Ideal S2x385x1024 .f32 at a
    change Vec Ideal S2x385x1024 .f32 at b
    funext i
    obtain ⟨l, r, d, rfl⟩ := triple i
    obtain rfl | rfl : l = 0 ∨ l = 1 := by omega
    all_goals pointwise [grads, steps, moments, squares, step, moment, square, total]

/-- The reference leaves its arguments and its counters alone. -/
theorem frame_reference : Cert.quiescent_AdamInReferenceIdeal := fun m ρ _ =>
  (θ_run _ _ _).mono (fun r h => ⟨fun c => (h c).2.2.2.2, sem_eq_zero_of_no_sems (by decide) r.2⟩) (Cert.AdamInReferenceIdeal.Value.run m ρ)

end Cert.AdamIn
-- ==== Proof.AdamPle.lean ====
module

public import proofs.«01_k».proof.Defs
public import proofs.«01_k».proof.Proof.Adam
public import proofs.«01_k».proof.Proof.Gen.AdamPleKernelIdeal.Value
public import proofs.«01_k».proof.Proof.Gen.AdamPleReferenceIdeal.Run

/-! AdamW of two layers of 256 rows: the per-layer embedding's projection. -/

@[expose] public section
open Idealize.ShloMosaic Idealize.ShloMosaic.TcCoe Idealize.SL.Sem Cert.Adam

namespace Cert.AdamPle
open Cert.AdamPleKernelIdeal Cert.AdamPleKernelIdeal.Gen Cert.AdamPleKernelIdeal.Value

section body
variable (c : Dev nD) (i : grid0.Coords) (arg2 : Memref sig .tc .vmem S1x256x128 .f32) (harg2 : arg2.IsWhole) (arg3 : Memref sig .tc .vmem S4x256x128 .bf16) (harg3 : arg3.IsWhole) (arg4 : Memref sig .tc .vmem S4x256x128 .bf16) (harg4 : arg4.IsWhole) (arg5 : Memref sig .tc .vmem S1x256x128 .f32) (harg5 : arg5.IsWhole) (arg6 : Memref sig .tc .vmem S1x256x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole)
    (x0 : Vec Ideal S1x256x128 .f32) (x1 x2 : Vec Ideal S4x256x128 .bf16) (x3 x4 : Vec Ideal S1x256x128 .f32)

/-- What the first point leaves: AdamW of the first layer's parts, -/
theorem outA (hc0 : cond0_0 i) (hc1 : ¬cond0_1 i) :
    (out0_A_5 c i arg2 harg2 arg3 harg3 arg4 harg4 arg5 harg5 arg6 harg6 arg7 harg7 arg8 harg8 arg9 harg9 arg10 harg10 hc0 hc1 x0 x1 x2 x3 x4,
      out0_A_6 c i arg2 harg2 arg3 harg3 arg4 harg4 arg5 harg5 arg6 harg6 arg7 harg7 arg8 harg8 arg9 harg9 arg10 harg10 hc0 hc1 x0 x1 x2 x3 x4,
      out0_A_7 c i arg2 harg2 arg3 harg3 arg4 harg4 arg5 harg5 arg6 harg6 arg7 harg7 arg8 harg8 arg9 harg9 arg10 harg10 hc0 hc1 x0 x1 x2 x3 x4,
      out0_A_8 c i arg2 harg2 arg3 harg3 arg4 harg4 arg5 harg5 arg6 harg6 arg7 harg7 arg8 harg8 arg9 harg9 arg10 harg10 hc0 hc1 x0 x1 x2 x3 x4)
    = (grads (K := 1) (fun _ => x1), steps (K := 1) (fun _ => x1) x0 x3 x4, moments (K := 1) (fun _ => x1) x3, squares (K := 1) (fun _ => x1) x4) := by
  unfold out0_A_5 out0_A_6 out0_A_7 out0_A_8
  simp only [View.read_writes_junk_eq_canon]
  unfold kernelRun0_A
  dsimp only
  rw [View.canon_unit_zero origin, View.canon_unit_zero origin, View.canon_unit_zero origin, View.canon_unit_zero origin]
  unfold kernelRun0_A.sl.r kernelRun0_A.sl.r_1
  simp only [View.readAt_eq_ld, harg2.read_unread, harg3.read_unread, harg5.read_unread, harg6.read_unread]
  refine congrArg₂ Prod.mk ?_ (congrArg₂ Prod.mk ?_ (congrArg₂ Prod.mk ?_ ?_))
  all_goals
    refine ext_layer fun r d => ?_
    pointwise [k0_pay1, k0_pay2, k0_pay3, k0_pay7, k0_pay8, k0_pay9, k0_pay10, grads, steps, moments, squares, step, moment, square, total]
    simp only [Fin.sum_univ_four]

/-- and what the second one leaves: that of the second layer's. -/
theorem outB (hc0 : ¬cond0_0 i) (hc1 : cond0_1 i) :
    (out0_B_5 c i arg2 harg2 arg3 harg3 arg4 harg4 arg5 harg5 arg6 harg6 arg7 harg7 arg8 harg8 arg9 harg9 arg10 harg10 hc0 hc1 x0 x1 x2 x3 x4,
      out0_B_6 c i arg2 harg2 arg3 harg3 arg4 harg4 arg5 harg5 arg6 harg6 arg7 harg7 arg8 harg8 arg9 harg9 arg10 harg10 hc0 hc1 x0 x1 x2 x3 x4,
      out0_B_7 c i arg2 harg2 arg3 harg3 arg4 harg4 arg5 harg5 arg6 harg6 arg7 harg7 arg8 harg8 arg9 harg9 arg10 harg10 hc0 hc1 x0 x1 x2 x3 x4,
      out0_B_8 c i arg2 harg2 arg3 harg3 arg4 harg4 arg5 harg5 arg6 harg6 arg7 harg7 arg8 harg8 arg9 harg9 arg10 harg10 hc0 hc1 x0 x1 x2 x3 x4)
    = (grads (K := 1) (fun _ => x2), steps (K := 1) (fun _ => x2) x0 x3 x4, moments (K := 1) (fun _ => x2) x3, squares (K := 1) (fun _ => x2) x4) := by
  unfold out0_B_5 out0_B_6 out0_B_7 out0_B_8
  simp only [View.read_writes_junk_eq_canon]
  unfold kernelRun0_B
  dsimp only
  rw [View.canon_unit_zero origin, View.canon_unit_zero origin, View.canon_unit_zero origin, View.canon_unit_zero origin]
  unfold kernelRun0_B.sl.r kernelRun0_B.sl.r_1
  simp only [View.readAt_eq_ld, harg2.read_unread, harg4.read_unread, harg5.read_unread, harg6.read_unread]
  refine congrArg₂ Prod.mk ?_ (congrArg₂ Prod.mk ?_ (congrArg₂ Prod.mk ?_ ?_))
  all_goals
    refine ext_layer fun r d => ?_
    pointwise [k0_pay4, k0_pay5, k0_pay6, k0_pay11, k0_pay12, k0_pay13, k0_pay14, grads, steps, moments, squares, step, moment, square, total]
    simp only [Fin.sum_univ_four]

end body

variable (m : (ℓ : Loc nD τ sig) → Buf (Elt Ideal) ℓ)

/-- The two layers' parts. -/
noncomputable abbrev parts (c : Dev nD) : Fin 2 → Vec Ideal S4x256x128 .bf16 := ![m ((c : Thread nD τ).loc main_arg1), m ((c : Thread nD τ).loc main_arg2)]

/-- The layers' gradients, -/
noncomputable abbrev gs (c : Dev nD) : Vec Ideal S2x256x128 .f32 := grads (parts m c)

/-- the steps of their weights, -/
noncomputable abbrev ds (c : Dev nD) : Vec Ideal S2x256x128 .f32 :=
  steps (parts m c) (m ((c : Thread nD τ).loc main_arg0)) (m ((c : Thread nD τ).loc main_arg3)) (m ((c : Thread nD τ).loc main_arg4))

/-- their new first moments -/
noncomputable abbrev ms (c : Dev nD) : Vec Ideal S2x256x128 .f32 := moments (parts m c) (m ((c : Thread nD τ).loc main_arg3))

/-- and their new second ones. -/
noncomputable abbrev vs (c : Dev nD) : Vec Ideal S2x256x128 .f32 := squares (parts m c) (m ((c : Thread nD τ).loc main_arg4))

/-- The block indices at each point: the layer moves, the parts stay. -/
theorem idx : ∀ t : Fin cfg0.N, (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- A point's layer. -/
def layer (t : Fin cfg0.N) : Fin 2 := ⟨t.val, lt_of_lt_of_eq t.isLt N_0⟩

variable (t : Fin cfg0.N) (r : Fin 256) (d : Fin 128)

/-- Where an index of a block lies in its array: the parts are whole, the rest is the point's layer. -/
theorem emb0 : ((cfg0.win 0).blk t).view.emb (ix3 (0 : Fin 1) r d) = ix3 (layer t) r d := at_layer (idx t).1 rfl rfl rfl
theorem emb1 (s : Fin 4) : ((cfg0.win 1).blk t).view.emb (ix3 s r d) = ix3 s r d := at_whole (idx t).2.1 rfl rfl rfl
theorem emb2 (s : Fin 4) : ((cfg0.win 2).blk t).view.emb (ix3 s r d) = ix3 s r d := at_whole (idx t).2.2.1 rfl rfl rfl
theorem emb3 : ((cfg0.win 3).blk t).view.emb (ix3 (0 : Fin 1) r d) = ix3 (layer t) r d := at_layer (idx t).2.2.2.1 rfl rfl rfl
theorem emb4 : ((cfg0.win 4).blk t).view.emb (ix3 (0 : Fin 1) r d) = ix3 (layer t) r d := at_layer (idx t).2.2.2.2.1 rfl rfl rfl
theorem emb5 : ((cfg0.win 5).blk t).view.emb (ix3 (0 : Fin 1) r d) = ix3 (layer t) r d := at_layer (idx t).2.2.2.2.2.1 rfl rfl rfl
theorem emb6 : ((cfg0.win 6).blk t).view.emb (ix3 (0 : Fin 1) r d) = ix3 (layer t) r d := at_layer (idx t).2.2.2.2.2.2.1 rfl rfl rfl
theorem emb7 : ((cfg0.win 7).blk t).view.emb (ix3 (0 : Fin 1) r d) = ix3 (layer t) r d := at_layer (idx t).2.2.2.2.2.2.2.1 rfl rfl rfl
theorem emb8 : ((cfg0.win 8).blk t).view.emb (ix3 (0 : Fin 1) r d) = ix3 (layer t) r d := at_layer (idx t).2.2.2.2.2.2.2.2 rfl rfl rfl

/-- The weights' block, -/
theorem w_at (c : Dev nD) : iblk m c 0 t (ix3 0 r d) = m ((c : Thread nD τ).loc main_arg0) (ix3 (layer t) r d) := congrArg (m ((c : Thread nD τ).loc main_arg0)) (emb0 t r d)

/-- the first moments', -/
theorem m_at (c : Dev nD) : iblk m c 3 t (ix3 0 r d) = m ((c : Thread nD τ).loc main_arg3) (ix3 (layer t) r d) := congrArg (m ((c : Thread nD τ).loc main_arg3)) (emb3 t r d)

/-- the second moments' -/
theorem v_at (c : Dev nD) : iblk m c 4 t (ix3 0 r d) = m ((c : Thread nD τ).loc main_arg4) (ix3 (layer t) r d) := congrArg (m ((c : Thread nD τ).loc main_arg4)) (emb4 t r d)

/-- and the parts'. -/
theorem p_eq (c : Dev nD) : iblk m c 1 t = m ((c : Thread nD τ).loc main_arg1) ∧ iblk m c 2 t = m ((c : Thread nD τ).loc main_arg2) :=
  ⟨ext_stack fun s r d => congrArg (m ((c : Thread nD τ).loc main_arg1)) (emb1 t r d s), ext_stack fun s r d => congrArg (m ((c : Thread nD τ).loc main_arg2)) (emb2 t r d s)⟩

/-- A point leaves AdamW of its layer. -/
theorem left (c : Dev nD) : outsAt0 m c t.val t.isLt = (grads (K := 1) (fun _ => parts m c (layer t)), steps (K := 1) (fun _ => parts m c (layer t)) (iblk m c 0 t) (iblk m c 3 t) (iblk m c 4 t),
    moments (K := 1) (fun _ => parts m c (layer t)) (iblk m c 3 t), squares (K := 1) (fun _ => parts m c (layer t)) (iblk m c 4 t)) := by
  have h2 : t.val < 2 := lt_of_lt_of_eq t.isLt N_0
  obtain h | h : t.val = 0 ∨ t.val = 1 := by omega
  · rw [outsAt0_A m c t (by omega) (by omega), outA, (p_eq m t c).1, show layer t = 0 from Fin.ext h]
    rfl
  · rw [outsAt0_B m c t (by omega) (by omega), outB, (p_eq m t c).2, show layer t = 1 from Fin.ext h]
    rfl

/-- What a point writes back is its layer of each result. -/
theorem flushed5_eq (c : Dev nD) : (dats m 0 c).flushed 5 t = ((cfg0.win 5).blk t).view.read (Elt Ideal) (gs m c) := by
  rw [flushed5, left]
  exact ext_layer fun r d => (congrArg (gs m c) (emb5 t r d)).symm
theorem flushed6_eq (c : Dev nD) : (dats m 0 c).flushed 6 t = ((cfg0.win 6).blk t).view.read (Elt Ideal) (ds m c) := by
  rw [flushed6, left]
  exact ext_layer fun r d => (steps_layer (w_at m t r d c) (m_at m t r d c) (v_at m t r d c)).trans (congrArg (ds m c) (emb6 t r d)).symm
theorem flushed7_eq (c : Dev nD) : (dats m 0 c).flushed 7 t = ((cfg0.win 7).blk t).view.read (Elt Ideal) (ms m c) := by
  rw [flushed7, left]
  exact ext_layer fun r d => (moments_layer (m_at m t r d c)).trans (congrArg (ms m c) (emb7 t r d)).symm
theorem flushed8_eq (c : Dev nD) : (dats m 0 c).flushed 8 t = ((cfg0.win 8).blk t).view.read (Elt Ideal) (vs m c) := by
  rw [flushed8, left]
  exact ext_layer fun r d => (squares_layer (v_at m t r d c)).trans (congrArg (vs m c) (emb8 t r d)).symm

/-- Every index of the results lies in some point's block. -/
theorem covered (i : S2x256x128.Idx) : ∃ t : Fin cfg0.N, ((cfg0.win 5).flush t = true ∧ i ∈ ((cfg0.win 5).blk t).view.set) ∧ ((cfg0.win 6).flush t = true ∧ i ∈ ((cfg0.win 6).blk t).view.set)
    ∧ ((cfg0.win 7).flush t = true ∧ i ∈ ((cfg0.win 7).blk t).view.set) ∧ ((cfg0.win 8).flush t = true ∧ i ∈ ((cfg0.win 8).blk t).view.set) := by
  obtain ⟨l, r, d, rfl⟩ := triple i
  obtain ⟨t, rfl⟩ : ∃ t : Fin cfg0.N, layer t = l := ⟨⟨l.val, lt_of_lt_of_eq l.isLt N_0.symm⟩, rfl⟩
  exact ⟨t, ⟨flush0_5 t, emb5 t r d ▸ ((cfg0.win 5).blk t).view.emb_mem_set (ix3 0 r d)⟩, ⟨flush0_6 t, emb6 t r d ▸ ((cfg0.win 6).blk t).view.emb_mem_set (ix3 0 r d)⟩,
    ⟨flush0_7 t, emb7 t r d ▸ ((cfg0.win 7).blk t).view.emb_mem_set (ix3 0 r d)⟩, ⟨flush0_8 t, emb8 t r d ▸ ((cfg0.win 8).blk t).view.emb_mem_set (ix3 0 r d)⟩⟩

/-- The value claim: both programs end with the gradients, the steps and the new moments. -/
theorem algebraic : Cert.algebraic_AdamPleKernelIdeal_AdamPleReferenceIdeal := by
  intro m g m' g' _ hargs
  refine ⟨gs m, ds m, ms m, vs m, (θ_run _ _ _).mono (fun _ h c => ⟨(h c).1.trans ((dats m 0 c).arrAt_eq_of_cover 5 _ (fun t _ => flushed5_eq m t c) fun i => (covered i).imp fun _ h => h.1),
    (h c).2.1.trans ((dats m 0 c).arrAt_eq_of_cover 6 _ (fun t _ => flushed6_eq m t c) fun i => (covered i).imp fun _ h => h.2.1),
    (h c).2.2.1.trans ((dats m 0 c).arrAt_eq_of_cover 7 _ (fun t _ => flushed7_eq m t c) fun i => (covered i).imp fun _ h => h.2.2.1),
    (h c).2.2.2.1.trans ((dats m 0 c).arrAt_eq_of_cover 8 _ (fun t _ => flushed8_eq m t c) fun i => (covered i).imp fun _ h => h.2.2.2), (h c).2.2.2.2⟩) (run_blocks m g), ?_⟩
  refine (θ_run _ _ _).mono (fun r h c => ⟨(h c).1.trans ?_, (h c).2.1.trans ?_, (h c).2.2.1.trans ?_, (h c).2.2.2.1.trans ?_, (h c).2.2.2.2⟩) (Cert.AdamPleReferenceIdeal.Value.run m' g')
  all_goals
    obtain ⟨h0, h1, h2, h3, h4⟩ := hargs c
    rw [h1, h2]
    try simp only [h0, h3, h4]
    dsimp only [gs, ds, ms, vs, parts]
    generalize m ((c : Thread nD τ).loc main_arg0) = w
    generalize m ((c : Thread nD τ).loc main_arg1) = p0
    generalize m ((c : Thread nD τ).loc main_arg2) = p1
    generalize m ((c : Thread nD τ).loc main_arg3) = a
    generalize m ((c : Thread nD τ).loc main_arg4) = b
    change Vec Ideal S2x256x128 .f32 at w
    change Vec Ideal S4x256x128 .bf16 at p0
    change Vec Ideal S4x256x128 .bf16 at p1
    change Vec Ideal S2x256x128 .f32 at a
    change Vec Ideal S2x256x128 .f32 at b
    funext i
    obtain ⟨l, r, d, rfl⟩ := triple i
    obtain rfl | rfl : l = 0 ∨ l = 1 := by omega
    all_goals pointwise [grads, steps, moments, squares, step, moment, square, total]

/-- The reference leaves its arguments and its counters alone. -/
theorem frame_reference : Cert.quiescent_AdamPleReferenceIdeal := fun m ρ _ =>
  (θ_run _ _ _).mono (fun r h => ⟨fun c => (h c).2.2.2.2, sem_eq_zero_of_no_sems (by decide) r.2⟩) (Cert.AdamPleReferenceIdeal.Value.run m ρ)

end Cert.AdamPle
-- ==== Proof.AdamConv.lean ====
module

public import proofs.«01_k».proof.Defs
public import proofs.«01_k».proof.Proof.Adam
public import proofs.«01_k».proof.Proof.Gen.AdamConvKernelIdeal.Value
public import proofs.«01_k».proof.Proof.Gen.AdamConvReferenceIdeal.Run

/-! AdamW of two layers of 4 rows: the convolution's weights. -/

@[expose] public section
open Idealize.ShloMosaic Idealize.ShloMosaic.TcCoe Idealize.SL.Sem Cert.Adam

namespace Cert.AdamConv
open Cert.AdamConvKernelIdeal Cert.AdamConvKernelIdeal.Gen Cert.AdamConvKernelIdeal.Value

section body
variable (c : Dev nD) (i : grid0.Coords) (arg2 : Memref sig .tc .vmem S1x4x192 .f32) (harg2 : arg2.IsWhole) (arg3 : Memref sig .tc .vmem S4x4x192 .f32) (harg3 : arg3.IsWhole) (arg4 : Memref sig .tc .vmem S4x4x192 .f32) (harg4 : arg4.IsWhole) (arg5 : Memref sig .tc .vmem S1x4x192 .f32) (harg5 : arg5.IsWhole) (arg6 : Memref sig .tc .vmem S1x4x192 .f32) (harg6 : arg6.IsWhole) (arg7 : Memref sig .tc .vmem S1x4x192 .f32) (harg7 : arg7.IsWhole) (arg8 : Memref sig .tc .vmem S1x4x192 .f32) (harg8 : arg8.IsWhole) (arg9 : Memref sig .tc .vmem S1x4x192 .f32) (harg9 : arg9.IsWhole) (arg10 : Memref sig .tc .vmem S1x4x192 .f32) (harg10 : arg10.IsWhole)
    (x0 : Vec Ideal S1x4x192 .f32) (x1 x2 : Vec Ideal S4x4x192 .f32) (x3 x4 : Vec Ideal S1x4x192 .f32)

/-- What the first point leaves: AdamW of the first layer's parts, -/
theorem outA (hc0 : cond0_0 i) (hc1 : ¬cond0_1 i) :
    (out0_A_5 c i arg2 harg2 arg3 harg3 arg4 harg4 arg5 harg5 arg6 harg6 arg7 harg7 arg8 harg8 arg9 harg9 arg10 harg10 hc0 hc1 x0 x1 x2 x3 x4,
      out0_A_6 c i arg2 harg2 arg3 harg3 arg4 harg4 arg5 harg5 arg6 harg6 arg7 harg7 arg8 harg8 arg9 harg9 arg10 harg10 hc0 hc1 x0 x1 x2 x3 x4,
      out0_A_7 c i arg2 harg2 arg3 harg3 arg4 harg4 arg5 harg5 arg6 harg6 arg7 harg7 arg8 harg8 arg9 harg9 arg10 harg10 hc0 hc1 x0 x1 x2 x3 x4,
      out0_A_8 c i arg2 harg2 arg3 harg3 arg4 harg4 arg5 harg5 arg6 harg6 arg7 harg7 arg8 harg8 arg9 harg9 arg10 harg10 hc0 hc1 x0 x1 x2 x3 x4)
    = (grads (K := 1) (fun _ => x1), steps (K := 1) (fun _ => x1) x0 x3 x4, moments (K := 1) (fun _ => x1) x3, squares (K := 1) (fun _ => x1) x4) := by
  unfold out0_A_5 out0_A_6 out0_A_7 out0_A_8
  simp only [View.read_writes_junk_eq_canon]
  unfold kernelRun0_A
  dsimp only
  rw [View.canon_unit_zero origin, View.canon_unit_zero origin, View.canon_unit_zero origin, View.canon_unit_zero origin]
  unfold kernelRun0_A.sl.r kernelRun0_A.sl.r_1
  simp only [View.readAt_eq_ld, harg2.read_unread, harg3.read_unread, harg5.read_unread, harg6.read_unread]
  refine congrArg₂ Prod.mk ?_ (congrArg₂ Prod.mk ?_ (congrArg₂ Prod.mk ?_ ?_))
  all_goals
    refine ext_layer fun r d => ?_
    pointwise [k0_pay1, k0_pay2, k0_pay3, k0_pay7, k0_pay8, k0_pay9, k0_pay10, grads, steps, moments, squares, step, moment, square, total]
    simp only [Fin.sum_univ_four]

/-- and what the second one leaves: that of the second layer's. -/
theorem outB (hc0 : ¬cond0_0 i) (hc1 : cond0_1 i) :
    (out0_B_5 c i arg2 harg2 arg3 harg3 arg4 harg4 arg5 harg5 arg6 harg6 arg7 harg7 arg8 harg8 arg9 harg9 arg10 harg10 hc0 hc1 x0 x1 x2 x3 x4,
      out0_B_6 c i arg2 harg2 arg3 harg3 arg4 harg4 arg5 harg5 arg6 harg6 arg7 harg7 arg8 harg8 arg9 harg9 arg10 harg10 hc0 hc1 x0 x1 x2 x3 x4,
      out0_B_7 c i arg2 harg2 arg3 harg3 arg4 harg4 arg5 harg5 arg6 harg6 arg7 harg7 arg8 harg8 arg9 harg9 arg10 harg10 hc0 hc1 x0 x1 x2 x3 x4,
      out0_B_8 c i arg2 harg2 arg3 harg3 arg4 harg4 arg5 harg5 arg6 harg6 arg7 harg7 arg8 harg8 arg9 harg9 arg10 harg10 hc0 hc1 x0 x1 x2 x3 x4)
    = (grads (K := 1) (fun _ => x2), steps (K := 1) (fun _ => x2) x0 x3 x4, moments (K := 1) (fun _ => x2) x3, squares (K := 1) (fun _ => x2) x4) := by
  unfold out0_B_5 out0_B_6 out0_B_7 out0_B_8
  simp only [View.read_writes_junk_eq_canon]
  unfold kernelRun0_B
  dsimp only
  rw [View.canon_unit_zero origin, View.canon_unit_zero origin, View.canon_unit_zero origin, View.canon_unit_zero origin]
  unfold kernelRun0_B.sl.r kernelRun0_B.sl.r_1
  simp only [View.readAt_eq_ld, harg2.read_unread, harg4.read_unread, harg5.read_unread, harg6.read_unread]
  refine congrArg₂ Prod.mk ?_ (congrArg₂ Prod.mk ?_ (congrArg₂ Prod.mk ?_ ?_))
  all_goals
    refine ext_layer fun r d => ?_
    pointwise [k0_pay4, k0_pay5, k0_pay6, k0_pay11, k0_pay12, k0_pay13, k0_pay14, grads, steps, moments, squares, step, moment, square, total]
    simp only [Fin.sum_univ_four]

end body

variable (m : (ℓ : Loc nD τ sig) → Buf (Elt Ideal) ℓ)

/-- The two layers' parts. -/
noncomputable abbrev parts (c : Dev nD) : Fin 2 → Vec Ideal S4x4x192 .f32 := ![m ((c : Thread nD τ).loc main_arg1), m ((c : Thread nD τ).loc main_arg2)]

/-- The layers' gradients, -/
noncomputable abbrev gs (c : Dev nD) : Vec Ideal S2x4x192 .f32 := grads (parts m c)

/-- the steps of their weights, -/
noncomputable abbrev ds (c : Dev nD) : Vec Ideal S2x4x192 .f32 :=
  steps (parts m c) (m ((c : Thread nD τ).loc main_arg0)) (m ((c : Thread nD τ).loc main_arg3)) (m ((c : Thread nD τ).loc main_arg4))

/-- their new first moments -/
noncomputable abbrev ms (c : Dev nD) : Vec Ideal S2x4x192 .f32 := moments (parts m c) (m ((c : Thread nD τ).loc main_arg3))

/-- and their new second ones. -/
noncomputable abbrev vs (c : Dev nD) : Vec Ideal S2x4x192 .f32 := squares (parts m c) (m ((c : Thread nD τ).loc main_arg4))

/-- The block indices at each point: the layer moves, the parts stay. -/
theorem idx : ∀ t : Fin cfg0.N, (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- A point's layer. -/
def layer (t : Fin cfg0.N) : Fin 2 := ⟨t.val, lt_of_lt_of_eq t.isLt N_0⟩

variable (t : Fin cfg0.N) (r : Fin 4) (d : Fin 192)

/-- Where an index of a block lies in its array: the parts are whole, the rest is the point's layer. -/
theorem emb0 : ((cfg0.win 0).blk t).view.emb (ix3 (0 : Fin 1) r d) = ix3 (layer t) r d := at_layer (idx t).1 rfl rfl rfl
theorem emb1 (s : Fin 4) : ((cfg0.win 1).blk t).view.emb (ix3 s r d) = ix3 s r d := at_whole (idx t).2.1 rfl rfl rfl
theorem emb2 (s : Fin 4) : ((cfg0.win 2).blk t).view.emb (ix3 s r d) = ix3 s r d := at_whole (idx t).2.2.1 rfl rfl rfl
theorem emb3 : ((cfg0.win 3).blk t).view.emb (ix3 (0 : Fin 1) r d) = ix3 (layer t) r d := at_layer (idx t).2.2.2.1 rfl rfl rfl
theorem emb4 : ((cfg0.win 4).blk t).view.emb (ix3 (0 : Fin 1) r d) = ix3 (layer t) r d := at_layer (idx t).2.2.2.2.1 rfl rfl rfl
theorem emb5 : ((cfg0.win 5).blk t).view.emb (ix3 (0 : Fin 1) r d) = ix3 (layer t) r d := at_layer (idx t).2.2.2.2.2.1 rfl rfl rfl
theorem emb6 : ((cfg0.win 6).blk t).view.emb (ix3 (0 : Fin 1) r d) = ix3 (layer t) r d := at_layer (idx t).2.2.2.2.2.2.1 rfl rfl rfl
theorem emb7 : ((cfg0.win 7).blk t).view.emb (ix3 (0 : Fin 1) r d) = ix3 (layer t) r d := at_layer (idx t).2.2.2.2.2.2.2.1 rfl rfl rfl
theorem emb8 : ((cfg0.win 8).blk t).view.emb (ix3 (0 : Fin 1) r d) = ix3 (layer t) r d := at_layer (idx t).2.2.2.2.2.2.2.2 rfl rfl rfl

/-- The weights' block, -/
theorem w_at (c : Dev nD) : iblk m c 0 t (ix3 0 r d) = m ((c : Thread nD τ).loc main_arg0) (ix3 (layer t) r d) := congrArg (m ((c : Thread nD τ).loc main_arg0)) (emb0 t r d)

/-- the first moments', -/
theorem m_at (c : Dev nD) : iblk m c 3 t (ix3 0 r d) = m ((c : Thread nD τ).loc main_arg3) (ix3 (layer t) r d) := congrArg (m ((c : Thread nD τ).loc main_arg3)) (emb3 t r d)

/-- the second moments' -/
theorem v_at (c : Dev nD) : iblk m c 4 t (ix3 0 r d) = m ((c : Thread nD τ).loc main_arg4) (ix3 (layer t) r d) := congrArg (m ((c : Thread nD τ).loc main_arg4)) (emb4 t r d)

/-- and the parts'. -/
theorem p_eq (c : Dev nD) : iblk m c 1 t = m ((c : Thread nD τ).loc main_arg1) ∧ iblk m c 2 t = m ((c : Thread nD τ).loc main_arg2) :=
  ⟨ext_stack fun s r d => congrArg (m ((c : Thread nD τ).loc main_arg1)) (emb1 t r d s), ext_stack fun s r d => congrArg (m ((c : Thread nD τ).loc main_arg2)) (emb2 t r d s)⟩

/-- A point leaves AdamW of its layer. -/
theorem left (c : Dev nD) : outsAt0 m c t.val t.isLt = (grads (K := 1) (fun _ => parts m c (layer t)), steps (K := 1) (fun _ => parts m c (layer t)) (iblk m c 0 t) (iblk m c 3 t) (iblk m c 4 t),
    moments (K := 1) (fun _ => parts m c (layer t)) (iblk m c 3 t), squares (K := 1) (fun _ => parts m c (layer t)) (iblk m c 4 t)) := by
  have h2 : t.val < 2 := lt_of_lt_of_eq t.isLt N_0
  obtain h | h : t.val = 0 ∨ t.val = 1 := by omega
  · rw [outsAt0_A m c t (by omega) (by omega), outA, (p_eq m t c).1, show layer t = 0 from Fin.ext h]
    rfl
  · rw [outsAt0_B m c t (by omega) (by omega), outB, (p_eq m t c).2, show layer t = 1 from Fin.ext h]
    rfl

/-- What a point writes back is its layer of each result. -/
theorem flushed5_eq (c : Dev nD) : (dats m 0 c).flushed 5 t = ((cfg0.win 5).blk t).view.read (Elt Ideal) (gs m c) := by
  rw [flushed5, left]
  exact ext_layer fun r d => (congrArg (gs m c) (emb5 t r d)).symm
theorem flushed6_eq (c : Dev nD) : (dats m 0 c).flushed 6 t = ((cfg0.win 6).blk t).view.read (Elt Ideal) (ds m c) := by
  rw [flushed6, left]
  exact ext_layer fun r d => (steps_layer (w_at m t r d c) (m_at m t r d c) (v_at m t r d c)).trans (congrArg (ds m c) (emb6 t r d)).symm
theorem flushed7_eq (c : Dev nD) : (dats m 0 c).flushed 7 t = ((cfg0.win 7).blk t).view.read (Elt Ideal) (ms m c) := by
  rw [flushed7, left]
  exact ext_layer fun r d => (moments_layer (m_at m t r d c)).trans (congrArg (ms m c) (emb7 t r d)).symm
theorem flushed8_eq (c : Dev nD) : (dats m 0 c).flushed 8 t = ((cfg0.win 8).blk t).view.read (Elt Ideal) (vs m c) := by
  rw [flushed8, left]
  exact ext_layer fun r d => (squares_layer (v_at m t r d c)).trans (congrArg (vs m c) (emb8 t r d)).symm

/-- Every index of the results lies in some point's block. -/
theorem covered (i : S2x4x192.Idx) : ∃ t : Fin cfg0.N, ((cfg0.win 5).flush t = true ∧ i ∈ ((cfg0.win 5).blk t).view.set) ∧ ((cfg0.win 6).flush t = true ∧ i ∈ ((cfg0.win 6).blk t).view.set)
    ∧ ((cfg0.win 7).flush t = true ∧ i ∈ ((cfg0.win 7).blk t).view.set) ∧ ((cfg0.win 8).flush t = true ∧ i ∈ ((cfg0.win 8).blk t).view.set) := by
  obtain ⟨l, r, d, rfl⟩ := triple i
  obtain ⟨t, rfl⟩ : ∃ t : Fin cfg0.N, layer t = l := ⟨⟨l.val, lt_of_lt_of_eq l.isLt N_0.symm⟩, rfl⟩
  exact ⟨t, ⟨flush0_5 t, emb5 t r d ▸ ((cfg0.win 5).blk t).view.emb_mem_set (ix3 0 r d)⟩, ⟨flush0_6 t, emb6 t r d ▸ ((cfg0.win 6).blk t).view.emb_mem_set (ix3 0 r d)⟩,
    ⟨flush0_7 t, emb7 t r d ▸ ((cfg0.win 7).blk t).view.emb_mem_set (ix3 0 r d)⟩, ⟨flush0_8 t, emb8 t r d ▸ ((cfg0.win 8).blk t).view.emb_mem_set (ix3 0 r d)⟩⟩

/-- The value claim: both programs end with the gradients, the steps and the new moments. -/
theorem algebraic : Cert.algebraic_AdamConvKernelIdeal_AdamConvReferenceIdeal := by
  intro m g m' g' _ hargs
  refine ⟨gs m, ds m, ms m, vs m, (θ_run _ _ _).mono (fun _ h c => ⟨(h c).1.trans ((dats m 0 c).arrAt_eq_of_cover 5 _ (fun t _ => flushed5_eq m t c) fun i => (covered i).imp fun _ h => h.1),
    (h c).2.1.trans ((dats m 0 c).arrAt_eq_of_cover 6 _ (fun t _ => flushed6_eq m t c) fun i => (covered i).imp fun _ h => h.2.1),
    (h c).2.2.1.trans ((dats m 0 c).arrAt_eq_of_cover 7 _ (fun t _ => flushed7_eq m t c) fun i => (covered i).imp fun _ h => h.2.2.1),
    (h c).2.2.2.1.trans ((dats m 0 c).arrAt_eq_of_cover 8 _ (fun t _ => flushed8_eq m t c) fun i => (covered i).imp fun _ h => h.2.2.2), (h c).2.2.2.2⟩) (run_blocks m g), ?_⟩
  refine (θ_run _ _ _).mono (fun r h c => ⟨(h c).1.trans ?_, (h c).2.1.trans ?_, (h c).2.2.1.trans ?_, (h c).2.2.2.1.trans ?_, (h c).2.2.2.2⟩) (Cert.AdamConvReferenceIdeal.Value.run m' g')
  all_goals
    obtain ⟨h0, h1, h2, h3, h4⟩ := hargs c
    rw [h1, h2]
    try simp only [h0, h3, h4]
    dsimp only [gs, ds, ms, vs, parts]
    generalize m ((c : Thread nD τ).loc main_arg0) = w
    generalize m ((c : Thread nD τ).loc main_arg1) = p0
    generalize m ((c : Thread nD τ).loc main_arg2) = p1
    generalize m ((c : Thread nD τ).loc main_arg3) = a
    generalize m ((c : Thread nD τ).loc main_arg4) = b
    change Vec Ideal S2x4x192 .f32 at w
    change Vec Ideal S4x4x192 .f32 at p0
    change Vec Ideal S4x4x192 .f32 at p1
    change Vec Ideal S2x4x192 .f32 at a
    change Vec Ideal S2x4x192 .f32 at b
    funext i
    obtain ⟨l, r, d, rfl⟩ := triple i
    obtain rfl | rfl : l = 0 ∨ l = 1 := by omega
    all_goals pointwise [grads, steps, moments, squares, step, moment, square, total]

/-- The reference leaves its arguments and its counters alone. -/
theorem frame_reference : Cert.quiescent_AdamConvReferenceIdeal := fun m ρ _ =>
  (θ_run _ _ _).mono (fun r h => ⟨fun c => (h c).2.2.2.2, sem_eq_zero_of_no_sems (by decide) r.2⟩) (Cert.AdamConvReferenceIdeal.Value.run m ρ)

end Cert.AdamConv
-- ==== Proof.AdamSconv.lean ====
module

public import proofs.«01_k».proof.Defs
public import proofs.«01_k».proof.Proof.Adam
public import proofs.«01_k».proof.Proof.Gen.AdamSconvKernelIdeal.Value
public import proofs.«01_k».proof.Proof.Gen.AdamSconvReferenceIdeal.Run

/-! AdamW of two layers of 3 rows: the short convolution's weights. -/

@[expose] public section
open Idealize.ShloMosaic Idealize.ShloMosaic.TcCoe Idealize.SL.Sem Cert.Adam

namespace Cert.AdamSconv
open Cert.AdamSconvKernelIdeal Cert.AdamSconvKernelIdeal.Gen Cert.AdamSconvKernelIdeal.Value

section body
variable (c : Dev nD) (i : grid0.Coords) (arg2 : Memref sig .tc .vmem S1x3x32 .f32) (harg2 : arg2.IsWhole) (arg3 : Memref sig .tc .vmem S4x3x32 .f32) (harg3 : arg3.IsWhole) (arg4 : Memref sig .tc .vmem S4x3x32 .f32) (harg4 : arg4.IsWhole) (arg5 : Memref sig .tc .vmem S1x3x32 .f32) (harg5 : arg5.IsWhole) (arg6 : Memref sig .tc .vmem S1x3x32 .f32) (harg6 : arg6.IsWhole) (arg7 : Memref sig .tc .vmem S1x3x32 .f32) (harg7 : arg7.IsWhole) (arg8 : Memref sig .tc .vmem S1x3x32 .f32) (harg8 : arg8.IsWhole) (arg9 : Memref sig .tc .vmem S1x3x32 .f32) (harg9 : arg9.IsWhole) (arg10 : Memref sig .tc .vmem S1x3x32 .f32) (harg10 : arg10.IsWhole)
    (x0 : Vec Ideal S1x3x32 .f32) (x1 x2 : Vec Ideal S4x3x32 .f32) (x3 x4 : Vec Ideal S1x3x32 .f32)

/-- What the first point leaves: AdamW of the first layer's parts, -/
theorem outA (hc0 : cond0_0 i) (hc1 : ¬cond0_1 i) :
    (out0_A_5 c i arg2 harg2 arg3 harg3 arg4 harg4 arg5 harg5 arg6 harg6 arg7 harg7 arg8 harg8 arg9 harg9 arg10 harg10 hc0 hc1 x0 x1 x2 x3 x4,
      out0_A_6 c i arg2 harg2 arg3 harg3 arg4 harg4 arg5 harg5 arg6 harg6 arg7 harg7 arg8 harg8 arg9 harg9 arg10 harg10 hc0 hc1 x0 x1 x2 x3 x4,
      out0_A_7 c i arg2 harg2 arg3 harg3 arg4 harg4 arg5 harg5 arg6 harg6 arg7 harg7 arg8 harg8 arg9 harg9 arg10 harg10 hc0 hc1 x0 x1 x2 x3 x4,
      out0_A_8 c i arg2 harg2 arg3 harg3 arg4 harg4 arg5 harg5 arg6 harg6 arg7 harg7 arg8 harg8 arg9 harg9 arg10 harg10 hc0 hc1 x0 x1 x2 x3 x4)
    = (grads (K := 1) (fun _ => x1), steps (K := 1) (fun _ => x1) x0 x3 x4, moments (K := 1) (fun _ => x1) x3, squares (K := 1) (fun _ => x1) x4) := by
  unfold out0_A_5 out0_A_6 out0_A_7 out0_A_8
  simp only [View.read_writes_junk_eq_canon]
  unfold kernelRun0_A
  dsimp only
  rw [View.canon_unit_zero origin, View.canon_unit_zero origin, View.canon_unit_zero origin, View.canon_unit_zero origin]
  unfold kernelRun0_A.sl.r kernelRun0_A.sl.r_1
  simp only [View.readAt_eq_ld, harg2.read_unread, harg3.read_unread, harg5.read_unread, harg6.read_unread]
  refine congrArg₂ Prod.mk ?_ (congrArg₂ Prod.mk ?_ (congrArg₂ Prod.mk ?_ ?_))
  all_goals
    refine ext_layer fun r d => ?_
    pointwise [k0_pay1, k0_pay2, k0_pay3, k0_pay7, k0_pay8, k0_pay9, k0_pay10, grads, steps, moments, squares, step, moment, square, total]
    simp only [Fin.sum_univ_four]

/-- and what the second one leaves: that of the second layer's. -/
theorem outB (hc0 : ¬cond0_0 i) (hc1 : cond0_1 i) :
    (out0_B_5 c i arg2 harg2 arg3 harg3 arg4 harg4 arg5 harg5 arg6 harg6 arg7 harg7 arg8 harg8 arg9 harg9 arg10 harg10 hc0 hc1 x0 x1 x2 x3 x4,
      out0_B_6 c i arg2 harg2 arg3 harg3 arg4 harg4 arg5 harg5 arg6 harg6 arg7 harg7 arg8 harg8 arg9 harg9 arg10 harg10 hc0 hc1 x0 x1 x2 x3 x4,
      out0_B_7 c i arg2 harg2 arg3 harg3 arg4 harg4 arg5 harg5 arg6 harg6 arg7 harg7 arg8 harg8 arg9 harg9 arg10 harg10 hc0 hc1 x0 x1 x2 x3 x4,
      out0_B_8 c i arg2 harg2 arg3 harg3 arg4 harg4 arg5 harg5 arg6 harg6 arg7 harg7 arg8 harg8 arg9 harg9 arg10 harg10 hc0 hc1 x0 x1 x2 x3 x4)
    = (grads (K := 1) (fun _ => x2), steps (K := 1) (fun _ => x2) x0 x3 x4, moments (K := 1) (fun _ => x2) x3, squares (K := 1) (fun _ => x2) x4) := by
  unfold out0_B_5 out0_B_6 out0_B_7 out0_B_8
  simp only [View.read_writes_junk_eq_canon]
  unfold kernelRun0_B
  dsimp only
  rw [View.canon_unit_zero origin, View.canon_unit_zero origin, View.canon_unit_zero origin, View.canon_unit_zero origin]
  unfold kernelRun0_B.sl.r kernelRun0_B.sl.r_1
  simp only [View.readAt_eq_ld, harg2.read_unread, harg4.read_unread, harg5.read_unread, harg6.read_unread]
  refine congrArg₂ Prod.mk ?_ (congrArg₂ Prod.mk ?_ (congrArg₂ Prod.mk ?_ ?_))
  all_goals
    refine ext_layer fun r d => ?_
    pointwise [k0_pay4, k0_pay5, k0_pay6, k0_pay11, k0_pay12, k0_pay13, k0_pay14, grads, steps, moments, squares, step, moment, square, total]
    simp only [Fin.sum_univ_four]

end body

variable (m : (ℓ : Loc nD τ sig) → Buf (Elt Ideal) ℓ)

/-- The two layers' parts. -/
noncomputable abbrev parts (c : Dev nD) : Fin 2 → Vec Ideal S4x3x32 .f32 := ![m ((c : Thread nD τ).loc main_arg1), m ((c : Thread nD τ).loc main_arg2)]

/-- The layers' gradients, -/
noncomputable abbrev gs (c : Dev nD) : Vec Ideal S2x3x32 .f32 := grads (parts m c)

/-- the steps of their weights, -/
noncomputable abbrev ds (c : Dev nD) : Vec Ideal S2x3x32 .f32 :=
  steps (parts m c) (m ((c : Thread nD τ).loc main_arg0)) (m ((c : Thread nD τ).loc main_arg3)) (m ((c : Thread nD τ).loc main_arg4))

/-- their new first moments -/
noncomputable abbrev ms (c : Dev nD) : Vec Ideal S2x3x32 .f32 := moments (parts m c) (m ((c : Thread nD τ).loc main_arg3))

/-- and their new second ones. -/
noncomputable abbrev vs (c : Dev nD) : Vec Ideal S2x3x32 .f32 := squares (parts m c) (m ((c : Thread nD τ).loc main_arg4))

/-- The block indices at each point: the layer moves, the parts stay. -/
theorem idx : ∀ t : Fin cfg0.N, (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- A point's layer. -/
def layer (t : Fin cfg0.N) : Fin 2 := ⟨t.val, lt_of_lt_of_eq t.isLt N_0⟩

variable (t : Fin cfg0.N) (r : Fin 3) (d : Fin 32)

/-- Where an index of a block lies in its array: the parts are whole, the rest is the point's layer. -/
theorem emb0 : ((cfg0.win 0).blk t).view.emb (ix3 (0 : Fin 1) r d) = ix3 (layer t) r d := at_layer (idx t).1 rfl rfl rfl
theorem emb1 (s : Fin 4) : ((cfg0.win 1).blk t).view.emb (ix3 s r d) = ix3 s r d := at_whole (idx t).2.1 rfl rfl rfl
theorem emb2 (s : Fin 4) : ((cfg0.win 2).blk t).view.emb (ix3 s r d) = ix3 s r d := at_whole (idx t).2.2.1 rfl rfl rfl
theorem emb3 : ((cfg0.win 3).blk t).view.emb (ix3 (0 : Fin 1) r d) = ix3 (layer t) r d := at_layer (idx t).2.2.2.1 rfl rfl rfl
theorem emb4 : ((cfg0.win 4).blk t).view.emb (ix3 (0 : Fin 1) r d) = ix3 (layer t) r d := at_layer (idx t).2.2.2.2.1 rfl rfl rfl
theorem emb5 : ((cfg0.win 5).blk t).view.emb (ix3 (0 : Fin 1) r d) = ix3 (layer t) r d := at_layer (idx t).2.2.2.2.2.1 rfl rfl rfl
theorem emb6 : ((cfg0.win 6).blk t).view.emb (ix3 (0 : Fin 1) r d) = ix3 (layer t) r d := at_layer (idx t).2.2.2.2.2.2.1 rfl rfl rfl
theorem emb7 : ((cfg0.win 7).blk t).view.emb (ix3 (0 : Fin 1) r d) = ix3 (layer t) r d := at_layer (idx t).2.2.2.2.2.2.2.1 rfl rfl rfl
theorem emb8 : ((cfg0.win 8).blk t).view.emb (ix3 (0 : Fin 1) r d) = ix3 (layer t) r d := at_layer (idx t).2.2.2.2.2.2.2.2 rfl rfl rfl

/-- The weights' block, -/
theorem w_at (c : Dev nD) : iblk m c 0 t (ix3 0 r d) = m ((c : Thread nD τ).loc main_arg0) (ix3 (layer t) r d) := congrArg (m ((c : Thread nD τ).loc main_arg0)) (emb0 t r d)

/-- the first moments', -/
theorem m_at (c : Dev nD) : iblk m c 3 t (ix3 0 r d) = m ((c : Thread nD τ).loc main_arg3) (ix3 (layer t) r d) := congrArg (m ((c : Thread nD τ).loc main_arg3)) (emb3 t r d)

/-- the second moments' -/
theorem v_at (c : Dev nD) : iblk m c 4 t (ix3 0 r d) = m ((c : Thread nD τ).loc main_arg4) (ix3 (layer t) r d) := congrArg (m ((c : Thread nD τ).loc main_arg4)) (emb4 t r d)

/-- and the parts'. -/
theorem p_eq (c : Dev nD) : iblk m c 1 t = m ((c : Thread nD τ).loc main_arg1) ∧ iblk m c 2 t = m ((c : Thread nD τ).loc main_arg2) :=
  ⟨ext_stack fun s r d => congrArg (m ((c : Thread nD τ).loc main_arg1)) (emb1 t r d s), ext_stack fun s r d => congrArg (m ((c : Thread nD τ).loc main_arg2)) (emb2 t r d s)⟩

/-- A point leaves AdamW of its layer. -/
theorem left (c : Dev nD) : outsAt0 m c t.val t.isLt = (grads (K := 1) (fun _ => parts m c (layer t)), steps (K := 1) (fun _ => parts m c (layer t)) (iblk m c 0 t) (iblk m c 3 t) (iblk m c 4 t),
    moments (K := 1) (fun _ => parts m c (layer t)) (iblk m c 3 t), squares (K := 1) (fun _ => parts m c (layer t)) (iblk m c 4 t)) := by
  have h2 : t.val < 2 := lt_of_lt_of_eq t.isLt N_0
  obtain h | h : t.val = 0 ∨ t.val = 1 := by omega
  · rw [outsAt0_A m c t (by omega) (by omega), outA, (p_eq m t c).1, show layer t = 0 from Fin.ext h]
    rfl
  · rw [outsAt0_B m c t (by omega) (by omega), outB, (p_eq m t c).2, show layer t = 1 from Fin.ext h]
    rfl

/-- What a point writes back is its layer of each result. -/
theorem flushed5_eq (c : Dev nD) : (dats m 0 c).flushed 5 t = ((cfg0.win 5).blk t).view.read (Elt Ideal) (gs m c) := by
  rw [flushed5, left]
  exact ext_layer fun r d => (congrArg (gs m c) (emb5 t r d)).symm
theorem flushed6_eq (c : Dev nD) : (dats m 0 c).flushed 6 t = ((cfg0.win 6).blk t).view.read (Elt Ideal) (ds m c) := by
  rw [flushed6, left]
  exact ext_layer fun r d => (steps_layer (w_at m t r d c) (m_at m t r d c) (v_at m t r d c)).trans (congrArg (ds m c) (emb6 t r d)).symm
theorem flushed7_eq (c : Dev nD) : (dats m 0 c).flushed 7 t = ((cfg0.win 7).blk t).view.read (Elt Ideal) (ms m c) := by
  rw [flushed7, left]
  exact ext_layer fun r d => (moments_layer (m_at m t r d c)).trans (congrArg (ms m c) (emb7 t r d)).symm
theorem flushed8_eq (c : Dev nD) : (dats m 0 c).flushed 8 t = ((cfg0.win 8).blk t).view.read (Elt Ideal) (vs m c) := by
  rw [flushed8, left]
  exact ext_layer fun r d => (squares_layer (v_at m t r d c)).trans (congrArg (vs m c) (emb8 t r d)).symm

/-- Every index of the results lies in some point's block. -/
theorem covered (i : S2x3x32.Idx) : ∃ t : Fin cfg0.N, ((cfg0.win 5).flush t = true ∧ i ∈ ((cfg0.win 5).blk t).view.set) ∧ ((cfg0.win 6).flush t = true ∧ i ∈ ((cfg0.win 6).blk t).view.set)
    ∧ ((cfg0.win 7).flush t = true ∧ i ∈ ((cfg0.win 7).blk t).view.set) ∧ ((cfg0.win 8).flush t = true ∧ i ∈ ((cfg0.win 8).blk t).view.set) := by
  obtain ⟨l, r, d, rfl⟩ := triple i
  obtain ⟨t, rfl⟩ : ∃ t : Fin cfg0.N, layer t = l := ⟨⟨l.val, lt_of_lt_of_eq l.isLt N_0.symm⟩, rfl⟩
  exact ⟨t, ⟨flush0_5 t, emb5 t r d ▸ ((cfg0.win 5).blk t).view.emb_mem_set (ix3 0 r d)⟩, ⟨flush0_6 t, emb6 t r d ▸ ((cfg0.win 6).blk t).view.emb_mem_set (ix3 0 r d)⟩,
    ⟨flush0_7 t, emb7 t r d ▸ ((cfg0.win 7).blk t).view.emb_mem_set (ix3 0 r d)⟩, ⟨flush0_8 t, emb8 t r d ▸ ((cfg0.win 8).blk t).view.emb_mem_set (ix3 0 r d)⟩⟩

/-- The value claim: both programs end with the gradients, the steps and the new moments. -/
theorem algebraic : Cert.algebraic_AdamSconvKernelIdeal_AdamSconvReferenceIdeal := by
  intro m g m' g' _ hargs
  refine ⟨gs m, ds m, ms m, vs m, (θ_run _ _ _).mono (fun _ h c => ⟨(h c).1.trans ((dats m 0 c).arrAt_eq_of_cover 5 _ (fun t _ => flushed5_eq m t c) fun i => (covered i).imp fun _ h => h.1),
    (h c).2.1.trans ((dats m 0 c).arrAt_eq_of_cover 6 _ (fun t _ => flushed6_eq m t c) fun i => (covered i).imp fun _ h => h.2.1),
    (h c).2.2.1.trans ((dats m 0 c).arrAt_eq_of_cover 7 _ (fun t _ => flushed7_eq m t c) fun i => (covered i).imp fun _ h => h.2.2.1),
    (h c).2.2.2.1.trans ((dats m 0 c).arrAt_eq_of_cover 8 _ (fun t _ => flushed8_eq m t c) fun i => (covered i).imp fun _ h => h.2.2.2), (h c).2.2.2.2⟩) (run_blocks m g), ?_⟩
  refine (θ_run _ _ _).mono (fun r h c => ⟨(h c).1.trans ?_, (h c).2.1.trans ?_, (h c).2.2.1.trans ?_, (h c).2.2.2.1.trans ?_, (h c).2.2.2.2⟩) (Cert.AdamSconvReferenceIdeal.Value.run m' g')
  all_goals
    obtain ⟨h0, h1, h2, h3, h4⟩ := hargs c
    rw [h1, h2]
    try simp only [h0, h3, h4]
    dsimp only [gs, ds, ms, vs, parts]
    generalize m ((c : Thread nD τ).loc main_arg0) = w
    generalize m ((c : Thread nD τ).loc main_arg1) = p0
    generalize m ((c : Thread nD τ).loc main_arg2) = p1
    generalize m ((c : Thread nD τ).loc main_arg3) = a
    generalize m ((c : Thread nD τ).loc main_arg4) = b
    change Vec Ideal S2x3x32 .f32 at w
    change Vec Ideal S4x3x32 .f32 at p0
    change Vec Ideal S4x3x32 .f32 at p1
    change Vec Ideal S2x3x32 .f32 at a
    change Vec Ideal S2x3x32 .f32 at b
    funext i
    obtain ⟨l, r, d, rfl⟩ := triple i
    obtain rfl | rfl : l = 0 ∨ l = 1 := by omega
    all_goals pointwise [grads, steps, moments, squares, step, moment, square, total]

/-- The reference leaves its arguments and its counters alone. -/
theorem frame_reference : Cert.quiescent_AdamSconvReferenceIdeal := fun m ρ _ =>
  (θ_run _ _ _).mono (fun r h => ⟨fun c => (h c).2.2.2.2, sem_eq_zero_of_no_sems (by decide) r.2⟩) (Cert.AdamSconvReferenceIdeal.Value.run m ρ)

end Cert.AdamSconv
-- ==== Proof.AdamSmall.lean ====
module

public import proofs.«01_k».proof.Defs
public import proofs.«01_k».proof.Proof.Adam
public import proofs.«01_k».proof.Proof.Gen.AdamSmallKernelIdeal.Value
public import proofs.«01_k».proof.Proof.Gen.AdamSmallReferenceIdeal.Run

/-! AdamW of the slab that packs the small weights, with the loss beside them. -/

@[expose] public section
open Idealize.ShloMosaic Idealize.ShloMosaic.TcCoe Idealize.SL.Sem Cert.Adam

namespace Cert.AdamSmall
open Cert.AdamSmallKernelIdeal Cert.AdamSmallKernelIdeal.Gen Cert.AdamSmallKernelIdeal.Value

section body
variable (c : Dev nD) (i : grid0.Coords) (arg2 : Memref sig .tc .vmem S1x96x1024 .f32) (harg2 : arg2.IsWhole) (arg3 : Memref sig .tc .vmem S8x96x1024 .f32) (harg3 : arg3.IsWhole) (arg4 : Memref sig .tc .vmem S1x96x1024 .f32) (harg4 : arg4.IsWhole) (arg5 : Memref sig .tc .vmem S1x96x1024 .f32) (harg5 : arg5.IsWhole) (arg6 : Memref sig .tc .vmem S1x96x1024 .f32) (harg6 : arg6.IsWhole) (arg7 : Memref sig .tc .vmem S1x96x1024 .f32) (harg7 : arg7.IsWhole) (arg8 : Memref sig .tc .vmem S1x96x1024 .f32) (harg8 : arg8.IsWhole) (arg9 : Memref sig .tc .vmem S1x96x1024 .f32) (harg9 : arg9.IsWhole)
    (x0 : Vec Ideal S1x96x1024 .f32) (x1 : Vec Ideal S8x96x1024 .f32) (x2 x3 : Vec Ideal S1x96x1024 .f32)

/-- What the one point leaves: AdamW of the slabs. -/
theorem outA (hc0 : cond0_0 i) :
    (out0_A_4 c i arg2 harg2 arg3 harg3 arg4 harg4 arg5 harg5 arg6 harg6 arg7 harg7 arg8 harg8 arg9 harg9 hc0 x0 x1 x2 x3,
      out0_A_5 c i arg2 harg2 arg3 harg3 arg4 harg4 arg5 harg5 arg6 harg6 arg7 harg7 arg8 harg8 arg9 harg9 hc0 x0 x1 x2 x3,
      out0_A_6 c i arg2 harg2 arg3 harg3 arg4 harg4 arg5 harg5 arg6 harg6 arg7 harg7 arg8 harg8 arg9 harg9 hc0 x0 x1 x2 x3,
      out0_A_7 c i arg2 harg2 arg3 harg3 arg4 harg4 arg5 harg5 arg6 harg6 arg7 harg7 arg8 harg8 arg9 harg9 hc0 x0 x1 x2 x3)
    = (grads (K := 1) (fun _ => x1), steps (K := 1) (fun _ => x1) x0 x2 x3, moments (K := 1) (fun _ => x1) x2, squares (K := 1) (fun _ => x1) x3) := by
  unfold out0_A_4 out0_A_5 out0_A_6 out0_A_7
  simp only [View.read_writes_junk_eq_canon]
  unfold kernelRun0_A
  dsimp only
  rw [View.canon_unit_zero origin, View.canon_unit_zero origin, View.canon_unit_zero origin, View.canon_unit_zero origin]
  unfold kernelRun0_A.sl.r_2 kernelRun0_A.sl.r_1 kernelRun0_A.sl.r
  simp only [View.readAt_eq_ld, harg2.read_unread, harg3.read_unread, harg4.read_unread, harg5.read_unread]
  refine congrArg₂ Prod.mk ?_ (congrArg₂ Prod.mk ?_ (congrArg₂ Prod.mk ?_ ?_))
  all_goals
    funext j
    obtain ⟨l, r, d, rfl⟩ := triple j
    obtain rfl : l = 0 := Subsingleton.elim _ _
    pointwise [k0_pay1, k0_pay2, k0_pay3, k0_pay4, k0_pay5, k0_pay6, k0_pay7, k0_pay8, grads, steps, moments, squares, step, moment, square, total]
    simp only [Fin.sum_univ_eight]

end body

variable (m : (ℓ : Loc nD τ sig) → Buf (Elt Ideal) ℓ)

/-- The slab's gradient, with the loss, -/
noncomputable abbrev gs (c : Dev nD) : Vec Ideal S1x96x1024 .f32 := grads (K := 1) (fun _ => m ((c : Thread nD τ).loc main_arg1))

/-- the steps of its weights, -/
noncomputable abbrev ds (c : Dev nD) : Vec Ideal S1x96x1024 .f32 :=
  steps (K := 1) (fun _ => m ((c : Thread nD τ).loc main_arg1)) (m ((c : Thread nD τ).loc main_arg0)) (m ((c : Thread nD τ).loc main_arg2)) (m ((c : Thread nD τ).loc main_arg3))

/-- their new first moments -/
noncomputable abbrev ms (c : Dev nD) : Vec Ideal S1x96x1024 .f32 := moments (K := 1) (fun _ => m ((c : Thread nD τ).loc main_arg1)) (m ((c : Thread nD τ).loc main_arg2))

/-- and their new second ones. -/
noncomputable abbrev vs (c : Dev nD) : Vec Ideal S1x96x1024 .f32 := squares (K := 1) (fun _ => m ((c : Thread nD τ).loc main_arg1)) (m ((c : Thread nD τ).loc main_arg3))

/-- The block indices at the one point are zero. -/
theorem idx : ∀ t : Fin cfg0.N, (win0_0.index t (0 : Fin 3) = 0 ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0) :=
  (by decide +kernel : ∀ t : Fin grid0.N, _)

variable (t : Fin cfg0.N) (s : Fin 1) (r : Fin 96) (d : Fin 1024)

/-- Every block is its whole array. -/
theorem emb0 : ((cfg0.win 0).blk t).view.emb (ix3 s r d) = ix3 s r d := at_whole (idx t).1 rfl rfl rfl
theorem emb1 (s : Fin 8) : ((cfg0.win 1).blk t).view.emb (ix3 s r d) = ix3 s r d := at_whole (idx t).2.1 rfl rfl rfl
theorem emb2 : ((cfg0.win 2).blk t).view.emb (ix3 s r d) = ix3 s r d := at_whole (idx t).2.2.1 rfl rfl rfl
theorem emb3 : ((cfg0.win 3).blk t).view.emb (ix3 s r d) = ix3 s r d := at_whole (idx t).2.2.2.1 rfl rfl rfl
theorem emb4 : ((cfg0.win 4).blk t).view.emb (ix3 s r d) = ix3 s r d := at_whole (idx t).2.2.2.2.1 rfl rfl rfl
theorem emb5 : ((cfg0.win 5).blk t).view.emb (ix3 s r d) = ix3 s r d := at_whole (idx t).2.2.2.2.2.1 rfl rfl rfl
theorem emb6 : ((cfg0.win 6).blk t).view.emb (ix3 s r d) = ix3 s r d := at_whole (idx t).2.2.2.2.2.2.1 rfl rfl rfl
theorem emb7 : ((cfg0.win 7).blk t).view.emb (ix3 s r d) = ix3 s r d := at_whole (idx t).2.2.2.2.2.2.2 rfl rfl rfl

/-- The blocks that come in are the arguments. -/
theorem blocks_eq (c : Dev nD) : iblk m c 0 t = m ((c : Thread nD τ).loc main_arg0) ∧ iblk m c 1 t = m ((c : Thread nD τ).loc main_arg1)
    ∧ iblk m c 2 t = m ((c : Thread nD τ).loc main_arg2) ∧ iblk m c 3 t = m ((c : Thread nD τ).loc main_arg3) := by
  refine ⟨?_, ?_, ?_, ?_⟩ <;> funext j <;> obtain ⟨s, r, d, rfl⟩ := triple j
  · exact congrArg (m ((c : Thread nD τ).loc main_arg0)) (emb0 t s r d)
  · exact congrArg (m ((c : Thread nD τ).loc main_arg1)) (emb1 t r d s)
  · exact congrArg (m ((c : Thread nD τ).loc main_arg2)) (emb2 t s r d)
  · exact congrArg (m ((c : Thread nD τ).loc main_arg3)) (emb3 t s r d)

/-- The point leaves AdamW of the slabs. -/
theorem left (c : Dev nD) : outsAt0 m c t = (gs m c, ds m c, ms m c, vs m c) := by
  obtain ⟨e0, e1, e2, e3⟩ := blocks_eq m t c
  unfold outsAt0
  rw [outA, e0, e1, e2, e3]

/-- What it writes back is each result. -/
theorem flushed4_eq (c : Dev nD) : (dats m 0 c).flushed 4 t = ((cfg0.win 4).blk t).view.read (Elt Ideal) (gs m c) := by
  rw [flushed4, left]
  funext j
  obtain ⟨l, r, d, rfl⟩ := triple j
  exact (congrArg (gs m c) (emb4 t l r d)).symm
theorem flushed5_eq (c : Dev nD) : (dats m 0 c).flushed 5 t = ((cfg0.win 5).blk t).view.read (Elt Ideal) (ds m c) := by
  rw [flushed5, left]
  funext j
  obtain ⟨l, r, d, rfl⟩ := triple j
  exact (congrArg (ds m c) (emb5 t l r d)).symm
theorem flushed6_eq (c : Dev nD) : (dats m 0 c).flushed 6 t = ((cfg0.win 6).blk t).view.read (Elt Ideal) (ms m c) := by
  rw [flushed6, left]
  funext j
  obtain ⟨l, r, d, rfl⟩ := triple j
  exact (congrArg (ms m c) (emb6 t l r d)).symm
theorem flushed7_eq (c : Dev nD) : (dats m 0 c).flushed 7 t = ((cfg0.win 7).blk t).view.read (Elt Ideal) (vs m c) := by
  rw [flushed7, left]
  funext j
  obtain ⟨l, r, d, rfl⟩ := triple j
  exact (congrArg (vs m c) (emb7 t l r d)).symm

/-- Every index of the results lies in the point's block. -/
theorem covered (i : S1x96x1024.Idx) : ∃ t : Fin cfg0.N, ((cfg0.win 4).flush t = true ∧ i ∈ ((cfg0.win 4).blk t).view.set) ∧ ((cfg0.win 5).flush t = true ∧ i ∈ ((cfg0.win 5).blk t).view.set)
    ∧ ((cfg0.win 6).flush t = true ∧ i ∈ ((cfg0.win 6).blk t).view.set) ∧ ((cfg0.win 7).flush t = true ∧ i ∈ ((cfg0.win 7).blk t).view.set) := by
  obtain ⟨l, r, d, rfl⟩ := triple i
  let t : Fin cfg0.N := ⟨0, lt_of_lt_of_eq (by decide : 0 < 1) N_0.symm⟩
  exact ⟨t, ⟨flush0_4 t, emb4 t l r d ▸ ((cfg0.win 4).blk t).view.emb_mem_set (ix3 l r d)⟩, ⟨flush0_5 t, emb5 t l r d ▸ ((cfg0.win 5).blk t).view.emb_mem_set (ix3 l r d)⟩,
    ⟨flush0_6 t, emb6 t l r d ▸ ((cfg0.win 6).blk t).view.emb_mem_set (ix3 l r d)⟩, ⟨flush0_7 t, emb7 t l r d ▸ ((cfg0.win 7).blk t).view.emb_mem_set (ix3 l r d)⟩⟩

/-- The value claim: both programs end with the gradient, the steps and the new moments. -/
theorem algebraic : Cert.algebraic_AdamSmallKernelIdeal_AdamSmallReferenceIdeal := by
  intro m g m' g' _ hargs
  refine ⟨gs m, ds m, ms m, vs m, (θ_run _ _ _).mono (fun _ h c => ⟨(h c).1.trans ((dats m 0 c).arrAt_eq_of_cover 4 _ (fun t _ => flushed4_eq m t c) fun i => (covered i).imp fun _ h => h.1),
    (h c).2.1.trans ((dats m 0 c).arrAt_eq_of_cover 5 _ (fun t _ => flushed5_eq m t c) fun i => (covered i).imp fun _ h => h.2.1),
    (h c).2.2.1.trans ((dats m 0 c).arrAt_eq_of_cover 6 _ (fun t _ => flushed6_eq m t c) fun i => (covered i).imp fun _ h => h.2.2.1),
    (h c).2.2.2.1.trans ((dats m 0 c).arrAt_eq_of_cover 7 _ (fun t _ => flushed7_eq m t c) fun i => (covered i).imp fun _ h => h.2.2.2), (h c).2.2.2.2⟩) (run_blocks m g), ?_⟩
  refine (θ_run _ _ _).mono (fun r h c => ⟨(h c).1.trans ?_, (h c).2.1.trans ?_, (h c).2.2.1.trans ?_, (h c).2.2.2.1.trans ?_, (h c).2.2.2.2⟩) (Cert.AdamSmallReferenceIdeal.Value.run m' g')
  all_goals
    obtain ⟨h0, h1, h2, h3⟩ := hargs c
    simp only [h0, h1, h2, h3]
    dsimp only [gs, ds, ms, vs]
    generalize m ((c : Thread nD τ).loc main_arg0) = w
    generalize m ((c : Thread nD τ).loc main_arg1) = p
    generalize m ((c : Thread nD τ).loc main_arg2) = a
    generalize m ((c : Thread nD τ).loc main_arg3) = b
    change Vec Ideal S1x96x1024 .f32 at w
    change Vec Ideal S8x96x1024 .f32 at p
    change Vec Ideal S1x96x1024 .f32 at a
    change Vec Ideal S1x96x1024 .f32 at b
    funext i
    obtain ⟨l, r, d, rfl⟩ := triple i
    obtain rfl : l = 0 := Subsingleton.elim _ _
    pointwise [grads, steps, moments, squares, step, moment, square, total]

/-- The reference leaves its arguments and its counters alone. -/
theorem frame_reference : Cert.quiescent_AdamSmallReferenceIdeal := fun m ρ _ =>
  (θ_run _ _ _).mono (fun r h => ⟨fun c => (h c).2.2.2.2, sem_eq_zero_of_no_sems (by decide) r.2⟩) (Cert.AdamSmallReferenceIdeal.Value.run m ρ)

end Cert.AdamSmall
-- ==== Proof.Out.lean ====
module

public import proofs.«01_k».proof.Defs
public import proofs.«01_k».proof.Proof.Product
public import proofs.«01_k».proof.Proof.Gen.OutKernelIdeal.Value
public import proofs.«01_k».proof.Proof.Gen.OutReferenceIdeal.Run

/-! The output projection: the product of the mixed rows with the weights, added to the residual. -/

@[expose] public section
open Idealize.ShloMosaic Idealize.ShloMosaic.TcCoe Idealize.SL.Sem Cert.Product

namespace Cert.Out
open Cert.OutKernelIdeal Cert.OutKernelIdeal.Gen Cert.OutKernelIdeal.Value

variable (m : (ℓ : Loc nD τ sig) → Buf (Elt Ideal) ℓ)

/-- The projection of `a` by `b`, added to the residual `x`; `R` rows. -/
noncomputable def proj {R : ℕ} (a : (⟨2, ![R, 1024]⟩ : Shape).Idx → EReal) (b : Vec Ideal S1024x1024 .bf16) (x : (⟨2, ![R, 1024]⟩ : Shape).Idx → EReal) :
    (⟨2, ![R, 1024]⟩ : Shape).Idx → EReal :=
  fun i => nn a b i + x i

/-- The result the arguments have. -/
noncomputable abbrev res (c : Dev nD) : Vec Ideal S2048x1024 .f32 :=
  proj (m ((c : Thread nD τ).loc main_arg0)) (m ((c : Thread nD τ).loc main_arg1)) (m ((c : Thread nD τ).loc main_arg2))

/-- The block indices at each point: the rows move, the weights stay. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- The rows are two blocks of 1024. -/
theorem rows : cfg0.N * 1024 = 2048 := by rw [show cfg0.N = 2 from N_0]

variable (t : Fin cfg0.N) (r d : Fin 1024)

/-- Where an index of a block lies in its array: the weights are whole, the rest is the point's rows. -/
theorem emb0 : ((cfg0.win 0).blk t).view.emb (ix2 r d) = ix2 (rowAt rows t r) d := at_rows rows (idx t).1 rfl rfl
theorem emb1 : ((cfg0.win 1).blk t).view.emb (ix2 r d) = ix2 r d := at_whole (idx t).2.1 rfl rfl
theorem emb2 : ((cfg0.win 2).blk t).view.emb (ix2 r d) = ix2 (rowAt rows t r) d := at_rows rows (idx t).2.2.1 rfl rfl
theorem emb3 : ((cfg0.win 3).blk t).view.emb (ix2 r d) = ix2 (rowAt rows t r) d := at_rows rows (idx t).2.2.2 rfl rfl

/-- The body's two stores together are the projection of the block's rows. -/
theorem out_eq (x : Vec Ideal S1024x1024 .bf16) (w : Vec Ideal S1024x1024 .bf16) (y : Vec Ideal S1024x1024 .f32) : out0_3 x w y = proj x w y := by
  funext j
  unfold out0_3
  refine View.canon_apply_of_pieces (Val := Elt Ideal) (proj x w y) _ ?_ j (cover0_3 _ _ j)
  intro p hp i
  show p.2 i = proj x w y (p.1.idx i)
  simp only [List.mem_cons, List.not_mem_nil, or_false] at hp
  obtain rfl | rfl := hp
  all_goals
    obtain ⟨r, d, rfl⟩ := pair i
    pointwise [k0_pay1, k0_pay2, proj, nn]

/-- What a point writes back is its rows of the result. -/
theorem flushed_eq (c : Dev nD) : (dats m 0 c).flushed 3 t = ((cfg0.win 3).blk t).view.read (Elt Ideal) (res m c) := by
  rw [flushed3]
  funext j
  obtain ⟨r, d, rfl⟩ := pair j
  show out0_3 _ _ _ (ix2 r d) = res m c (((cfg0.win 3).blk t).view.emb (ix2 r d))
  rw [out_eq, emb3]
  exact congrArg₂ (fun x y : EReal => x + y)
    (sum_mul_congr (fun k => congrArg (m ((c : Thread nD τ).loc main_arg0)) (emb0 t r k)) (fun k => congrArg (m ((c : Thread nD τ).loc main_arg1)) (emb1 t k d)))
    (congrArg (m ((c : Thread nD τ).loc main_arg2)) (emb2 t r d))

/-- Every index of the result lies in some point's block. -/
theorem covered (i : S2048x1024.Idx) : ∃ t : Fin cfg0.N, (cfg0.win 3).flush t = true ∧ i ∈ ((cfg0.win 3).blk t).view.set := by
  obtain ⟨r, d, rfl⟩ := pair i
  obtain ⟨t, q, rfl⟩ := exists_rowAt rows r
  exact ⟨t, flush0_3 t, emb3 t q d ▸ ((cfg0.win 3).blk t).view.emb_mem_set (ix2 q d)⟩

/-- The value claim: both programs end with the projection added to the residual. -/
theorem algebraic : Cert.algebraic_OutKernelIdeal_OutReferenceIdeal := by
  intro m g m' g' _ hargs
  refine ⟨res m, (θ_run _ _ _).mono (fun _ h c => ⟨(h c).1.trans ((dats m 0 c).arrAt_eq_of_cover 3 _ (fun t _ => flushed_eq m t c) covered), (h c).2⟩) (run_blocks m g), ?_⟩
  refine (θ_run _ _ _).mono (fun r h c => ⟨(h c).1.trans ?_, (h c).2⟩) (Cert.OutReferenceIdeal.Value.run m' g')
  obtain ⟨h0, h1, h2⟩ := hargs c
  rw [h0, h1, h2]
  unfold res
  generalize m ((c : Thread nD τ).loc main_arg0) = a
  generalize m ((c : Thread nD τ).loc main_arg1) = b
  generalize m ((c : Thread nD τ).loc main_arg2) = x
  change Vec Ideal S2048x1024 .bf16 at a
  change Vec Ideal S1024x1024 .bf16 at b
  change Vec Ideal S2048x1024 .f32 at x
  funext i
  obtain ⟨r, d, rfl⟩ := pair i
  refine Eq.trans ?_ (add_comm (x (ix2 r d) : EReal) (nn a b (ix2 r d)))
  pointwise [nn]

/-- The reference leaves its arguments and its counters alone. -/
theorem frame_reference : Cert.quiescent_OutReferenceIdeal := fun m ρ _ =>
  (θ_run _ _ _).mono (fun r h => ⟨fun c => (h c).2, sem_eq_zero_of_no_sems (by decide) r.2⟩) (Cert.OutReferenceIdeal.Value.run m ρ)

end Cert.Out
-- ==== Proof.OutGrad.lean ====
module

public import proofs.«01_k».proof.Defs
public import proofs.«01_k».proof.Proof.Product
public import proofs.«01_k».proof.Proof.Gen.OutGradKernelIdeal.Value
public import proofs.«01_k».proof.Proof.Gen.OutGradReferenceIdeal.Run

/-! The gradient of the output projection's weights: the product of the projected rows, transposed, with the result's gradient. -/

@[expose] public section
open Idealize.ShloMosaic Idealize.ShloMosaic.TcCoe Idealize.SL.Sem Cert.Product

namespace Cert.OutGrad
open Cert.OutGradKernelIdeal Cert.OutGradKernelIdeal.Gen

/-- The kernel's one block is the whole product. -/
theorem pay_eq (a : Vec Ideal S2048x1024 .bf16) (b : Vec Ideal S2048x1024 .f32) : k0_pay1 a b = tn a b := by
  funext i
  obtain ⟨r, d, rfl⟩ := pair i
  pointwise [k0_pay1, tn]

/-- The value claim: both programs end with the gradient. -/
theorem algebraic : Cert.algebraic_OutGradKernelIdeal_OutGradReferenceIdeal := by
  intro m g m' g' _ hargs
  refine ⟨fun c => tn (m ((c : Thread nD τ).loc main_arg0)) (m ((c : Thread nD τ).loc main_arg1)),
    (θ_run _ _ _).mono (fun _ h c => ⟨(h c).1.trans (pay_eq _ _), (h c).2⟩) (Cert.OutGradKernelIdeal.Value.run m g), ?_⟩
  refine (θ_run _ _ _).mono (fun r h c => ⟨(h c).1.trans ?_, (h c).2⟩) (Cert.OutGradReferenceIdeal.Value.run m' g')
  obtain ⟨h0, h1⟩ := hargs c
  rw [h0, h1]
  beta_reduce
  generalize m ((c : Thread nD τ).loc main_arg0) = a
  generalize m ((c : Thread nD τ).loc main_arg1) = b
  change Vec Ideal S2048x1024 .bf16 at a
  change Vec Ideal S2048x1024 .f32 at b
  funext i
  obtain ⟨r, d, rfl⟩ := pair i
  change _ = ∑ k : Fin 2048, (a (ix2 k r) : EReal) * b (ix2 k d)
  refine Eq.trans ?_ (Finset.sum_congr rfl fun k _ => mul_comm (b (ix2 k d) : EReal) (a (ix2 k r) : EReal))
  pointwise

/-- The reference leaves its arguments and its counters alone. -/
theorem frame_reference : Cert.quiescent_OutGradReferenceIdeal := fun m ρ _ =>
  (θ_run _ _ _).mono (fun r h => ⟨fun c => (h c).2, sem_eq_zero_of_no_sems (by decide) r.2⟩) (Cert.OutGradReferenceIdeal.Value.run m ρ)

end Cert.OutGrad
-- ==== Proof.MixedGrad.lean ====
module

public import proofs.«01_k».proof.Defs
public import proofs.«01_k».proof.Proof.Product
public import proofs.«01_k».proof.Proof.Gen.MixedGradKernelIdeal.Value
public import proofs.«01_k».proof.Proof.Gen.MixedGradReferenceIdeal.Run

/-! The gradient of the output projection's operand: the product of the result's gradient with the weights, transposed. -/

@[expose] public section
open Idealize.ShloMosaic Idealize.ShloMosaic.TcCoe Idealize.SL.Sem Cert.Product

namespace Cert.MixedGrad
open Cert.MixedGradKernelIdeal Cert.MixedGradKernelIdeal.Gen Cert.MixedGradKernelIdeal.Value

variable (m : (ℓ : Loc nD τ sig) → Buf (Elt Ideal) ℓ)

/-- The gradient the arguments have. -/
noncomputable abbrev grad (c : Dev nD) : Vec Ideal S2048x1024 .f32 := nt (m ((c : Thread nD τ).loc main_arg0)) (m ((c : Thread nD τ).loc main_arg1))

/-- The block indices at each point: the rows move, the weights stay. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0) :=
  (by decide +kernel : ∀ t : Fin grid0.N, _)

/-- The rows are two blocks of 1024. -/
theorem rows : cfg0.N * 1024 = 2048 := by rw [show cfg0.N = 2 from N_0]

variable (t : Fin cfg0.N) (r d : Fin 1024)

/-- Where an index of a block lies in its array: the weights are whole, the rest is the point's rows. -/
theorem emb0 : ((cfg0.win 0).blk t).view.emb (ix2 r d) = ix2 (rowAt rows t r) d := at_rows rows (idx t).1 rfl rfl
theorem emb1 : ((cfg0.win 1).blk t).view.emb (ix2 r d) = ix2 r d := at_whole (idx t).2.1 rfl rfl
theorem emb2 : ((cfg0.win 2).blk t).view.emb (ix2 r d) = ix2 (rowAt rows t r) d := at_rows rows (idx t).2.2 rfl rfl

/-- The body's two stores together are the product of the block's rows. -/
theorem out_eq (x : Vec Ideal S1024x1024 .f32) (w : Vec Ideal S1024x1024 .bf16) : out0_2 x w = nt x w := by
  funext j
  unfold out0_2
  refine View.canon_apply_of_pieces (Val := Elt Ideal) (nt x w) _ ?_ j (cover0_2 _ _ j)
  intro p hp i
  show p.2 i = nt x w (p.1.idx i)
  simp only [List.mem_cons, List.not_mem_nil, or_false] at hp
  obtain rfl | rfl := hp
  all_goals
    obtain ⟨r, d, rfl⟩ := pair i
    pointwise [k0_pay1, k0_pay2, k0_pay3, nt]

/-- What a point writes back is its rows of the gradient. -/
theorem flushed_eq (c : Dev nD) : (dats m 0 c).flushed 2 t = ((cfg0.win 2).blk t).view.read (Elt Ideal) (grad m c) := by
  rw [flushed2]
  funext j
  obtain ⟨r, d, rfl⟩ := pair j
  show out0_2 _ _ (ix2 r d) = grad m c (((cfg0.win 2).blk t).view.emb (ix2 r d))
  rw [out_eq, emb2]
  exact sum_mul_congr (fun k => congrArg (m ((c : Thread nD τ).loc main_arg0)) (emb0 t r k)) (fun k => congrArg (m ((c : Thread nD τ).loc main_arg1)) (emb1 t d k))

/-- Every index of the result lies in some point's block. -/
theorem covered (i : S2048x1024.Idx) : ∃ t : Fin cfg0.N, (cfg0.win 2).flush t = true ∧ i ∈ ((cfg0.win 2).blk t).view.set := by
  obtain ⟨r, d, rfl⟩ := pair i
  obtain ⟨t, q, rfl⟩ := exists_rowAt rows r
  exact ⟨t, flush0_2 t, emb2 t q d ▸ ((cfg0.win 2).blk t).view.emb_mem_set (ix2 q d)⟩

/-- The value claim: both programs end with the gradient. -/
theorem algebraic : Cert.algebraic_MixedGradKernelIdeal_MixedGradReferenceIdeal := by
  intro m g m' g' _ hargs
  refine ⟨grad m, (θ_run _ _ _).mono (fun _ h c => ⟨(h c).1.trans ((dats m 0 c).arrAt_eq_of_cover 2 _ (fun t _ => flushed_eq m t c) covered), (h c).2⟩) (run_blocks m g), ?_⟩
  refine (θ_run _ _ _).mono (fun r h c => ⟨(h c).1.trans ?_, (h c).2⟩) (Cert.MixedGradReferenceIdeal.Value.run m' g')
  obtain ⟨h0, h1⟩ := hargs c
  rw [h0, h1]
  unfold grad
  generalize m ((c : Thread nD τ).loc main_arg0) = a
  generalize m ((c : Thread nD τ).loc main_arg1) = b
  change Vec Ideal S2048x1024 .f32 at a
  change Vec Ideal S1024x1024 .bf16 at b
  funext i
  obtain ⟨r, d, rfl⟩ := pair i
  pointwise [nt]

/-- The reference leaves its arguments and its counters alone. -/
theorem frame_reference : Cert.quiescent_MixedGradReferenceIdeal := fun m ρ _ =>
  (θ_run _ _ _).mono (fun r h => ⟨fun c => (h c).2, sem_eq_zero_of_no_sems (by decide) r.2⟩) (Cert.MixedGradReferenceIdeal.Value.run m ρ)

end Cert.MixedGrad
-- ==== Proof.PleBwd.lean ====
module

public import proofs.«01_k».proof.Defs
public import proofs.«01_k».proof.Proof.Product
public import proofs.«01_k».proof.Proof.Gen.PleBwdKernelIdeal.Value
public import proofs.«01_k».proof.Proof.Gen.PleBwdReferenceIdeal.Run

/-! The per-layer embedding's gradients, entry by entry: of the gate before its logistic and of the gated product's other factor. -/

@[expose] public section
open Idealize.ShloMosaic Idealize.ShloMosaic.TcCoe Idealize.SL.Sem Cert.Product

namespace Cert.PleBwd
open Cert.PleBwdKernelIdeal Cert.PleBwdKernelIdeal.Gen Cert.PleBwdKernelIdeal.Value

/-- The logistic function, as the kernel writes it. -/
noncomputable def logistic (x : EReal) : EReal := Ideal.div (Ideal.ofBits .f32 0x3F800000#32) (Ideal.ofBits .f32 0x3F800000#32 + Ideal.exp (0 - x))

/-- The gate's gradient at an entry, from the gradient, the gate and the other factor. -/
noncomputable def gateAt (a g p : EReal) : EReal := a * p * logistic g * (Ideal.ofBits .f32 0x3F800000#32 - logistic g)

/-- The other factor's gradient at an entry, from the gradient and the gate. -/
noncomputable def factorAt (a g : EReal) : EReal := a * logistic g

/-- The kernel's first result is the gate's gradient, -/
theorem gate_eq (a g p : Vec Ideal S2048x1024 .f32) : G3 a g p = fun i => gateAt (a i) (g i) (p i) := by
  funext i
  obtain ⟨r, d, rfl⟩ := pair i
  pointwise [gateAt, logistic]

/-- and its second one the other factor's. -/
theorem factor_eq (a g : Vec Ideal S2048x1024 .f32) : G4 a g = fun i => factorAt (a i) (g i) := by
  funext i
  obtain ⟨r, d, rfl⟩ := pair i
  pointwise [factorAt, logistic]

/-- The value claim: both programs end with the two gradients. -/
theorem algebraic : Cert.algebraic_PleBwdKernelIdeal_PleBwdReferenceIdeal := by
  intro m g m' g' _ hargs
  refine ⟨fun c i => gateAt (m ((c : Thread nD τ).loc main_arg0) i) (m ((c : Thread nD τ).loc main_arg1) i) (m ((c : Thread nD τ).loc main_arg2) i),
    fun c i => factorAt (m ((c : Thread nD τ).loc main_arg0) i) (m ((c : Thread nD τ).loc main_arg1) i),
    (θ_run _ _ _).mono (fun _ h c => ⟨(h c).1.trans (gate_eq _ _ _), (h c).2.1.trans (factor_eq _ _), (h c).2.2⟩) (Cert.PleBwdKernelIdeal.Value.run m g), ?_⟩
  refine (θ_run _ _ _).mono (fun r h c => ⟨(h c).1.trans ?_, (h c).2.1.trans ?_, (h c).2.2⟩) (Cert.PleBwdReferenceIdeal.Value.run m' g')
  all_goals
    obtain ⟨h0, h1, h2⟩ := hargs c
    rw [h0, h1]
    try rw [h2]
    beta_reduce
    generalize m ((c : Thread nD τ).loc main_arg0) = a
    generalize m ((c : Thread nD τ).loc main_arg1) = g
    generalize m ((c : Thread nD τ).loc main_arg2) = p
    change Vec Ideal S2048x1024 .f32 at a
    change Vec Ideal S2048x1024 .f32 at g
    change Vec Ideal S2048x1024 .f32 at p
    funext i
    obtain ⟨r, d, rfl⟩ := pair i
  · change _ = a (ix2 r d) * p (ix2 r d) * logistic (g (ix2 r d)) * (Ideal.ofBits .f32 0x3F800000#32 - logistic (g (ix2 r d)))
    rw [mul_assoc]
    pointwise [logistic, zero_sub]
  · change _ = a (ix2 r d) * logistic (g (ix2 r d))
    rw [mul_comm]
    pointwise [logistic, zero_sub]

/-- The reference leaves its arguments and its counters alone. -/
theorem frame_reference : Cert.quiescent_PleBwdReferenceIdeal := fun m ρ _ =>
  (θ_run _ _ _).mono (fun r h => ⟨fun c => (h c).2.2, sem_eq_zero_of_no_sems (by decide) r.2⟩) (Cert.PleBwdReferenceIdeal.Value.run m ρ)

end Cert.PleBwd
-- ==== Proof.PleGateGrad.lean ====
module

public import proofs.«01_k».proof.Defs
public import proofs.«01_k».proof.Proof.Product
public import proofs.«01_k».proof.Proof.Gen.PleGateGradKernelIdeal.Value
public import proofs.«01_k».proof.Proof.Gen.PleGateGradReferenceIdeal.Run

/-! The gradient of the per-layer embedding's gate weights: the product of the gated rows, transposed, with the gate's gradient. -/

@[expose] public section
open Idealize.ShloMosaic Idealize.ShloMosaic.TcCoe Idealize.SL.Sem Cert.Product

namespace Cert.PleGateGrad
open Cert.PleGateGradKernelIdeal Cert.PleGateGradKernelIdeal.Gen

/-- The kernel's one block is the whole product. -/
theorem pay_eq (x : Vec Ideal S2048x1024 .f32) (b : Vec Ideal S2048x1024 .bf16) : k0_pay1 x b = tn x b := by
  funext i
  obtain ⟨r, d, rfl⟩ := pair i
  pointwise [k0_pay1, tn]

/-- The value claim: both programs end with the gradient. -/
theorem algebraic : Cert.algebraic_PleGateGradKernelIdeal_PleGateGradReferenceIdeal := by
  intro m g m' g' _ hargs
  refine ⟨fun c => tn (m ((c : Thread nD τ).loc main_arg0)) (m ((c : Thread nD τ).loc main_arg1)),
    (θ_run _ _ _).mono (fun _ h c => ⟨(h c).1.trans (pay_eq _ _), (h c).2⟩) (Cert.PleGateGradKernelIdeal.Value.run m g), ?_⟩
  refine (θ_run _ _ _).mono (fun r h c => ⟨(h c).1.trans ?_, (h c).2⟩) (Cert.PleGateGradReferenceIdeal.Value.run m' g')
  obtain ⟨h0, h1⟩ := hargs c
  rw [h0, h1]
  beta_reduce
  generalize m ((c : Thread nD τ).loc main_arg0) = x
  generalize m ((c : Thread nD τ).loc main_arg1) = b
  change Vec Ideal S2048x1024 .f32 at x
  change Vec Ideal S2048x1024 .bf16 at b
  funext i
  obtain ⟨r, d, rfl⟩ := pair i
  change _ = ∑ k : Fin 2048, (x (ix2 k r) : EReal) * b (ix2 k d)
  refine Eq.trans ?_ (Finset.sum_congr rfl fun k _ => mul_comm (b (ix2 k d) : EReal) (x (ix2 k r) : EReal))
  pointwise

/-- The reference leaves its arguments and its counters alone. -/
theorem frame_reference : Cert.quiescent_PleGateGradReferenceIdeal := fun m ρ _ =>
  (θ_run _ _ _).mono (fun r h => ⟨fun c => (h c).2, sem_eq_zero_of_no_sems (by decide) r.2⟩) (Cert.PleGateGradReferenceIdeal.Value.run m ρ)

end Cert.PleGateGrad
-- ==== Proof.PleXGrad.lean ====
module

public import proofs.«01_k».proof.Defs
public import proofs.«01_k».proof.Proof.Product
public import proofs.«01_k».proof.Proof.Gen.PleXGradKernelIdeal.Value
public import proofs.«01_k».proof.Proof.Gen.PleXGradReferenceIdeal.Run

/-! The gradient of the per-layer embedding's rows: the product of the gate's gradient with the gate's weights, transposed, added to the result's gradient. -/

@[expose] public section
open Idealize.ShloMosaic Idealize.ShloMosaic.TcCoe Idealize.SL.Sem Cert.Product

namespace Cert.PleXGrad
open Cert.PleXGradKernelIdeal Cert.PleXGradKernelIdeal.Gen Cert.PleXGradKernelIdeal.Value

variable (m : (ℓ : Loc nD τ sig) → Buf (Elt Ideal) ℓ)

/-- The product of `a` with `b`, transposed, added to `x`; `R` rows. -/
noncomputable def back {R : ℕ} (a : (⟨2, ![R, 1024]⟩ : Shape).Idx → EReal) (b : Vec Ideal S1024x1024 .bf16) (x : (⟨2, ![R, 1024]⟩ : Shape).Idx → EReal) :
    (⟨2, ![R, 1024]⟩ : Shape).Idx → EReal :=
  fun i => nt a b i + x i

/-- The gradient the arguments have. -/
noncomputable abbrev grad (c : Dev nD) : Vec Ideal S2048x1024 .f32 :=
  back (m ((c : Thread nD τ).loc main_arg0)) (m ((c : Thread nD τ).loc main_arg1)) (m ((c : Thread nD τ).loc main_arg2))

/-- The block indices at each point: the rows move, the weights stay. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- The rows are two blocks of 1024. -/
theorem rows : cfg0.N * 1024 = 2048 := by rw [show cfg0.N = 2 from N_0]

variable (t : Fin cfg0.N) (r d : Fin 1024)

/-- Where an index of a block lies in its array: the weights are whole, the rest is the point's rows. -/
theorem emb0 : ((cfg0.win 0).blk t).view.emb (ix2 r d) = ix2 (rowAt rows t r) d := at_rows rows (idx t).1 rfl rfl
theorem emb1 : ((cfg0.win 1).blk t).view.emb (ix2 r d) = ix2 r d := at_whole (idx t).2.1 rfl rfl
theorem emb2 : ((cfg0.win 2).blk t).view.emb (ix2 r d) = ix2 (rowAt rows t r) d := at_rows rows (idx t).2.2.1 rfl rfl
theorem emb3 : ((cfg0.win 3).blk t).view.emb (ix2 r d) = ix2 (rowAt rows t r) d := at_rows rows (idx t).2.2.2 rfl rfl

/-- The body's two stores together are the block's rows of the gradient. -/
theorem out_eq (x : Vec Ideal S1024x1024 .bf16) (w : Vec Ideal S1024x1024 .bf16) (y : Vec Ideal S1024x1024 .f32) : out0_3 x w y = back x w y := by
  funext j
  unfold out0_3
  refine View.canon_apply_of_pieces (Val := Elt Ideal) (back x w y) _ ?_ j (cover0_3 _ _ j)
  intro p hp i
  show p.2 i = back x w y (p.1.idx i)
  simp only [List.mem_cons, List.not_mem_nil, or_false] at hp
  obtain rfl | rfl := hp
  all_goals
    obtain ⟨r, d, rfl⟩ := pair i
    pointwise [k0_pay1, k0_pay2, back, nt]

/-- What a point writes back is its rows of the gradient. -/
theorem flushed_eq (c : Dev nD) : (dats m 0 c).flushed 3 t = ((cfg0.win 3).blk t).view.read (Elt Ideal) (grad m c) := by
  rw [flushed3]
  funext j
  obtain ⟨r, d, rfl⟩ := pair j
  show out0_3 _ _ _ (ix2 r d) = grad m c (((cfg0.win 3).blk t).view.emb (ix2 r d))
  rw [out_eq, emb3]
  exact congrArg₂ (fun x y : EReal => x + y)
    (sum_mul_congr (fun k => congrArg (m ((c : Thread nD τ).loc main_arg0)) (emb0 t r k)) (fun k => congrArg (m ((c : Thread nD τ).loc main_arg1)) (emb1 t d k)))
    (congrArg (m ((c : Thread nD τ).loc main_arg2)) (emb2 t r d))

/-- Every index of the result lies in some point's block. -/
theorem covered (i : S2048x1024.Idx) : ∃ t : Fin cfg0.N, (cfg0.win 3).flush t = true ∧ i ∈ ((cfg0.win 3).blk t).view.set := by
  obtain ⟨r, d, rfl⟩ := pair i
  obtain ⟨t, q, rfl⟩ := exists_rowAt rows r
  exact ⟨t, flush0_3 t, emb3 t q d ▸ ((cfg0.win 3).blk t).view.emb_mem_set (ix2 q d)⟩

/-- The value claim: both programs end with the gradient. -/
theorem algebraic : Cert.algebraic_PleXGradKernelIdeal_PleXGradReferenceIdeal := by
  intro m g m' g' _ hargs
  refine ⟨grad m, (θ_run _ _ _).mono (fun _ h c => ⟨(h c).1.trans ((dats m 0 c).arrAt_eq_of_cover 3 _ (fun t _ => flushed_eq m t c) covered), (h c).2⟩) (run_blocks m g), ?_⟩
  refine (θ_run _ _ _).mono (fun r h c => ⟨(h c).1.trans ?_, (h c).2⟩) (Cert.PleXGradReferenceIdeal.Value.run m' g')
  obtain ⟨h0, h1, h2⟩ := hargs c
  rw [h0, h1, h2]
  unfold grad
  generalize m ((c : Thread nD τ).loc main_arg0) = a
  generalize m ((c : Thread nD τ).loc main_arg1) = b
  generalize m ((c : Thread nD τ).loc main_arg2) = x
  change Vec Ideal S2048x1024 .bf16 at a
  change Vec Ideal S1024x1024 .bf16 at b
  change Vec Ideal S2048x1024 .f32 at x
  funext i
  obtain ⟨r, d, rfl⟩ := pair i
  refine Eq.trans ?_ (add_comm (x (ix2 r d) : EReal) (nt a b (ix2 r d)))
  pointwise [nt]

/-- The reference leaves its arguments and its counters alone. -/
theorem frame_reference : Cert.quiescent_PleXGradReferenceIdeal := fun m ρ _ =>
  (θ_run _ _ _).mono (fun r h => ⟨fun c => (h c).2, sem_eq_zero_of_no_sems (by decide) r.2⟩) (Cert.PleXGradReferenceIdeal.Value.run m ρ)

end Cert.PleXGrad
-- ==== Proof.lean ====
/- `Cert.Claim` (Defs.lean): for the scan's gradient, for each of the layer's products and their gradients and for the optimiser's calls, the frames of the kernel, of its
   idealization and of the reference, the idealization's faithfulness, and the equality of the two programs' results over
   extended reals. -/
module

public import proofs.«01_k».proof.Defs
public import proofs.«01_k».proof.Proof.Gen.Kernel.Frame
public import proofs.«01_k».proof.Proof.Gen.KernelIdeal.Frame
public import proofs.«01_k».proof.Proof.Equation
public import proofs.«01_k».proof.Proof.Gen.SwigluFwdKernel.Frame
public import proofs.«01_k».proof.Proof.Gen.SwigluFwdKernelIdeal.Frame
public import proofs.«01_k».proof.Proof.SwigluFwd
public import proofs.«01_k».proof.Proof.Gen.DownKernel.Frame
public import proofs.«01_k».proof.Proof.Gen.DownKernelIdeal.Frame
public import proofs.«01_k».proof.Proof.Down
public import proofs.«01_k».proof.Proof.Gen.DownGradKernel.Frame
public import proofs.«01_k».proof.Proof.Gen.DownGradKernelIdeal.Frame
public import proofs.«01_k».proof.Proof.DownGrad
public import proofs.«01_k».proof.Proof.Gen.GateGradKernel.Frame
public import proofs.«01_k».proof.Proof.Gen.GateGradKernelIdeal.Frame
public import proofs.«01_k».proof.Proof.GateGrad
public import proofs.«01_k».proof.Proof.Gen.InKernel.Frame
public import proofs.«01_k».proof.Proof.Gen.InKernelIdeal.Frame
public import proofs.«01_k».proof.Proof.In
public import proofs.«01_k».proof.Proof.Gen.InGradKernel.Frame
public import proofs.«01_k».proof.Proof.Gen.InGradKernelIdeal.Frame
public import proofs.«01_k».proof.Proof.InGrad
public import proofs.«01_k».proof.Proof.Gen.SwigluBwdKernel.Frame
public import proofs.«01_k».proof.Proof.Gen.SwigluBwdKernelIdeal.Frame
public import proofs.«01_k».proof.Proof.SwigluBwd
public import proofs.«01_k».proof.Proof.Gen.Norm2GradKernel.Frame
public import proofs.«01_k».proof.Proof.Gen.Norm2GradKernelIdeal.Frame
public import proofs.«01_k».proof.Proof.Norm2Grad
public import proofs.«01_k».proof.Proof.Gen.Norm1GradKernel.Frame
public import proofs.«01_k».proof.Proof.Gen.Norm1GradKernelIdeal.Frame
public import proofs.«01_k».proof.Proof.Norm1Grad
public import proofs.«01_k».proof.Proof.AdamMlp
public import proofs.«01_k».proof.Proof.Gen.AdamMlpKernel.Frame
public import proofs.«01_k».proof.Proof.Gen.AdamMlpKernelIdeal.Frame
public import proofs.«01_k».proof.Proof.AdamOut
public import proofs.«01_k».proof.Proof.Gen.AdamOutKernel.Frame
public import proofs.«01_k».proof.Proof.Gen.AdamOutKernelIdeal.Frame
public import proofs.«01_k».proof.Proof.AdamIn
public import proofs.«01_k».proof.Proof.Gen.AdamInKernel.Frame
public import proofs.«01_k».proof.Proof.Gen.AdamInKernelIdeal.Frame
public import proofs.«01_k».proof.Proof.AdamPle
public import proofs.«01_k».proof.Proof.Gen.AdamPleKernel.Frame
public import proofs.«01_k».proof.Proof.Gen.AdamPleKernelIdeal.Frame
public import proofs.«01_k».proof.Proof.AdamConv
public import proofs.«01_k».proof.Proof.Gen.AdamConvKernel.Frame
public import proofs.«01_k».proof.Proof.Gen.AdamConvKernelIdeal.Frame
public import proofs.«01_k».proof.Proof.AdamSconv
public import proofs.«01_k».proof.Proof.Gen.AdamSconvKernel.Frame
public import proofs.«01_k».proof.Proof.Gen.AdamSconvKernelIdeal.Frame
public import proofs.«01_k».proof.Proof.AdamSmall
public import proofs.«01_k».proof.Proof.Gen.AdamSmallKernel.Frame
public import proofs.«01_k».proof.Proof.Gen.AdamSmallKernelIdeal.Frame
public import proofs.«01_k».proof.Proof.Out
public import proofs.«01_k».proof.Proof.Gen.OutKernel.Frame
public import proofs.«01_k».proof.Proof.Gen.OutKernelIdeal.Frame
public import proofs.«01_k».proof.Proof.OutGrad
public import proofs.«01_k».proof.Proof.Gen.OutGradKernel.Frame
public import proofs.«01_k».proof.Proof.Gen.OutGradKernelIdeal.Frame
public import proofs.«01_k».proof.Proof.MixedGrad
public import proofs.«01_k».proof.Proof.Gen.MixedGradKernel.Frame
public import proofs.«01_k».proof.Proof.Gen.MixedGradKernelIdeal.Frame
public import proofs.«01_k».proof.Proof.PleBwd
public import proofs.«01_k».proof.Proof.Gen.PleBwdKernel.Frame
public import proofs.«01_k».proof.Proof.Gen.PleBwdKernelIdeal.Frame
public import proofs.«01_k».proof.Proof.PleGateGrad
public import proofs.«01_k».proof.Proof.Gen.PleGateGradKernel.Frame
public import proofs.«01_k».proof.Proof.Gen.PleGateGradKernelIdeal.Frame
public import proofs.«01_k».proof.Proof.PleXGrad
public import proofs.«01_k».proof.Proof.Gen.PleXGradKernel.Frame
public import proofs.«01_k».proof.Proof.Gen.PleXGradKernelIdeal.Frame
public import Idealize.ShloMosaic.Adequacy
public import Idealize.ShloMosaic.Init

@[expose] public section

noncomputable section

namespace Cert.Proof

open Idealize.ShloMosaic Idealize.SL.Sem

/-- The scan gradient's reference ends with its arguments unchanged; it has no semaphore. -/
theorem frame_reference : Cert.quiescent_ReferenceIdeal := fun m ρ _ =>
  (θ_run _ _ _).mono (fun r h => ⟨fun c => (h c).2.2, sem_eq_zero_of_no_sems (by decide) r.2⟩) (Cert.Trip.run m ρ)

/-- The same under the precondition. -/
theorem frame_reference_pre : Cert.quiescent_ReferenceIdeal_pre_finite := fun m ρ _ => frame_reference m ρ trivial

/-- All claims together: the shape relations of every program, then the frames, then faithfulness and equality of each. -/
theorem claim : Cert.Claim :=
  ⟨Cert.Kernel.Gen.facts, Cert.KernelIdeal.Gen.facts, Cert.ReferenceIdeal.Gen.facts,
    Cert.SwigluFwdKernel.Gen.facts, Cert.SwigluFwdKernelIdeal.Gen.facts, Cert.SwigluFwdReferenceIdeal.Gen.facts,
    Cert.DownKernel.Gen.facts, Cert.DownKernelIdeal.Gen.facts, Cert.DownReferenceIdeal.Gen.facts,
    Cert.DownGradKernel.Gen.facts, Cert.DownGradKernelIdeal.Gen.facts, Cert.DownGradReferenceIdeal.Gen.facts,
    Cert.SwigluBwdKernel.Gen.facts, Cert.SwigluBwdKernelIdeal.Gen.facts, Cert.SwigluBwdReferenceIdeal.Gen.facts,
    Cert.GateGradKernel.Gen.facts, Cert.GateGradKernelIdeal.Gen.facts, Cert.GateGradReferenceIdeal.Gen.facts,
    Cert.Norm2GradKernel.Gen.facts, Cert.Norm2GradKernelIdeal.Gen.facts, Cert.Norm2GradReferenceIdeal.Gen.facts,
    Cert.InKernel.Gen.facts, Cert.InKernelIdeal.Gen.facts, Cert.InReferenceIdeal.Gen.facts,
    Cert.InGradKernel.Gen.facts, Cert.InGradKernelIdeal.Gen.facts, Cert.InGradReferenceIdeal.Gen.facts,
    Cert.Norm1GradKernel.Gen.facts, Cert.Norm1GradKernelIdeal.Gen.facts, Cert.Norm1GradReferenceIdeal.Gen.facts,
    Cert.AdamMlpKernel.Gen.facts, Cert.AdamMlpKernelIdeal.Gen.facts, Cert.AdamMlpReferenceIdeal.Gen.facts,
    Cert.AdamOutKernel.Gen.facts, Cert.AdamOutKernelIdeal.Gen.facts, Cert.AdamOutReferenceIdeal.Gen.facts,
    Cert.AdamInKernel.Gen.facts, Cert.AdamInKernelIdeal.Gen.facts, Cert.AdamInReferenceIdeal.Gen.facts,
    Cert.AdamPleKernel.Gen.facts, Cert.AdamPleKernelIdeal.Gen.facts, Cert.AdamPleReferenceIdeal.Gen.facts,
    Cert.AdamConvKernel.Gen.facts, Cert.AdamConvKernelIdeal.Gen.facts, Cert.AdamConvReferenceIdeal.Gen.facts,
    Cert.AdamSconvKernel.Gen.facts, Cert.AdamSconvKernelIdeal.Gen.facts, Cert.AdamSconvReferenceIdeal.Gen.facts,
    Cert.AdamSmallKernel.Gen.facts, Cert.AdamSmallKernelIdeal.Gen.facts, Cert.AdamSmallReferenceIdeal.Gen.facts,
    Cert.OutKernel.Gen.facts, Cert.OutKernelIdeal.Gen.facts, Cert.OutReferenceIdeal.Gen.facts,
    Cert.OutGradKernel.Gen.facts, Cert.OutGradKernelIdeal.Gen.facts, Cert.OutGradReferenceIdeal.Gen.facts,
    Cert.MixedGradKernel.Gen.facts, Cert.MixedGradKernelIdeal.Gen.facts, Cert.MixedGradReferenceIdeal.Gen.facts,
    Cert.PleBwdKernel.Gen.facts, Cert.PleBwdKernelIdeal.Gen.facts, Cert.PleBwdReferenceIdeal.Gen.facts,
    Cert.PleGateGradKernel.Gen.facts, Cert.PleGateGradKernelIdeal.Gen.facts, Cert.PleGateGradReferenceIdeal.Gen.facts,
    Cert.PleXGradKernel.Gen.facts, Cert.PleXGradKernelIdeal.Gen.facts, Cert.PleXGradReferenceIdeal.Gen.facts,
    Cert.Finite.facts, Cert.SwigluBwd.facts,
    fun m ρ _ => Cert.Kernel.Gen.frame m ρ, fun m ρ _ => Cert.KernelIdeal.Gen.frame m ρ, fun m ρ _ => Cert.KernelIdeal.Gen.frame m ρ,
    frame_reference, frame_reference_pre,
    fun m ρ _ => Cert.SwigluFwdKernel.Gen.frame m ρ, fun m ρ _ => Cert.SwigluFwdKernelIdeal.Gen.frame m ρ, Cert.SwigluFwd.frame_reference,
    fun m ρ _ => Cert.DownKernel.Gen.frame m ρ, fun m ρ _ => Cert.DownKernelIdeal.Gen.frame m ρ, Cert.Down.frame_reference,
    fun m ρ _ => Cert.DownGradKernel.Gen.frame m ρ, fun m ρ _ => Cert.DownGradKernelIdeal.Gen.frame m ρ, Cert.DownGrad.frame_reference,
    fun m ρ _ => Cert.SwigluBwdKernel.Gen.frame m ρ, fun m ρ _ => Cert.SwigluBwdKernelIdeal.Gen.frame m ρ, fun m ρ _ => Cert.SwigluBwdKernelIdeal.Gen.frame m ρ,
    Cert.SwigluBwd.frame_reference, Cert.SwigluBwd.frame_reference_pre,
    fun m ρ _ => Cert.GateGradKernel.Gen.frame m ρ, fun m ρ _ => Cert.GateGradKernelIdeal.Gen.frame m ρ, Cert.GateGrad.frame_reference,
    fun m ρ _ => Cert.Norm2GradKernel.Gen.frame m ρ, fun m ρ _ => Cert.Norm2GradKernelIdeal.Gen.frame m ρ, Cert.Norm2Grad.frame_reference,
    fun m ρ _ => Cert.InKernel.Gen.frame m ρ, fun m ρ _ => Cert.InKernelIdeal.Gen.frame m ρ, Cert.In.frame_reference,
    fun m ρ _ => Cert.InGradKernel.Gen.frame m ρ, fun m ρ _ => Cert.InGradKernelIdeal.Gen.frame m ρ, Cert.InGrad.frame_reference,
    fun m ρ _ => Cert.Norm1GradKernel.Gen.frame m ρ, fun m ρ _ => Cert.Norm1GradKernelIdeal.Gen.frame m ρ, Cert.Norm1Grad.frame_reference,
    fun m ρ _ => Cert.AdamMlpKernel.Gen.frame m ρ, fun m ρ _ => Cert.AdamMlpKernelIdeal.Gen.frame m ρ, Cert.AdamMlp.frame_reference,
    fun m ρ _ => Cert.AdamOutKernel.Gen.frame m ρ, fun m ρ _ => Cert.AdamOutKernelIdeal.Gen.frame m ρ, Cert.AdamOut.frame_reference,
    fun m ρ _ => Cert.AdamInKernel.Gen.frame m ρ, fun m ρ _ => Cert.AdamInKernelIdeal.Gen.frame m ρ, Cert.AdamIn.frame_reference,
    fun m ρ _ => Cert.AdamPleKernel.Gen.frame m ρ, fun m ρ _ => Cert.AdamPleKernelIdeal.Gen.frame m ρ, Cert.AdamPle.frame_reference,
    fun m ρ _ => Cert.AdamConvKernel.Gen.frame m ρ, fun m ρ _ => Cert.AdamConvKernelIdeal.Gen.frame m ρ, Cert.AdamConv.frame_reference,
    fun m ρ _ => Cert.AdamSconvKernel.Gen.frame m ρ, fun m ρ _ => Cert.AdamSconvKernelIdeal.Gen.frame m ρ, Cert.AdamSconv.frame_reference,
    fun m ρ _ => Cert.AdamSmallKernel.Gen.frame m ρ, fun m ρ _ => Cert.AdamSmallKernelIdeal.Gen.frame m ρ, Cert.AdamSmall.frame_reference,
    fun m ρ _ => Cert.OutKernel.Gen.frame m ρ, fun m ρ _ => Cert.OutKernelIdeal.Gen.frame m ρ, Cert.Out.frame_reference,
    fun m ρ _ => Cert.OutGradKernel.Gen.frame m ρ, fun m ρ _ => Cert.OutGradKernelIdeal.Gen.frame m ρ, Cert.OutGrad.frame_reference,
    fun m ρ _ => Cert.MixedGradKernel.Gen.frame m ρ, fun m ρ _ => Cert.MixedGradKernelIdeal.Gen.frame m ρ, Cert.MixedGrad.frame_reference,
    fun m ρ _ => Cert.PleBwdKernel.Gen.frame m ρ, fun m ρ _ => Cert.PleBwdKernelIdeal.Gen.frame m ρ, Cert.PleBwd.frame_reference,
    fun m ρ _ => Cert.PleGateGradKernel.Gen.frame m ρ, fun m ρ _ => Cert.PleGateGradKernelIdeal.Gen.frame m ρ, Cert.PleGateGrad.frame_reference,
    fun m ρ _ => Cert.PleXGradKernel.Gen.frame m ρ, fun m ρ _ => Cert.PleXGradKernelIdeal.Gen.frame m ρ, Cert.PleXGrad.frame_reference,
    trivial, Cert.Equation.algebraic,
    trivial, Cert.SwigluFwd.algebraic,
    trivial, Cert.Down.algebraic,
    trivial, Cert.DownGrad.algebraic,
    trivial, Cert.SwigluBwd.algebraic,
    trivial, Cert.GateGrad.algebraic,
    trivial, Cert.Norm2Grad.algebraic,
    trivial, Cert.In.algebraic,
    trivial, Cert.InGrad.algebraic,
    trivial, Cert.Norm1Grad.algebraic,
    trivial, Cert.AdamMlp.algebraic,
    trivial, Cert.AdamOut.algebraic,
    trivial, Cert.AdamIn.algebraic,
    trivial, Cert.AdamPle.algebraic,
    trivial, Cert.AdamConv.algebraic,
    trivial, Cert.AdamSconv.algebraic,
    trivial, Cert.AdamSmall.algebraic,
    trivial, Cert.Out.algebraic,
    trivial, Cert.OutGrad.algebraic,
    trivial, Cert.MixedGrad.algebraic,
    trivial, Cert.PleBwd.algebraic,
    trivial, Cert.PleGateGrad.algebraic,
    trivial, Cert.PleXGrad.algebraic⟩

end Cert.Proof

end
